-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Experts [hPre_sorted_rows : Cert.Pre_sorted_rows.Facts] (m : (ℓ : Loc Cert.Experts.nD Cert.Experts.τ Cert.Experts.sig) → Buf (Elt Bits) ℓ) : Prop :=
  ∀ c : Dev Cert.Experts.nD,
    (Cert.Pre_sorted_rows.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3))).1 = (fun _ => 1#1)
    ∧ (Cert.Pre_sorted_rows.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3))).2.1 = (fun _ => 1#1)
    ∧ (Cert.Pre_sorted_rows.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3))).2.2.1 = (fun _ => 1#1)
    ∧ (Cert.Pre_sorted_rows.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3))).2.2.2 = (fun _ => 1#1)

def Pre_ExpertsIdeal [hPre_sorted_rows : Cert.Pre_sorted_rows.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_sorted_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3))).1 = (fun _ => 1#1)
    ∧ (Cert.Pre_sorted_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3))).2.1 = (fun _ => 1#1)
    ∧ (Cert.Pre_sorted_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3))).2.2.1 = (fun _ => 1#1)
    ∧ (Cert.Pre_sorted_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3))).2.2.2 = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_sorted_rows [hPre_sorted_rows : Cert.Pre_sorted_rows.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_sorted_rows.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3))).1 = (fun _ => 1#1)
    ∧ (Cert.Pre_sorted_rows.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3))).2.1 = (fun _ => 1#1)
    ∧ (Cert.Pre_sorted_rows.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3))).2.2.1 = (fun _ => 1#1)
    ∧ (Cert.Pre_sorted_rows.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3))).2.2.2 = (fun _ => 1#1)

def Pre_OddProj (m : (ℓ : Loc Cert.OddProj.nD Cert.OddProj.τ Cert.OddProj.sig) → Buf (Elt Bits) ℓ) : Prop :=
  True

def Pre_OddProjIdeal (m : (ℓ : Loc Cert.OddProjIdeal.nD Cert.OddProjIdeal.τ Cert.OddProjIdeal.sig) → Buf (Elt Ideal) ℓ) : Prop :=
  True

def Pre_OddProjReferenceIdeal (m : (ℓ : Loc Cert.OddProjReferenceIdeal.nD Cert.OddProjReferenceIdeal.τ Cert.OddProjReferenceIdeal.sig) → Buf (Elt Ideal) ℓ) : Prop :=
  True

def Pre_FoxProj (m : (ℓ : Loc Cert.FoxProj.nD Cert.FoxProj.τ Cert.FoxProj.sig) → Buf (Elt Bits) ℓ) : Prop :=
  True

def Pre_FoxProjIdeal (m : (ℓ : Loc Cert.FoxProjIdeal.nD Cert.FoxProjIdeal.τ Cert.FoxProjIdeal.sig) → Buf (Elt Ideal) ℓ) : Prop :=
  True

def Pre_FoxProjReferenceIdeal (m : (ℓ : Loc Cert.FoxProjReferenceIdeal.nD Cert.FoxProjReferenceIdeal.τ Cert.FoxProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_KeyMean (m : (ℓ : Loc Cert.KeyMean.nD Cert.KeyMean.τ Cert.KeyMean.sig) → Buf (Elt Bits) ℓ) : Prop :=
  True

def Pre_KeyMeanIdeal (m : (ℓ : Loc Cert.KeyMeanIdeal.nD Cert.KeyMeanIdeal.τ Cert.KeyMeanIdeal.sig) → Buf (Elt Ideal) ℓ) : Prop :=
  True

def Pre_KeyMeanReferenceIdeal (m : (ℓ : Loc Cert.KeyMeanReferenceIdeal.nD Cert.KeyMeanReferenceIdeal.τ Cert.KeyMeanReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_rotary_layout [hPre_rotary_layout : Cert.Pre_rotary_layout.Facts] (m : (ℓ : Loc Cert.PrepIdeal.nD Cert.PrepIdeal.τ Cert.PrepIdeal.sig) → Buf (Elt Ideal) ℓ) : Prop :=
  ∀ c : Dev Cert.PrepIdeal.nD,
    (Cert.Pre_rotary_layout.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))).1 = (fun _ => 1#1)
    ∧ (Cert.Pre_rotary_layout.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))).2.1 = (fun _ => 1#1)
    ∧ (Cert.Pre_rotary_layout.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))).2.2.1 = (fun _ => 1#1)
    ∧ (Cert.Pre_rotary_layout.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))).2.2.2.1 = (fun _ => 1#1)
    ∧ (Cert.Pre_rotary_layout.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))).2.2.2.2.1 = (fun _ => 1#1)
    ∧ (Cert.Pre_rotary_layout.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))).2.2.2.2.2 = (fun _ => 1#1)

def Pre_PrepReferenceIdeal (m : (ℓ : Loc Cert.PrepReferenceIdeal.nD Cert.PrepReferenceIdeal.τ Cert.PrepReferenceIdeal.sig) → Buf (Elt Ideal) ℓ) : Prop :=
  True

def Pre_PrepReferenceIdeal_rotary_layout [hPre_rotary_layout : Cert.Pre_rotary_layout.Facts] (m : (ℓ : Loc Cert.PrepReferenceIdeal.nD Cert.PrepReferenceIdeal.τ Cert.PrepReferenceIdeal.sig) → Buf (Elt Ideal) ℓ) : Prop :=
  ∀ c : Dev Cert.PrepReferenceIdeal.nD,
    (Cert.Pre_rotary_layout.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8))).1 = (fun _ => 1#1)
    ∧ (Cert.Pre_rotary_layout.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8))).2.1 = (fun _ => 1#1)
    ∧ (Cert.Pre_rotary_layout.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8))).2.2.1 = (fun _ => 1#1)
    ∧ (Cert.Pre_rotary_layout.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8))).2.2.2.1 = (fun _ => 1#1)
    ∧ (Cert.Pre_rotary_layout.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8))).2.2.2.2.1 = (fun _ => 1#1)
    ∧ (Cert.Pre_rotary_layout.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] [hPre_sorted_rows : Cert.Pre_sorted_rows.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3))
      ∧ r.2.sem = fun _ => 0)

def quiescent_ExpertsIdeal [hExpertsIdeal : Cert.ExpertsIdeal.Facts] [hPre_sorted_rows : Cert.Pre_sorted_rows.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3))
      ∧ r.2.sem = fun _ => 0)

def quiescent_ExpertsReferenceIdeal_pre_sorted_rows [hExpertsReferenceIdeal : Cert.ExpertsReferenceIdeal.Facts] [hPre_sorted_rows : Cert.Pre_sorted_rows.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_sorted_rows m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3))
      ∧ r.2.sem = fun _ => 0)

def quiescent_OddProj [hOddProj : Cert.OddProj.Facts] : Prop :=
  ∀ (m : (ℓ : Loc Cert.OddProj.nD Cert.OddProj.τ Cert.OddProj.sig) → Buf (Elt Bits) ℓ) (g : Dev Cert.OddProj.nD → PrngReg), Pre_OddProj m →
    θ_run (Cert.OddProj.defs (F := Bits)) (onTc (τ := Cert.OddProj.τ) (Cert.OddProj.main (F := Bits))) ⟨m, fun _ => 0, g⟩ (fun r => (∀ c : Dev Cert.OddProj.nD,
      r.2.mem ((c.tc : Thread Cert.OddProj.nD Cert.OddProj.τ).loc Cert.OddProj.main_arg0) = m ((c.tc : Thread Cert.OddProj.nD Cert.OddProj.τ).loc Cert.OddProj.main_arg0)
      ∧ r.2.mem ((c.tc : Thread Cert.OddProj.nD Cert.OddProj.τ).loc Cert.OddProj.main_arg1) = m ((c.tc : Thread Cert.OddProj.nD Cert.OddProj.τ).loc Cert.OddProj.main_arg1)
      ∧ r.2.mem ((c.tc : Thread Cert.OddProj.nD Cert.OddProj.τ).loc Cert.OddProj.main_arg2) = m ((c.tc : Thread Cert.OddProj.nD Cert.OddProj.τ).loc Cert.OddProj.main_arg2))
      ∧ r.2.sem = fun _ => 0)

def quiescent_OddProjIdeal [hOddProjIdeal : Cert.OddProjIdeal.Facts] : Prop :=
  ∀ (m : (ℓ : Loc Cert.OddProjIdeal.nD Cert.OddProjIdeal.τ Cert.OddProjIdeal.sig) → Buf (Elt Ideal) ℓ) (g : Dev Cert.OddProjIdeal.nD → PrngReg), Pre_OddProjIdeal m →
    θ_run (Cert.OddProjIdeal.defs (F := Ideal)) (onTc (τ := Cert.OddProjIdeal.τ) (Cert.OddProjIdeal.main (F := Ideal))) ⟨m, fun _ => 0, g⟩ (fun r => (∀ c : Dev Cert.OddProjIdeal.nD,
      r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
      ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1)
      ∧ r.2.mem ((c.tc : Thread Cert.OddProjIdeal.nD Cert.OddProjIdeal.τ).loc Cert.OddProjIdeal.main_arg2) = m ((c.tc : Thread Cert.OddProjIdeal.nD Cert.OddProjIdeal.τ).loc Cert.OddProjIdeal.main_arg2))
      ∧ r.2.sem = fun _ => 0)

def quiescent_OddProjReferenceIdeal [hOddProjReferenceIdeal : Cert.OddProjReferenceIdeal.Facts] : Prop :=
  ∀ (m : (ℓ : Loc Cert.OddProjReferenceIdeal.nD Cert.OddProjReferenceIdeal.τ Cert.OddProjReferenceIdeal.sig) → Buf (Elt Ideal) ℓ) (g : Dev Cert.OddProjReferenceIdeal.nD → PrngReg), Pre_OddProjReferenceIdeal m →
    θ_run (Cert.OddProjReferenceIdeal.defs (F := Ideal)) (onTc (τ := Cert.OddProjReferenceIdeal.τ) (Cert.OddProjReferenceIdeal.main (F := Ideal))) ⟨m, fun _ => 0, g⟩ (fun r => (∀ c : Dev Cert.OddProjReferenceIdeal.nD,
      r.2.mem ((c.tc : Thread Cert.OddProjReferenceIdeal.nD Cert.OddProjReferenceIdeal.τ).loc Cert.OddProjReferenceIdeal.main_arg0) = m ((c.tc : Thread Cert.OddProjReferenceIdeal.nD Cert.OddProjReferenceIdeal.τ).loc Cert.OddProjReferenceIdeal.main_arg0)
      ∧ r.2.mem ((c.tc : Thread Cert.OddProjReferenceIdeal.nD Cert.OddProjReferenceIdeal.τ).loc Cert.OddProjReferenceIdeal.main_arg1) = m ((c.tc : Thread Cert.OddProjReferenceIdeal.nD Cert.OddProjReferenceIdeal.τ).loc Cert.OddProjReferenceIdeal.main_arg1)
      ∧ r.2.mem ((c.tc : Thread Cert.OddProjReferenceIdeal.nD Cert.OddProjReferenceIdeal.τ).loc Cert.OddProjReferenceIdeal.main_arg2) = m ((c.tc : Thread Cert.OddProjReferenceIdeal.nD Cert.OddProjReferenceIdeal.τ).loc Cert.OddProjReferenceIdeal.main_arg2))
      ∧ r.2.sem = fun _ => 0)

def quiescent_FoxProj [hFoxProj : Cert.FoxProj.Facts] : Prop :=
  ∀ (m : (ℓ : Loc Cert.FoxProj.nD Cert.FoxProj.τ Cert.FoxProj.sig) → Buf (Elt Bits) ℓ) (g : Dev Cert.FoxProj.nD → PrngReg), Pre_FoxProj m →
    θ_run (Cert.FoxProj.defs (F := Bits)) (onTc (τ := Cert.FoxProj.τ) (Cert.FoxProj.main (F := Bits))) ⟨m, fun _ => 0, g⟩ (fun r => (∀ c : Dev Cert.FoxProj.nD,
      r.2.mem ((c.tc : Thread Cert.FoxProj.nD Cert.FoxProj.τ).loc Cert.FoxProj.main_arg0) = m ((c.tc : Thread Cert.FoxProj.nD Cert.FoxProj.τ).loc Cert.FoxProj.main_arg0)
      ∧ r.2.mem ((c.tc : Thread Cert.FoxProj.nD Cert.FoxProj.τ).loc Cert.FoxProj.main_arg1) = m ((c.tc : Thread Cert.FoxProj.nD Cert.FoxProj.τ).loc Cert.FoxProj.main_arg1)
      ∧ r.2.mem ((c.tc : Thread Cert.FoxProj.nD Cert.FoxProj.τ).loc Cert.FoxProj.main_arg2) = m ((c.tc : Thread Cert.FoxProj.nD Cert.FoxProj.τ).loc Cert.FoxProj.main_arg2))
      ∧ r.2.sem = fun _ => 0)

def quiescent_FoxProjIdeal [hFoxProjIdeal : Cert.FoxProjIdeal.Facts] : Prop :=
  ∀ (m : (ℓ : Loc Cert.FoxProjIdeal.nD Cert.FoxProjIdeal.τ Cert.FoxProjIdeal.sig) → Buf (Elt Ideal) ℓ) (g : Dev Cert.FoxProjIdeal.nD → PrngReg), Pre_FoxProjIdeal m →
    θ_run (Cert.FoxProjIdeal.defs (F := Ideal)) (onTc (τ := Cert.FoxProjIdeal.τ) (Cert.FoxProjIdeal.main (F := Ideal))) ⟨m, fun _ => 0, g⟩ (fun r => (∀ c : Dev Cert.FoxProjIdeal.nD,
      r.2.mem ((c.tc : Thread Cert.FoxProjIdeal.nD Cert.FoxProjIdeal.τ).loc Cert.FoxProjIdeal.main_arg0) = m ((c.tc : Thread Cert.FoxProjIdeal.nD Cert.FoxProjIdeal.τ).loc Cert.FoxProjIdeal.main_arg0)
      ∧ r.2.mem ((c.tc : Thread Cert.FoxProjIdeal.nD Cert.FoxProjIdeal.τ).loc Cert.FoxProjIdeal.main_arg1) = m ((c.tc : Thread Cert.FoxProjIdeal.nD Cert.FoxProjIdeal.τ).loc Cert.FoxProjIdeal.main_arg1)
      ∧ r.2.mem ((c.tc : Thread Cert.FoxProjIdeal.nD Cert.FoxProjIdeal.τ).loc Cert.FoxProjIdeal.main_arg2) = m ((c.tc : Thread Cert.FoxProjIdeal.nD Cert.FoxProjIdeal.τ).loc Cert.FoxProjIdeal.main_arg2))
      ∧ r.2.sem = fun _ => 0)

def quiescent_FoxProjReferenceIdeal [hFoxProjReferenceIdeal : Cert.FoxProjReferenceIdeal.Facts] : Prop :=
  ∀ (m : (ℓ : Loc Cert.FoxProjReferenceIdeal.nD Cert.FoxProjReferenceIdeal.τ Cert.FoxProjReferenceIdeal.sig) → Buf (Elt Ideal) ℓ) (g : Dev Cert.FoxProjReferenceIdeal.nD → PrngReg), Pre_FoxProjReferenceIdeal m →
    θ_run (Cert.FoxProjReferenceIdeal.defs (F := Ideal)) (onTc (τ := Cert.FoxProjReferenceIdeal.τ) (Cert.FoxProjReferenceIdeal.main (F := Ideal))) ⟨m, fun _ => 0, g⟩ (fun r => (∀ c : Dev Cert.FoxProjReferenceIdeal.nD,
      r.2.mem ((c.tc : Thread Cert.FoxProjReferenceIdeal.nD Cert.FoxProjReferenceIdeal.τ).loc Cert.FoxProjReferenceIdeal.main_arg0) = m ((c.tc : Thread Cert.FoxProjReferenceIdeal.nD Cert.FoxProjReferenceIdeal.τ).loc Cert.FoxProjReferenceIdeal.main_arg0)
      ∧ r.2.mem ((c.tc : Thread Cert.FoxProjReferenceIdeal.nD Cert.FoxProjReferenceIdeal.τ).loc Cert.FoxProjReferenceIdeal.main_arg1) = m ((c.tc : Thread Cert.FoxProjReferenceIdeal.nD Cert.FoxProjReferenceIdeal.τ).loc Cert.FoxProjReferenceIdeal.main_arg1)
      ∧ r.2.mem ((c.tc : Thread Cert.FoxProjReferenceIdeal.nD Cert.FoxProjReferenceIdeal.τ).loc Cert.FoxProjReferenceIdeal.main_arg2) = m ((c.tc : Thread Cert.FoxProjReferenceIdeal.nD Cert.FoxProjReferenceIdeal.τ).loc Cert.FoxProjReferenceIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5))
      ∧ r.2.sem = fun _ => 0)

def quiescent_KeyMean [hKeyMean : Cert.KeyMean.Facts] : Prop :=
  ∀ (m : (ℓ : Loc Cert.KeyMean.nD Cert.KeyMean.τ Cert.KeyMean.sig) → Buf (Elt Bits) ℓ) (g : Dev Cert.KeyMean.nD → PrngReg), Pre_KeyMean m →
    θ_run (Cert.KeyMean.defs (F := Bits)) (onTc (τ := Cert.KeyMean.τ) (Cert.KeyMean.main (F := Bits))) ⟨m, fun _ => 0, g⟩ (fun r => (∀ c : Dev Cert.KeyMean.nD,
      r.2.mem ((c.tc : Thread Cert.KeyMean.nD Cert.KeyMean.τ).loc Cert.KeyMean.main_arg0) = m ((c.tc : Thread Cert.KeyMean.nD Cert.KeyMean.τ).loc Cert.KeyMean.main_arg0))
      ∧ r.2.sem = fun _ => 0)

def quiescent_KeyMeanIdeal [hKeyMeanIdeal : Cert.KeyMeanIdeal.Facts] : Prop :=
  ∀ (m : (ℓ : Loc Cert.KeyMeanIdeal.nD Cert.KeyMeanIdeal.τ Cert.KeyMeanIdeal.sig) → Buf (Elt Ideal) ℓ) (g : Dev Cert.KeyMeanIdeal.nD → PrngReg), Pre_KeyMeanIdeal m →
    θ_run (Cert.KeyMeanIdeal.defs (F := Ideal)) (onTc (τ := Cert.KeyMeanIdeal.τ) (Cert.KeyMeanIdeal.main (F := Ideal))) ⟨m, fun _ => 0, g⟩ (fun r => (∀ c : Dev Cert.KeyMeanIdeal.nD,
      r.2.mem ((c.tc : Thread Cert.KeyMeanIdeal.nD Cert.KeyMeanIdeal.τ).loc Cert.KeyMeanIdeal.main_arg0) = m ((c.tc : Thread Cert.KeyMeanIdeal.nD Cert.KeyMeanIdeal.τ).loc Cert.KeyMeanIdeal.main_arg0))
      ∧ r.2.sem = fun _ => 0)

def quiescent_KeyMeanReferenceIdeal [hKeyMeanReferenceIdeal : Cert.KeyMeanReferenceIdeal.Facts] : Prop :=
  ∀ (m : (ℓ : Loc Cert.KeyMeanReferenceIdeal.nD Cert.KeyMeanReferenceIdeal.τ Cert.KeyMeanReferenceIdeal.sig) → Buf (Elt Ideal) ℓ) (g : Dev Cert.KeyMeanReferenceIdeal.nD → PrngReg), Pre_KeyMeanReferenceIdeal m →
    θ_run (Cert.KeyMeanReferenceIdeal.defs (F := Ideal)) (onTc (τ := Cert.KeyMeanReferenceIdeal.τ) (Cert.KeyMeanReferenceIdeal.main (F := Ideal))) ⟨m, fun _ => 0, g⟩ (fun r => (∀ c : Dev Cert.KeyMeanReferenceIdeal.nD,
      r.2.mem ((c.tc : Thread Cert.KeyMeanReferenceIdeal.nD Cert.KeyMeanReferenceIdeal.τ).loc Cert.KeyMeanReferenceIdeal.main_arg0) = m ((c.tc : Thread Cert.KeyMeanReferenceIdeal.nD Cert.KeyMeanReferenceIdeal.τ).loc Cert.KeyMeanReferenceIdeal.main_arg0))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ r.2.sem = fun _ => 0)

def quiescent_PrepIdeal_pre_rotary_layout [hPrepIdeal : Cert.PrepIdeal.Facts] [hPre_rotary_layout : Cert.Pre_rotary_layout.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_rotary_layout m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6)
      ∧ r.2.mem ((c.tc : Thread Cert.PrepReferenceIdeal.nD Cert.PrepReferenceIdeal.τ).loc Cert.PrepReferenceIdeal.main_arg7) = m ((c.tc : Thread Cert.PrepReferenceIdeal.nD Cert.PrepReferenceIdeal.τ).loc Cert.PrepReferenceIdeal.main_arg7)
      ∧ r.2.mem ((c.tc : Thread Cert.PrepReferenceIdeal.nD Cert.PrepReferenceIdeal.τ).loc Cert.PrepReferenceIdeal.main_arg8) = m ((c.tc : Thread Cert.PrepReferenceIdeal.nD Cert.PrepReferenceIdeal.τ).loc Cert.PrepReferenceIdeal.main_arg8))
      ∧ r.2.sem = fun _ => 0)

def quiescent_PrepReferenceIdeal_pre_rotary_layout [hPrepReferenceIdeal : Cert.PrepReferenceIdeal.Facts] [hPre_rotary_layout : Cert.Pre_rotary_layout.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal_rotary_layout m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6)
      ∧ r.2.mem ((c.tc : Thread Cert.PrepReferenceIdeal.nD Cert.PrepReferenceIdeal.τ).loc Cert.PrepReferenceIdeal.main_arg7) = m ((c.tc : Thread Cert.PrepReferenceIdeal.nD Cert.PrepReferenceIdeal.τ).loc Cert.PrepReferenceIdeal.main_arg7)
      ∧ r.2.mem ((c.tc : Thread Cert.PrepReferenceIdeal.nD Cert.PrepReferenceIdeal.τ).loc Cert.PrepReferenceIdeal.main_arg8) = m ((c.tc : Thread Cert.PrepReferenceIdeal.nD Cert.PrepReferenceIdeal.τ).loc Cert.PrepReferenceIdeal.main_arg8))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_sorted_rows : Cert.Pre_sorted_rows.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v44) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3))

def preserves_OddProj_OddProjIdeal : Prop :=
  True

def algebraic_OddProjIdeal_OddProjReferenceIdeal [hOddProjIdeal : Cert.OddProjIdeal.Facts] [hOddProjReferenceIdeal : Cert.OddProjReferenceIdeal.Facts] : Prop :=
  ∀ (m : (ℓ : Loc Cert.OddProjIdeal.nD Cert.OddProjIdeal.τ Cert.OddProjIdeal.sig) → Buf (Elt Ideal) ℓ) (g : Dev Cert.OddProjIdeal.nD → PrngReg)
    (m' : (ℓ : Loc Cert.OddProjReferenceIdeal.nD Cert.OddProjReferenceIdeal.τ Cert.OddProjReferenceIdeal.sig) → Buf (Elt Ideal) ℓ) (g' : Dev Cert.OddProjReferenceIdeal.nD → PrngReg), Pre_OddProjIdeal m →
    (∀ c : Dev Cert.OddProjIdeal.nD,
      m' ((c.tc : Thread Cert.OddProjReferenceIdeal.nD Cert.OddProjReferenceIdeal.τ).loc Cert.OddProjReferenceIdeal.main_arg0) = m ((c.tc : Thread Cert.OddProjIdeal.nD Cert.OddProjIdeal.τ).loc Cert.OddProjIdeal.main_arg0)
      ∧ m' ((c.tc : Thread Cert.OddProjReferenceIdeal.nD Cert.OddProjReferenceIdeal.τ).loc Cert.OddProjReferenceIdeal.main_arg1) = m ((c.tc : Thread Cert.OddProjIdeal.nD Cert.OddProjIdeal.τ).loc Cert.OddProjIdeal.main_arg1)
      ∧ m' ((c.tc : Thread Cert.OddProjReferenceIdeal.nD Cert.OddProjReferenceIdeal.τ).loc Cert.OddProjReferenceIdeal.main_arg2) = m ((c.tc : Thread Cert.OddProjIdeal.nD Cert.OddProjIdeal.τ).loc Cert.OddProjIdeal.main_arg2)) →
    ∃ (v0 : (c : Dev Cert.OddProjIdeal.nD) → Buf (Elt Ideal) ((c.tc : Thread Cert.OddProjIdeal.nD Cert.OddProjIdeal.τ).loc Cert.OddProjIdeal.main_v0)),
      θ_run (Cert.OddProjIdeal.defs (F := Ideal)) (onTc (τ := Cert.OddProjIdeal.τ) (Cert.OddProjIdeal.main (F := Ideal))) ⟨m, fun _ => 0, g⟩ (fun r => ∀ c : Dev Cert.OddProjIdeal.nD,
          r.2.mem ((c.tc : Thread Cert.OddProjIdeal.nD Cert.OddProjIdeal.τ).loc Cert.OddProjIdeal.main_v0) = v0 c
          ∧ r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
          ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1)
          ∧ r.2.mem ((c.tc : Thread Cert.OddProjIdeal.nD Cert.OddProjIdeal.τ).loc Cert.OddProjIdeal.main_arg2) = m ((c.tc : Thread Cert.OddProjIdeal.nD Cert.OddProjIdeal.τ).loc Cert.OddProjIdeal.main_arg2))
      ∧ θ_run (Cert.OddProjReferenceIdeal.defs (F := Ideal)) (onTc (τ := Cert.OddProjReferenceIdeal.τ) (Cert.OddProjReferenceIdeal.main (F := Ideal))) ⟨m', fun _ => 0, g'⟩ (fun r => ∀ c : Dev Cert.OddProjReferenceIdeal.nD,
          r.2.mem ((c.tc : Thread Cert.OddProjReferenceIdeal.nD Cert.OddProjReferenceIdeal.τ).loc Cert.OddProjReferenceIdeal.main_v4) = v0 c
          ∧ r.2.mem ((c.tc : Thread Cert.OddProjReferenceIdeal.nD Cert.OddProjReferenceIdeal.τ).loc Cert.OddProjReferenceIdeal.main_arg0) = m' ((c.tc : Thread Cert.OddProjReferenceIdeal.nD Cert.OddProjReferenceIdeal.τ).loc Cert.OddProjReferenceIdeal.main_arg0)
          ∧ r.2.mem ((c.tc : Thread Cert.OddProjReferenceIdeal.nD Cert.OddProjReferenceIdeal.τ).loc Cert.OddProjReferenceIdeal.main_arg1) = m' ((c.tc : Thread Cert.OddProjReferenceIdeal.nD Cert.OddProjReferenceIdeal.τ).loc Cert.OddProjReferenceIdeal.main_arg1)
          ∧ r.2.mem ((c.tc : Thread Cert.OddProjReferenceIdeal.nD Cert.OddProjReferenceIdeal.τ).loc Cert.OddProjReferenceIdeal.main_arg2) = m' ((c.tc : Thread Cert.OddProjReferenceIdeal.nD Cert.OddProjReferenceIdeal.τ).loc Cert.OddProjReferenceIdeal.main_arg2))

def preserves_FoxProj_FoxProjIdeal : Prop :=
  True

def algebraic_FoxProjIdeal_FoxProjReferenceIdeal [hFoxProjIdeal : Cert.FoxProjIdeal.Facts] [hFoxProjReferenceIdeal : Cert.FoxProjReferenceIdeal.Facts] : Prop :=
  ∀ (m : (ℓ : Loc Cert.FoxProjIdeal.nD Cert.FoxProjIdeal.τ Cert.FoxProjIdeal.sig) → Buf (Elt Ideal) ℓ) (g : Dev Cert.FoxProjIdeal.nD → PrngReg)
    (m' : (ℓ : Loc Cert.FoxProjReferenceIdeal.nD Cert.FoxProjReferenceIdeal.τ Cert.FoxProjReferenceIdeal.sig) → Buf (Elt Ideal) ℓ) (g' : Dev Cert.FoxProjReferenceIdeal.nD → PrngReg), Pre_FoxProjIdeal m →
    (∀ c : Dev Cert.FoxProjIdeal.nD,
      m' ((c.tc : Thread Cert.FoxProjReferenceIdeal.nD Cert.FoxProjReferenceIdeal.τ).loc Cert.FoxProjReferenceIdeal.main_arg0) = m ((c.tc : Thread Cert.FoxProjIdeal.nD Cert.FoxProjIdeal.τ).loc Cert.FoxProjIdeal.main_arg0)
      ∧ m' ((c.tc : Thread Cert.FoxProjReferenceIdeal.nD Cert.FoxProjReferenceIdeal.τ).loc Cert.FoxProjReferenceIdeal.main_arg1) = m ((c.tc : Thread Cert.FoxProjIdeal.nD Cert.FoxProjIdeal.τ).loc Cert.FoxProjIdeal.main_arg1)
      ∧ m' ((c.tc : Thread Cert.FoxProjReferenceIdeal.nD Cert.FoxProjReferenceIdeal.τ).loc Cert.FoxProjReferenceIdeal.main_arg2) = m ((c.tc : Thread Cert.FoxProjIdeal.nD Cert.FoxProjIdeal.τ).loc Cert.FoxProjIdeal.main_arg2)) →
    ∃ (v0 : (c : Dev Cert.FoxProjIdeal.nD) → Buf (Elt Ideal) ((c.tc : Thread Cert.FoxProjIdeal.nD Cert.FoxProjIdeal.τ).loc Cert.FoxProjIdeal.main_v0)),
      θ_run (Cert.FoxProjIdeal.defs (F := Ideal)) (onTc (τ := Cert.FoxProjIdeal.τ) (Cert.FoxProjIdeal.main (F := Ideal))) ⟨m, fun _ => 0, g⟩ (fun r => ∀ c : Dev Cert.FoxProjIdeal.nD,
          r.2.mem ((c.tc : Thread Cert.FoxProjIdeal.nD Cert.FoxProjIdeal.τ).loc Cert.FoxProjIdeal.main_v0) = v0 c
          ∧ r.2.mem ((c.tc : Thread Cert.FoxProjIdeal.nD Cert.FoxProjIdeal.τ).loc Cert.FoxProjIdeal.main_arg0) = m ((c.tc : Thread Cert.FoxProjIdeal.nD Cert.FoxProjIdeal.τ).loc Cert.FoxProjIdeal.main_arg0)
          ∧ r.2.mem ((c.tc : Thread Cert.FoxProjIdeal.nD Cert.FoxProjIdeal.τ).loc Cert.FoxProjIdeal.main_arg1) = m ((c.tc : Thread Cert.FoxProjIdeal.nD Cert.FoxProjIdeal.τ).loc Cert.FoxProjIdeal.main_arg1)
          ∧ r.2.mem ((c.tc : Thread Cert.FoxProjIdeal.nD Cert.FoxProjIdeal.τ).loc Cert.FoxProjIdeal.main_arg2) = m ((c.tc : Thread Cert.FoxProjIdeal.nD Cert.FoxProjIdeal.τ).loc Cert.FoxProjIdeal.main_arg2))
      ∧ θ_run (Cert.FoxProjReferenceIdeal.defs (F := Ideal)) (onTc (τ := Cert.FoxProjReferenceIdeal.τ) (Cert.FoxProjReferenceIdeal.main (F := Ideal))) ⟨m', fun _ => 0, g'⟩ (fun r => ∀ c : Dev Cert.FoxProjReferenceIdeal.nD,
          r.2.mem ((c.tc : Thread Cert.FoxProjReferenceIdeal.nD Cert.FoxProjReferenceIdeal.τ).loc Cert.FoxProjReferenceIdeal.main_v4) = v0 c
          ∧ r.2.mem ((c.tc : Thread Cert.FoxProjReferenceIdeal.nD Cert.FoxProjReferenceIdeal.τ).loc Cert.FoxProjReferenceIdeal.main_arg0) = m' ((c.tc : Thread Cert.FoxProjReferenceIdeal.nD Cert.FoxProjReferenceIdeal.τ).loc Cert.FoxProjReferenceIdeal.main_arg0)
          ∧ r.2.mem ((c.tc : Thread Cert.FoxProjReferenceIdeal.nD Cert.FoxProjReferenceIdeal.τ).loc Cert.FoxProjReferenceIdeal.main_arg1) = m' ((c.tc : Thread Cert.FoxProjReferenceIdeal.nD Cert.FoxProjReferenceIdeal.τ).loc Cert.FoxProjReferenceIdeal.main_arg1)
          ∧ r.2.mem ((c.tc : Thread Cert.FoxProjReferenceIdeal.nD Cert.FoxProjReferenceIdeal.τ).loc Cert.FoxProjReferenceIdeal.main_arg2) = m' ((c.tc : Thread Cert.FoxProjReferenceIdeal.nD Cert.FoxProjReferenceIdeal.τ).loc Cert.FoxProjReferenceIdeal.main_arg2))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v29) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5))

def preserves_KeyMean_KeyMeanIdeal : Prop :=
  True

def algebraic_KeyMeanIdeal_KeyMeanReferenceIdeal [hKeyMeanIdeal : Cert.KeyMeanIdeal.Facts] [hKeyMeanReferenceIdeal : Cert.KeyMeanReferenceIdeal.Facts] : Prop :=
  ∀ (m : (ℓ : Loc Cert.KeyMeanIdeal.nD Cert.KeyMeanIdeal.τ Cert.KeyMeanIdeal.sig) → Buf (Elt Ideal) ℓ) (g : Dev Cert.KeyMeanIdeal.nD → PrngReg)
    (m' : (ℓ : Loc Cert.KeyMeanReferenceIdeal.nD Cert.KeyMeanReferenceIdeal.τ Cert.KeyMeanReferenceIdeal.sig) → Buf (Elt Ideal) ℓ) (g' : Dev Cert.KeyMeanReferenceIdeal.nD → PrngReg), Pre_KeyMeanIdeal m →
    (∀ c : Dev Cert.KeyMeanIdeal.nD,
      m' ((c.tc : Thread Cert.KeyMeanReferenceIdeal.nD Cert.KeyMeanReferenceIdeal.τ).loc Cert.KeyMeanReferenceIdeal.main_arg0) = m ((c.tc : Thread Cert.KeyMeanIdeal.nD Cert.KeyMeanIdeal.τ).loc Cert.KeyMeanIdeal.main_arg0)) →
    ∃ (v0 : (c : Dev Cert.KeyMeanIdeal.nD) → Buf (Elt Ideal) ((c.tc : Thread Cert.KeyMeanIdeal.nD Cert.KeyMeanIdeal.τ).loc Cert.KeyMeanIdeal.main_v0)),
      θ_run (Cert.KeyMeanIdeal.defs (F := Ideal)) (onTc (τ := Cert.KeyMeanIdeal.τ) (Cert.KeyMeanIdeal.main (F := Ideal))) ⟨m, fun _ => 0, g⟩ (fun r => ∀ c : Dev Cert.KeyMeanIdeal.nD,
          r.2.mem ((c.tc : Thread Cert.KeyMeanIdeal.nD Cert.KeyMeanIdeal.τ).loc Cert.KeyMeanIdeal.main_v0) = v0 c
          ∧ r.2.mem ((c.tc : Thread Cert.KeyMeanIdeal.nD Cert.KeyMeanIdeal.τ).loc Cert.KeyMeanIdeal.main_arg0) = m ((c.tc : Thread Cert.KeyMeanIdeal.nD Cert.KeyMeanIdeal.τ).loc Cert.KeyMeanIdeal.main_arg0))
      ∧ θ_run (Cert.KeyMeanReferenceIdeal.defs (F := Ideal)) (onTc (τ := Cert.KeyMeanReferenceIdeal.τ) (Cert.KeyMeanReferenceIdeal.main (F := Ideal))) ⟨m', fun _ => 0, g'⟩ (fun r => ∀ c : Dev Cert.KeyMeanReferenceIdeal.nD,
          r.2.mem ((c.tc : Thread Cert.KeyMeanReferenceIdeal.nD Cert.KeyMeanReferenceIdeal.τ).loc Cert.KeyMeanReferenceIdeal.main_v9) = v0 c
          ∧ r.2.mem ((c.tc : Thread Cert.KeyMeanReferenceIdeal.nD Cert.KeyMeanReferenceIdeal.τ).loc Cert.KeyMeanReferenceIdeal.main_arg0) = m' ((c.tc : Thread Cert.KeyMeanReferenceIdeal.nD Cert.KeyMeanReferenceIdeal.τ).loc Cert.KeyMeanReferenceIdeal.main_arg0))

def preserves_Prep_PrepIdeal : Prop :=
  True

def algebraic_PrepIdeal_PrepReferenceIdeal_pre_rotary_layout [hPrepIdeal : Cert.PrepIdeal.Facts] [hPrepReferenceIdeal : Cert.PrepReferenceIdeal.Facts] [hPre_rotary_layout : Cert.Pre_rotary_layout.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal_rotary_layout m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)
      ∧ m' ((c.tc : Thread Cert.PrepReferenceIdeal.nD Cert.PrepReferenceIdeal.τ).loc Cert.PrepReferenceIdeal.main_arg5) = m ((c.tc : Thread Cert.PrepIdeal.nD Cert.PrepIdeal.τ).loc Cert.PrepIdeal.main_arg5)
      ∧ m' ((c.tc : Thread Cert.PrepReferenceIdeal.nD Cert.PrepReferenceIdeal.τ).loc Cert.PrepReferenceIdeal.main_arg6) = m ((c.tc : Thread Cert.PrepIdeal.nD Cert.PrepIdeal.τ).loc Cert.PrepIdeal.main_arg6)
      ∧ m' ((c.tc : Thread Cert.PrepReferenceIdeal.nD Cert.PrepReferenceIdeal.τ).loc Cert.PrepReferenceIdeal.main_arg7) = m ((c.tc : Thread Cert.PrepIdeal.nD Cert.PrepIdeal.τ).loc Cert.PrepIdeal.main_arg7)
      ∧ m' ((c.tc : Thread Cert.PrepReferenceIdeal.nD Cert.PrepReferenceIdeal.τ).loc Cert.PrepReferenceIdeal.main_arg8) = m ((c.tc : Thread Cert.PrepIdeal.nD Cert.PrepIdeal.τ).loc Cert.PrepIdeal.main_arg8)) →
    ∃ (v0 : (c : Dev Cert.PrepIdeal.nD) → Buf (Elt Ideal) ((c.tc : Thread Cert.PrepIdeal.nD Cert.PrepIdeal.τ).loc Cert.PrepIdeal.main_v0_0)) (v1 : (c : Dev Cert.PrepIdeal.nD) → Buf (Elt Ideal) ((c.tc : Thread Cert.PrepIdeal.nD Cert.PrepIdeal.τ).loc Cert.PrepIdeal.main_v0_1)) (v2 : (c : Dev Cert.PrepIdeal.nD) → Buf (Elt Ideal) ((c.tc : Thread Cert.PrepIdeal.nD Cert.PrepIdeal.τ).loc Cert.PrepIdeal.main_v0_2)) (v3 : (c : Dev Cert.PrepIdeal.nD) → Buf (Elt Ideal) ((c.tc : Thread Cert.PrepIdeal.nD Cert.PrepIdeal.τ).loc Cert.PrepIdeal.main_v0_3)) (v4 : (c : Dev Cert.PrepIdeal.nD) → Buf (Elt Ideal) ((c.tc : Thread Cert.PrepIdeal.nD Cert.PrepIdeal.τ).loc Cert.PrepIdeal.main_v0_4)) (v5 : (c : Dev Cert.PrepIdeal.nD) → Buf (Elt Ideal) ((c.tc : Thread Cert.PrepIdeal.nD Cert.PrepIdeal.τ).loc Cert.PrepIdeal.main_v0_5)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0_0) = v0 c
          ∧ r.2.mem ((c.tc : Thread Cert.PrepIdeal.nD Cert.PrepIdeal.τ).loc Cert.PrepIdeal.main_v0_1) = v1 c
          ∧ r.2.mem ((c.tc : Thread Cert.PrepIdeal.nD Cert.PrepIdeal.τ).loc Cert.PrepIdeal.main_v0_2) = v2 c
          ∧ r.2.mem ((c.tc : Thread Cert.PrepIdeal.nD Cert.PrepIdeal.τ).loc Cert.PrepIdeal.main_v0_3) = v3 c
          ∧ r.2.mem ((c.tc : Thread Cert.PrepIdeal.nD Cert.PrepIdeal.τ).loc Cert.PrepIdeal.main_v0_4) = v4 c
          ∧ r.2.mem ((c.tc : Thread Cert.PrepIdeal.nD Cert.PrepIdeal.τ).loc Cert.PrepIdeal.main_v0_5) = v5 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v88) = v0 c
          ∧ r.2.mem ((c.tc : Thread Cert.PrepReferenceIdeal.nD Cert.PrepReferenceIdeal.τ).loc Cert.PrepReferenceIdeal.main_v89) = v1 c
          ∧ r.2.mem ((c.tc : Thread Cert.PrepReferenceIdeal.nD Cert.PrepReferenceIdeal.τ).loc Cert.PrepReferenceIdeal.main_v90) = v2 c
          ∧ r.2.mem ((c.tc : Thread Cert.PrepReferenceIdeal.nD Cert.PrepReferenceIdeal.τ).loc Cert.PrepReferenceIdeal.main_v91) = v3 c
          ∧ r.2.mem ((c.tc : Thread Cert.PrepReferenceIdeal.nD Cert.PrepReferenceIdeal.τ).loc Cert.PrepReferenceIdeal.main_v92) = v4 c
          ∧ r.2.mem ((c.tc : Thread Cert.PrepReferenceIdeal.nD Cert.PrepReferenceIdeal.τ).loc Cert.PrepReferenceIdeal.main_v4) = v5 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5)
          ∧ r.2.mem ((c.tc : Thread Cert.PrepReferenceIdeal.nD Cert.PrepReferenceIdeal.τ).loc Cert.PrepReferenceIdeal.main_arg6) = m' ((c.tc : Thread Cert.PrepReferenceIdeal.nD Cert.PrepReferenceIdeal.τ).loc Cert.PrepReferenceIdeal.main_arg6)
          ∧ r.2.mem ((c.tc : Thread Cert.PrepReferenceIdeal.nD Cert.PrepReferenceIdeal.τ).loc Cert.PrepReferenceIdeal.main_arg7) = m' ((c.tc : Thread Cert.PrepReferenceIdeal.nD Cert.PrepReferenceIdeal.τ).loc Cert.PrepReferenceIdeal.main_arg7)
          ∧ r.2.mem ((c.tc : Thread Cert.PrepReferenceIdeal.nD Cert.PrepReferenceIdeal.τ).loc Cert.PrepReferenceIdeal.main_arg8) = m' ((c.tc : Thread Cert.PrepReferenceIdeal.nD Cert.PrepReferenceIdeal.τ).loc Cert.PrepReferenceIdeal.main_arg8))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hOddProj : Cert.OddProj.Facts) (hOddProjIdeal : Cert.OddProjIdeal.Facts) (hOddProjReferenceIdeal : Cert.OddProjReferenceIdeal.Facts) (hFoxProj : Cert.FoxProj.Facts) (hFoxProjIdeal : Cert.FoxProjIdeal.Facts) (hFoxProjReferenceIdeal : Cert.FoxProjReferenceIdeal.Facts) (hOutProj : Cert.OutProj.Facts) (hOutProjIdeal : Cert.OutProjIdeal.Facts) (hOutProjReferenceIdeal : Cert.OutProjReferenceIdeal.Facts) (hKeyMean : Cert.KeyMean.Facts) (hKeyMeanIdeal : Cert.KeyMeanIdeal.Facts) (hKeyMeanReferenceIdeal : Cert.KeyMeanReferenceIdeal.Facts) (hPrep : Cert.Prep.Facts) (hPrepIdeal : Cert.PrepIdeal.Facts) (hPrepReferenceIdeal : Cert.PrepReferenceIdeal.Facts) (hPre_finite_scores : Cert.Pre_finite_scores.Facts) (hPre_sorted_rows : Cert.Pre_sorted_rows.Facts) (hPre_rotary_layout : Cert.Pre_rotary_layout.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Experts (hExperts := hExperts) (hPre_sorted_rows := hPre_sorted_rows)
    ∧ quiescent_ExpertsIdeal (hExpertsIdeal := hExpertsIdeal) (hPre_sorted_rows := hPre_sorted_rows)
    ∧ quiescent_ExpertsReferenceIdeal (hExpertsReferenceIdeal := hExpertsReferenceIdeal)
    ∧ quiescent_ExpertsReferenceIdeal_pre_sorted_rows (hExpertsReferenceIdeal := hExpertsReferenceIdeal) (hPre_sorted_rows := hPre_sorted_rows)
    ∧ quiescent_OddProj (hOddProj := hOddProj)
    ∧ quiescent_OddProjIdeal (hOddProjIdeal := hOddProjIdeal)
    ∧ quiescent_OddProjReferenceIdeal (hOddProjReferenceIdeal := hOddProjReferenceIdeal)
    ∧ quiescent_FoxProj (hFoxProj := hFoxProj)
    ∧ quiescent_FoxProjIdeal (hFoxProjIdeal := hFoxProjIdeal)
    ∧ quiescent_FoxProjReferenceIdeal (hFoxProjReferenceIdeal := hFoxProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_KeyMean (hKeyMean := hKeyMean)
    ∧ quiescent_KeyMeanIdeal (hKeyMeanIdeal := hKeyMeanIdeal)
    ∧ quiescent_KeyMeanReferenceIdeal (hKeyMeanReferenceIdeal := hKeyMeanReferenceIdeal)
    ∧ quiescent_Prep (hPrep := hPrep)
    ∧ quiescent_PrepIdeal (hPrepIdeal := hPrepIdeal)
    ∧ quiescent_PrepIdeal_pre_rotary_layout (hPrepIdeal := hPrepIdeal) (hPre_rotary_layout := hPre_rotary_layout)
    ∧ quiescent_PrepReferenceIdeal (hPrepReferenceIdeal := hPrepReferenceIdeal)
    ∧ quiescent_PrepReferenceIdeal_pre_rotary_layout (hPrepReferenceIdeal := hPrepReferenceIdeal) (hPre_rotary_layout := hPre_rotary_layout)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Experts_ExpertsIdeal
    ∧ algebraic_ExpertsIdeal_ExpertsReferenceIdeal (hExpertsIdeal := hExpertsIdeal) (hExpertsReferenceIdeal := hExpertsReferenceIdeal) (hPre_sorted_rows := hPre_sorted_rows)
    ∧ preserves_OddProj_OddProjIdeal
    ∧ algebraic_OddProjIdeal_OddProjReferenceIdeal (hOddProjIdeal := hOddProjIdeal) (hOddProjReferenceIdeal := hOddProjReferenceIdeal)
    ∧ preserves_FoxProj_FoxProjIdeal
    ∧ algebraic_FoxProjIdeal_FoxProjReferenceIdeal (hFoxProjIdeal := hFoxProjIdeal) (hFoxProjReferenceIdeal := hFoxProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_KeyMean_KeyMeanIdeal
    ∧ algebraic_KeyMeanIdeal_KeyMeanReferenceIdeal (hKeyMeanIdeal := hKeyMeanIdeal) (hKeyMeanReferenceIdeal := hKeyMeanReferenceIdeal)
    ∧ preserves_Prep_PrepIdeal
    ∧ algebraic_PrepIdeal_PrepReferenceIdeal_pre_rotary_layout (hPrepIdeal := hPrepIdeal) (hPrepReferenceIdeal := hPrepReferenceIdeal) (hPre_rotary_layout := hPre_rotary_layout)
-- ==== Pre_finite_scores.lean ====
abbrev S8192x1024 : Shape := ⟨2, ![8192, 1024]⟩
abbrev S8192x128 : Shape := ⟨2, ![8192, 128]⟩
abbrev S_ : Shape := ⟨0, ![]⟩

class Facts : Prop where
  bcast_S_S8192x1024 : S_.BroadcastsInDim S8192x1024 (![] : Fin 0 → Fin S8192x1024.rank)
  bcast_S_S8192x128 : S_.BroadcastsInDim S8192x128 (![] : Fin 0 → Fin S8192x128.rank)

variable [Facts]

def fn {F : FTy → Type} [FloatOps F] (main_arg0 : FVec F S8192x1024 .bf16) (main_arg1 : FVec F S8192x1024 .bf16) (main_arg2 : FVec F S8192x1024 .bf16) (main_arg3 : FVec F S8192x1024 .bf16) (main_arg4 : FVec F S8192x128 .bf16) : IVec S8192x1024 1 × IVec S8192x1024 1 × IVec S8192x1024 1 × IVec S8192x128 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S8192x1024 .bf16 := Host.absf main_arg1
  let main_cst_0 : FVec F S_ .bf16 := constant S_ .bf16 0x7F80#16
  let main_v4 : FVec F S8192x1024 .bf16 := broadcastInDim S8192x1024 ![] bcast_S_S8192x1024 main_cst_0
  let main_v5 : IVec S8192x1024 1 := cmpf .olt main_v3 main_v4
  let main_v6 : FVec F S8192x1024 .bf16 := Host.absf main_arg2
  let main_cst_1 : FVec F S_ .bf16 := constant S_ .bf16 0x7F80#16
  let main_v7 : FVec F S8192x1024 .bf16 := broadcastInDim S8192x1024 ![] bcast_S_S8192x1024 main_cst_1
  let main_v8 : IVec S8192x1024 1 := cmpf .olt main_v6 main_v7
  let main_v9 : FVec F S8192x128 .bf16 := Host.absf main_arg4
  let main_cst_2 : FVec F S_ .bf16 := constant S_ .bf16 0x7F80#16
  let main_v10 : FVec F S8192x128 .bf16 := broadcastInDim S8192x128 ![] bcast_S_S8192x128 main_cst_2
  let main_v11 : IVec S8192x128 1 := cmpf .olt main_v9 main_v10
  (main_v2, main_v5, main_v8, main_v11)
-- ==== Pre_rotary_layout.lean ====
abbrev S8192x2048 : Shape := ⟨2, ![8192, 2048]⟩
abbrev S2048x1024 : Shape := ⟨2, ![2048, 1024]⟩
abbrev S4096x128 : Shape := ⟨2, ![4096, 128]⟩
abbrev S1x512 : Shape := ⟨2, ![1, 512]⟩
abbrev S1x256 : Shape := ⟨2, ![1, 256]⟩
abbrev S512x1024 : Shape := ⟨2, ![512, 1024]⟩
abbrev S256x1024 : Shape := ⟨2, ![256, 1024]⟩
abbrev S512x8x4x32 : Shape := ⟨4, ![512, 8, 4, 32]⟩
abbrev S2048x32 : Shape := ⟨2, ![2048, 32]⟩
abbrev S4096x32 : Shape := ⟨2, ![4096, 32]⟩
abbrev S512x8x1x32 : Shape := ⟨4, ![512, 8, 1, 32]⟩
abbrev S512x8x32 : Shape := ⟨3, ![512, 8, 32]⟩

class Facts : Prop where
  shapeCasts_S512x1024_S512x8x4x32 : S512x1024.ShapeCasts S512x8x4x32
  slices_S2048x1024_S2048x32_0_768 : S2048x1024.Slices ![0, 768] S2048x32
  slices_S2048x1024_S2048x32_0_800 : S2048x1024.Slices ![0, 800] S2048x32
  slices_S2048x1024_S2048x32_0_832 : S2048x1024.Slices ![0, 832] S2048x32
  slices_S2048x1024_S2048x32_0_864 : S2048x1024.Slices ![0, 864] S2048x32
  slices_S4096x128_S4096x32_0_0 : S4096x128.Slices ![0, 0] S4096x32
  slices_S4096x128_S4096x32_0_32 : S4096x128.Slices ![0, 32] S4096x32
  slices_S4096x128_S4096x32_0_64 : S4096x128.Slices ![0, 64] S4096x32
  slices_S4096x128_S4096x32_0_96 : S4096x128.Slices ![0, 96] S4096x32
  slices_S512x8x4x32_S512x8x1x32_0_0_2_0 : S512x8x4x32.Slices ![0, 0, 2, 0] S512x8x1x32
  shapeCasts_S512x8x1x32_S512x8x32 : S512x8x1x32.ShapeCasts S512x8x32
  slices_S512x8x4x32_S512x8x1x32_0_0_1_0 : S512x8x4x32.Slices ![0, 0, 1, 0] S512x8x1x32
  slices_S512x8x4x32_S512x8x1x32_0_0_3_0 : S512x8x4x32.Slices ![0, 0, 3, 0] S512x8x1x32
  slices_S512x8x4x32_S512x8x1x32_0_0_0_0 : S512x8x4x32.Slices ![0, 0, 0, 0] S512x8x1x32

variable [Facts]

def fn {F : FTy → Type} [FloatOps F] (main_arg0 : FVec F S8192x2048 .f32) (main_arg1 : FVec F S2048x1024 .bf16) (main_arg2 : FVec F S4096x128 .f32) (main_arg3 : FVec F S1x512 .f32) (main_arg4 : FVec F S1x256 .f32) (main_arg5 : FVec F S512x1024 .bf16) (main_arg6 : FVec F S512x1024 .bf16) (main_arg7 : FVec F S256x1024 .bf16) (main_arg8 : FVec F S256x1024 .bf16) : IVec S512x8x32 1 × IVec S512x8x32 1 × IVec S2048x32 1 × IVec S2048x32 1 × IVec S4096x32 1 × IVec S4096x32 1 :=
  let main_v0 : FVec F S512x8x4x32 .bf16 := shapeCast S512x8x4x32 main_arg6 shapeCasts_S512x1024_S512x8x4x32
  let main_v1 : FVec F S2048x32 .bf16 := (extractStridedSlice S2048x32 ![0, 768] · slices_S2048x1024_S2048x32_0_768) main_arg1
  let main_v2 : FVec F S2048x32 .bf16 := (extractStridedSlice S2048x32 ![0, 800] · slices_S2048x1024_S2048x32_0_800) main_arg1
  let main_v3 : FVec F S2048x32 .bf16 := (extractStridedSlice S2048x32 ![0, 832] · slices_S2048x1024_S2048x32_0_832) main_arg1
  let main_v4 : FVec F S2048x32 .bf16 := (extractStridedSlice S2048x32 ![0, 864] · slices_S2048x1024_S2048x32_0_864) main_arg1
  let main_v5 : FVec F S4096x32 .f32 := (extractStridedSlice S4096x32 ![0, 0] · slices_S4096x128_S4096x32_0_0) main_arg2
  let main_v6 : FVec F S4096x32 .f32 := (extractStridedSlice S4096x32 ![0, 32] · slices_S4096x128_S4096x32_0_32) main_arg2
  let main_v7 : FVec F S4096x32 .f32 := (extractStridedSlice S4096x32 ![0, 64] · slices_S4096x128_S4096x32_0_64) main_arg2
  let main_v8 : FVec F S4096x32 .f32 := (extractStridedSlice S4096x32 ![0, 96] · slices_S4096x128_S4096x32_0_96) main_arg2
  let main_v9 : FVec F S512x8x1x32 .bf16 := (extractStridedSlice S512x8x1x32 ![0, 0, 2, 0] · slices_S512x8x4x32_S512x8x1x32_0_0_2_0) main_v0
  let main_v10 : FVec F S512x8x32 .bf16 := shapeCast S512x8x32 main_v9 shapeCasts_S512x8x1x32_S512x8x32
  let main_v11 : FVec F S512x8x1x32 .bf16 := (extractStridedSlice S512x8x1x32 ![0, 0, 1, 0] · slices_S512x8x4x32_S512x8x1x32_0_0_1_0) main_v0
  let main_v12 : FVec F S512x8x32 .bf16 := shapeCast S512x8x32 main_v11 shapeCasts_S512x8x1x32_S512x8x32
  let main_v13 : IVec S512x8x32 1 := cmpf .oeq main_v10 main_v12
  let main_v14 : FVec F S512x8x1x32 .bf16 := (extractStridedSlice S512x8x1x32 ![0, 0, 3, 0] · slices_S512x8x4x32_S512x8x1x32_0_0_3_0) main_v0
  let main_v15 : FVec F S512x8x32 .bf16 := shapeCast S512x8x32 main_v14 shapeCasts_S512x8x1x32_S512x8x32
  let main_v16 : FVec F S512x8x1x32 .bf16 := (extractStridedSlice S512x8x1x32 ![0, 0, 0, 0] · slices_S512x8x4x32_S512x8x1x32_0_0_0_0) main_v0
  let main_v17 : FVec F S512x8x32 .bf16 := shapeCast S512x8x32 main_v16 shapeCasts_S512x8x1x32_S512x8x32
  let main_v18 : IVec S512x8x32 1 := cmpf .oeq main_v15 main_v17
  let main_v19 : IVec S2048x32 1 := cmpf .oeq main_v3 main_v2
  let main_v20 : IVec S2048x32 1 := cmpf .oeq main_v4 main_v1
  let main_v21 : IVec S4096x32 1 := cmpf .oeq main_v6 main_v5
  let main_v22 : FVec F S4096x32 .f32 := Host.negf main_v8
  let main_v23 : IVec S4096x32 1 := cmpf .oeq main_v7 main_v22
  (main_v13, main_v18, main_v19, main_v20, main_v21, main_v23)
-- ==== Pre_sorted_rows.lean ====
abbrev S33 : Shape := ⟨1, ![33]⟩
abbrev S20480x2176 : Shape := ⟨2, ![20480, 2176]⟩
abbrev S2x32x2048x1024 : Shape := ⟨4, ![2, 32, 2048, 1024]⟩
abbrev S2x32x512x2048 : Shape := ⟨4, ![2, 32, 512, 2048]⟩
abbrev S1 : Shape := ⟨1, ![1]⟩
abbrev S_ : Shape := ⟨0, ![]⟩
abbrev S32 : Shape := ⟨1, ![32]⟩

class Facts : Prop where
  slices_S33_S1_0 : S33.Slices ![0] S1
  bcast_S_S1 : S_.BroadcastsInDim S1 (![] : Fin 0 → Fin S1.rank)
  slices_S33_S32_0 : S33.Slices ![0] S32
  slices_S33_S32_1 : S33.Slices ![1] S32
  bcast_S_S33 : S_.BroadcastsInDim S33 (![] : Fin 0 → Fin S33.rank)
  slices_S33_S1_32 : S33.Slices ![32] S1

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S33 32) (arg1 : IVec S_ 32) : IVec S33 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S33 32 := broadcastInDim S33 ![] bcast_S_S33 v2
  let v4 : IVec S33 32 := Host.remsi arg0 v3
  let c_1 : IVec S_ 32 := constantI S_ 32 0#32
  let v5 : IVec S33 32 := broadcastInDim S33 ![] bcast_S_S33 c_1
  let v6 : IVec S33 1 := cmpi .ne v4 v5
  let c_2 : IVec S_ 32 := constantI S_ 32 0#32
  let v7 : IVec S33 32 := broadcastInDim S33 ![] bcast_S_S33 c_2
  let v8 : IVec S33 1 := cmpi .slt v4 v7
  let c_3 : IVec S_ 32 := constantI S_ 32 0#32
  let v9 : IVec S_ 1 := cmpi .slt v2 c_3
  let v10 : IVec S33 1 := broadcastInDim S33 ![] bcast_S_S33 v9
  let v11 : IVec S33 1 := cmpi .ne v8 v10
  let v12 : IVec S33 1 := andi v11 v6
  let v13 : IVec S33 32 := broadcastInDim S33 ![] bcast_S_S33 v2
  let v14 : IVec S33 32 := addi v4 v13
  let v15 : IVec S33 32 := select v12 v14 v4
  v15

def fn {F : FTy → Type} [FloatOps F] (main_arg0 : IVec S33 32) (main_arg1 : FVec F S20480x2176 .f32) (main_arg2 : FVec F S2x32x2048x1024 .f32) (main_arg3 : FVec F S2x32x512x2048 .f32) : IVec S1 1 × IVec S32 1 × IVec S33 1 × IVec S1 1 :=
  let main_v0 : IVec S1 32 := (extractStridedSlice S1 ![0] · slices_S33_S1_0) main_arg0
  let main_c : IVec S_ 32 := constantI S_ 32 0#32
  let main_v1 : IVec S1 32 := broadcastInDim S1 ![] bcast_S_S1 main_c
  let main_v2 : IVec S1 1 := cmpi .eq main_v0 main_v1
  let main_v3 : IVec S32 32 := (extractStridedSlice S32 ![0] · slices_S33_S32_0) main_arg0
  let main_v4 : IVec S32 32 := (extractStridedSlice S32 ![1] · slices_S33_S32_1) main_arg0
  let main_v5 : IVec S32 1 := cmpi .sle main_v3 main_v4
  let main_c_0 : IVec S_ 32 := constantI S_ 32 128#32
  let main_v6 : IVec S33 32 := fn_remainder (F := F) main_arg0 main_c_0
  let main_c_1 : IVec S_ 32 := constantI S_ 32 0#32
  let main_v7 : IVec S33 32 := broadcastInDim S33 ![] bcast_S_S33 main_c_1
  let main_v8 : IVec S33 1 := cmpi .eq main_v6 main_v7
  let main_v9 : IVec S1 32 := (extractStridedSlice S1 ![32] · slices_S33_S1_32) main_arg0
  let main_c_2 : IVec S_ 32 := constantI S_ 32 16384#32
  let main_v10 : IVec S1 32 := broadcastInDim S1 ![] bcast_S_S1 main_c_2
  let main_v11 : IVec S1 1 := cmpi .sge main_v9 main_v10
  let main_v12 : IVec S1 32 := (extractStridedSlice S1 ![32] · slices_S33_S1_32) main_arg0
  let main_c_3 : IVec S_ 32 := constantI S_ 32 20480#32
  let main_v13 : IVec S1 32 := broadcastInDim S1 ![] bcast_S_S1 main_c_3
  let main_v14 : IVec S1 1 := cmpi .sle main_v12 main_v13
  let main_v15 : IVec S1 1 := andi main_v11 main_v14
  (main_v2, main_v5, main_v8, main_v15)
-- ==== Kernel.lean ====
abbrev S8192x1024 : Shape := ⟨2, ![8192, 1024]⟩
abbrev S8192x128 : Shape := ⟨2, ![8192, 128]⟩
abbrev S512x512 : Shape := ⟨2, ![512, 512]⟩
abbrev S4096x512 : Shape := ⟨2, ![4096, 512]⟩
abbrev S4096x128 : Shape := ⟨2, ![4096, 128]⟩
abbrev S4x512x128 : Shape := ⟨3, ![4, 512, 128]⟩
abbrev S256x256 : Shape := ⟨2, ![256, 256]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S256x512 : Shape := ⟨2, ![256, 512]⟩
abbrev S512x128 : Shape := ⟨2, ![512, 128]⟩
abbrev S512x256 : Shape := ⟨2, ![512, 256]⟩
abbrev S1x512x128 : Shape := ⟨3, ![1, 512, 128]⟩
abbrev S512 : Shape := ⟨1, ![512]⟩
abbrev S512x1 : Shape := ⟨2, ![512, 1]⟩

abbrev nBuf : Space → Nat
  | .hbm => 6
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x128, .bf16⟩
  | .hbm, ⟨5, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S4096x512, .bf16⟩
  | .local _ .vmem, ⟨5, _⟩ => ⟨S4096x512, .bf16⟩
  | .local _ .vmem, ⟨6, _⟩ => ⟨S4096x128, .bf16⟩
  | .local _ .vmem, ⟨7, _⟩ => ⟨S4096x128, .bf16⟩
  | .local _ .vmem, ⟨8, _⟩ => ⟨S4096x512, .bf16⟩
  | .local _ .vmem, ⟨9, _⟩ => ⟨S4096x512, .bf16⟩
  | .local _ .vmem, ⟨10, _⟩ => ⟨S512x512, .bf16⟩
  | .local _ .vmem, ⟨11, _⟩ => ⟨S512x512, .bf16⟩
  | .local _ .vmem, ⟨12, _⟩ => ⟨S4x512x128, .f32⟩
  | .local _ .vmem, ⟨13, _⟩ => ⟨S4x512x128, .f32⟩
  | .local _ .vmem, ⟨14, _⟩ => ⟨S4x512x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 8], ![false, false, false]⟩

def k0_mult1 (i : grid0.Coords) : BitVec 32 :=
  let arg2 : BitVec 32 := BitVec.ofNat 32 (i 2).val
  let c512_i32 : BitVec 32 := 512#32
  let v12 : BitVec 32 := Scalar.muli arg2 c512_i32
  v12
def k0_off1 (i : grid0.Coords) : Fin 2 → Nat :=
  let arg2 : BitVec 32 := BitVec.ofNat 32 (i 2).val
  let c512_i32 : BitVec 32 := 512#32
  let v12 : BitVec 32 := Scalar.muli arg2 c512_i32
  let v13 : BitVec 32 := v12
  let v22 : Index := Scalar.indexCast v13
  let c0_14 : Index := 0#32
  ![v22.toNat, 0]
def k0_off2 (i : grid0.Coords) : Fin 2 → Nat :=
  let arg2 : BitVec 32 := BitVec.ofNat 32 (i 2).val
  let c512_i32 : BitVec 32 := 512#32
  let v12 : BitVec 32 := Scalar.muli arg2 c512_i32
  let v13 : BitVec 32 := v12
  let v24 : Index := Scalar.indexCast v13
  let c0_15 : Index := 0#32
  ![v24.toNat, 0]
def k0_off3 (i : grid0.Coords) : Fin 2 → Nat :=
  let arg2 : BitVec 32 := BitVec.ofNat 32 (i 2).val
  let c512_i32 : BitVec 32 := 512#32
  let v12 : BitVec 32 := Scalar.muli arg2 c512_i32
  let v13 : BitVec 32 := v12
  let v34 : Index := Scalar.indexCast v13
  let c128_21 : Index := 128#32
  ![v34.toNat, 128]
def k0_off4 (i : grid0.Coords) : Fin 2 → Nat :=
  let arg2 : BitVec 32 := BitVec.ofNat 32 (i 2).val
  let c512_i32 : BitVec 32 := 512#32
  let v12 : BitVec 32 := Scalar.muli arg2 c512_i32
  let v13 : BitVec 32 := v12
  let v46 : Index := Scalar.indexCast v13
  let c256_28 : Index := 256#32
  ![v46.toNat, 256]
def k0_off5 (i : grid0.Coords) : Fin 2 → Nat :=
  let arg2 : BitVec 32 := BitVec.ofNat 32 (i 2).val
  let c512_i32 : BitVec 32 := 512#32
  let v12 : BitVec 32 := Scalar.muli arg2 c512_i32
  let v13 : BitVec 32 := v12
  let v58 : Index := Scalar.indexCast v13
  let c384_35 : Index := 384#32
  ![v58.toNat, 384]
def k0_off6 (i : grid0.Coords) : Fin 2 → Nat :=
  let arg2 : BitVec 32 := BitVec.ofNat 32 (i 2).val
  let c512_i32 : BitVec 32 := 512#32
  let v12 : BitVec 32 := Scalar.muli arg2 c512_i32
  let v13 : BitVec 32 := v12
  let v214 : Index := Scalar.indexCast v13
  let c0_128 : Index := 0#32
  ![v214.toNat, 0]
def k0_off7 (i : grid0.Coords) : Fin 2 → Nat :=
  let arg2 : BitVec 32 := BitVec.ofNat 32 (i 2).val
  let c512_i32 : BitVec 32 := 512#32
  let v12 : BitVec 32 := Scalar.muli arg2 c512_i32
  let v13 : BitVec 32 := v12
  let v216 : Index := Scalar.indexCast v13
  let c0_129 : Index := 0#32
  ![v216.toNat, 0]
def k0_off8 (i : grid0.Coords) : Fin 2 → Nat :=
  let arg2 : BitVec 32 := BitVec.ofNat 32 (i 2).val
  let c512_i32 : BitVec 32 := 512#32
  let v12 : BitVec 32 := Scalar.muli arg2 c512_i32
  let v13 : BitVec 32 := v12
  let v226 : Index := Scalar.indexCast v13
  let c128_136 : Index := 128#32
  ![v226.toNat, 128]
def k0_off9 (i : grid0.Coords) : Fin 2 → Nat :=
  let arg2 : BitVec 32 := BitVec.ofNat 32 (i 2).val
  let c512_i32 : BitVec 32 := 512#32
  let v12 : BitVec 32 := Scalar.muli arg2 c512_i32
  let v13 : BitVec 32 := v12
  let v238 : Index := Scalar.indexCast v13
  let c256_144 : Index := 256#32
  ![v238.toNat, 256]
def k0_off10 (i : grid0.Coords) : Fin 2 → Nat :=
  let arg2 : BitVec 32 := BitVec.ofNat 32 (i 2).val
  let c512_i32 : BitVec 32 := 512#32
  let v12 : BitVec 32 := Scalar.muli arg2 c512_i32
  let v13 : BitVec 32 := v12
  let v250 : Index := Scalar.indexCast v13
  let c384_152 : Index := 384#32
  ![v250.toNat, 384]
@[reducible] def k0_t1_loop (i : grid0.Coords) : Scf.Loop 32 :=
  let c0_i32_245 : BitVec 32 := 0#32
  let arg2 : BitVec 32 := BitVec.ofNat 32 (i 2).val
  let v398 : BitVec 32 := Scalar.subi arg2 c0_i32_245
  let c1_i32 : BitVec 32 := 1#32
  let v400 : BitVec 32 := Scalar.divsi v398 c1_i32
  let v401 : BitVec 32 := Scalar.muli v400 c1_i32
  let v402 : BitVec 32 := Scalar.addi c0_i32_245 v401
  let c1_i32_246 : BitVec 32 := 1#32
  ⟨c0_i32_245, v402, c1_i32_246⟩
def k0_mult2 (i : grid0.Coords) (k0_t1 : Fin (k0_t1_loop i).trips) : BitVec 32 :=
  let c0_i32_245 : BitVec 32 := 0#32
  let c1_i32_246 : BitVec 32 := 1#32
  let arg12 : BitVec 32 := Scf.iv c0_i32_245 c1_i32_246 k0_t1
  let c512_i32_280 : BitVec 32 := 512#32
  let v431 : BitVec 32 := Scalar.muli arg12 c512_i32_280
  v431
def k0_off11 (i : grid0.Coords) (k0_t1 : Fin (k0_t1_loop i).trips) : Fin 2 → Nat :=
  let c0_i32_245 : BitVec 32 := 0#32
  let c1_i32_246 : BitVec 32 := 1#32
  let arg12 : BitVec 32 := Scf.iv c0_i32_245 c1_i32_246 k0_t1
  let c512_i32_280 : BitVec 32 := 512#32
  let v431 : BitVec 32 := Scalar.muli arg12 c512_i32_280
  let v432 : BitVec 32 := v431
  let v436 : Index := Scalar.indexCast v432
  let c0_285 : Index := 0#32
  ![v436.toNat, 0]
def k0_off12 (i : grid0.Coords) (k0_t1 : Fin (k0_t1_loop i).trips) : Fin 2 → Nat :=
  let c0_i32_245 : BitVec 32 := 0#32
  let c1_i32_246 : BitVec 32 := 1#32
  let arg12 : BitVec 32 := Scf.iv c0_i32_245 c1_i32_246 k0_t1
  let c512_i32_280 : BitVec 32 := 512#32
  let v431 : BitVec 32 := Scalar.muli arg12 c512_i32_280
  let v432 : BitVec 32 := v431
  let v438 : Index := Scalar.indexCast v432
  let c0_286 : Index := 0#32
  ![v438.toNat, 0]
def k0_off13 (i : grid0.Coords) (k0_t1 : Fin (k0_t1_loop i).trips) : Fin 2 → Nat :=
  let c0_i32_245 : BitVec 32 := 0#32
  let c1_i32_246 : BitVec 32 := 1#32
  let arg12 : BitVec 32 := Scf.iv c0_i32_245 c1_i32_246 k0_t1
  let c512_i32_280 : BitVec 32 := 512#32
  let v431 : BitVec 32 := Scalar.muli arg12 c512_i32_280
  let v432 : BitVec 32 := v431
  let v445 : Index := Scalar.indexCast v432
  let c128_292 : Index := 128#32
  ![v445.toNat, 128]
def k0_off14 (i : grid0.Coords) (k0_t1 : Fin (k0_t1_loop i).trips) : Fin 2 → Nat :=
  let c0_i32_245 : BitVec 32 := 0#32
  let c1_i32_246 : BitVec 32 := 1#32
  let arg12 : BitVec 32 := Scf.iv c0_i32_245 c1_i32_246 k0_t1
  let c512_i32_280 : BitVec 32 := 512#32
  let v431 : BitVec 32 := Scalar.muli arg12 c512_i32_280
  let v432 : BitVec 32 := v431
  let v454 : Index := Scalar.indexCast v432
  let c256_299 : Index := 256#32
  ![v454.toNat, 256]
def k0_off15 (i : grid0.Coords) (k0_t1 : Fin (k0_t1_loop i).trips) : Fin 2 → Nat :=
  let c0_i32_245 : BitVec 32 := 0#32
  let c1_i32_246 : BitVec 32 := 1#32
  let arg12 : BitVec 32 := Scf.iv c0_i32_245 c1_i32_246 k0_t1
  let c512_i32_280 : BitVec 32 := 512#32
  let v431 : BitVec 32 := Scalar.muli arg12 c512_i32_280
  let v432 : BitVec 32 := v431
  let v463 : Index := Scalar.indexCast v432
  let c384_306 : Index := 384#32
  ![v463.toNat, 384]
@[reducible] def k0_t2_loop (i : grid0.Coords) : Scf.Loop 32 :=
  let c0_i32_245 : BitVec 32 := 0#32
  let arg2 : BitVec 32 := BitVec.ofNat 32 (i 2).val
  let v398 : BitVec 32 := Scalar.subi arg2 c0_i32_245
  let c1_i32 : BitVec 32 := 1#32
  let v400 : BitVec 32 := Scalar.divsi v398 c1_i32
  let v401 : BitVec 32 := Scalar.muli v400 c1_i32
  let v402 : BitVec 32 := Scalar.addi c0_i32_245 v401
  let v399 : BitVec 32 := Scalar.addi c0_i32_245 v398
  let c1_i32_247 : BitVec 32 := 1#32
  ⟨v402, v399, c1_i32_247⟩
def k0_mult3 (i : grid0.Coords) (k0_t2 : Fin (k0_t2_loop i).trips) : BitVec 32 :=
  let c0_i32_245 : BitVec 32 := 0#32
  let arg2 : BitVec 32 := BitVec.ofNat 32 (i 2).val
  let v398 : BitVec 32 := Scalar.subi arg2 c0_i32_245
  let c1_i32 : BitVec 32 := 1#32
  let v400 : BitVec 32 := Scalar.divsi v398 c1_i32
  let v401 : BitVec 32 := Scalar.muli v400 c1_i32
  let v402 : BitVec 32 := Scalar.addi c0_i32_245 v401
  let c1_i32_247 : BitVec 32 := 1#32
  let arg12 : BitVec 32 := Scf.iv v402 c1_i32_247 k0_t2
  let c512_i32_280 : BitVec 32 := 512#32
  let v431 : BitVec 32 := Scalar.muli arg12 c512_i32_280
  v431
def k0_off16 (i : grid0.Coords) (k0_t2 : Fin (k0_t2_loop i).trips) : Fin 2 → Nat :=
  let c0_i32_245 : BitVec 32 := 0#32
  let arg2 : BitVec 32 := BitVec.ofNat 32 (i 2).val
  let v398 : BitVec 32 := Scalar.subi arg2 c0_i32_245
  let c1_i32 : BitVec 32 := 1#32
  let v400 : BitVec 32 := Scalar.divsi v398 c1_i32
  let v401 : BitVec 32 := Scalar.muli v400 c1_i32
  let v402 : BitVec 32 := Scalar.addi c0_i32_245 v401
  let c1_i32_247 : BitVec 32 := 1#32
  let arg12 : BitVec 32 := Scf.iv v402 c1_i32_247 k0_t2
  let c512_i32_280 : BitVec 32 := 512#32
  let v431 : BitVec 32 := Scalar.muli arg12 c512_i32_280
  let v432 : BitVec 32 := v431
  let v436 : Index := Scalar.indexCast v432
  let c0_285 : Index := 0#32
  ![v436.toNat, 0]
def k0_off17 (i : grid0.Coords) (k0_t2 : Fin (k0_t2_loop i).trips) : Fin 2 → Nat :=
  let c0_i32_245 : BitVec 32 := 0#32
  let arg2 : BitVec 32 := BitVec.ofNat 32 (i 2).val
  let v398 : BitVec 32 := Scalar.subi arg2 c0_i32_245
  let c1_i32 : BitVec 32 := 1#32
  let v400 : BitVec 32 := Scalar.divsi v398 c1_i32
  let v401 : BitVec 32 := Scalar.muli v400 c1_i32
  let v402 : BitVec 32 := Scalar.addi c0_i32_245 v401
  let c1_i32_247 : BitVec 32 := 1#32
  let arg12 : BitVec 32 := Scf.iv v402 c1_i32_247 k0_t2
  let c512_i32_280 : BitVec 32 := 512#32
  let v431 : BitVec 32 := Scalar.muli arg12 c512_i32_280
  let v432 : BitVec 32 := v431
  let v438 : Index := Scalar.indexCast v432
  let c0_286 : Index := 0#32
  ![v438.toNat, 0]
def k0_off18 (i : grid0.Coords) (k0_t2 : Fin (k0_t2_loop i).trips) : Fin 2 → Nat :=
  let c0_i32_245 : BitVec 32 := 0#32
  let arg2 : BitVec 32 := BitVec.ofNat 32 (i 2).val
  let v398 : BitVec 32 := Scalar.subi arg2 c0_i32_245
  let c1_i32 : BitVec 32 := 1#32
  let v400 : BitVec 32 := Scalar.divsi v398 c1_i32
  let v401 : BitVec 32 := Scalar.muli v400 c1_i32
  let v402 : BitVec 32 := Scalar.addi c0_i32_245 v401
  let c1_i32_247 : BitVec 32 := 1#32
  let arg12 : BitVec 32 := Scf.iv v402 c1_i32_247 k0_t2
  let c512_i32_280 : BitVec 32 := 512#32
  let v431 : BitVec 32 := Scalar.muli arg12 c512_i32_280
  let v432 : BitVec 32 := v431
  let v445 : Index := Scalar.indexCast v432
  let c128_292 : Index := 128#32
  ![v445.toNat, 128]
def k0_off19 (i : grid0.Coords) (k0_t2 : Fin (k0_t2_loop i).trips) : Fin 2 → Nat :=
  let c0_i32_245 : BitVec 32 := 0#32
  let arg2 : BitVec 32 := BitVec.ofNat 32 (i 2).val
  let v398 : BitVec 32 := Scalar.subi arg2 c0_i32_245
  let c1_i32 : BitVec 32 := 1#32
  let v400 : BitVec 32 := Scalar.divsi v398 c1_i32
  let v401 : BitVec 32 := Scalar.muli v400 c1_i32
  let v402 : BitVec 32 := Scalar.addi c0_i32_245 v401
  let c1_i32_247 : BitVec 32 := 1#32
  let arg12 : BitVec 32 := Scf.iv v402 c1_i32_247 k0_t2
  let c512_i32_280 : BitVec 32 := 512#32
  let v431 : BitVec 32 := Scalar.muli arg12 c512_i32_280
  let v432 : BitVec 32 := v431
  let v454 : Index := Scalar.indexCast v432
  let c256_299 : Index := 256#32
  ![v454.toNat, 256]
def k0_off20 (i : grid0.Coords) (k0_t2 : Fin (k0_t2_loop i).trips) : Fin 2 → Nat :=
  let c0_i32_245 : BitVec 32 := 0#32
  let arg2 : BitVec 32 := BitVec.ofNat 32 (i 2).val
  let v398 : BitVec 32 := Scalar.subi arg2 c0_i32_245
  let c1_i32 : BitVec 32 := 1#32
  let v400 : BitVec 32 := Scalar.divsi v398 c1_i32
  let v401 : BitVec 32 := Scalar.muli v400 c1_i32
  let v402 : BitVec 32 := Scalar.addi c0_i32_245 v401
  let c1_i32_247 : BitVec 32 := 1#32
  let arg12 : BitVec 32 := Scf.iv v402 c1_i32_247 k0_t2
  let c512_i32_280 : BitVec 32 := 512#32
  let v431 : BitVec 32 := Scalar.muli arg12 c512_i32_280
  let v432 : BitVec 32 := v431
  let v463 : Index := Scalar.indexCast v432
  let c384_306 : Index := 384#32
  ![v463.toNat, 384]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "neg" => some ⊥
  | _ => none
-- ==== ReferenceIdeal.lean ====
abbrev S8192x1024 : Shape := ⟨2, ![8192, 1024]⟩
abbrev S8192x128 : Shape := ⟨2, ![8192, 128]⟩
abbrev S2x4096x8x128 : Shape := ⟨4, ![2, 4096, 8, 128]⟩
abbrev S2x8x4096x128 : Shape := ⟨4, ![2, 8, 4096, 128]⟩
abbrev S2x8x4096x256 : Shape := ⟨4, ![2, 8, 4096, 256]⟩
abbrev S2x1x4096x128 : Shape := ⟨4, ![2, 1, 4096, 128]⟩
abbrev S2x8x4096x4096 : Shape := ⟨4, ![2, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x8x4096 : Shape := ⟨3, ![2, 8, 4096]⟩
abbrev S2x8x4096x1 : Shape := ⟨4, ![2, 8, 4096, 1]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x128, .bf16⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x128, .f32⟩
  | .hbm, ⟨10, _⟩ => ⟨S2x4096x8x128, .f32⟩
  | .hbm, ⟨11, _⟩ => ⟨S2x8x4096x128, .f32⟩
  | .hbm, ⟨12, _⟩ => ⟨S2x4096x8x128, .f32⟩
  | .hbm, ⟨13, _⟩ => ⟨S2x8x4096x128, .f32⟩
  | .hbm, ⟨14, _⟩ => ⟨S2x8x4096x256, .f32⟩
  | .hbm, ⟨15, _⟩ => ⟨S2x1x4096x128, .f32⟩
  | .hbm, ⟨16, _⟩ => ⟨S2x8x4096x128, .f32⟩
  | .hbm, ⟨17, _⟩ => ⟨S2x4096x8x128, .f32⟩
  | .hbm, ⟨18, _⟩ => ⟨S2x8x4096x128, .f32⟩
  | .hbm, ⟨19, _⟩ => ⟨S2x8x4096x256, .f32⟩
  | .hbm, ⟨20, _⟩ => ⟨S2x8x4096x4096, .f32⟩
  | .hbm, ⟨21, _⟩ => ⟨S_, .f32⟩
  | .hbm, ⟨22, _⟩ => ⟨S_, .f32⟩
  | .hbm, ⟨23, _⟩ => ⟨S2x8x4096x4096, .f32⟩
  | .hbm, ⟨24, _⟩ => ⟨S2x8x4096x4096, .f32⟩
  | .hbm, ⟨25, _⟩ => ⟨S4096, .i32⟩
  | .hbm, ⟨26, _⟩ => ⟨S1x4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S2x8x4096x4096, .i1⟩
  | .hbm, ⟨34, _⟩ => ⟨S2x8x4096x4096, .f32⟩
  | .hbm, ⟨35, _⟩ => ⟨S2x8x4096x4096, .f32⟩
  | .hbm, ⟨36, _⟩ => ⟨S_, .f32⟩
  | .hbm, ⟨37, _⟩ => ⟨S2x8x4096, .f32⟩
  | .hbm, ⟨38, _⟩ => ⟨S_, .f32⟩
  | .hbm, ⟨39, _⟩ => ⟨S2x8x4096, .f32⟩
  | .hbm, ⟨40, _⟩ => ⟨S2x8x4096, .f32⟩
  | .hbm, ⟨41, _⟩ => ⟨S2x8x4096x1, .f32⟩
  | .hbm, ⟨42, _⟩ => ⟨S2x8x4096x4096, .f32⟩
  | .hbm, ⟨43, _⟩ => ⟨S2x8x4096x4096, .f32⟩
  | .hbm, ⟨44, _⟩ => ⟨S2x8x4096x4096, .f32⟩
  | .hbm, ⟨45, _⟩ => ⟨S_, .f32⟩
  | .hbm, ⟨46, _⟩ => ⟨S2x8x4096, .f32⟩
  | .hbm, ⟨47, _⟩ => ⟨S2x8x4096x1, .f32⟩
  | .hbm, ⟨48, _⟩ => ⟨S2x8x4096x4096, .f32⟩
  | .hbm, ⟨49, _⟩ => ⟨S2x8x4096x4096, .f32⟩
  | .hbm, ⟨50, _⟩ => ⟨S2x4096x8x128, .f32⟩
  | .hbm, ⟨51, _⟩ => ⟨S2x8x4096x128, .f32⟩
  | .hbm, ⟨52, _⟩ => ⟨S2x8x4096x128, .f32⟩
  | .hbm, ⟨53, _⟩ => ⟨S2x4096x8x128, .f32⟩
  | .hbm, ⟨54, _⟩ => ⟨S8192x1024, .f32⟩
  | .hbm, ⟨55, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Experts.lean ====
abbrev S33 : Shape := ⟨1, ![33]⟩
abbrev S20480x2176 : Shape := ⟨2, ![20480, 2176]⟩
abbrev S2x32x2048x1024 : Shape := ⟨4, ![2, 32, 2048, 1024]⟩
abbrev S2x32x512x2048 : Shape := ⟨4, ![2, 32, 512, 2048]⟩
abbrev S20480x2048 : Shape := ⟨2, ![20480, 2048]⟩
abbrev S1x1x2048x1024 : Shape := ⟨4, ![1, 1, 2048, 1024]⟩
abbrev S1x1x512x2048 : Shape := ⟨4, ![1, 1, 512, 2048]⟩
abbrev S12x128x2176 : Shape := ⟨3, ![12, 128, 2176]⟩
abbrev S2x128x2048 : Shape := ⟨3, ![2, 128, 2048]⟩
abbrev S12 : Shape := ⟨1, ![12]⟩
abbrev S2 : Shape := ⟨1, ![2]⟩
abbrev S1 : Shape := ⟨1, ![1]⟩
abbrev S_ : Shape := ⟨0, ![]⟩
abbrev S1x128x2176 : Shape := ⟨3, ![1, 128, 2176]⟩
abbrev S128x2176 : Shape := ⟨2, ![128, 2176]⟩
abbrev S128x2048 : Shape := ⟨2, ![128, 2048]⟩
abbrev S1x128x2048 : Shape := ⟨3, ![1, 128, 2048]⟩
abbrev S1x128x1 : Shape := ⟨3, ![1, 128, 1]⟩
abbrev S128x1 : Shape := ⟨2, ![128, 1]⟩
abbrev S2048x1024 : Shape := ⟨2, ![2048, 1024]⟩
abbrev S128x1024 : Shape := ⟨2, ![128, 1024]⟩
abbrev S128x512 : Shape := ⟨2, ![128, 512]⟩
abbrev S512x2048 : Shape := ⟨2, ![512, 2048]⟩

abbrev nBuf : Space → Nat
  | .hbm => 4
  | .vmem => 6
  | .smem => 1
  | _ => 0

abbrev bufTy : (tb : Table) → Fin (tcTables nBuf tb) → BufTy
  | .hbm, ⟨0, _⟩ => ⟨S20480x2176, .f32⟩
  | .hbm, ⟨1, _⟩ => ⟨S2x32x2048x1024, .f32⟩
  | .hbm, ⟨2, _⟩ => ⟨S2x32x512x2048, .f32⟩
  | .hbm, ⟨3, _⟩ => ⟨S20480x2048, .f32⟩
  | .local _ .vmem, ⟨0, _⟩ => ⟨S1x1x2048x1024, .f32⟩
  | .local _ .vmem, ⟨1, _⟩ => ⟨S1x1x2048x1024, .f32⟩
  | .local _ .vmem, ⟨2, _⟩ => ⟨S1x1x512x2048, .f32⟩
  | .local _ .vmem, ⟨3, _⟩ => ⟨S1x1x512x2048, .f32⟩
  | .local _ .vmem, ⟨4, _⟩ => ⟨S12x128x2176, .f32⟩
  | .local _ .vmem, ⟨5, _⟩ => ⟨S2x128x2048, .f32⟩
  | .local _ .smem, ⟨0, _⟩ => ⟨S33, .i32⟩
  | _, _ => ⟨S20480x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32_4 : BitVec 32 := 1#32
  let v19 : BitVec 32 := Scalar.addi arg0 c1_i32_4
  let v20 : Index := Scalar.indexCast v19
  ![v20.toNat]
def k0_cond1 (i : grid0.Coords) : BitVec 1 :=
  let arg0 : BitVec 32 := BitVec.ofNat 32 (i 0).val
  let c0_i32_19 : BitVec 32 := 0#32
  let v58 : BitVec 1 := Scalar.cmpi .eq arg0 c0_i32_19
  let v59 : BitVec 32 := Scalar.extui v58
  let c0_i32_20 : BitVec 32 := 0#32
  let v60 : BitVec 1 := Scalar.cmpi .ne v59 c0_i32_20
  v60

def k0_mult1 (v40 : BitVec 32) : BitVec 32 :=
  let c0_i32_25 : BitVec 32 := 0#32
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c128_i32_12 : BitVec 32 := 128#32
  let c0_i32_15 : BitVec 32 := 0#32
  let v47 : BitVec 1 := Scalar.cmpi .sgt c128_i32_12 c0_i32_15
  let v48 : BitVec 32 := Scalar.extui v47
  let c0_i32_16 : BitVec 32 := 0#32
  let v49 : BitVec 1 := Scalar.cmpi .slt c128_i32_12 c0_i32_16
  let v50 : BitVec 32 := Scalar.extui v49
  let v51 : BitVec 32 := Scalar.subi v48 v50
  let v52 : BitVec 1 := Scalar.cmpi .ne v46 v51
  let v53 : BitVec 32 := Scalar.remsi v40 c128_i32_12
  let c0_i32_17 : BitVec 32 := 0#32
  let v54 : BitVec 1 := Scalar.cmpi .ne v53 c0_i32_17
  let v55 : BitVec 1 := Scalar.andi v52 v54
  let v41 : BitVec 32 := Scalar.divsi v40 c128_i32_12
  let c1_i32_18 : BitVec 32 := 1#32
  let v56 : BitVec 32 := Scalar.subi v41 c1_i32_18
  let v57 : BitVec 32 := Scalar.select v55 v56 v41
  let c1_i32_24 : BitVec 32 := 1#32
  let v67 : BitVec 32 := Scalar.subi v57 c1_i32_24
  let v68 : BitVec 32 := Scalar.minsi c0_i32_25 v67
  let c128_i32_26 : BitVec 32 := 128#32
  let v69 : BitVec 32 := Scalar.muli v68 c128_i32_26
  v69

def k0_off3 (v40 : BitVec 32) (c0_i32_25 : BitVec 32) : Fin 2 → Nat :=
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c128_i32_12 : BitVec 32 := 128#32
  let c0_i32_15 : BitVec 32 := 0#32
  let v47 : BitVec 1 := Scalar.cmpi .sgt c128_i32_12 c0_i32_15
  let v48 : BitVec 32 := Scalar.extui v47
  let c0_i32_16 : BitVec 32 := 0#32
  let v49 : BitVec 1 := Scalar.cmpi .slt c128_i32_12 c0_i32_16
  let v50 : BitVec 32 := Scalar.extui v49
  let v51 : BitVec 32 := Scalar.subi v48 v50
  let v52 : BitVec 1 := Scalar.cmpi .ne v46 v51
  let v53 : BitVec 32 := Scalar.remsi v40 c128_i32_12
  let c0_i32_17 : BitVec 32 := 0#32
  let v54 : BitVec 1 := Scalar.cmpi .ne v53 c0_i32_17
  let v55 : BitVec 1 := Scalar.andi v52 v54
  let v41 : BitVec 32 := Scalar.divsi v40 c128_i32_12
  let c1_i32_18 : BitVec 32 := 1#32
  let v56 : BitVec 32 := Scalar.subi v41 c1_i32_18
  let v57 : BitVec 32 := Scalar.select v55 v56 v41
  let c1_i32_24 : BitVec 32 := 1#32
  let v67 : BitVec 32 := Scalar.subi v57 c1_i32_24
  let v68 : BitVec 32 := Scalar.minsi c0_i32_25 v67
  let c128_i32_26 : BitVec 32 := 128#32
  let v69 : BitVec 32 := Scalar.muli v68 c128_i32_26
  let v70 : BitVec 32 := v69
  let c0_i32_31 : BitVec 32 := 0#32
  ![v70.toNat, 0]
def k0_mult2 (v40 : BitVec 32) : BitVec 32 :=
  let c1_i32_33 : BitVec 32 := 1#32
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c128_i32_12 : BitVec 32 := 128#32
  let c0_i32_15 : BitVec 32 := 0#32
  let v47 : BitVec 1 := Scalar.cmpi .sgt c128_i32_12 c0_i32_15
  let v48 : BitVec 32 := Scalar.extui v47
  let c0_i32_16 : BitVec 32 := 0#32
  let v49 : BitVec 1 := Scalar.cmpi .slt c128_i32_12 c0_i32_16
  let v50 : BitVec 32 := Scalar.extui v49
  let v51 : BitVec 32 := Scalar.subi v48 v50
  let v52 : BitVec 1 := Scalar.cmpi .ne v46 v51
  let v53 : BitVec 32 := Scalar.remsi v40 c128_i32_12
  let c0_i32_17 : BitVec 32 := 0#32
  let v54 : BitVec 1 := Scalar.cmpi .ne v53 c0_i32_17
  let v55 : BitVec 1 := Scalar.andi v52 v54
  let v41 : BitVec 32 := Scalar.divsi v40 c128_i32_12
  let c1_i32_18 : BitVec 32 := 1#32
  let v56 : BitVec 32 := Scalar.subi v41 c1_i32_18
  let v57 : BitVec 32 := Scalar.select v55 v56 v41
  let c1_i32_32 : BitVec 32 := 1#32
  let v76 : BitVec 32 := Scalar.subi v57 c1_i32_32
  let v77 : BitVec 32 := Scalar.minsi c1_i32_33 v76
  let c128_i32_34 : BitVec 32 := 128#32
  let v78 : BitVec 32 := Scalar.muli v77 c128_i32_34
  v78
def k0_mult3 (v40 : BitVec 32) : BitVec 32 :=
  let c2_i32 : BitVec 32 := 2#32
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c128_i32_12 : BitVec 32 := 128#32
  let c0_i32_15 : BitVec 32 := 0#32
  let v47 : BitVec 1 := Scalar.cmpi .sgt c128_i32_12 c0_i32_15
  let v48 : BitVec 32 := Scalar.extui v47
  let c0_i32_16 : BitVec 32 := 0#32
  let v49 : BitVec 1 := Scalar.cmpi .slt c128_i32_12 c0_i32_16
  let v50 : BitVec 32 := Scalar.extui v49
  let v51 : BitVec 32 := Scalar.subi v48 v50
  let v52 : BitVec 1 := Scalar.cmpi .ne v46 v51
  let v53 : BitVec 32 := Scalar.remsi v40 c128_i32_12
  let c0_i32_17 : BitVec 32 := 0#32
  let v54 : BitVec 1 := Scalar.cmpi .ne v53 c0_i32_17
  let v55 : BitVec 1 := Scalar.andi v52 v54
  let v41 : BitVec 32 := Scalar.divsi v40 c128_i32_12
  let c1_i32_18 : BitVec 32 := 1#32
  let v56 : BitVec 32 := Scalar.subi v41 c1_i32_18
  let v57 : BitVec 32 := Scalar.select v55 v56 v41
  let c1_i32_40 : BitVec 32 := 1#32
  let v85 : BitVec 32 := Scalar.subi v57 c1_i32_40
  let v86 : BitVec 32 := Scalar.minsi c2_i32 v85
  let c128_i32_41 : BitVec 32 := 128#32
  let v87 : BitVec 32 := Scalar.muli v86 c128_i32_41
  v87
def k0_mult4 (v40 : BitVec 32) : BitVec 32 :=
  let c3_i32 : BitVec 32 := 3#32
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c128_i32_12 : BitVec 32 := 128#32
  let c0_i32_15 : BitVec 32 := 0#32
  let v47 : BitVec 1 := Scalar.cmpi .sgt c128_i32_12 c0_i32_15
  let v48 : BitVec 32 := Scalar.extui v47
  let c0_i32_16 : BitVec 32 := 0#32
  let v49 : BitVec 1 := Scalar.cmpi .slt c128_i32_12 c0_i32_16
  let v50 : BitVec 32 := Scalar.extui v49
  let v51 : BitVec 32 := Scalar.subi v48 v50
  let v52 : BitVec 1 := Scalar.cmpi .ne v46 v51
  let v53 : BitVec 32 := Scalar.remsi v40 c128_i32_12
  let c0_i32_17 : BitVec 32 := 0#32
  let v54 : BitVec 1 := Scalar.cmpi .ne v53 c0_i32_17
  let v55 : BitVec 1 := Scalar.andi v52 v54
  let v41 : BitVec 32 := Scalar.divsi v40 c128_i32_12
  let c1_i32_18 : BitVec 32 := 1#32
  let v56 : BitVec 32 := Scalar.subi v41 c1_i32_18
  let v57 : BitVec 32 := Scalar.select v55 v56 v41
  let c1_i32_47 : BitVec 32 := 1#32
  let v94 : BitVec 32 := Scalar.subi v57 c1_i32_47
  let v95 : BitVec 32 := Scalar.minsi c3_i32 v94
  let c128_i32_48 : BitVec 32 := 128#32
  let v96 : BitVec 32 := Scalar.muli v95 c128_i32_48
  v96
def k0_mult5 (v40 : BitVec 32) : BitVec 32 :=
  let c4_i32 : BitVec 32 := 4#32
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c128_i32_12 : BitVec 32 := 128#32
  let c0_i32_15 : BitVec 32 := 0#32
  let v47 : BitVec 1 := Scalar.cmpi .sgt c128_i32_12 c0_i32_15
  let v48 : BitVec 32 := Scalar.extui v47
  let c0_i32_16 : BitVec 32 := 0#32
  let v49 : BitVec 1 := Scalar.cmpi .slt c128_i32_12 c0_i32_16
  let v50 : BitVec 32 := Scalar.extui v49
  let v51 : BitVec 32 := Scalar.subi v48 v50
  let v52 : BitVec 1 := Scalar.cmpi .ne v46 v51
  let v53 : BitVec 32 := Scalar.remsi v40 c128_i32_12
  let c0_i32_17 : BitVec 32 := 0#32
  let v54 : BitVec 1 := Scalar.cmpi .ne v53 c0_i32_17
  let v55 : BitVec 1 := Scalar.andi v52 v54
  let v41 : BitVec 32 := Scalar.divsi v40 c128_i32_12
  let c1_i32_18 : BitVec 32 := 1#32
  let v56 : BitVec 32 := Scalar.subi v41 c1_i32_18
  let v57 : BitVec 32 := Scalar.select v55 v56 v41
  let c1_i32_54 : BitVec 32 := 1#32
  let v103 : BitVec 32 := Scalar.subi v57 c1_i32_54
  let v104 : BitVec 32 := Scalar.minsi c4_i32 v103
  let c128_i32_55 : BitVec 32 := 128#32
  let v105 : BitVec 32 := Scalar.muli v104 c128_i32_55
  v105
def k0_mult6 (v40 : BitVec 32) : BitVec 32 :=
  let c5_i32 : BitVec 32 := 5#32
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c128_i32_12 : BitVec 32 := 128#32
  let c0_i32_15 : BitVec 32 := 0#32
  let v47 : BitVec 1 := Scalar.cmpi .sgt c128_i32_12 c0_i32_15
  let v48 : BitVec 32 := Scalar.extui v47
  let c0_i32_16 : BitVec 32 := 0#32
  let v49 : BitVec 1 := Scalar.cmpi .slt c128_i32_12 c0_i32_16
  let v50 : BitVec 32 := Scalar.extui v49
  let v51 : BitVec 32 := Scalar.subi v48 v50
  let v52 : BitVec 1 := Scalar.cmpi .ne v46 v51
  let v53 : BitVec 32 := Scalar.remsi v40 c128_i32_12
  let c0_i32_17 : BitVec 32 := 0#32
  let v54 : BitVec 1 := Scalar.cmpi .ne v53 c0_i32_17
  let v55 : BitVec 1 := Scalar.andi v52 v54
  let v41 : BitVec 32 := Scalar.divsi v40 c128_i32_12
  let c1_i32_18 : BitVec 32 := 1#32
  let v56 : BitVec 32 := Scalar.subi v41 c1_i32_18
  let v57 : BitVec 32 := Scalar.select v55 v56 v41
  let c1_i32_61 : BitVec 32 := 1#32
  let v112 : BitVec 32 := Scalar.subi v57 c1_i32_61
  let v113 : BitVec 32 := Scalar.minsi c5_i32 v112
  let c128_i32_62 : BitVec 32 := 128#32
  let v114 : BitVec 32 := Scalar.muli v113 c128_i32_62
  v114
def k0_mult7 (v40 : BitVec 32) : BitVec 32 :=
  let c6_i32 : BitVec 32 := 6#32
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c128_i32_12 : BitVec 32 := 128#32
  let c0_i32_15 : BitVec 32 := 0#32
  let v47 : BitVec 1 := Scalar.cmpi .sgt c128_i32_12 c0_i32_15
  let v48 : BitVec 32 := Scalar.extui v47
  let c0_i32_16 : BitVec 32 := 0#32
  let v49 : BitVec 1 := Scalar.cmpi .slt c128_i32_12 c0_i32_16
  let v50 : BitVec 32 := Scalar.extui v49
  let v51 : BitVec 32 := Scalar.subi v48 v50
  let v52 : BitVec 1 := Scalar.cmpi .ne v46 v51
  let v53 : BitVec 32 := Scalar.remsi v40 c128_i32_12
  let c0_i32_17 : BitVec 32 := 0#32
  let v54 : BitVec 1 := Scalar.cmpi .ne v53 c0_i32_17
  let v55 : BitVec 1 := Scalar.andi v52 v54
  let v41 : BitVec 32 := Scalar.divsi v40 c128_i32_12
  let c1_i32_18 : BitVec 32 := 1#32
  let v56 : BitVec 32 := Scalar.subi v41 c1_i32_18
  let v57 : BitVec 32 := Scalar.select v55 v56 v41
  let c1_i32_68 : BitVec 32 := 1#32
  let v121 : BitVec 32 := Scalar.subi v57 c1_i32_68
  let v122 : BitVec 32 := Scalar.minsi c6_i32 v121
  let c128_i32_69 : BitVec 32 := 128#32
  let v123 : BitVec 32 := Scalar.muli v122 c128_i32_69
  v123
def k0_mult8 (v40 : BitVec 32) : BitVec 32 :=
  let c7_i32 : BitVec 32 := 7#32
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c128_i32_12 : BitVec 32 := 128#32
  let c0_i32_15 : BitVec 32 := 0#32
  let v47 : BitVec 1 := Scalar.cmpi .sgt c128_i32_12 c0_i32_15
  let v48 : BitVec 32 := Scalar.extui v47
  let c0_i32_16 : BitVec 32 := 0#32
  let v49 : BitVec 1 := Scalar.cmpi .slt c128_i32_12 c0_i32_16
  let v50 : BitVec 32 := Scalar.extui v49
  let v51 : BitVec 32 := Scalar.subi v48 v50
  let v52 : BitVec 1 := Scalar.cmpi .ne v46 v51
  let v53 : BitVec 32 := Scalar.remsi v40 c128_i32_12
  let c0_i32_17 : BitVec 32 := 0#32
  let v54 : BitVec 1 := Scalar.cmpi .ne v53 c0_i32_17
  let v55 : BitVec 1 := Scalar.andi v52 v54
  let v41 : BitVec 32 := Scalar.divsi v40 c128_i32_12
  let c1_i32_18 : BitVec 32 := 1#32
  let v56 : BitVec 32 := Scalar.subi v41 c1_i32_18
  let v57 : BitVec 32 := Scalar.select v55 v56 v41
  let c1_i32_75 : BitVec 32 := 1#32
  let v130 : BitVec 32 := Scalar.subi v57 c1_i32_75
  let v131 : BitVec 32 := Scalar.minsi c7_i32 v130
  let c128_i32_76 : BitVec 32 := 128#32
  let v132 : BitVec 32 := Scalar.muli v131 c128_i32_76
  v132
def k0_mult9 (v40 : BitVec 32) : BitVec 32 :=
  let c8_i32 : BitVec 32 := 8#32
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c128_i32_12 : BitVec 32 := 128#32
  let c0_i32_15 : BitVec 32 := 0#32
  let v47 : BitVec 1 := Scalar.cmpi .sgt c128_i32_12 c0_i32_15
  let v48 : BitVec 32 := Scalar.extui v47
  let c0_i32_16 : BitVec 32 := 0#32
  let v49 : BitVec 1 := Scalar.cmpi .slt c128_i32_12 c0_i32_16
  let v50 : BitVec 32 := Scalar.extui v49
  let v51 : BitVec 32 := Scalar.subi v48 v50
  let v52 : BitVec 1 := Scalar.cmpi .ne v46 v51
  let v53 : BitVec 32 := Scalar.remsi v40 c128_i32_12
  let c0_i32_17 : BitVec 32 := 0#32
  let v54 : BitVec 1 := Scalar.cmpi .ne v53 c0_i32_17
  let v55 : BitVec 1 := Scalar.andi v52 v54
  let v41 : BitVec 32 := Scalar.divsi v40 c128_i32_12
  let c1_i32_18 : BitVec 32 := 1#32
  let v56 : BitVec 32 := Scalar.subi v41 c1_i32_18
  let v57 : BitVec 32 := Scalar.select v55 v56 v41
  let c1_i32_82 : BitVec 32 := 1#32
  let v139 : BitVec 32 := Scalar.subi v57 c1_i32_82
  let v140 : BitVec 32 := Scalar.minsi c8_i32 v139
  let c128_i32_83 : BitVec 32 := 128#32
  let v141 : BitVec 32 := Scalar.muli v140 c128_i32_83
  v141
def k0_mult10 (v40 : BitVec 32) : BitVec 32 :=
  let c9_i32 : BitVec 32 := 9#32
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c128_i32_12 : BitVec 32 := 128#32
  let c0_i32_15 : BitVec 32 := 0#32
  let v47 : BitVec 1 := Scalar.cmpi .sgt c128_i32_12 c0_i32_15
  let v48 : BitVec 32 := Scalar.extui v47
  let c0_i32_16 : BitVec 32 := 0#32
  let v49 : BitVec 1 := Scalar.cmpi .slt c128_i32_12 c0_i32_16
  let v50 : BitVec 32 := Scalar.extui v49
  let v51 : BitVec 32 := Scalar.subi v48 v50
  let v52 : BitVec 1 := Scalar.cmpi .ne v46 v51
  let v53 : BitVec 32 := Scalar.remsi v40 c128_i32_12
  let c0_i32_17 : BitVec 32 := 0#32
  let v54 : BitVec 1 := Scalar.cmpi .ne v53 c0_i32_17
  let v55 : BitVec 1 := Scalar.andi v52 v54
  let v41 : BitVec 32 := Scalar.divsi v40 c128_i32_12
  let c1_i32_18 : BitVec 32 := 1#32
  let v56 : BitVec 32 := Scalar.subi v41 c1_i32_18
  let v57 : BitVec 32 := Scalar.select v55 v56 v41
  let c1_i32_89 : BitVec 32 := 1#32
  let v148 : BitVec 32 := Scalar.subi v57 c1_i32_89
  let v149 : BitVec 32 := Scalar.minsi c9_i32 v148
  let c128_i32_90 : BitVec 32 := 128#32
  let v150 : BitVec 32 := Scalar.muli v149 c128_i32_90
  v150
def k0_mult11 (v40 : BitVec 32) : BitVec 32 :=
  let c10_i32 : BitVec 32 := 10#32
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c128_i32_12 : BitVec 32 := 128#32
  let c0_i32_15 : BitVec 32 := 0#32
  let v47 : BitVec 1 := Scalar.cmpi .sgt c128_i32_12 c0_i32_15
  let v48 : BitVec 32 := Scalar.extui v47
  let c0_i32_16 : BitVec 32 := 0#32
  let v49 : BitVec 1 := Scalar.cmpi .slt c128_i32_12 c0_i32_16
  let v50 : BitVec 32 := Scalar.extui v49
  let v51 : BitVec 32 := Scalar.subi v48 v50
  let v52 : BitVec 1 := Scalar.cmpi .ne v46 v51
  let v53 : BitVec 32 := Scalar.remsi v40 c128_i32_12
  let c0_i32_17 : BitVec 32 := 0#32
  let v54 : BitVec 1 := Scalar.cmpi .ne v53 c0_i32_17
  let v55 : BitVec 1 := Scalar.andi v52 v54
  let v41 : BitVec 32 := Scalar.divsi v40 c128_i32_12
  let c1_i32_18 : BitVec 32 := 1#32
  let v56 : BitVec 32 := Scalar.subi v41 c1_i32_18
  let v57 : BitVec 32 := Scalar.select v55 v56 v41
  let c1_i32_96 : BitVec 32 := 1#32
  let v157 : BitVec 32 := Scalar.subi v57 c1_i32_96
  let v158 : BitVec 32 := Scalar.minsi c10_i32 v157
  let c128_i32_97 : BitVec 32 := 128#32
  let v159 : BitVec 32 := Scalar.muli v158 c128_i32_97
  v159
def k0_mult12 : BitVec 32 :=
  let c0_i32_105 : BitVec 32 := 0#32
  c0_i32_105
def k0_mult13 : BitVec 32 :=
  let c128_i32_111 : BitVec 32 := 128#32
  c128_i32_111
@[reducible] def k0_t1_loop (v1 : BitVec 32) (v21 : BitVec 32) : Scf.Loop 32 :=
  let c0_i32_25 : BitVec 32 := 0#32
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c128_i32_5 : BitVec 32 := 128#32
  let c0_i32_8 : BitVec 32 := 0#32
  let v28 : BitVec 1 := Scalar.cmpi .sgt c128_i32_5 c0_i32_8
  let v29 : BitVec 32 := Scalar.extui v28
  let c0_i32_9 : BitVec 32 := 0#32
  let v30 : BitVec 1 := Scalar.cmpi .slt c128_i32_5 c0_i32_9
  let v31 : BitVec 32 := Scalar.extui v30
  let v32 : BitVec 32 := Scalar.subi v29 v31
  let v33 : BitVec 1 := Scalar.cmpi .ne v27 v32
  let v34 : BitVec 32 := Scalar.remsi v21 c128_i32_5
  let c0_i32_10 : BitVec 32 := 0#32
  let v35 : BitVec 1 := Scalar.cmpi .ne v34 c0_i32_10
  let v36 : BitVec 1 := Scalar.andi v33 v35
  let v22 : BitVec 32 := Scalar.divsi v21 c128_i32_5
  let c1_i32_11 : BitVec 32 := 1#32
  let v37 : BitVec 32 := Scalar.subi v22 c1_i32_11
  let v38 : BitVec 32 := Scalar.select v36 v37 v22
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let v39 : BitVec 32 := Scalar.subi v38 v18
  let v67 : BitVec 32 := Scalar.subi v39 c0_i32_25
  let c1_i32_26 : BitVec 32 := 1#32
  let v69 : BitVec 32 := Scalar.divsi v67 c1_i32_26
  let v70 : BitVec 32 := Scalar.muli v69 c1_i32_26
  let v71 : BitVec 32 := Scalar.addi c0_i32_25 v70
  let c1_i32_27 : BitVec 32 := 1#32
  ⟨c0_i32_25, v71, c1_i32_27⟩
def k0_cond2 (v1 : BitVec 32) (v21 : BitVec 32) : BitVec 1 :=
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c128_i32_5 : BitVec 32 := 128#32
  let c0_i32_8 : BitVec 32 := 0#32
  let v28 : BitVec 1 := Scalar.cmpi .sgt c128_i32_5 c0_i32_8
  let v29 : BitVec 32 := Scalar.extui v28
  let c0_i32_9 : BitVec 32 := 0#32
  let v30 : BitVec 1 := Scalar.cmpi .slt c128_i32_5 c0_i32_9
  let v31 : BitVec 32 := Scalar.extui v30
  let v32 : BitVec 32 := Scalar.subi v29 v31
  let v33 : BitVec 1 := Scalar.cmpi .ne v27 v32
  let v34 : BitVec 32 := Scalar.remsi v21 c128_i32_5
  let c0_i32_10 : BitVec 32 := 0#32
  let v35 : BitVec 1 := Scalar.cmpi .ne v34 c0_i32_10
  let v36 : BitVec 1 := Scalar.andi v33 v35
  let v22 : BitVec 32 := Scalar.divsi v21 c128_i32_5
  let c1_i32_11 : BitVec 32 := 1#32
  let v37 : BitVec 32 := Scalar.subi v22 c1_i32_11
  let v38 : BitVec 32 := Scalar.select v36 v37 v22
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let v39 : BitVec 32 := Scalar.subi v38 v18
  let c0_i32_21 : BitVec 32 := 0#32
  let v61 : BitVec 1 := Scalar.cmpi .sgt v39 c0_i32_21
  let v62 : BitVec 32 := Scalar.extui v61
  let c0_i32_22 : BitVec 32 := 0#32
  let v63 : BitVec 1 := Scalar.cmpi .ne v62 c0_i32_22
  v63

def k0_mult14 (v1 : BitVec 32) (v21 : BitVec 32) (k0_t1 : Fin (k0_t1_loop v1 v21).trips) : BitVec 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c1_i32_27 : BitVec 32 := 1#32
  let arg10 : BitVec 32 := Scf.iv c0_i32_25 c1_i32_27 k0_t1
  let v72 : BitVec 32 := Scalar.addi v18 arg10
  let c128_i32_39 : BitVec 32 := 128#32
  let v93 : BitVec 32 := Scalar.muli v72 c128_i32_39
  v93
def k0_off4 (v1 : BitVec 32) (v21 : BitVec 32) (k0_t1 : Fin (k0_t1_loop v1 v21).trips) : Fin 1 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c1_i32_27 : BitVec 32 := 1#32
  let arg10 : BitVec 32 := Scf.iv c0_i32_25 c1_i32_27 k0_t1
  let v72 : BitVec 32 := Scalar.addi v18 arg10
  let c12_i32 : BitVec 32 := 12#32
  let c0_i32_34 : BitVec 32 := 0#32
  let v83 : BitVec 1 := Scalar.cmpi .eq c12_i32 c0_i32_34
  let c1_i32_35 : BitVec 32 := 1#32
  let v84 : BitVec 32 := Scalar.select v83 c1_i32_35 c12_i32
  let v85 : BitVec 32 := Scalar.remsi v72 v84
  let c0_i32_37 : BitVec 32 := 0#32
  let v87 : BitVec 1 := Scalar.cmpi .slt v85 c0_i32_37
  let c0_i32_38 : BitVec 32 := 0#32
  let v88 : BitVec 1 := Scalar.cmpi .slt v84 c0_i32_38
  let v89 : BitVec 1 := Scalar.xori v87 v88
  let c0_i32_36 : BitVec 32 := 0#32
  let v86 : BitVec 1 := Scalar.cmpi .ne v85 c0_i32_36
  let v90 : BitVec 1 := Scalar.andi v89 v86
  let v91 : BitVec 32 := Scalar.addi v85 v84
  let v92 : BitVec 32 := Scalar.select v90 v91 v85
  ![v92.toNat]
def k0_off5 (v1 : BitVec 32) (v21 : BitVec 32) (k0_t1 : Fin (k0_t1_loop v1 v21).trips) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c1_i32_27 : BitVec 32 := 1#32
  let arg10 : BitVec 32 := Scf.iv c0_i32_25 c1_i32_27 k0_t1
  let v72 : BitVec 32 := Scalar.addi v18 arg10
  let c12_i32 : BitVec 32 := 12#32
  let c0_i32_34 : BitVec 32 := 0#32
  let v83 : BitVec 1 := Scalar.cmpi .eq c12_i32 c0_i32_34
  let c1_i32_35 : BitVec 32 := 1#32
  let v84 : BitVec 32 := Scalar.select v83 c1_i32_35 c12_i32
  let v85 : BitVec 32 := Scalar.remsi v72 v84
  let c0_i32_37 : BitVec 32 := 0#32
  let v87 : BitVec 1 := Scalar.cmpi .slt v85 c0_i32_37
  let c0_i32_38 : BitVec 32 := 0#32
  let v88 : BitVec 1 := Scalar.cmpi .slt v84 c0_i32_38
  let v89 : BitVec 1 := Scalar.xori v87 v88
  let c0_i32_36 : BitVec 32 := 0#32
  let v86 : BitVec 1 := Scalar.cmpi .ne v85 c0_i32_36
  let v90 : BitVec 1 := Scalar.andi v89 v86
  let v91 : BitVec 32 := Scalar.addi v85 v84
  let v92 : BitVec 32 := Scalar.select v90 v91 v85
  let c0_i32_40 : BitVec 32 := 0#32
  let c0_i32_41 : BitVec 32 := 0#32
  ![v92.toNat, 0, 0]
def k0_off6 (v1 : BitVec 32) (v21 : BitVec 32) (k0_t1 : Fin (k0_t1_loop v1 v21).trips) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c1_i32_27 : BitVec 32 := 1#32
  let arg10 : BitVec 32 := Scf.iv c0_i32_25 c1_i32_27 k0_t1
  let v72 : BitVec 32 := Scalar.addi v18 arg10
  let c128_i32_39 : BitVec 32 := 128#32
  let v93 : BitVec 32 := Scalar.muli v72 c128_i32_39
  let v94 : BitVec 32 := v93
  let c0_i32_42 : BitVec 32 := 0#32
  ![v94.toNat, 0]
def k0_mult15 (v1 : BitVec 32) (v21 : BitVec 32) (k0_t1 : Fin (k0_t1_loop v1 v21).trips) : BitVec 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c1_i32_27 : BitVec 32 := 1#32
  let arg10 : BitVec 32 := Scf.iv c0_i32_25 c1_i32_27 k0_t1
  let v72 : BitVec 32 := Scalar.addi v18 arg10
  let c128_i32_43 : BitVec 32 := 128#32
  let v100 : BitVec 32 := Scalar.muli v72 c128_i32_43
  v100
def k0_off7 (v1 : BitVec 32) (v21 : BitVec 32) (k0_t1 : Fin (k0_t1_loop v1 v21).trips) : Fin 1 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c1_i32_27 : BitVec 32 := 1#32
  let arg10 : BitVec 32 := Scf.iv c0_i32_25 c1_i32_27 k0_t1
  let v72 : BitVec 32 := Scalar.addi v18 arg10
  let c2_i32 : BitVec 32 := 2#32
  let c0_i32_29 : BitVec 32 := 0#32
  let v73 : BitVec 1 := Scalar.cmpi .eq c2_i32 c0_i32_29
  let c1_i32_30 : BitVec 32 := 1#32
  let v74 : BitVec 32 := Scalar.select v73 c1_i32_30 c2_i32
  let v75 : BitVec 32 := Scalar.remsi v72 v74
  let c0_i32_32 : BitVec 32 := 0#32
  let v77 : BitVec 1 := Scalar.cmpi .slt v75 c0_i32_32
  let c0_i32_33 : BitVec 32 := 0#32
  let v78 : BitVec 1 := Scalar.cmpi .slt v74 c0_i32_33
  let v79 : BitVec 1 := Scalar.xori v77 v78
  let c0_i32_31 : BitVec 32 := 0#32
  let v76 : BitVec 1 := Scalar.cmpi .ne v75 c0_i32_31
  let v80 : BitVec 1 := Scalar.andi v79 v76
  let v81 : BitVec 32 := Scalar.addi v75 v74
  let v82 : BitVec 32 := Scalar.select v80 v81 v75
  ![v82.toNat]
def k0_off8 (v1 : BitVec 32) (v21 : BitVec 32) (k0_t1 : Fin (k0_t1_loop v1 v21).trips) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c1_i32_27 : BitVec 32 := 1#32
  let arg10 : BitVec 32 := Scf.iv c0_i32_25 c1_i32_27 k0_t1
  let v72 : BitVec 32 := Scalar.addi v18 arg10
  let c128_i32_43 : BitVec 32 := 128#32
  let v100 : BitVec 32 := Scalar.muli v72 c128_i32_43
  let v101 : BitVec 32 := v100
  let c0_i32_44 : BitVec 32 := 0#32
  ![v101.toNat, 0]
def k0_off9 (v1 : BitVec 32) (v21 : BitVec 32) (k0_t1 : Fin (k0_t1_loop v1 v21).trips) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c1_i32_27 : BitVec 32 := 1#32
  let arg10 : BitVec 32 := Scf.iv c0_i32_25 c1_i32_27 k0_t1
  let v72 : BitVec 32 := Scalar.addi v18 arg10
  let c2_i32 : BitVec 32 := 2#32
  let c0_i32_29 : BitVec 32 := 0#32
  let v73 : BitVec 1 := Scalar.cmpi .eq c2_i32 c0_i32_29
  let c1_i32_30 : BitVec 32 := 1#32
  let v74 : BitVec 32 := Scalar.select v73 c1_i32_30 c2_i32
  let v75 : BitVec 32 := Scalar.remsi v72 v74
  let c0_i32_32 : BitVec 32 := 0#32
  let v77 : BitVec 1 := Scalar.cmpi .slt v75 c0_i32_32
  let c0_i32_33 : BitVec 32 := 0#32
  let v78 : BitVec 1 := Scalar.cmpi .slt v74 c0_i32_33
  let v79 : BitVec 1 := Scalar.xori v77 v78
  let c0_i32_31 : BitVec 32 := 0#32
  let v76 : BitVec 1 := Scalar.cmpi .ne v75 c0_i32_31
  let v80 : BitVec 1 := Scalar.andi v79 v76
  let v81 : BitVec 32 := Scalar.addi v75 v74
  let v82 : BitVec 32 := Scalar.select v80 v81 v75
  let c0_i32_45 : BitVec 32 := 0#32
  let c0_i32_46 : BitVec 32 := 0#32
  ![v82.toNat, 0, 0]
def k0_mult16 (v1 : BitVec 32) (v21 : BitVec 32) (v40 : BitVec 32) (k0_t1 : Fin (k0_t1_loop v1 v21).trips) : BitVec 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c1_i32_27 : BitVec 32 := 1#32
  let arg10 : BitVec 32 := Scf.iv c0_i32_25 c1_i32_27 k0_t1
  let v72 : BitVec 32 := Scalar.addi v18 arg10
  let c12_i32_47 : BitVec 32 := 12#32
  let v107 : BitVec 32 := Scalar.addi v72 c12_i32_47
  let c1_i32_48 : BitVec 32 := 1#32
  let v108 : BitVec 32 := Scalar.subi v107 c1_i32_48
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c128_i32_12 : BitVec 32 := 128#32
  let c0_i32_15 : BitVec 32 := 0#32
  let v47 : BitVec 1 := Scalar.cmpi .sgt c128_i32_12 c0_i32_15
  let v48 : BitVec 32 := Scalar.extui v47
  let c0_i32_16 : BitVec 32 := 0#32
  let v49 : BitVec 1 := Scalar.cmpi .slt c128_i32_12 c0_i32_16
  let v50 : BitVec 32 := Scalar.extui v49
  let v51 : BitVec 32 := Scalar.subi v48 v50
  let v52 : BitVec 1 := Scalar.cmpi .ne v46 v51
  let v53 : BitVec 32 := Scalar.remsi v40 c128_i32_12
  let c0_i32_17 : BitVec 32 := 0#32
  let v54 : BitVec 1 := Scalar.cmpi .ne v53 c0_i32_17
  let v55 : BitVec 1 := Scalar.andi v52 v54
  let v41 : BitVec 32 := Scalar.divsi v40 c128_i32_12
  let c1_i32_18 : BitVec 32 := 1#32
  let v56 : BitVec 32 := Scalar.subi v41 c1_i32_18
  let v57 : BitVec 32 := Scalar.select v55 v56 v41
  let c1_i32_49 : BitVec 32 := 1#32
  let v109 : BitVec 32 := Scalar.subi v57 c1_i32_49
  let v110 : BitVec 32 := Scalar.minsi v108 v109
  let c128_i32_58 : BitVec 32 := 128#32
  let v123 : BitVec 32 := Scalar.muli v110 c128_i32_58
  v123
def k0_off10 (v1 : BitVec 32) (v21 : BitVec 32) (k0_t1 : Fin (k0_t1_loop v1 v21).trips) : Fin 1 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c1_i32_27 : BitVec 32 := 1#32
  let arg10 : BitVec 32 := Scf.iv c0_i32_25 c1_i32_27 k0_t1
  let v72 : BitVec 32 := Scalar.addi v18 arg10
  let c12_i32_50 : BitVec 32 := 12#32
  let v111 : BitVec 32 := Scalar.addi v72 c12_i32_50
  let c1_i32_51 : BitVec 32 := 1#32
  let v112 : BitVec 32 := Scalar.subi v111 c1_i32_51
  let c12_i32_52 : BitVec 32 := 12#32
  let c0_i32_53 : BitVec 32 := 0#32
  let v113 : BitVec 1 := Scalar.cmpi .eq c12_i32_52 c0_i32_53
  let c1_i32_54 : BitVec 32 := 1#32
  let v114 : BitVec 32 := Scalar.select v113 c1_i32_54 c12_i32_52
  let v115 : BitVec 32 := Scalar.remsi v112 v114
  let c0_i32_56 : BitVec 32 := 0#32
  let v117 : BitVec 1 := Scalar.cmpi .slt v115 c0_i32_56
  let c0_i32_57 : BitVec 32 := 0#32
  let v118 : BitVec 1 := Scalar.cmpi .slt v114 c0_i32_57
  let v119 : BitVec 1 := Scalar.xori v117 v118
  let c0_i32_55 : BitVec 32 := 0#32
  let v116 : BitVec 1 := Scalar.cmpi .ne v115 c0_i32_55
  let v120 : BitVec 1 := Scalar.andi v119 v116
  let v121 : BitVec 32 := Scalar.addi v115 v114
  let v122 : BitVec 32 := Scalar.select v120 v121 v115
  ![v122.toNat]
def k0_off11 (v1 : BitVec 32) (v21 : BitVec 32) (k0_t1 : Fin (k0_t1_loop v1 v21).trips) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c1_i32_27 : BitVec 32 := 1#32
  let arg10 : BitVec 32 := Scf.iv c0_i32_25 c1_i32_27 k0_t1
  let v72 : BitVec 32 := Scalar.addi v18 arg10
  let c12_i32_50 : BitVec 32 := 12#32
  let v111 : BitVec 32 := Scalar.addi v72 c12_i32_50
  let c1_i32_51 : BitVec 32 := 1#32
  let v112 : BitVec 32 := Scalar.subi v111 c1_i32_51
  let c12_i32_52 : BitVec 32 := 12#32
  let c0_i32_53 : BitVec 32 := 0#32
  let v113 : BitVec 1 := Scalar.cmpi .eq c12_i32_52 c0_i32_53
  let c1_i32_54 : BitVec 32 := 1#32
  let v114 : BitVec 32 := Scalar.select v113 c1_i32_54 c12_i32_52
  let v115 : BitVec 32 := Scalar.remsi v112 v114
  let c0_i32_56 : BitVec 32 := 0#32
  let v117 : BitVec 1 := Scalar.cmpi .slt v115 c0_i32_56
  let c0_i32_57 : BitVec 32 := 0#32
  let v118 : BitVec 1 := Scalar.cmpi .slt v114 c0_i32_57
  let v119 : BitVec 1 := Scalar.xori v117 v118
  let c0_i32_55 : BitVec 32 := 0#32
  let v116 : BitVec 1 := Scalar.cmpi .ne v115 c0_i32_55
  let v120 : BitVec 1 := Scalar.andi v119 v116
  let v121 : BitVec 32 := Scalar.addi v115 v114
  let v122 : BitVec 32 := Scalar.select v120 v121 v115
  let c0_i32_59 : BitVec 32 := 0#32
  let c0_i32_60 : BitVec 32 := 0#32
  ![v122.toNat, 0, 0]
def k0_off12 (v1 : BitVec 32) (v21 : BitVec 32) (v40 : BitVec 32) (k0_t1 : Fin (k0_t1_loop v1 v21).trips) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c1_i32_27 : BitVec 32 := 1#32
  let arg10 : BitVec 32 := Scf.iv c0_i32_25 c1_i32_27 k0_t1
  let v72 : BitVec 32 := Scalar.addi v18 arg10
  let c12_i32_47 : BitVec 32 := 12#32
  let v107 : BitVec 32 := Scalar.addi v72 c12_i32_47
  let c1_i32_48 : BitVec 32 := 1#32
  let v108 : BitVec 32 := Scalar.subi v107 c1_i32_48
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c128_i32_12 : BitVec 32 := 128#32
  let c0_i32_15 : BitVec 32 := 0#32
  let v47 : BitVec 1 := Scalar.cmpi .sgt c128_i32_12 c0_i32_15
  let v48 : BitVec 32 := Scalar.extui v47
  let c0_i32_16 : BitVec 32 := 0#32
  let v49 : BitVec 1 := Scalar.cmpi .slt c128_i32_12 c0_i32_16
  let v50 : BitVec 32 := Scalar.extui v49
  let v51 : BitVec 32 := Scalar.subi v48 v50
  let v52 : BitVec 1 := Scalar.cmpi .ne v46 v51
  let v53 : BitVec 32 := Scalar.remsi v40 c128_i32_12
  let c0_i32_17 : BitVec 32 := 0#32
  let v54 : BitVec 1 := Scalar.cmpi .ne v53 c0_i32_17
  let v55 : BitVec 1 := Scalar.andi v52 v54
  let v41 : BitVec 32 := Scalar.divsi v40 c128_i32_12
  let c1_i32_18 : BitVec 32 := 1#32
  let v56 : BitVec 32 := Scalar.subi v41 c1_i32_18
  let v57 : BitVec 32 := Scalar.select v55 v56 v41
  let c1_i32_49 : BitVec 32 := 1#32
  let v109 : BitVec 32 := Scalar.subi v57 c1_i32_49
  let v110 : BitVec 32 := Scalar.minsi v108 v109
  let c128_i32_58 : BitVec 32 := 128#32
  let v123 : BitVec 32 := Scalar.muli v110 c128_i32_58
  let v124 : BitVec 32 := v123
  let c0_i32_61 : BitVec 32 := 0#32
  ![v124.toNat, 0]
def k0_off13 (v1 : BitVec 32) (v21 : BitVec 32) (k0_t1 : Fin (k0_t1_loop v1 v21).trips) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c1_i32_27 : BitVec 32 := 1#32
  let arg10 : BitVec 32 := Scf.iv c0_i32_25 c1_i32_27 k0_t1
  let v72 : BitVec 32 := Scalar.addi v18 arg10
  let c12_i32 : BitVec 32 := 12#32
  let c0_i32_34 : BitVec 32 := 0#32
  let v83 : BitVec 1 := Scalar.cmpi .eq c12_i32 c0_i32_34
  let c1_i32_35 : BitVec 32 := 1#32
  let v84 : BitVec 32 := Scalar.select v83 c1_i32_35 c12_i32
  let v85 : BitVec 32 := Scalar.remsi v72 v84
  let c0_i32_37 : BitVec 32 := 0#32
  let v87 : BitVec 1 := Scalar.cmpi .slt v85 c0_i32_37
  let c0_i32_38 : BitVec 32 := 0#32
  let v88 : BitVec 1 := Scalar.cmpi .slt v84 c0_i32_38
  let v89 : BitVec 1 := Scalar.xori v87 v88
  let c0_i32_36 : BitVec 32 := 0#32
  let v86 : BitVec 1 := Scalar.cmpi .ne v85 c0_i32_36
  let v90 : BitVec 1 := Scalar.andi v89 v86
  let v91 : BitVec 32 := Scalar.addi v85 v84
  let v92 : BitVec 32 := Scalar.select v90 v91 v85
  let v130 : Index := Scalar.indexCast v92
  let c0 : Index := 0#32
  let c0_62 : Index := 0#32
  ![v130.toNat, 0, 0]
def k0_off14 (v1 : BitVec 32) (v21 : BitVec 32) (k0_t1 : Fin (k0_t1_loop v1 v21).trips) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c1_i32_27 : BitVec 32 := 1#32
  let arg10 : BitVec 32 := Scf.iv c0_i32_25 c1_i32_27 k0_t1
  let v72 : BitVec 32 := Scalar.addi v18 arg10
  let c12_i32 : BitVec 32 := 12#32
  let c0_i32_34 : BitVec 32 := 0#32
  let v83 : BitVec 1 := Scalar.cmpi .eq c12_i32 c0_i32_34
  let c1_i32_35 : BitVec 32 := 1#32
  let v84 : BitVec 32 := Scalar.select v83 c1_i32_35 c12_i32
  let v85 : BitVec 32 := Scalar.remsi v72 v84
  let c0_i32_37 : BitVec 32 := 0#32
  let v87 : BitVec 1 := Scalar.cmpi .slt v85 c0_i32_37
  let c0_i32_38 : BitVec 32 := 0#32
  let v88 : BitVec 1 := Scalar.cmpi .slt v84 c0_i32_38
  let v89 : BitVec 1 := Scalar.xori v87 v88
  let c0_i32_36 : BitVec 32 := 0#32
  let v86 : BitVec 1 := Scalar.cmpi .ne v85 c0_i32_36
  let v90 : BitVec 1 := Scalar.andi v89 v86
  let v91 : BitVec 32 := Scalar.addi v85 v84
  let v92 : BitVec 32 := Scalar.select v90 v91 v85
  let v133 : Index := Scalar.indexCast v92
  let c0_63 : Index := 0#32
  let c2048 : Index := 2048#32
  ![v133.toNat, 0, 2048]
def k0_off15 (v1 : BitVec 32) (v21 : BitVec 32) (k0_t1 : Fin (k0_t1_loop v1 v21).trips) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c1_i32_27 : BitVec 32 := 1#32
  let arg10 : BitVec 32 := Scf.iv c0_i32_25 c1_i32_27 k0_t1
  let v72 : BitVec 32 := Scalar.addi v18 arg10
  let c12_i32 : BitVec 32 := 12#32
  let c0_i32_34 : BitVec 32 := 0#32
  let v83 : BitVec 1 := Scalar.cmpi .eq c12_i32 c0_i32_34
  let c1_i32_35 : BitVec 32 := 1#32
  let v84 : BitVec 32 := Scalar.select v83 c1_i32_35 c12_i32
  let v85 : BitVec 32 := Scalar.remsi v72 v84
  let c0_i32_37 : BitVec 32 := 0#32
  let v87 : BitVec 1 := Scalar.cmpi .slt v85 c0_i32_37
  let c0_i32_38 : BitVec 32 := 0#32
  let v88 : BitVec 1 := Scalar.cmpi .slt v84 c0_i32_38
  let v89 : BitVec 1 := Scalar.xori v87 v88
  let c0_i32_36 : BitVec 32 := 0#32
  let v86 : BitVec 1 := Scalar.cmpi .ne v85 c0_i32_36
  let v90 : BitVec 1 := Scalar.andi v89 v86
  let v91 : BitVec 32 := Scalar.addi v85 v84
  let v92 : BitVec 32 := Scalar.select v90 v91 v85
  let v136 : Index := Scalar.indexCast v92
  let c0_64 : Index := 0#32
  let c2049 : Index := 2049#32
  ![v136.toNat, 0, 2049]
def k0_off16 (v1 : BitVec 32) (v21 : BitVec 32) (k0_t1 : Fin (k0_t1_loop v1 v21).trips) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c1_i32_27 : BitVec 32 := 1#32
  let arg10 : BitVec 32 := Scf.iv c0_i32_25 c1_i32_27 k0_t1
  let v72 : BitVec 32 := Scalar.addi v18 arg10
  let c2_i32 : BitVec 32 := 2#32
  let c0_i32_29 : BitVec 32 := 0#32
  let v73 : BitVec 1 := Scalar.cmpi .eq c2_i32 c0_i32_29
  let c1_i32_30 : BitVec 32 := 1#32
  let v74 : BitVec 32 := Scalar.select v73 c1_i32_30 c2_i32
  let v75 : BitVec 32 := Scalar.remsi v72 v74
  let c0_i32_32 : BitVec 32 := 0#32
  let v77 : BitVec 1 := Scalar.cmpi .slt v75 c0_i32_32
  let c0_i32_33 : BitVec 32 := 0#32
  let v78 : BitVec 1 := Scalar.cmpi .slt v74 c0_i32_33
  let v79 : BitVec 1 := Scalar.xori v77 v78
  let c0_i32_31 : BitVec 32 := 0#32
  let v76 : BitVec 1 := Scalar.cmpi .ne v75 c0_i32_31
  let v80 : BitVec 1 := Scalar.andi v79 v76
  let v81 : BitVec 32 := Scalar.addi v75 v74
  let v82 : BitVec 32 := Scalar.select v80 v81 v75
  let v159 : Index := Scalar.indexCast v82
  let c0_74 : Index := 0#32
  let c0_75 : Index := 0#32
  ![v159.toNat, 0, 0]
def k0_mult17 (v1 : BitVec 32) (v21 : BitVec 32) (k0_t1 : Fin (k0_t1_loop v1 v21).trips) : BitVec 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c1_i32_27 : BitVec 32 := 1#32
  let arg10 : BitVec 32 := Scf.iv c0_i32_25 c1_i32_27 k0_t1
  let v72 : BitVec 32 := Scalar.addi v18 arg10
  let c128_i32_76 : BitVec 32 := 128#32
  let v163 : BitVec 32 := Scalar.muli v72 c128_i32_76
  v163
@[reducible] def k0_t2_loop (v1 : BitVec 32) (v21 : BitVec 32) : Scf.Loop 32 :=
  let c0_i32_25 : BitVec 32 := 0#32
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c128_i32_5 : BitVec 32 := 128#32
  let c0_i32_8 : BitVec 32 := 0#32
  let v28 : BitVec 1 := Scalar.cmpi .sgt c128_i32_5 c0_i32_8
  let v29 : BitVec 32 := Scalar.extui v28
  let c0_i32_9 : BitVec 32 := 0#32
  let v30 : BitVec 1 := Scalar.cmpi .slt c128_i32_5 c0_i32_9
  let v31 : BitVec 32 := Scalar.extui v30
  let v32 : BitVec 32 := Scalar.subi v29 v31
  let v33 : BitVec 1 := Scalar.cmpi .ne v27 v32
  let v34 : BitVec 32 := Scalar.remsi v21 c128_i32_5
  let c0_i32_10 : BitVec 32 := 0#32
  let v35 : BitVec 1 := Scalar.cmpi .ne v34 c0_i32_10
  let v36 : BitVec 1 := Scalar.andi v33 v35
  let v22 : BitVec 32 := Scalar.divsi v21 c128_i32_5
  let c1_i32_11 : BitVec 32 := 1#32
  let v37 : BitVec 32 := Scalar.subi v22 c1_i32_11
  let v38 : BitVec 32 := Scalar.select v36 v37 v22
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let v39 : BitVec 32 := Scalar.subi v38 v18
  let v67 : BitVec 32 := Scalar.subi v39 c0_i32_25
  let c1_i32_26 : BitVec 32 := 1#32
  let v69 : BitVec 32 := Scalar.divsi v67 c1_i32_26
  let v70 : BitVec 32 := Scalar.muli v69 c1_i32_26
  let v71 : BitVec 32 := Scalar.addi c0_i32_25 v70
  let v68 : BitVec 32 := Scalar.addi c0_i32_25 v67
  let c1_i32_28 : BitVec 32 := 1#32
  ⟨v71, v68, c1_i32_28⟩
def k0_mult18 (v1 : BitVec 32) (v21 : BitVec 32) (k0_t2 : Fin (k0_t2_loop v1 v21).trips) : BitVec 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c128_i32_5 : BitVec 32 := 128#32
  let c0_i32_8 : BitVec 32 := 0#32
  let v28 : BitVec 1 := Scalar.cmpi .sgt c128_i32_5 c0_i32_8
  let v29 : BitVec 32 := Scalar.extui v28
  let c0_i32_9 : BitVec 32 := 0#32
  let v30 : BitVec 1 := Scalar.cmpi .slt c128_i32_5 c0_i32_9
  let v31 : BitVec 32 := Scalar.extui v30
  let v32 : BitVec 32 := Scalar.subi v29 v31
  let v33 : BitVec 1 := Scalar.cmpi .ne v27 v32
  let v34 : BitVec 32 := Scalar.remsi v21 c128_i32_5
  let c0_i32_10 : BitVec 32 := 0#32
  let v35 : BitVec 1 := Scalar.cmpi .ne v34 c0_i32_10
  let v36 : BitVec 1 := Scalar.andi v33 v35
  let v22 : BitVec 32 := Scalar.divsi v21 c128_i32_5
  let c1_i32_11 : BitVec 32 := 1#32
  let v37 : BitVec 32 := Scalar.subi v22 c1_i32_11
  let v38 : BitVec 32 := Scalar.select v36 v37 v22
  let v39 : BitVec 32 := Scalar.subi v38 v18
  let v67 : BitVec 32 := Scalar.subi v39 c0_i32_25
  let c1_i32_26 : BitVec 32 := 1#32
  let v69 : BitVec 32 := Scalar.divsi v67 c1_i32_26
  let v70 : BitVec 32 := Scalar.muli v69 c1_i32_26
  let v71 : BitVec 32 := Scalar.addi c0_i32_25 v70
  let c1_i32_28 : BitVec 32 := 1#32
  let arg10 : BitVec 32 := Scf.iv v71 c1_i32_28 k0_t2
  let v72 : BitVec 32 := Scalar.addi v18 arg10
  let c128_i32_39 : BitVec 32 := 128#32
  let v93 : BitVec 32 := Scalar.muli v72 c128_i32_39
  v93
def k0_off17 (v1 : BitVec 32) (v21 : BitVec 32) (k0_t2 : Fin (k0_t2_loop v1 v21).trips) : Fin 1 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c128_i32_5 : BitVec 32 := 128#32
  let c0_i32_8 : BitVec 32 := 0#32
  let v28 : BitVec 1 := Scalar.cmpi .sgt c128_i32_5 c0_i32_8
  let v29 : BitVec 32 := Scalar.extui v28
  let c0_i32_9 : BitVec 32 := 0#32
  let v30 : BitVec 1 := Scalar.cmpi .slt c128_i32_5 c0_i32_9
  let v31 : BitVec 32 := Scalar.extui v30
  let v32 : BitVec 32 := Scalar.subi v29 v31
  let v33 : BitVec 1 := Scalar.cmpi .ne v27 v32
  let v34 : BitVec 32 := Scalar.remsi v21 c128_i32_5
  let c0_i32_10 : BitVec 32 := 0#32
  let v35 : BitVec 1 := Scalar.cmpi .ne v34 c0_i32_10
  let v36 : BitVec 1 := Scalar.andi v33 v35
  let v22 : BitVec 32 := Scalar.divsi v21 c128_i32_5
  let c1_i32_11 : BitVec 32 := 1#32
  let v37 : BitVec 32 := Scalar.subi v22 c1_i32_11
  let v38 : BitVec 32 := Scalar.select v36 v37 v22
  let v39 : BitVec 32 := Scalar.subi v38 v18
  let v67 : BitVec 32 := Scalar.subi v39 c0_i32_25
  let c1_i32_26 : BitVec 32 := 1#32
  let v69 : BitVec 32 := Scalar.divsi v67 c1_i32_26
  let v70 : BitVec 32 := Scalar.muli v69 c1_i32_26
  let v71 : BitVec 32 := Scalar.addi c0_i32_25 v70
  let c1_i32_28 : BitVec 32 := 1#32
  let arg10 : BitVec 32 := Scf.iv v71 c1_i32_28 k0_t2
  let v72 : BitVec 32 := Scalar.addi v18 arg10
  let c12_i32 : BitVec 32 := 12#32
  let c0_i32_34 : BitVec 32 := 0#32
  let v83 : BitVec 1 := Scalar.cmpi .eq c12_i32 c0_i32_34
  let c1_i32_35 : BitVec 32 := 1#32
  let v84 : BitVec 32 := Scalar.select v83 c1_i32_35 c12_i32
  let v85 : BitVec 32 := Scalar.remsi v72 v84
  let c0_i32_37 : BitVec 32 := 0#32
  let v87 : BitVec 1 := Scalar.cmpi .slt v85 c0_i32_37
  let c0_i32_38 : BitVec 32 := 0#32
  let v88 : BitVec 1 := Scalar.cmpi .slt v84 c0_i32_38
  let v89 : BitVec 1 := Scalar.xori v87 v88
  let c0_i32_36 : BitVec 32 := 0#32
  let v86 : BitVec 1 := Scalar.cmpi .ne v85 c0_i32_36
  let v90 : BitVec 1 := Scalar.andi v89 v86
  let v91 : BitVec 32 := Scalar.addi v85 v84
  let v92 : BitVec 32 := Scalar.select v90 v91 v85
  ![v92.toNat]
def k0_off18 (v1 : BitVec 32) (v21 : BitVec 32) (k0_t2 : Fin (k0_t2_loop v1 v21).trips) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c128_i32_5 : BitVec 32 := 128#32
  let c0_i32_8 : BitVec 32 := 0#32
  let v28 : BitVec 1 := Scalar.cmpi .sgt c128_i32_5 c0_i32_8
  let v29 : BitVec 32 := Scalar.extui v28
  let c0_i32_9 : BitVec 32 := 0#32
  let v30 : BitVec 1 := Scalar.cmpi .slt c128_i32_5 c0_i32_9
  let v31 : BitVec 32 := Scalar.extui v30
  let v32 : BitVec 32 := Scalar.subi v29 v31
  let v33 : BitVec 1 := Scalar.cmpi .ne v27 v32
  let v34 : BitVec 32 := Scalar.remsi v21 c128_i32_5
  let c0_i32_10 : BitVec 32 := 0#32
  let v35 : BitVec 1 := Scalar.cmpi .ne v34 c0_i32_10
  let v36 : BitVec 1 := Scalar.andi v33 v35
  let v22 : BitVec 32 := Scalar.divsi v21 c128_i32_5
  let c1_i32_11 : BitVec 32 := 1#32
  let v37 : BitVec 32 := Scalar.subi v22 c1_i32_11
  let v38 : BitVec 32 := Scalar.select v36 v37 v22
  let v39 : BitVec 32 := Scalar.subi v38 v18
  let v67 : BitVec 32 := Scalar.subi v39 c0_i32_25
  let c1_i32_26 : BitVec 32 := 1#32
  let v69 : BitVec 32 := Scalar.divsi v67 c1_i32_26
  let v70 : BitVec 32 := Scalar.muli v69 c1_i32_26
  let v71 : BitVec 32 := Scalar.addi c0_i32_25 v70
  let c1_i32_28 : BitVec 32 := 1#32
  let arg10 : BitVec 32 := Scf.iv v71 c1_i32_28 k0_t2
  let v72 : BitVec 32 := Scalar.addi v18 arg10
  let c12_i32 : BitVec 32 := 12#32
  let c0_i32_34 : BitVec 32 := 0#32
  let v83 : BitVec 1 := Scalar.cmpi .eq c12_i32 c0_i32_34
  let c1_i32_35 : BitVec 32 := 1#32
  let v84 : BitVec 32 := Scalar.select v83 c1_i32_35 c12_i32
  let v85 : BitVec 32 := Scalar.remsi v72 v84
  let c0_i32_37 : BitVec 32 := 0#32
  let v87 : BitVec 1 := Scalar.cmpi .slt v85 c0_i32_37
  let c0_i32_38 : BitVec 32 := 0#32
  let v88 : BitVec 1 := Scalar.cmpi .slt v84 c0_i32_38
  let v89 : BitVec 1 := Scalar.xori v87 v88
  let c0_i32_36 : BitVec 32 := 0#32
  let v86 : BitVec 1 := Scalar.cmpi .ne v85 c0_i32_36
  let v90 : BitVec 1 := Scalar.andi v89 v86
  let v91 : BitVec 32 := Scalar.addi v85 v84
  let v92 : BitVec 32 := Scalar.select v90 v91 v85
  let c0_i32_40 : BitVec 32 := 0#32
  let c0_i32_41 : BitVec 32 := 0#32
  ![v92.toNat, 0, 0]
def k0_off19 (v1 : BitVec 32) (v21 : BitVec 32) (k0_t2 : Fin (k0_t2_loop v1 v21).trips) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c128_i32_5 : BitVec 32 := 128#32
  let c0_i32_8 : BitVec 32 := 0#32
  let v28 : BitVec 1 := Scalar.cmpi .sgt c128_i32_5 c0_i32_8
  let v29 : BitVec 32 := Scalar.extui v28
  let c0_i32_9 : BitVec 32 := 0#32
  let v30 : BitVec 1 := Scalar.cmpi .slt c128_i32_5 c0_i32_9
  let v31 : BitVec 32 := Scalar.extui v30
  let v32 : BitVec 32 := Scalar.subi v29 v31
  let v33 : BitVec 1 := Scalar.cmpi .ne v27 v32
  let v34 : BitVec 32 := Scalar.remsi v21 c128_i32_5
  let c0_i32_10 : BitVec 32 := 0#32
  let v35 : BitVec 1 := Scalar.cmpi .ne v34 c0_i32_10
  let v36 : BitVec 1 := Scalar.andi v33 v35
  let v22 : BitVec 32 := Scalar.divsi v21 c128_i32_5
  let c1_i32_11 : BitVec 32 := 1#32
  let v37 : BitVec 32 := Scalar.subi v22 c1_i32_11
  let v38 : BitVec 32 := Scalar.select v36 v37 v22
  let v39 : BitVec 32 := Scalar.subi v38 v18
  let v67 : BitVec 32 := Scalar.subi v39 c0_i32_25
  let c1_i32_26 : BitVec 32 := 1#32
  let v69 : BitVec 32 := Scalar.divsi v67 c1_i32_26
  let v70 : BitVec 32 := Scalar.muli v69 c1_i32_26
  let v71 : BitVec 32 := Scalar.addi c0_i32_25 v70
  let c1_i32_28 : BitVec 32 := 1#32
  let arg10 : BitVec 32 := Scf.iv v71 c1_i32_28 k0_t2
  let v72 : BitVec 32 := Scalar.addi v18 arg10
  let c128_i32_39 : BitVec 32 := 128#32
  let v93 : BitVec 32 := Scalar.muli v72 c128_i32_39
  let v94 : BitVec 32 := v93
  let c0_i32_42 : BitVec 32 := 0#32
  ![v94.toNat, 0]
def k0_mult19 (v1 : BitVec 32) (v21 : BitVec 32) (k0_t2 : Fin (k0_t2_loop v1 v21).trips) : BitVec 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c128_i32_5 : BitVec 32 := 128#32
  let c0_i32_8 : BitVec 32 := 0#32
  let v28 : BitVec 1 := Scalar.cmpi .sgt c128_i32_5 c0_i32_8
  let v29 : BitVec 32 := Scalar.extui v28
  let c0_i32_9 : BitVec 32 := 0#32
  let v30 : BitVec 1 := Scalar.cmpi .slt c128_i32_5 c0_i32_9
  let v31 : BitVec 32 := Scalar.extui v30
  let v32 : BitVec 32 := Scalar.subi v29 v31
  let v33 : BitVec 1 := Scalar.cmpi .ne v27 v32
  let v34 : BitVec 32 := Scalar.remsi v21 c128_i32_5
  let c0_i32_10 : BitVec 32 := 0#32
  let v35 : BitVec 1 := Scalar.cmpi .ne v34 c0_i32_10
  let v36 : BitVec 1 := Scalar.andi v33 v35
  let v22 : BitVec 32 := Scalar.divsi v21 c128_i32_5
  let c1_i32_11 : BitVec 32 := 1#32
  let v37 : BitVec 32 := Scalar.subi v22 c1_i32_11
  let v38 : BitVec 32 := Scalar.select v36 v37 v22
  let v39 : BitVec 32 := Scalar.subi v38 v18
  let v67 : BitVec 32 := Scalar.subi v39 c0_i32_25
  let c1_i32_26 : BitVec 32 := 1#32
  let v69 : BitVec 32 := Scalar.divsi v67 c1_i32_26
  let v70 : BitVec 32 := Scalar.muli v69 c1_i32_26
  let v71 : BitVec 32 := Scalar.addi c0_i32_25 v70
  let c1_i32_28 : BitVec 32 := 1#32
  let arg10 : BitVec 32 := Scf.iv v71 c1_i32_28 k0_t2
  let v72 : BitVec 32 := Scalar.addi v18 arg10
  let c128_i32_43 : BitVec 32 := 128#32
  let v100 : BitVec 32 := Scalar.muli v72 c128_i32_43
  v100
def k0_off20 (v1 : BitVec 32) (v21 : BitVec 32) (k0_t2 : Fin (k0_t2_loop v1 v21).trips) : Fin 1 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c128_i32_5 : BitVec 32 := 128#32
  let c0_i32_8 : BitVec 32 := 0#32
  let v28 : BitVec 1 := Scalar.cmpi .sgt c128_i32_5 c0_i32_8
  let v29 : BitVec 32 := Scalar.extui v28
  let c0_i32_9 : BitVec 32 := 0#32
  let v30 : BitVec 1 := Scalar.cmpi .slt c128_i32_5 c0_i32_9
  let v31 : BitVec 32 := Scalar.extui v30
  let v32 : BitVec 32 := Scalar.subi v29 v31
  let v33 : BitVec 1 := Scalar.cmpi .ne v27 v32
  let v34 : BitVec 32 := Scalar.remsi v21 c128_i32_5
  let c0_i32_10 : BitVec 32 := 0#32
  let v35 : BitVec 1 := Scalar.cmpi .ne v34 c0_i32_10
  let v36 : BitVec 1 := Scalar.andi v33 v35
  let v22 : BitVec 32 := Scalar.divsi v21 c128_i32_5
  let c1_i32_11 : BitVec 32 := 1#32
  let v37 : BitVec 32 := Scalar.subi v22 c1_i32_11
  let v38 : BitVec 32 := Scalar.select v36 v37 v22
  let v39 : BitVec 32 := Scalar.subi v38 v18
  let v67 : BitVec 32 := Scalar.subi v39 c0_i32_25
  let c1_i32_26 : BitVec 32 := 1#32
  let v69 : BitVec 32 := Scalar.divsi v67 c1_i32_26
  let v70 : BitVec 32 := Scalar.muli v69 c1_i32_26
  let v71 : BitVec 32 := Scalar.addi c0_i32_25 v70
  let c1_i32_28 : BitVec 32 := 1#32
  let arg10 : BitVec 32 := Scf.iv v71 c1_i32_28 k0_t2
  let v72 : BitVec 32 := Scalar.addi v18 arg10
  let c2_i32 : BitVec 32 := 2#32
  let c0_i32_29 : BitVec 32 := 0#32
  let v73 : BitVec 1 := Scalar.cmpi .eq c2_i32 c0_i32_29
  let c1_i32_30 : BitVec 32 := 1#32
  let v74 : BitVec 32 := Scalar.select v73 c1_i32_30 c2_i32
  let v75 : BitVec 32 := Scalar.remsi v72 v74
  let c0_i32_32 : BitVec 32 := 0#32
  let v77 : BitVec 1 := Scalar.cmpi .slt v75 c0_i32_32
  let c0_i32_33 : BitVec 32 := 0#32
  let v78 : BitVec 1 := Scalar.cmpi .slt v74 c0_i32_33
  let v79 : BitVec 1 := Scalar.xori v77 v78
  let c0_i32_31 : BitVec 32 := 0#32
  let v76 : BitVec 1 := Scalar.cmpi .ne v75 c0_i32_31
  let v80 : BitVec 1 := Scalar.andi v79 v76
  let v81 : BitVec 32 := Scalar.addi v75 v74
  let v82 : BitVec 32 := Scalar.select v80 v81 v75
  ![v82.toNat]
def k0_off21 (v1 : BitVec 32) (v21 : BitVec 32) (k0_t2 : Fin (k0_t2_loop v1 v21).trips) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c128_i32_5 : BitVec 32 := 128#32
  let c0_i32_8 : BitVec 32 := 0#32
  let v28 : BitVec 1 := Scalar.cmpi .sgt c128_i32_5 c0_i32_8
  let v29 : BitVec 32 := Scalar.extui v28
  let c0_i32_9 : BitVec 32 := 0#32
  let v30 : BitVec 1 := Scalar.cmpi .slt c128_i32_5 c0_i32_9
  let v31 : BitVec 32 := Scalar.extui v30
  let v32 : BitVec 32 := Scalar.subi v29 v31
  let v33 : BitVec 1 := Scalar.cmpi .ne v27 v32
  let v34 : BitVec 32 := Scalar.remsi v21 c128_i32_5
  let c0_i32_10 : BitVec 32 := 0#32
  let v35 : BitVec 1 := Scalar.cmpi .ne v34 c0_i32_10
  let v36 : BitVec 1 := Scalar.andi v33 v35
  let v22 : BitVec 32 := Scalar.divsi v21 c128_i32_5
  let c1_i32_11 : BitVec 32 := 1#32
  let v37 : BitVec 32 := Scalar.subi v22 c1_i32_11
  let v38 : BitVec 32 := Scalar.select v36 v37 v22
  let v39 : BitVec 32 := Scalar.subi v38 v18
  let v67 : BitVec 32 := Scalar.subi v39 c0_i32_25
  let c1_i32_26 : BitVec 32 := 1#32
  let v69 : BitVec 32 := Scalar.divsi v67 c1_i32_26
  let v70 : BitVec 32 := Scalar.muli v69 c1_i32_26
  let v71 : BitVec 32 := Scalar.addi c0_i32_25 v70
  let c1_i32_28 : BitVec 32 := 1#32
  let arg10 : BitVec 32 := Scf.iv v71 c1_i32_28 k0_t2
  let v72 : BitVec 32 := Scalar.addi v18 arg10
  let c128_i32_43 : BitVec 32 := 128#32
  let v100 : BitVec 32 := Scalar.muli v72 c128_i32_43
  let v101 : BitVec 32 := v100
  let c0_i32_44 : BitVec 32 := 0#32
  ![v101.toNat, 0]
def k0_off22 (v1 : BitVec 32) (v21 : BitVec 32) (k0_t2 : Fin (k0_t2_loop v1 v21).trips) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c128_i32_5 : BitVec 32 := 128#32
  let c0_i32_8 : BitVec 32 := 0#32
  let v28 : BitVec 1 := Scalar.cmpi .sgt c128_i32_5 c0_i32_8
  let v29 : BitVec 32 := Scalar.extui v28
  let c0_i32_9 : BitVec 32 := 0#32
  let v30 : BitVec 1 := Scalar.cmpi .slt c128_i32_5 c0_i32_9
  let v31 : BitVec 32 := Scalar.extui v30
  let v32 : BitVec 32 := Scalar.subi v29 v31
  let v33 : BitVec 1 := Scalar.cmpi .ne v27 v32
  let v34 : BitVec 32 := Scalar.remsi v21 c128_i32_5
  let c0_i32_10 : BitVec 32 := 0#32
  let v35 : BitVec 1 := Scalar.cmpi .ne v34 c0_i32_10
  let v36 : BitVec 1 := Scalar.andi v33 v35
  let v22 : BitVec 32 := Scalar.divsi v21 c128_i32_5
  let c1_i32_11 : BitVec 32 := 1#32
  let v37 : BitVec 32 := Scalar.subi v22 c1_i32_11
  let v38 : BitVec 32 := Scalar.select v36 v37 v22
  let v39 : BitVec 32 := Scalar.subi v38 v18
  let v67 : BitVec 32 := Scalar.subi v39 c0_i32_25
  let c1_i32_26 : BitVec 32 := 1#32
  let v69 : BitVec 32 := Scalar.divsi v67 c1_i32_26
  let v70 : BitVec 32 := Scalar.muli v69 c1_i32_26
  let v71 : BitVec 32 := Scalar.addi c0_i32_25 v70
  let c1_i32_28 : BitVec 32 := 1#32
  let arg10 : BitVec 32 := Scf.iv v71 c1_i32_28 k0_t2
  let v72 : BitVec 32 := Scalar.addi v18 arg10
  let c2_i32 : BitVec 32 := 2#32
  let c0_i32_29 : BitVec 32 := 0#32
  let v73 : BitVec 1 := Scalar.cmpi .eq c2_i32 c0_i32_29
  let c1_i32_30 : BitVec 32 := 1#32
  let v74 : BitVec 32 := Scalar.select v73 c1_i32_30 c2_i32
  let v75 : BitVec 32 := Scalar.remsi v72 v74
  let c0_i32_32 : BitVec 32 := 0#32
  let v77 : BitVec 1 := Scalar.cmpi .slt v75 c0_i32_32
  let c0_i32_33 : BitVec 32 := 0#32
  let v78 : BitVec 1 := Scalar.cmpi .slt v74 c0_i32_33
  let v79 : BitVec 1 := Scalar.xori v77 v78
  let c0_i32_31 : BitVec 32 := 0#32
  let v76 : BitVec 1 := Scalar.cmpi .ne v75 c0_i32_31
  let v80 : BitVec 1 := Scalar.andi v79 v76
  let v81 : BitVec 32 := Scalar.addi v75 v74
  let v82 : BitVec 32 := Scalar.select v80 v81 v75
  let c0_i32_45 : BitVec 32 := 0#32
  let c0_i32_46 : BitVec 32 := 0#32
  ![v82.toNat, 0, 0]
def k0_mult20 (v1 : BitVec 32) (v21 : BitVec 32) (v40 : BitVec 32) (k0_t2 : Fin (k0_t2_loop v1 v21).trips) : BitVec 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c128_i32_5 : BitVec 32 := 128#32
  let c0_i32_8 : BitVec 32 := 0#32
  let v28 : BitVec 1 := Scalar.cmpi .sgt c128_i32_5 c0_i32_8
  let v29 : BitVec 32 := Scalar.extui v28
  let c0_i32_9 : BitVec 32 := 0#32
  let v30 : BitVec 1 := Scalar.cmpi .slt c128_i32_5 c0_i32_9
  let v31 : BitVec 32 := Scalar.extui v30
  let v32 : BitVec 32 := Scalar.subi v29 v31
  let v33 : BitVec 1 := Scalar.cmpi .ne v27 v32
  let v34 : BitVec 32 := Scalar.remsi v21 c128_i32_5
  let c0_i32_10 : BitVec 32 := 0#32
  let v35 : BitVec 1 := Scalar.cmpi .ne v34 c0_i32_10
  let v36 : BitVec 1 := Scalar.andi v33 v35
  let v22 : BitVec 32 := Scalar.divsi v21 c128_i32_5
  let c1_i32_11 : BitVec 32 := 1#32
  let v37 : BitVec 32 := Scalar.subi v22 c1_i32_11
  let v38 : BitVec 32 := Scalar.select v36 v37 v22
  let v39 : BitVec 32 := Scalar.subi v38 v18
  let v67 : BitVec 32 := Scalar.subi v39 c0_i32_25
  let c1_i32_26 : BitVec 32 := 1#32
  let v69 : BitVec 32 := Scalar.divsi v67 c1_i32_26
  let v70 : BitVec 32 := Scalar.muli v69 c1_i32_26
  let v71 : BitVec 32 := Scalar.addi c0_i32_25 v70
  let c1_i32_28 : BitVec 32 := 1#32
  let arg10 : BitVec 32 := Scf.iv v71 c1_i32_28 k0_t2
  let v72 : BitVec 32 := Scalar.addi v18 arg10
  let c12_i32_47 : BitVec 32 := 12#32
  let v107 : BitVec 32 := Scalar.addi v72 c12_i32_47
  let c1_i32_48 : BitVec 32 := 1#32
  let v108 : BitVec 32 := Scalar.subi v107 c1_i32_48
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c128_i32_12 : BitVec 32 := 128#32
  let c0_i32_15 : BitVec 32 := 0#32
  let v47 : BitVec 1 := Scalar.cmpi .sgt c128_i32_12 c0_i32_15
  let v48 : BitVec 32 := Scalar.extui v47
  let c0_i32_16 : BitVec 32 := 0#32
  let v49 : BitVec 1 := Scalar.cmpi .slt c128_i32_12 c0_i32_16
  let v50 : BitVec 32 := Scalar.extui v49
  let v51 : BitVec 32 := Scalar.subi v48 v50
  let v52 : BitVec 1 := Scalar.cmpi .ne v46 v51
  let v53 : BitVec 32 := Scalar.remsi v40 c128_i32_12
  let c0_i32_17 : BitVec 32 := 0#32
  let v54 : BitVec 1 := Scalar.cmpi .ne v53 c0_i32_17
  let v55 : BitVec 1 := Scalar.andi v52 v54
  let v41 : BitVec 32 := Scalar.divsi v40 c128_i32_12
  let c1_i32_18 : BitVec 32 := 1#32
  let v56 : BitVec 32 := Scalar.subi v41 c1_i32_18
  let v57 : BitVec 32 := Scalar.select v55 v56 v41
  let c1_i32_49 : BitVec 32 := 1#32
  let v109 : BitVec 32 := Scalar.subi v57 c1_i32_49
  let v110 : BitVec 32 := Scalar.minsi v108 v109
  let c128_i32_58 : BitVec 32 := 128#32
  let v123 : BitVec 32 := Scalar.muli v110 c128_i32_58
  v123
def k0_off23 (v1 : BitVec 32) (v21 : BitVec 32) (k0_t2 : Fin (k0_t2_loop v1 v21).trips) : Fin 1 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c128_i32_5 : BitVec 32 := 128#32
  let c0_i32_8 : BitVec 32 := 0#32
  let v28 : BitVec 1 := Scalar.cmpi .sgt c128_i32_5 c0_i32_8
  let v29 : BitVec 32 := Scalar.extui v28
  let c0_i32_9 : BitVec 32 := 0#32
  let v30 : BitVec 1 := Scalar.cmpi .slt c128_i32_5 c0_i32_9
  let v31 : BitVec 32 := Scalar.extui v30
  let v32 : BitVec 32 := Scalar.subi v29 v31
  let v33 : BitVec 1 := Scalar.cmpi .ne v27 v32
  let v34 : BitVec 32 := Scalar.remsi v21 c128_i32_5
  let c0_i32_10 : BitVec 32 := 0#32
  let v35 : BitVec 1 := Scalar.cmpi .ne v34 c0_i32_10
  let v36 : BitVec 1 := Scalar.andi v33 v35
  let v22 : BitVec 32 := Scalar.divsi v21 c128_i32_5
  let c1_i32_11 : BitVec 32 := 1#32
  let v37 : BitVec 32 := Scalar.subi v22 c1_i32_11
  let v38 : BitVec 32 := Scalar.select v36 v37 v22
  let v39 : BitVec 32 := Scalar.subi v38 v18
  let v67 : BitVec 32 := Scalar.subi v39 c0_i32_25
  let c1_i32_26 : BitVec 32 := 1#32
  let v69 : BitVec 32 := Scalar.divsi v67 c1_i32_26
  let v70 : BitVec 32 := Scalar.muli v69 c1_i32_26
  let v71 : BitVec 32 := Scalar.addi c0_i32_25 v70
  let c1_i32_28 : BitVec 32 := 1#32
  let arg10 : BitVec 32 := Scf.iv v71 c1_i32_28 k0_t2
  let v72 : BitVec 32 := Scalar.addi v18 arg10
  let c12_i32_50 : BitVec 32 := 12#32
  let v111 : BitVec 32 := Scalar.addi v72 c12_i32_50
  let c1_i32_51 : BitVec 32 := 1#32
  let v112 : BitVec 32 := Scalar.subi v111 c1_i32_51
  let c12_i32_52 : BitVec 32 := 12#32
  let c0_i32_53 : BitVec 32 := 0#32
  let v113 : BitVec 1 := Scalar.cmpi .eq c12_i32_52 c0_i32_53
  let c1_i32_54 : BitVec 32 := 1#32
  let v114 : BitVec 32 := Scalar.select v113 c1_i32_54 c12_i32_52
  let v115 : BitVec 32 := Scalar.remsi v112 v114
  let c0_i32_56 : BitVec 32 := 0#32
  let v117 : BitVec 1 := Scalar.cmpi .slt v115 c0_i32_56
  let c0_i32_57 : BitVec 32 := 0#32
  let v118 : BitVec 1 := Scalar.cmpi .slt v114 c0_i32_57
  let v119 : BitVec 1 := Scalar.xori v117 v118
  let c0_i32_55 : BitVec 32 := 0#32
  let v116 : BitVec 1 := Scalar.cmpi .ne v115 c0_i32_55
  let v120 : BitVec 1 := Scalar.andi v119 v116
  let v121 : BitVec 32 := Scalar.addi v115 v114
  let v122 : BitVec 32 := Scalar.select v120 v121 v115
  ![v122.toNat]
def k0_off24 (v1 : BitVec 32) (v21 : BitVec 32) (k0_t2 : Fin (k0_t2_loop v1 v21).trips) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c128_i32_5 : BitVec 32 := 128#32
  let c0_i32_8 : BitVec 32 := 0#32
  let v28 : BitVec 1 := Scalar.cmpi .sgt c128_i32_5 c0_i32_8
  let v29 : BitVec 32 := Scalar.extui v28
  let c0_i32_9 : BitVec 32 := 0#32
  let v30 : BitVec 1 := Scalar.cmpi .slt c128_i32_5 c0_i32_9
  let v31 : BitVec 32 := Scalar.extui v30
  let v32 : BitVec 32 := Scalar.subi v29 v31
  let v33 : BitVec 1 := Scalar.cmpi .ne v27 v32
  let v34 : BitVec 32 := Scalar.remsi v21 c128_i32_5
  let c0_i32_10 : BitVec 32 := 0#32
  let v35 : BitVec 1 := Scalar.cmpi .ne v34 c0_i32_10
  let v36 : BitVec 1 := Scalar.andi v33 v35
  let v22 : BitVec 32 := Scalar.divsi v21 c128_i32_5
  let c1_i32_11 : BitVec 32 := 1#32
  let v37 : BitVec 32 := Scalar.subi v22 c1_i32_11
  let v38 : BitVec 32 := Scalar.select v36 v37 v22
  let v39 : BitVec 32 := Scalar.subi v38 v18
  let v67 : BitVec 32 := Scalar.subi v39 c0_i32_25
  let c1_i32_26 : BitVec 32 := 1#32
  let v69 : BitVec 32 := Scalar.divsi v67 c1_i32_26
  let v70 : BitVec 32 := Scalar.muli v69 c1_i32_26
  let v71 : BitVec 32 := Scalar.addi c0_i32_25 v70
  let c1_i32_28 : BitVec 32 := 1#32
  let arg10 : BitVec 32 := Scf.iv v71 c1_i32_28 k0_t2
  let v72 : BitVec 32 := Scalar.addi v18 arg10
  let c12_i32_50 : BitVec 32 := 12#32
  let v111 : BitVec 32 := Scalar.addi v72 c12_i32_50
  let c1_i32_51 : BitVec 32 := 1#32
  let v112 : BitVec 32 := Scalar.subi v111 c1_i32_51
  let c12_i32_52 : BitVec 32 := 12#32
  let c0_i32_53 : BitVec 32 := 0#32
  let v113 : BitVec 1 := Scalar.cmpi .eq c12_i32_52 c0_i32_53
  let c1_i32_54 : BitVec 32 := 1#32
  let v114 : BitVec 32 := Scalar.select v113 c1_i32_54 c12_i32_52
  let v115 : BitVec 32 := Scalar.remsi v112 v114
  let c0_i32_56 : BitVec 32 := 0#32
  let v117 : BitVec 1 := Scalar.cmpi .slt v115 c0_i32_56
  let c0_i32_57 : BitVec 32 := 0#32
  let v118 : BitVec 1 := Scalar.cmpi .slt v114 c0_i32_57
  let v119 : BitVec 1 := Scalar.xori v117 v118
  let c0_i32_55 : BitVec 32 := 0#32
  let v116 : BitVec 1 := Scalar.cmpi .ne v115 c0_i32_55
  let v120 : BitVec 1 := Scalar.andi v119 v116
  let v121 : BitVec 32 := Scalar.addi v115 v114
  let v122 : BitVec 32 := Scalar.select v120 v121 v115
  let c0_i32_59 : BitVec 32 := 0#32
  let c0_i32_60 : BitVec 32 := 0#32
  ![v122.toNat, 0, 0]
def k0_off25 (v1 : BitVec 32) (v21 : BitVec 32) (v40 : BitVec 32) (k0_t2 : Fin (k0_t2_loop v1 v21).trips) : Fin 2 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c128_i32_5 : BitVec 32 := 128#32
  let c0_i32_8 : BitVec 32 := 0#32
  let v28 : BitVec 1 := Scalar.cmpi .sgt c128_i32_5 c0_i32_8
  let v29 : BitVec 32 := Scalar.extui v28
  let c0_i32_9 : BitVec 32 := 0#32
  let v30 : BitVec 1 := Scalar.cmpi .slt c128_i32_5 c0_i32_9
  let v31 : BitVec 32 := Scalar.extui v30
  let v32 : BitVec 32 := Scalar.subi v29 v31
  let v33 : BitVec 1 := Scalar.cmpi .ne v27 v32
  let v34 : BitVec 32 := Scalar.remsi v21 c128_i32_5
  let c0_i32_10 : BitVec 32 := 0#32
  let v35 : BitVec 1 := Scalar.cmpi .ne v34 c0_i32_10
  let v36 : BitVec 1 := Scalar.andi v33 v35
  let v22 : BitVec 32 := Scalar.divsi v21 c128_i32_5
  let c1_i32_11 : BitVec 32 := 1#32
  let v37 : BitVec 32 := Scalar.subi v22 c1_i32_11
  let v38 : BitVec 32 := Scalar.select v36 v37 v22
  let v39 : BitVec 32 := Scalar.subi v38 v18
  let v67 : BitVec 32 := Scalar.subi v39 c0_i32_25
  let c1_i32_26 : BitVec 32 := 1#32
  let v69 : BitVec 32 := Scalar.divsi v67 c1_i32_26
  let v70 : BitVec 32 := Scalar.muli v69 c1_i32_26
  let v71 : BitVec 32 := Scalar.addi c0_i32_25 v70
  let c1_i32_28 : BitVec 32 := 1#32
  let arg10 : BitVec 32 := Scf.iv v71 c1_i32_28 k0_t2
  let v72 : BitVec 32 := Scalar.addi v18 arg10
  let c12_i32_47 : BitVec 32 := 12#32
  let v107 : BitVec 32 := Scalar.addi v72 c12_i32_47
  let c1_i32_48 : BitVec 32 := 1#32
  let v108 : BitVec 32 := Scalar.subi v107 c1_i32_48
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c128_i32_12 : BitVec 32 := 128#32
  let c0_i32_15 : BitVec 32 := 0#32
  let v47 : BitVec 1 := Scalar.cmpi .sgt c128_i32_12 c0_i32_15
  let v48 : BitVec 32 := Scalar.extui v47
  let c0_i32_16 : BitVec 32 := 0#32
  let v49 : BitVec 1 := Scalar.cmpi .slt c128_i32_12 c0_i32_16
  let v50 : BitVec 32 := Scalar.extui v49
  let v51 : BitVec 32 := Scalar.subi v48 v50
  let v52 : BitVec 1 := Scalar.cmpi .ne v46 v51
  let v53 : BitVec 32 := Scalar.remsi v40 c128_i32_12
  let c0_i32_17 : BitVec 32 := 0#32
  let v54 : BitVec 1 := Scalar.cmpi .ne v53 c0_i32_17
  let v55 : BitVec 1 := Scalar.andi v52 v54
  let v41 : BitVec 32 := Scalar.divsi v40 c128_i32_12
  let c1_i32_18 : BitVec 32 := 1#32
  let v56 : BitVec 32 := Scalar.subi v41 c1_i32_18
  let v57 : BitVec 32 := Scalar.select v55 v56 v41
  let c1_i32_49 : BitVec 32 := 1#32
  let v109 : BitVec 32 := Scalar.subi v57 c1_i32_49
  let v110 : BitVec 32 := Scalar.minsi v108 v109
  let c128_i32_58 : BitVec 32 := 128#32
  let v123 : BitVec 32 := Scalar.muli v110 c128_i32_58
  let v124 : BitVec 32 := v123
  let c0_i32_61 : BitVec 32 := 0#32
  ![v124.toNat, 0]
def k0_off26 (v1 : BitVec 32) (v21 : BitVec 32) (k0_t2 : Fin (k0_t2_loop v1 v21).trips) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c128_i32_5 : BitVec 32 := 128#32
  let c0_i32_8 : BitVec 32 := 0#32
  let v28 : BitVec 1 := Scalar.cmpi .sgt c128_i32_5 c0_i32_8
  let v29 : BitVec 32 := Scalar.extui v28
  let c0_i32_9 : BitVec 32 := 0#32
  let v30 : BitVec 1 := Scalar.cmpi .slt c128_i32_5 c0_i32_9
  let v31 : BitVec 32 := Scalar.extui v30
  let v32 : BitVec 32 := Scalar.subi v29 v31
  let v33 : BitVec 1 := Scalar.cmpi .ne v27 v32
  let v34 : BitVec 32 := Scalar.remsi v21 c128_i32_5
  let c0_i32_10 : BitVec 32 := 0#32
  let v35 : BitVec 1 := Scalar.cmpi .ne v34 c0_i32_10
  let v36 : BitVec 1 := Scalar.andi v33 v35
  let v22 : BitVec 32 := Scalar.divsi v21 c128_i32_5
  let c1_i32_11 : BitVec 32 := 1#32
  let v37 : BitVec 32 := Scalar.subi v22 c1_i32_11
  let v38 : BitVec 32 := Scalar.select v36 v37 v22
  let v39 : BitVec 32 := Scalar.subi v38 v18
  let v67 : BitVec 32 := Scalar.subi v39 c0_i32_25
  let c1_i32_26 : BitVec 32 := 1#32
  let v69 : BitVec 32 := Scalar.divsi v67 c1_i32_26
  let v70 : BitVec 32 := Scalar.muli v69 c1_i32_26
  let v71 : BitVec 32 := Scalar.addi c0_i32_25 v70
  let c1_i32_28 : BitVec 32 := 1#32
  let arg10 : BitVec 32 := Scf.iv v71 c1_i32_28 k0_t2
  let v72 : BitVec 32 := Scalar.addi v18 arg10
  let c12_i32 : BitVec 32 := 12#32
  let c0_i32_34 : BitVec 32 := 0#32
  let v83 : BitVec 1 := Scalar.cmpi .eq c12_i32 c0_i32_34
  let c1_i32_35 : BitVec 32 := 1#32
  let v84 : BitVec 32 := Scalar.select v83 c1_i32_35 c12_i32
  let v85 : BitVec 32 := Scalar.remsi v72 v84
  let c0_i32_37 : BitVec 32 := 0#32
  let v87 : BitVec 1 := Scalar.cmpi .slt v85 c0_i32_37
  let c0_i32_38 : BitVec 32 := 0#32
  let v88 : BitVec 1 := Scalar.cmpi .slt v84 c0_i32_38
  let v89 : BitVec 1 := Scalar.xori v87 v88
  let c0_i32_36 : BitVec 32 := 0#32
  let v86 : BitVec 1 := Scalar.cmpi .ne v85 c0_i32_36
  let v90 : BitVec 1 := Scalar.andi v89 v86
  let v91 : BitVec 32 := Scalar.addi v85 v84
  let v92 : BitVec 32 := Scalar.select v90 v91 v85
  let v130 : Index := Scalar.indexCast v92
  let c0 : Index := 0#32
  let c0_62 : Index := 0#32
  ![v130.toNat, 0, 0]
def k0_off27 (v1 : BitVec 32) (v21 : BitVec 32) (k0_t2 : Fin (k0_t2_loop v1 v21).trips) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c128_i32_5 : BitVec 32 := 128#32
  let c0_i32_8 : BitVec 32 := 0#32
  let v28 : BitVec 1 := Scalar.cmpi .sgt c128_i32_5 c0_i32_8
  let v29 : BitVec 32 := Scalar.extui v28
  let c0_i32_9 : BitVec 32 := 0#32
  let v30 : BitVec 1 := Scalar.cmpi .slt c128_i32_5 c0_i32_9
  let v31 : BitVec 32 := Scalar.extui v30
  let v32 : BitVec 32 := Scalar.subi v29 v31
  let v33 : BitVec 1 := Scalar.cmpi .ne v27 v32
  let v34 : BitVec 32 := Scalar.remsi v21 c128_i32_5
  let c0_i32_10 : BitVec 32 := 0#32
  let v35 : BitVec 1 := Scalar.cmpi .ne v34 c0_i32_10
  let v36 : BitVec 1 := Scalar.andi v33 v35
  let v22 : BitVec 32 := Scalar.divsi v21 c128_i32_5
  let c1_i32_11 : BitVec 32 := 1#32
  let v37 : BitVec 32 := Scalar.subi v22 c1_i32_11
  let v38 : BitVec 32 := Scalar.select v36 v37 v22
  let v39 : BitVec 32 := Scalar.subi v38 v18
  let v67 : BitVec 32 := Scalar.subi v39 c0_i32_25
  let c1_i32_26 : BitVec 32 := 1#32
  let v69 : BitVec 32 := Scalar.divsi v67 c1_i32_26
  let v70 : BitVec 32 := Scalar.muli v69 c1_i32_26
  let v71 : BitVec 32 := Scalar.addi c0_i32_25 v70
  let c1_i32_28 : BitVec 32 := 1#32
  let arg10 : BitVec 32 := Scf.iv v71 c1_i32_28 k0_t2
  let v72 : BitVec 32 := Scalar.addi v18 arg10
  let c12_i32 : BitVec 32 := 12#32
  let c0_i32_34 : BitVec 32 := 0#32
  let v83 : BitVec 1 := Scalar.cmpi .eq c12_i32 c0_i32_34
  let c1_i32_35 : BitVec 32 := 1#32
  let v84 : BitVec 32 := Scalar.select v83 c1_i32_35 c12_i32
  let v85 : BitVec 32 := Scalar.remsi v72 v84
  let c0_i32_37 : BitVec 32 := 0#32
  let v87 : BitVec 1 := Scalar.cmpi .slt v85 c0_i32_37
  let c0_i32_38 : BitVec 32 := 0#32
  let v88 : BitVec 1 := Scalar.cmpi .slt v84 c0_i32_38
  let v89 : BitVec 1 := Scalar.xori v87 v88
  let c0_i32_36 : BitVec 32 := 0#32
  let v86 : BitVec 1 := Scalar.cmpi .ne v85 c0_i32_36
  let v90 : BitVec 1 := Scalar.andi v89 v86
  let v91 : BitVec 32 := Scalar.addi v85 v84
  let v92 : BitVec 32 := Scalar.select v90 v91 v85
  let v133 : Index := Scalar.indexCast v92
  let c0_63 : Index := 0#32
  let c2048 : Index := 2048#32
  ![v133.toNat, 0, 2048]
def k0_off28 (v1 : BitVec 32) (v21 : BitVec 32) (k0_t2 : Fin (k0_t2_loop v1 v21).trips) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c128_i32_5 : BitVec 32 := 128#32
  let c0_i32_8 : BitVec 32 := 0#32
  let v28 : BitVec 1 := Scalar.cmpi .sgt c128_i32_5 c0_i32_8
  let v29 : BitVec 32 := Scalar.extui v28
  let c0_i32_9 : BitVec 32 := 0#32
  let v30 : BitVec 1 := Scalar.cmpi .slt c128_i32_5 c0_i32_9
  let v31 : BitVec 32 := Scalar.extui v30
  let v32 : BitVec 32 := Scalar.subi v29 v31
  let v33 : BitVec 1 := Scalar.cmpi .ne v27 v32
  let v34 : BitVec 32 := Scalar.remsi v21 c128_i32_5
  let c0_i32_10 : BitVec 32 := 0#32
  let v35 : BitVec 1 := Scalar.cmpi .ne v34 c0_i32_10
  let v36 : BitVec 1 := Scalar.andi v33 v35
  let v22 : BitVec 32 := Scalar.divsi v21 c128_i32_5
  let c1_i32_11 : BitVec 32 := 1#32
  let v37 : BitVec 32 := Scalar.subi v22 c1_i32_11
  let v38 : BitVec 32 := Scalar.select v36 v37 v22
  let v39 : BitVec 32 := Scalar.subi v38 v18
  let v67 : BitVec 32 := Scalar.subi v39 c0_i32_25
  let c1_i32_26 : BitVec 32 := 1#32
  let v69 : BitVec 32 := Scalar.divsi v67 c1_i32_26
  let v70 : BitVec 32 := Scalar.muli v69 c1_i32_26
  let v71 : BitVec 32 := Scalar.addi c0_i32_25 v70
  let c1_i32_28 : BitVec 32 := 1#32
  let arg10 : BitVec 32 := Scf.iv v71 c1_i32_28 k0_t2
  let v72 : BitVec 32 := Scalar.addi v18 arg10
  let c12_i32 : BitVec 32 := 12#32
  let c0_i32_34 : BitVec 32 := 0#32
  let v83 : BitVec 1 := Scalar.cmpi .eq c12_i32 c0_i32_34
  let c1_i32_35 : BitVec 32 := 1#32
  let v84 : BitVec 32 := Scalar.select v83 c1_i32_35 c12_i32
  let v85 : BitVec 32 := Scalar.remsi v72 v84
  let c0_i32_37 : BitVec 32 := 0#32
  let v87 : BitVec 1 := Scalar.cmpi .slt v85 c0_i32_37
  let c0_i32_38 : BitVec 32 := 0#32
  let v88 : BitVec 1 := Scalar.cmpi .slt v84 c0_i32_38
  let v89 : BitVec 1 := Scalar.xori v87 v88
  let c0_i32_36 : BitVec 32 := 0#32
  let v86 : BitVec 1 := Scalar.cmpi .ne v85 c0_i32_36
  let v90 : BitVec 1 := Scalar.andi v89 v86
  let v91 : BitVec 32 := Scalar.addi v85 v84
  let v92 : BitVec 32 := Scalar.select v90 v91 v85
  let v136 : Index := Scalar.indexCast v92
  let c0_64 : Index := 0#32
  let c2049 : Index := 2049#32
  ![v136.toNat, 0, 2049]
def k0_off29 (v1 : BitVec 32) (v21 : BitVec 32) (k0_t2 : Fin (k0_t2_loop v1 v21).trips) : Fin 3 → Nat :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c128_i32_5 : BitVec 32 := 128#32
  let c0_i32_8 : BitVec 32 := 0#32
  let v28 : BitVec 1 := Scalar.cmpi .sgt c128_i32_5 c0_i32_8
  let v29 : BitVec 32 := Scalar.extui v28
  let c0_i32_9 : BitVec 32 := 0#32
  let v30 : BitVec 1 := Scalar.cmpi .slt c128_i32_5 c0_i32_9
  let v31 : BitVec 32 := Scalar.extui v30
  let v32 : BitVec 32 := Scalar.subi v29 v31
  let v33 : BitVec 1 := Scalar.cmpi .ne v27 v32
  let v34 : BitVec 32 := Scalar.remsi v21 c128_i32_5
  let c0_i32_10 : BitVec 32 := 0#32
  let v35 : BitVec 1 := Scalar.cmpi .ne v34 c0_i32_10
  let v36 : BitVec 1 := Scalar.andi v33 v35
  let v22 : BitVec 32 := Scalar.divsi v21 c128_i32_5
  let c1_i32_11 : BitVec 32 := 1#32
  let v37 : BitVec 32 := Scalar.subi v22 c1_i32_11
  let v38 : BitVec 32 := Scalar.select v36 v37 v22
  let v39 : BitVec 32 := Scalar.subi v38 v18
  let v67 : BitVec 32 := Scalar.subi v39 c0_i32_25
  let c1_i32_26 : BitVec 32 := 1#32
  let v69 : BitVec 32 := Scalar.divsi v67 c1_i32_26
  let v70 : BitVec 32 := Scalar.muli v69 c1_i32_26
  let v71 : BitVec 32 := Scalar.addi c0_i32_25 v70
  let c1_i32_28 : BitVec 32 := 1#32
  let arg10 : BitVec 32 := Scf.iv v71 c1_i32_28 k0_t2
  let v72 : BitVec 32 := Scalar.addi v18 arg10
  let c2_i32 : BitVec 32 := 2#32
  let c0_i32_29 : BitVec 32 := 0#32
  let v73 : BitVec 1 := Scalar.cmpi .eq c2_i32 c0_i32_29
  let c1_i32_30 : BitVec 32 := 1#32
  let v74 : BitVec 32 := Scalar.select v73 c1_i32_30 c2_i32
  let v75 : BitVec 32 := Scalar.remsi v72 v74
  let c0_i32_32 : BitVec 32 := 0#32
  let v77 : BitVec 1 := Scalar.cmpi .slt v75 c0_i32_32
  let c0_i32_33 : BitVec 32 := 0#32
  let v78 : BitVec 1 := Scalar.cmpi .slt v74 c0_i32_33
  let v79 : BitVec 1 := Scalar.xori v77 v78
  let c0_i32_31 : BitVec 32 := 0#32
  let v76 : BitVec 1 := Scalar.cmpi .ne v75 c0_i32_31
  let v80 : BitVec 1 := Scalar.andi v79 v76
  let v81 : BitVec 32 := Scalar.addi v75 v74
  let v82 : BitVec 32 := Scalar.select v80 v81 v75
  let v159 : Index := Scalar.indexCast v82
  let c0_74 : Index := 0#32
  let c0_75 : Index := 0#32
  ![v159.toNat, 0, 0]
def k0_mult21 (v1 : BitVec 32) (v21 : BitVec 32) (k0_t2 : Fin (k0_t2_loop v1 v21).trips) : BitVec 32 :=
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c128_i32 : BitVec 32 := 128#32
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let v2 : BitVec 32 := Scalar.divsi v1 c128_i32
  let c1_i32 : BitVec 32 := 1#32
  let v17 : BitVec 32 := Scalar.subi v2 c1_i32
  let v18 : BitVec 32 := Scalar.select v16 v17 v2
  let c0_i32_25 : BitVec 32 := 0#32
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c128_i32_5 : BitVec 32 := 128#32
  let c0_i32_8 : BitVec 32 := 0#32
  let v28 : BitVec 1 := Scalar.cmpi .sgt c128_i32_5 c0_i32_8
  let v29 : BitVec 32 := Scalar.extui v28
  let c0_i32_9 : BitVec 32 := 0#32
  let v30 : BitVec 1 := Scalar.cmpi .slt c128_i32_5 c0_i32_9
  let v31 : BitVec 32 := Scalar.extui v30
  let v32 : BitVec 32 := Scalar.subi v29 v31
  let v33 : BitVec 1 := Scalar.cmpi .ne v27 v32
  let v34 : BitVec 32 := Scalar.remsi v21 c128_i32_5
  let c0_i32_10 : BitVec 32 := 0#32
  let v35 : BitVec 1 := Scalar.cmpi .ne v34 c0_i32_10
  let v36 : BitVec 1 := Scalar.andi v33 v35
  let v22 : BitVec 32 := Scalar.divsi v21 c128_i32_5
  let c1_i32_11 : BitVec 32 := 1#32
  let v37 : BitVec 32 := Scalar.subi v22 c1_i32_11
  let v38 : BitVec 32 := Scalar.select v36 v37 v22
  let v39 : BitVec 32 := Scalar.subi v38 v18
  let v67 : BitVec 32 := Scalar.subi v39 c0_i32_25
  let c1_i32_26 : BitVec 32 := 1#32
  let v69 : BitVec 32 := Scalar.divsi v67 c1_i32_26
  let v70 : BitVec 32 := Scalar.muli v69 c1_i32_26
  let v71 : BitVec 32 := Scalar.addi c0_i32_25 v70
  let c1_i32_28 : BitVec 32 := 1#32
  let arg10 : BitVec 32 := Scf.iv v71 c1_i32_28 k0_t2
  let v72 : BitVec 32 := Scalar.addi v18 arg10
  let c128_i32_76 : BitVec 32 := 128#32
  let v163 : BitVec 32 := Scalar.muli v72 c128_i32_76
  v163

def k0_chk2 (v1 : BitVec 32) (v21 : BitVec 32) : Prop :=
  (∀ (k0_h2 : k0_cond2 v1 v21 = 1#1), (k0_t1_loop v1 v21).OK) ∧
  (∀ k0_t1 : Fin (k0_t1_loop v1 v21).trips, ∀ (k0_h2 : k0_cond2 v1 v21 = 1#1), 128 ∣ (k0_mult14 v1 v21 k0_t1).toNat) ∧
  (∀ k0_t1 : Fin (k0_t1_loop v1 v21).trips, ∀ (k0_h2 : k0_cond2 v1 v21 = 1#1), ∀ a, (k0_off4 v1 v21 k0_t1) a + S1.size a ≤ S12.size a) ∧
  (∀ k0_t1 : Fin (k0_t1_loop v1 v21).trips, ∀ (k0_h2 : k0_cond2 v1 v21 = 1#1), ∀ a, (k0_off5 v1 v21 k0_t1) a + S1x128x2176.size a ≤ S12x128x2176.size a) ∧
  (∀ k0_t1 : Fin (k0_t1_loop v1 v21).trips, ∀ (k0_h2 : k0_cond2 v1 v21 = 1#1), ∀ a, (k0_off6 v1 v21 k0_t1) a + S128x2176.size a ≤ S20480x2176.size a) ∧
  (∀ k0_t1 : Fin (k0_t1_loop v1 v21).trips, ∀ (k0_h2 : k0_cond2 v1 v21 = 1#1), 128 ∣ (k0_mult15 v1 v21 k0_t1).toNat) ∧
  (∀ k0_t1 : Fin (k0_t1_loop v1 v21).trips, ∀ (k0_h2 : k0_cond2 v1 v21 = 1#1), ∀ a, (k0_off7 v1 v21 k0_t1) a + S1.size a ≤ S2.size a) ∧
  (∀ k0_t1 : Fin (k0_t1_loop v1 v21).trips, ∀ (k0_h2 : k0_cond2 v1 v21 = 1#1), ∀ a, (k0_off8 v1 v21 k0_t1) a + S128x2048.size a ≤ S20480x2048.size a) ∧
  (∀ k0_t1 : Fin (k0_t1_loop v1 v21).trips, ∀ (k0_h2 : k0_cond2 v1 v21 = 1#1), ∀ a, (k0_off9 v1 v21 k0_t1) a + S1x128x2048.size a ≤ S2x128x2048.size a) ∧
  (∀ k0_t1 : Fin (k0_t1_loop v1 v21).trips, ∀ (k0_h2 : k0_cond2 v1 v21 = 1#1), ∀ a, (k0_off10 v1 v21 k0_t1) a + S1.size a ≤ S12.size a) ∧
  (∀ k0_t1 : Fin (k0_t1_loop v1 v21).trips, ∀ (k0_h2 : k0_cond2 v1 v21 = 1#1), ∀ a, (k0_off11 v1 v21 k0_t1) a + S1x128x2176.size a ≤ S12x128x2176.size a) ∧
  (∀ k0_t1 : Fin (k0_t1_loop v1 v21).trips, ∀ (k0_h2 : k0_cond2 v1 v21 = 1#1), ∀ a, (k0_off13 v1 v21 k0_t1) a + S1x128x2048.size a ≤ S12x128x2176.size a) ∧
  (∀ k0_t1 : Fin (k0_t1_loop v1 v21).trips, ∀ (k0_h2 : k0_cond2 v1 v21 = 1#1), ∀ a, (k0_off14 v1 v21 k0_t1) a + S1x128x1.size a ≤ S12x128x2176.size a) ∧
  (∀ k0_t1 : Fin (k0_t1_loop v1 v21).trips, ∀ (k0_h2 : k0_cond2 v1 v21 = 1#1), ∀ a, (k0_off15 v1 v21 k0_t1) a + S1x128x1.size a ≤ S12x128x2176.size a) ∧
  (∀ k0_t1 : Fin (k0_t1_loop v1 v21).trips, ∀ (k0_h2 : k0_cond2 v1 v21 = 1#1), ∀ a, (k0_off16 v1 v21 k0_t1) a + S1x128x2048.size a ≤ S2x128x2048.size a) ∧
  (∀ k0_t1 : Fin (k0_t1_loop v1 v21).trips, ∀ (k0_h2 : k0_cond2 v1 v21 = 1#1), 128 ∣ (k0_mult17 v1 v21 k0_t1).toNat) ∧
  (∀ (k0_h2 : k0_cond2 v1 v21 = 1#1), (k0_t2_loop v1 v21).OK) ∧
  (∀ k0_t2 : Fin (k0_t2_loop v1 v21).trips, ∀ (k0_h2 : k0_cond2 v1 v21 = 1#1), 128 ∣ (k0_mult18 v1 v21 k0_t2).toNat) ∧
  (∀ k0_t2 : Fin (k0_t2_loop v1 v21).trips, ∀ (k0_h2 : k0_cond2 v1 v21 = 1#1), ∀ a, (k0_off17 v1 v21 k0_t2) a + S1.size a ≤ S12.size a) ∧
  (∀ k0_t2 : Fin (k0_t2_loop v1 v21).trips, ∀ (k0_h2 : k0_cond2 v1 v21 = 1#1), ∀ a, (k0_off18 v1 v21 k0_t2) a + S1x128x2176.size a ≤ S12x128x2176.size a) ∧
  (∀ k0_t2 : Fin (k0_t2_loop v1 v21).trips, ∀ (k0_h2 : k0_cond2 v1 v21 = 1#1), ∀ a, (k0_off19 v1 v21 k0_t2) a + S128x2176.size a ≤ S20480x2176.size a) ∧
  (∀ k0_t2 : Fin (k0_t2_loop v1 v21).trips, ∀ (k0_h2 : k0_cond2 v1 v21 = 1#1), 128 ∣ (k0_mult19 v1 v21 k0_t2).toNat) ∧
  (∀ k0_t2 : Fin (k0_t2_loop v1 v21).trips, ∀ (k0_h2 : k0_cond2 v1 v21 = 1#1), ∀ a, (k0_off20 v1 v21 k0_t2) a + S1.size a ≤ S2.size a) ∧
  (∀ k0_t2 : Fin (k0_t2_loop v1 v21).trips, ∀ (k0_h2 : k0_cond2 v1 v21 = 1#1), ∀ a, (k0_off21 v1 v21 k0_t2) a + S128x2048.size a ≤ S20480x2048.size a) ∧
  (∀ k0_t2 : Fin (k0_t2_loop v1 v21).trips, ∀ (k0_h2 : k0_cond2 v1 v21 = 1#1), ∀ a, (k0_off22 v1 v21 k0_t2) a + S1x128x2048.size a ≤ S2x128x2048.size a) ∧
  (∀ k0_t2 : Fin (k0_t2_loop v1 v21).trips, ∀ (k0_h2 : k0_cond2 v1 v21 = 1#1), ∀ a, (k0_off23 v1 v21 k0_t2) a + S1.size a ≤ S12.size a) ∧
  (∀ k0_t2 : Fin (k0_t2_loop v1 v21).trips, ∀ (k0_h2 : k0_cond2 v1 v21 = 1#1), ∀ a, (k0_off24 v1 v21 k0_t2) a + S1x128x2176.size a ≤ S12x128x2176.size a) ∧
  (∀ k0_t2 : Fin (k0_t2_loop v1 v21).trips, ∀ (k0_h2 : k0_cond2 v1 v21 = 1#1), ∀ a, (k0_off26 v1 v21 k0_t2) a + S1x128x2048.size a ≤ S12x128x2176.size a) ∧
  (∀ k0_t2 : Fin (k0_t2_loop v1 v21).trips, ∀ (k0_h2 : k0_cond2 v1 v21 = 1#1), ∀ a, (k0_off27 v1 v21 k0_t2) a + S1x128x1.size a ≤ S12x128x2176.size a) ∧
  (∀ k0_t2 : Fin (k0_t2_loop v1 v21).trips, ∀ (k0_h2 : k0_cond2 v1 v21 = 1#1), ∀ a, (k0_off28 v1 v21 k0_t2) a + S1x128x1.size a ≤ S12x128x2176.size a) ∧
  (∀ k0_t2 : Fin (k0_t2_loop v1 v21).trips, ∀ (k0_h2 : k0_cond2 v1 v21 = 1#1), ∀ a, (k0_off29 v1 v21 k0_t2) a + S1x128x2048.size a ≤ S2x128x2048.size a) ∧
  (∀ k0_t2 : Fin (k0_t2_loop v1 v21).trips, ∀ (k0_h2 : k0_cond2 v1 v21 = 1#1), 128 ∣ (k0_mult21 v1 v21 k0_t2).toNat)
theorem k0_t1_ok : ∀ (v1 : BitVec 32) (v21 : BitVec 32) (k0_hw2 : k0_chk2 v1 v21), ∀ (k0_h2 : k0_cond2 v1 v21 = 1#1), (k0_t1_loop v1 v21).OK := fun v1 v21 k0_hw2 k0_h2 => k0_hw2.1 k0_h2
theorem k0_mult14_dvd : ∀ (v1 : BitVec 32) (v21 : BitVec 32) (k0_hw2 : k0_chk2 v1 v21) (k0_t1 : Fin (k0_t1_loop v1 v21).trips), ∀ (k0_h2 : k0_cond2 v1 v21 = 1#1), 128 ∣ (k0_mult14 v1 v21 k0_t1).toNat := fun v1 v21 k0_hw2 k0_t1 k0_h2 => k0_hw2.2.1 k0_t1 k0_h2
theorem k0_off4_inb : ∀ (v1 : BitVec 32) (v21 : BitVec 32) (k0_hw2 : k0_chk2 v1 v21) (k0_t1 : Fin (k0_t1_loop v1 v21).trips), ∀ (k0_h2 : k0_cond2 v1 v21 = 1#1), ∀ a, (k0_off4 v1 v21 k0_t1) a + S1.size a ≤ S12.size a := fun v1 v21 k0_hw2 k0_t1 k0_h2 => k0_hw2.2.2.1 k0_t1 k0_h2
theorem k0_off5_inb : ∀ (v1 : BitVec 32) (v21 : BitVec 32) (k0_hw2 : k0_chk2 v1 v21) (k0_t1 : Fin (k0_t1_loop v1 v21).trips), ∀ (k0_h2 : k0_cond2 v1 v21 = 1#1), ∀ a, (k0_off5 v1 v21 k0_t1) a + S1x128x2176.size a ≤ S12x128x2176.size a := fun v1 v21 k0_hw2 k0_t1 k0_h2 => k0_hw2.2.2.2.1 k0_t1 k0_h2
theorem k0_off6_inb : ∀ (v1 : BitVec 32) (v21 : BitVec 32) (k0_hw2 : k0_chk2 v1 v21) (k0_t1 : Fin (k0_t1_loop v1 v21).trips), ∀ (k0_h2 : k0_cond2 v1 v21 = 1#1), ∀ a, (k0_off6 v1 v21 k0_t1) a + S128x2176.size a ≤ S20480x2176.size a := fun v1 v21 k0_hw2 k0_t1 k0_h2 => k0_hw2.2.2.2.2.1 k0_t1 k0_h2
theorem k0_mult15_dvd : ∀ (v1 : BitVec 32) (v21 : BitVec 32) (k0_hw2 : k0_chk2 v1 v21) (k0_t1 : Fin (k0_t1_loop v1 v21).trips), ∀ (k0_h2 : k0_cond2 v1 v21 = 1#1), 128 ∣ (k0_mult15 v1 v21 k0_t1).toNat := fun v1 v21 k0_hw2 k0_t1 k0_h2 => k0_hw2.2.2.2.2.2.1 k0_t1 k0_h2
theorem k0_off7_inb : ∀ (v1 : BitVec 32) (v21 : BitVec 32) (k0_hw2 : k0_chk2 v1 v21) (k0_t1 : Fin (k0_t1_loop v1 v21).trips), ∀ (k0_h2 : k0_cond2 v1 v21 = 1#1), ∀ a, (k0_off7 v1 v21 k0_t1) a + S1.size a ≤ S2.size a := fun v1 v21 k0_hw2 k0_t1 k0_h2 => k0_hw2.2.2.2.2.2.2.1 k0_t1 k0_h2
theorem k0_off8_inb : ∀ (v1 : BitVec 32) (v21 : BitVec 32) (k0_hw2 : k0_chk2 v1 v21) (k0_t1 : Fin (k0_t1_loop v1 v21).trips), ∀ (k0_h2 : k0_cond2 v1 v21 = 1#1), ∀ a, (k0_off8 v1 v21 k0_t1) a + S128x2048.size a ≤ S20480x2048.size a := fun v1 v21 k0_hw2 k0_t1 k0_h2 => k0_hw2.2.2.2.2.2.2.2.1 k0_t1 k0_h2
theorem k0_off9_inb : ∀ (v1 : BitVec 32) (v21 : BitVec 32) (k0_hw2 : k0_chk2 v1 v21) (k0_t1 : Fin (k0_t1_loop v1 v21).trips), ∀ (k0_h2 : k0_cond2 v1 v21 = 1#1), ∀ a, (k0_off9 v1 v21 k0_t1) a + S1x128x2048.size a ≤ S2x128x2048.size a := fun v1 v21 k0_hw2 k0_t1 k0_h2 => k0_hw2.2.2.2.2.2.2.2.2.1 k0_t1 k0_h2
theorem k0_off10_inb : ∀ (v1 : BitVec 32) (v21 : BitVec 32) (k0_hw2 : k0_chk2 v1 v21) (k0_t1 : Fin (k0_t1_loop v1 v21).trips), ∀ (k0_h2 : k0_cond2 v1 v21 = 1#1), ∀ a, (k0_off10 v1 v21 k0_t1) a + S1.size a ≤ S12.size a := fun v1 v21 k0_hw2 k0_t1 k0_h2 => k0_hw2.2.2.2.2.2.2.2.2.2.1 k0_t1 k0_h2
theorem k0_off11_inb : ∀ (v1 : BitVec 32) (v21 : BitVec 32) (k0_hw2 : k0_chk2 v1 v21) (k0_t1 : Fin (k0_t1_loop v1 v21).trips), ∀ (k0_h2 : k0_cond2 v1 v21 = 1#1), ∀ a, (k0_off11 v1 v21 k0_t1) a + S1x128x2176.size a ≤ S12x128x2176.size a := fun v1 v21 k0_hw2 k0_t1 k0_h2 => k0_hw2.2.2.2.2.2.2.2.2.2.2.1 k0_t1 k0_h2
theorem k0_off13_inb : ∀ (v1 : BitVec 32) (v21 : BitVec 32) (k0_hw2 : k0_chk2 v1 v21) (k0_t1 : Fin (k0_t1_loop v1 v21).trips), ∀ (k0_h2 : k0_cond2 v1 v21 = 1#1), ∀ a, (k0_off13 v1 v21 k0_t1) a + S1x128x2048.size a ≤ S12x128x2176.size a := fun v1 v21 k0_hw2 k0_t1 k0_h2 => k0_hw2.2.2.2.2.2.2.2.2.2.2.2.1 k0_t1 k0_h2
theorem k0_off14_inb : ∀ (v1 : BitVec 32) (v21 : BitVec 32) (k0_hw2 : k0_chk2 v1 v21) (k0_t1 : Fin (k0_t1_loop v1 v21).trips), ∀ (k0_h2 : k0_cond2 v1 v21 = 1#1), ∀ a, (k0_off14 v1 v21 k0_t1) a + S1x128x1.size a ≤ S12x128x2176.size a := fun v1 v21 k0_hw2 k0_t1 k0_h2 => k0_hw2.2.2.2.2.2.2.2.2.2.2.2.2.1 k0_t1 k0_h2
theorem k0_off15_inb : ∀ (v1 : BitVec 32) (v21 : BitVec 32) (k0_hw2 : k0_chk2 v1 v21) (k0_t1 : Fin (k0_t1_loop v1 v21).trips), ∀ (k0_h2 : k0_cond2 v1 v21 = 1#1), ∀ a, (k0_off15 v1 v21 k0_t1) a + S1x128x1.size a ≤ S12x128x2176.size a := fun v1 v21 k0_hw2 k0_t1 k0_h2 => k0_hw2.2.2.2.2.2.2.2.2.2.2.2.2.2.1 k0_t1 k0_h2
theorem k0_off16_inb : ∀ (v1 : BitVec 32) (v21 : BitVec 32) (k0_hw2 : k0_chk2 v1 v21) (k0_t1 : Fin (k0_t1_loop v1 v21).trips), ∀ (k0_h2 : k0_cond2 v1 v21 = 1#1), ∀ a, (k0_off16 v1 v21 k0_t1) a + S1x128x2048.size a ≤ S2x128x2048.size a := fun v1 v21 k0_hw2 k0_t1 k0_h2 => k0_hw2.2.2.2.2.2.2.2.2.2.2.2.2.2.2.1 k0_t1 k0_h2
theorem k0_mult17_dvd : ∀ (v1 : BitVec 32) (v21 : BitVec 32) (k0_hw2 : k0_chk2 v1 v21) (k0_t1 : Fin (k0_t1_loop v1 v21).trips), ∀ (k0_h2 : k0_cond2 v1 v21 = 1#1), 128 ∣ (k0_mult17 v1 v21 k0_t1).toNat := fun v1 v21 k0_hw2 k0_t1 k0_h2 => k0_hw2.2.2.2.2.2.2.2.2.2.2.2.2.2.2.2.1 k0_t1 k0_h2
theorem k0_t2_ok : ∀ (v1 : BitVec 32) (v21 : BitVec 32) (k0_hw2 : k0_chk2 v1 v21), ∀ (k0_h2 : k0_cond2 v1 v21 = 1#1), (k0_t2_loop v1 v21).OK := fun v1 v21 k0_hw2 k0_h2 => k0_hw2.2.2.2.2.2.2.2.2.2.2.2.2.2.2.2.2.1 k0_h2
theorem k0_mult18_dvd : ∀ (v1 : BitVec 32) (v21 : BitVec 32) (k0_hw2 : k0_chk2 v1 v21) (k0_t2 : Fin (k0_t2_loop v1 v21).trips), ∀ (k0_h2 : k0_cond2 v1 v21 = 1#1), 128 ∣ (k0_mult18 v1 v21 k0_t2).toNat := fun v1 v21 k0_hw2 k0_t2 k0_h2 => k0_hw2.2.2.2.2.2.2.2.2.2.2.2.2.2.2.2.2.2.1 k0_t2 k0_h2
theorem k0_off17_inb : ∀ (v1 : BitVec 32) (v21 : BitVec 32) (k0_hw2 : k0_chk2 v1 v21) (k0_t2 : Fin (k0_t2_loop v1 v21).trips), ∀ (k0_h2 : k0_cond2 v1 v21 = 1#1), ∀ a, (k0_off17 v1 v21 k0_t2) a + S1.size a ≤ S12.size a := fun v1 v21 k0_hw2 k0_t2 k0_h2 => k0_hw2.2.2.2.2.2.2.2.2.2.2.2.2.2.2.2.2.2.2.1 k0_t2 k0_h2
theorem k0_off18_inb : ∀ (v1 : BitVec 32) (v21 : BitVec 32) (k0_hw2 : k0_chk2 v1 v21) (k0_t2 : Fin (k0_t2_loop v1 v21).trips), ∀ (k0_h2 : k0_cond2 v1 v21 = 1#1), ∀ a, (k0_off18 v1 v21 k0_t2) a + S1x128x2176.size a ≤ S12x128x2176.size a := fun v1 v21 k0_hw2 k0_t2 k0_h2 => k0_hw2.2.2.2.2.2.2.2.2.2.2.2.2.2.2.2.2.2.2.2.1 k0_t2 k0_h2
theorem k0_off19_inb : ∀ (v1 : BitVec 32) (v21 : BitVec 32) (k0_hw2 : k0_chk2 v1 v21) (k0_t2 : Fin (k0_t2_loop v1 v21).trips), ∀ (k0_h2 : k0_cond2 v1 v21 = 1#1), ∀ a, (k0_off19 v1 v21 k0_t2) a + S128x2176.size a ≤ S20480x2176.size a := fun v1 v21 k0_hw2 k0_t2 k0_h2 => k0_hw2.2.2.2.2.2.2.2.2.2.2.2.2.2.2.2.2.2.2.2.2.1 k0_t2 k0_h2
theorem k0_mult19_dvd : ∀ (v1 : BitVec 32) (v21 : BitVec 32) (k0_hw2 : k0_chk2 v1 v21) (k0_t2 : Fin (k0_t2_loop v1 v21).trips), ∀ (k0_h2 : k0_cond2 v1 v21 = 1#1), 128 ∣ (k0_mult19 v1 v21 k0_t2).toNat := fun v1 v21 k0_hw2 k0_t2 k0_h2 => k0_hw2.2.2.2.2.2.2.2.2.2.2.2.2.2.2.2.2.2.2.2.2.2.1 k0_t2 k0_h2
theorem k0_off20_inb : ∀ (v1 : BitVec 32) (v21 : BitVec 32) (k0_hw2 : k0_chk2 v1 v21) (k0_t2 : Fin (k0_t2_loop v1 v21).trips), ∀ (k0_h2 : k0_cond2 v1 v21 = 1#1), ∀ a, (k0_off20 v1 v21 k0_t2) a + S1.size a ≤ S2.size a := fun v1 v21 k0_hw2 k0_t2 k0_h2 => k0_hw2.2.2.2.2.2.2.2.2.2.2.2.2.2.2.2.2.2.2.2.2.2.2.1 k0_t2 k0_h2
theorem k0_off21_inb : ∀ (v1 : BitVec 32) (v21 : BitVec 32) (k0_hw2 : k0_chk2 v1 v21) (k0_t2 : Fin (k0_t2_loop v1 v21).trips), ∀ (k0_h2 : k0_cond2 v1 v21 = 1#1), ∀ a, (k0_off21 v1 v21 k0_t2) a + S128x2048.size a ≤ S20480x2048.size a := fun v1 v21 k0_hw2 k0_t2 k0_h2 => k0_hw2.2.2.2.2.2.2.2.2.2.2.2.2.2.2.2.2.2.2.2.2.2.2.2.1 k0_t2 k0_h2
theorem k0_off22_inb : ∀ (v1 : BitVec 32) (v21 : BitVec 32) (k0_hw2 : k0_chk2 v1 v21) (k0_t2 : Fin (k0_t2_loop v1 v21).trips), ∀ (k0_h2 : k0_cond2 v1 v21 = 1#1), ∀ a, (k0_off22 v1 v21 k0_t2) a + S1x128x2048.size a ≤ S2x128x2048.size a := fun v1 v21 k0_hw2 k0_t2 k0_h2 => k0_hw2.2.2.2.2.2.2.2.2.2.2.2.2.2.2.2.2.2.2.2.2.2.2.2.2.1 k0_t2 k0_h2
theorem k0_off23_inb : ∀ (v1 : BitVec 32) (v21 : BitVec 32) (k0_hw2 : k0_chk2 v1 v21) (k0_t2 : Fin (k0_t2_loop v1 v21).trips), ∀ (k0_h2 : k0_cond2 v1 v21 = 1#1), ∀ a, (k0_off23 v1 v21 k0_t2) a + S1.size a ≤ S12.size a := fun v1 v21 k0_hw2 k0_t2 k0_h2 => k0_hw2.2.2.2.2.2.2.2.2.2.2.2.2.2.2.2.2.2.2.2.2.2.2.2.2.2.1 k0_t2 k0_h2
theorem k0_off24_inb : ∀ (v1 : BitVec 32) (v21 : BitVec 32) (k0_hw2 : k0_chk2 v1 v21) (k0_t2 : Fin (k0_t2_loop v1 v21).trips), ∀ (k0_h2 : k0_cond2 v1 v21 = 1#1), ∀ a, (k0_off24 v1 v21 k0_t2) a + S1x128x2176.size a ≤ S12x128x2176.size a := fun v1 v21 k0_hw2 k0_t2 k0_h2 => k0_hw2.2.2.2.2.2.2.2.2.2.2.2.2.2.2.2.2.2.2.2.2.2.2.2.2.2.2.1 k0_t2 k0_h2
theorem k0_off26_inb : ∀ (v1 : BitVec 32) (v21 : BitVec 32) (k0_hw2 : k0_chk2 v1 v21) (k0_t2 : Fin (k0_t2_loop v1 v21).trips), ∀ (k0_h2 : k0_cond2 v1 v21 = 1#1), ∀ a, (k0_off26 v1 v21 k0_t2) a + S1x128x2048.size a ≤ S12x128x2176.size a := fun v1 v21 k0_hw2 k0_t2 k0_h2 => k0_hw2.2.2.2.2.2.2.2.2.2.2.2.2.2.2.2.2.2.2.2.2.2.2.2.2.2.2.2.1 k0_t2 k0_h2
theorem k0_off27_inb : ∀ (v1 : BitVec 32) (v21 : BitVec 32) (k0_hw2 : k0_chk2 v1 v21) (k0_t2 : Fin (k0_t2_loop v1 v21).trips), ∀ (k0_h2 : k0_cond2 v1 v21 = 1#1), ∀ a, (k0_off27 v1 v21 k0_t2) a + S1x128x1.size a ≤ S12x128x2176.size a := fun v1 v21 k0_hw2 k0_t2 k0_h2 => k0_hw2.2.2.2.2.2.2.2.2.2.2.2.2.2.2.2.2.2.2.2.2.2.2.2.2.2.2.2.2.1 k0_t2 k0_h2
theorem k0_off28_inb : ∀ (v1 : BitVec 32) (v21 : BitVec 32) (k0_hw2 : k0_chk2 v1 v21) (k0_t2 : Fin (k0_t2_loop v1 v21).trips), ∀ (k0_h2 : k0_cond2 v1 v21 = 1#1), ∀ a, (k0_off28 v1 v21 k0_t2) a + S1x128x1.size a ≤ S12x128x2176.size a := fun v1 v21 k0_hw2 k0_t2 k0_h2 => k0_hw2.2.2.2.2.2.2.2.2.2.2.2.2.2.2.2.2.2.2.2.2.2.2.2.2.2.2.2.2.2.1 k0_t2 k0_h2
theorem k0_off29_inb : ∀ (v1 : BitVec 32) (v21 : BitVec 32) (k0_hw2 : k0_chk2 v1 v21) (k0_t2 : Fin (k0_t2_loop v1 v21).trips), ∀ (k0_h2 : k0_cond2 v1 v21 = 1#1), ∀ a, (k0_off29 v1 v21 k0_t2) a + S1x128x2048.size a ≤ S2x128x2048.size a := fun v1 v21 k0_hw2 k0_t2 k0_h2 => k0_hw2.2.2.2.2.2.2.2.2.2.2.2.2.2.2.2.2.2.2.2.2.2.2.2.2.2.2.2.2.2.2.1 k0_t2 k0_h2
theorem k0_mult21_dvd : ∀ (v1 : BitVec 32) (v21 : BitVec 32) (k0_hw2 : k0_chk2 v1 v21) (k0_t2 : Fin (k0_t2_loop v1 v21).trips), ∀ (k0_h2 : k0_cond2 v1 v21 = 1#1), 128 ∣ (k0_mult21 v1 v21 k0_t2).toNat := fun v1 v21 k0_hw2 k0_t2 k0_h2 => k0_hw2.2.2.2.2.2.2.2.2.2.2.2.2.2.2.2.2.2.2.2.2.2.2.2.2.2.2.2.2.2.2.2 k0_t2 k0_h2

def k0_cond3 (i : grid0.Coords) : BitVec 1 :=
  let arg0 : BitVec 32 := BitVec.ofNat 32 (i 0).val
  let c31_i32 : BitVec 32 := 31#32
  let v64 : BitVec 1 := Scalar.cmpi .eq arg0 c31_i32
  let v65 : BitVec 32 := Scalar.extui v64
  let c0_i32_23 : BitVec 32 := 0#32
  let v66 : BitVec 1 := Scalar.cmpi .ne v65 c0_i32_23
  v66

def k0_mult22 : BitVec 32 :=
  let c0_i32_30 : BitVec 32 := 0#32
  c0_i32_30
def k0_off30 (v40 : BitVec 32) (c0_i32_24 : BitVec 32) : Fin 1 → Nat :=
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c128_i32_12 : BitVec 32 := 128#32
  let c0_i32_15 : BitVec 32 := 0#32
  let v47 : BitVec 1 := Scalar.cmpi .sgt c128_i32_12 c0_i32_15
  let v48 : BitVec 32 := Scalar.extui v47
  let c0_i32_16 : BitVec 32 := 0#32
  let v49 : BitVec 1 := Scalar.cmpi .slt c128_i32_12 c0_i32_16
  let v50 : BitVec 32 := Scalar.extui v49
  let v51 : BitVec 32 := Scalar.subi v48 v50
  let v52 : BitVec 1 := Scalar.cmpi .ne v46 v51
  let v53 : BitVec 32 := Scalar.remsi v40 c128_i32_12
  let c0_i32_17 : BitVec 32 := 0#32
  let v54 : BitVec 1 := Scalar.cmpi .ne v53 c0_i32_17
  let v55 : BitVec 1 := Scalar.andi v52 v54
  let v41 : BitVec 32 := Scalar.divsi v40 c128_i32_12
  let c1_i32_18 : BitVec 32 := 1#32
  let v56 : BitVec 32 := Scalar.subi v41 c1_i32_18
  let v57 : BitVec 32 := Scalar.select v55 v56 v41
  let v67 : BitVec 32 := Scalar.addi v57 c0_i32_24
  let c12_i32 : BitVec 32 := 12#32
  let c0_i32_25 : BitVec 32 := 0#32
  let v68 : BitVec 1 := Scalar.cmpi .eq c12_i32 c0_i32_25
  let c1_i32_26 : BitVec 32 := 1#32
  let v69 : BitVec 32 := Scalar.select v68 c1_i32_26 c12_i32
  let v70 : BitVec 32 := Scalar.remsi v67 v69
  let c0_i32_28 : BitVec 32 := 0#32
  let v72 : BitVec 1 := Scalar.cmpi .slt v70 c0_i32_28
  let c0_i32_29 : BitVec 32 := 0#32
  let v73 : BitVec 1 := Scalar.cmpi .slt v69 c0_i32_29
  let v74 : BitVec 1 := Scalar.xori v72 v73
  let c0_i32_27 : BitVec 32 := 0#32
  let v71 : BitVec 1 := Scalar.cmpi .ne v70 c0_i32_27
  let v75 : BitVec 1 := Scalar.andi v74 v71
  let v76 : BitVec 32 := Scalar.addi v70 v69
  let v77 : BitVec 32 := Scalar.select v75 v76 v70
  ![v77.toNat]
def k0_off31 (v40 : BitVec 32) (c0_i32_24 : BitVec 32) : Fin 3 → Nat :=
  let c0_i32_13 : BitVec 32 := 0#32
  let v42 : BitVec 1 := Scalar.cmpi .sgt v40 c0_i32_13
  let v43 : BitVec 32 := Scalar.extui v42
  let c0_i32_14 : BitVec 32 := 0#32
  let v44 : BitVec 1 := Scalar.cmpi .slt v40 c0_i32_14
  let v45 : BitVec 32 := Scalar.extui v44
  let v46 : BitVec 32 := Scalar.subi v43 v45
  let c128_i32_12 : BitVec 32 := 128#32
  let c0_i32_15 : BitVec 32 := 0#32
  let v47 : BitVec 1 := Scalar.cmpi .sgt c128_i32_12 c0_i32_15
  let v48 : BitVec 32 := Scalar.extui v47
  let c0_i32_16 : BitVec 32 := 0#32
  let v49 : BitVec 1 := Scalar.cmpi .slt c128_i32_12 c0_i32_16
  let v50 : BitVec 32 := Scalar.extui v49
  let v51 : BitVec 32 := Scalar.subi v48 v50
  let v52 : BitVec 1 := Scalar.cmpi .ne v46 v51
  let v53 : BitVec 32 := Scalar.remsi v40 c128_i32_12
  let c0_i32_17 : BitVec 32 := 0#32
  let v54 : BitVec 1 := Scalar.cmpi .ne v53 c0_i32_17
  let v55 : BitVec 1 := Scalar.andi v52 v54
  let v41 : BitVec 32 := Scalar.divsi v40 c128_i32_12
  let c1_i32_18 : BitVec 32 := 1#32
  let v56 : BitVec 32 := Scalar.subi v41 c1_i32_18
  let v57 : BitVec 32 := Scalar.select v55 v56 v41
  let v67 : BitVec 32 := Scalar.addi v57 c0_i32_24
  let c12_i32 : BitVec 32 := 12#32
  let c0_i32_25 : BitVec 32 := 0#32
  let v68 : BitVec 1 := Scalar.cmpi .eq c12_i32 c0_i32_25
  let c1_i32_26 : BitVec 32 := 1#32
  let v69 : BitVec 32 := Scalar.select v68 c1_i32_26 c12_i32
  let v70 : BitVec 32 := Scalar.remsi v67 v69
  let c0_i32_28 : BitVec 32 := 0#32
  let v72 : BitVec 1 := Scalar.cmpi .slt v70 c0_i32_28
  let c0_i32_29 : BitVec 32 := 0#32
  let v73 : BitVec 1 := Scalar.cmpi .slt v69 c0_i32_29
  let v74 : BitVec 1 := Scalar.xori v72 v73
  let c0_i32_27 : BitVec 32 := 0#32
  let v71 : BitVec 1 := Scalar.cmpi .ne v70 c0_i32_27
  let v75 : BitVec 1 := Scalar.andi v74 v71
  let v76 : BitVec 32 := Scalar.addi v70 v69
  let v77 : BitVec 32 := Scalar.select v75 v76 v70
  let c0_i32_31 : BitVec 32 := 0#32
  let c0_i32_32 : BitVec 32 := 0#32
  ![v77.toNat, 0, 0]

def k0_chk1 (i : grid0.Coords) (v1 : BitVec 32) (v21 : BitVec 32) (v40 : BitVec 32) : Prop :=
  (∀ (k0_h1 : k0_cond1 i = 1#1), 128 ∣ (k0_mult1 v40).toNat) ∧
  (∀ (k0_h1 : k0_cond1 i = 1#1), ∀ (r : Fin 11), ∀ a, (k0_off3 v40 (BitVec.ofNat 32 r.val)) a + S128x2176.size a ≤ S20480x2176.size a) ∧
  (∀ (k0_h1 : k0_cond1 i = 1#1), 128 ∣ (k0_mult2 v40).toNat) ∧
  (∀ (k0_h1 : k0_cond1 i = 1#1), 128 ∣ (k0_mult3 v40).toNat) ∧
  (∀ (k0_h1 : k0_cond1 i = 1#1), 128 ∣ (k0_mult4 v40).toNat) ∧
  (∀ (k0_h1 : k0_cond1 i = 1#1), 128 ∣ (k0_mult5 v40).toNat) ∧
  (∀ (k0_h1 : k0_cond1 i = 1#1), 128 ∣ (k0_mult6 v40).toNat) ∧
  (∀ (k0_h1 : k0_cond1 i = 1#1), 128 ∣ (k0_mult7 v40).toNat) ∧
  (∀ (k0_h1 : k0_cond1 i = 1#1), 128 ∣ (k0_mult8 v40).toNat) ∧
  (∀ (k0_h1 : k0_cond1 i = 1#1), 128 ∣ (k0_mult9 v40).toNat) ∧
  (∀ (k0_h1 : k0_cond1 i = 1#1), 128 ∣ (k0_mult10 v40).toNat) ∧
  (∀ (k0_h1 : k0_cond1 i = 1#1), 128 ∣ (k0_mult11 v40).toNat) ∧
  (∀ k0_t1 : Fin (k0_t1_loop v1 v21).trips, ∀ (k0_h2 : k0_cond2 v1 v21 = 1#1), 128 ∣ (k0_mult16 v1 v21 v40 k0_t1).toNat) ∧
  (∀ k0_t1 : Fin (k0_t1_loop v1 v21).trips, ∀ (k0_h2 : k0_cond2 v1 v21 = 1#1), ∀ a, (k0_off12 v1 v21 v40 k0_t1) a + S128x2176.size a ≤ S20480x2176.size a) ∧
  (∀ k0_t2 : Fin (k0_t2_loop v1 v21).trips, ∀ (k0_h2 : k0_cond2 v1 v21 = 1#1), 128 ∣ (k0_mult20 v1 v21 v40 k0_t2).toNat) ∧
  (∀ k0_t2 : Fin (k0_t2_loop v1 v21).trips, ∀ (k0_h2 : k0_cond2 v1 v21 = 1#1), ∀ a, (k0_off25 v1 v21 v40 k0_t2) a + S128x2176.size a ≤ S20480x2176.size a) ∧
  (∀ (k0_h3 : k0_cond3 i = 1#1), ∀ (r : Fin 11), ∀ a, (k0_off30 v40 (BitVec.ofNat 32 r.val)) a + S1.size a ≤ S12.size a) ∧
  (∀ (k0_h3 : k0_cond3 i = 1#1), ∀ (r : Fin 11), ∀ a, (k0_off31 v40 (BitVec.ofNat 32 r.val)) a + S1x128x2176.size a ≤ S12x128x2176.size a)
theorem k0_mult1_dvd : ∀ (i : grid0.Coords) (v1 : BitVec 32) (v21 : BitVec 32) (v40 : BitVec 32) (k0_hw1 : k0_chk1 i v1 v21 v40), ∀ (k0_h1 : k0_cond1 i = 1#1), 128 ∣ (k0_mult1 v40).toNat := fun i v1 v21 v40 k0_hw1 k0_h1 => k0_hw1.1 k0_h1
theorem k0_off3_inb : ∀ (i : grid0.Coords) (v1 : BitVec 32) (v21 : BitVec 32) (v40 : BitVec 32) (k0_hw1 : k0_chk1 i v1 v21 v40), ∀ (k0_h1 : k0_cond1 i = 1#1), ∀ (r : Fin 11), ∀ a, (k0_off3 v40 (BitVec.ofNat 32 r.val)) a + S128x2176.size a ≤ S20480x2176.size a := fun i v1 v21 v40 k0_hw1 k0_h1 r => k0_hw1.2.1 k0_h1 r
theorem k0_mult2_dvd : ∀ (i : grid0.Coords) (v1 : BitVec 32) (v21 : BitVec 32) (v40 : BitVec 32) (k0_hw1 : k0_chk1 i v1 v21 v40), ∀ (k0_h1 : k0_cond1 i = 1#1), 128 ∣ (k0_mult2 v40).toNat := fun i v1 v21 v40 k0_hw1 k0_h1 => k0_hw1.2.2.1 k0_h1
theorem k0_mult3_dvd : ∀ (i : grid0.Coords) (v1 : BitVec 32) (v21 : BitVec 32) (v40 : BitVec 32) (k0_hw1 : k0_chk1 i v1 v21 v40), ∀ (k0_h1 : k0_cond1 i = 1#1), 128 ∣ (k0_mult3 v40).toNat := fun i v1 v21 v40 k0_hw1 k0_h1 => k0_hw1.2.2.2.1 k0_h1
theorem k0_mult4_dvd : ∀ (i : grid0.Coords) (v1 : BitVec 32) (v21 : BitVec 32) (v40 : BitVec 32) (k0_hw1 : k0_chk1 i v1 v21 v40), ∀ (k0_h1 : k0_cond1 i = 1#1), 128 ∣ (k0_mult4 v40).toNat := fun i v1 v21 v40 k0_hw1 k0_h1 => k0_hw1.2.2.2.2.1 k0_h1
theorem k0_mult5_dvd : ∀ (i : grid0.Coords) (v1 : BitVec 32) (v21 : BitVec 32) (v40 : BitVec 32) (k0_hw1 : k0_chk1 i v1 v21 v40), ∀ (k0_h1 : k0_cond1 i = 1#1), 128 ∣ (k0_mult5 v40).toNat := fun i v1 v21 v40 k0_hw1 k0_h1 => k0_hw1.2.2.2.2.2.1 k0_h1
theorem k0_mult6_dvd : ∀ (i : grid0.Coords) (v1 : BitVec 32) (v21 : BitVec 32) (v40 : BitVec 32) (k0_hw1 : k0_chk1 i v1 v21 v40), ∀ (k0_h1 : k0_cond1 i = 1#1), 128 ∣ (k0_mult6 v40).toNat := fun i v1 v21 v40 k0_hw1 k0_h1 => k0_hw1.2.2.2.2.2.2.1 k0_h1
theorem k0_mult7_dvd : ∀ (i : grid0.Coords) (v1 : BitVec 32) (v21 : BitVec 32) (v40 : BitVec 32) (k0_hw1 : k0_chk1 i v1 v21 v40), ∀ (k0_h1 : k0_cond1 i = 1#1), 128 ∣ (k0_mult7 v40).toNat := fun i v1 v21 v40 k0_hw1 k0_h1 => k0_hw1.2.2.2.2.2.2.2.1 k0_h1
theorem k0_mult8_dvd : ∀ (i : grid0.Coords) (v1 : BitVec 32) (v21 : BitVec 32) (v40 : BitVec 32) (k0_hw1 : k0_chk1 i v1 v21 v40), ∀ (k0_h1 : k0_cond1 i = 1#1), 128 ∣ (k0_mult8 v40).toNat := fun i v1 v21 v40 k0_hw1 k0_h1 => k0_hw1.2.2.2.2.2.2.2.2.1 k0_h1
theorem k0_mult9_dvd : ∀ (i : grid0.Coords) (v1 : BitVec 32) (v21 : BitVec 32) (v40 : BitVec 32) (k0_hw1 : k0_chk1 i v1 v21 v40), ∀ (k0_h1 : k0_cond1 i = 1#1), 128 ∣ (k0_mult9 v40).toNat := fun i v1 v21 v40 k0_hw1 k0_h1 => k0_hw1.2.2.2.2.2.2.2.2.2.1 k0_h1
theorem k0_mult10_dvd : ∀ (i : grid0.Coords) (v1 : BitVec 32) (v21 : BitVec 32) (v40 : BitVec 32) (k0_hw1 : k0_chk1 i v1 v21 v40), ∀ (k0_h1 : k0_cond1 i = 1#1), 128 ∣ (k0_mult10 v40).toNat := fun i v1 v21 v40 k0_hw1 k0_h1 => k0_hw1.2.2.2.2.2.2.2.2.2.2.1 k0_h1
theorem k0_mult11_dvd : ∀ (i : grid0.Coords) (v1 : BitVec 32) (v21 : BitVec 32) (v40 : BitVec 32) (k0_hw1 : k0_chk1 i v1 v21 v40), ∀ (k0_h1 : k0_cond1 i = 1#1), 128 ∣ (k0_mult11 v40).toNat := fun i v1 v21 v40 k0_hw1 k0_h1 => k0_hw1.2.2.2.2.2.2.2.2.2.2.2.1 k0_h1
theorem k0_mult16_dvd : ∀ (i : grid0.Coords) (v1 : BitVec 32) (v21 : BitVec 32) (v40 : BitVec 32) (k0_hw1 : k0_chk1 i v1 v21 v40) (k0_t1 : Fin (k0_t1_loop v1 v21).trips), ∀ (k0_h2 : k0_cond2 v1 v21 = 1#1), 128 ∣ (k0_mult16 v1 v21 v40 k0_t1).toNat := fun i v1 v21 v40 k0_hw1 k0_t1 k0_h2 => k0_hw1.2.2.2.2.2.2.2.2.2.2.2.2.1 k0_t1 k0_h2
theorem k0_off12_inb : ∀ (i : grid0.Coords) (v1 : BitVec 32) (v21 : BitVec 32) (v40 : BitVec 32) (k0_hw1 : k0_chk1 i v1 v21 v40) (k0_t1 : Fin (k0_t1_loop v1 v21).trips), ∀ (k0_h2 : k0_cond2 v1 v21 = 1#1), ∀ a, (k0_off12 v1 v21 v40 k0_t1) a + S128x2176.size a ≤ S20480x2176.size a := fun i v1 v21 v40 k0_hw1 k0_t1 k0_h2 => k0_hw1.2.2.2.2.2.2.2.2.2.2.2.2.2.1 k0_t1 k0_h2
theorem k0_mult20_dvd : ∀ (i : grid0.Coords) (v1 : BitVec 32) (v21 : BitVec 32) (v40 : BitVec 32) (k0_hw1 : k0_chk1 i v1 v21 v40) (k0_t2 : Fin (k0_t2_loop v1 v21).trips), ∀ (k0_h2 : k0_cond2 v1 v21 = 1#1), 128 ∣ (k0_mult20 v1 v21 v40 k0_t2).toNat := fun i v1 v21 v40 k0_hw1 k0_t2 k0_h2 => k0_hw1.2.2.2.2.2.2.2.2.2.2.2.2.2.2.1 k0_t2 k0_h2
theorem k0_off25_inb : ∀ (i : grid0.Coords) (v1 : BitVec 32) (v21 : BitVec 32) (v40 : BitVec 32) (k0_hw1 : k0_chk1 i v1 v21 v40) (k0_t2 : Fin (k0_t2_loop v1 v21).trips), ∀ (k0_h2 : k0_cond2 v1 v21 = 1#1), ∀ a, (k0_off25 v1 v21 v40 k0_t2) a + S128x2176.size a ≤ S20480x2176.size a := fun i v1 v21 v40 k0_hw1 k0_t2 k0_h2 => k0_hw1.2.2.2.2.2.2.2.2.2.2.2.2.2.2.2.1 k0_t2 k0_h2
theorem k0_off30_inb : ∀ (i : grid0.Coords) (v1 : BitVec 32) (v21 : BitVec 32) (v40 : BitVec 32) (k0_hw1 : k0_chk1 i v1 v21 v40), ∀ (k0_h3 : k0_cond3 i = 1#1), ∀ (r : Fin 11), ∀ a, (k0_off30 v40 (BitVec.ofNat 32 r.val)) a + S1.size a ≤ S12.size a := fun i v1 v21 v40 k0_hw1 k0_h3 r => k0_hw1.2.2.2.2.2.2.2.2.2.2.2.2.2.2.2.2.1 k0_h3 r
theorem k0_off31_inb : ∀ (i : grid0.Coords) (v1 : BitVec 32) (v21 : BitVec 32) (v40 : BitVec 32) (k0_hw1 : k0_chk1 i v1 v21 v40), ∀ (k0_h3 : k0_cond3 i = 1#1), ∀ (r : Fin 11), ∀ a, (k0_off31 v40 (BitVec.ofNat 32 r.val)) a + S1x128x2176.size a ≤ S12x128x2176.size a := fun i v1 v21 v40 k0_hw1 k0_h3 r => k0_hw1.2.2.2.2.2.2.2.2.2.2.2.2.2.2.2.2.2 k0_h3 r

def k0_mult23 : BitVec 32 :=
  let c0_i32_41 : BitVec 32 := 0#32
  c0_i32_41
def k0_mult24 : BitVec 32 :=
  let c0_i32_51 : BitVec 32 := 0#32
  c0_i32_51
def k0_mult25 : BitVec 32 :=
  let c0_i32_61 : BitVec 32 := 0#32
  c0_i32_61
def k0_mult26 : BitVec 32 :=
  let c0_i32_71 : BitVec 32 := 0#32
  c0_i32_71
def k0_mult27 : BitVec 32 :=
  let c0_i32_81 : BitVec 32 := 0#32
  c0_i32_81
def k0_mult28 : BitVec 32 :=
  let c0_i32_91 : BitVec 32 := 0#32
  c0_i32_91
def k0_mult29 : BitVec 32 :=
  let c0_i32_101 : BitVec 32 := 0#32
  c0_i32_101
def k0_mult30 : BitVec 32 :=
  let c0_i32_111 : BitVec 32 := 0#32
  c0_i32_111
def k0_mult31 : BitVec 32 :=
  let c0_i32_121 : BitVec 32 := 0#32
  c0_i32_121
def k0_mult32 : BitVec 32 :=
  let c0_i32_131 : BitVec 32 := 0#32
  c0_i32_131
def k0_mult33 : BitVec 32 :=
  let c0_i32_135 : BitVec 32 := 0#32
  c0_i32_135
def k0_mult34 : BitVec 32 :=
  let c128_i32_141 : BitVec 32 := 128#32
  c128_i32_141
@[reducible] def k0_t3_loop (v266 : BitVec 32) : Scf.Loop 32 :=
  let c0_i32_158 : BitVec 32 := 0#32
  let c20480_i32 : BitVec 32 := 20480#32
  let v267 : BitVec 32 := Scalar.subi c20480_i32 v266
  let c0_i32_149 : BitVec 32 := 0#32
  let v269 : BitVec 1 := Scalar.cmpi .sgt v267 c0_i32_149
  let v270 : BitVec 32 := Scalar.extui v269
  let c0_i32_150 : BitVec 32 := 0#32
  let v271 : BitVec 1 := Scalar.cmpi .slt v267 c0_i32_150
  let v272 : BitVec 32 := Scalar.extui v271
  let v273 : BitVec 32 := Scalar.subi v270 v272
  let c128_i32_148 : BitVec 32 := 128#32
  let c0_i32_151 : BitVec 32 := 0#32
  let v274 : BitVec 1 := Scalar.cmpi .sgt c128_i32_148 c0_i32_151
  let v275 : BitVec 32 := Scalar.extui v274
  let c0_i32_152 : BitVec 32 := 0#32
  let v276 : BitVec 1 := Scalar.cmpi .slt c128_i32_148 c0_i32_152
  let v277 : BitVec 32 := Scalar.extui v276
  let v278 : BitVec 32 := Scalar.subi v275 v277
  let v279 : BitVec 1 := Scalar.cmpi .ne v273 v278
  let v280 : BitVec 32 := Scalar.remsi v267 c128_i32_148
  let c0_i32_153 : BitVec 32 := 0#32
  let v281 : BitVec 1 := Scalar.cmpi .ne v280 c0_i32_153
  let v282 : BitVec 1 := Scalar.andi v279 v281
  let v268 : BitVec 32 := Scalar.divsi v267 c128_i32_148
  let c1_i32_154 : BitVec 32 := 1#32
  let v283 : BitVec 32 := Scalar.subi v268 c1_i32_154
  let v284 : BitVec 32 := Scalar.select v282 v283 v268
  let v289 : BitVec 32 := Scalar.subi v284 c0_i32_158
  let c1_i32_159 : BitVec 32 := 1#32
  let v291 : BitVec 32 := Scalar.divsi v289 c1_i32_159
  let v292 : BitVec 32 := Scalar.muli v291 c1_i32_159
  let v293 : BitVec 32 := Scalar.addi c0_i32_158 v292
  let c1_i32_160 : BitVec 32 := 1#32
  ⟨c0_i32_158, v293, c1_i32_160⟩

def k0_mult35 (v266 : BitVec 32) (k0_t3 : Fin (k0_t3_loop v266).trips) : BitVec 32 :=
  let c0_i32_158 : BitVec 32 := 0#32
  let c1_i32_160 : BitVec 32 := 1#32
  let arg10 : BitVec 32 := Scf.iv c0_i32_158 c1_i32_160 k0_t3
  let c128_i32_167 : BitVec 32 := 128#32
  let v299 : BitVec 32 := Scalar.muli arg10 c128_i32_167
  let v300 : BitVec 32 := Scalar.addi v266 v299
  v300
def k0_off32 (v266 : BitVec 32) (k0_t3 : Fin (k0_t3_loop v266).trips) : Fin 2 → Nat :=
  let c0_i32_158 : BitVec 32 := 0#32
  let c1_i32_160 : BitVec 32 := 1#32
  let arg10 : BitVec 32 := Scf.iv c0_i32_158 c1_i32_160 k0_t3
  let c128_i32_167 : BitVec 32 := 128#32
  let v299 : BitVec 32 := Scalar.muli arg10 c128_i32_167
  let v300 : BitVec 32 := Scalar.addi v266 v299
  let v301 : BitVec 32 := v300
  let c0_i32_170 : BitVec 32 := 0#32
  ![v301.toNat, 0]
@[reducible] def k0_t4_loop (v266 : BitVec 32) : Scf.Loop 32 :=
  let c0_i32_158 : BitVec 32 := 0#32
  let c20480_i32 : BitVec 32 := 20480#32
  let v267 : BitVec 32 := Scalar.subi c20480_i32 v266
  let c0_i32_149 : BitVec 32 := 0#32
  let v269 : BitVec 1 := Scalar.cmpi .sgt v267 c0_i32_149
  let v270 : BitVec 32 := Scalar.extui v269
  let c0_i32_150 : BitVec 32 := 0#32
  let v271 : BitVec 1 := Scalar.cmpi .slt v267 c0_i32_150
  let v272 : BitVec 32 := Scalar.extui v271
  let v273 : BitVec 32 := Scalar.subi v270 v272
  let c128_i32_148 : BitVec 32 := 128#32
  let c0_i32_151 : BitVec 32 := 0#32
  let v274 : BitVec 1 := Scalar.cmpi .sgt c128_i32_148 c0_i32_151
  let v275 : BitVec 32 := Scalar.extui v274
  let c0_i32_152 : BitVec 32 := 0#32
  let v276 : BitVec 1 := Scalar.cmpi .slt c128_i32_148 c0_i32_152
  let v277 : BitVec 32 := Scalar.extui v276
  let v278 : BitVec 32 := Scalar.subi v275 v277
  let v279 : BitVec 1 := Scalar.cmpi .ne v273 v278
  let v280 : BitVec 32 := Scalar.remsi v267 c128_i32_148
  let c0_i32_153 : BitVec 32 := 0#32
  let v281 : BitVec 1 := Scalar.cmpi .ne v280 c0_i32_153
  let v282 : BitVec 1 := Scalar.andi v279 v281
  let v268 : BitVec 32 := Scalar.divsi v267 c128_i32_148
  let c1_i32_154 : BitVec 32 := 1#32
  let v283 : BitVec 32 := Scalar.subi v268 c1_i32_154
  let v284 : BitVec 32 := Scalar.select v282 v283 v268
  let v289 : BitVec 32 := Scalar.subi v284 c0_i32_158
  let c1_i32_159 : BitVec 32 := 1#32
  let v291 : BitVec 32 := Scalar.divsi v289 c1_i32_159
  let v292 : BitVec 32 := Scalar.muli v291 c1_i32_159
  let v293 : BitVec 32 := Scalar.addi c0_i32_158 v292
  let v290 : BitVec 32 := Scalar.addi c0_i32_158 v289
  let c1_i32_161 : BitVec 32 := 1#32
  ⟨v293, v290, c1_i32_161⟩
def k0_mult36 (v266 : BitVec 32) (k0_t4 : Fin (k0_t4_loop v266).trips) : BitVec 32 :=
  let c0_i32_158 : BitVec 32 := 0#32
  let c20480_i32 : BitVec 32 := 20480#32
  let v267 : BitVec 32 := Scalar.subi c20480_i32 v266
  let c0_i32_149 : BitVec 32 := 0#32
  let v269 : BitVec 1 := Scalar.cmpi .sgt v267 c0_i32_149
  let v270 : BitVec 32 := Scalar.extui v269
  let c0_i32_150 : BitVec 32 := 0#32
  let v271 : BitVec 1 := Scalar.cmpi .slt v267 c0_i32_150
  let v272 : BitVec 32 := Scalar.extui v271
  let v273 : BitVec 32 := Scalar.subi v270 v272
  let c128_i32_148 : BitVec 32 := 128#32
  let c0_i32_151 : BitVec 32 := 0#32
  let v274 : BitVec 1 := Scalar.cmpi .sgt c128_i32_148 c0_i32_151
  let v275 : BitVec 32 := Scalar.extui v274
  let c0_i32_152 : BitVec 32 := 0#32
  let v276 : BitVec 1 := Scalar.cmpi .slt c128_i32_148 c0_i32_152
  let v277 : BitVec 32 := Scalar.extui v276
  let v278 : BitVec 32 := Scalar.subi v275 v277
  let v279 : BitVec 1 := Scalar.cmpi .ne v273 v278
  let v280 : BitVec 32 := Scalar.remsi v267 c128_i32_148
  let c0_i32_153 : BitVec 32 := 0#32
  let v281 : BitVec 1 := Scalar.cmpi .ne v280 c0_i32_153
  let v282 : BitVec 1 := Scalar.andi v279 v281
  let v268 : BitVec 32 := Scalar.divsi v267 c128_i32_148
  let c1_i32_154 : BitVec 32 := 1#32
  let v283 : BitVec 32 := Scalar.subi v268 c1_i32_154
  let v284 : BitVec 32 := Scalar.select v282 v283 v268
  let v289 : BitVec 32 := Scalar.subi v284 c0_i32_158
  let c1_i32_159 : BitVec 32 := 1#32
  let v291 : BitVec 32 := Scalar.divsi v289 c1_i32_159
  let v292 : BitVec 32 := Scalar.muli v291 c1_i32_159
  let v293 : BitVec 32 := Scalar.addi c0_i32_158 v292
  let c1_i32_161 : BitVec 32 := 1#32
  let arg10 : BitVec 32 := Scf.iv v293 c1_i32_161 k0_t4
  let c128_i32_167 : BitVec 32 := 128#32
  let v299 : BitVec 32 := Scalar.muli arg10 c128_i32_167
  let v300 : BitVec 32 := Scalar.addi v266 v299
  v300
def k0_off33 (v266 : BitVec 32) (k0_t4 : Fin (k0_t4_loop v266).trips) : Fin 2 → Nat :=
  let c0_i32_158 : BitVec 32 := 0#32
  let c20480_i32 : BitVec 32 := 20480#32
  let v267 : BitVec 32 := Scalar.subi c20480_i32 v266
  let c0_i32_149 : BitVec 32 := 0#32
  let v269 : BitVec 1 := Scalar.cmpi .sgt v267 c0_i32_149
  let v270 : BitVec 32 := Scalar.extui v269
  let c0_i32_150 : BitVec 32 := 0#32
  let v271 : BitVec 1 := Scalar.cmpi .slt v267 c0_i32_150
  let v272 : BitVec 32 := Scalar.extui v271
  let v273 : BitVec 32 := Scalar.subi v270 v272
  let c128_i32_148 : BitVec 32 := 128#32
  let c0_i32_151 : BitVec 32 := 0#32
  let v274 : BitVec 1 := Scalar.cmpi .sgt c128_i32_148 c0_i32_151
  let v275 : BitVec 32 := Scalar.extui v274
  let c0_i32_152 : BitVec 32 := 0#32
  let v276 : BitVec 1 := Scalar.cmpi .slt c128_i32_148 c0_i32_152
  let v277 : BitVec 32 := Scalar.extui v276
  let v278 : BitVec 32 := Scalar.subi v275 v277
  let v279 : BitVec 1 := Scalar.cmpi .ne v273 v278
  let v280 : BitVec 32 := Scalar.remsi v267 c128_i32_148
  let c0_i32_153 : BitVec 32 := 0#32
  let v281 : BitVec 1 := Scalar.cmpi .ne v280 c0_i32_153
  let v282 : BitVec 1 := Scalar.andi v279 v281
  let v268 : BitVec 32 := Scalar.divsi v267 c128_i32_148
  let c1_i32_154 : BitVec 32 := 1#32
  let v283 : BitVec 32 := Scalar.subi v268 c1_i32_154
  let v284 : BitVec 32 := Scalar.select v282 v283 v268
  let v289 : BitVec 32 := Scalar.subi v284 c0_i32_158
  let c1_i32_159 : BitVec 32 := 1#32
  let v291 : BitVec 32 := Scalar.divsi v289 c1_i32_159
  let v292 : BitVec 32 := Scalar.muli v291 c1_i32_159
  let v293 : BitVec 32 := Scalar.addi c0_i32_158 v292
  let c1_i32_161 : BitVec 32 := 1#32
  let arg10 : BitVec 32 := Scf.iv v293 c1_i32_161 k0_t4
  let c128_i32_167 : BitVec 32 := 128#32
  let v299 : BitVec 32 := Scalar.muli arg10 c128_i32_167
  let v300 : BitVec 32 := Scalar.addi v266 v299
  let v301 : BitVec 32 := v300
  let c0_i32_170 : BitVec 32 := 0#32
  ![v301.toNat, 0]
@[reducible] def k0_t5_loop (v266 : BitVec 32) : Scf.Loop 32 :=
  let c0_i32_163 : BitVec 32 := 0#32
  let c20480_i32 : BitVec 32 := 20480#32
  let v267 : BitVec 32 := Scalar.subi c20480_i32 v266
  let c0_i32_149 : BitVec 32 := 0#32
  let v269 : BitVec 1 := Scalar.cmpi .sgt v267 c0_i32_149
  let v270 : BitVec 32 := Scalar.extui v269
  let c0_i32_150 : BitVec 32 := 0#32
  let v271 : BitVec 1 := Scalar.cmpi .slt v267 c0_i32_150
  let v272 : BitVec 32 := Scalar.extui v271
  let v273 : BitVec 32 := Scalar.subi v270 v272
  let c128_i32_148 : BitVec 32 := 128#32
  let c0_i32_151 : BitVec 32 := 0#32
  let v274 : BitVec 1 := Scalar.cmpi .sgt c128_i32_148 c0_i32_151
  let v275 : BitVec 32 := Scalar.extui v274
  let c0_i32_152 : BitVec 32 := 0#32
  let v276 : BitVec 1 := Scalar.cmpi .slt c128_i32_148 c0_i32_152
  let v277 : BitVec 32 := Scalar.extui v276
  let v278 : BitVec 32 := Scalar.subi v275 v277
  let v279 : BitVec 1 := Scalar.cmpi .ne v273 v278
  let v280 : BitVec 32 := Scalar.remsi v267 c128_i32_148
  let c0_i32_153 : BitVec 32 := 0#32
  let v281 : BitVec 1 := Scalar.cmpi .ne v280 c0_i32_153
  let v282 : BitVec 1 := Scalar.andi v279 v281
  let v268 : BitVec 32 := Scalar.divsi v267 c128_i32_148
  let c1_i32_154 : BitVec 32 := 1#32
  let v283 : BitVec 32 := Scalar.subi v268 c1_i32_154
  let v284 : BitVec 32 := Scalar.select v282 v283 v268
  let v294 : BitVec 32 := Scalar.subi v284 c0_i32_163
  let c1_i32_164 : BitVec 32 := 1#32
  let v296 : BitVec 32 := Scalar.divsi v294 c1_i32_164
  let v297 : BitVec 32 := Scalar.muli v296 c1_i32_164
  let v298 : BitVec 32 := Scalar.addi c0_i32_163 v297
  let c1_i32_165 : BitVec 32 := 1#32
  ⟨c0_i32_163, v298, c1_i32_165⟩
def k0_mult37 (v266 : BitVec 32) (k0_t5 : Fin (k0_t5_loop v266).trips) : BitVec 32 :=
  let c0_i32_163 : BitVec 32 := 0#32
  let c1_i32_165 : BitVec 32 := 1#32
  let arg10 : BitVec 32 := Scf.iv c0_i32_163 c1_i32_165 k0_t5
  let c128_i32_167 : BitVec 32 := 128#32
  let v299 : BitVec 32 := Scalar.muli arg10 c128_i32_167
  let v300 : BitVec 32 := Scalar.addi v266 v299
  v300
def k0_off34 (v266 : BitVec 32) (k0_t5 : Fin (k0_t5_loop v266).trips) : Fin 2 → Nat :=
  let c0_i32_163 : BitVec 32 := 0#32
  let c1_i32_165 : BitVec 32 := 1#32
  let arg10 : BitVec 32 := Scf.iv c0_i32_163 c1_i32_165 k0_t5
  let c128_i32_167 : BitVec 32 := 128#32
  let v299 : BitVec 32 := Scalar.muli arg10 c128_i32_167
  let v300 : BitVec 32 := Scalar.addi v266 v299
  let v301 : BitVec 32 := v300
  let c0_i32_170 : BitVec 32 := 0#32
  ![v301.toNat, 0]
@[reducible] def k0_t6_loop (v266 : BitVec 32) : Scf.Loop 32 :=
  let c0_i32_163 : BitVec 32 := 0#32
  let c20480_i32 : BitVec 32 := 20480#32
  let v267 : BitVec 32 := Scalar.subi c20480_i32 v266
  let c0_i32_149 : BitVec 32 := 0#32
  let v269 : BitVec 1 := Scalar.cmpi .sgt v267 c0_i32_149
  let v270 : BitVec 32 := Scalar.extui v269
  let c0_i32_150 : BitVec 32 := 0#32
  let v271 : BitVec 1 := Scalar.cmpi .slt v267 c0_i32_150
  let v272 : BitVec 32 := Scalar.extui v271
  let v273 : BitVec 32 := Scalar.subi v270 v272
  let c128_i32_148 : BitVec 32 := 128#32
  let c0_i32_151 : BitVec 32 := 0#32
  let v274 : BitVec 1 := Scalar.cmpi .sgt c128_i32_148 c0_i32_151
  let v275 : BitVec 32 := Scalar.extui v274
  let c0_i32_152 : BitVec 32 := 0#32
  let v276 : BitVec 1 := Scalar.cmpi .slt c128_i32_148 c0_i32_152
  let v277 : BitVec 32 := Scalar.extui v276
  let v278 : BitVec 32 := Scalar.subi v275 v277
  let v279 : BitVec 1 := Scalar.cmpi .ne v273 v278
  let v280 : BitVec 32 := Scalar.remsi v267 c128_i32_148
  let c0_i32_153 : BitVec 32 := 0#32
  let v281 : BitVec 1 := Scalar.cmpi .ne v280 c0_i32_153
  let v282 : BitVec 1 := Scalar.andi v279 v281
  let v268 : BitVec 32 := Scalar.divsi v267 c128_i32_148
  let c1_i32_154 : BitVec 32 := 1#32
  let v283 : BitVec 32 := Scalar.subi v268 c1_i32_154
  let v284 : BitVec 32 := Scalar.select v282 v283 v268
  let v294 : BitVec 32 := Scalar.subi v284 c0_i32_163
  let c1_i32_164 : BitVec 32 := 1#32
  let v296 : BitVec 32 := Scalar.divsi v294 c1_i32_164
  let v297 : BitVec 32 := Scalar.muli v296 c1_i32_164
  let v298 : BitVec 32 := Scalar.addi c0_i32_163 v297
  let v295 : BitVec 32 := Scalar.addi c0_i32_163 v294
  let c1_i32_166 : BitVec 32 := 1#32
  ⟨v298, v295, c1_i32_166⟩
def k0_mult38 (v266 : BitVec 32) (k0_t6 : Fin (k0_t6_loop v266).trips) : BitVec 32 :=
  let c0_i32_163 : BitVec 32 := 0#32
  let c20480_i32 : BitVec 32 := 20480#32
  let v267 : BitVec 32 := Scalar.subi c20480_i32 v266
  let c0_i32_149 : BitVec 32 := 0#32
  let v269 : BitVec 1 := Scalar.cmpi .sgt v267 c0_i32_149
  let v270 : BitVec 32 := Scalar.extui v269
  let c0_i32_150 : BitVec 32 := 0#32
  let v271 : BitVec 1 := Scalar.cmpi .slt v267 c0_i32_150
  let v272 : BitVec 32 := Scalar.extui v271
  let v273 : BitVec 32 := Scalar.subi v270 v272
  let c128_i32_148 : BitVec 32 := 128#32
  let c0_i32_151 : BitVec 32 := 0#32
  let v274 : BitVec 1 := Scalar.cmpi .sgt c128_i32_148 c0_i32_151
  let v275 : BitVec 32 := Scalar.extui v274
  let c0_i32_152 : BitVec 32 := 0#32
  let v276 : BitVec 1 := Scalar.cmpi .slt c128_i32_148 c0_i32_152
  let v277 : BitVec 32 := Scalar.extui v276
  let v278 : BitVec 32 := Scalar.subi v275 v277
  let v279 : BitVec 1 := Scalar.cmpi .ne v273 v278
  let v280 : BitVec 32 := Scalar.remsi v267 c128_i32_148
  let c0_i32_153 : BitVec 32 := 0#32
  let v281 : BitVec 1 := Scalar.cmpi .ne v280 c0_i32_153
  let v282 : BitVec 1 := Scalar.andi v279 v281
  let v268 : BitVec 32 := Scalar.divsi v267 c128_i32_148
  let c1_i32_154 : BitVec 32 := 1#32
  let v283 : BitVec 32 := Scalar.subi v268 c1_i32_154
  let v284 : BitVec 32 := Scalar.select v282 v283 v268
  let v294 : BitVec 32 := Scalar.subi v284 c0_i32_163
  let c1_i32_164 : BitVec 32 := 1#32
  let v296 : BitVec 32 := Scalar.divsi v294 c1_i32_164
  let v297 : BitVec 32 := Scalar.muli v296 c1_i32_164
  let v298 : BitVec 32 := Scalar.addi c0_i32_163 v297
  let c1_i32_166 : BitVec 32 := 1#32
  let arg10 : BitVec 32 := Scf.iv v298 c1_i32_166 k0_t6
  let c128_i32_167 : BitVec 32 := 128#32
  let v299 : BitVec 32 := Scalar.muli arg10 c128_i32_167
  let v300 : BitVec 32 := Scalar.addi v266 v299
  v300
def k0_off35 (v266 : BitVec 32) (k0_t6 : Fin (k0_t6_loop v266).trips) : Fin 2 → Nat :=
  let c0_i32_163 : BitVec 32 := 0#32
  let c20480_i32 : BitVec 32 := 20480#32
  let v267 : BitVec 32 := Scalar.subi c20480_i32 v266
  let c0_i32_149 : BitVec 32 := 0#32
  let v269 : BitVec 1 := Scalar.cmpi .sgt v267 c0_i32_149
  let v270 : BitVec 32 := Scalar.extui v269
  let c0_i32_150 : BitVec 32 := 0#32
  let v271 : BitVec 1 := Scalar.cmpi .slt v267 c0_i32_150
  let v272 : BitVec 32 := Scalar.extui v271
  let v273 : BitVec 32 := Scalar.subi v270 v272
  let c128_i32_148 : BitVec 32 := 128#32
  let c0_i32_151 : BitVec 32 := 0#32
  let v274 : BitVec 1 := Scalar.cmpi .sgt c128_i32_148 c0_i32_151
  let v275 : BitVec 32 := Scalar.extui v274
  let c0_i32_152 : BitVec 32 := 0#32
  let v276 : BitVec 1 := Scalar.cmpi .slt c128_i32_148 c0_i32_152
  let v277 : BitVec 32 := Scalar.extui v276
  let v278 : BitVec 32 := Scalar.subi v275 v277
  let v279 : BitVec 1 := Scalar.cmpi .ne v273 v278
  let v280 : BitVec 32 := Scalar.remsi v267 c128_i32_148
  let c0_i32_153 : BitVec 32 := 0#32
  let v281 : BitVec 1 := Scalar.cmpi .ne v280 c0_i32_153
  let v282 : BitVec 1 := Scalar.andi v279 v281
  let v268 : BitVec 32 := Scalar.divsi v267 c128_i32_148
  let c1_i32_154 : BitVec 32 := 1#32
  let v283 : BitVec 32 := Scalar.subi v268 c1_i32_154
  let v284 : BitVec 32 := Scalar.select v282 v283 v268
  let v294 : BitVec 32 := Scalar.subi v284 c0_i32_163
  let c1_i32_164 : BitVec 32 := 1#32
  let v296 : BitVec 32 := Scalar.divsi v294 c1_i32_164
  let v297 : BitVec 32 := Scalar.muli v296 c1_i32_164
  let v298 : BitVec 32 := Scalar.addi c0_i32_163 v297
  let c1_i32_166 : BitVec 32 := 1#32
  let arg10 : BitVec 32 := Scf.iv v298 c1_i32_166 k0_t6
  let c128_i32_167 : BitVec 32 := 128#32
  let v299 : BitVec 32 := Scalar.muli arg10 c128_i32_167
  let v300 : BitVec 32 := Scalar.addi v266 v299
  let v301 : BitVec 32 := v300
  let c0_i32_170 : BitVec 32 := 0#32
  ![v301.toNat, 0]

def k0_chk3 (i : grid0.Coords) (v266 : BitVec 32) : Prop :=
  (∀ (k0_h3 : k0_cond3 i = 1#1), (k0_t3_loop v266).OK) ∧
  (∀ k0_t3 : Fin (k0_t3_loop v266).trips, ∀ (k0_h3 : k0_cond3 i = 1#1), 128 ∣ (k0_mult35 v266 k0_t3).toNat) ∧
  (∀ k0_t3 : Fin (k0_t3_loop v266).trips, ∀ (k0_h3 : k0_cond3 i = 1#1), ∀ a, (k0_off32 v266 k0_t3) a + S128x2048.size a ≤ S20480x2048.size a) ∧
  (∀ (k0_h3 : k0_cond3 i = 1#1), (k0_t4_loop v266).OK) ∧
  (∀ k0_t4 : Fin (k0_t4_loop v266).trips, ∀ (k0_h3 : k0_cond3 i = 1#1), 128 ∣ (k0_mult36 v266 k0_t4).toNat) ∧
  (∀ k0_t4 : Fin (k0_t4_loop v266).trips, ∀ (k0_h3 : k0_cond3 i = 1#1), ∀ a, (k0_off33 v266 k0_t4) a + S128x2048.size a ≤ S20480x2048.size a) ∧
  (∀ (k0_h3 : k0_cond3 i = 1#1), (k0_t5_loop v266).OK) ∧
  (∀ k0_t5 : Fin (k0_t5_loop v266).trips, ∀ (k0_h3 : k0_cond3 i = 1#1), 128 ∣ (k0_mult37 v266 k0_t5).toNat) ∧
  (∀ k0_t5 : Fin (k0_t5_loop v266).trips, ∀ (k0_h3 : k0_cond3 i = 1#1), ∀ a, (k0_off34 v266 k0_t5) a + S128x2048.size a ≤ S20480x2048.size a) ∧
  (∀ (k0_h3 : k0_cond3 i = 1#1), (k0_t6_loop v266).OK) ∧
  (∀ k0_t6 : Fin (k0_t6_loop v266).trips, ∀ (k0_h3 : k0_cond3 i = 1#1), 128 ∣ (k0_mult38 v266 k0_t6).toNat) ∧
  (∀ k0_t6 : Fin (k0_t6_loop v266).trips, ∀ (k0_h3 : k0_cond3 i = 1#1), ∀ a, (k0_off35 v266 k0_t6) a + S128x2048.size a ≤ S20480x2048.size a)
theorem k0_t3_ok : ∀ (i : grid0.Coords) (v266 : BitVec 32) (k0_hw3 : k0_chk3 i v266), ∀ (k0_h3 : k0_cond3 i = 1#1), (k0_t3_loop v266).OK := fun i v266 k0_hw3 k0_h3 => k0_hw3.1 k0_h3
theorem k0_mult35_dvd : ∀ (i : grid0.Coords) (v266 : BitVec 32) (k0_hw3 : k0_chk3 i v266) (k0_t3 : Fin (k0_t3_loop v266).trips), ∀ (k0_h3 : k0_cond3 i = 1#1), 128 ∣ (k0_mult35 v266 k0_t3).toNat := fun i v266 k0_hw3 k0_t3 k0_h3 => k0_hw3.2.1 k0_t3 k0_h3
theorem k0_off32_inb : ∀ (i : grid0.Coords) (v266 : BitVec 32) (k0_hw3 : k0_chk3 i v266) (k0_t3 : Fin (k0_t3_loop v266).trips), ∀ (k0_h3 : k0_cond3 i = 1#1), ∀ a, (k0_off32 v266 k0_t3) a + S128x2048.size a ≤ S20480x2048.size a := fun i v266 k0_hw3 k0_t3 k0_h3 => k0_hw3.2.2.1 k0_t3 k0_h3
theorem k0_t4_ok : ∀ (i : grid0.Coords) (v266 : BitVec 32) (k0_hw3 : k0_chk3 i v266), ∀ (k0_h3 : k0_cond3 i = 1#1), (k0_t4_loop v266).OK := fun i v266 k0_hw3 k0_h3 => k0_hw3.2.2.2.1 k0_h3
theorem k0_mult36_dvd : ∀ (i : grid0.Coords) (v266 : BitVec 32) (k0_hw3 : k0_chk3 i v266) (k0_t4 : Fin (k0_t4_loop v266).trips), ∀ (k0_h3 : k0_cond3 i = 1#1), 128 ∣ (k0_mult36 v266 k0_t4).toNat := fun i v266 k0_hw3 k0_t4 k0_h3 => k0_hw3.2.2.2.2.1 k0_t4 k0_h3
theorem k0_off33_inb : ∀ (i : grid0.Coords) (v266 : BitVec 32) (k0_hw3 : k0_chk3 i v266) (k0_t4 : Fin (k0_t4_loop v266).trips), ∀ (k0_h3 : k0_cond3 i = 1#1), ∀ a, (k0_off33 v266 k0_t4) a + S128x2048.size a ≤ S20480x2048.size a := fun i v266 k0_hw3 k0_t4 k0_h3 => k0_hw3.2.2.2.2.2.1 k0_t4 k0_h3
theorem k0_t5_ok : ∀ (i : grid0.Coords) (v266 : BitVec 32) (k0_hw3 : k0_chk3 i v266), ∀ (k0_h3 : k0_cond3 i = 1#1), (k0_t5_loop v266).OK := fun i v266 k0_hw3 k0_h3 => k0_hw3.2.2.2.2.2.2.1 k0_h3
theorem k0_mult37_dvd : ∀ (i : grid0.Coords) (v266 : BitVec 32) (k0_hw3 : k0_chk3 i v266) (k0_t5 : Fin (k0_t5_loop v266).trips), ∀ (k0_h3 : k0_cond3 i = 1#1), 128 ∣ (k0_mult37 v266 k0_t5).toNat := fun i v266 k0_hw3 k0_t5 k0_h3 => k0_hw3.2.2.2.2.2.2.2.1 k0_t5 k0_h3
theorem k0_off34_inb : ∀ (i : grid0.Coords) (v266 : BitVec 32) (k0_hw3 : k0_chk3 i v266) (k0_t5 : Fin (k0_t5_loop v266).trips), ∀ (k0_h3 : k0_cond3 i = 1#1), ∀ a, (k0_off34 v266 k0_t5) a + S128x2048.size a ≤ S20480x2048.size a := fun i v266 k0_hw3 k0_t5 k0_h3 => k0_hw3.2.2.2.2.2.2.2.2.1 k0_t5 k0_h3
theorem k0_t6_ok : ∀ (i : grid0.Coords) (v266 : BitVec 32) (k0_hw3 : k0_chk3 i v266), ∀ (k0_h3 : k0_cond3 i = 1#1), (k0_t6_loop v266).OK := fun i v266 k0_hw3 k0_h3 => k0_hw3.2.2.2.2.2.2.2.2.2.1 k0_h3
theorem k0_mult38_dvd : ∀ (i : grid0.Coords) (v266 : BitVec 32) (k0_hw3 : k0_chk3 i v266) (k0_t6 : Fin (k0_t6_loop v266).trips), ∀ (k0_h3 : k0_cond3 i = 1#1), 128 ∣ (k0_mult38 v266 k0_t6).toNat := fun i v266 k0_hw3 k0_t6 k0_h3 => k0_hw3.2.2.2.2.2.2.2.2.2.2.1 k0_t6 k0_h3
theorem k0_off35_inb : ∀ (i : grid0.Coords) (v266 : BitVec 32) (k0_hw3 : k0_chk3 i v266) (k0_t6 : Fin (k0_t6_loop v266).trips), ∀ (k0_h3 : k0_cond3 i = 1#1), ∀ a, (k0_off35 v266 k0_t6) a + S128x2048.size a ≤ S20480x2048.size a := fun i v266 k0_hw3 k0_t6 k0_h3 => k0_hw3.2.2.2.2.2.2.2.2.2.2.2 k0_t6 k0_h3

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ExpertsReferenceIdeal.lean ====
abbrev S33 : Shape := ⟨1, ![33]⟩
abbrev S20480x2176 : Shape := ⟨2, ![20480, 2176]⟩
abbrev S2x32x2048x1024 : Shape := ⟨4, ![2, 32, 2048, 1024]⟩
abbrev S2x32x512x2048 : Shape := ⟨4, ![2, 32, 512, 2048]⟩
abbrev S20480x2048 : Shape := ⟨2, ![20480, 2048]⟩
abbrev S20480x1 : Shape := ⟨2, ![20480, 1]⟩
abbrev S20480 : Shape := ⟨1, ![20480]⟩
abbrev S1x20480 : Shape := ⟨2, ![1, 20480]⟩
abbrev S32 : Shape := ⟨1, ![32]⟩
abbrev S32x1 : Shape := ⟨2, ![32, 1]⟩
abbrev S32x20480 : Shape := ⟨2, ![32, 20480]⟩
abbrev S_ : Shape := ⟨0, ![]⟩
abbrev S1x32x2048x1024 : Shape := ⟨4, ![1, 32, 2048, 1024]⟩
abbrev S32x2048x1024 : Shape := ⟨3, ![32, 2048, 1024]⟩
abbrev S32x1024x20480 : Shape := ⟨3, ![32, 1024, 20480]⟩
abbrev S32x20480x1024 : Shape := ⟨3, ![32, 20480, 1024]⟩
abbrev S32x20480x512 : Shape := ⟨3, ![32, 20480, 512]⟩
abbrev S1x32x512x2048 : Shape := ⟨4, ![1, 32, 512, 2048]⟩
abbrev S32x512x2048 : Shape := ⟨3, ![32, 512, 2048]⟩
abbrev S32x20480x2048 : Shape := ⟨3, ![32, 20480, 2048]⟩
abbrev S32x20480x1 : Shape := ⟨3, ![32, 20480, 1]⟩
abbrev S1 : Shape := ⟨1, ![1]⟩

abbrev nBuf : Space → Nat
  | .hbm => 65
  | .vmem => 0
  | .smem => 0
  | _ => 0

abbrev bufTy : (tb : Table) → Fin (tcTables nBuf tb) → BufTy
  | .hbm, ⟨0, _⟩ => ⟨S33, .i32⟩
  | .hbm, ⟨1, _⟩ => ⟨S20480x2176, .f32⟩
  | .hbm, ⟨2, _⟩ => ⟨S2x32x2048x1024, .f32⟩
  | .hbm, ⟨3, _⟩ => ⟨S2x32x512x2048, .f32⟩
  | .hbm, ⟨4, _⟩ => ⟨S20480x2048, .f32⟩
  | .hbm, ⟨5, _⟩ => ⟨S20480x1, .f32⟩
  | .hbm, ⟨6, _⟩ => ⟨S20480, .f32⟩
  | .hbm, ⟨7, _⟩ => ⟨S20480x1, .f32⟩
  | .hbm, ⟨8, _⟩ => ⟨S20480, .f32⟩
  | .hbm, ⟨9, _⟩ => ⟨S20480, .i32⟩
  | .hbm, ⟨10, _⟩ => ⟨S1x20480, .i32⟩
  | .hbm, ⟨11, _⟩ => ⟨S32, .i32⟩
  | .hbm, ⟨12, _⟩ => ⟨S32x1, .i32⟩
  | .hbm, ⟨13, _⟩ => ⟨S32x20480, .i32⟩
  | .hbm, ⟨14, _⟩ => ⟨S32x20480, .i32⟩
  | .hbm, ⟨15, _⟩ => ⟨S32x20480, .i1⟩
  | .hbm, ⟨16, _⟩ => ⟨S32, .i32⟩
  | .hbm, ⟨17, _⟩ => ⟨S32x1, .i32⟩
  | .hbm, ⟨18, _⟩ => ⟨S32x20480, .i32⟩
  | .hbm, ⟨19, _⟩ => ⟨S32x20480, .i32⟩
  | .hbm, ⟨20, _⟩ => ⟨S32x20480, .i1⟩
  | .hbm, ⟨21, _⟩ => ⟨S32x20480, .i1⟩
  | .hbm, ⟨22, _⟩ => ⟨S1x20480, .f32⟩
  | .hbm, ⟨23, _⟩ => ⟨S_, .f32⟩
  | .hbm, ⟨24, _⟩ => ⟨S_, .f32⟩
  | .hbm, ⟨25, _⟩ => ⟨S32x20480, .f32⟩
  | .hbm, ⟨26, _⟩ => ⟨S32x20480, .f32⟩
  | .hbm, ⟨27, _⟩ => ⟨S32x20480, .f32⟩
  | .hbm, ⟨28, _⟩ => ⟨S1x32x2048x1024, .f32⟩
  | .hbm, ⟨29, _⟩ => ⟨S32x2048x1024, .f32⟩
  | .hbm, ⟨30, _⟩ => ⟨S32x1024x20480, .f32⟩
  | .hbm, ⟨31, _⟩ => ⟨S32x20480x1024, .f32⟩
  | .hbm, ⟨32, _⟩ => ⟨S32x20480x512, .f32⟩
  | .hbm, ⟨33, _⟩ => ⟨S32x20480x512, .f32⟩
  | .hbm, ⟨34, _⟩ => ⟨S32x20480x512, .f32⟩
  | .hbm, ⟨35, _⟩ => ⟨S_, .f32⟩
  | .hbm, ⟨36, _⟩ => ⟨S32x20480x512, .f32⟩
  | .hbm, ⟨37, _⟩ => ⟨S32x20480x512, .f32⟩
  | .hbm, ⟨38, _⟩ => ⟨S_, .f32⟩
  | .hbm, ⟨39, _⟩ => ⟨S32x20480x512, .f32⟩
  | .hbm, ⟨40, _⟩ => ⟨S32x20480x512, .f32⟩
  | .hbm, ⟨41, _⟩ => ⟨S32x20480x512, .f32⟩
  | .hbm, ⟨42, _⟩ => ⟨S32x20480x512, .f32⟩
  | .hbm, ⟨43, _⟩ => ⟨S32x20480x512, .f32⟩
  | .hbm, ⟨44, _⟩ => ⟨S1x32x512x2048, .f32⟩
  | .hbm, ⟨45, _⟩ => ⟨S32x512x2048, .f32⟩
  | .hbm, ⟨46, _⟩ => ⟨S32x20480x2048, .f32⟩
  | .hbm, ⟨47, _⟩ => ⟨S32x20480x1, .f32⟩
  | .hbm, ⟨48, _⟩ => ⟨S32x20480x2048, .f32⟩
  | .hbm, ⟨49, _⟩ => ⟨S32x20480x2048, .f32⟩
  | .hbm, ⟨50, _⟩ => ⟨S_, .f32⟩
  | .hbm, ⟨51, _⟩ => ⟨S20480x2048, .f32⟩
  | .hbm, ⟨52, _⟩ => ⟨S20480, .i32⟩
  | .hbm, ⟨53, _⟩ => ⟨S1, .i32⟩
  | .hbm, ⟨54, _⟩ => ⟨S_, .i32⟩
  | .hbm, ⟨55, _⟩ => ⟨S20480, .i32⟩
  | .hbm, ⟨56, _⟩ => ⟨S20480, .i1⟩
  | .hbm, ⟨57, _⟩ => ⟨S_, .f32⟩
  | .hbm, ⟨58, _⟩ => ⟨S_, .f32⟩
  | .hbm, ⟨59, _⟩ => ⟨S20480, .f32⟩
  | .hbm, ⟨60, _⟩ => ⟨S20480, .f32⟩
  | .hbm, ⟨61, _⟩ => ⟨S20480x1, .f32⟩
  | .hbm, ⟨62, _⟩ => ⟨S20480x2048, .f32⟩
  | .hbm, ⟨63, _⟩ => ⟨S20480x2048, .f32⟩
  | .hbm, ⟨64, _⟩ => ⟨S20480x2048, .f32⟩
  | _, _ => ⟨S33, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_1 : Ref sig .tc := ⟨.hbm, 57, rfl⟩
abbrev main_call2_v0 : Ref sig .tc := ⟨.hbm, 58, rfl⟩
abbrev main_call2_v1 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]
-- ==== OddProj.lean ====
abbrev S8192x2048 : Shape := ⟨2, ![8192, 2048]⟩
abbrev S2048x4352 : Shape := ⟨2, ![2048, 4352]⟩
abbrev S1x4352 : Shape := ⟨2, ![1, 4352]⟩
abbrev S8192x4352 : Shape := ⟨2, ![8192, 4352]⟩
abbrev S1024x2048 : Shape := ⟨2, ![1024, 2048]⟩
abbrev S2048x2176 : Shape := ⟨2, ![2048, 2176]⟩
abbrev S1x2176 : Shape := ⟨2, ![1, 2176]⟩
abbrev S1024x2176 : Shape := ⟨2, ![1024, 2176]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x4352, .bf16⟩
  | .hbm, ⟨2, _⟩ => ⟨S1x4352, .f32⟩
  | .hbm, ⟨3, _⟩ => ⟨S8192x4352, .bf16⟩
  | .local _ .vmem, ⟨0, _⟩ => ⟨S1024x2048, .f32⟩
  | .local _ .vmem, ⟨1, _⟩ => ⟨S1024x2048, .f32⟩
  | .local _ .vmem, ⟨2, _⟩ => ⟨S2048x2176, .bf16⟩
  | .local _ .vmem, ⟨3, _⟩ => ⟨S2048x2176, .bf16⟩
  | .local _ .vmem, ⟨4, _⟩ => ⟨S1x2176, .f32⟩
  | .local _ .vmem, ⟨5, _⟩ => ⟨S1x2176, .f32⟩
  | .local _ .vmem, ⟨6, _⟩ => ⟨S1024x2176, .bf16⟩
  | .local _ .vmem, ⟨7, _⟩ => ⟨S1024x2176, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2176 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OddProjIdeal.lean ====
abbrev S8192x2048 : Shape := ⟨2, ![8192, 2048]⟩
abbrev S2048x4352 : Shape := ⟨2, ![2048, 4352]⟩
abbrev S1x4352 : Shape := ⟨2, ![1, 4352]⟩
abbrev S8192x4352 : Shape := ⟨2, ![8192, 4352]⟩
abbrev S1024x2048 : Shape := ⟨2, ![1024, 2048]⟩
abbrev S2048x2176 : Shape := ⟨2, ![2048, 2176]⟩
abbrev S1x2176 : Shape := ⟨2, ![1, 2176]⟩
abbrev S1024x2176 : Shape := ⟨2, ![1024, 2176]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x4352, .bf16⟩
  | .hbm, ⟨2, _⟩ => ⟨S1x4352, .f32⟩
  | .hbm, ⟨3, _⟩ => ⟨S8192x4352, .bf16⟩
  | .local _ .vmem, ⟨0, _⟩ => ⟨S1024x2048, .f32⟩
  | .local _ .vmem, ⟨1, _⟩ => ⟨S1024x2048, .f32⟩
  | .local _ .vmem, ⟨2, _⟩ => ⟨S2048x2176, .bf16⟩
  | .local _ .vmem, ⟨3, _⟩ => ⟨S2048x2176, .bf16⟩
  | .local _ .vmem, ⟨4, _⟩ => ⟨S1x2176, .f32⟩
  | .local _ .vmem, ⟨5, _⟩ => ⟨S1x2176, .f32⟩
  | .local _ .vmem, ⟨6, _⟩ => ⟨S1024x2176, .bf16⟩
  | .local _ .vmem, ⟨7, _⟩ => ⟨S1024x2176, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2176 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OddProjReferenceIdeal.lean ====
abbrev S8192x2048 : Shape := ⟨2, ![8192, 2048]⟩
abbrev S2048x4352 : Shape := ⟨2, ![2048, 4352]⟩
abbrev S1x4352 : Shape := ⟨2, ![1, 4352]⟩
abbrev S8192x4352 : Shape := ⟨2, ![8192, 4352]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4352, .bf16⟩
  | .hbm, ⟨2, _⟩ => ⟨S1x4352, .f32⟩
  | .hbm, ⟨3, _⟩ => ⟨S2048x4352, .f32⟩
  | .hbm, ⟨4, _⟩ => ⟨S8192x4352, .f32⟩
  | .hbm, ⟨5, _⟩ => ⟨S8192x4352, .f32⟩
  | .hbm, ⟨6, _⟩ => ⟨S8192x4352, .f32⟩
  | .hbm, ⟨7, _⟩ => ⟨S8192x4352, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FoxProj.lean ====
abbrev S8192x2048 : Shape := ⟨2, ![8192, 2048]⟩
abbrev S2048x3072 : Shape := ⟨2, ![2048, 3072]⟩
abbrev S1x3072 : Shape := ⟨2, ![1, 3072]⟩
abbrev S8192x3072 : Shape := ⟨2, ![8192, 3072]⟩
abbrev S1024x2048 : Shape := ⟨2, ![1024, 2048]⟩
abbrev S2048x1536 : Shape := ⟨2, ![2048, 1536]⟩
abbrev S1x1536 : Shape := ⟨2, ![1, 1536]⟩
abbrev S1024x1536 : Shape := ⟨2, ![1024, 1536]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x3072, .bf16⟩
  | .hbm, ⟨2, _⟩ => ⟨S1x3072, .f32⟩
  | .hbm, ⟨3, _⟩ => ⟨S8192x3072, .bf16⟩
  | .local _ .vmem, ⟨0, _⟩ => ⟨S1024x2048, .f32⟩
  | .local _ .vmem, ⟨1, _⟩ => ⟨S1024x2048, .f32⟩
  | .local _ .vmem, ⟨2, _⟩ => ⟨S2048x1536, .bf16⟩
  | .local _ .vmem, ⟨3, _⟩ => ⟨S2048x1536, .bf16⟩
  | .local _ .vmem, ⟨4, _⟩ => ⟨S1x1536, .f32⟩
  | .local _ .vmem, ⟨5, _⟩ => ⟨S1x1536, .f32⟩
  | .local _ .vmem, ⟨6, _⟩ => ⟨S1024x1536, .bf16⟩
  | .local _ .vmem, ⟨7, _⟩ => ⟨S1024x1536, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FoxProjReferenceIdeal.lean ====
abbrev S8192x2048 : Shape := ⟨2, ![8192, 2048]⟩
abbrev S2048x3072 : Shape := ⟨2, ![2048, 3072]⟩
abbrev S1x3072 : Shape := ⟨2, ![1, 3072]⟩
abbrev S8192x3072 : Shape := ⟨2, ![8192, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x3072, .bf16⟩
  | .hbm, ⟨2, _⟩ => ⟨S1x3072, .f32⟩
  | .hbm, ⟨3, _⟩ => ⟨S2048x3072, .f32⟩
  | .hbm, ⟨4, _⟩ => ⟨S8192x3072, .f32⟩
  | .hbm, ⟨5, _⟩ => ⟨S8192x3072, .f32⟩
  | .hbm, ⟨6, _⟩ => ⟨S8192x3072, .f32⟩
  | .hbm, ⟨7, _⟩ => ⟨S8192x3072, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutProj.lean ====
abbrev S8192x1024 : Shape := ⟨2, ![8192, 1024]⟩
abbrev S2048x2048 : Shape := ⟨2, ![2048, 2048]⟩
abbrev S8192x2048 : Shape := ⟨2, ![8192, 2048]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjReferenceIdeal.lean ====
abbrev S8192x1024 : Shape := ⟨2, ![8192, 1024]⟩
abbrev S2048x2048 : Shape := ⟨2, ![2048, 2048]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S8192x1024, .f32⟩
  | .hbm, ⟨7, _⟩ => ⟨S8192x1024, .f32⟩
  | .hbm, ⟨8, _⟩ => ⟨S8192x2048, .f32⟩
  | .hbm, ⟨9, _⟩ => ⟨S2048x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== KeyMean.lean ====
abbrev S8192x4352 : Shape := ⟨2, ![8192, 4352]⟩
abbrev S32x1024 : Shape := ⟨2, ![32, 1024]⟩
abbrev S4096x1024 : Shape := ⟨2, ![4096, 1024]⟩
abbrev S16x1024 : Shape := ⟨2, ![16, 1024]⟩
abbrev S256x1024 : Shape := ⟨2, ![256, 1024]⟩
abbrev S1024 : Shape := ⟨1, ![1024]⟩
abbrev S1x1024 : Shape := ⟨2, ![1, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8192x4352, .bf16⟩
  | .hbm, ⟨1, _⟩ => ⟨S32x1024, .f32⟩
  | .local _ .vmem, ⟨0, _⟩ => ⟨S4096x1024, .bf16⟩
  | .local _ .vmem, ⟨1, _⟩ => ⟨S4096x1024, .bf16⟩
  | .local _ .vmem, ⟨2, _⟩ => ⟨S16x1024, .f32⟩
  | .local _ .vmem, ⟨3, _⟩ => ⟨S16x1024, .f32⟩
  | _, _ => ⟨S8192x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KeyMeanReferenceIdeal.lean ====
abbrev S8192x4352 : Shape := ⟨2, ![8192, 4352]⟩
abbrev S8192x1024 : Shape := ⟨2, ![8192, 1024]⟩
abbrev S2x4096x8x128 : Shape := ⟨4, ![2, 4096, 8, 128]⟩
abbrev S2x8x4096x128 : Shape := ⟨4, ![2, 8, 4096, 128]⟩
abbrev S2x8x16x256x128 : Shape := ⟨5, ![2, 8, 16, 256, 128]⟩
abbrev S_ : Shape := ⟨0, ![]⟩
abbrev S2x8x16x128 : Shape := ⟨4, ![2, 8, 16, 128]⟩
abbrev S2x16x8x128 : Shape := ⟨4, ![2, 16, 8, 128]⟩
abbrev S32x1024 : Shape := ⟨2, ![32, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x4352, .bf16⟩
  | .hbm, ⟨1, _⟩ => ⟨S8192x1024, .bf16⟩
  | .hbm, ⟨2, _⟩ => ⟨S8192x1024, .f32⟩
  | .hbm, ⟨3, _⟩ => ⟨S2x4096x8x128, .f32⟩
  | .hbm, ⟨4, _⟩ => ⟨S2x8x4096x128, .f32⟩
  | .hbm, ⟨5, _⟩ => ⟨S2x8x16x256x128, .f32⟩
  | .hbm, ⟨6, _⟩ => ⟨S_, .f32⟩
  | .hbm, ⟨7, _⟩ => ⟨S2x8x16x128, .f32⟩
  | .hbm, ⟨8, _⟩ => ⟨S_, .f32⟩
  | .hbm, ⟨9, _⟩ => ⟨S2x8x16x128, .f32⟩
  | .hbm, ⟨10, _⟩ => ⟨S2x8x16x128, .f32⟩
  | .hbm, ⟨11, _⟩ => ⟨S2x16x8x128, .f32⟩
  | .hbm, ⟨12, _⟩ => ⟨S32x1024, .f32⟩
  | _, _ => ⟨S8192x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Prep.lean ====
abbrev S8192x2048 : Shape := ⟨2, ![8192, 2048]⟩
abbrev S2048x1024 : Shape := ⟨2, ![2048, 1024]⟩
abbrev S4096x128 : Shape := ⟨2, ![4096, 128]⟩
abbrev S1x512 : Shape := ⟨2, ![1, 512]⟩
abbrev S1x256 : Shape := ⟨2, ![1, 256]⟩
abbrev S512x1024 : Shape := ⟨2, ![512, 1024]⟩
abbrev S256x1024 : Shape := ⟨2, ![256, 1024]⟩
abbrev S8192x1024 : Shape := ⟨2, ![8192, 1024]⟩
abbrev S8192x128 : Shape := ⟨2, ![8192, 128]⟩
abbrev S512x2048 : Shape := ⟨2, ![512, 2048]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S512x256 : Shape := ⟨2, ![512, 256]⟩

abbrev nBuf : Space → Nat
  | .hbm => 15
  | .vmem => 23
  | .smem => 0
  | _ => 0

abbrev bufTy : (tb : Table) → Fin (tcTables nBuf tb) → BufTy
  | .hbm, ⟨0, _⟩ => ⟨S8192x2048, .f32⟩
  | .hbm, ⟨1, _⟩ => ⟨S2048x1024, .bf16⟩
  | .hbm, ⟨2, _⟩ => ⟨S4096x128, .f32⟩
  | .hbm, ⟨3, _⟩ => ⟨S1x512, .f32⟩
  | .hbm, ⟨4, _⟩ => ⟨S1x256, .f32⟩
  | .hbm, ⟨5, _⟩ => ⟨S512x1024, .bf16⟩
  | .hbm, ⟨6, _⟩ => ⟨S512x1024, .bf16⟩
  | .hbm, ⟨7, _⟩ => ⟨S256x1024, .bf16⟩
  | .hbm, ⟨8, _⟩ => ⟨S256x1024, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x128, .bf16⟩
  | .hbm, ⟨14, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S512x128, .f32⟩
  | .local _ .vmem, ⟨4, _⟩ => ⟨S512x128, .f32⟩
  | .local _ .vmem, ⟨5, _⟩ => ⟨S1x512, .f32⟩
  | .local _ .vmem, ⟨6, _⟩ => ⟨S1x256, .f32⟩
  | .local _ .vmem, ⟨7, _⟩ => ⟨S512x1024, .bf16⟩
  | .local _ .vmem, ⟨8, _⟩ => ⟨S512x1024, .bf16⟩
  | .local _ .vmem, ⟨9, _⟩ => ⟨S256x1024, .bf16⟩
  | .local _ .vmem, ⟨10, _⟩ => ⟨S256x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x128, .bf16⟩
  | .local _ .vmem, ⟨20, _⟩ => ⟨S512x128, .bf16⟩
  | .local _ .vmem, ⟨21, _⟩ => ⟨S512x128, .f32⟩
  | .local _ .vmem, ⟨22, _⟩ => ⟨S512x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== PrepReferenceIdeal.lean ====
abbrev S8192x2048 : Shape := ⟨2, ![8192, 2048]⟩
abbrev S2048x1024 : Shape := ⟨2, ![2048, 1024]⟩
abbrev S4096x128 : Shape := ⟨2, ![4096, 128]⟩
abbrev S1x512 : Shape := ⟨2, ![1, 512]⟩
abbrev S1x256 : Shape := ⟨2, ![1, 256]⟩
abbrev S512x1024 : Shape := ⟨2, ![512, 1024]⟩
abbrev S256x1024 : Shape := ⟨2, ![256, 1024]⟩
abbrev S8192x1024 : Shape := ⟨2, ![8192, 1024]⟩
abbrev S8192x512 : Shape := ⟨2, ![8192, 512]⟩
abbrev S8192x256 : Shape := ⟨2, ![8192, 256]⟩
abbrev S8192x128 : Shape := ⟨2, ![8192, 128]⟩
abbrev S8192x64 : Shape := ⟨2, ![8192, 64]⟩
abbrev S2x4096x64 : Shape := ⟨3, ![2, 4096, 64]⟩
abbrev S4096x32 : Shape := ⟨2, ![4096, 32]⟩
abbrev S_ : Shape := ⟨0, ![]⟩
abbrev S8192 : Shape := ⟨1, ![8192]⟩
abbrev S8192x1 : Shape := ⟨2, ![8192, 1]⟩
abbrev S2x4096x8x128 : Shape := ⟨4, ![2, 4096, 8, 128]⟩
abbrev S2x4096x8x64 : Shape := ⟨4, ![2, 4096, 8, 64]⟩
abbrev S4096x1x32 : Shape := ⟨3, ![4096, 1, 32]⟩
abbrev S2x4096x8x32 : Shape := ⟨4, ![2, 4096, 8, 32]⟩
abbrev S1x4096x1x32 : Shape := ⟨4, ![1, 4096, 1, 32]⟩
abbrev S2x4096x32 : Shape := ⟨3, ![2, 4096, 32]⟩
abbrev S1x4096x32 : Shape := ⟨3, ![1, 4096, 32]⟩
abbrev S2x4096x128 : Shape := ⟨3, ![2, 4096, 128]⟩

abbrev nBuf : Space → Nat
  | .hbm => 111
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .bf16⟩
  | .hbm, ⟨2, _⟩ => ⟨S4096x128, .f32⟩
  | .hbm, ⟨3, _⟩ => ⟨S1x512, .f32⟩
  | .hbm, ⟨4, _⟩ => ⟨S1x256, .f32⟩
  | .hbm, ⟨5, _⟩ => ⟨S512x1024, .bf16⟩
  | .hbm, ⟨6, _⟩ => ⟨S512x1024, .bf16⟩
  | .hbm, ⟨7, _⟩ => ⟨S256x1024, .bf16⟩
  | .hbm, ⟨8, _⟩ => ⟨S256x1024, .bf16⟩
  | .hbm, ⟨9, _⟩ => ⟨S2048x1024, .f32⟩
  | .hbm, ⟨10, _⟩ => ⟨S8192x1024, .f32⟩
  | .hbm, ⟨11, _⟩ => ⟨S8192x512, .f32⟩
  | .hbm, ⟨12, _⟩ => ⟨S8192x256, .f32⟩
  | .hbm, ⟨13, _⟩ => ⟨S8192x128, .f32⟩
  | .hbm, ⟨14, _⟩ => ⟨S8192x64, .f32⟩
  | .hbm, ⟨15, _⟩ => ⟨S2x4096x64, .f32⟩
  | .hbm, ⟨16, _⟩ => ⟨S4096x32, .f32⟩
  | .hbm, ⟨17, _⟩ => ⟨S4096x32, .f32⟩
  | .hbm, ⟨18, _⟩ => ⟨S8192x512, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x256, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x256, .f32⟩
  | .hbm, ⟨45, _⟩ => ⟨S8192x256, .f32⟩
  | .hbm, ⟨46, _⟩ => ⟨S8192x256, .f32⟩
  | .hbm, ⟨47, _⟩ => ⟨S8192x256, .f32⟩
  | .hbm, ⟨48, _⟩ => ⟨S512x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S512x1024, .f32⟩
  | .hbm, ⟨54, _⟩ => ⟨S8192x1024, .f32⟩
  | .hbm, ⟨55, _⟩ => ⟨S2x4096x8x128, .f32⟩
  | .hbm, ⟨56, _⟩ => ⟨S2x4096x8x64, .f32⟩
  | .hbm, ⟨57, _⟩ => ⟨S4096x1x32, .f32⟩
  | .hbm, ⟨58, _⟩ => ⟨S4096x1x32, .f32⟩
  | .hbm, ⟨59, _⟩ => ⟨S2x4096x8x32, .f32⟩
  | .hbm, ⟨60, _⟩ => ⟨S2x4096x8x32, .f32⟩
  | .hbm, ⟨61, _⟩ => ⟨S1x4096x1x32, .f32⟩
  | .hbm, ⟨62, _⟩ => ⟨S2x4096x8x32, .f32⟩
  | .hbm, ⟨63, _⟩ => ⟨S2x4096x8x32, .f32⟩
  | .hbm, ⟨64, _⟩ => ⟨S1x4096x1x32, .f32⟩
  | .hbm, ⟨65, _⟩ => ⟨S2x4096x8x32, .f32⟩
  | .hbm, ⟨66, _⟩ => ⟨S2x4096x8x32, .f32⟩
  | .hbm, ⟨67, _⟩ => ⟨S2x4096x8x32, .f32⟩
  | .hbm, ⟨68, _⟩ => ⟨S1x4096x1x32, .f32⟩
  | .hbm, ⟨69, _⟩ => ⟨S2x4096x8x32, .f32⟩
  | .hbm, ⟨70, _⟩ => ⟨S2x4096x8x32, .f32⟩
  | .hbm, ⟨71, _⟩ => ⟨S1x4096x1x32, .f32⟩
  | .hbm, ⟨72, _⟩ => ⟨S2x4096x8x32, .f32⟩
  | .hbm, ⟨73, _⟩ => ⟨S2x4096x8x32, .f32⟩
  | .hbm, ⟨74, _⟩ => ⟨S2x4096x8x32, .f32⟩
  | .hbm, ⟨75, _⟩ => ⟨S2x4096x8x64, .f32⟩
  | .hbm, ⟨76, _⟩ => ⟨S_, .f32⟩
  | .hbm, ⟨77, _⟩ => ⟨S2x4096x8x64, .f32⟩
  | .hbm, ⟨78, _⟩ => ⟨S2x4096x8x64, .f32⟩
  | .hbm, ⟨79, _⟩ => ⟨S2x4096x8x128, .f32⟩
  | .hbm, ⟨80, _⟩ => ⟨S8192x1024, .f32⟩
  | .hbm, ⟨81, _⟩ => ⟨S2x4096x32, .f32⟩
  | .hbm, ⟨82, _⟩ => ⟨S2x4096x32, .f32⟩
  | .hbm, ⟨83, _⟩ => ⟨S1x4096x32, .f32⟩
  | .hbm, ⟨84, _⟩ => ⟨S2x4096x32, .f32⟩
  | .hbm, ⟨85, _⟩ => ⟨S2x4096x32, .f32⟩
  | .hbm, ⟨86, _⟩ => ⟨S1x4096x32, .f32⟩
  | .hbm, ⟨87, _⟩ => ⟨S2x4096x32, .f32⟩
  | .hbm, ⟨88, _⟩ => ⟨S2x4096x32, .f32⟩
  | .hbm, ⟨89, _⟩ => ⟨S2x4096x32, .f32⟩
  | .hbm, ⟨90, _⟩ => ⟨S1x4096x32, .f32⟩
  | .hbm, ⟨91, _⟩ => ⟨S2x4096x32, .f32⟩
  | .hbm, ⟨92, _⟩ => ⟨S2x4096x32, .f32⟩
  | .hbm, ⟨93, _⟩ => ⟨S1x4096x32, .f32⟩
  | .hbm, ⟨94, _⟩ => ⟨S2x4096x32, .f32⟩
  | .hbm, ⟨95, _⟩ => ⟨S2x4096x32, .f32⟩
  | .hbm, ⟨96, _⟩ => ⟨S2x4096x32, .f32⟩
  | .hbm, ⟨97, _⟩ => ⟨S2x4096x64, .f32⟩
  | .hbm, ⟨98, _⟩ => ⟨S_, .f32⟩
  | .hbm, ⟨99, _⟩ => ⟨S2x4096x64, .f32⟩
  | .hbm, ⟨100, _⟩ => ⟨S2x4096x128, .f32⟩
  | .hbm, ⟨101, _⟩ => ⟨S8192x128, .f32⟩
  | .hbm, ⟨102, _⟩ => ⟨S256x1024, .f32⟩
  | .hbm, ⟨103, _⟩ => ⟨S8192x1024, .f32⟩
  | .hbm, ⟨104, _⟩ => ⟨S256x1024, .f32⟩
  | .hbm, ⟨105, _⟩ => ⟨S8192x1024, .f32⟩
  | .hbm, ⟨106, _⟩ => ⟨S8192x1024, .bf16⟩
  | .hbm, ⟨107, _⟩ => ⟨S8192x1024, .bf16⟩
  | .hbm, ⟨108, _⟩ => ⟨S8192x1024, .bf16⟩
  | .hbm, ⟨109, _⟩ => ⟨S8192x1024, .bf16⟩
  | .hbm, ⟨110, _⟩ => ⟨S8192x128, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_6 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_7 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩

abbrev nD : Nat := 1
abbrev τ : Topo := Topo.v7x

variable {F : FTy → Type} [FloatOps F]
-- ==== Proof.Online.lean ====
/-
  The running softmax over the extended reals: what one row's state (maximum, sum, accumulator) holds after a set of
  keys, that a tile's update adds the tile's keys to the set, and that the quotient of the last state is the row of the
  softmax written with the natural exponential.
-/
module

public import Idealize.ShloMosaic.PureOps.Ideal
public import Mathlib.Analysis.SpecialFunctions.Pow.Real
public import Mathlib.Data.EReal.Operations

@[expose] public section

noncomputable section

namespace Cert.Online

open Idealize.ShloMosaic

/-- The base-2 exponential is nonnegative. -/
theorem exp2_nonneg (x : EReal) : 0 ≤ Ideal.exp2 x := by
  induction x using EReal.rec with
  | bot => simp
  | top => simp
  | coe r =>
    rw [Ideal.exp2_coe, EReal.coe_nonneg]
    exact Real.rpow_nonneg (by norm_num) r

/-- It is finite off `⊤`. -/
theorem exp2_ne_top {x : EReal} (h : x ≠ ⊤) : Ideal.exp2 x ≠ ⊤ := by
  induction x using EReal.rec with
  | bot => simp
  | top => exact absurd rfl h
  | coe r => rw [Ideal.exp2_coe]; exact EReal.coe_ne_top _

/-- A difference of two values below `⊤`, the second at least the first, is below `⊤`. -/
theorem sub_ne_top {a b : EReal} (h : a ≤ b) (hb : b ≠ ⊤) : a - b ≠ ⊤ := by
  induction b using EReal.rec with
  | bot => rw [le_bot_iff.mp h]; simp
  | top => exact absurd rfl hb
  | coe r =>
    have ha : a ≠ ⊤ := fun h' => by rw [h'] at h; exact absurd (top_le_iff.mp h) (EReal.coe_ne_top r)
    induction a using EReal.rec with
    | bot => simp
    | top => exact absurd rfl ha
    | coe q => rw [← EReal.coe_sub]; exact EReal.coe_ne_top _

/-- Rescaling from one maximum to a larger one. -/
theorem exp2_rescale {s m m' : EReal} (h : s ≤ m) (h' : m ≤ m') (ht : m' ≠ ⊤) :
    Ideal.exp2 (m - m') * Ideal.exp2 (s - m) = Ideal.exp2 (s - m') := by
  have hm : m ≠ ⊤ := fun e => by rw [e] at h'; exact ht (top_le_iff.mp h')
  have hs : s ≠ ⊤ := fun e => by rw [e] at h; exact hm (top_le_iff.mp h)
  induction s using EReal.rec with
  | bot => simp
  | top => exact absurd rfl hs
  | coe s =>
    induction m using EReal.rec with
    | bot => exact absurd (le_bot_iff.mp h) (EReal.coe_ne_bot s)
    | top => exact absurd rfl hm
    | coe m =>
      induction m' using EReal.rec with
      | bot => exact absurd (le_bot_iff.mp h') (EReal.coe_ne_bot m)
      | top => exact absurd rfl ht
      | coe m' =>
        simp only [← EReal.coe_sub, Ideal.exp2_coe, ← EReal.coe_mul]
        congr 1
        show (2 : ℝ) ^ (m - m') * (2 : ℝ) ^ (s - m) = (2 : ℝ) ^ (s - m')
        rw [← Real.rpow_add (by norm_num)]
        congr 1
        ring

/-- A nonnegative finite factor goes into a sum. -/
theorem mul_sum {ι : Type*} (J : Finset ι) (f : ι → EReal) {c : EReal} (h0 : 0 ≤ c) (ht : c ≠ ⊤) :
    c * ∑ j ∈ J, f j = ∑ j ∈ J, c * f j := by
  classical
  induction J using Finset.induction_on with
  | empty => simp
  | insert a J ha ih =>
    rw [Finset.sum_insert ha, Finset.sum_insert ha, EReal.left_distrib_of_nonneg_of_ne_top h0 ht, ih]

/-- The sum of reals, read as extended reals. -/
theorem coe_sum {ι : Type*} (J : Finset ι) (f : ι → ℝ) : ((∑ j ∈ J, f j : ℝ) : EReal) = ∑ j ∈ J, (f j : EReal) := by
  classical
  induction J using Finset.induction_on with
  | empty => simp
  | insert a J ha ih => rw [Finset.sum_insert ha, Finset.sum_insert ha, EReal.coe_add, ih]

variable {ι : Type*} [DecidableEq ι]

/-- One row's state after the keys `J`, for the scores `s` and one column `v` of the values: the maximum of the scores,
    the sum of the exponentials and the sum of the weighted values. -/
structure Holds (s v : ι → EReal) (J : Finset ι) (m l a : EReal) : Prop where
  max : m = J.sup s
  sum : l = ∑ j ∈ J, Ideal.exp2 (s j - m)
  acc : a = ∑ j ∈ J, Ideal.exp2 (s j - m) * v j

/-- The state before any key. -/
theorem holds_empty (s v : ι → EReal) : Holds s v ∅ ⊥ 0 0 := ⟨by simp, by simp, by simp⟩

/-- The same, from the three values. -/
theorem holds_start {s v : ι → EReal} {m l a : EReal} (hm : m = ⊥) (hl : l = 0) (ha : a = 0) : Holds s v ∅ m l a := by
  rw [hm, hl, ha]; exact holds_empty s v

omit [DecidableEq ι] in
/-- No score is `⊤`, so neither is the largest. -/
theorem sup_ne_top (s : ι → EReal) (hs : ∀ j, s j ≠ ⊤) (J : Finset ι) : J.sup s ≠ ⊤ := by
  apply ne_of_lt
  rw [Finset.sup_lt_iff (by exact bot_lt_top)]
  exact fun j _ => lt_top_iff_ne_top.mpr (hs j)

/-- A tile's update adds the tile's keys: the tile is given by an embedding `e` of its own positions. -/
theorem Holds.update {s v : ι → EReal} (hs : ∀ j, s j ≠ ⊤) {J : Finset ι} {m l a : EReal} (h : Holds s v J m l a)
    {n : ℕ} (e : Fin n ↪ ι) (hd : Disjoint J (Finset.univ.map e)) {t w : Fin n → EReal}
    (ht : ∀ c, t c = s (e c)) (hw : ∀ c, w c = v (e c)) {m' : EReal} (hm' : m' = m ⊔ Finset.univ.sup t) :
    Holds s v (J ∪ Finset.univ.map e) m' (Ideal.exp2 (m - m') * l + ∑ c, Ideal.exp2 (t c - m'))
      (Ideal.exp2 (m - m') * a + ∑ c, Ideal.exp2 (t c - m') * w c) := by
  obtain ⟨h1, h2, h3⟩ := h
  have hte : t = s ∘ e := funext ht
  have hM : m' = (J ∪ Finset.univ.map e).sup s := by
    rw [hm', h1, Finset.sup_union, Finset.sup_map, hte]
  have hmt : m' ≠ ⊤ := by rw [hM]; exact sup_ne_top s hs _
  have hle : m ≤ m' := by rw [hm']; exact le_sup_left
  have hjm : ∀ j ∈ J, s j ≤ m := fun j hj => by rw [h1]; exact Finset.le_sup hj
  have hc0 := exp2_nonneg (m - m')
  have hct := exp2_ne_top (sub_ne_top hle hmt)
  refine ⟨hM, ?_, ?_⟩
  · rw [Finset.sum_union hd, Finset.sum_map, h2, mul_sum J _ hc0 hct]
    congr 1
    · exact Finset.sum_congr rfl fun j hj => exp2_rescale (hjm j hj) hle hmt
    · exact Finset.sum_congr rfl fun c _ => by rw [ht]
  · rw [Finset.sum_union hd, Finset.sum_map, h3, mul_sum J _ hc0 hct]
    congr 1
    · refine Finset.sum_congr rfl fun j hj => ?_
      rw [← mul_assoc, exp2_rescale (hjm j hj) hle hmt]
    · exact Finset.sum_congr rfl fun c _ => by rw [ht, hw]

/-- Keys with score `⊥` change nothing: the state after `J` is the state after any larger set whose further keys are
    masked. -/
theorem Holds.mono {s v : ι → EReal} {J K : Finset ι} (hJK : J ⊆ K) (hb : ∀ j ∈ K, j ∉ J → s j = ⊥)
    {m l a : EReal} (h : Holds s v J m l a) : Holds s v K m l a := by
  obtain ⟨h1, h2, h3⟩ := h
  refine ⟨?_, ?_, ?_⟩
  · rw [h1]
    refine le_antisymm (Finset.sup_mono hJK) (Finset.sup_le fun j hj => ?_)
    by_cases hjJ : j ∈ J
    · exact Finset.le_sup hjJ
    · rw [hb j hj hjJ]; exact bot_le
  · rw [h2]
    refine Finset.sum_subset hJK fun j hj hjJ => ?_
    rw [hb j hj hjJ]; simp
  · rw [h3]
    refine Finset.sum_subset hJK fun j hj hjJ => ?_
    rw [hb j hj hjJ]; simp

/-- The natural exponential of `s · ln 2` is the base-2 exponential of `s`, for differences of a score and a finite
    maximum. -/
theorem exp_log2 {s : EReal} (hs : s ≠ ⊤) (m : ℝ) :
    Ideal.exp (s * ((Real.log 2 : ℝ) : EReal) - (m : EReal) * ((Real.log 2 : ℝ) : EReal)) = Ideal.exp2 (s - (m : EReal)) := by
  have hl : 0 < Real.log 2 := Real.log_pos (by norm_num)
  induction s using EReal.rec with
  | top => exact absurd rfl hs
  | bot => rw [EReal.bot_mul_coe_of_pos hl]; simp
  | coe s =>
    simp only [← EReal.coe_sub, ← EReal.coe_mul, Ideal.exp2_coe, Ideal.exp_coe]
    congr 1
    show Real.exp _ = (2 : ℝ) ^ (s - m)
    rw [Real.rpow_def_of_pos (by norm_num)]
    congr 1
    ring

omit [DecidableEq ι] in
/-- The largest of the scaled scores is the scaled largest score. -/
theorem sup_mul_log2 (J : Finset ι) (s : ι → EReal) :
    J.sup (fun j => s j * ((Real.log 2 : ℝ) : EReal)) = J.sup s * ((Real.log 2 : ℝ) : EReal) := by
  classical
  have hl : 0 < Real.log 2 := Real.log_pos (by norm_num)
  have hl' : (0 : EReal) ≤ ((Real.log 2 : ℝ) : EReal) := by exact_mod_cast hl.le
  induction J using Finset.induction_on with
  | empty => simp [EReal.bot_mul_coe_of_pos hl]
  | insert a J ha ih =>
    rw [Finset.sup_insert, Finset.sup_insert, ih]
    rcases le_total (s a) (J.sup s) with h | h
    · rw [sup_eq_right.mpr h, sup_eq_right.mpr (mul_le_mul_of_nonneg_right h hl')]
    · rw [sup_eq_left.mpr h, sup_eq_left.mpr (mul_le_mul_of_nonneg_right h hl')]

/-- The sum of the exponentials over all keys is a positive real, when no score is `⊤` and the largest is a real. -/
theorem sum_pos_real [Fintype ι] {s : ι → EReal} (hs : ∀ j, s j ≠ ⊤) {j₀ : ι} (h₀ : s j₀ ≠ ⊥) :
    ∃ m l : ℝ, Finset.univ.sup s = (m : EReal) ∧ 0 < l ∧ ∑ j, Ideal.exp2 (s j - (m : EReal)) = (l : EReal) := by
  have hst := sup_ne_top s hs Finset.univ
  have hsb : Finset.univ.sup s ≠ ⊥ := fun h => h₀ (le_bot_iff.mp (h ▸ Finset.le_sup (Finset.mem_univ j₀)))
  lift Finset.univ.sup s to ℝ using ⟨hst, hsb⟩ with m hm
  have hr : ∀ j, ∃ p : ℝ, 0 ≤ p ∧ Ideal.exp2 (s j - (m : EReal)) = (p : EReal) := fun j => by
    have hle : s j ≤ (m : EReal) := by rw [hm]; exact Finset.le_sup (Finset.mem_univ j)
    have h1 := exp2_nonneg (s j - (m : EReal))
    have h2 := exp2_ne_top (sub_ne_top hle (EReal.coe_ne_top m))
    have h3 : Ideal.exp2 (s j - (m : EReal)) ≠ ⊥ := fun h => by rw [h] at h1; exact absurd h1 (by simp)
    lift Ideal.exp2 (s j - (m : EReal)) to ℝ using ⟨h2, h3⟩ with p
    exact ⟨p, by exact_mod_cast h1, rfl⟩
  choose p hp0 hp using hr
  refine ⟨m, ∑ j, p j, rfl, ?_, ?_⟩
  · refine Finset.sum_pos' (fun j _ => hp0 j) ⟨j₀, Finset.mem_univ _, ?_⟩
    have hs0 : s j₀ ≠ ⊤ := hs j₀
    have := hp j₀
    lift s j₀ to ℝ using ⟨hs0, h₀⟩ with q
    rw [← EReal.coe_sub, Ideal.exp2_coe, EReal.coe_eq_coe_iff] at this
    rw [← this]
    exact Real.rpow_pos_of_pos (by norm_num) _
  · rw [coe_sum]
    exact Finset.sum_congr rfl fun j _ => hp j

/-- THE ROW OF THE SOFTMAX: the quotient of the state after all keys is the sum of the normalized weights times the
    values, the weights written with the natural exponential of the scores scaled by `ln 2`. -/
theorem Holds.quotient [Fintype ι] {s v : ι → EReal} (hs : ∀ j, s j ≠ ⊤) {j₀ : ι} (h₀ : s j₀ ≠ ⊥) {m l a : EReal}
    (h : Holds s v Finset.univ m l a) {u : ι → EReal} (hu : ∀ j, u j = s j * ((Real.log 2 : ℝ) : EReal)) :
    Ideal.div a l
      = ∑ j, Ideal.div (Ideal.exp (u j - Finset.univ.sup u)) (∑ k, Ideal.exp (u k - Finset.univ.sup u)) * v j := by
  obtain ⟨m', l', hm, hl, hsum⟩ := sum_pos_real hs h₀
  obtain ⟨h1, h2, h3⟩ := h
  have hu' : u = fun j => s j * ((Real.log 2 : ℝ) : EReal) := funext hu
  have hexp : ∀ j, Ideal.exp (u j - Finset.univ.sup u) = Ideal.exp2 (s j - (m' : EReal)) := fun j => by
    rw [hu', sup_mul_log2, hm]
    exact exp_log2 (hs j) m'
  simp only [hexp]
  rw [hm] at h1
  subst h1
  rw [hsum] at h2 ⊢
  rw [h2, h3, Ideal.div_coe hl.ne']
  have hi : (0 : EReal) ≤ ((1 / l' : ℝ) : EReal) := by exact_mod_cast (by positivity : (0 : ℝ) ≤ 1 / l')
  rw [mul_comm, mul_sum _ _ hi (EReal.coe_ne_top _)]
  refine Finset.sum_congr rfl fun j _ => ?_
  rw [Ideal.div_coe hl.ne', ← mul_assoc, mul_comm (Ideal.exp2 _)]

end Cert.Online

end
-- ==== Proof.Steps.lean ====
/-
  The payloads of one tile's softmax update, named once for the three tile sizes of the kernel (`A`: the first half of
  the diagonal tile, 256 rows by 256 keys; `B`: its second half, 256 rows by 512 keys; `C`: a past tile, 512 rows by
  512 keys), each read at an index over the extended reals.
-/
module

public import proofs.«01_k».proof.Proof.Gen.KernelIdeal.Value
public import proofs.«01_k».proof.Proof.Online
public import Idealize.ShloMosaic.Lib.Pointwise
public import Idealize.ShloMosaic.Lib.WordCmp

@[expose] public section

noncomputable section

namespace Cert.KernelIdeal.Steps

open Cert.KernelIdeal Cert.KernelIdeal.Gen Idealize.ShloMosaic Idealize.ShloMosaic.TcCoe Idealize.SL.Sem

section Generic

variable {F : FTy → Type} [FloatOps F] [Named F]

/-- The masked scores of the diagonal tile's first half. -/
def sA (q0 q1 k0 k1 : Vec F S256x128 .bf16) : FVec F S256x256 .f32 := k0_pay80 q0 q1 k0 k1
/-- The new row maxima there, from the scores and the old maxima. -/
def mA (s : FVec F S256x256 .f32) (mp : Vec F S1x256x128 .f32) : FVec F S1x256x128 .f32 := k0_pay104 (k0_pay89 s mp)
/-- The new row sums there. -/
def lA (s : FVec F S256x256 .f32) (mp lp : Vec F S1x256x128 .f32) : FVec F S1x256x128 .f32 :=
  k0_pay102 (k0_pay85 mp) (k0_pay89 s mp) (k0_pay93 s mp) lp
/-- The new accumulators there. -/
def aA (s : FVec F S256x256 .f32) (v : Vec F S256x128 .bf16) (mp ap : Vec F S1x256x128 .f32) : FVec F S1x256x128 .f32 :=
  k0_pay103 v (k0_pay85 mp) (k0_pay89 s mp) (k0_pay93 s mp) ap

/-- The masked scores of the diagonal tile's second half. -/
def sB (q0 q1 : Vec F S256x128 .bf16) (k0 k1 : Vec F S512x128 .bf16) : FVec F S256x512 .f32 :=
  k0_pay118 (iota .tc S256x512 32 [0] iota_S256x512_d0_w32) 256#32 q0 q1 k0 k1
/-- The new row maxima there. -/
def mB (s : FVec F S256x512 .f32) (mp : Vec F S1x256x128 .f32) : FVec F S1x256x128 .f32 := k0_pay143 (k0_pay128 s mp)
/-- The new row sums there. -/
def lB (s : FVec F S256x512 .f32) (mp lp : Vec F S1x256x128 .f32) : FVec F S1x256x128 .f32 :=
  k0_pay141 s (k0_pay124 mp) (k0_pay128 s mp) lp
/-- The new accumulators there. -/
def aB (s : FVec F S256x512 .f32) (v : Vec F S512x128 .bf16) (mp ap : Vec F S1x256x128 .f32) : FVec F S1x256x128 .f32 :=
  k0_pay142 (k0_pay136 s v (k0_pay128 s mp)) (k0_pay140 (k0_pay124 mp) (k0_pay128 s mp)) ap

/-- The scores of a past tile. -/
def sC (q0 q1 k0 k1 : Vec F S512x128 .bf16) : FVec F S512x512 .f32 := k0_pay40 q0 q1 k0 k1
/-- The new row maxima after a past tile. -/
def mC (s : FVec F S512x512 .f32) (mp : Vec F S1x512x128 .f32) : FVec F S1x512x128 .f32 := k0_pay63 (k0_pay49 s mp)
/-- The new row sums after a past tile. -/
def lC (s : FVec F S512x512 .f32) (mp lp : Vec F S1x512x128 .f32) : FVec F S1x512x128 .f32 :=
  k0_pay61 s (k0_pay45 mp) (k0_pay49 s mp) lp
/-- The new accumulators after a past tile. -/
def aC (s : FVec F S512x512 .f32) (v : Vec F S512x128 .bf16) (mp ap : Vec F S1x512x128 .f32) : FVec F S1x512x128 .f32 :=
  k0_pay62 s v (k0_pay45 mp) (k0_pay49 s mp) ap

end Generic

/-- The running maximum of the extended reals, from the unit's −∞, is the supremum. -/
theorem fold_max {ι : Type} (J : Finset ι) (f : ι → EReal) :
    Finset.fold max (Ideal.ofBits .f32 4286578688#32) f J = J.sup f := by
  have h : Ideal.ofBits .f32 4286578688#32 = ⊥ := by simp [Ideal.ofBits, Ideal.ieee]
  rw [h]
  rfl

section A

variable (s : FVec Ideal S256x256 .f32) (v : Vec Ideal S256x128 .bf16) (mp lp ap : Vec Ideal S1x256x128 .f32) (r : Fin 256) (x : Fin 128)
  {μ : EReal} (hμ : ∀ x, mp (ix3 0 r x) = μ)

include hμ

/-- Every lane of the new maximum is the larger of the old one and the tile's. -/
theorem mA_apply : mA s mp (ix3 0 r x) = μ ⊔ Finset.univ.sup fun k => s (ix2 r k) := by
  pointwise [mA, k0_pay104, k0_pay89, k0_pay85]
  rw [hμ, fold_max]

/-- The new sum: the old one rescaled, and the tile's exponentials. -/
theorem lA_apply : lA s mp lp (ix3 0 r x)
    = Ideal.exp2 (μ - (μ ⊔ Finset.univ.sup fun k => s (ix2 r k))) * lp (ix3 0 r x)
      + ∑ k, Ideal.exp2 (s (ix2 r k) - (μ ⊔ Finset.univ.sup fun k => s (ix2 r k))) := by
  pointwise [lA, k0_pay102, k0_pay93, k0_pay89, k0_pay85, k0_pay101, k0_pay100]
  simp only [hμ, fold_max, dite_eq_ite, ite_self]
  refine congrArg₂ (· + ·) rfl (Eq.symm ?_)
  exact Fin.sum_univ_add (a := 128) (b := 128) _

/-- The new accumulator: the old one rescaled, and the tile's weighted values. -/
theorem aA_apply : aA s v mp ap (ix3 0 r x)
    = Ideal.exp2 (μ - (μ ⊔ Finset.univ.sup fun k => s (ix2 r k))) * ap (ix3 0 r x)
      + ∑ k, Ideal.exp2 (s (ix2 r k) - (μ ⊔ Finset.univ.sup fun k => s (ix2 r k))) * v (ix2 k x) := by
  pointwise [aA, k0_pay103, k0_pay93, k0_pay89, k0_pay85, k0_pay97, k0_pay101, k0_pay100]
  simp only [hμ, fold_max, dite_eq_ite, ite_self]
  refine congrArg₂ (· + ·) rfl (Eq.symm ?_)
  exact Fin.sum_univ_add (a := 128) (b := 128) _

end A

section B

variable (s : FVec Ideal S256x512 .f32) (v : Vec Ideal S512x128 .bf16) (mp lp ap : Vec Ideal S1x256x128 .f32) (r : Fin 256) (x : Fin 128)
  {μ : EReal} (hμ : ∀ x, mp (ix3 0 r x) = μ)

include hμ

/-- Every lane of the new maximum is the larger of the old one and the tile's. -/
theorem mB_apply : mB s mp (ix3 0 r x) = μ ⊔ Finset.univ.sup fun k => s (ix2 r k) := by
  pointwise [mB, k0_pay143, k0_pay128, k0_pay124]
  rw [hμ, fold_max]

/-- The new sum: the old one rescaled, and the tile's exponentials. -/
theorem lB_apply : lB s mp lp (ix3 0 r x)
    = Ideal.exp2 (μ - (μ ⊔ Finset.univ.sup fun k => s (ix2 r k))) * lp (ix3 0 r x)
      + ∑ k, Ideal.exp2 (s (ix2 r k) - (μ ⊔ Finset.univ.sup fun k => s (ix2 r k))) := by
  pointwise [lB, k0_pay141, k0_pay140, k0_pay132, k0_pay128, k0_pay124]
  simp only [hμ, fold_max, dite_eq_ite, ite_self]
  rfl

/-- The new accumulator: the old one rescaled, and the tile's weighted values. -/
theorem aB_apply : aB s v mp ap (ix3 0 r x)
    = Ideal.exp2 (μ - (μ ⊔ Finset.univ.sup fun k => s (ix2 r k))) * ap (ix3 0 r x)
      + ∑ k, Ideal.exp2 (s (ix2 r k) - (μ ⊔ Finset.univ.sup fun k => s (ix2 r k))) * v (ix2 k x) := by
  pointwise [aB, k0_pay142, k0_pay140, k0_pay136, k0_pay132, k0_pay128, k0_pay124]
  simp only [hμ, fold_max, dite_eq_ite, ite_self]
  rfl

end B

section C

variable (s : FVec Ideal S512x512 .f32) (v : Vec Ideal S512x128 .bf16) (mp lp ap : Vec Ideal S1x512x128 .f32) (r : Fin 512) (x : Fin 128)
  {μ : EReal} (hμ : ∀ x, mp (ix3 0 r x) = μ)

include hμ

/-- Every lane of the new maximum is the larger of the old one and the tile's. -/
theorem mC_apply : mC s mp (ix3 0 r x) = μ ⊔ Finset.univ.sup fun k => s (ix2 r k) := by
  pointwise [mC, k0_pay63, k0_pay49, k0_pay45]
  rw [hμ, fold_max]

/-- The new sum: the old one rescaled, and the tile's exponentials. -/
theorem lC_apply : lC s mp lp (ix3 0 r x)
    = Ideal.exp2 (μ - (μ ⊔ Finset.univ.sup fun k => s (ix2 r k))) * lp (ix3 0 r x)
      + ∑ k, Ideal.exp2 (s (ix2 r k) - (μ ⊔ Finset.univ.sup fun k => s (ix2 r k))) := by
  pointwise [lC, k0_pay61, k0_pay60, k0_pay53, k0_pay49, k0_pay45]
  simp only [hμ, fold_max, dite_eq_ite, ite_self]
  rfl

/-- The new accumulator: the old one rescaled, and the tile's weighted values. -/
theorem aC_apply : aC s v mp ap (ix3 0 r x)
    = Ideal.exp2 (μ - (μ ⊔ Finset.univ.sup fun k => s (ix2 r k))) * ap (ix3 0 r x)
      + ∑ k, Ideal.exp2 (s (ix2 r k) - (μ ⊔ Finset.univ.sup fun k => s (ix2 r k))) * v (ix2 k x) := by
  pointwise [aC, k0_pay62, k0_pay60, k0_pay53, k0_pay49, k0_pay45]
  simp only [hμ, fold_max, dite_eq_ite, ite_self]
  rfl

end C

/-- A past tile's score: the two halves' inner products. -/
theorem sC_apply (q0 q1 k0 k1 : Vec Ideal S512x128 .bf16) (r x : Fin 512) :
    sC q0 q1 k0 k1 (ix2 r x)
      = (∑ d : Fin 128, q0 (ix2 r d) * k0 (ix2 x d)) + ∑ d : Fin 128, q1 (ix2 r d) * k1 (ix2 x d) := by
  pointwise [sC, k0_pay40]

/-- The causal mask of the diagonal tile, on positions in a row block that starts `o` rows down. -/
theorem causal_select {r x o : ℕ} (hr : r < 512) (hx : x < 512) (ho : o < 512) (y : EReal) :
    Scalar.select (α := EReal) (IntOp.cmpi .sle (BitVec.ofNat 32 x) (IntOp.addi (BitVec.ofNat 32 r) (BitVec.ofNat 32 o))) y
        (Named.named (F := Ideal) (φ := .f32) κ "neg" 4048155338#32)
      = if x ≤ r + o then y else ⊥ := by
  have hadd : IntOp.addi (BitVec.ofNat 32 r) (BitVec.ofNat 32 o) = BitVec.ofNat 32 (r + o) := (BitVec.ofNat_add r o).symm
  have hneg : Named.named (F := Ideal) (φ := .f32) κ "neg" 4048155338#32 = (⊥ : EReal) := rfl
  rw [hadd, hneg, WordCmp.cmpi_sle_ofNat (by omega) (by omega)]
  by_cases h : x ≤ r + o
  · rw [if_pos h, decide_eq_true h]; rfl
  · rw [if_neg h, decide_eq_false h]; rfl

/-- The diagonal tile's first half: the score where the key is not past the query, −∞ elsewhere. -/
theorem sA_apply (q0 q1 k0 k1 : Vec Ideal S256x128 .bf16) (r x : Fin 256) :
    sA q0 q1 k0 k1 (ix2 r x)
      = if x.val ≤ r.val + 0 then (∑ d : Fin 128, q0 (ix2 r d) * k0 (ix2 x d)) + ∑ d : Fin 128, q1 (ix2 r d) * k1 (ix2 x d)
        else ⊥ := by
  pointwise [sA, k0_pay80, k0_pay79]
  exact causal_select (by omega) (by omega) (by omega) _

/-- The diagonal tile's second half, 256 rows further down. -/
theorem sB_apply (q0 q1 : Vec Ideal S256x128 .bf16) (k0 k1 : Vec Ideal S512x128 .bf16) (r : Fin 256) (x : Fin 512) :
    sB q0 q1 k0 k1 (ix2 r x)
      = if x.val ≤ r.val + 256 then (∑ d : Fin 128, q0 (ix2 r d) * k0 (ix2 x d)) + ∑ d : Fin 128, q1 (ix2 r d) * k1 (ix2 x d)
        else ⊥ := by
  pointwise [sB, k0_pay118, k0_pay117]
  exact causal_select (by omega) (by omega) (by omega) _

end Cert.KernelIdeal.Steps

end
-- ==== Proof.Trip.lean ====
/-
  One trip of the loop over the past tiles: what it stores, from what the scratch buffers held before it.
-/
module

public import proofs.«01_k».proof.Proof.Steps

@[expose] public section

noncomputable section

namespace Cert.KernelIdeal.Trip

open Cert.KernelIdeal Cert.KernelIdeal.Gen Cert.KernelIdeal.Steps Idealize.ShloMosaic Idealize.ShloMosaic.TcCoe Idealize.SL.Sem

variable {F : FTy → Type} [FloatOps F] [Named F]

/-- The first row of key tile `k`, as the kernel computes it. -/
abbrev tileRow (k : ℕ) : ℕ := BitVec.toNat (Scalar.indexCast (Scalar.muli (Scf.iv 0#32 1#32 k) 512#32))

theorem tileRow_eq {k : ℕ} (hk : k < 8) : tileRow k = 512 * k := by
  interval_cases k <;> rfl

theorem inbQ {g : ℕ} (hg : g < 4) : ∀ a, (![0, 128 * g] : Fin 2 → ℕ) a + S512x128.size a ≤ S512x512.size a :=
  Fin.forall_fin_two.mpr ⟨by show 0 + 512 ≤ 512; omega, by show 128 * g + 128 ≤ 512; omega⟩

theorem inbK {n : ℕ} (hn : n ≤ 3584) {g : ℕ} (hg : g < 4) : ∀ a, (![n, 128 * g] : Fin 2 → ℕ) a + S512x128.size a ≤ S4096x512.size a :=
  Fin.forall_fin_two.mpr ⟨by show n + 512 ≤ 4096; omega, by show 128 * g + 128 ≤ 512; omega⟩

theorem inbP {n : ℕ} (hn : n ≤ 3584) : ∀ a, (![n, 0] : Fin 2 → ℕ) a + S512x128.size a ≤ S4096x128.size a :=
  Fin.forall_fin_two.mpr ⟨by show n + 512 ≤ 4096; omega, by show 0 + 128 ≤ 128; omega⟩

theorem inbS {g : ℕ} (hg : g < 4) : ∀ a, (![g, 0, 0] : Fin 3 → ℕ) a + S1x512x128.size a ≤ S4x512x128.size a := by
  intro a; fin_cases a
  · show g + 1 ≤ 4; omega
  · show 0 + 512 ≤ 512; omega
  · show 0 + 128 ≤ 128; omega

section Loads

variable (arg3 : Memref sig .tc .vmem S512x512 .bf16) (arg4 : Memref sig .tc .vmem S512x512 .bf16) (arg5 : Memref sig .tc .vmem S4096x512 .bf16)
  (arg6 : Memref sig .tc .vmem S4096x128 .bf16) (arg7 : Memref sig .tc .vmem S4096x512 .bf16)
  (X3 : BufTy.Contents (Elt F) arg3.view.ty) (X4 : BufTy.Contents (Elt F) arg4.view.ty) (X5 : BufTy.Contents (Elt F) arg5.view.ty)
  (X6 : BufTy.Contents (Elt F) arg6.view.ty) (X7 : BufTy.Contents (Elt F) arg7.view.ty)

/-- Head `g`'s scores against the keys of the tile at row `n`. -/
abbrev tripS {n : ℕ} (hn : n ≤ 3584) {g : ℕ} (hg : g < 4) : FVec F S512x512 .f32 :=
  sC (arg3.view.readAt (Elt F) (Rect.unit (s := S512x512) ![0, 128 * g] S512x128.size (inbQ hg)).toLoadRect X3)
    (arg4.view.readAt (Elt F) (Rect.unit (s := S512x512) ![0, 128 * g] S512x128.size (inbQ hg)).toLoadRect X4)
    (arg5.view.readAt (Elt F) (Rect.unit (s := S4096x512) ![n, 128 * g] S512x128.size (inbK hn hg)).toLoadRect X5)
    (arg6.view.readAt (Elt F) (Rect.unit (s := S4096x128) ![n, 0] S512x128.size (inbP hn)).toLoadRect X6)

/-- Head `g`'s values in that tile. -/
abbrev tripV {n : ℕ} (hn : n ≤ 3584) {g : ℕ} (hg : g < 4) : Vec F S512x128 .bf16 :=
  arg7.view.readAt (Elt F) (Rect.unit (s := S4096x512) ![n, 128 * g] S512x128.size (inbK hn hg)).toLoadRect X7

end Loads

/-- Head `g`'s rows of a scratch buffer. -/
abbrev headOf (M : Memref sig .tc .vmem S4x512x128 .f32) (f : BufTy.Contents (Elt F) M.view.ty) {g : ℕ} (hg : g < 4) : Vec F S1x512x128 .f32 :=
  M.view.readAt (Elt F) (Rect.unit (s := S4x512x128) ![g, 0, 0] S1x512x128.size (inbS hg)).toLoadRect f

/-- Four stores, one per head, newest first. -/
abbrev fourHeads (w : ∀ g : ℕ, g < 4 → FVec F S1x512x128 .f32) : List (View.Piece (Elt F) S4x512x128 .f32) :=
  [⟨Rect.unit (s := S4x512x128) ![3, 0, 0] S1x512x128.size (inbS (g := 3) (by omega)), w 3 (by omega)⟩,
   ⟨Rect.unit (s := S4x512x128) ![2, 0, 0] S1x512x128.size (inbS (g := 2) (by omega)), w 2 (by omega)⟩,
   ⟨Rect.unit (s := S4x512x128) ![1, 0, 0] S1x512x128.size (inbS (g := 1) (by omega)), w 1 (by omega)⟩,
   ⟨Rect.unit (s := S4x512x128) ![0, 0, 0] S1x512x128.size (inbS (g := 0) (by omega)), w 0 (by omega)⟩]

/-- THE TRIP'S STORES: every head's maximum, sum and accumulator, from the tile's scores and what was held before. -/
theorem tripL_eq (𝒱 : Variants) (c : Dev nD) (bd : Option 𝒱.V) (i : grid0.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x128 .bf16) (harg6 : arg6.IsWhole) (arg7 : Memref sig .tc .vmem S4096x512 .bf16) (harg7 : arg7.IsWhole) (arg8 : Memref sig .tc .vmem S512x512 .bf16) (harg8 : arg8.IsWhole) (arg9 : Memref sig .tc .vmem S4x512x128 .f32) (harg9 : arg9.IsWhole) (arg10 : Memref sig .tc .vmem S4x512x128 .f32) (harg10 : arg10.IsWhole) (arg11 : Memref sig .tc .vmem S4x512x128 .f32) (harg11 : arg11.IsWhole) (arg2 : BitVec 32) (v289 : FVec F S256x128 .f32) (v309 : FVec F S256x128 .f32) (v377 : FVec F S256x128 .f32) (v384 : FVec F S256x128 .f32) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (k : Fin (k0_t1_loop i).trips) (f9 : BufTy.Contents (Elt F) arg9.view.ty) (f10 : BufTy.Contents (Elt F) arg10.view.ty) (f11 : BufTy.Contents (Elt F) arg11.view.ty)
    (hn : tileRow k.val ≤ 3584) :
    tripL_k0_t1 𝒱 c bd i arg3 harg3 arg4 harg4 arg5 harg5 arg6 harg6 arg7 harg7 arg8 harg8 arg9 harg9 arg10 harg10 arg11 harg11 arg2 v289 v309 v377 v384 X3 X4 X5 X6 X7 k f9 f10 f11
      = (fourHeads fun _ hg => mC (tripS arg3 arg4 arg5 arg6 X3 X4 X5 X6 hn hg) (headOf arg9 f9 hg),
         fourHeads fun _ hg => lC (tripS arg3 arg4 arg5 arg6 X3 X4 X5 X6 hn hg) (headOf arg9 f9 hg) (headOf arg10 f10 hg),
         fourHeads fun _ hg => aC (tripS arg3 arg4 arg5 arg6 X3 X4 X5 X6 hn hg) (tripV arg7 X7 hn hg) (headOf arg9 f9 hg) (headOf arg11 f11 hg)) := by
  unfold tripL_k0_t1 trip_k0_t1
  rfl

end Cert.KernelIdeal.Trip

end
-- ==== Proof.Diag.lean ====
/-
  The diagonal tile, in two halves of the query rows: what the run's stores to the scratch buffers are.
-/
module

public import proofs.«01_k».proof.Proof.Trip

@[expose] public section

noncomputable section

namespace Cert.KernelIdeal.Diag

open Cert.KernelIdeal Cert.KernelIdeal.Gen Cert.KernelIdeal.Steps Cert.KernelIdeal.Trip Idealize.ShloMosaic Idealize.ShloMosaic.TcCoe Idealize.SL.Sem

variable {F : FTy → Type} [FloatOps F] [Named F]

/-- The first row of the diagonal key tile, as the kernel computes it. -/
abbrev diagRow (n : ℕ) : ℕ := BitVec.toNat (Scalar.indexCast (Scalar.muli (BitVec.ofNat 32 n) 512#32))

theorem diagRow_eq {n : ℕ} (hn : n < 8) : diagRow n = 512 * n := by
  interval_cases n <;> rfl

theorem inbQh {o : ℕ} (ho : o ≤ 256) {g : ℕ} (hg : g < 4) :
    ∀ a, (![o, 128 * g] : Fin 2 → ℕ) a + S256x128.size a ≤ S512x512.size a :=
  Fin.forall_fin_two.mpr ⟨by show o + 256 ≤ 512; omega, by show 128 * g + 128 ≤ 512; omega⟩

theorem inbKh {n : ℕ} (hn : n ≤ 3584) {g : ℕ} (hg : g < 4) :
    ∀ a, (![n, 128 * g] : Fin 2 → ℕ) a + S256x128.size a ≤ S4096x512.size a :=
  Fin.forall_fin_two.mpr ⟨by show n + 256 ≤ 4096; omega, by show 128 * g + 128 ≤ 512; omega⟩

theorem inbPh {n : ℕ} (hn : n ≤ 3584) : ∀ a, (![n, 0] : Fin 2 → ℕ) a + S256x128.size a ≤ S4096x128.size a :=
  Fin.forall_fin_two.mpr ⟨by show n + 256 ≤ 4096; omega, by show 0 + 128 ≤ 128; omega⟩

theorem inbSh {o : ℕ} (ho : o ≤ 256) {g : ℕ} (hg : g < 4) :
    ∀ a, (![g, o, 0] : Fin 3 → ℕ) a + S1x256x128.size a ≤ S4x512x128.size a := by
  intro a; fin_cases a
  · show g + 1 ≤ 4; omega
  · show o + 256 ≤ 512; omega
  · show 0 + 128 ≤ 128; omega

theorem inbF : ∀ a, (![0, 0, 0] : Fin 3 → ℕ) a + S4x512x128.size a ≤ S4x512x128.size a := by
  intro a; fin_cases a <;> exact le_of_eq (Nat.zero_add _)

/-- Store head `g`'s half of the rows, from row `o` on, over the stores `L`: `w` of what a read of it after `src` gives. -/
abbrev push (M : Memref sig .tc .vmem S4x512x128 .f32) {o : ℕ} (ho : o ≤ 256)
    (w : ∀ g : ℕ, g < 4 → Vec F S1x256x128 .f32 → FVec F S1x256x128 .f32) (g : ℕ) (hg : g < 4)
    (src L : List (View.Piece (Elt F) S4x512x128 .f32)) : List (View.Piece (Elt F) S4x512x128 .f32) :=
  ⟨Rect.unit (s := S4x512x128) ![g, o, 0] S1x256x128.size (inbSh ho hg),
    w g hg (M.view.readCov src (Rect.unit (s := S4x512x128) ![g, o, 0] S1x256x128.size (inbSh ho hg)).toLoadRect)⟩ :: L

/-- The four heads' stores, all from reads before the first. -/
abbrev together (M : Memref sig .tc .vmem S4x512x128 .f32) {o : ℕ} (ho : o ≤ 256)
    (w : ∀ g : ℕ, g < 4 → Vec F S1x256x128 .f32 → FVec F S1x256x128 .f32) (L : List (View.Piece (Elt F) S4x512x128 .f32)) :
    List (View.Piece (Elt F) S4x512x128 .f32) :=
  push M ho w 3 (by omega) L (push M ho w 2 (by omega) L (push M ho w 1 (by omega) L (push M ho w 0 (by omega) L L)))

/-- The four heads' stores, each from a read just before it. -/
abbrev inTurn (M : Memref sig .tc .vmem S4x512x128 .f32) {o : ℕ} (ho : o ≤ 256)
    (w : ∀ g : ℕ, g < 4 → Vec F S1x256x128 .f32 → FVec F S1x256x128 .f32) (L : List (View.Piece (Elt F) S4x512x128 .f32)) :
    List (View.Piece (Elt F) S4x512x128 .f32) :=
  let L₁ := push M ho w 0 (by omega) L L
  let L₂ := push M ho w 1 (by omega) L₁ L₁
  let L₃ := push M ho w 2 (by omega) L₂ L₂
  push M ho w 3 (by omega) L₃ L₃

/-- The first store: a value everywhere. -/
abbrev fill (x : FVec F S4x512x128 .f32) : List (View.Piece (Elt F) S4x512x128 .f32) :=
  [⟨Rect.unit (s := S4x512x128) ![0, 0, 0] S4x512x128.size inbF, x⟩]

section Loads

variable (arg3 : Memref sig .tc .vmem S512x512 .bf16) (arg4 : Memref sig .tc .vmem S512x512 .bf16) (arg5 : Memref sig .tc .vmem S4096x512 .bf16)
  (arg6 : Memref sig .tc .vmem S4096x128 .bf16) (arg7 : Memref sig .tc .vmem S4096x512 .bf16)
  (X3 : BufTy.Contents (Elt F) arg3.view.ty) (X4 : BufTy.Contents (Elt F) arg4.view.ty) (X5 : BufTy.Contents (Elt F) arg5.view.ty)
  (X6 : BufTy.Contents (Elt F) arg6.view.ty) (X7 : BufTy.Contents (Elt F) arg7.view.ty)
  {n : ℕ} (hn : n ≤ 3584) {g : ℕ} (hg : g < 4)

/-- Head `g`'s masked scores, first half. -/
abbrev scoreA : FVec F S256x256 .f32 :=
  sA (arg3.view.readAt (Elt F) (Rect.unit (s := S512x512) ![0, 128 * g] S256x128.size (inbQh (by omega) hg)).toLoadRect X3)
    (arg4.view.readAt (Elt F) (Rect.unit (s := S512x512) ![0, 128 * g] S256x128.size (inbQh (by omega) hg)).toLoadRect X4)
    (arg5.view.readAt (Elt F) (Rect.unit (s := S4096x512) ![n, 128 * g] S256x128.size (inbKh hn hg)).toLoadRect X5)
    (arg6.view.readAt (Elt F) (Rect.unit (s := S4096x128) ![n, 0] S256x128.size (inbPh hn)).toLoadRect X6)

/-- Head `g`'s values for the first half's keys. -/
abbrev valueA : Vec F S256x128 .bf16 :=
  arg7.view.readAt (Elt F) (Rect.unit (s := S4096x512) ![n, 128 * g] S256x128.size (inbKh hn hg)).toLoadRect X7

/-- Head `g`'s masked scores, second half. -/
abbrev scoreB : FVec F S256x512 .f32 :=
  sB (arg3.view.readAt (Elt F) (Rect.unit (s := S512x512) ![256, 128 * g] S256x128.size (inbQh (by omega) hg)).toLoadRect X3)
    (arg4.view.readAt (Elt F) (Rect.unit (s := S512x512) ![256, 128 * g] S256x128.size (inbQh (by omega) hg)).toLoadRect X4)
    (arg5.view.readAt (Elt F) (Rect.unit (s := S4096x512) ![n, 128 * g] S512x128.size (inbK hn hg)).toLoadRect X5)
    (arg6.view.readAt (Elt F) (Rect.unit (s := S4096x128) ![n, 0] S512x128.size (inbP hn)).toLoadRect X6)

end Loads

section Pieces

variable (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x128 .bf16) (harg6 : arg6.IsWhole) (arg7 : Memref sig .tc .vmem S4096x512 .bf16) (harg7 : arg7.IsWhole) (arg9 arg10 arg11 : Memref sig .tc .vmem S4x512x128 .f32)
    (x0 : Vec F S512x512 .bf16) (x1 : Vec F S512x512 .bf16) (x2 : Vec F S4096x512 .bf16) (x3 : Vec F S4096x128 .bf16) (x4 : Vec F S4096x512 .bf16)
  (hn : diagRow (i 2).val ≤ 3584)

/-- The maxima after the first half. -/
abbrev maxA : List (View.Piece (Elt F) S4x512x128 .f32) :=
  together arg9 (o := 0) (by omega) (fun _ hg => mA (scoreA arg3 arg4 arg5 arg6 (harg3.unread x0) (harg4.unread x1) (harg5.unread x2) (harg6.unread x3) hn hg))
    (fill k0_pay76)

/-- The maxima after the diagonal tile. -/
abbrev maxB : List (View.Piece (Elt F) S4x512x128 .f32) :=
  together arg9 (o := 256) (by omega) (fun _ hg => mB (scoreB arg3 arg4 arg5 arg6 (harg3.unread x0) (harg4.unread x1) (harg5.unread x2) (harg6.unread x3) hn hg))
    (maxA i arg3 harg3 arg4 harg4 arg5 harg5 arg6 harg6 arg9 x0 x1 x2 x3 hn)

theorem HS0_9_eq :
    kernelRun0_A.sl.HS0_9 c i arg3 harg3 arg4 harg4 arg5 harg5 arg6 harg6 arg9 x0 x1 x2 x3
      = maxB i arg3 harg3 arg4 harg4 arg5 harg5 arg6 harg6 arg9 x0 x1 x2 x3 hn := by
  rfl

/-- The sums after the first half. -/
abbrev sumA : List (View.Piece (Elt F) S4x512x128 .f32) :=
  inTurn arg10 (o := 0) (by omega) (fun g hg => lA (scoreA arg3 arg4 arg5 arg6 (harg3.unread x0) (harg4.unread x1) (harg5.unread x2) (harg6.unread x3) hn hg)
    (arg9.view.readCov (fill k0_pay76) (Rect.unit (s := S4x512x128) ![g, 0, 0] S1x256x128.size (inbSh (by omega) hg)).toLoadRect))
    (fill k0_pay77)

/-- The sums after the diagonal tile. -/
abbrev sumB : List (View.Piece (Elt F) S4x512x128 .f32) :=
  inTurn arg10 (o := 256) (by omega) (fun g hg => lB (scoreB arg3 arg4 arg5 arg6 (harg3.unread x0) (harg4.unread x1) (harg5.unread x2) (harg6.unread x3) hn hg)
    (arg9.view.readCov (maxA i arg3 harg3 arg4 harg4 arg5 harg5 arg6 harg6 arg9 x0 x1 x2 x3 hn)
      (Rect.unit (s := S4x512x128) ![g, 256, 0] S1x256x128.size (inbSh (by omega) hg)).toLoadRect))
    (sumA i arg3 harg3 arg4 harg4 arg5 harg5 arg6 harg6 arg9 arg10 x0 x1 x2 x3 hn)

theorem HS1_9_eq :
    kernelRun0_A.sl.HS1_9 c i arg3 harg3 arg4 harg4 arg5 harg5 arg6 harg6 arg9 arg10 x0 x1 x2 x3
      = sumB i arg3 harg3 arg4 harg4 arg5 harg5 arg6 harg6 arg9 arg10 x0 x1 x2 x3 hn := by
  rfl

/-- The accumulators after the first half. -/
abbrev accA : List (View.Piece (Elt F) S4x512x128 .f32) :=
  inTurn arg11 (o := 0) (by omega) (fun g hg => aA (scoreA arg3 arg4 arg5 arg6 (harg3.unread x0) (harg4.unread x1) (harg5.unread x2) (harg6.unread x3) hn hg)
    (valueA arg7 (harg7.unread x4) hn hg)
    (arg9.view.readCov (fill k0_pay76) (Rect.unit (s := S4x512x128) ![g, 0, 0] S1x256x128.size (inbSh (by omega) hg)).toLoadRect))
    (fill k0_pay78)

/-- The accumulators after the diagonal tile. -/
abbrev accB : List (View.Piece (Elt F) S4x512x128 .f32) :=
  inTurn arg11 (o := 256) (by omega) (fun g hg => aB (scoreB arg3 arg4 arg5 arg6 (harg3.unread x0) (harg4.unread x1) (harg5.unread x2) (harg6.unread x3) hn hg)
    (tripV arg7 (harg7.unread x4) hn hg)
    (arg9.view.readCov (maxA i arg3 harg3 arg4 harg4 arg5 harg5 arg6 harg6 arg9 x0 x1 x2 x3 hn)
      (Rect.unit (s := S4x512x128) ![g, 256, 0] S1x256x128.size (inbSh (by omega) hg)).toLoadRect))
    (accA i arg3 harg3 arg4 harg4 arg5 harg5 arg6 harg6 arg7 harg7 arg9 arg11 x0 x1 x2 x3 x4 hn)

theorem HS2_9_eq :
    kernelRun0_A.sl.HS2_9 c i arg3 harg3 arg4 harg4 arg5 harg5 arg6 harg6 arg7 harg7 arg9 arg11 x0 x1 x2 x3 x4
      = accB i arg3 harg3 arg4 harg4 arg5 harg5 arg6 harg6 arg7 harg7 arg9 arg11 x0 x1 x2 x3 x4 hn := by
  rfl

end Pieces

end Cert.KernelIdeal.Diag

end
-- ==== Proof.Reads.lean ====
/-
  Reading the buffers: a load's entries from the contents it reads, and what a list of stores leaves at an entry.
-/
module

public import proofs.«01_k».proof.Proof.Diag
public import Idealize.ShloMosaic.Lib.WritesUnit

@[expose] public section

noncomputable section

namespace Cert.KernelIdeal.Reads

open Cert.KernelIdeal Cert.KernelIdeal.Gen Cert.KernelIdeal.Steps Cert.KernelIdeal.Trip Cert.KernelIdeal.Diag
  Idealize.ShloMosaic Idealize.ShloMosaic.TcCoe Idealize.SL.Sem

variable {F : FTy → Type} [FloatOps F] [Named F]

/-- A load's entry, from a two-axis buffer holding `x`. -/
theorem readAt2 {a b p q : ℕ} {e : EltTy} (M : Memref sig .tc .vmem ⟨2, ![a, b]⟩ e) (h : M.IsWhole) (x : Vec F ⟨2, ![a, b]⟩ e)
    {o o' : ℕ} (inb : ∀ d, (![o, o'] : Fin 2 → ℕ) d + (![p, q] : Fin 2 → ℕ) d ≤ (⟨2, ![a, b]⟩ : Shape).size d)
    (r : Fin p) (t : Fin q) (hr : o + r.val < a) (ht : o' + t.val < b) :
    M.view.readAt (Elt F) (Rect.unit (s := ⟨2, ![a, b]⟩) ![o, o'] ![p, q] inb).toLoadRect (h.unread x) (ix2 r t)
      = x (ix2 ⟨o + r.val, hr⟩ ⟨o' + t.val, ht⟩) := by
  refine (congrArg (M.view.read (Elt F) (h.unread x)) (funext fun d => Fin.ext ?_)).trans (congrFun (h.read_unread x) _)
  fin_cases d
  · show o + 1 * r.val = o + r.val; omega
  · show o' + 1 * t.val = o' + t.val; omega

/-- A load's entry, from a scratch buffer. -/
theorem readAt3 {n : ℕ} (M : Memref sig .tc .vmem S4x512x128 .f32) (f : BufTy.Contents (Elt F) M.view.ty) {g o : ℕ}
    (inb : ∀ d, (![g, o, 0] : Fin 3 → ℕ) d + (![1, n, 128] : Fin 3 → ℕ) d ≤ S4x512x128.size d) (hg : g < 4)
    (r : Fin n) (x : Fin 128) (hr : o + r.val < 512) :
    M.view.readAt (Elt F) (Rect.unit (s := S4x512x128) ![g, o, 0] ![1, n, 128] inb).toLoadRect f (ix3 0 r x)
      = M.view.read (Elt F) f (ix3 ⟨g, hg⟩ ⟨o + r.val, hr⟩ x) := by
  refine congrArg (M.view.read (Elt F) f) (funext fun d => Fin.ext ?_)
  fin_cases d
  · show g + 1 * 0 = g; omega
  · show o + 1 * r.val = o + r.val; omega
  · show 0 + 1 * x.val = x.val; omega

section Stores

variable {n : ℕ} (M : Memref sig .tc .vmem S4x512x128 .f32) (f : BufTy.Contents (Elt F) M.view.ty) {g o : ℕ}
    (inb : ∀ d, (![g, o, 0] : Fin 3 → ℕ) d + (![1, n, 128] : Fin 3 → ℕ) d ≤ S4x512x128.size d)
    (w : FVec F ⟨3, ![1, n, 128]⟩ .f32) (L : List (View.Piece (Elt F) S4x512x128 .f32))

/-- An entry of the newest store's rows reads its payload. -/
theorem read_store (hg : g < 4) (r : Fin n) (x : Fin 128) (hr : o + r.val < 512) :
    M.view.read (Elt F) (M.view.writes (Elt F) f (⟨Rect.unit (s := S4x512x128) ![g, o, 0] ![1, n, 128] inb, w⟩ :: L))
        (ix3 ⟨g, hg⟩ ⟨o + r.val, hr⟩ x) = w (ix3 0 r x) := by
  refine View.read_writes_cons_unit_of_mem M.view f inb w L _ (ix3 0 r x) rfl fun d => ?_
  fin_cases d
  · show g = g + 0; omega
  · rfl
  · show x.val = 0 + x.val; omega

/-- An entry of another head reads what was there. -/
theorem read_store_head (g' : Fin 4) (hne : g'.val ≠ g) (r : Fin 512) (x : Fin 128) :
    M.view.read (Elt F) (M.view.writes (Elt F) f (⟨Rect.unit (s := S4x512x128) ![g, o, 0] ![1, n, 128] inb, w⟩ :: L)) (ix3 g' r x)
      = M.view.read (Elt F) (M.view.writes (Elt F) f L) (ix3 g' r x) := by
  refine View.read_writes_cons_unit_of_not_mem M.view f inb w L _ rfl 0 ?_
  show g'.val < g ∨ g + 1 ≤ g'.val
  omega

/-- An entry of other rows reads what was there. -/
theorem read_store_row (g' : Fin 4) (r : Fin 512) (hr : r.val < o ∨ o + n ≤ r.val) (x : Fin 128) :
    M.view.read (Elt F) (M.view.writes (Elt F) f (⟨Rect.unit (s := S4x512x128) ![g, o, 0] ![1, n, 128] inb, w⟩ :: L)) (ix3 g' r x)
      = M.view.read (Elt F) (M.view.writes (Elt F) f L) (ix3 g' r x) :=
  View.read_writes_cons_unit_of_not_mem M.view f inb w L _ rfl 1 hr

end Stores

/-- Where a read of head `g`'s rows misses a store of another head's, it reads what was there. -/
theorem readCov_push (M : Memref sig .tc .vmem S4x512x128 .f32) {o : ℕ} (ho : o ≤ 256)
    (w : ∀ g : ℕ, g < 4 → Vec F S1x256x128 .f32 → FVec F S1x256x128 .f32) {g g' : ℕ} (hg : g < 4) (hg' : g' < 4) (hne : g ≠ g')
    (src L : List (View.Piece (Elt F) S4x512x128 .f32)) :
    M.view.readCov (push M ho w g' hg' src L) (Rect.unit (s := S4x512x128) ![g, o, 0] S1x256x128.size (inbSh ho hg)).toLoadRect
      = M.view.readCov L (Rect.unit (s := S4x512x128) ![g, o, 0] S1x256x128.size (inbSh ho hg)).toLoadRect := by
  funext j
  rw [show j = ix3 (0 : Fin 1) (j 1) (j 2) from (eq_ix3 j).trans (by congr 1; exact Subsingleton.elim _ _)]
  have hj : (j 1).val < 256 := (j 1).isLt
  refine (readAt3 (n := 256) M _ (inbSh ho hg) hg (j 1) (j 2) (by omega)).trans ?_
  refine (read_store_head (n := 256) M _ (inbSh ho hg') _ L ⟨g, hg⟩ hne _ _).trans ?_
  exact (readAt3 (n := 256) M _ (inbSh ho hg) hg (j 1) (j 2) (by omega)).symm

variable (M : Memref sig .tc .vmem S4x512x128 .f32) (f : BufTy.Contents (Elt F) M.view.ty) {o : ℕ} (ho : o ≤ 256)
    (w : ∀ g : ℕ, g < 4 → Vec F S1x256x128 .f32 → FVec F S1x256x128 .f32) (L : List (View.Piece (Elt F) S4x512x128 .f32))

/-- The stores made together: an entry of the rows reads its head's payload. -/
theorem read_together {g : ℕ} (hg : g < 4) (r : Fin 256) (x : Fin 128) :
    M.view.read (Elt F) (M.view.writes (Elt F) f (together M ho w L)) (ix3 ⟨g, hg⟩ ⟨o + r.val, by omega⟩ x)
      = w g hg (M.view.readCov L (Rect.unit (s := S4x512x128) ![g, o, 0] S1x256x128.size (inbSh ho hg)).toLoadRect) (ix3 0 r x) := by
  have hs : ∀ (g' : ℕ) (hg' : g' < 4) (src L : List (View.Piece (Elt F) S4x512x128 .f32)), g' ≠ g → _ :=
    fun g' hg' src L h => read_store_head (n := 256) M f (inbSh ho hg')
      (w g' hg' (M.view.readCov src (Rect.unit (s := S4x512x128) ![g', o, 0] S1x256x128.size (inbSh ho hg')).toLoadRect))
      L ⟨g, hg⟩ h.symm ⟨o + r.val, by omega⟩ x
  have hd : ∀ src L : List (View.Piece (Elt F) S4x512x128 .f32), _ := fun src L => read_store (n := 256) M f (inbSh ho hg)
      (w g hg (M.view.readCov src (Rect.unit (s := S4x512x128) ![g, o, 0] S1x256x128.size (inbSh ho hg)).toLoadRect)) L hg r x (by omega)
  interval_cases g
  · exact (hs 3 (by omega) _ _ (by omega)).trans ((hs 2 (by omega) _ _ (by omega)).trans ((hs 1 (by omega) _ _ (by omega)).trans (hd _ _)))
  · exact (hs 3 (by omega) _ _ (by omega)).trans ((hs 2 (by omega) _ _ (by omega)).trans (hd _ _))
  · exact (hs 3 (by omega) _ _ (by omega)).trans (hd _ _)
  · exact hd _ _

/-- The stores made in turn leave the same, each head's read missing the others' stores. -/
theorem read_inTurn {g : ℕ} (hg : g < 4) (r : Fin 256) (x : Fin 128) :
    M.view.read (Elt F) (M.view.writes (Elt F) f (inTurn M ho w L)) (ix3 ⟨g, hg⟩ ⟨o + r.val, by omega⟩ x)
      = w g hg (M.view.readCov L (Rect.unit (s := S4x512x128) ![g, o, 0] S1x256x128.size (inbSh ho hg)).toLoadRect) (ix3 0 r x) := by
  have hs : ∀ (g' : ℕ) (hg' : g' < 4) (src L : List (View.Piece (Elt F) S4x512x128 .f32)), g' ≠ g → _ :=
    fun g' hg' src L h => read_store_head (n := 256) M f (inbSh ho hg')
      (w g' hg' (M.view.readCov src (Rect.unit (s := S4x512x128) ![g', o, 0] S1x256x128.size (inbSh ho hg')).toLoadRect))
      L ⟨g, hg⟩ h.symm ⟨o + r.val, by omega⟩ x
  have hd : ∀ src L : List (View.Piece (Elt F) S4x512x128 .f32), _ := fun src L => read_store (n := 256) M f (inbSh ho hg)
      (w g hg (M.view.readCov src (Rect.unit (s := S4x512x128) ![g, o, 0] S1x256x128.size (inbSh ho hg)).toLoadRect)) L hg r x (by omega)
  have hc : ∀ (g' : ℕ) (hg' : g' < 4) (src L : List (View.Piece (Elt F) S4x512x128 .f32)), g ≠ g' → _ :=
    fun g' hg' src L h => readCov_push M ho w hg hg' h src L
  interval_cases g
  · exact (hs 3 (by omega) _ _ (by omega)).trans ((hs 2 (by omega) _ _ (by omega)).trans ((hs 1 (by omega) _ _ (by omega)).trans (hd _ _)))
  · refine (hs 3 (by omega) _ _ (by omega)).trans ((hs 2 (by omega) _ _ (by omega)).trans ((hd _ _).trans ?_))
    rw [hc 0 (by omega) _ _ (by omega)]
  · refine (hs 3 (by omega) _ _ (by omega)).trans ((hd _ _).trans ?_)
    rw [hc 1 (by omega) _ _ (by omega), hc 0 (by omega) _ _ (by omega)]
  · refine (hd _ _).trans ?_
    rw [hc 2 (by omega) _ _ (by omega), hc 1 (by omega) _ _ (by omega), hc 0 (by omega) _ _ (by omega)]

/-- Other rows read what was there. -/
theorem read_together_row {g : Fin 4} (r : Fin 512) (hr : r.val < o ∨ o + 256 ≤ r.val) (x : Fin 128) :
    M.view.read (Elt F) (M.view.writes (Elt F) f (together M ho w L)) (ix3 g r x)
      = M.view.read (Elt F) (M.view.writes (Elt F) f L) (ix3 g r x) :=
  (read_store_row (n := 256) M f _ _ _ g r hr x).trans ((read_store_row (n := 256) M f _ _ _ g r hr x).trans
    ((read_store_row (n := 256) M f _ _ _ g r hr x).trans (read_store_row (n := 256) M f _ _ _ g r hr x)))

/-- Other rows read what was there. -/
theorem read_inTurn_row {g : Fin 4} (r : Fin 512) (hr : r.val < o ∨ o + 256 ≤ r.val) (x : Fin 128) :
    M.view.read (Elt F) (M.view.writes (Elt F) f (inTurn M ho w L)) (ix3 g r x)
      = M.view.read (Elt F) (M.view.writes (Elt F) f L) (ix3 g r x) :=
  (read_store_row (n := 256) M f _ _ _ g r hr x).trans ((read_store_row (n := 256) M f _ _ _ g r hr x).trans
    ((read_store_row (n := 256) M f _ _ _ g r hr x).trans (read_store_row (n := 256) M f _ _ _ g r hr x)))

/-- After a store of everything, every entry reads its payload. -/
theorem read_fill (x : FVec F S4x512x128 .f32) (j : S4x512x128.Idx) :
    M.view.read (Elt F) (M.view.writes (Elt F) f (fill x)) j = x j := by
  refine View.read_writes_cons_unit_of_mem M.view f inbF x [] j j rfl fun d => ?_
  fin_cases d <;> exact (Nat.zero_add _).symm

/-- The stores of a trip: an entry reads its head's payload. -/
theorem read_fourHeads (u : ∀ g : ℕ, g < 4 → FVec F S1x512x128 .f32) {g : ℕ} (hg : g < 4) (r : Fin 512) (x : Fin 128) :
    M.view.read (Elt F) (M.view.writes (Elt F) f (fourHeads u ++ L)) (ix3 ⟨g, hg⟩ r x) = u g hg (ix3 0 r x) := by
  have hs : ∀ (g' : ℕ) (hg' : g' < 4) (L : List (View.Piece (Elt F) S4x512x128 .f32)), g' ≠ g → _ :=
    fun g' hg' L h => read_store_head (n := 512) M f (inbS hg') (u g' hg') L ⟨g, hg⟩ h.symm r x
  have hd : ∀ L : List (View.Piece (Elt F) S4x512x128 .f32),
      M.view.read (Elt F) (M.view.writes (Elt F) f (⟨Rect.unit (s := S4x512x128) ![g, 0, 0] S1x512x128.size (inbS hg), u g hg⟩ :: L))
        (ix3 ⟨g, hg⟩ r x) = u g hg (ix3 0 r x) := fun L => by
    have := read_store (n := 512) M f (inbS hg) (u g hg) L hg r x (by omega)
    rwa [show (⟨0 + r.val, by omega⟩ : Fin 512) = r from Fin.ext (Nat.zero_add _)] at this
  interval_cases g
  · exact (hs 3 (by omega) _ (by omega)).trans ((hs 2 (by omega) _ (by omega)).trans ((hs 1 (by omega) _ (by omega)).trans (hd _)))
  · exact (hs 3 (by omega) _ (by omega)).trans ((hs 2 (by omega) _ (by omega)).trans (hd _))
  · exact (hs 3 (by omega) _ (by omega)).trans (hd _)
  · exact hd _

end Cert.KernelIdeal.Reads

end
-- ==== Proof.State.lean ====
/-
  What the scratch buffers hold: for every head, row and lane, the running softmax's state after the diagonal tile and
  after each past tile.
-/
module

public import proofs.«01_k».proof.Proof.Reads

@[expose] public section

noncomputable section

namespace Cert.KernelIdeal.State

open Cert.KernelIdeal Cert.KernelIdeal.Gen Cert.KernelIdeal.Steps Cert.KernelIdeal.Trip Cert.KernelIdeal.Diag Cert.KernelIdeal.Reads
  Cert.Online Idealize.ShloMosaic Idealize.ShloMosaic.TcCoe Idealize.SL.Sem

/-! ## One tile's update keeps the state -/

section Update

variable {s w : Fin 4096 → EReal} (hs : ∀ j, s j ≠ ⊤) {J : Finset (Fin 4096)}

include hs

/-- The first half of the diagonal tile. -/
theorem holdsA (sc : FVec Ideal S256x256 .f32) (v : Vec Ideal S256x128 .bf16) (mp lp ap : Vec Ideal S1x256x128 .f32) (r : Fin 256) (x : Fin 128)
    (hμ : ∀ x, mp (ix3 0 r x) = J.sup s) (h : Holds s w J (mp (ix3 0 r x)) (lp (ix3 0 r x)) (ap (ix3 0 r x)))
    (e : Fin 256 ↪ Fin 4096) (hd : Disjoint J (Finset.univ.map e)) (ht : ∀ k, sc (ix2 r k) = s (e k)) (hv : ∀ k, v (ix2 k x) = w (e k)) :
    Holds s w (J ∪ Finset.univ.map e) (mA sc mp (ix3 0 r x)) (lA sc mp lp (ix3 0 r x)) (aA sc v mp ap (ix3 0 r x)) := by
  rw [mA_apply sc mp r x hμ, lA_apply sc mp lp r x hμ, aA_apply sc v mp ap r x hμ]
  rw [hμ] at h
  exact h.update hs e hd ht hv rfl

/-- The second half of the diagonal tile. -/
theorem holdsB (sc : FVec Ideal S256x512 .f32) (v : Vec Ideal S512x128 .bf16) (mp lp ap : Vec Ideal S1x256x128 .f32) (r : Fin 256) (x : Fin 128)
    (hμ : ∀ x, mp (ix3 0 r x) = J.sup s) (h : Holds s w J (mp (ix3 0 r x)) (lp (ix3 0 r x)) (ap (ix3 0 r x)))
    (e : Fin 512 ↪ Fin 4096) (hd : Disjoint J (Finset.univ.map e)) (ht : ∀ k, sc (ix2 r k) = s (e k)) (hv : ∀ k, v (ix2 k x) = w (e k)) :
    Holds s w (J ∪ Finset.univ.map e) (mB sc mp (ix3 0 r x)) (lB sc mp lp (ix3 0 r x)) (aB sc v mp ap (ix3 0 r x)) := by
  rw [mB_apply sc mp r x hμ, lB_apply sc mp lp r x hμ, aB_apply sc v mp ap r x hμ]
  rw [hμ] at h
  exact h.update hs e hd ht hv rfl

/-- A past tile. -/
theorem holdsC (sc : FVec Ideal S512x512 .f32) (v : Vec Ideal S512x128 .bf16) (mp lp ap : Vec Ideal S1x512x128 .f32) (r : Fin 512) (x : Fin 128)
    (hμ : ∀ x, mp (ix3 0 r x) = J.sup s) (h : Holds s w J (mp (ix3 0 r x)) (lp (ix3 0 r x)) (ap (ix3 0 r x)))
    (e : Fin 512 ↪ Fin 4096) (hd : Disjoint J (Finset.univ.map e)) (ht : ∀ k, sc (ix2 r k) = s (e k)) (hv : ∀ k, v (ix2 k x) = w (e k)) :
    Holds s w (J ∪ Finset.univ.map e) (mC sc mp (ix3 0 r x)) (lC sc mp lp (ix3 0 r x)) (aC sc v mp ap (ix3 0 r x)) := by
  rw [mC_apply sc mp r x hμ, lC_apply sc mp lp r x hμ, aC_apply sc v mp ap r x hμ]
  rw [hμ] at h
  exact h.update hs e hd ht hv rfl

end Update

/-! ## The scores -/

/-- Column `t` of head `g` in a four-head block. -/
abbrev col {g : ℕ} (hg : g < 4) (t : Fin 128) : Fin 512 := ⟨128 * g + t.val, by omega⟩

/-- The masked score of the block's row `r` and the key `j`, head `g`, for row block `b`. -/
def score (b : ℕ) (x0 x1 : Vec Ideal S512x512 .bf16) (x2 : Vec Ideal S4096x512 .bf16) (x3 : Vec Ideal S4096x128 .bf16) {g : ℕ} (hg : g < 4)
    (r : Fin 512) (j : Fin 4096) : EReal :=
  if j.val ≤ 512 * b + r.val then
    (∑ d : Fin 128, x0 (ix2 r (col hg d)) * x2 (ix2 j (col hg d))) + ∑ d : Fin 128, x1 (ix2 r (col hg d)) * x3 (ix2 j d)
  else ⊥

/-- The keys of tile `k`, the first `n` of them. -/
def keys (k n : ℕ) (hk : 512 * k + n ≤ 4096) : Fin n ↪ Fin 4096 :=
  ⟨fun c => ⟨512 * k + c.val, by omega⟩, fun a b h => Fin.ext (by have := congrArg Fin.val h; simp only at this; omega)⟩

theorem mem_keys {k n : ℕ} (hk : 512 * k + n ≤ 4096) (j : Fin 4096) :
    j ∈ Finset.univ.map (keys k n hk) ↔ 512 * k ≤ j.val ∧ j.val < 512 * k + n := by
  rw [Finset.mem_map]
  constructor
  · rintro ⟨c, -, rfl⟩
    exact ⟨Nat.le_add_right _ _, Nat.add_lt_add_left c.isLt _⟩
  · rintro ⟨h1, h2⟩
    exact ⟨⟨j.val - 512 * k, by omega⟩, Finset.mem_univ _, Fin.ext (by show 512 * k + (j.val - 512 * k) = j.val; omega)⟩

/-- The keys met after the diagonal tile `b` and the first `k` tiles. -/
def met (b k : ℕ) : Finset (Fin 4096) :=
  Finset.univ.filter fun j => (512 * b ≤ j.val ∧ j.val < 512 * b + 512) ∨ j.val < 512 * k

theorem mem_met {b k : ℕ} (j : Fin 4096) : j ∈ met b k ↔ (512 * b ≤ j.val ∧ j.val < 512 * b + 512) ∨ j.val < 512 * k := by
  simp [met]

/-- What the three scratch buffers' readings hold after the keys `J`. -/
def Inv (b : ℕ) (x0 x1 : Vec Ideal S512x512 .bf16) (x2 : Vec Ideal S4096x512 .bf16) (x3 : Vec Ideal S4096x128 .bf16) (x4 : Vec Ideal S4096x512 .bf16)
    (J : Finset (Fin 4096)) (R9 R10 R11 : S4x512x128.Idx → EReal) : Prop :=
  ∀ (g : ℕ) (hg : g < 4) (r : Fin 512) (x : Fin 128),
    Holds (score b x0 x1 x2 x3 hg r) (fun j => x4 (ix2 j (col hg x))) J
      (R9 (ix3 ⟨g, hg⟩ r x)) (R10 (ix3 ⟨g, hg⟩ r x)) (R11 (ix3 ⟨g, hg⟩ r x))

/-- A covered load's entry is the contents' entry. -/
theorem readCov3 (M : Memref sig .tc .vmem S4x512x128 .f32) (L : List (View.Piece (Elt Ideal) S4x512x128 .f32)) {g o : ℕ} (ho : o ≤ 256)
    (hg : g < 4) (r : Fin 256) (x : Fin 128) :
    M.view.readCov L (Rect.unit (s := S4x512x128) ![g, o, 0] S1x256x128.size (inbSh ho hg)).toLoadRect (ix3 0 r x)
      = M.view.read (Elt Ideal) (M.view.writes (Elt Ideal) M.view.junk L) (ix3 ⟨g, hg⟩ ⟨o + r.val, by omega⟩ x) :=
  readAt3 (n := 256) M _ (inbSh ho hg) hg r x (by omega)

section Tiles

variable (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x128 .bf16) (harg6 : arg6.IsWhole) (arg7 : Memref sig .tc .vmem S4096x512 .bf16) (harg7 : arg7.IsWhole) (arg9 arg10 arg11 : Memref sig .tc .vmem S4x512x128 .f32)
    (x0 x1 : Vec Ideal S512x512 .bf16) (x2 : Vec Ideal S4096x512 .bf16) (x3 : Vec Ideal S4096x128 .bf16) (x4 : Vec Ideal S4096x512 .bf16)

/-- A past tile's scores are the masked scores: no key of it is past the query. -/
theorem tripS_apply {b k n : ℕ} (hn : n ≤ 3584) (hnk : n = 512 * k) (hk : 512 * k + 512 ≤ 4096) (hkb : k < b) {g : ℕ} (hg : g < 4) (r c : Fin 512) :
    tripS arg3 arg4 arg5 arg6 (harg3.unread x0) (harg4.unread x1) (harg5.unread x2) (harg6.unread x3) hn hg (ix2 r c)
      = score b x0 x1 x2 x3 hg r (keys k 512 hk c) := by
  subst hnk
  have hle : (keys k 512 hk c).val ≤ 512 * b + r.val := by show 512 * k + c.val ≤ _; omega
  have hr : (⟨0 + r.val, by omega⟩ : Fin 512) = r := Fin.ext (Nat.zero_add _)
  unfold tripS
  rw [sC_apply, score, if_pos hle]
  congr 1
  · refine Finset.sum_congr rfl fun d _ => ?_
    rw [readAt2 (p := 512) (q := 128) arg3 harg3 x0 _ r d (by omega) (by omega), readAt2 (p := 512) (q := 128) arg5 harg5 x2 _ c d (by omega) (by omega), hr]
    rfl
  · refine Finset.sum_congr rfl fun d _ => ?_
    rw [readAt2 (p := 512) (q := 128) arg4 harg4 x1 _ r d (by omega) (by omega), readAt2 (p := 512) (q := 128) arg6 harg6 x3 _ c d (by omega) (by omega), hr]
    exact congrArg₂ (· * ·) rfl (congrArg x3 (congrArg (ix2 _) (Fin.ext (Nat.zero_add _))))

/-- A tile's values. -/
theorem tripV_apply {k n : ℕ} (hn : n ≤ 3584) (hnk : n = 512 * k) (hk : 512 * k + 512 ≤ 4096) {g : ℕ} (hg : g < 4) (c : Fin 512) (x : Fin 128) :
    tripV arg7 (harg7.unread x4) hn hg (ix2 c x) = x4 (ix2 (keys k 512 hk c) (col hg x)) := by
  subst hnk
  exact readAt2 (p := 512) (q := 128) arg7 harg7 x4 _ c x (by omega) (by omega)

/-- The diagonal tile's scores, first half. -/
theorem scoreA_apply {b n : ℕ} (hn : n ≤ 3584) (hnb : n = 512 * b) (hb : 512 * b + 256 ≤ 4096) {g : ℕ} (hg : g < 4) (r c : Fin 256) :
    scoreA arg3 arg4 arg5 arg6 (harg3.unread x0) (harg4.unread x1) (harg5.unread x2) (harg6.unread x3) hn hg (ix2 r c)
      = score b x0 x1 x2 x3 hg ⟨0 + r.val, by omega⟩ (keys b 256 hb c) := by
  subst hnb
  have hle : (keys b 256 hb c).val ≤ 512 * b + (0 + r.val) ↔ c.val ≤ r.val + 0 := by
    show 512 * b + c.val ≤ _ ↔ _; omega
  unfold scoreA
  rw [sA_apply, score]
  simp only [hle]
  refine if_congr Iff.rfl (congrArg₂ (· + ·) (Finset.sum_congr rfl fun d _ => ?_) (Finset.sum_congr rfl fun d _ => ?_)) rfl
  · rw [readAt2 (p := 256) (q := 128) arg3 harg3 x0 _ r d (by omega) (by omega), readAt2 (p := 256) (q := 128) arg5 harg5 x2 _ c d (by omega) (by omega)]
    rfl
  · rw [readAt2 (p := 256) (q := 128) arg4 harg4 x1 _ r d (by omega) (by omega), readAt2 (p := 256) (q := 128) arg6 harg6 x3 _ c d (by omega) (by omega)]
    exact congrArg₂ (· * ·) rfl (congrArg x3 (congrArg (ix2 _) (Fin.ext (Nat.zero_add _))))

/-- Its values there. -/
theorem valueA_apply {b n : ℕ} (hn : n ≤ 3584) (hnb : n = 512 * b) (hb : 512 * b + 256 ≤ 4096) {g : ℕ} (hg : g < 4) (c : Fin 256) (x : Fin 128) :
    valueA arg7 (harg7.unread x4) hn hg (ix2 c x) = x4 (ix2 (keys b 256 hb c) (col hg x)) := by
  subst hnb
  exact readAt2 (p := 256) (q := 128) arg7 harg7 x4 _ c x (by omega) (by omega)

/-- The diagonal tile's scores, second half. -/
theorem scoreB_apply {b n : ℕ} (hn : n ≤ 3584) (hnb : n = 512 * b) (hb : 512 * b + 512 ≤ 4096) {g : ℕ} (hg : g < 4) (r : Fin 256) (c : Fin 512) :
    scoreB arg3 arg4 arg5 arg6 (harg3.unread x0) (harg4.unread x1) (harg5.unread x2) (harg6.unread x3) hn hg (ix2 r c)
      = score b x0 x1 x2 x3 hg ⟨256 + r.val, by omega⟩ (keys b 512 hb c) := by
  subst hnb
  have hle : (keys b 512 hb c).val ≤ 512 * b + (256 + r.val) ↔ c.val ≤ r.val + 256 := by
    show 512 * b + c.val ≤ _ ↔ _; omega
  unfold scoreB
  rw [sB_apply, score]
  simp only [hle]
  refine if_congr Iff.rfl (congrArg₂ (· + ·) (Finset.sum_congr rfl fun d _ => ?_) (Finset.sum_congr rfl fun d _ => ?_)) rfl
  · rw [readAt2 (p := 256) (q := 128) arg3 harg3 x0 _ r d (by omega) (by omega), readAt2 (p := 512) (q := 128) arg5 harg5 x2 _ c d (by omega) (by omega)]
    rfl
  · rw [readAt2 (p := 256) (q := 128) arg4 harg4 x1 _ r d (by omega) (by omega), readAt2 (p := 512) (q := 128) arg6 harg6 x3 _ c d (by omega) (by omega)]
    exact congrArg₂ (· * ·) rfl (congrArg x3 (congrArg (ix2 _) (Fin.ext (Nat.zero_add _))))

/-! ## After the diagonal tile -/

variable (i : grid0.Coords) (hn : diagRow (i 2).val ≤ 3584) (f9 : BufTy.Contents (Elt Ideal) arg9.view.ty)
  (f10 : BufTy.Contents (Elt Ideal) arg10.view.ty) (f11 : BufTy.Contents (Elt Ideal) arg11.view.ty)

/-- The diagonal tile's row block. -/
abbrev blk : ℕ := (i 2).val

theorem blk_lt : blk i < 8 := (i 2).isLt

variable (hs : ∀ (g : ℕ) (hg : g < 4) (r : Fin 512) (j : Fin 4096), score (blk i) x0 x1 x2 x3 hg r j ≠ ⊤)

theorem fill_max (j : S4x512x128.Idx) : (k0_pay76 : FVec Ideal S4x512x128 .f32) j = ⊥ := rfl

theorem fill_sum (j : S4x512x128.Idx) : (k0_pay77 : FVec Ideal S4x512x128 .f32) j = (0 : EReal) := by
  show Ideal.ofBits .f32 0x00000000#32 = 0
  simp [Ideal.ofBits, Ideal.ieee]

theorem fill_acc (j : S4x512x128.Idx) : (k0_pay78 : FVec Ideal S4x512x128 .f32) j = (0 : EReal) := by
  show Ideal.ofBits .f32 0x00000000#32 = 0
  simp [Ideal.ofBits, Ideal.ieee]

include hs

/-- The first half's rows after it: the keys of the tile's first half. -/
theorem afterA {g : ℕ} (hg : g < 4) (r : Fin 256) (x : Fin 128) (hb : 512 * blk i + 256 ≤ 4096) :
    Holds (score (blk i) x0 x1 x2 x3 hg ⟨0 + r.val, by omega⟩) (fun j => x4 (ix2 j (col hg x))) (Finset.univ.map (keys (blk i) 256 hb))
      (arg9.view.read (Elt Ideal) (arg9.view.writes (Elt Ideal) f9 (maxA i arg3 harg3 arg4 harg4 arg5 harg5 arg6 harg6 arg9 x0 x1 x2 x3 hn)) (ix3 ⟨g, hg⟩ ⟨0 + r.val, by omega⟩ x))
      (arg10.view.read (Elt Ideal) (arg10.view.writes (Elt Ideal) f10 (sumA i arg3 harg3 arg4 harg4 arg5 harg5 arg6 harg6 arg9 arg10 x0 x1 x2 x3 hn)) (ix3 ⟨g, hg⟩ ⟨0 + r.val, by omega⟩ x))
      (arg11.view.read (Elt Ideal) (arg11.view.writes (Elt Ideal) f11 (accA i arg3 harg3 arg4 harg4 arg5 harg5 arg6 harg6 arg7 harg7 arg9 arg11 x0 x1 x2 x3 x4 hn)) (ix3 ⟨g, hg⟩ ⟨0 + r.val, by omega⟩ x)) := by
  have hnb := diagRow_eq (blk_lt i)
  unfold maxA sumA accA
  rw [read_together (o := 0) arg9 f9 (by omega) _ _ hg r x, read_inTurn (o := 0) arg10 f10 (by omega) _ _ hg r x,
    read_inTurn (o := 0) arg11 f11 (by omega) _ _ hg r x]
  have hm : ∀ x, arg9.view.readCov (Val := Elt Ideal) (fill k0_pay76) (Rect.unit (s := S4x512x128) ![g, 0, 0] S1x256x128.size (inbSh (by omega) hg)).toLoadRect (ix3 0 r x) = ⊥ :=
    fun x => (readCov3 (o := 0) arg9 _ (by omega) hg r x).trans (read_fill arg9 _ _ _)
  have hl := (readCov3 (o := 0) arg10 (fill k0_pay77) (by omega) hg r x).trans ((read_fill arg10 _ _ _).trans (fill_sum _))
  have ha := (readCov3 (o := 0) arg11 (fill k0_pay78) (by omega) hg r x).trans ((read_fill arg11 _ _ _).trans (fill_acc _))
  have := holdsA (J := ∅) (w := fun j => x4 (ix2 j (col hg x))) (hs g hg ⟨0 + r.val, by omega⟩) _ (valueA arg7 (harg7.unread x4) hn hg) _ _ _ r x hm
    (holds_start (hm x) hl ha) (keys (blk i) 256 hb) (by simp)
    (fun k => scoreA_apply arg3 harg3 arg4 harg4 arg5 harg5 arg6 harg6 x0 x1 x2 x3 hn hnb hb hg r k)
    (fun k => valueA_apply arg7 harg7 x4 hn hnb hb hg k x)
  rw [Finset.empty_union] at this
  exact this

/-- The second half's rows after the diagonal tile: the whole tile's keys. -/
theorem afterB {g : ℕ} (hg : g < 4) (r : Fin 256) (x : Fin 128) (hb : 512 * blk i + 512 ≤ 4096) :
    Holds (score (blk i) x0 x1 x2 x3 hg ⟨256 + r.val, by omega⟩) (fun j => x4 (ix2 j (col hg x))) (Finset.univ.map (keys (blk i) 512 hb))
      (arg9.view.read (Elt Ideal) (arg9.view.writes (Elt Ideal) f9 (maxB i arg3 harg3 arg4 harg4 arg5 harg5 arg6 harg6 arg9 x0 x1 x2 x3 hn)) (ix3 ⟨g, hg⟩ ⟨256 + r.val, by omega⟩ x))
      (arg10.view.read (Elt Ideal) (arg10.view.writes (Elt Ideal) f10 (sumB i arg3 harg3 arg4 harg4 arg5 harg5 arg6 harg6 arg9 arg10 x0 x1 x2 x3 hn)) (ix3 ⟨g, hg⟩ ⟨256 + r.val, by omega⟩ x))
      (arg11.view.read (Elt Ideal) (arg11.view.writes (Elt Ideal) f11 (accB i arg3 harg3 arg4 harg4 arg5 harg5 arg6 harg6 arg7 harg7 arg9 arg11 x0 x1 x2 x3 x4 hn)) (ix3 ⟨g, hg⟩ ⟨256 + r.val, by omega⟩ x)) := by
  have hnb := diagRow_eq (blk_lt i)
  unfold maxB sumB accB
  rw [read_together (o := 256) arg9 f9 (by omega) _ _ hg r x, read_inTurn (o := 256) arg10 f10 (by omega) _ _ hg r x,
    read_inTurn (o := 256) arg11 f11 (by omega) _ _ hg r x]
  have hm : ∀ x, arg9.view.readCov (maxA i arg3 harg3 arg4 harg4 arg5 harg5 arg6 harg6 arg9 x0 x1 x2 x3 hn) (Rect.unit (s := S4x512x128) ![g, 256, 0] S1x256x128.size (inbSh (by omega) hg)).toLoadRect (ix3 0 r x) = ⊥ :=
    fun x => (readCov3 (o := 256) arg9 _ (by omega) hg r x).trans
      ((read_together_row (o := 0) arg9 _ (by omega) _ _ _ (Or.inr (Nat.le_add_right 256 r.val)) x).trans (read_fill arg9 _ _ _))
  have hl := (readCov3 (o := 256) arg10 (sumA i arg3 harg3 arg4 harg4 arg5 harg5 arg6 harg6 arg9 arg10 x0 x1 x2 x3 hn) (by omega) hg r x).trans
      ((read_inTurn_row (o := 0) arg10 _ (by omega) _ _ _ (Or.inr (Nat.le_add_right 256 r.val)) x).trans ((read_fill arg10 _ _ _).trans (fill_sum _)))
  have ha := (readCov3 (o := 256) arg11 (accA i arg3 harg3 arg4 harg4 arg5 harg5 arg6 harg6 arg7 harg7 arg9 arg11 x0 x1 x2 x3 x4 hn) (by omega) hg r x).trans
      ((read_inTurn_row (o := 0) arg11 _ (by omega) _ _ _ (Or.inr (Nat.le_add_right 256 r.val)) x).trans ((read_fill arg11 _ _ _).trans (fill_acc _)))
  have := holdsB (J := ∅) (w := fun j => x4 (ix2 j (col hg x))) (hs g hg ⟨256 + r.val, by omega⟩) _ (tripV arg7 (harg7.unread x4) hn hg) _ _ _ r x hm
    (holds_start (hm x) hl ha) (keys (blk i) 512 hb) (by simp)
    (fun k => scoreB_apply arg3 harg3 arg4 harg4 arg5 harg5 arg6 harg6 x0 x1 x2 x3 hn hnb hb hg r k)
    (fun k => tripV_apply arg7 harg7 x4 hn hnb hb hg k x)
  rw [Finset.empty_union] at this
  exact this

/-- AFTER THE DIAGONAL TILE every row has met its tile's keys. -/
theorem afterDiag (f9 : BufTy.Contents (Elt Ideal) arg9.view.ty)
  (f10 : BufTy.Contents (Elt Ideal) arg10.view.ty) (f11 : BufTy.Contents (Elt Ideal) arg11.view.ty) :
    Inv (blk i) x0 x1 x2 x3 x4 (met (blk i) 0)
      (arg9.view.read (Elt Ideal) (arg9.view.writes (Elt Ideal) f9 (maxB i arg3 harg3 arg4 harg4 arg5 harg5 arg6 harg6 arg9 x0 x1 x2 x3 hn)))
      (arg10.view.read (Elt Ideal) (arg10.view.writes (Elt Ideal) f10 (sumB i arg3 harg3 arg4 harg4 arg5 harg5 arg6 harg6 arg9 arg10 x0 x1 x2 x3 hn)))
      (arg11.view.read (Elt Ideal) (arg11.view.writes (Elt Ideal) f11 (accB i arg3 harg3 arg4 harg4 arg5 harg5 arg6 harg6 arg7 harg7 arg9 arg11 x0 x1 x2 x3 x4 hn))) := by
  intro g hg r x
  have hi := blk_lt i
  by_cases hr : r.val < 256
  · have hb : 512 * blk i + 256 ≤ 4096 := by omega
    have hre : r = ⟨0 + (⟨r.val, hr⟩ : Fin 256).val, by omega⟩ := Fin.ext (Nat.zero_add _).symm
    rw [(read_together_row (o := 256) arg9 f9 (by omega) _ _ r (Or.inl hr) x :
        arg9.view.read (Elt Ideal) (arg9.view.writes (Elt Ideal) f9 (maxB i arg3 harg3 arg4 harg4 arg5 harg5 arg6 harg6 arg9 x0 x1 x2 x3 hn)) (ix3 ⟨g, hg⟩ r x) = _),
      (read_inTurn_row (o := 256) arg10 f10 (by omega) _ _ r (Or.inl hr) x :
        arg10.view.read (Elt Ideal) (arg10.view.writes (Elt Ideal) f10 (sumB i arg3 harg3 arg4 harg4 arg5 harg5 arg6 harg6 arg9 arg10 x0 x1 x2 x3 hn)) (ix3 ⟨g, hg⟩ r x) = _),
      (read_inTurn_row (o := 256) arg11 f11 (by omega) _ _ r (Or.inl hr) x :
        arg11.view.read (Elt Ideal) (arg11.view.writes (Elt Ideal) f11 (accB i arg3 harg3 arg4 harg4 arg5 harg5 arg6 harg6 arg7 harg7 arg9 arg11 x0 x1 x2 x3 x4 hn)) (ix3 ⟨g, hg⟩ r x) = _)]
    have h := afterA arg3 harg3 arg4 harg4 arg5 harg5 arg6 harg6 arg7 harg7 arg9 arg10 arg11 x0 x1 x2 x3 x4 i hn f9 f10 f11 hs hg ⟨r.val, hr⟩ x hb
    rw [← hre] at h
    refine h.mono (fun j hj => ?_) (fun j hj hj' => ?_)
    · rw [mem_met]; rw [mem_keys] at hj; omega
    · rw [mem_met] at hj; rw [mem_keys] at hj'
      rw [score, if_neg (by omega)]
  · have hb : 512 * blk i + 512 ≤ 4096 := by omega
    have hre : r = ⟨256 + (⟨r.val - 256, by omega⟩ : Fin 256).val, by show 256 + (r.val - 256) < 512; omega⟩ := Fin.ext (by show r.val = 256 + (r.val - 256); omega)
    have h := afterB arg3 harg3 arg4 harg4 arg5 harg5 arg6 harg6 arg7 harg7 arg9 arg10 arg11 x0 x1 x2 x3 x4 i hn f9 f10 f11 hs hg ⟨r.val - 256, by omega⟩ x hb
    rw [← hre] at h
    refine h.mono (fun j hj => ?_) (fun j hj hj' => ?_)
    · rw [mem_met]; rw [mem_keys] at hj; omega
    · rw [mem_met] at hj; rw [mem_keys] at hj'
      omega

/-! ## After the past tiles -/

omit hs in
/-- After every past tile the row has met all its keys that are not masked. -/
theorem Inv.all {b : ℕ} {R9 R10 R11 : S4x512x128.Idx → EReal} (h : Inv b x0 x1 x2 x3 x4 (met b b) R9 R10 R11) :
    Inv b x0 x1 x2 x3 x4 Finset.univ R9 R10 R11 := by
  intro g hg r x
  refine (h g hg r x).mono (Finset.subset_univ _) (fun j _ hj => ?_)
  rw [mem_met] at hj
  rw [score, if_neg (by omega)]

/-- ONE MORE TILE. -/
theorem afterTile {k n : ℕ} (hn : n ≤ 3584) (hnk : n = 512 * k) (hkb : k < blk i)
    (h : Inv (blk i) x0 x1 x2 x3 x4 (met (blk i) k) (arg9.view.read (Elt Ideal) f9) (arg10.view.read (Elt Ideal) f10) (arg11.view.read (Elt Ideal) f11))
    (L9 L10 L11 : List (View.Piece (Elt Ideal) S4x512x128 .f32))
    (g9 : BufTy.Contents (Elt Ideal) arg9.view.ty) (g10 : BufTy.Contents (Elt Ideal) arg10.view.ty) (g11 : BufTy.Contents (Elt Ideal) arg11.view.ty) :
    Inv (blk i) x0 x1 x2 x3 x4 (met (blk i) (k + 1))
      (arg9.view.read (Elt Ideal) (arg9.view.writes (Elt Ideal) g9 ((fourHeads fun _ hg => mC (tripS arg3 arg4 arg5 arg6 (harg3.unread x0) (harg4.unread x1) (harg5.unread x2) (harg6.unread x3) hn hg) (headOf arg9 f9 hg)) ++ L9)))
      (arg10.view.read (Elt Ideal) (arg10.view.writes (Elt Ideal) g10 ((fourHeads fun _ hg => lC (tripS arg3 arg4 arg5 arg6 (harg3.unread x0) (harg4.unread x1) (harg5.unread x2) (harg6.unread x3) hn hg) (headOf arg9 f9 hg) (headOf arg10 f10 hg)) ++ L10)))
      (arg11.view.read (Elt Ideal) (arg11.view.writes (Elt Ideal) g11 ((fourHeads fun _ hg => aC (tripS arg3 arg4 arg5 arg6 (harg3.unread x0) (harg4.unread x1) (harg5.unread x2) (harg6.unread x3) hn hg) (tripV arg7 (harg7.unread x4) hn hg) (headOf arg9 f9 hg) (headOf arg11 f11 hg)) ++ L11))) := by
  intro g hg r x
  have hi := blk_lt i
  have hk : 512 * k + 512 ≤ 4096 := by omega
  rw [read_fourHeads arg9 g9 L9 _ hg r x, read_fourHeads arg10 g10 L10 _ hg r x, read_fourHeads arg11 g11 L11 _ hg r x]
  have hrd : ∀ (M : Memref sig .tc .vmem S4x512x128 .f32) (f : BufTy.Contents (Elt Ideal) M.view.ty) (x : Fin 128),
      headOf M f hg (ix3 0 r x) = M.view.read (Elt Ideal) f (ix3 ⟨g, hg⟩ r x) := fun M f x => by
    refine (readAt3 (n := 512) M f (inbS hg) hg r x (by omega)).trans ?_
    rw [show (⟨0 + r.val, by omega⟩ : Fin 512) = r from Fin.ext (Nat.zero_add _)]
  have hJ : met (blk i) (k + 1) = met (blk i) k ∪ Finset.univ.map (keys k 512 hk) := by
    ext j
    rw [Finset.mem_union, mem_met, mem_met, mem_keys]
    omega
  rw [hJ]
  refine holdsC (hs g hg r) _ _ _ _ _ r x (fun x => (hrd _ _ x).trans (h g hg r x).max) ?_ (keys k 512 hk) ?_
    (fun c => tripS_apply arg3 harg3 arg4 harg4 arg5 harg5 arg6 harg6 x0 x1 x2 x3 hn hnk hk hkb hg r c)
    (fun c => tripV_apply arg7 harg7 x4 hn hnk hk hg c x)
  · rw [hrd, hrd, hrd]; exact h g hg r x
  · rw [Finset.disjoint_left]
    intro j hj hj'
    rw [mem_met] at hj; rw [mem_keys] at hj'
    omega

end Tiles

end Cert.KernelIdeal.State

end
-- ==== Proof.Output.lean ====
/-
  One grid point's output block: after the diagonal tile and the loop over the past tiles, every entry is a row's
  accumulator over its sum, over all the keys.
-/
module

public import proofs.«01_k».proof.Proof.State

@[expose] public section

noncomputable section

namespace Cert.KernelIdeal.Output

open Cert.KernelIdeal Cert.KernelIdeal.Gen Cert.KernelIdeal.Steps Cert.KernelIdeal.Trip Cert.KernelIdeal.Diag Cert.KernelIdeal.Reads
  Cert.KernelIdeal.State Cert.Online Idealize.ShloMosaic Idealize.ShloMosaic.TcCoe Idealize.SL.Sem

/-! ## How often the loops run -/

/-- The first loop visits the tiles before the diagonal one. -/
theorem trips1 (i : grid0.Coords) : (k0_t1_loop i).trips = (i 2).val := by
  have key : ∀ n : Fin 8, Scf.trips 0#32 (Scalar.addi 0#32 (Scalar.muli (Scalar.divsi (Scalar.subi (BitVec.ofNat 32 n.val) 0#32) 1#32) 1#32)) 1#32 = n.val := by
    decide +kernel
  exact key (i 2)

/-- The second loop, which would take the rest of an unrolled first one, never runs. -/
theorem trips2 (i : grid0.Coords) : (k0_t2_loop i).trips = 0 := by
  have key : ∀ n : Fin 8, Scf.trips (Scalar.addi 0#32 (Scalar.muli (Scalar.divsi (Scalar.subi (BitVec.ofNat 32 n.val) 0#32) 1#32) 1#32))
      (Scalar.addi 0#32 (Scalar.subi (BitVec.ofNat 32 n.val) 0#32)) 1#32 = 0 := by
    decide +kernel
  exact key (i 2)

/-! ## The state after the loops -/

variable (𝒱 : Variants) (c : Dev nD) (bd : Option 𝒱.V) (i : grid0.Coords)
  (arg3 : Memref sig .tc .vmem S512x512 .bf16) (harg3 : arg3.IsWhole)
  (arg4 : Memref sig .tc .vmem S512x512 .bf16) (harg4 : arg4.IsWhole)
  (arg5 : Memref sig .tc .vmem S4096x512 .bf16) (harg5 : arg5.IsWhole)
  (arg6 : Memref sig .tc .vmem S4096x128 .bf16) (harg6 : arg6.IsWhole)
  (arg7 : Memref sig .tc .vmem S4096x512 .bf16) (harg7 : arg7.IsWhole)
  (arg8 : Memref sig .tc .vmem S512x512 .bf16) (harg8 : arg8.IsWhole)
  (arg9 : Memref sig .tc .vmem S4x512x128 .f32) (harg9 : arg9.IsWhole)
  (arg10 : Memref sig .tc .vmem S4x512x128 .f32) (harg10 : arg10.IsWhole)
  (arg11 : Memref sig .tc .vmem S4x512x128 .f32) (harg11 : arg11.IsWhole)
  (x0 : Vec Ideal S512x512 .bf16) (x1 : Vec Ideal S512x512 .bf16) (x2 : Vec Ideal S4096x512 .bf16) (x3 : Vec Ideal S4096x128 .bf16) (x4 : Vec Ideal S4096x512 .bf16)

section Loop

variable (arg2 : BitVec 32) (v289 v309 v377 v384 : FVec Ideal S256x128 .f32)
  (G9 : BufTy.Contents (Elt Ideal) arg9.view.ty) (G10 : BufTy.Contents (Elt Ideal) arg10.view.ty) (G11 : BufTy.Contents (Elt Ideal) arg11.view.ty)
  (hs : ∀ (g : ℕ) (hg : g < 4) (r : Fin 512) (j : Fin 4096), score (blk i) x0 x1 x2 x3 hg r j ≠ ⊤)

include hs

/-- AFTER `k` PAST TILES every row has met the keys of those tiles and of the diagonal one. -/
theorem afterTiles (h : Inv (blk i) x0 x1 x2 x3 x4 (met (blk i) 0) (arg9.view.read (Elt Ideal) G9) (arg10.view.read (Elt Ideal) G10) (arg11.view.read (Elt Ideal) G11)) :
    ∀ k : ℕ, k ≤ blk i → Inv (blk i) x0 x1 x2 x3 x4 (met (blk i) k)
      (arg9.view.read (Elt Ideal) (arg9.view.writes (Elt Ideal) G9 (pb_k0_t1 𝒱 c bd i arg3 harg3 arg4 harg4 arg5 harg5 arg6 harg6 arg7 harg7 arg8 harg8 arg9 harg9 arg10 harg10 arg11 harg11 arg2 v289 v309 v377 v384 (harg3.unread x0) (harg4.unread x1) (harg5.unread x2) (harg6.unread x3) (harg7.unread x4) G9 G10 G11 k).1))
      (arg10.view.read (Elt Ideal) (arg10.view.writes (Elt Ideal) G10 (pb_k0_t1 𝒱 c bd i arg3 harg3 arg4 harg4 arg5 harg5 arg6 harg6 arg7 harg7 arg8 harg8 arg9 harg9 arg10 harg10 arg11 harg11 arg2 v289 v309 v377 v384 (harg3.unread x0) (harg4.unread x1) (harg5.unread x2) (harg6.unread x3) (harg7.unread x4) G9 G10 G11 k).2.1))
      (arg11.view.read (Elt Ideal) (arg11.view.writes (Elt Ideal) G11 (pb_k0_t1 𝒱 c bd i arg3 harg3 arg4 harg4 arg5 harg5 arg6 harg6 arg7 harg7 arg8 harg8 arg9 harg9 arg10 harg10 arg11 harg11 arg2 v289 v309 v377 v384 (harg3.unread x0) (harg4.unread x1) (harg5.unread x2) (harg6.unread x3) (harg7.unread x4) G9 G10 G11 k).2.2)) := by
  intro k
  induction k with
  | zero => intro _; exact h
  | succ k ih =>
    intro hk
    have hi := blk_lt i
    have hrow := tileRow_eq (k := k) (by omega)
    have hn : tileRow k ≤ 3584 := by omega
    have ht : k < (k0_t1_loop i).trips := by rw [trips1]; exact hk
    have e := pb_k0_t1_succ 𝒱 c bd i arg3 harg3 arg4 harg4 arg5 harg5 arg6 harg6 arg7 harg7 arg8 harg8 arg9 harg9 arg10 harg10 arg11 harg11 arg2 v289 v309 v377 v384 (harg3.unread x0) (harg4.unread x1) (harg5.unread x2) (harg6.unread x3) (harg7.unread x4) G9 G10 G11 ⟨k, ht⟩
    rw [tripL_eq 𝒱 c bd i arg3 harg3 arg4 harg4 arg5 harg5 arg6 harg6 arg7 harg7 arg8 harg8 arg9 harg9 arg10 harg10 arg11 harg11 arg2 v289 v309 v377 v384 (harg3.unread x0) (harg4.unread x1) (harg5.unread x2) (harg6.unread x3) (harg7.unread x4) ⟨k, ht⟩ _ _ _ hn] at e
    dsimp only at e
    rw [e]
    exact afterTile arg3 harg3 arg4 harg4 arg5 harg5 arg6 harg6 arg7 harg7 arg9 arg10 arg11 x0 x1 x2 x3 x4 i _ _ _ hs hn hrow hk
      (ih (by omega)) _ _ _ _ _ _

end Loop

/-! ## The output block -/

/-- A head's output: its accumulator over its sum. -/
abbrev quotOf (l a : Vec Ideal S1x512x128 .f32) : FVec Ideal S512x128 .bf16 := k0_pay3 a l

theorem quotOf_apply (l a : Vec Ideal S1x512x128 .f32) (r : Fin 512) (x : Fin 128) :
    quotOf l a (ix2 r x) = Ideal.div (a (ix3 0 r x)) (l (ix3 0 r x)) := by
  pointwise [quotOf, k0_pay3]

theorem inbO {g : ℕ} (hg : g < 4) : ∀ a, (![0, 128 * g] : Fin 2 → ℕ) a + S512x128.size a ≤ S512x512.size a :=
  Fin.forall_fin_two.mpr ⟨by show 0 + 512 ≤ 512; omega, by show 128 * g + 128 ≤ 512; omega⟩

/-- The four heads' stores of the output block, newest first. -/
abbrev fourCols (w : ∀ g : ℕ, g < 4 → FVec Ideal S512x128 .bf16) : List (View.Piece (Elt Ideal) S512x512 .bf16) :=
  [⟨Rect.unit (s := S512x512) ![0, 128 * 3] S512x128.size (inbO (g := 3) (by omega)), w 3 (by omega)⟩,
   ⟨Rect.unit (s := S512x512) ![0, 128 * 2] S512x128.size (inbO (g := 2) (by omega)), w 2 (by omega)⟩,
   ⟨Rect.unit (s := S512x512) ![0, 128 * 1] S512x128.size (inbO (g := 1) (by omega)), w 1 (by omega)⟩,
   ⟨Rect.unit (s := S512x512) ![0, 128 * 0] S512x128.size (inbO (g := 0) (by omega)), w 0 (by omega)⟩]

/-- An entry of head `g`'s columns reads head `g`'s payload. -/
theorem read_fourCols (v : View sig .tc .vmem S512x512 .bf16) (f : BufTy.Contents (Elt Ideal) v.ty) (w : ∀ g : ℕ, g < 4 → FVec Ideal S512x128 .bf16)
    {g : ℕ} (hg : g < 4) (r : Fin 512) (x : Fin 128) :
    v.read (Elt Ideal) (v.writes (Elt Ideal) f (fourCols w)) (ix2 r (col hg x)) = w g hg (ix2 r x) := by
  have hs : ∀ (g' : ℕ) (hg' : g' < 4) (L : List (View.Piece (Elt Ideal) S512x512 .bf16)), g' ≠ g →
      v.read (Elt Ideal) (v.writes (Elt Ideal) f (⟨Rect.unit (s := S512x512) ![0, 128 * g'] S512x128.size (inbO hg'), w g' hg'⟩ :: L)) (ix2 r (col hg x))
        = v.read (Elt Ideal) (v.writes (Elt Ideal) f L) (ix2 r (col hg x)) := fun g' hg' L hne => by
    refine View.read_writes_cons_unit_of_not_mem v f (inbO hg') (w g' hg') L _ rfl 1 ?_
    show 128 * g + x.val < 128 * g' ∨ 128 * g' + 128 ≤ 128 * g + x.val
    omega
  have hd : ∀ L : List (View.Piece (Elt Ideal) S512x512 .bf16),
      v.read (Elt Ideal) (v.writes (Elt Ideal) f (⟨Rect.unit (s := S512x512) ![0, 128 * g] S512x128.size (inbO hg), w g hg⟩ :: L)) (ix2 r (col hg x))
        = w g hg (ix2 r x) := fun L => by
    refine View.read_writes_cons_unit_of_mem v f (inbO hg) (w g hg) L _ (ix2 r x) rfl fun d => ?_
    fin_cases d
    · show r.val = 0 + r.val; omega
    · rfl
  interval_cases g
  · exact (hs 3 _ _ (by decide)).trans ((hs 2 _ _ (by decide)).trans ((hs 1 _ _ (by decide)).trans (hd _)))
  · exact (hs 3 _ _ (by decide)).trans ((hs 2 _ _ (by decide)).trans (hd _))
  · exact (hs 3 _ _ (by decide)).trans (hd _)
  · exact hd _

/-- The second loop stores nothing. -/
theorem noTiles (arg2 : BitVec 32) (v289 v309 v377 v384 : FVec Ideal S256x128 .f32) (v402 : BitVec 32)
    (X3 : BufTy.Contents (Elt Ideal) arg3.view.ty) (X4 : BufTy.Contents (Elt Ideal) arg4.view.ty) (X5 : BufTy.Contents (Elt Ideal) arg5.view.ty)
    (X6 : BufTy.Contents (Elt Ideal) arg6.view.ty) (X7 : BufTy.Contents (Elt Ideal) arg7.view.ty)
    (G9 : BufTy.Contents (Elt Ideal) arg9.view.ty) (G10 : BufTy.Contents (Elt Ideal) arg10.view.ty) (G11 : BufTy.Contents (Elt Ideal) arg11.view.ty) :
    pb_k0_t2 𝒱 c bd i arg3 harg3 arg4 harg4 arg5 harg5 arg6 harg6 arg7 harg7 arg8 harg8 arg9 harg9 arg10 harg10 arg11 harg11 arg2 v289 v309 v377 v384 v402 X3 X4 X5 X6 X7 G9 G10 G11 (k0_t2_loop i).trips = ([], [], []) := by
  rw [trips2]; rfl

/-- THE OUTPUT BLOCK: entry (`r`, lane `x` of head `g`) is the accumulator over the sum of a state that has met every key. -/
theorem out_apply (hs : ∀ (g : ℕ) (hg : g < 4) (r : Fin 512) (j : Fin 4096), score (blk i) x0 x1 x2 x3 hg r j ≠ ⊤)
    {g : ℕ} (hg : g < 4) (r : Fin 512) (x : Fin 128) :
    ∃ m l a, Holds (score (blk i) x0 x1 x2 x3 hg r) (fun j => x4 (ix2 j (col hg x))) Finset.univ m l a
      ∧ out0_A_5 c i arg3 harg3 arg4 harg4 arg5 harg5 arg6 harg6 arg7 harg7 arg8 harg8 arg9 harg9 arg10 harg10 arg11 harg11 x0 x1 x2 x3 x4 (ix2 r (col hg x)) = Ideal.div a l := by
  have hi := blk_lt i
  have hn : diagRow (i 2).val ≤ 3584 := by rw [diagRow_eq hi]; omega
  have key : ∃ F9 F10 F11, Inv (blk i) x0 x1 x2 x3 x4 Finset.univ (arg9.view.read (Elt Ideal) F9) (arg10.view.read (Elt Ideal) F10) (arg11.view.read (Elt Ideal) F11)
      ∧ (kernelRun0_A c i arg3 harg3 arg4 harg4 arg5 harg5 arg6 harg6 arg7 harg7 arg8 harg8 arg9 harg9 arg10 harg10 arg11 harg11 x0 x1 x2 x3 x4).1 = fourCols fun _ hg => quotOf (headOf arg10 F10 hg) (headOf arg11 F11 hg) := by
    have hd := afterDiag arg3 harg3 arg4 harg4 arg5 harg5 arg6 harg6 arg7 harg7 arg9 arg10 arg11 x0 x1 x2 x3 x4 i hn hs arg9.view.junk arg10.view.junk arg11.view.junk
    have ht := Inv.all x0 x1 x2 x3 x4 (afterTiles Variants.none c none i arg3 harg3 arg4 harg4 arg5 harg5 arg6 harg6 arg7 harg7 arg8 harg8 arg9 harg9 arg10 harg10 arg11 harg11 x0 x1 x2 x3 x4 (BitVec.ofNat 32 (i 2).val)
      (kernelRun0_A.sl.r_44 c i arg3 harg3 arg4 harg4 arg5 harg5 arg6 harg6 arg9 x0 x1 x2 x3)
      (kernelRun0_A.sl.r_51 c i arg3 harg3 arg4 harg4 arg5 harg5 arg6 harg6 arg7 harg7 arg9 x0 x1 x2 x3 x4)
      (kernelRun0_A.sl.r_54 c i arg3 harg3 arg4 harg4 arg5 harg5 arg6 harg6 arg9 x0 x1 x2 x3)
      (kernelRun0_A.sl.r_55 c i arg3 harg3 arg4 harg4 arg5 harg5 arg6 harg6 arg9 arg10 x0 x1 x2 x3)
      _ _ _ hs hd (blk i) le_rfl)
    refine ⟨_, _, _, ht, ?_⟩
    have e1 : Scf.trips (k0_t1_loop i).lb (k0_t1_loop i).ub (k0_t1_loop i).st = blk i := trips1 i
    have e2 := noTiles Variants.none c none i arg3 harg3 arg4 harg4 arg5 harg5 arg6 harg6 arg7 harg7 arg8 harg8 arg9 harg9 arg10 harg10 arg11 harg11
    unfold kernelRun0_A
    dsimp only
    unfold kernelRun0_A.sl.v424 kernelRun0_A.sl.v426 kernelRun0_A.sl.v417 kernelRun0_A.sl.v419 kernelRun0_A.sl.v412 kernelRun0_A.sl.v403 kernelRun0_A.sl.v405 kernelRun0_A.sl.r_56 kernelRun0_A.sl.v410
    simp only [show Scf.trips (k0_t2_loop i).lb (k0_t2_loop i).ub (k0_t2_loop i).st = (k0_t2_loop i).trips from rfl, e2, e1, List.nil_append]
    simp only [HS0_9_eq (hn := hn), HS1_9_eq (hn := hn), HS2_9_eq (hn := hn), ← View.writes_append]
    generalize arg10.view.writes (Elt Ideal) arg10.view.junk (_ ++ _) = F10
    generalize arg11.view.writes (Elt Ideal) arg11.view.junk (_ ++ _) = F11
    rfl
  obtain ⟨F9, F10, F11, hI, he⟩ := key
  refine ⟨_, _, _, hI g hg r x, ?_⟩
  unfold out0_A_5
  rw [he, read_fourCols VO0_5 _ _ hg r x, quotOf_apply]
  have hrd : ∀ (M : Memref sig .tc .vmem S4x512x128 .f32) (f : BufTy.Contents (Elt Ideal) M.view.ty),
      headOf M f hg (ix3 0 r x) = M.view.read (Elt Ideal) f (ix3 ⟨g, hg⟩ r x) := fun M f => by
    refine (readAt3 (n := 512) M f (inbS hg) hg r x (by omega)).trans ?_
    rw [show (⟨0 + r.val, by omega⟩ : Fin 512) = r from Fin.ext (Nat.zero_add _)]
  rw [hrd, hrd]

end Cert.KernelIdeal.Output

end
-- ==== Proof.Attention.lean ====
/-
  Causal attention over heads of one sequence batch, as plain mathematics over the extended reals.
-/
module

public import proofs.«01_k».proof.Proof.Online
public import Idealize.ShloMosaic.Lib.Pointwise

@[expose] public section

noncomputable section

namespace Cert.Attention

open Idealize.ShloMosaic

/-- An array of rows (2 sequences of 4096 positions) by columns (8 heads of 128). -/
abbrev Rows : Type := Vec Ideal ⟨2, ![8192, 1024]⟩ .bf16

/-- An array of rows by one head's columns, shared by all heads. -/
abbrev Shared : Type := Vec Ideal ⟨2, ![8192, 128]⟩ .bf16

/-- Position `i` of sequence `b` as a row. -/
abbrev row (b : Fin 2) (i : Fin 4096) : Fin 8192 := ⟨4096 * b.val + i.val, by omega⟩

/-- Lane `d` of head `h` as a column. -/
abbrev lane (h : Fin 8) (d : Fin 128) : Fin 1024 := ⟨128 * h.val + d.val, by omega⟩

variable (qn qp kn : Rows) (kp : Shared) (v : Rows)

/-- The score of key `j` for query `i`: both parts' inner products, and −∞ for a key past the query. -/
def score (b : Fin 2) (h : Fin 8) (i j : Fin 4096) : EReal :=
  if j.val ≤ i.val then
    (∑ d : Fin 128, qn (ix2 (row b i) (lane h d)) * kn (ix2 (row b j) (lane h d)))
      + ∑ d : Fin 128, qp (ix2 (row b i) (lane h d)) * kp (ix2 (row b j) d)
  else ⊥

/-- The logit: the score times ln 2. -/
def logit (b : Fin 2) (h : Fin 8) (i j : Fin 4096) : EReal := score qn qp kn kp b h i j * ((Real.log 2 : ℝ) : EReal)

/-- The softmax of a row of logits. -/
def softmax (u : Fin 4096 → EReal) (j : Fin 4096) : EReal :=
  Ideal.div (Ideal.exp (u j - Finset.univ.sup u)) (∑ k, Ideal.exp (u k - Finset.univ.sup u))

/-- The attention's entry: the values weighted by the softmax of the row's logits. -/
def attend (b : Fin 2) (h : Fin 8) (i : Fin 4096) (x : Fin 128) : EReal :=
  ∑ j, softmax (logit qn qp kn kp b h i) j * v (ix2 (row b j) (lane h x))

/-- Every row is a position of a sequence. -/
theorem exists_row (R : Fin 8192) : ∃ b i, R = row b i :=
  ⟨⟨R.val / 4096, by omega⟩, ⟨R.val % 4096, by omega⟩, Fin.ext (by show R.val = 4096 * (R.val / 4096) + R.val % 4096; omega)⟩

/-- Every column is a lane of a head. -/
theorem exists_lane (C : Fin 1024) : ∃ h d, C = lane h d :=
  ⟨⟨C.val / 128, by omega⟩, ⟨C.val % 128, by omega⟩, Fin.ext (by show C.val = 128 * (C.val / 128) + C.val % 128; omega)⟩

/-- The attention of all positions and heads as one array. -/
def result : Rows := fun J =>
  attend qn qp kn kp v ⟨(J 0).val / 4096, by have : (J 0).val < 8192 := (J 0).isLt; omega⟩
    ⟨(J 1).val / 128, by have : (J 1).val < 1024 := (J 1).isLt; omega⟩ ⟨(J 0).val % 4096, by omega⟩ ⟨(J 1).val % 128, by omega⟩

theorem result_apply (b : Fin 2) (h : Fin 8) (i : Fin 4096) (x : Fin 128) :
    result qn qp kn kp v (ix2 (row b i) (lane h x)) = attend qn qp kn kp v b h i x := by
  have e1 : (4096 * b.val + i.val) / 4096 = b.val := by omega
  have e2 : (4096 * b.val + i.val) % 4096 = i.val := by omega
  have e3 : (128 * h.val + x.val) / 128 = h.val := by omega
  have e4 : (128 * h.val + x.val) % 128 = x.val := by omega
  show attend qn qp kn kp v ⟨(4096 * b.val + i.val) / 4096, _⟩ ⟨(128 * h.val + x.val) / 128, _⟩
    ⟨(4096 * b.val + i.val) % 4096, _⟩ ⟨(128 * h.val + x.val) % 128, _⟩ = _
  simp only [e1, e2, e3, e4]

/-- An array with the attention's entries is the attention. -/
theorem eq_result {X : Rows} (hX : ∀ b h i x, X (ix2 (row b i) (lane h x)) = attend qn qp kn kp v b h i x) :
    X = result qn qp kn kp v := by
  funext J
  obtain ⟨b, i, hr⟩ := exists_row (J 0)
  obtain ⟨h, x, hl⟩ := exists_lane (J 1)
  have e : J = ix2 (row b i) (lane h x) := by
    funext a
    match a with | ⟨0, _⟩ => exact hr | ⟨1, _⟩ => exact hl
  rw [e, hX, result_apply]

/-! ## Finite arguments -/

/-- A product of finite values is finite. -/
theorem finite_mul {y z : EReal} (hy : y ≠ ⊤ ∧ y ≠ ⊥) (hz : z ≠ ⊤ ∧ z ≠ ⊥) : y * z ≠ ⊤ ∧ y * z ≠ ⊥ := by
  lift y to ℝ using hy
  lift z to ℝ using hz
  rw [← EReal.coe_mul]
  exact ⟨EReal.coe_ne_top _, EReal.coe_ne_bot _⟩

/-- A sum of two finite values is finite. -/
theorem finite_add {y z : EReal} (hy : y ≠ ⊤ ∧ y ≠ ⊥) (hz : z ≠ ⊤ ∧ z ≠ ⊥) : y + z ≠ ⊤ ∧ y + z ≠ ⊥ := by
  lift y to ℝ using hy
  lift z to ℝ using hz
  rw [← EReal.coe_add]
  exact ⟨EReal.coe_ne_top _, EReal.coe_ne_bot _⟩

/-- A finite sum of finite values is finite. -/
theorem finite_sum {ι : Type} (J : Finset ι) (f : ι → EReal) (hf : ∀ j, f j ≠ ⊤ ∧ f j ≠ ⊥) :
    ∑ j ∈ J, f j ≠ ⊤ ∧ ∑ j ∈ J, f j ≠ ⊥ :=
  Finset.sum_induction f (fun y => y ≠ ⊤ ∧ y ≠ ⊥) (fun _ _ => finite_add) ⟨EReal.zero_ne_top, EReal.zero_ne_bot⟩
    fun j _ => hf j

variable {qn qp kn kp} (hqn : ∀ I, qn I ≠ ⊤ ∧ qn I ≠ ⊥) (hqp : ∀ I, qp I ≠ ⊤ ∧ qp I ≠ ⊥)
  (hkn : ∀ I, kn I ≠ ⊤ ∧ kn I ≠ ⊥) (hkp : ∀ I, kp I ≠ ⊤ ∧ kp I ≠ ⊥)

include hqn hqp hkn hkp in
/-- A score of finite arrays is never +∞, and −∞ only past the query. -/
theorem score_finite (b : Fin 2) (h : Fin 8) (i j : Fin 4096) :
    score qn qp kn kp b h i j ≠ ⊤ ∧ (j.val ≤ i.val → score qn qp kn kp b h i j ≠ ⊥) := by
  have hf := finite_add (finite_sum Finset.univ _ fun d : Fin 128 => finite_mul (hqn (ix2 (row b i) (lane h d))) (hkn (ix2 (row b j) (lane h d))))
    (finite_sum Finset.univ _ fun d : Fin 128 => finite_mul (hqp (ix2 (row b i) (lane h d))) (hkp (ix2 (row b j) d)))
  unfold score
  by_cases hle : j.val ≤ i.val
  · rw [if_pos hle]; exact ⟨hf.1, fun _ => hf.2⟩
  · rw [if_neg hle]; exact ⟨bot_ne_top, fun h => absurd h hle⟩

end Cert.Attention

end
-- ==== Proof.Blocks.lean ====
/-
  The kernel's result array: each grid point's blocks are its sequence's, heads' and positions' parts of the argument
  arrays, so its output block is that part of the attention, and the blocks cover the array.
-/
module

public import proofs.«01_k».proof.Proof.Output
public import proofs.«01_k».proof.Proof.Attention

@[expose] public section

noncomputable section

namespace Cert.KernelIdeal.Blocks

open Cert.KernelIdeal Cert.KernelIdeal.Gen Cert.KernelIdeal.Value Cert.KernelIdeal.Reads Cert.KernelIdeal.State Cert.KernelIdeal.Output Cert.Online
  Idealize.ShloMosaic Idealize.ShloMosaic.TcCoe Idealize.SL.Sem

/-! ## Where the grid points' blocks lie -/

theorem idx0 : ∀ t : Fin cfg0.N, win0_0.index t (0 : Fin 2) = t.val / 16 * 8 + t.val % 8 ∧ win0_0.index t (1 : Fin 2) = t.val / 8 % 2 :=
  (by decide +kernel : ∀ t : Fin grid0.N, _)
theorem idx1 : ∀ t : Fin cfg0.N, win0_1.index t (0 : Fin 2) = t.val / 16 * 8 + t.val % 8 ∧ win0_1.index t (1 : Fin 2) = t.val / 8 % 2 :=
  (by decide +kernel : ∀ t : Fin grid0.N, _)
theorem idx2 : ∀ t : Fin cfg0.N, win0_2.index t (0 : Fin 2) = t.val / 16 ∧ win0_2.index t (1 : Fin 2) = t.val / 8 % 2 :=
  (by decide +kernel : ∀ t : Fin grid0.N, _)
theorem idx3 : ∀ t : Fin cfg0.N, win0_3.index t (0 : Fin 2) = t.val / 16 ∧ win0_3.index t (1 : Fin 2) = 0 :=
  (by decide +kernel : ∀ t : Fin grid0.N, _)
theorem idx4 : ∀ t : Fin cfg0.N, win0_4.index t (0 : Fin 2) = t.val / 16 ∧ win0_4.index t (1 : Fin 2) = t.val / 8 % 2 :=
  (by decide +kernel : ∀ t : Fin grid0.N, _)
theorem idx5 : ∀ t : Fin cfg0.N, win0_5.index t (0 : Fin 2) = t.val / 16 * 8 + t.val % 8 ∧ win0_5.index t (1 : Fin 2) = t.val / 8 % 2 :=
  (by decide +kernel : ∀ t : Fin grid0.N, _)
theorem blk_coords : ∀ t : Fin cfg0.N, blk (grid0.coords t) = t.val % 8 :=
  (by decide +kernel : ∀ t : Fin grid0.N, (grid0.coords t 2).val = t.val % 8)
theorem point_lt (t : Fin cfg0.N) : t.val < 32 := lt_of_lt_of_le t.isLt (by decide)

/-- A grid point's sequence. -/
def seq (t : Fin cfg0.N) : Fin 2 := ⟨t.val / 16, by have := point_lt t; omega⟩
/-- Its four heads. -/
def head (t : Fin cfg0.N) {g : ℕ} (hg : g < 4) : Fin 8 := ⟨4 * (t.val / 8 % 2) + g, by omega⟩
/-- Its 512 positions. -/
def pos (t : Fin cfg0.N) (r : Fin 512) : Fin 4096 := ⟨512 * (t.val % 8) + r.val, by omega⟩

variable (m : (ℓ : Loc nD τ sig) → Buf (Elt Ideal) ℓ) (ρ : Dev nD → PrngReg) (c : Dev nD)

/-- The five argument arrays: the queries' two parts, the keys' two parts and the values. -/
abbrev Qn : Attention.Rows := m ((c : Thread nD τ).loc main_arg0)
abbrev Qp : Attention.Rows := m ((c : Thread nD τ).loc main_arg1)
abbrev Kn : Attention.Rows := m ((c : Thread nD τ).loc main_arg2)
abbrev Kp : Attention.Shared := m ((c : Thread nD τ).loc main_arg4)
abbrev Vs : Attention.Rows := m ((c : Thread nD τ).loc main_arg3)

variable (t : Fin cfg0.N) {g : ℕ} (hg : g < 4) (r : Fin 512) (j : Fin 4096) (d : Fin 128)

/-- The queries' first block. -/
theorem iblk0 : iblk m c 0 t (ix2 r (col hg d)) = Qn m c (ix2 (Attention.row (seq t) (pos t r)) (Attention.lane (head t hg) d)) := by
  obtain ⟨e0, e1⟩ := idx0 t
  show V m c main_arg0 (((cfg0.win 0).blk t).view.emb (ix2 r (col hg d))) = _
  rw [V_main_arg0]
  refine congrArg (Qn m c) (funext fun a => Fin.ext ?_)
  match a with
  | ⟨0, _⟩ => show win0_0.index t (0 : Fin 2) * 512 + 1 * r.val = 4096 * (t.val / 16) + (512 * (t.val % 8) + r.val); omega
  | ⟨1, _⟩ => show win0_0.index t (1 : Fin 2) * 512 + 1 * (128 * g + d.val) = 128 * (4 * (t.val / 8 % 2) + g) + d.val; omega

/-- Their second block. -/
theorem iblk1 : iblk m c 1 t (ix2 r (col hg d)) = Qp m c (ix2 (Attention.row (seq t) (pos t r)) (Attention.lane (head t hg) d)) := by
  obtain ⟨e0, e1⟩ := idx1 t
  show V m c main_arg1 (((cfg0.win 1).blk t).view.emb (ix2 r (col hg d))) = _
  rw [V_main_arg1]
  refine congrArg (Qp m c) (funext fun a => Fin.ext ?_)
  match a with
  | ⟨0, _⟩ => show win0_1.index t (0 : Fin 2) * 512 + 1 * r.val = 4096 * (t.val / 16) + (512 * (t.val % 8) + r.val); omega
  | ⟨1, _⟩ => show win0_1.index t (1 : Fin 2) * 512 + 1 * (128 * g + d.val) = 128 * (4 * (t.val / 8 % 2) + g) + d.val; omega

/-- The keys' first block: the whole sequence. -/
theorem iblk2 : iblk m c 2 t (ix2 j (col hg d)) = Kn m c (ix2 (Attention.row (seq t) j) (Attention.lane (head t hg) d)) := by
  obtain ⟨e0, e1⟩ := idx2 t
  show V m c main_arg2 (((cfg0.win 2).blk t).view.emb (ix2 j (col hg d))) = _
  rw [V_main_arg2]
  refine congrArg (Kn m c) (funext fun a => Fin.ext ?_)
  match a with
  | ⟨0, _⟩ => show win0_2.index t (0 : Fin 2) * 4096 + 1 * j.val = 4096 * (t.val / 16) + j.val; omega
  | ⟨1, _⟩ => show win0_2.index t (1 : Fin 2) * 512 + 1 * (128 * g + d.val) = 128 * (4 * (t.val / 8 % 2) + g) + d.val; omega

/-- Their second block, shared by the heads. -/
theorem iblk3 : iblk m c 3 t (ix2 j d) = Kp m c (ix2 (Attention.row (seq t) j) d) := by
  obtain ⟨e0, e1⟩ := idx3 t
  show V m c main_arg4 (((cfg0.win 3).blk t).view.emb (ix2 j d)) = _
  rw [V_main_arg4]
  refine congrArg (Kp m c) (funext fun a => Fin.ext ?_)
  match a with
  | ⟨0, _⟩ => show win0_3.index t (0 : Fin 2) * 4096 + 1 * j.val = 4096 * (t.val / 16) + j.val; omega
  | ⟨1, _⟩ => show win0_3.index t (1 : Fin 2) * 128 + 1 * d.val = d.val; omega

/-- The values' block. -/
theorem iblk4 : iblk m c 4 t (ix2 j (col hg d)) = Vs m c (ix2 (Attention.row (seq t) j) (Attention.lane (head t hg) d)) := by
  obtain ⟨e0, e1⟩ := idx4 t
  show V m c main_arg3 (((cfg0.win 4).blk t).view.emb (ix2 j (col hg d))) = _
  rw [V_main_arg3]
  refine congrArg (Vs m c) (funext fun a => Fin.ext ?_)
  match a with
  | ⟨0, _⟩ => show win0_4.index t (0 : Fin 2) * 4096 + 1 * j.val = 4096 * (t.val / 16) + j.val; omega
  | ⟨1, _⟩ => show win0_4.index t (1 : Fin 2) * 512 + 1 * (128 * g + d.val) = 128 * (4 * (t.val / 8 % 2) + g) + d.val; omega

/-- The output block's place in the result. -/
theorem emb5 : ((cfg0.win 5).blk t).view.emb (ix2 r (col hg d)) = ix2 (Attention.row (seq t) (pos t r)) (Attention.lane (head t hg) d) := by
  obtain ⟨e0, e1⟩ := idx5 t
  funext a; apply Fin.ext
  match a with
  | ⟨0, _⟩ => show win0_5.index t (0 : Fin 2) * 512 + 1 * r.val = 4096 * (t.val / 16) + (512 * (t.val % 8) + r.val); omega
  | ⟨1, _⟩ => show win0_5.index t (1 : Fin 2) * 512 + 1 * (128 * g + d.val) = 128 * (4 * (t.val / 8 % 2) + g) + d.val; omega

/-- A grid point's scores are the attention's. -/
theorem score_eq : score (blk (grid0.coords t)) (iblk m c 0 t) (iblk m c 1 t) (iblk m c 2 t) (iblk m c 3 t) hg r j
    = Attention.score (Qn m c) (Qp m c) (Kn m c) (Kp m c) (seq t) (head t hg) (pos t r) j := by
  unfold score Attention.score
  rw [blk_coords]
  simp only [iblk0, iblk1, iblk2, iblk3]
  rfl

/-- The arrays whose entries are all finite: both parts of the queries and of the keys. -/
structure Finite : Prop where
  qn : ∀ I, Qn m c I ≠ ⊤ ∧ Qn m c I ≠ ⊥
  qp : ∀ I, Qp m c I ≠ ⊤ ∧ Qp m c I ≠ ⊥
  kn : ∀ I, Kn m c I ≠ ⊤ ∧ Kn m c I ≠ ⊥
  kp : ∀ I, Kp m c I ≠ ⊤ ∧ Kp m c I ≠ ⊥

variable (hf : Finite m c)

/-- The attention of the five argument arrays. -/
abbrev G : Attention.Rows := Attention.result (Qn m c) (Qp m c) (Kn m c) (Kp m c) (Vs m c)

include hf in
/-- What a grid point writes back is its block of the attention. -/
theorem flushed5_eq : (dats m 0 c).flushed 5 t = ((cfg0.win 5).blk t).view.read (Elt Ideal) (G m c) := by
  have hs := fun (g : ℕ) (hg : g < 4) (r : Fin 512) (j : Fin 4096) =>
    (score_eq m c t hg r j).trans_ne (Attention.score_finite hf.qn hf.qp hf.kn hf.kp (seq t) (head t hg) (pos t r) j).1
  rw [flushed5_A]
  funext J
  obtain ⟨r, g, hg, x, rfl⟩ : ∃ (r : Fin 512) (g : ℕ) (hg : g < 4) (x : Fin 128), J = ix2 r (col hg x) := by
    have h0 : (J 0).val < 512 := (J 0).isLt
    have h1 : (J 1).val < 512 := (J 1).isLt
    refine ⟨⟨_, h0⟩, (J 1).val / 128, by omega, ⟨(J 1).val % 128, by omega⟩, funext fun a => Fin.ext ?_⟩
    match a with
    | ⟨0, _⟩ => rfl
    | ⟨1, _⟩ => show (J 1).val = 128 * ((J 1).val / 128) + (J 1).val % 128; omega
  show out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t)
      (ix2 r (col hg x)) = G m c (((cfg0.win 5).blk t).view.emb (ix2 r (col hg x)))
  obtain ⟨m', l', a', hH, ho⟩ := out_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (iblk m c 0 t) (iblk m c 1 t) (iblk m c 2 t) (iblk m c 3 t) (iblk m c 4 t)
    hs hg r x
  rw [ho, emb5, show G m c = Attention.result (Qn m c) (Qp m c) (Kn m c) (Kp m c) (Vs m c) from rfl, Attention.result_apply]
  have hj := (score_eq m c t hg r (pos t r)).trans_ne ((Attention.score_finite hf.qn hf.qp hf.kn hf.kp (seq t) (head t hg) (pos t r) (pos t r)).2 le_rfl)
  rw [hH.quotient (fun j => hs g hg r j) hj (u := Attention.logit (Qn m c) (Qp m c) (Kn m c) (Kp m c) (seq t) (head t hg) (pos t r))
    (fun j => congrArg (· * ((Real.log 2 : ℝ) : EReal)) (score_eq m c t hg r j).symm)]
  refine Finset.sum_congr rfl fun j _ => ?_
  rw [iblk4]
  rfl

/-- Every index of the result array is in some point's block. -/
theorem covered5 (J : S8192x1024.Idx) : ∃ t : Fin cfg0.N, (cfg0.win 5).flush t = true ∧ J ∈ ((cfg0.win 5).blk t).view.set := by
  have h0 : (J 0).val < 8192 := (J 0).isLt
  have h1 : (J 1).val < 1024 := (J 1).isLt
  have hN : (J 0).val / 4096 * 16 + (J 1).val / 512 * 8 + (J 0).val / 512 % 8 < cfg0.N :=
    lt_of_lt_of_le (by omega : _ < 32) (by decide)
  refine ⟨⟨_, hN⟩, flush0_5 _, ?_⟩
  have h := ((cfg0.win 5).blk ⟨_, hN⟩).view.emb_mem_set (ix2 (⟨(J 0).val % 512, by omega⟩ : Fin 512) (col (g := (J 1).val / 128 % 4) (by omega) ⟨(J 1).val % 128, by omega⟩))
  rw [emb5] at h
  have e : (ix2 (Attention.row (seq ⟨_, hN⟩) (pos ⟨_, hN⟩ ⟨(J 0).val % 512, by omega⟩)) (Attention.lane (head ⟨_, hN⟩ (g := (J 1).val / 128 % 4) (by omega)) ⟨(J 1).val % 128, by omega⟩) : S8192x1024.Idx) = J := by
    funext a; apply Fin.ext
    match a with
    | ⟨0, _⟩ =>
      show 4096 * (((J 0).val / 4096 * 16 + (J 1).val / 512 * 8 + (J 0).val / 512 % 8) / 16)
        + (512 * (((J 0).val / 4096 * 16 + (J 1).val / 512 * 8 + (J 0).val / 512 % 8) % 8) + (J 0).val % 512) = (J 0).val
      omega
    | ⟨1, _⟩ =>
      show 128 * (4 * (((J 0).val / 4096 * 16 + (J 1).val / 512 * 8 + (J 0).val / 512 % 8) / 8 % 2) + (J 1).val / 128 % 4)
        + (J 1).val % 128 = (J 1).val
      omega
  rwa [e] at h

include hf in
/-- The result array after the run: the attention of the argument arrays as launched. -/
theorem final5 : (dats m 0 c).arrAt 5 cfg0.N = G m c :=
  (dats m 0 c).arrAt_eq_of_cover 5 (G m c) (fun t _ => flushed5_eq m c t hf) covered5

/-- THE KERNEL'S RUN: of finite queries and keys, the result array is the attention of the arguments, which are kept. -/
theorem run (hf : ∀ c, Finite m c) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c (hf c)), (h c).2⟩) (run_blocks m ρ)

end Cert.KernelIdeal.Blocks

end
-- ==== Proof.Reference.lean ====
/-
  The reference's result, entry by entry, is the attention's.
-/
module

public import proofs.«01_k».proof.Proof.Gen.ReferenceIdeal.Run
public import proofs.«01_k».proof.Proof.Gen.ReferenceIdeal.Read
public import proofs.«01_k».proof.Proof.Attention
public import Idealize.ShloMosaic.Lib.Pointwise
public import Idealize.ShloMosaic.Lib.WordCmp

@[expose] public section

noncomputable section

namespace Cert.ReferenceIdeal.Attn

open Cert.ReferenceIdeal Cert.ReferenceIdeal.Gen Cert.ReferenceIdeal.Read Cert.Attention Idealize.ShloMosaic

variable (x0 x1 x2 x3 : Rows) (x4 : Shared) (b : Fin 2) (h : Fin 8) (i j : Fin 4096) (d : Fin 128)

/-- The queries' first part by heads. -/
theorem v6 : val_main_v6 (F := Ideal) x0 (ix4 b h i d) = x0 (ix2 (row b i) (lane h d)) := by
  rw [val_main_v6_apply, val_main_v5_apply, val_main_v0_apply]
  refine congrArg x0 (funext fun a => Fin.ext ?_)
  match a with
  | ⟨0, _⟩ => show (((b.val * 4096 + i.val) * 8 + h.val) * 128 + d.val) / 1024 = 4096 * b.val + i.val; omega
  | ⟨1, _⟩ => show (((b.val * 4096 + i.val) * 8 + h.val) * 128 + d.val) % 1024 = 128 * h.val + d.val; omega

/-- Their second part by heads. -/
theorem v8 : val_main_v8 (F := Ideal) x1 (ix4 b h i d) = x1 (ix2 (row b i) (lane h d)) := by
  rw [val_main_v8_apply, val_main_v7_apply, val_main_v1_apply]
  refine congrArg x1 (funext fun a => Fin.ext ?_)
  match a with
  | ⟨0, _⟩ => show (((b.val * 4096 + i.val) * 8 + h.val) * 128 + d.val) / 1024 = 4096 * b.val + i.val; omega
  | ⟨1, _⟩ => show (((b.val * 4096 + i.val) * 8 + h.val) * 128 + d.val) % 1024 = 128 * h.val + d.val; omega

/-- The keys' first part by heads. -/
theorem v13 : val_main_v13 (F := Ideal) x2 (ix4 b h j d) = x2 (ix2 (row b j) (lane h d)) := by
  rw [val_main_v13_apply, val_main_v12_apply, val_main_v2_apply]
  refine congrArg x2 (funext fun a => Fin.ext ?_)
  match a with
  | ⟨0, _⟩ => show (((b.val * 4096 + j.val) * 8 + h.val) * 128 + d.val) / 1024 = 4096 * b.val + j.val; omega
  | ⟨1, _⟩ => show (((b.val * 4096 + j.val) * 8 + h.val) * 128 + d.val) % 1024 = 128 * h.val + d.val; omega

/-- Their second part, one for every head. -/
theorem v11 : val_main_v11 (F := Ideal) x4 (ix4 b h j d) = x4 (ix2 (row b j) d) := by
  rw [val_main_v11_apply, val_main_v10_apply, val_main_v4_apply]
  refine congrArg x4 (funext fun a => Fin.ext ?_)
  match a with
  | ⟨0, _⟩ => show (((b.val * 1 + 0) * 4096 + j.val) * 128 + d.val) / 128 = 4096 * b.val + j.val; omega
  | ⟨1, _⟩ => show (((b.val * 1 + 0) * 4096 + j.val) * 128 + d.val) % 128 = d.val; omega

/-- The values by heads. -/
theorem v38 : val_main_v38 (F := Ideal) x3 (ix4 b h j d) = x3 (ix2 (row b j) (lane h d)) := by
  rw [val_main_v38_apply, val_main_v37_apply, val_main_v3_apply]
  refine congrArg x3 (funext fun a => Fin.ext ?_)
  match a with
  | ⟨0, _⟩ => show (((b.val * 4096 + j.val) * 8 + h.val) * 128 + d.val) / 1024 = 4096 * b.val + j.val; omega
  | ⟨1, _⟩ => show (((b.val * 4096 + j.val) * 8 + h.val) * 128 + d.val) % 1024 = 128 * h.val + d.val; omega

/-- The joined queries: the first part, then the second. -/
theorem v9_left : val_main_v9 (F := Ideal) x0 x1 (ix4 b h i (Fin.castAdd 128 d)) = x0 (ix2 (row b i) (lane h d)) := by
  unfold val_main_v9
  refine (concatenate_pair_apply_left (t := S2x8x4096x256) (s₁ := S2x8x4096x128) (s₂ := S2x8x4096x128) 3
    (val_main_v6 (F := Ideal) x0) (val_main_v8 (F := Ideal) x1) _ _ rfl (ix4 b h i d) (fun a => ?_)).trans (v6 x0 b h i d)
  match a with | ⟨0, _⟩ => rfl | ⟨1, _⟩ => rfl | ⟨2, _⟩ => rfl | ⟨3, _⟩ => rfl

theorem v9_right : val_main_v9 (F := Ideal) x0 x1 (ix4 b h i (Fin.natAdd 128 d)) = x1 (ix2 (row b i) (lane h d)) := by
  unfold val_main_v9
  refine (concatenate_pair_apply_right (t := S2x8x4096x256) (s₁ := S2x8x4096x128) (s₂ := S2x8x4096x128) 3
    (val_main_v6 (F := Ideal) x0) (val_main_v8 (F := Ideal) x1) _ _ rfl rfl (ix4 b h i d) (fun a ha => ?_) ?_).trans (v8 x1 b h i d)
  · match a, ha with | ⟨0, _⟩, _ => rfl | ⟨1, _⟩, _ => rfl | ⟨2, _⟩, _ => rfl | ⟨3, _⟩, ha => exact absurd rfl ha
  · exact Nat.add_comm _ _

/-- The joined keys likewise. -/
theorem v14_left : val_main_v14 (F := Ideal) x2 x4 (ix4 b h j (Fin.castAdd 128 d)) = x2 (ix2 (row b j) (lane h d)) := by
  unfold val_main_v14
  refine (concatenate_pair_apply_left (t := S2x8x4096x256) (s₁ := S2x8x4096x128) (s₂ := S2x8x4096x128) 3
    (val_main_v13 (F := Ideal) x2) (val_main_v11 (F := Ideal) x4) _ _ rfl (ix4 b h j d) (fun a => ?_)).trans (v13 x2 b h j d)
  match a with | ⟨0, _⟩ => rfl | ⟨1, _⟩ => rfl | ⟨2, _⟩ => rfl | ⟨3, _⟩ => rfl

theorem v14_right : val_main_v14 (F := Ideal) x2 x4 (ix4 b h j (Fin.natAdd 128 d)) = x4 (ix2 (row b j) d) := by
  unfold val_main_v14
  refine (concatenate_pair_apply_right (t := S2x8x4096x256) (s₁ := S2x8x4096x128) (s₂ := S2x8x4096x128) 3
    (val_main_v13 (F := Ideal) x2) (val_main_v11 (F := Ideal) x4) _ _ rfl rfl (ix4 b h j d) (fun a ha => ?_) ?_).trans (v11 x4 b h j d)
  · match a, ha with | ⟨0, _⟩, _ => rfl | ⟨1, _⟩, _ => rfl | ⟨2, _⟩, _ => rfl | ⟨3, _⟩, ha => exact absurd rfl ha
  · exact Nat.add_comm _ _

/-- A query's product with a key, before the mask. -/
theorem v15 : val_main_v15 (F := Ideal) x0 x1 x2 x4 (ix4 b h i j)
    = (∑ d : Fin 128, x0 (ix2 (row b i) (lane h d)) * x2 (ix2 (row b j) (lane h d)))
      + ∑ d : Fin 128, x1 (ix2 (row b i) (lane h d)) * x4 (ix2 (row b j) d) := by
  rw [val_main_v15_apply, Fin.sum_univ_add (a := 128) (b := 128)]
  refine congrArg₂ (· + ·) (Finset.sum_congr rfl fun d _ => ?_) (Finset.sum_congr rfl fun d _ => ?_)
  · refine congrArg₂ (· * ·) (Eq.trans (congrArg _ (funext fun a => ?_)) (v9_left x0 x1 b h i d))
      (Eq.trans (congrArg _ (funext fun a => ?_)) (v14_left x2 x4 b h j d))
    · match a with | ⟨0, _⟩ => rfl | ⟨1, _⟩ => rfl | ⟨2, _⟩ => rfl | ⟨3, _⟩ => rfl
    · match a with | ⟨0, _⟩ => rfl | ⟨1, _⟩ => rfl | ⟨2, _⟩ => rfl | ⟨3, _⟩ => rfl
  · refine congrArg₂ (· * ·) (Eq.trans (congrArg _ (funext fun a => ?_)) (v9_right x0 x1 b h i d))
      (Eq.trans (congrArg _ (funext fun a => ?_)) (v14_right x2 x4 b h j d))
    · match a with | ⟨0, _⟩ => rfl | ⟨1, _⟩ => rfl | ⟨2, _⟩ => rfl | ⟨3, _⟩ => rfl
    · match a with | ⟨0, _⟩ => rfl | ⟨1, _⟩ => rfl | ⟨2, _⟩ => rfl | ⟨3, _⟩ => rfl

theorem two : Ideal.ofBits .f32 0x40000000#32 = ((2 : ℝ) : EReal) := by
  simp [Ideal.ofBits, Ideal.ieee]
  rw [← EReal.coe_mul]; norm_num

theorem bot : Ideal.ofBits .f32 0xFF800000#32 = ⊥ := by
  simp [Ideal.ofBits, Ideal.ieee]

/-- The factor is ln 2. -/
theorem v17 (I : S2x8x4096x4096.Idx) : val_main_v17 (F := Ideal) I = ((Real.log 2 : ℝ) : EReal) := by
  rw [val_main_v17_apply, val_main_v16_apply, val_main_cst_apply]
  show Ideal.log (Ideal.ofBits .f32 0x40000000#32) = _
  rw [two, Ideal.log_coe, if_neg (by norm_num)]

/-- The masked row of logits: below −∞ nothing is left of a masked key, whatever the factor. -/
theorem v25 : val_main_v25 (F := Ideal) x0 x1 x2 x4 (ix4 b h i j) = logit x0 x1 x2 x4 b h i j := by
  rw [val_main_v25_apply, val_main_v18_apply, v15, v17, val_main_call0_v1_apply, val_main_v24_apply]
  have hw : IntOp.cmpi .sle (val_main_v22 (F := Ideal) (idx_main_call0_v1 (ix4 b h i j))) (val_main_v23 (F := Ideal) (idx_main_call0_v1 (ix4 b h i j)))
      = BitVec.ofBool (decide (j.val ≤ i.val)) := by
    rw [val_main_v22_apply, val_main_v20_apply, val_main_v19_apply, val_main_v23_apply, val_main_v21_apply, val_main_v19_apply]
    exact WordCmp.cmpi_sle_ofNat (a := j.val) (b := i.val) (by omega) (by omega)
  have hb : val_main_call0_v2 (F := Ideal) (ix4 b h i j) = (⊥ : EReal) := by
    rw [val_main_call0_v2_apply, val_main_call0_v0_apply, val_main_cst_0_apply]
    exact bot
  rw [hw, hb, logit, score]
  by_cases hle : j.val ≤ i.val
  · rw [if_pos hle, decide_eq_true hle]; rfl
  · rw [if_neg hle, decide_eq_false hle, EReal.bot_mul_coe_of_pos (Real.log_pos (by norm_num))]; rfl

/-- The row's largest logit. -/
theorem v28 : val_main_v28 (F := Ideal) x0 x1 x2 x4 (ix3 b h i) = Finset.univ.sup (logit x0 x1 x2 x4 b h i) := by
  rw [val_main_v28_apply, val_main_v27_apply, val_main_cst_2_apply]
  have h26 : val_main_v26 (F := Ideal) x0 x1 x2 x4 (ix3 b h i) = Finset.univ.sup (logit x0 x1 x2 x4 b h i) := by
    unfold val_main_v26
    pointwise []
    have hb : val_main_cst_1 (F := Ideal) (Shape.Idx.first h_S_) = (⊥ : EReal) := by
      rw [val_main_cst_1_apply]
      exact bot
    rw [hb, funext fun k => v25 x0 x1 x2 x4 b h i k]
    rfl
  rw [h26]
  show max (Ideal.ofBits .f32 0xFF800000#32) _ = _
  rw [bot]
  exact max_eq_right bot_le

/-- The exponentials. -/
theorem v32 : val_main_v32 (F := Ideal) x0 x1 x2 x4 (ix4 b h i j)
    = Ideal.exp (logit x0 x1 x2 x4 b h i j - Finset.univ.sup (logit x0 x1 x2 x4 b h i)) := by
  rw [val_main_v32_apply, val_main_v31_apply, v25, val_main_v30_apply, val_main_v29_apply]
  have e : idx_main_v29 (idx_main_v30 (ix4 b h i j)) = ix3 b h i := funext fun a => by
    match a with | ⟨0, _⟩ => rfl | ⟨1, _⟩ => rfl | ⟨2, _⟩ => rfl
  rw [e, v28]
  rfl

/-- Their sum. -/
theorem v33 : val_main_v33 (F := Ideal) x0 x1 x2 x4 (ix3 b h i)
    = ∑ k, Ideal.exp (logit x0 x1 x2 x4 b h i k - Finset.univ.sup (logit x0 x1 x2 x4 b h i)) := by
  rw [val_main_v33_apply, val_main_cst_3_apply]
  have h0 : (FloatOps.ofBits (F := Ideal) .f32 0x00000000#32 : EReal) = 0 := by
    show Ideal.ofBits .f32 0x00000000#32 = 0
    simp [Ideal.ofBits, Ideal.ieee]
  rw [h0, zero_add]
  refine Finset.sum_congr rfl fun k _ => ?_
  rw [← v32 x0 x1 x2 x4 b h i k]
  refine congrArg _ (funext fun a => ?_)
  match a with | ⟨0, _⟩ => rfl | ⟨1, _⟩ => rfl | ⟨2, _⟩ => rfl | ⟨3, _⟩ => rfl

/-- The weights. -/
theorem v36 : val_main_v36 (F := Ideal) x0 x1 x2 x4 (ix4 b h i j) = softmax (logit x0 x1 x2 x4 b h i) j := by
  rw [val_main_v36_apply, v32, val_main_v35_apply, val_main_v34_apply]
  have e : idx_main_v34 (idx_main_v35 (ix4 b h i j)) = ix3 b h i := funext fun a => by
    match a with | ⟨0, _⟩ => rfl | ⟨1, _⟩ => rfl | ⟨2, _⟩ => rfl
  rw [e, v33]
  rfl

/-- The result, at position `i` of sequence `b` and lane `d` of head `h`. -/
theorem v42 : val_main_v42 (F := Ideal) x0 x1 x2 x3 x4 (ix2 (row b i) (lane h d)) = attend x0 x1 x2 x4 x3 b h i d := by
  rw [val_main_v42_apply, val_main_v41_apply, val_main_v40_apply]
  have e : idx_main_v40 (idx_main_v41 (ix2 (row b i) (lane h d))) = ix4 b h i d := funext fun a => Fin.ext (by
    match a with
    | ⟨0, _⟩ => show ((4096 * b.val + i.val) * 1024 + (128 * h.val + d.val)) / 4194304 = b.val; omega
    | ⟨1, _⟩ => show ((4096 * b.val + i.val) * 1024 + (128 * h.val + d.val)) / 128 % 8 = h.val; omega
    | ⟨2, _⟩ => show ((4096 * b.val + i.val) * 1024 + (128 * h.val + d.val)) / 1024 % 4096 = i.val; omega
    | ⟨3, _⟩ => show ((4096 * b.val + i.val) * 1024 + (128 * h.val + d.val)) % 128 = d.val; omega)
  rw [e, val_main_v39_apply]
  refine Finset.sum_congr rfl fun j _ => congrArg₂ (· * ·) ?_ ?_
  · rw [← v36 x0 x1 x2 x4 b h i j]
    refine congrArg _ (funext fun a => ?_)
    match a with | ⟨0, _⟩ => rfl | ⟨1, _⟩ => rfl | ⟨2, _⟩ => rfl | ⟨3, _⟩ => rfl
  · rw [← v38 x3 b h j d]
    refine congrArg _ (funext fun a => ?_)
    match a with | ⟨0, _⟩ => rfl | ⟨1, _⟩ => rfl | ⟨2, _⟩ => rfl | ⟨3, _⟩ => rfl

/-- THE REFERENCE'S RESULT is the attention of its arguments: queries `x0` and `x1`, keys `x2` and `x4`, values `x3`. -/
theorem result_eq : val_main_v42 (F := Ideal) x0 x1 x2 x3 x4 = result x0 x1 x2 x4 x3 :=
  eq_result x0 x1 x2 x4 x3 fun b h i x => v42 x0 x1 x2 x3 x4 b h i x

end Cert.ReferenceIdeal.Attn

end
-- ==== Proof.Claims.lean ====
/-
  The claims, each proved from the programs' runs: the frames, the named constant, and the equality of the idealized
  kernel with the reference on finite queries and keys.
-/
module

public import proofs.«01_k».proof.Defs
public import proofs.«01_k».proof.Proof.Gen.Kernel.Frame
public import proofs.«01_k».proof.Proof.Gen.KernelIdeal.Frame
public import proofs.«01_k».proof.Proof.Blocks
public import proofs.«01_k».proof.Proof.Reference
public import Idealize.ShloMosaic.Adequacy
public import Idealize.ShloMosaic.Init

@[expose] public section

noncomputable section

namespace Cert.Claims

open Idealize.ShloMosaic Idealize.ShloMosaic.TcCoe Idealize.SL.Sem

/-- The side conditions of the precondition's program. -/
theorem preFacts : Cert.Pre_finite_scores.Facts := ⟨by decide, by decide⟩

instance : Cert.Pre_finite_scores.Facts := preFacts

/-- The kernel at its word values terminates without a fault and keeps its arguments. -/
theorem frame_kernel : Cert.quiescent_Kernel := fun m ρ _ => Cert.Kernel.Gen.frame m ρ

/-- So does the idealized kernel, -/
theorem frame_ideal : Cert.quiescent_KernelIdeal := fun m ρ _ => Cert.KernelIdeal.Gen.frame m ρ

/-- in particular from finite queries and keys. -/
theorem frame_ideal_finite : Cert.quiescent_KernelIdeal_pre_finite_scores := fun m ρ _ => Cert.KernelIdeal.Gen.frame m ρ

/-- So does the reference, -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- in particular from finite queries and keys. -/
theorem frame_reference_finite : Cert.quiescent_ReferenceIdeal_pre_finite_scores := fun m ρ _ => frame_reference m ρ trivial

/-- The idealized kernel is the kernel with its mask constant named −∞. -/
theorem preserves : Cert.preserves_Kernel_KernelIdeal :=
  IdealRules.named_const.statement Cert.KernelIdeal.κ "neg" .f32 0xF149F2CA#32 ⊥ rfl

/-- A value whose magnitude compares below +∞ is finite. -/
theorem finite_of_olt {y : EReal} (h : Ideal.cmp .olt (max y (-y)) (Ideal.ofBits .bf16 0x7F80#16) = 1#1) : y ≠ ⊤ ∧ y ≠ ⊥ := by
  have e : Ideal.ofBits .bf16 0x7F80#16 = ⊤ := by simp [Ideal.ofBits, Ideal.ieee]
  rw [e] at h
  constructor <;> rintro rfl <;> simp [Ideal.cmp] at h

/-- The precondition: both parts of the queries and of the keys are finite. -/
theorem finite_of_pre (m : (ℓ : Loc Cert.KernelIdeal.nD Cert.KernelIdeal.τ Cert.KernelIdeal.sig) → Buf (Elt Ideal) ℓ)
    (h : Cert.Pre_KernelIdeal_finite_scores m) (c : Dev Cert.KernelIdeal.nD) : Cert.KernelIdeal.Blocks.Finite m c := by
  obtain ⟨h0, h1, h2, h4⟩ := h c
  exact ⟨fun I => finite_of_olt (congrFun h0 I), fun I => finite_of_olt (congrFun h1 I), fun I => finite_of_olt (congrFun h2 I),
    fun I => finite_of_olt (congrFun h4 I)⟩

/-- On finite queries and keys the idealized kernel and the reference end with the same array: the attention of their
    arguments. -/
theorem algebraic : Cert.algebraic_KernelIdeal_ReferenceIdeal_pre_finite_scores := by
  intro m ρ m' ρ' hpre hagree
  refine ⟨fun c => Cert.KernelIdeal.Blocks.G m c, Cert.KernelIdeal.Blocks.run m ρ (finite_of_pre m hpre), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  rw [Cert.ReferenceIdeal.Read.val_main_v42_eq, e0, e1, e2, e3, e4]
  exact Cert.ReferenceIdeal.Attn.result_eq _ _ _ _ _

end Cert.Claims

end
-- ==== Proof.ExpertsIdealWords.lean ====
module

public import proofs.«01_k».proof.ExpertsIdeal
public import proofs.«01_k».proof.Proof.Gen.ExpertsIdeal
public import proofs.«01_k».proof.Proof.Gen.ExpertsIdeal.Skeleton
public import proofs.«01_k».proof.Proof.Gen.ExpertsIdeal.Loops
public import proofs.«01_k».proof.Proof.Gen.ExpertsIdeal.Launch
public import Idealize.ShloMosaic.Lib.LoopRemainder

/-! The integer arithmetic of the expert kernel, in closed form.

The routing table holds the first row of each expert's group; the groups are multiples of the tile height 128, so the
table's words are `128 * a` with `a` at most 160. On such words the kernel's quotients and remainders are the ones of the
natural numbers. -/

@[expose] public section

set_option maxRecDepth 8192

namespace Cert.ExpertsIdeal.Words

open Idealize.ShloMosaic Cert.ExpertsIdeal

/-- The table's word for a group that starts at tile `a`. -/
abbrev w (a : Nat) : BitVec 32 := BitVec.ofNat 32 (128 * a)

/-- The kernel's floor quotient by 128. -/
def fd (v : BitVec 32) : BitVec 32 :=
  Scalar.select
    (Scalar.andi
      (Scalar.cmpi .ne
        (Scalar.subi (Scalar.extui (Scalar.cmpi .sgt v 0#32)) (Scalar.extui (Scalar.cmpi .slt v 0#32)))
        (Scalar.subi (Scalar.extui (Scalar.cmpi .sgt 128#32 0#32)) (Scalar.extui (Scalar.cmpi .slt 128#32 0#32))))
      (Scalar.cmpi .ne (Scalar.remsi v 128#32) 0#32))
    (Scalar.subi (Scalar.divsi v 128#32) 1#32) (Scalar.divsi v 128#32)

/-- The kernel's remainder by `n`, brought to the sign of `n`. -/
def md (n v : BitVec 32) : BitVec 32 :=
  Scalar.select
    (Scalar.andi
      (Scalar.xori
        (Scalar.cmpi .slt (Scalar.remsi v (Scalar.select (Scalar.cmpi .eq n 0#32) 1#32 n)) 0#32)
        (Scalar.cmpi .slt (Scalar.select (Scalar.cmpi .eq n 0#32) 1#32 n) 0#32))
      (Scalar.cmpi .ne (Scalar.remsi v (Scalar.select (Scalar.cmpi .eq n 0#32) 1#32 n)) 0#32))
    (Scalar.addi (Scalar.remsi v (Scalar.select (Scalar.cmpi .eq n 0#32) 1#32 n)) (Scalar.select (Scalar.cmpi .eq n 0#32) 1#32 n))
    (Scalar.remsi v (Scalar.select (Scalar.cmpi .eq n 0#32) 1#32 n))

theorem fd_fin : ∀ a : Fin 161, fd (w a.val) = BitVec.ofNat 32 a.val := by decide +kernel
theorem fd_w {a : Nat} (h : a ≤ 160) : fd (w a) = BitVec.ofNat 32 a := fd_fin ⟨a, by omega⟩

theorem md12_fin : ∀ a : Fin 200, md 12#32 (BitVec.ofNat 32 a.val) = BitVec.ofNat 32 (a.val % 12) := by decide +kernel
theorem md12 {a : Nat} (h : a < 200) : md 12#32 (BitVec.ofNat 32 a) = BitVec.ofNat 32 (a % 12) := md12_fin ⟨a, h⟩
theorem md2_fin : ∀ a : Fin 200, md 2#32 (BitVec.ofNat 32 a.val) = BitVec.ofNat 32 (a.val % 2) := by decide +kernel
theorem md2 {a : Nat} (h : a < 200) : md 2#32 (BitVec.ofNat 32 a) = BitVec.ofNat 32 (a % 2) := md2_fin ⟨a, h⟩

theorem min_fin : ∀ a b : Fin 200, Scalar.minsi (BitVec.ofNat 32 a.val) (BitVec.ofNat 32 b.val)
    = BitVec.ofNat 32 (min a.val b.val) := by decide +kernel
theorem min_w {a b : Nat} (ha : a < 200) (hb : b < 200) :
    Scalar.minsi (BitVec.ofNat 32 a) (BitVec.ofNat 32 b) = BitVec.ofNat 32 (min a b) := min_fin ⟨a, ha⟩ ⟨b, hb⟩

theorem add_w (a b : Nat) : Scalar.addi (BitVec.ofNat 32 a) (BitVec.ofNat 32 b) = BitVec.ofNat 32 (a + b) := by
  simp [Scalar.addi, IntOp.addi, BitVec.ofNat_add]
theorem sub_w {a b : Nat} (h : b ≤ a) (ha : a < 2 ^ 31) :
    Scalar.subi (BitVec.ofNat 32 a) (BitVec.ofNat 32 b) = BitVec.ofNat 32 (a - b) := by
  apply BitVec.eq_of_toNat_eq
  simp only [Scalar.subi, IntOp.subi, BitVec.toNat_sub, BitVec.toNat_ofNat]
  omega
theorem mul_w (a b : Nat) : Scalar.muli (BitVec.ofNat 32 a) (BitVec.ofNat 32 b) = BitVec.ofNat 32 (a * b) := by
  simp [Scalar.muli, IntOp.muli, BitVec.ofNat_mul]
theorem div1_fin : ∀ a : Fin 200, Scalar.divsi (BitVec.ofNat 32 a.val) 1#32 = BitVec.ofNat 32 a.val := by decide +kernel
theorem div1 {a : Nat} (h : a < 200) : Scalar.divsi (BitVec.ofNat 32 a) 1#32 = BitVec.ofNat 32 a := div1_fin ⟨a, h⟩
theorem toNat_w {a : Nat} (h : a < 2 ^ 32) : (BitVec.ofNat 32 a).toNat = a := by
  rw [BitVec.toNat_ofNat]; exact Nat.mod_eq_of_lt h
theorem toInt_w {a : Nat} (h : a < 2 ^ 31) : (BitVec.ofNat 32 a).toInt = a := by
  rw [BitVec.toInt_eq_toNat_cond, toNat_w (by omega), if_pos (by omega)]
theorem iv_w (k : Nat) : Scf.iv 0#32 1#32 k = BitVec.ofNat 32 k := by
  simp [Scf.iv]
theorem trips_w {b : Nat} (h : b < 2 ^ 31) : Scf.trips 0#32 (BitVec.ofNat 32 b) 1#32 = b := by
  unfold Scf.trips; rw [toInt_w h]; simp

variable {a b n : Nat}

theorem t1_trips (hab : a ≤ b) (hb : b ≤ 160) : (k0_t1_loop (w a) (w b)).trips = b - a := by
  show Scf.trips 0#32 (Scalar.addi 0#32 (Scalar.muli (Scalar.divsi (Scalar.subi (Scalar.subi (fd (w b)) (fd (w a))) 0#32) 1#32) 1#32)) 1#32 = b - a
  rw [Scalar.muli_divsi_one, fd_w hb, fd_w (by omega), sub_w hab (by omega), sub_w (Nat.zero_le _) (by omega), add_w,
    trips_w (by omega)]
  omega
theorem t1_ok (hab : a ≤ b) (hb : b ≤ 160) : (k0_t1_loop (w a) (w b)).OK := by
  show Scf.OK 0#32 (Scalar.addi 0#32 (Scalar.muli (Scalar.divsi (Scalar.subi (Scalar.subi (fd (w b)) (fd (w a))) 0#32) 1#32) 1#32)) 1#32
  rw [Scalar.muli_divsi_one, fd_w hb, fd_w (by omega), sub_w hab (by omega), sub_w (Nat.zero_le _) (by omega), add_w]
  unfold Scf.OK
  rw [trips_w (by omega)]
  simp
  omega
theorem t2_trips (v1 v21 : BitVec 32) : (k0_t2_loop v1 v21).trips = 0 :=
  Scf.rem_trips 0#32 (Scalar.subi (Scalar.subi (fd v21) (fd v1)) 0#32)
theorem t2_ok (v1 v21 : BitVec 32) : (k0_t2_loop v1 v21).OK :=
  Scf.rem_ok 0#32 (Scalar.subi (Scalar.subi (fd v21) (fd v1)) 0#32)
theorem t2_none {v1 v21 : BitVec 32} (k : Fin (k0_t2_loop v1 v21).trips) : False :=
  Scf.rem_no_trip 0#32 (Scalar.subi (Scalar.subi (fd v21) (fd v1)) 0#32) k

theorem t3_trips (hn : n ≤ 160) : (k0_t3_loop (w n)).trips = 160 - n := by
  show Scf.trips 0#32 (Scalar.addi 0#32 (Scalar.muli (Scalar.divsi (Scalar.subi (fd (Scalar.subi 20480#32 (w n))) 0#32) 1#32) 1#32)) 1#32 = 160 - n
  rw [Scalar.muli_divsi_one, sub_w (a := 20480) (by omega) (by omega), show 20480 - 128 * n = 128 * (160 - n) by omega,
    fd_w (by omega), sub_w (Nat.zero_le _) (by omega), add_w, trips_w (by omega)]
  omega
theorem t3_ok (hn : n ≤ 160) : (k0_t3_loop (w n)).OK := by
  show Scf.OK 0#32 (Scalar.addi 0#32 (Scalar.muli (Scalar.divsi (Scalar.subi (fd (Scalar.subi 20480#32 (w n))) 0#32) 1#32) 1#32)) 1#32
  rw [Scalar.muli_divsi_one, sub_w (a := 20480) (by omega) (by omega), show 20480 - 128 * n = 128 * (160 - n) by omega,
    fd_w (by omega), sub_w (Nat.zero_le _) (by omega), add_w]
  unfold Scf.OK
  rw [trips_w (by omega)]
  simp
  omega
theorem t4_none {v : BitVec 32} (k : Fin (k0_t4_loop v).trips) : False :=
  Scf.rem_no_trip 0#32 (Scalar.subi (fd (Scalar.subi 20480#32 v)) 0#32) k
theorem t4_ok (v : BitVec 32) : (k0_t4_loop v).OK := Scf.rem_ok 0#32 (Scalar.subi (fd (Scalar.subi 20480#32 v)) 0#32)
theorem t6_none {v : BitVec 32} (k : Fin (k0_t6_loop v).trips) : False :=
  Scf.rem_no_trip 0#32 (Scalar.subi (fd (Scalar.subi 20480#32 v)) 0#32) k
theorem t6_ok (v : BitVec 32) : (k0_t6_loop v).OK := Scf.rem_ok 0#32 (Scalar.subi (fd (Scalar.subi 20480#32 v)) 0#32)
theorem t5_trips (hn : n ≤ 160) : (k0_t5_loop (w n)).trips = 160 - n := t3_trips hn
theorem t5_ok (hn : n ≤ 160) : (k0_t5_loop (w n)).OK := t3_ok hn

section trip
variable (hab : a ≤ b) (hb : b ≤ 160) (k : Fin (k0_t1_loop (w a) (w b)).trips)
include hab hb

theorem t1_lt : a + k.val < b := by have := k.isLt; have e := t1_trips hab hb; omega

theorem tile_w : Scalar.addi (fd (w a)) (Scf.iv 0#32 1#32 k.val) = BitVec.ofNat 32 (a + k.val) := by
  have := t1_lt hab hb k
  rw [fd_w (by omega), iv_w, add_w]

theorem row_w : Scalar.muli (Scalar.addi (fd (w a)) (Scf.iv 0#32 1#32 k.val)) 128#32 = BitVec.ofNat 32 (128 * (a + k.val)) := by
  rw [tile_w hab hb k, mul_w, Nat.mul_comm]

theorem in_w : md 12#32 (Scalar.addi (fd (w a)) (Scf.iv 0#32 1#32 k.val)) = BitVec.ofNat 32 ((a + k.val) % 12) := by
  have := t1_lt hab hb k
  rw [tile_w hab hb k, md12 (by omega)]

theorem out_w : md 2#32 (Scalar.addi (fd (w a)) (Scf.iv 0#32 1#32 k.val)) = BitVec.ofNat 32 ((a + k.val) % 2) := by
  have := t1_lt hab hb k
  rw [tile_w hab hb k, md2 (by omega)]

theorem ahead_w : Scalar.subi (Scalar.addi (Scalar.addi (fd (w a)) (Scf.iv 0#32 1#32 k.val)) 12#32) 1#32
    = BitVec.ofNat 32 (a + k.val + 11) := by
  have := t1_lt hab hb k
  rw [tile_w hab hb k, add_w, sub_w (by omega) (by omega)]; congr 1

theorem off4_eq : k0_off4 (w a) (w b) k = ![(a + k.val) % 12] := by
  show ![(md 12#32 (Scalar.addi (fd (w a)) (Scf.iv 0#32 1#32 k.val))).toNat] = _
  rw [in_w hab hb k, toNat_w (by omega)]
theorem off5_eq : k0_off5 (w a) (w b) k = ![(a + k.val) % 12, 0, 0] := by
  show ![(md 12#32 (Scalar.addi (fd (w a)) (Scf.iv 0#32 1#32 k.val))).toNat, 0, 0] = _
  rw [in_w hab hb k, toNat_w (by omega)]
theorem off6_eq : k0_off6 (w a) (w b) k = ![128 * (a + k.val), 0] := by
  have := t1_lt hab hb k
  show ![(Scalar.muli (Scalar.addi (fd (w a)) (Scf.iv 0#32 1#32 k.val)) 128#32).toNat, 0] = _
  rw [row_w hab hb k, toNat_w (by omega)]
theorem off7_eq : k0_off7 (w a) (w b) k = ![(a + k.val) % 2] := by
  show ![(md 2#32 (Scalar.addi (fd (w a)) (Scf.iv 0#32 1#32 k.val))).toNat] = _
  rw [out_w hab hb k, toNat_w (by omega)]
theorem off8_eq : k0_off8 (w a) (w b) k = ![128 * (a + k.val), 0] := by
  have := t1_lt hab hb k
  show ![(Scalar.muli (Scalar.addi (fd (w a)) (Scf.iv 0#32 1#32 k.val)) 128#32).toNat, 0] = _
  rw [row_w hab hb k, toNat_w (by omega)]
theorem off9_eq : k0_off9 (w a) (w b) k = ![(a + k.val) % 2, 0, 0] := by
  show ![(md 2#32 (Scalar.addi (fd (w a)) (Scf.iv 0#32 1#32 k.val))).toNat, 0, 0] = _
  rw [out_w hab hb k, toNat_w (by omega)]
theorem off10_eq : k0_off10 (w a) (w b) k = ![(a + k.val + 11) % 12] := by
  have := t1_lt hab hb k
  show ![(md 12#32 (Scalar.subi (Scalar.addi (Scalar.addi (fd (w a)) (Scf.iv 0#32 1#32 k.val)) 12#32) 1#32)).toNat] = _
  rw [ahead_w hab hb k, md12 (by omega), toNat_w (by omega)]
theorem off11_eq : k0_off11 (w a) (w b) k = ![(a + k.val + 11) % 12, 0, 0] := by
  have := t1_lt hab hb k
  show ![(md 12#32 (Scalar.subi (Scalar.addi (Scalar.addi (fd (w a)) (Scf.iv 0#32 1#32 k.val)) 12#32) 1#32)).toNat, 0, 0] = _
  rw [ahead_w hab hb k, md12 (by omega), toNat_w (by omega)]
theorem next_w (hn1 : 1 ≤ n) (hn : n ≤ 160) :
    Scalar.muli (Scalar.minsi (Scalar.subi (Scalar.addi (Scalar.addi (fd (w a)) (Scf.iv 0#32 1#32 k.val)) 12#32) 1#32)
      (Scalar.subi (fd (w n)) 1#32)) 128#32 = BitVec.ofNat 32 (128 * min (a + k.val + 11) (n - 1)) := by
  have := t1_lt hab hb k
  rw [ahead_w hab hb k, fd_w hn, sub_w hn1 (by omega), min_w (by omega) (by omega), mul_w, Nat.mul_comm]
theorem off12_eq (hn1 : 1 ≤ n) (hn : n ≤ 160) :
    k0_off12 (w a) (w b) (w n) k = ![128 * min (a + k.val + 11) (n - 1), 0] := by
  show ![(Scalar.muli (Scalar.minsi (Scalar.subi (Scalar.addi (Scalar.addi (fd (w a)) (Scf.iv 0#32 1#32 k.val)) 12#32) 1#32)
      (Scalar.subi (fd (w n)) 1#32)) 128#32).toNat, 0] = _
  rw [next_w hab hb k hn1 hn, toNat_w (by omega)]
theorem off13_eq : k0_off13 (w a) (w b) k = ![(a + k.val) % 12, 0, 0] := by
  show ![(md 12#32 (Scalar.addi (fd (w a)) (Scf.iv 0#32 1#32 k.val))).toNat, 0, 0] = _
  rw [in_w hab hb k, toNat_w (by omega)]
theorem off14_eq : k0_off14 (w a) (w b) k = ![(a + k.val) % 12, 0, 2048] := by
  show ![(md 12#32 (Scalar.addi (fd (w a)) (Scf.iv 0#32 1#32 k.val))).toNat, 0, 2048] = _
  rw [in_w hab hb k, toNat_w (by omega)]
theorem off15_eq : k0_off15 (w a) (w b) k = ![(a + k.val) % 12, 0, 2049] := by
  show ![(md 12#32 (Scalar.addi (fd (w a)) (Scf.iv 0#32 1#32 k.val))).toNat, 0, 2049] = _
  rw [in_w hab hb k, toNat_w (by omega)]
theorem off16_eq : k0_off16 (w a) (w b) k = ![(a + k.val) % 2, 0, 0] := by
  show ![(md 2#32 (Scalar.addi (fd (w a)) (Scf.iv 0#32 1#32 k.val))).toNat, 0, 0] = _
  rw [out_w hab hb k, toNat_w (by omega)]
end trip

theorem off3_eq (hn1 : 1 ≤ n) (hn : n ≤ 160) {r : Nat} (hr : r < 11) :
    k0_off3 (w n) (BitVec.ofNat 32 r) = ![128 * min r (n - 1), 0] := by
  show ![(Scalar.muli (Scalar.minsi (BitVec.ofNat 32 r) (Scalar.subi (fd (w n)) 1#32)) 128#32).toNat, 0] = _
  rw [fd_w hn, sub_w hn1 (by omega), min_w (by omega) (by omega), mul_w, toNat_w (by omega), Nat.mul_comm]
theorem off30_eq (hn : n ≤ 160) {r : Nat} (hr : r < 11) : k0_off30 (w n) (BitVec.ofNat 32 r) = ![(n + r) % 12] := by
  show ![(md 12#32 (Scalar.addi (fd (w n)) (BitVec.ofNat 32 r))).toNat] = _
  rw [fd_w hn, add_w, md12 (by omega), toNat_w (by omega)]
theorem off31_eq (hn : n ≤ 160) {r : Nat} (hr : r < 11) : k0_off31 (w n) (BitVec.ofNat 32 r) = ![(n + r) % 12, 0, 0] := by
  show ![(md 12#32 (Scalar.addi (fd (w n)) (BitVec.ofNat 32 r))).toNat, 0, 0] = _
  rw [fd_w hn, add_w, md12 (by omega), toNat_w (by omega)]
theorem tail_w (hn : n ≤ 160) (k : Nat) : Scalar.addi (w n) (Scalar.muli (Scf.iv 0#32 1#32 k) 128#32) = BitVec.ofNat 32 (128 * (n + k)) := by
  rw [iv_w, mul_w, add_w]; congr 1; omega
theorem off32_eq (hn : n ≤ 160) (k : Fin (k0_t3_loop (w n)).trips) : k0_off32 (w n) k = ![128 * (n + k.val), 0] := by
  have := lt_of_lt_of_eq k.isLt (t3_trips hn)
  show ![(Scalar.addi (w n) (Scalar.muli (Scf.iv 0#32 1#32 k.val) 128#32)).toNat, 0] = _
  rw [tail_w hn, toNat_w (by omega)]
theorem off34_eq (hn : n ≤ 160) (k : Fin (k0_t5_loop (w n)).trips) : k0_off34 (w n) k = ![128 * (n + k.val), 0] := by
  have := lt_of_lt_of_eq k.isLt (t5_trips hn)
  show ![(Scalar.addi (w n) (Scalar.muli (Scf.iv 0#32 1#32 k.val) 128#32)).toNat, 0] = _
  rw [tail_w hn, toNat_w (by omega)]

theorem inb1 {N a' : Nat} {s t : Shape} (hs : s = ⟨1, ![1]⟩) (h : a' < N) : ∀ x, (![a'] : Fin 1 → Nat) x + (⟨1, ![1]⟩ : Shape).size x ≤ (⟨1, ![N]⟩ : Shape).size x := by
  intro x; fin_cases x; exact Nat.succ_le_of_lt h
theorem inb3 {N P Q p q a' c : Nat} (h : a' < N) (hp : p ≤ P) (hq : c + q ≤ Q) :
    ∀ x, (![a', 0, c] : Fin 3 → Nat) x + (⟨3, ![1, p, q]⟩ : Shape).size x ≤ (⟨3, ![N, P, Q]⟩ : Shape).size x := by
  intro x; fin_cases x
  · exact Nat.succ_le_of_lt h
  · simpa using hp
  · simpa using hq
theorem inb2 {N P p a' : Nat} (h : a' + p ≤ N) :
    ∀ x, (![a', 0] : Fin 2 → Nat) x + (⟨2, ![p, P]⟩ : Shape).size x ≤ (⟨2, ![N, P]⟩ : Shape).size x := by
  intro x; fin_cases x
  · simpa using h
  · simp

theorem chk2 (hab : a ≤ b) (hb : b ≤ 160) : k0_chk2 (w a) (w b) := by
  have B := fun k => t1_lt hab hb k
  have D : ∀ k : Fin (k0_t1_loop (w a) (w b)).trips,
      128 ∣ (Scalar.muli (Scalar.addi (fd (w a)) (Scf.iv 0#32 1#32 k.val)) 128#32).toNat := fun k => by
    have := B k; rw [row_w hab hb k, toNat_w (by omega)]; exact Nat.dvd_mul_right _ _
  refine ⟨fun _ => t1_ok hab hb, fun k _ => ?_, fun k _ => ?_, fun k _ => ?_, fun k _ => ?_, fun k _ => ?_, fun k _ => ?_,
    fun k _ => ?_, fun k _ => ?_, fun k _ => ?_, fun k _ => ?_, fun k _ => ?_, fun k _ => ?_, fun k _ => ?_, fun k _ => ?_,
    fun k _ => ?_, fun _ => t2_ok _ _, fun k => (t2_none k).elim, fun k => (t2_none k).elim, fun k => (t2_none k).elim,
    fun k => (t2_none k).elim, fun k => (t2_none k).elim, fun k => (t2_none k).elim, fun k => (t2_none k).elim,
    fun k => (t2_none k).elim, fun k => (t2_none k).elim, fun k => (t2_none k).elim, fun k => (t2_none k).elim,
    fun k => (t2_none k).elim, fun k => (t2_none k).elim, fun k => (t2_none k).elim, fun k => (t2_none k).elim⟩
  · exact D k
  · rw [off4_eq hab hb k]; exact inb1 (s := S1) (t := S1) rfl (Nat.mod_lt _ (by decide))
  · rw [off5_eq hab hb k]; exact inb3 (Nat.mod_lt _ (by decide)) le_rfl le_rfl
  · rw [off6_eq hab hb k]; exact inb2 (by have := B k; omega)
  · exact D k
  · rw [off7_eq hab hb k]; exact inb1 (s := S1) (t := S1) rfl (Nat.mod_lt _ (by decide))
  · rw [off8_eq hab hb k]; exact inb2 (by have := B k; omega)
  · rw [off9_eq hab hb k]; exact inb3 (Nat.mod_lt _ (by decide)) le_rfl le_rfl
  · rw [off10_eq hab hb k]; exact inb1 (s := S1) (t := S1) rfl (Nat.mod_lt _ (by decide))
  · rw [off11_eq hab hb k]; exact inb3 (Nat.mod_lt _ (by decide)) le_rfl le_rfl
  · rw [off13_eq hab hb k]; exact inb3 (Nat.mod_lt _ (by decide)) le_rfl (by decide)
  · rw [off14_eq hab hb k]; exact inb3 (Nat.mod_lt _ (by decide)) le_rfl (by decide)
  · rw [off15_eq hab hb k]; exact inb3 (Nat.mod_lt _ (by decide)) le_rfl (by decide)
  · rw [off16_eq hab hb k]; exact inb3 (Nat.mod_lt _ (by decide)) le_rfl le_rfl
  · exact D k

theorem chk1 (i : grid0.Coords) (hab : a ≤ b) (hb : b ≤ 160) (hn1 : 128 ≤ n) (hn : n ≤ 160) : k0_chk1 i (w a) (w b) (w n) := by
  have D : ∀ r : Nat, r < 11 → 128 ∣ (Scalar.muli (Scalar.minsi (BitVec.ofNat 32 r) (Scalar.subi (fd (w n)) 1#32)) 128#32).toNat :=
    fun r hr => by
      rw [fd_w hn, sub_w (by omega) (by omega), min_w (by omega) (by omega), mul_w, toNat_w (by omega)]
      exact Nat.dvd_mul_left _ _
  refine ⟨fun _ => D 0 (by decide), fun _ r => ?_, fun _ => D 1 (by decide), fun _ => D 2 (by decide), fun _ => D 3 (by decide),
    fun _ => D 4 (by decide), fun _ => D 5 (by decide), fun _ => D 6 (by decide), fun _ => D 7 (by decide), fun _ => D 8 (by decide),
    fun _ => D 9 (by decide), fun _ => D 10 (by decide), fun k _ => ?_, fun k _ => ?_, fun k => (t2_none k).elim,
    fun k => (t2_none k).elim, fun _ r => ?_, fun _ r => ?_⟩
  · rw [off3_eq (by omega) hn r.isLt]; exact inb2 (by omega)
  · show 128 ∣ (Scalar.muli (Scalar.minsi (Scalar.subi (Scalar.addi (Scalar.addi (fd (w a)) (Scf.iv 0#32 1#32 k.val)) 12#32) 1#32)
      (Scalar.subi (fd (w n)) 1#32)) 128#32).toNat
    rw [next_w hab hb k (by omega) hn, toNat_w (by omega)]; exact Nat.dvd_mul_right _ _
  · rw [off12_eq hab hb k (by omega) hn]; exact inb2 (by omega)
  · rw [off30_eq hn r.isLt]; exact inb1 (s := S1) (t := S1) rfl (Nat.mod_lt _ (by decide))
  · rw [off31_eq hn r.isLt]; exact inb3 (Nat.mod_lt _ (by decide)) le_rfl le_rfl

theorem chk3 (i : grid0.Coords) (hn : n ≤ 160) : k0_chk3 i (w n) := by
  have D : ∀ k : Nat, n + k < 160 → 128 ∣ (Scalar.addi (w n) (Scalar.muli (Scf.iv 0#32 1#32 k) 128#32)).toNat := fun k hk => by
    rw [tail_w hn, toNat_w (by omega)]; exact Nat.dvd_mul_right _ _
  refine ⟨fun _ => t3_ok hn, fun k _ => ?_, fun k _ => ?_, fun _ => t4_ok _, fun k => (t4_none k).elim, fun k => (t4_none k).elim,
    fun _ => t5_ok hn, fun k _ => ?_, fun k _ => ?_, fun _ => t6_ok _, fun k => (t6_none k).elim, fun k => (t6_none k).elim⟩
  · have := lt_of_lt_of_eq k.isLt (t3_trips hn); exact D k.val (by omega)
  · have := lt_of_lt_of_eq k.isLt (t3_trips hn); rw [off32_eq hn k]; exact inb2 (by omega)
  · have := lt_of_lt_of_eq k.isLt (t5_trips hn); exact D k.val (by omega)
  · have := lt_of_lt_of_eq k.isLt (t5_trips hn); rw [off34_eq hn k]; exact inb2 (by omega)

theorem gt_fin : ∀ x : Fin 200, Scalar.cmpi .ne (Scalar.extui (Scalar.cmpi .sgt (BitVec.ofNat 32 x.val) 0#32) : BitVec 32) 0#32
    = if 0 < x.val then 1#1 else 0#1 := by decide +kernel

theorem cond2_eq (hab : a ≤ b) (hb : b ≤ 160) : k0_cond2 (w a) (w b) = if a < b then 1#1 else 0#1 := by
  show Scalar.cmpi .ne (Scalar.extui (Scalar.cmpi .sgt (Scalar.subi (fd (w b)) (fd (w a))) 0#32) : BitVec 32) 0#32 = _
  rw [fd_w hb, fd_w (by omega), sub_w hab (by omega), gt_fin ⟨b - a, by omega⟩]
  simp

end Cert.ExpertsIdeal.Words
-- ==== Proof.ExpertsIdealRing.lean ====
/-
  The pieces the feed-forward kernel moves by its own copies, and the rule of each of its memory operations.

  `xs` (20480 × 2176) is read a tile of 128 rows at a time into one of the twelve slots of the first scratch buffer, each
  slot with a semaphore of its own; a tile of 128 rows of `ys` is written out of one of the two slots of the second
  scratch buffer, each again with a semaphore of its own. The elements of a slot and of a tile are named by what their
  leading index is, and each rule is stated for whatever offsets the program computes, given their closed form.
-/
module

public import proofs.«01_k».proof.Proof.ExpertsIdealWords
public import Idealize.ShloMosaic.Lib.Pipeline.KitQuiescent
public import Idealize.ShloMosaic.Lib.Ring
public import Idealize.ShloMosaic.Lib.Batch
public import Idealize.ShloMosaic.Lib.Tactic
public import Idealize.ShloMosaic.Lib.Pointwise
public import Idealize.ShloMosaic.Lib.ValueLayout

@[expose] public section

noncomputable section

namespace Cert.ExpertsIdeal.Ring

open Cert.ExpertsIdeal Cert.ExpertsIdeal.Gen Cert.ExpertsIdeal.Words
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := UR sig nD τ × Counters
local notation "𝕄" => MT nD τ sig Unit (Elt F) ℕ UU ℕ
abbrev 𝒱₀ : Variants := Variants.none

/-! ## The pieces -/

abbrev xT (off : Fin 2 → Nat) (h : ∀ x, off x + S128x2176.size x ≤ S20480x2176.size x) : Memref sig .tc .hbm S128x2176 .f32 :=
  (Memref.whole main_arg1 : Memref sig .tc .hbm S20480x2176 .f32).slice (Rect.unit (s := S20480x2176) off S128x2176.size h) (fun _ => rfl)
abbrev yT (off : Fin 2 → Nat) (h : ∀ x, off x + S128x2048.size x ≤ S20480x2048.size x) : Memref sig .tc .hbm S128x2048 .f32 :=
  (Memref.whole main_v0 : Memref sig .tc .hbm S20480x2048 .f32).slice (Rect.unit (s := S20480x2048) off S128x2048.size h) (fun _ => rfl)
abbrev xB : Memref sig .tc .vmem S12x128x2176 .f32 := Memref.whole cc0_scratch0
abbrev yB : Memref sig .tc .vmem S2x128x2048 .f32 := Memref.whole cc0_scratch1
abbrev xS (off : Fin 3 → Nat) (h : ∀ x, off x + S1x128x2176.size x ≤ S12x128x2176.size x) : Memref sig .tc .vmem S128x2176 .f32 :=
  (xB.slice (Rect.unit (s := S12x128x2176) off S1x128x2176.size h) (fun _ => rfl)).squeeze S128x2176 squeezes_S1x128x2176_S128x2176
abbrev yS (off : Fin 3 → Nat) (h : ∀ x, off x + S1x128x2048.size x ≤ S2x128x2048.size x) : Memref sig .tc .vmem S128x2048 .f32 :=
  (yB.slice (Rect.unit (s := S2x128x2048) off S1x128x2048.size h) (fun _ => rfl)).squeeze S128x2048 squeezes_S1x128x2048_S128x2048
abbrev xC (off : Fin 1 → Nat) (h : ∀ x, off x + S1.size x ≤ S12.size x) : DmaSem sig :=
  ((cc0_scratch2.slice (Rect.unit (s := S12) off S1.size h)).squeeze S_ squeezes_S1_S_).sem
abbrev yC (off : Fin 1 → Nat) (h : ∀ x, off x + S1.size x ≤ S2.size x) : DmaSem sig :=
  ((cc0_scratch3.slice (Rect.unit (s := S2) off S1.size h)).squeeze S_ squeezes_S1_S_).sem

/-- Slot `s`'s semaphore, of the twelve and of the two. -/
def cX (s : Fin 12) : DmaSem sig := xC ![s.val] (inb1 (s := S1) (t := S1) rfl s.isLt)
def cY (s : Fin 2) : DmaSem sig := yC ![s.val] (inb1 (s := S1) (t := S1) rfl s.isLt)

/-- The elements of slot `s` of either scratch buffer, and of tile `j` of `xs` and of `ys`. -/
def XSl (s : Nat) : Finset S12x128x2176.Idx := Finset.univ.filter fun i => (i 0).val = s
def YSl (s : Nat) : Finset S2x128x2048.Idx := Finset.univ.filter fun i => (i 0).val = s
def XTi (j : Nat) : Finset S20480x2176.Idx := Finset.univ.filter fun i => (i 0).val / 128 = j
def YTi (j : Nat) : Finset S20480x2048.Idx := Finset.univ.filter fun i => (i 0).val / 128 = j

theorem xS_set (s : Nat) (h) : (xS ![s, 0, 0] h).view.set = XSl s := by
  refine (View.set_reshape _ _).trans ((View.set_slice_whole _ _).trans ?_)
  ext i
  simp only [Rect.mem_set_unit, XSl, Finset.mem_filter, Finset.mem_univ, true_and]
  refine ⟨fun H => ?_, fun H a => ?_⟩
  · have h : s ≤ (i 0).val ∧ (i 0).val < s + 1 := H 0
    omega
  · have h0 : (i 0).val < 12 := (i 0).isLt; have h1 : (i 1).val < 128 := (i 1).isLt; have h2 : (i 2).val < 2176 := (i 2).isLt
    fin_cases a
    · exact ⟨H.ge, show (i 0).val < s + 1 by omega⟩
    · exact ⟨Nat.zero_le _, show (i 1).val < 0 + 128 by omega⟩
    · exact ⟨Nat.zero_le _, show (i 2).val < 0 + 2176 by omega⟩
theorem yS_set (s : Nat) (h) : (yS ![s, 0, 0] h).view.set = YSl s := by
  refine (View.set_reshape _ _).trans ((View.set_slice_whole _ _).trans ?_)
  ext i
  simp only [Rect.mem_set_unit, YSl, Finset.mem_filter, Finset.mem_univ, true_and]
  refine ⟨fun H => ?_, fun H a => ?_⟩
  · have h : s ≤ (i 0).val ∧ (i 0).val < s + 1 := H 0
    omega
  · have h0 : (i 0).val < 2 := (i 0).isLt; have h1 : (i 1).val < 128 := (i 1).isLt; have h2 : (i 2).val < 2048 := (i 2).isLt
    fin_cases a
    · exact ⟨H.ge, show (i 0).val < s + 1 by omega⟩
    · exact ⟨Nat.zero_le _, show (i 1).val < 0 + 128 by omega⟩
    · exact ⟨Nat.zero_le _, show (i 2).val < 0 + 2048 by omega⟩
theorem xT_set (j : Nat) (h) : (xT ![128 * j, 0] h).view.set = XTi j := by
  refine (View.set_slice_whole _ _).trans ?_
  ext i
  simp only [Rect.mem_set_unit, XTi, Finset.mem_filter, Finset.mem_univ, true_and]
  refine ⟨fun H => ?_, fun H a => ?_⟩
  · have h : 128 * j ≤ (i 0).val ∧ (i 0).val < 128 * j + 128 := H 0
    omega
  · have h1 : (i 1).val < 2176 := (i 1).isLt
    fin_cases a
    · exact ⟨show 128 * j ≤ (i 0).val by omega, show (i 0).val < 128 * j + 128 by omega⟩
    · exact ⟨Nat.zero_le _, show (i 1).val < 0 + 2176 by omega⟩
theorem yT_set (j : Nat) (h) : (yT ![128 * j, 0] h).view.set = YTi j := by
  refine (View.set_slice_whole _ _).trans ?_
  ext i
  simp only [Rect.mem_set_unit, YTi, Finset.mem_filter, Finset.mem_univ, true_and]
  refine ⟨fun H => ?_, fun H a => ?_⟩
  · have h : 128 * j ≤ (i 0).val ∧ (i 0).val < 128 * j + 128 := H 0
    omega
  · have h1 : (i 1).val < 2048 := (i 1).isLt
    fin_cases a
    · exact ⟨show 128 * j ≤ (i 0).val by omega, show (i 0).val < 128 * j + 128 by omega⟩
    · exact ⟨Nat.zero_le _, show (i 1).val < 0 + 2048 by omega⟩

/-- What a copy of a tile of `xs` moves on its semaphore, and one of a tile of `ys`. -/
def NX : ℕ := (xS ![0, 0, 0] (inb3 (by decide) le_rfl le_rfl)).view.dmaCredit
def NY : ℕ := (yT ![0, 0] (inb2 (by decide))).view.dmaCredit
theorem NX_eq (off h) : (xS off h).view.dmaCredit = NX := rfl
theorem NY_eq (off h) : (yT off h).view.dmaCredit = NY := rfl
theorem NX_pos : 0 < NX := View.dmaCredit_pos _ (by decide)
theorem NY_pos : 0 < NY := View.dmaCredit_pos _ (by decide)

section Rules
variable (c : Dev nD)

abbrev LX : Loc nD τ sig := (c : Thread nD τ).loc main_arg1
abbrev LY : Loc nD τ sig := (c : Thread nD τ).loc main_v0
abbrev LxB : Loc nD τ sig := (c : Thread nD τ).loc cc0_scratch0
abbrev LyB : Loc nD τ sig := (c : Thread nD τ).loc cc0_scratch1

/-- Slot `s` of the first scratch buffer holds tile `j` of `X`. -/
def Landed (X : S20480x2176.Idx → Elt F .f32) (s j : Nat) (f : S12x128x2176.Idx → Elt F .f32) : Prop :=
  ∀ (hs : s < 12) (hj : j < 160) (r : Fin 128) (q : Fin 2176), f (ix3 ⟨s, hs⟩ r q) = X (ix2 ⟨128 * j + r.val, by omega⟩ q)
/-- Slot `s` of the second scratch buffer holds the 128 × 2048 values `v`. -/
def HoldsY (v : S1x128x2048.Idx → Elt F .f32) (s : Nat) (f : S2x128x2048.Idx → Elt F .f32) : Prop :=
  ∀ (hs : s < 2) (r : Fin 128) (q : Fin 2048), f (ix3 ⟨s, hs⟩ r q) = v (ix3 0 r q)
/-- Tile `j` of `ys` holds the 128 × 2048 values `v`. -/
def TileY (v : S1x128x2048.Idx → Elt F .f32) (j : Nat) (f : S20480x2048.Idx → Elt F .f32) : Prop :=
  ∀ (hj : j < 160) (r : Fin 128) (q : Fin 2048), f (ix2 ⟨128 * j + r.val, by omega⟩ q) = v (ix3 0 r q)

/-- A copy of tile `j` of `xs` into slot `s`, under way; and what it brings. -/
def InD (X : Buf (Elt F) (LX c)) (q : PosShare TreeShare) (s j : Nat) : sProp 𝕄 :=
  iprop((∃ f : Buf (Elt F) (LxB c), ⌜Landed X s j f⌝ ∗ LxB c ↦[XSl s]{fullShare} f) ∗ LX c ↦[XTi j]{q} X)
def InF (X : Buf (Elt F) (LX c)) (q : PosShare TreeShare) (s : Fin 12) (j : Nat) : sProp 𝕄 :=
  iprop(Transfers.Flight countersEmb (c : Thread nD τ) (SemLoc.dma (cX s)) () NX (InD c X q s.val j)
    ∗ LX c ↦[Finset.univ \ XTi j]{q} X)

theorem xS_emb (s : Nat) (hs : s < 12) (h) (r : Fin 128) (q : Fin 2176) : (xS ![s, 0, 0] h).view.emb (ix2 r q) = ix3 ⟨s, hs⟩ r q := by
  show (Rect.unit (s := S12x128x2176) ![s, 0, 0] S1x128x2176.size h).emb (Shape.reshapeEquiv _ (ix2 r q)) = _
  rw [show ∀ h', Shape.reshapeEquiv h' (ix2 r q) = ix3 (0 : Fin 1) r q from fun h' => ValueIdx.reshapeEquiv_ix2_1ab h' r q]
  funext a; apply Fin.ext
  fin_cases a
  · exact show s + 1 * 0 = s by omega
  · exact show 0 + 1 * r.val = r.val by omega
  · exact show 0 + 1 * q.val = q.val by omega
theorem yS_emb (s : Nat) (hs : s < 2) (h) (r : Fin 128) (q : Fin 2048) : (yS ![s, 0, 0] h).view.emb (ix2 r q) = ix3 ⟨s, hs⟩ r q := by
  show (Rect.unit (s := S2x128x2048) ![s, 0, 0] S1x128x2048.size h).emb (Shape.reshapeEquiv _ (ix2 r q)) = _
  rw [show ∀ h', Shape.reshapeEquiv h' (ix2 r q) = ix3 (0 : Fin 1) r q from fun h' => ValueIdx.reshapeEquiv_ix2_1ab h' r q]
  funext a; apply Fin.ext
  fin_cases a
  · exact show s + 1 * 0 = s by omega
  · exact show 0 + 1 * r.val = r.val by omega
  · exact show 0 + 1 * q.val = q.val by omega
theorem xT_emb (j : Nat) (hj : j < 160) (h) (r : Fin 128) (q : Fin 2176) :
    (xT ![128 * j, 0] h).view.emb (ix2 r q) = ix2 ⟨128 * j + r.val, by omega⟩ q := by
  show (Rect.unit (s := S20480x2176) ![128 * j, 0] S128x2176.size h).emb (ix2 r q) = _
  funext a; apply Fin.ext
  fin_cases a
  · exact show 128 * j + 1 * r.val = _ by simp
  · exact show 0 + 1 * q.val = q.val by omega
theorem yT_emb (j : Nat) (hj : j < 160) (h) (r : Fin 128) (q : Fin 2048) :
    (yT ![128 * j, 0] h).view.emb (ix2 r q) = ix2 ⟨128 * j + r.val, by omega⟩ q := by
  show (Rect.unit (s := S20480x2048) ![128 * j, 0] S128x2048.size h).emb (ix2 r q) = _
  funext a; apply Fin.ext
  fin_cases a
  · exact show 128 * j + 1 * r.val = _ by simp
  · exact show 0 + 1 * q.val = q.val by omega

theorem landed_write (X : S20480x2176.Idx → Elt F .f32) (s j : Nat) (h1 h2) (f : S12x128x2176.Idx → Elt F .f32) :
    Landed X s j ((xS ![s, 0, 0] h1).view.write (Elt F) f ((xT ![128 * j, 0] h2).view.read (Elt F) X) Finset.univ) := by
  intro hs hj r q
  have key := (xS ![s, 0, 0] h1).view.write_emb_of_mem (Val := Elt F) f ((xT ![128 * j, 0] h2).view.read (Elt F) X)
    (M := Finset.univ) (x := ix2 r q) (Finset.mem_univ _)
  rw [xS_emb s hs] at key
  refine key.trans ?_
  show X ((xT ![128 * j, 0] h2).view.emb (ix2 r q)) = _
  rw [xT_emb j hj]

theorem tile_write (v : S1x128x2048.Idx → Elt F .f32) (s j : Nat) (hs : s < 2)
    (h1 : ∀ x, (![s, 0, 0] : Fin 3 → Nat) x + S1x128x2048.size x ≤ S2x128x2048.size x)
    (h2 : ∀ x, (![128 * j, 0] : Fin 2 → Nat) x + S128x2048.size x ≤ S20480x2048.size x)
    (fs : cc0_scratch1.ty.Contents (Elt F)) (hf : HoldsY (F := F) v s fs) (f : main_v0.ty.Contents (Elt F)) :
    TileY (F := F) v j ((yT ![128 * j, 0] h2).view.write (Elt F) f ((yS ![s, 0, 0] h1).view.read (Elt F) fs) Finset.univ) := by
  intro hj r q
  have key := (yT ![128 * j, 0] h2).view.write_emb_of_mem (Val := Elt F) f ((yS ![s, 0, 0] h1).view.read (Elt F) fs)
    (M := Finset.univ) (x := ix2 r q) (Finset.mem_univ _)
  rw [yT_emb j hj] at key
  refine key.trans ?_
  show fs ((yS ![s, 0, 0] h1).view.emb (ix2 r q)) = _
  rw [yS_emb s hs]
  exact hf hs r q

theorem enqIn (X : Buf (Elt F) (LX c)) {q : PosShare TreeShare} {s : Fin 12} {j : Nat}
    {o1 : Fin 1 → Nat} {o2 : Fin 3 → Nat} {o3 : Fin 2 → Nat} {h1 h2 h3}
    (e1 : o1 = ![s.val]) (e2 : o2 = ![s.val, 0, 0]) (e3 : o3 = ![128 * j, 0]) {w1 w2 w3 α}
    {k : PUnit → Prog (TpuEff nD τ sig (Elt F) Λ₀ .tc) α} {Q : α → sProp 𝕄} :
    iprop((LX c ↦{q} X) ∗ (∃ f : Buf (Elt F) (LxB c), LxB c ↦[XSl s.val]{fullShare} f) ∗ semVal ((c : Thread nD τ), SemLoc.dma (cX s)) 0)
      ⊢ iprop((InF c X q s j -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (xT o3 h3) (.here (xS o2 h2)) (.dma (xC o1 h1)) w1 w2 w3) k) Q) := by
  subst e1 e2 e3
  iintro ⟨HX, ⟨%f, Hs⟩, Hc⟩ Hk
  ihave HX := ((pointsTo_split_subset (ℓ := LX c) (f := X) (q := q) (Finset.subset_univ (XTi j))).1) $$ HX
  icases HX with ⟨HX, HR⟩
  rw [← xT_set j h3, ← xS_set s.val h2]
  iapply (Transfers.wp_dmaLocal countersEmb 𝒱₀ (c : Thread nD τ) none (sm := SemLoc.dma (cX s)) (dst := xS ![s.val, 0, 0] h2) () NX (NX_eq _ _) NX_pos (Finset.Subset.refl _)) $$ [HX Hs Hc]
  · isplitl [HX]; · iexact HX
    isplitl [Hs]; · iexact Hs
    iexact Hc
  iintro HF
  iapply Hk
  unfold InF
  isplitl [HF]
  · iapply (Transfers.Flight_mono (D' := InD c X q s.val j) countersEmb (c : Thread nD τ) ?_) $$ HF
    unfold InD
    rw [xT_set j h3, xS_set s.val h2]
    iintro ⟨A, B⟩
    isplitl [A]
    · iexists _; isplitr; · ipureintro; exact landed_write X s.val j h2 h3 f
      iexact A
    iexact B
  · rw [xT_set j h3]; iexact HR

/-- The core's tallies between its own waits: nothing owed. -/
abbrev Ow : sProp 𝕄 := iprop(∃ W : Waits sig Unit, owes (c : Thread nD τ) 0 W)
/-- Slot `s` of the first scratch buffer, holding tile `j`; of the second, at any contents; tile `j` of `ys`, as `P` says. -/
abbrev SX (X : Buf (Elt F) (LX c)) (s j : Nat) : sProp 𝕄 := iprop(∃ f : Buf (Elt F) (LxB c), ⌜Landed X s j f⌝ ∗ LxB c ↦[XSl s]{fullShare} f)
abbrev SY (s : Nat) : sProp 𝕄 := iprop(∃ f : Buf (Elt F) (LyB c), LyB c ↦[YSl s]{fullShare} f)
abbrev TY (P : (S20480x2048.Idx → Elt F .f32) → Prop) (j : Nat) : sProp 𝕄 := iprop(∃ f : Buf (Elt F) (LY c), ⌜P f⌝ ∗ LY c ↦[YTi j]{fullShare} f)

/-- A copy out of slot `s` to tile `j` of `ys`, under way. -/
def OutF (P : (S20480x2048.Idx → Elt F .f32) → Prop) (s : Fin 2) (j : Nat) : sProp 𝕄 :=
  Transfers.Flight countersEmb (c : Thread nD τ) (SemLoc.dma (cY s)) () NY iprop(TY c P j ∗ SY (F := F) c s.val)

/-- The kernel's program `p` run on core `c` with post `Q`. -/
abbrev WP {α : Type} (p : Prog (TpuEff nD τ sig (Elt F) Λ₀ .tc) α) (Q : α → sProp 𝕄) : sProp 𝕄 :=
  wp frame (wpE (defs₀ (F := F)) 𝒱₀ (c : Thread nD τ) none) Set.univ p Q
variable {α : Type} {Q : α → sProp (MT nD τ sig Unit (Elt F) ℕ UU ℕ)}

theorem waitIn (X : Buf (Elt F) (LX c)) {q : PosShare TreeShare} {s : Fin 12} {j : Nat}
    {o1 : Fin 1 → Nat} {o2 : Fin 3 → Nat} {h1 h2} (e1 : o1 = ![s.val]) {sp' s' e'} {srcw : Memref sig .tc sp' s' e'} {w1 w2}
    {k : PUnit → Prog (TpuEff nD τ sig (Elt F) Λ₀ .tc) α} :
    iprop(InF c X q s j ∗ Ow c)
      ⊢ iprop((iprop(SX c X s.val j ∗ (LX c ↦{q} X) ∗ semVal ((c : Thread nD τ), SemLoc.dma (cX s)) 0 ∗ Ow c) -∗ WP c (k ⟨⟩) Q)
          -∗ WP c (.op (.waitDma2 (xC o1 h1) srcw (xS o2 h2) w1 w2) k) Q) := by
  subst e1
  unfold InF
  iintro ⟨⟨HF, HR⟩, %W, HW⟩ Hk
  iapply (Transfers.wp_waitLocal countersEmb 𝒱₀ (c : Thread nD τ) none () (NX_eq o2 h2)) $$ [HF HW]
  · isplitl [HF]; · iexact HF
    iexact HW
  iintro ⟨HD, Hc, HW⟩
  unfold InD
  icases HD with ⟨HS, HX⟩
  iapply Hk
  isplitl [HS]; · iexact HS
  isplitl [HX HR]
  · iapply ((pointsTo_split_subset (ℓ := LX c) (f := X) (q := q) (Finset.subset_univ (XTi j))).2)
    isplitl [HX]; · iexact HX
    iexact HR
  isplitl [Hc]; · iexact Hc
  iexists _; iexact HW

theorem enqOut (P : (S20480x2048.Idx → Elt F .f32) → Prop) (v : S1x128x2048.Idx → Elt F .f32) {s : Fin 2} {j : Nat}
    (hP : ∀ f, TileY (F := F) v j f → P f)
    {o1 : Fin 1 → Nat} {o2 : Fin 3 → Nat} {o3 : Fin 2 → Nat} {h1 h2 h3}
    (e1 : o1 = ![s.val]) (e2 : o2 = ![s.val, 0, 0]) (e3 : o3 = ![128 * j, 0]) {w1 w2 w3}
    {k : PUnit → Prog (TpuEff nD τ sig (Elt F) Λ₀ .tc) α} :
    iprop((∃ f : Buf (Elt F) (LyB c), ⌜HoldsY (F := F) v s.val f⌝ ∗ LyB c ↦[YSl s.val]{fullShare} f)
        ∗ (∃ f : Buf (Elt F) (LY c), LY c ↦[YTi j]{fullShare} f) ∗ semVal ((c : Thread nD τ), SemLoc.dma (cY s)) 0)
      ⊢ iprop((OutF c P s j -∗ WP c (k ⟨⟩) Q)
          -∗ WP c (.op (.enqueueDma (yS o2 h2) (.here (yT o3 h3)) (.dma (yC o1 h1)) w1 w2 w3) k) Q) := by
  subst e1 e2 e3
  iintro ⟨⟨%fs, %hf, Hs⟩, ⟨%f, Ht⟩, Hc⟩ Hk
  rw [← yT_set j h3, ← yS_set s.val h2]
  iapply (Transfers.wp_dmaLocal countersEmb 𝒱₀ (c : Thread nD τ) none (sm := SemLoc.dma (cY s)) (dst := yT ![128 * j, 0] h3) () NY (NY_eq _ _) NY_pos (Finset.Subset.refl _)) $$ [Hs Ht Hc]
  · isplitl [Hs]; · iexact Hs
    isplitl [Ht]; · iexact Ht
    iexact Hc
  iintro HF
  iapply Hk
  unfold OutF
  iapply (Transfers.Flight_mono countersEmb (c : Thread nD τ) ?_) $$ HF
  rw [yT_set j h3, yS_set s.val h2]
  iintro ⟨A, B⟩
  isplitl [A]
  · iexists _; isplitr; · ipureintro; exact hP _ (tile_write v s.val j s.isLt h2 h3 fs hf f)
    iexact A
  · iexists fs; iexact B

theorem waitOut (P : (S20480x2048.Idx → Elt F .f32) → Prop) {s : Fin 2} {j : Nat}
    {o1 : Fin 1 → Nat} {o3 : Fin 2 → Nat} {h1 h3} (e1 : o1 = ![s.val]) {sp' s' e'} {srcw : Memref sig .tc sp' s' e'} {w1 w2}
    {k : PUnit → Prog (TpuEff nD τ sig (Elt F) Λ₀ .tc) α} :
    iprop(OutF c P s j ∗ Ow c)
      ⊢ iprop((iprop(TY c P j ∗ SY (F := F) c s.val ∗ semVal ((c : Thread nD τ), SemLoc.dma (cY s)) 0 ∗ Ow c) -∗ WP c (k ⟨⟩) Q)
          -∗ WP c (.op (.waitDma2 (yC o1 h1) srcw (yT o3 h3) w1 w2) k) Q) := by
  subst e1
  unfold OutF
  iintro ⟨HF, %W, HW⟩ Hk
  iapply (Transfers.wp_waitLocal countersEmb 𝒱₀ (c : Thread nD τ) none () (NY_eq o3 h3)) $$ [HF HW]
  · isplitl [HF]; · iexact HF
    iexact HW
  iintro ⟨⟨HT, HS⟩, Hc, HW⟩
  iapply Hk
  isplitl [HT]; · iexact HT
  isplitl [HS]; · iexact HS
  isplitl [Hc]; · iexact Hc
  iexists _; iexact HW

/-- Row `r` of tile `j`. -/
def row (j r : Nat) : Fin 20480 := Fin.ofNat 20480 (128 * j + r)
/-- Tile `j`'s activations, and its column `q`. -/
def xv (X : S20480x2176.Idx → Elt F .f32) (j : Nat) : Vec F S1x128x2048 .f32 := fun i => X (ix2 (row j (i 1).val) (Fin.castLE (by decide) (i 2)))
def gv (X : S20480x2176.Idx → Elt F .f32) (q : Fin 2176) (j : Nat) : Vec F S1x128x1 .f32 := fun i => X (ix2 (row j (i 1).val) q)

theorem ldX (X : Buf (Elt F) (LX c)) {s j : Nat} (hs : s < 12) (hj : j < 160) {f : Buf (Elt F) (LxB c)} (hf : Landed X s j f)
    {off : Fin 3 → Nat} {h : ∀ x, off x + S1x128x2048.size x ≤ S12x128x2176.size x} (e : off = ![s, 0, 0]) {hl}
    {k : Vec F S1x128x2048 .f32 → Prog (TpuEff nD τ sig (Elt F) Λ₀ .tc) α} :
    (LxB c ↦[XSl s]{fullShare} f)
      ⊢ iprop(((LxB c ↦[XSl s]{fullShare} f) -∗ WP c (k (xv X j)) Q)
          -∗ WP c (.op (.load xB (Rect.unit (s := S12x128x2176) off S1x128x2048.size h).toLoadRect hl) k) Q) := by
  subst e
  have hv : (xB.access (Rect.unit (s := S12x128x2176) ![s, 0, 0] S1x128x2048.size h)).read (Elt F) f = xv X j := by
    funext (i : S1x128x2048.Idx)
    have i0 : (i 0).val < 1 := (i 0).isLt
    have i1 : (i 1).val < 128 := (i 1).isLt
    have i2 : (i 2).val < 2048 := (i 2).isLt
    have key := hf hs hj ⟨(i 1).val, i1⟩ ⟨(i 2).val, by omega⟩
    have e : (Rect.unit (s := S12x128x2176) ![s, 0, 0] S1x128x2048.size h).emb i = ix3 ⟨s, hs⟩ ⟨(i 1).val, i1⟩ ⟨(i 2).val, by omega⟩ := by
      funext a; apply Fin.ext
      fin_cases a
      · exact show s + 1 * (i 0).val = s by omega
      · exact show 0 + 1 * (i 1).val = (i 1).val by omega
      · exact show 0 + 1 * (i 2).val = _ by simp; try omega
    refine (congrArg f e).trans (key.trans ?_)
    refine congrArg (fun z => X (ix2 z _)) (Fin.ext ?_)
    exact (show 128 * j + (i 1).val = (128 * j + (i 1).val) % 20480 by rw [Nat.mod_eq_of_lt (by omega)])
  have hS : (xB.access (Rect.unit (s := S12x128x2176) ![s, 0, 0] S1x128x2048.size h)).set ⊆ XSl s := by
    refine (subset_of_eq (View.set_slice_whole _ _)).trans ?_
    intro i hi
    rw [Rect.mem_set_unit] at hi
    have h0 : s ≤ (i 0).val ∧ (i 0).val < s + 1 := hi 0
    exact Finset.mem_filter.2 ⟨Finset.mem_univ _, by omega⟩
  have H := wp_load_rect (defs := defs₀ (F := F)) (Γ := .empty) (Q := Q) (m := xB) (r := Rect.unit (s := S12x128x2176) ![s, 0, 0] S1x128x2048.size h) (hl := hl)
    (k := k) (S := XSl s) (f := f) (q := fullShare) 𝒱₀ (c : Thread nD τ) none Set.univ hS
  rw [hv] at H
  exact H

theorem ldG (X : Buf (Elt F) (LX c)) (q : Fin 2176) {s j : Nat} (hs : s < 12) (hj : j < 160) {f : Buf (Elt F) (LxB c)} (hf : Landed X s j f)
    {off : Fin 3 → Nat} {h : ∀ x, off x + S1x128x1.size x ≤ S12x128x2176.size x} (e : off = ![s, 0, q.val]) {hl}
    {k : Vec F S1x128x1 .f32 → Prog (TpuEff nD τ sig (Elt F) Λ₀ .tc) α} :
    (LxB c ↦[XSl s]{fullShare} f)
      ⊢ iprop(((LxB c ↦[XSl s]{fullShare} f) -∗ WP c (k (gv X q j)) Q)
          -∗ WP c (.op (.load xB (Rect.unit (s := S12x128x2176) off S1x128x1.size h).toLoadRect hl) k) Q) := by
  subst e
  have hv : (xB.access (Rect.unit (s := S12x128x2176) ![s, 0, q.val] S1x128x1.size h)).read (Elt F) f = gv X q j := by
    funext (i : S1x128x1.Idx)
    have i0 : (i 0).val < 1 := (i 0).isLt
    have i1 : (i 1).val < 128 := (i 1).isLt
    have i2 : (i 2).val < 1 := (i 2).isLt
    have key := hf hs hj ⟨(i 1).val, i1⟩ q
    have e : (Rect.unit (s := S12x128x2176) ![s, 0, q.val] S1x128x1.size h).emb i = ix3 ⟨s, hs⟩ ⟨(i 1).val, i1⟩ q := by
      funext a; apply Fin.ext
      fin_cases a
      · exact show s + 1 * (i 0).val = s by omega
      · exact show 0 + 1 * (i 1).val = (i 1).val by omega
      · exact show q.val + 1 * (i 2).val = _ by simp; try omega
    refine (congrArg f e).trans (key.trans ?_)
    refine congrArg (fun z => X (ix2 z _)) (Fin.ext ?_)
    exact (show 128 * j + (i 1).val = (128 * j + (i 1).val) % 20480 by rw [Nat.mod_eq_of_lt (by omega)])
  have hS : (xB.access (Rect.unit (s := S12x128x2176) ![s, 0, q.val] S1x128x1.size h)).set ⊆ XSl s := by
    refine (subset_of_eq (View.set_slice_whole _ _)).trans ?_
    intro i hi
    rw [Rect.mem_set_unit] at hi
    have h0 : s ≤ (i 0).val ∧ (i 0).val < s + 1 := hi 0
    exact Finset.mem_filter.2 ⟨Finset.mem_univ _, by omega⟩
  have H := wp_load_rect (defs := defs₀ (F := F)) (Γ := .empty) (Q := Q) (m := xB) (r := Rect.unit (s := S12x128x2176) ![s, 0, q.val] S1x128x1.size h) (hl := hl)
    (k := k) (S := XSl s) (f := f) (q := fullShare) 𝒱₀ (c : Thread nD τ) none Set.univ hS
  rw [hv] at H
  exact H

/-- A stage buffer read whole. -/
theorem ldW {S : Shape} (m : Memref sig .tc .vmem S .f32) {v : S.Idx → Elt F .f32} {f : Buf (Elt F) (m.view.loc (c : Thread nD τ))} (hf : m.view.read (Elt F) f = v)
    {off : Fin S.rank → Nat} {h : ∀ x, off x + S.size x ≤ S.size x} (e : ∀ x, off x = 0) {hl}
    {k : Vec F S .f32 → Prog (TpuEff nD τ sig (Elt F) Λ₀ .tc) α} :
    (m.view.loc (c : Thread nD τ) ↦[m.view.set]{fullShare} f)
      ⊢ iprop(((m.view.loc (c : Thread nD τ) ↦[m.view.set]{fullShare} f) -∗ WP c (k v) Q)
          -∗ WP c (.op (.load m (Rect.unit (s := S) off S.size h).toLoadRect hl) k) Q) := by
  have hv : m.view.readAt (Elt F) (Rect.unit (s := S) off S.size h).toLoadRect f = v := by
    subst hf
    funext i
    rw [View.readAt_apply]
    refine congrArg (m.view.read (Elt F) f) ?_
    funext a; apply Fin.ext
    show off a + 1 * (i a).val = _
    rw [e a]; omega
  have H := wp_load (defs := defs₀ (F := F)) (Γ := .empty) (Q := Q) (m := m) (r := (Rect.unit (s := S) off S.size h).toLoadRect) (hl := hl)
    (k := k) (S := m.view.set) (f := f) (q := fullShare) 𝒱₀ (c : Thread nD τ) none Set.univ (View.setOn_subset_set _ _)
  rw [hv] at H
  exact H

theorem yAcc_set {s : Nat} (h : ∀ x, (![s, 0, 0] : Fin 3 → Nat) x + S1x128x2048.size x ≤ S2x128x2048.size x) :
    (yB.access (Rect.unit (s := S2x128x2048) ![s, 0, 0] S1x128x2048.size h)).set ⊆ YSl s := by
  refine (subset_of_eq (View.set_slice_whole _ _)).trans ?_
  intro i hi
  rw [Rect.mem_set_unit] at hi
  have h0 : s ≤ (i 0).val ∧ (i 0).val < s + 1 := hi 0
  exact Finset.mem_filter.2 ⟨Finset.mem_univ _, by omega⟩

theorem wpRet (x : α) : Q x ⊢ WP c (Pure.pure x) Q := le_wp_ret _ _ _ x Q

/-- A load of a slot whose result is not read, then a store over it. -/
theorem ldY {s : Nat} {f : Buf (Elt F) (LyB c)}
    {off : Fin 3 → Nat} {h : ∀ x, off x + S1x128x2048.size x ≤ S2x128x2048.size x} (e : off = ![s, 0, 0]) {hl}
    {k : Vec F S1x128x2048 .f32 → Prog (TpuEff nD τ sig (Elt F) Λ₀ .tc) α} :
    (LyB c ↦[YSl s]{fullShare} f)
      ⊢ iprop((∀ v, (LyB c ↦[YSl s]{fullShare} f) -∗ WP c (k v) Q)
          -∗ WP c (.op (.load yB (Rect.unit (s := S2x128x2048) off S1x128x2048.size h).toLoadRect hl) k) Q) := by
  subst e
  iintro Hy Hk
  iapply (wp_load_rect (defs := defs₀ (F := F)) (Γ := .empty) (Q := Q) (m := yB) (r := Rect.unit (s := S2x128x2048) ![s, 0, 0] S1x128x2048.size h) (hl := hl)
    (k := k) (S := YSl s) (f := f) (q := fullShare) 𝒱₀ (c : Thread nD τ) none Set.univ (yAcc_set h)) $$ Hy
  iintro Hy
  iapply Hk $$ Hy

theorem stY {s : Nat} (hs : s < 2) {f : Buf (Elt F) (LyB c)} {v : Vec F S1x128x2048 .f32}
    {off : Fin 3 → Nat} {h : ∀ x, off x + S1x128x2048.size x ≤ S2x128x2048.size x} (e : off = ![s, 0, 0]) {w1 w2}
    {k : PUnit → Prog (TpuEff nD τ sig (Elt F) Λ₀ .tc) α} :
    (LyB c ↦[YSl s]{fullShare} f)
      ⊢ iprop(((∃ f' : Buf (Elt F) (LyB c), ⌜HoldsY (F := F) v s f'⌝ ∗ LyB c ↦[YSl s]{fullShare} f') -∗ WP c (k ⟨⟩) Q)
          -∗ WP c (.op (.store yB (Rect.unit (s := S2x128x2048) off S1x128x2048.size h) v Finset.univ w1 w2) k) Q) := by
  subst e
  have hv : HoldsY (F := F) v s ((yB.access (Rect.unit (s := S2x128x2048) ![s, 0, 0] S1x128x2048.size h)).write (Elt F) f v Finset.univ) := by
    intro hs r q
    have key := (yB.access (Rect.unit (s := S2x128x2048) ![s, 0, 0] S1x128x2048.size h)).write_emb_of_mem (Val := Elt F) f v
      (M := Finset.univ) (x := ix3 0 r q) (Finset.mem_univ _)
    have e : (yB.access (Rect.unit (s := S2x128x2048) ![s, 0, 0] S1x128x2048.size h)).emb (ix3 0 r q) = ix3 ⟨s, hs⟩ r q := by
      funext a; apply Fin.ext
      fin_cases a
      · exact show s + 1 * 0 = s by omega
      · exact show 0 + 1 * r.val = r.val by omega
      · exact show 0 + 1 * q.val = q.val by omega
    rw [e] at key
    exact key
  iintro Hy Hk
  iapply (wp_store (defs := defs₀ (F := F)) (Γ := .empty) (Q := Q) (m := yB) (r := Rect.unit (s := S2x128x2048) ![s, 0, 0] S1x128x2048.size h)
    (k := k) (S := YSl s) (f := f) (Mk := Finset.univ) 𝒱₀ (c : Thread nD τ) none Set.univ (yAcc_set h)) $$ Hy
  iintro Hy
  iapply Hk
  iexists _; isplitr; · ipureintro; exact hv
  iexact Hy

end Rules

end Cert.ExpertsIdeal.Ring
-- ==== Proof.ExpertsIdealTrip.lean ====
/-
  What the feed-forward kernel holds between two tiles, and one tile's work.

  Before tile `g`, eleven copies into the input slots are under way, those of tiles `g` to `g + 10` (past the last tile
  of work the last one again), and one slot is free. Two copies out are under way, `g` and `g + 1`: copies 0 and 1 are
  the two blocks of zeros the first step issues so that every tile may wait for a copy, and copy `p + 2` is tile `p`'s
  result. Every other tile of `ys` is held, with its result when its own copy has come back.
-/
module

public import proofs.«01_k».proof.Proof.ExpertsIdealRing

@[expose] public section

noncomputable section

namespace Cert.ExpertsIdeal.Ring

open Cert.ExpertsIdeal Cert.ExpertsIdeal.Gen Cert.ExpertsIdeal.Words
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section State
variable (c : Dev nD) (X : Buf (Elt F) (LX c)) (n : Nat) (E : Nat → S1x128x2048.Idx → Elt F .f32)

/-- The slot of tile `g`, of twelve and of two, and the share of `xs` slot `s` reads with. -/
def sg (g : Nat) : Fin 12 := ⟨g % 12, Nat.mod_lt _ (by decide)⟩
def sy (g : Nat) : Fin 2 := ⟨g % 2, Nat.mod_lt _ (by decide)⟩
def tok (s : Fin 12) : PosShare TreeShare := Transfers.shareTok fullShare 12 s
/-- The tile copy `r` reads, and the tile whose copy slot `s` takes before tile `g`. -/
def tl (r : Nat) : Nat := min r (n - 1)
def idx (g : Nat) (s : Fin 12) : Nat := g + (s.val + 12 - g % 12) % 12

/-- A slot with no copy under way. -/
abbrev FreeX (s : Fin 12) : sProp 𝕄 :=
  iprop((LX c ↦{tok s} X) ∗ (∃ f : Buf (Elt F) (LxB c), LxB c ↦[XSl s.val]{fullShare} f) ∗ semVal ((c : Thread nD τ), SemLoc.dma (cX s)) 0)
def inAt (g : Nat) (s : Fin 12) : sProp 𝕄 := if s = sg (g + 11) then FreeX c X s else InF c X (tok s) s (tl n (idx g s))
def IN (g : Nat) : sProp 𝕄 := bigSep Finset.univ (inAt c X n g)

/-- The tile copy out `p` writes, and what that tile holds when it is back. -/
def dest (p : Nat) : Nat := if p < 2 then p else p - 2
def PP (p : Nat) (f : S20480x2048.Idx → Elt F .f32) : Prop := 2 ≤ p → TileY (F := F) (E (dest p)) (dest p) f
abbrev outF (p : Nat) : sProp 𝕄 := OutF c (PP E p) (sy p) (dest p)

def dT (p : Nat) : Fin 160 := Fin.ofNat 160 (dest p)
def Hs (g : Nat) : Finset (Fin 160) := (Finset.univ.erase (dT g)).erase (dT (g + 1))
def hp (g j : Nat) (f : S20480x2048.Idx → Elt F .f32) : Prop := j + 2 < g → TileY (F := F) (E j) j f
def HOME (g : Nat) : sProp 𝕄 := bigSep (Hs g) fun j => TY c (hp E g j.val) j.val

theorem in_take (g : Nat) : IN c X n g
    ⊢ iprop(InF c X (tok (sg g)) (sg g) (tl n g) ∗ FreeX c X (sg (g + 11)) ∗ bigSep ((Finset.univ.erase (sg g)).erase (sg (g + 11))) (inAt c X n g)) := by
  unfold IN
  have hne : sg (g + 11) ≠ sg g := fun h => by have := congrArg Fin.val h; simp only [sg] at this; omega
  rw [bigSep_erase (Finset.mem_univ (sg g)), bigSep_erase (i := sg (g + 11)) (Finset.mem_erase.2 ⟨hne, Finset.mem_univ _⟩)]
  have e1 : inAt c X n g (sg g) = InF c X (tok (sg g)) (sg g) (tl n g) := by
    unfold inAt; rw [if_neg (Ne.symm hne), show idx g (sg g) = g from by simp only [idx, sg]; omega]
  have e2 : inAt c X n g (sg (g + 11)) = FreeX c X (sg (g + 11)) := if_pos rfl
  rw [e1, e2]; exact .rfl

theorem in_put (g : Nat) :
    iprop(FreeX c X (sg g) ∗ InF c X (tok (sg (g + 11))) (sg (g + 11)) (tl n (g + 11))
        ∗ bigSep ((Finset.univ.erase (sg g)).erase (sg (g + 11))) (inAt c X n g)) ⊢ IN c X n (g + 1) := by
  unfold IN
  have hne : sg (g + 11) ≠ sg g := fun h => by have := congrArg Fin.val h; simp only [sg] at this; omega
  rw [bigSep_erase (s := Finset.univ) (Φ := inAt c X n (g + 1)) (Finset.mem_univ (sg g)), bigSep_erase (i := sg (g + 11)) (Φ := inAt c X n (g + 1)) (Finset.mem_erase.2 ⟨hne, Finset.mem_univ _⟩)]
  have e0 : sg (g + 1 + 11) = sg g := Fin.ext (by simp only [sg]; omega)
  have e1 : inAt c X n (g + 1) (sg g) = FreeX c X (sg g) := by unfold inAt; rw [if_pos e0.symm]
  have e2 : inAt c X n (g + 1) (sg (g + 11)) = InF c X (tok (sg (g + 11))) (sg (g + 11)) (tl n (g + 11)) := by
    unfold inAt; rw [if_neg (by rw [e0]; exact hne), show idx (g + 1) (sg (g + 11)) = g + 11 from by simp only [idx, sg]; omega]
  have e3 : bigSep ((Finset.univ.erase (sg g)).erase (sg (g + 11))) (inAt c X n g) = bigSep ((Finset.univ.erase (sg g)).erase (sg (g + 11))) (inAt c X n (g + 1)) := by
    refine bigSep_congr fun s hs => ?_
    obtain ⟨h1, h2⟩ := Finset.mem_erase.1 hs
    have h3 := (Finset.mem_erase.1 h2).1
    have v1 : s.val ≠ (g + 11) % 12 := fun h => h1 (Fin.ext h)
    have v3 : s.val ≠ g % 12 := fun h => h3 (Fin.ext h)
    unfold inAt
    rw [if_neg h1, if_neg (by rw [e0]; exact h3), show idx (g + 1) s = idx g s from by have := s.isLt; simp only [idx]; omega]
  rw [e1, e2, e3]; exact .rfl

theorem home_step (g : Nat) (hg : g < 160) :
    iprop(HOME c E g ∗ TY c (PP E g) (dest g)) ⊢ iprop((∃ f : Buf (Elt F) (LY c), LY c ↦[YTi g]{fullShare} f) ∗ HOME c E (g + 1)) := by
  have v : ∀ p, p < 162 → (dT p).val = dest p := fun p hp => Nat.mod_eq_of_lt (by unfold dest; split <;> omega)
  have hd2 : dest (g + 2) = g := by unfold dest; rw [if_neg (by omega)]; rfl
  have hset : insert (dT g) (Hs g) = insert (dT (g + 2)) (Hs (g + 1)) := by
    ext j
    have h0 := v g (by omega); have h1 := v (g + 1) (by omega); have h2 := v (g + 2) (by omega)
    simp only [Hs, Finset.mem_insert, Finset.mem_erase, Finset.mem_univ, and_true, Fin.ext_iff, h0, h1, h2, show g + 1 + 1 = g + 2 from rfl, hd2, ne_eq]
    unfold dest; split <;> split <;> omega
  have n0 : dT g ∉ Hs g := fun h => (Finset.mem_erase.1 (Finset.mem_erase.1 h).2).1 rfl
  have n1 : dT (g + 2) ∉ Hs (g + 1) := fun h => (Finset.mem_erase.1 h).1 rfl
  have hm : (bigSep (Hs g) fun j => TY c (hp E g j.val) j.val) ⊢ bigSep (Hs g) fun j => TY c (hp E (g + 1) j.val) j.val := by
    refine bigSep_mono fun j hj => ?_
    show iprop(∃ f : Buf (Elt F) (LY c), ⌜hp E g j.val f⌝ ∗ LY c ↦[YTi j.val]{fullShare} f) ⊢ iprop(∃ f : Buf (Elt F) (LY c), ⌜hp E (g + 1) j.val f⌝ ∗ LY c ↦[YTi j.val]{fullShare} f)
    iintro ⟨%f, %hf, T⟩
    iexists f; isplitr
    · ipureintro
      intro h
      refine hf ?_
      have : j.val ≠ dest g := fun e => (Finset.mem_erase.1 (Finset.mem_erase.1 hj).2).1 (Fin.ext (by rw [v g (by omega)]; exact e))
      unfold dest at this; split at this <;> omega
    iexact T
  have key : iprop(HOME c E g ∗ TY c (PP E g) (dest g)) ⊢ bigSep (insert (dT g) (Hs g)) fun j => TY c (hp E (g + 1) j.val) j.val := by
    rw [bigSep_insert n0]
    show _ ⊢ iprop(TY c (hp E (g + 1) (dT g).val) (dT g).val ∗ bigSep (Hs g) fun j => TY c (hp E (g + 1) j.val) j.val)
    iintro ⟨H, T⟩
    isplitl [T]
    · rw [v g (by omega)]
      icases T with ⟨%f, %hf, T⟩
      iexists f; isplitr
      · ipureintro
        intro h
        have hg2 : 2 ≤ g := by unfold dest at h; split at h <;> omega
        exact hf hg2
      iexact T
    · unfold HOME
      iapply hm $$ H
  refine key.trans ?_
  rw [hset, bigSep_insert n1, v (g + 2) (by omega), hd2]
  show iprop(TY c (hp E (g + 1) g) g ∗ HOME c E (g + 1)) ⊢ _
  iintro ⟨⟨%f, -, T⟩, H⟩
  isplitl [T]
  · iexists f; iexact T
  iexact H

/-- What is held before tile `g`, the two weight blocks of the expert at hand beside. -/
def R (g : Nat) : sProp 𝕄 := iprop(IN c X n g ∗ outF c E g ∗ outF c E (g + 1) ∗ HOME c E g ∗ Ow c)

variable (m3 : Memref sig .tc .vmem S1x1x2048x1024 .f32) (m4 : Memref sig .tc .vmem S1x1x512x2048 .f32)
  (f3 : Buf (Elt F) (m3.view.loc (c : Thread nD τ))) (f4 : Buf (Elt F) (m4.view.loc (c : Thread nD τ)))
abbrev Wts : sProp 𝕄 := iprop((m3.view.loc (c : Thread nD τ) ↦[m3.view.set]{fullShare} f3) ∗ (m4.view.loc (c : Thread nD τ) ↦[m4.view.set]{fullShare} f4))

/-- What the kernel stores for tile `j` under the weight blocks `v3` and `v4`. -/
def tileOut (X : S20480x2176.Idx → Elt F .f32) (v3 : Vec F S1x1x2048x1024 .f32) (v4 : Vec F S1x1x512x2048 .f32) (j : Nat) : Vec F S1x128x2048 .f32 :=
  k0_pay2 (k0_pay5 (xv X j)) (k0_pay6 (gv X 2048 j)) (k0_pay7 (gv X 2049 j)) (k0_pay8 (xv X j)) (k0_pay9 v3) v4

set_option maxHeartbeats 1000000 in
theorem trip {a b : Nat} (hab : a ≤ b) (hb : b ≤ n) (hn1 : 128 ≤ n) (hn : n ≤ 160)
    {v3 : Vec F S1x1x2048x1024 .f32} {v4 : Vec F S1x1x512x2048 .f32} (h3 : m3.view.read (Elt F) f3 = v3) (h4 : m4.view.read (Elt F) f4 = v4)
    (hE : ∀ j, a ≤ j → j < b → E j = tileOut X v3 v4 j)
    (i : grid0.Coords) (ha3 ha4) (v18 v57 : BitVec 32) (hw2) (hw1) (h2)
    (k : Fin (k0_t1_loop (w a) (w b)).trips) :
    iprop(R c X n E (a + k.val) ∗ Wts c m3 m4 f3 f4)
      ⊢ WP c (k0_t1_body (F := F) i (Memref.whole main_arg0) (Memref.isWhole_whole _) (Memref.whole main_arg1) (Memref.isWhole_whole _)
          m3 ha3 m4 ha4 (Memref.whole main_v0) (Memref.isWhole_whole _) (Memref.whole cc0_scratch0) (Memref.isWhole_whole _)
          (Memref.whole cc0_scratch1) (Memref.isWhole_whole _) cc0_scratch2 cc0_scratch3 (w a) v18 (w b) hw2 (w n) hw1 v57 h2 k ⟨⟩)
        (fun _ => iprop(R c X n E (a + k.val + 1) ∗ Wts c m3 m4 f3 f4)) := by
  have hk : a + k.val < b := t1_lt hab (by omega) k
  unfold k0_t1_body
  rw [k0_part4_eq_skeleton, k0_part5_eq_skeleton]
  unfold k0_part4_skel k0_part5_skel
  simp only [Prog.lift, Prog.bind_op, Prog.bind_ret]
  unfold R
  iintro ⟨⟨HI, HO0, HO1, HH, HW⟩, H3, H4⟩
  ihave HI := (in_take c X n (a + k.val)) $$ HI
  icases HI with ⟨Hin, Hfree, Hrest⟩
  iapply (waitIn c X (s := sg (a + k.val)) (off4_eq hab (by omega) k)) $$ [Hin HW]
  · isplitl [Hin]; · iexact Hin
    iexact HW
  iintro ⟨HS, HX, HcX, HW⟩
  iapply (waitOut c (PP E (a + k.val)) (s := sy (a + k.val)) (j := dest (a + k.val)) (off7_eq hab (by omega) k)) $$ [HO0 HW]
  · isplitl [HO0]; · iexact HO0
    iexact HW
  iintro ⟨HT, HY, HcY, HW⟩
  iapply (enqIn c X (q := tok (sg (a + k.val + 11))) (s := sg (a + k.val + 11)) (j := tl n (a + k.val + 11))
    (off10_eq hab (by omega) k) (off11_eq hab (by omega) k) (off12_eq hab (by omega) k (by omega) hn)) $$ [Hfree]
  · iexact Hfree
  iintro Hin'
  icases HS with ⟨%fx, %hfx, HS⟩
  rw [show tl n (a + k.val) = a + k.val from by unfold tl; omega] at hfx
  iapply (ldX c X (s := (sg (a + k.val)).val) (Nat.mod_lt _ (by decide)) (by omega) hfx (off13_eq hab (by omega) k)) $$ HS
  iintro HS
  iapply (ldG c X 2048 (s := (sg (a + k.val)).val) (Nat.mod_lt _ (by decide)) (by omega) hfx (off14_eq hab (by omega) k)) $$ HS
  iintro HS
  iapply (ldG c X 2049 (s := (sg (a + k.val)).val) (Nat.mod_lt _ (by decide)) (by omega) hfx (off15_eq hab (by omega) k)) $$ HS
  iintro HS
  iapply (ldW c m3 h3 (fun x => by fin_cases x <;> rfl)) $$ H3
  iintro H3
  iapply (ldW c m4 h4 (fun x => by fin_cases x <;> rfl)) $$ H4
  iintro H4
  icases HY with ⟨%fy, HY⟩
  iapply (ldY c (s := (sy (a + k.val)).val) (off16_eq hab (by omega) k)) $$ HY
  iintro %v160 HY
  iapply (stY c (sy (a + k.val)).isLt (off16_eq hab (by omega) k)) $$ HY
  iintro HY
  ihave HH := (home_step c E (a + k.val) (by omega)) $$ [HH HT]
  · isplitl [HH]; · iexact HH
    iexact HT
  icases HH with ⟨HT, HH⟩
  have hd2 : dest (a + k.val + 2) = a + k.val := by unfold dest; rw [if_neg (by omega)]; rfl
  have hs2 : sy (a + k.val + 2) = sy (a + k.val) := Fin.ext (by simp only [sy]; omega)
  iapply (enqOut c (PP E (a + k.val + 2)) (tileOut X v3 v4 (a + k.val)) (s := sy (a + k.val)) (j := a + k.val)
    (fun f hf _ => by rw [hd2, hE _ (by omega) hk]; exact hf)
    (off7_eq hab (by omega) k) (off9_eq hab (by omega) k) (off8_eq hab (by omega) k)) $$ [HY HT HcY]
  · isplitl [HY]; · iexact HY
    isplitl [HT]; · iexact HT
    iexact HcY
  iintro HO2
  iapply (wpRet c (Q := fun _ => iprop((IN c X n (a + k.val + 1) ∗ outF c E (a + k.val + 1) ∗ outF c E (a + k.val + 1 + 1) ∗ HOME c E (a + k.val + 1) ∗ Ow c) ∗ Wts c m3 m4 f3 f4)) PUnit.unit)
  isplitl [HX HcX HS Hin' Hrest HO1 HO2 HH HW]
  · isplitl [HX HcX HS Hin' Hrest]
    · iapply (in_put c X n (a + k.val))
      isplitl [HX HcX HS]
      · isplitl [HX]; · iexact HX
        isplitl [HS]; · iexists fx; iexact HS
        iexact HcX
      isplitl [Hin']; · iexact Hin'
      iexact Hrest
    isplitl [HO1]; · iexact HO1
    isplitl [HO2]
    · rw [show outF c E (a + k.val + 1 + 1) = OutF c (PP E (a + k.val + 2)) (sy (a + k.val)) (a + k.val) from by
        show OutF c (PP E (a + k.val + 2)) (sy (a + k.val + 2)) (dest (a + k.val + 2)) = _; rw [hd2, hs2]]
      iexact HO2
    isplitl [HH]; · iexact HH
    iexact HW
  · isplitl [H3]; · iexact H3
    iexact H4

end State

end Cert.ExpertsIdeal.Ring
-- ==== Proof.ExpertsIdealEnds.lean ====
/-
  The two ends of the feed-forward kernel's ring of copies: the first step fills it, the last drains it and copies
  zeros into the tiles past the last tile of work.
-/
module

public import proofs.«01_k».proof.Proof.ExpertsIdealTrip

@[expose] public section

noncomputable section

namespace Cert.ExpertsIdeal.Ring

open Cert.ExpertsIdeal Cert.ExpertsIdeal.Gen Cert.ExpertsIdeal.Words
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending pending_zero bigSep_pending_step batch_alloc' batch_collect' wp_dmaBatch wp_waitBatch wp_waitBatchLast)

variable {F : FTy → Type} [FloatOps F]
local notation "𝕄" => MT nD τ sig Unit (Elt F) ℕ UU ℕ

section Ends
variable (c : Dev nD) (X : Buf (Elt F) (LX c)) (n : Nat) (E : Nat → S1x128x2048.Idx → Elt F .f32)
variable {α : Type} {Q : α → sProp (MT nD τ sig Unit (Elt F) ℕ UU ℕ)}

theorem take_put {ι : Type} [Fintype ι] [DecidableEq ι] {Φ Φ' : ι → sProp 𝕄} (s : ι) (h : ∀ s', s' ≠ s → Φ s' = Φ' s') :
    bigSep Finset.univ Φ ⊢ iprop(Φ s ∗ (Φ' s -∗ bigSep Finset.univ Φ')) := by
  rw [bigSep_erase (Φ := Φ) (Finset.mem_univ s), bigSep_erase (Φ := Φ') (Finset.mem_univ s),
    bigSep_congr (fun s' hs => h s' (Finset.mem_erase.1 hs).1)]
  show iprop(Φ s ∗ bigSep (Finset.univ.erase s) Φ') ⊢ iprop(Φ s ∗ (Φ' s -∗ iprop(Φ' s ∗ bigSep (Finset.univ.erase s) Φ')))
  iintro ⟨A, B⟩
  isplitl [A]; · iexact A
  iintro A
  isplitl [A]; · iexact A
  iexact B

/-- The slots when the first step has issued `r` copies, and when the last has waited for `r` of them. -/
def fl (r : Nat) (s : Fin 12) : sProp 𝕄 := if s.val < r then InF c X (tok s) s (tl n s.val) else FreeX c X s
def dr (r : Nat) (s : Fin 12) : sProp 𝕄 := if (s.val + 12 - n % 12) % 12 < r then FreeX c X s else inAt c X n n s

theorem fill (r : Nat) (hr : r < 11) {o1 : Fin 1 → Nat} {o2 : Fin 3 → Nat} {o3 : Fin 2 → Nat} {h1 h2 h3}
    (e1 : o1 = ![r]) (e2 : o2 = ![r, 0, 0]) (e3 : o3 = ![128 * min r (n - 1), 0]) {w1 w2 w3}
    {k : PUnit → Prog (TpuEff nD τ sig (Elt F) Λ₀ .tc) α} :
    bigSep Finset.univ (fl c X n r)
      ⊢ iprop((bigSep Finset.univ (fl c X n (r + 1)) -∗ WP c (k ⟨⟩) Q)
          -∗ WP c (.op (.enqueueDma (xT o3 h3) (.here (xS o2 h2)) (.dma (xC o1 h1)) w1 w2 w3) k) Q) := by
  have f0 : fl c X n r (⟨r, by omega⟩ : Fin 12) = FreeX c X ⟨r, by omega⟩ := if_neg (Nat.lt_irrefl r)
  have f1 : fl c X n (r + 1) (⟨r, by omega⟩ : Fin 12) = InF c X (tok ⟨r, by omega⟩) ⟨r, by omega⟩ (tl n r) := if_pos (Nat.lt_succ_self r)
  have key := take_put (Φ := fl c X n r) (Φ' := fl c X n (r + 1)) (⟨r, by omega⟩ : Fin 12) (fun s' hs => by
    have : s'.val ≠ r := fun h => hs (Fin.ext h)
    unfold fl
    by_cases h : s'.val < r
    · rw [if_pos h, if_pos (by omega)]
    · rw [if_neg h, if_neg (by omega)])
  rw [f0, f1] at key
  iintro H Hk
  ihave H := key $$ H
  icases H with ⟨Hs, Hr⟩
  iapply (enqIn c X (q := tok ⟨r, by omega⟩) (s := ⟨r, by omega⟩) (j := tl n r) e1 e2 e3) $$ [Hs]
  · iexact Hs
  iintro HF
  iapply Hk
  iapply Hr $$ HF

theorem drain (r : Nat) (hr : r < 11) {o1 : Fin 1 → Nat} {o2 : Fin 3 → Nat} {h1 h2} (e1 : o1 = ![(n + r) % 12])
    {sp' s' e'} {srcw : Memref sig .tc sp' s' e'} {w1 w2}
    {k : PUnit → Prog (TpuEff nD τ sig (Elt F) Λ₀ .tc) α} :
    iprop(bigSep Finset.univ (dr c X n r) ∗ Ow c)
      ⊢ iprop((iprop(bigSep Finset.univ (dr c X n (r + 1)) ∗ Ow c) -∗ WP c (k ⟨⟩) Q)
          -∗ WP c (.op (.waitDma2 (xC o1 h1) srcw (xS o2 h2) w1 w2) k) Q) := by
  have f0 : dr c X n r (sg (n + r)) = InF c X (tok (sg (n + r))) (sg (n + r)) (tl n (n + r)) := by
    unfold dr
    rw [if_neg (by simp only [sg]; omega)]
    unfold inAt
    rw [if_neg (fun h => by have := congrArg Fin.val h; simp only [sg] at this; omega),
      show idx n (sg (n + r)) = n + r from by simp only [idx, sg]; omega]
  have f1 : dr c X n (r + 1) (sg (n + r)) = FreeX c X (sg (n + r)) := if_pos (by simp only [sg]; omega)
  have key := take_put (Φ := dr c X n r) (Φ' := dr c X n (r + 1)) (sg (n + r)) (fun s' hs => by
    have h0 := s'.isLt
    have : s'.val ≠ (n + r) % 12 := fun h => hs (Fin.ext h)
    unfold dr
    by_cases h : (s'.val + 12 - n % 12) % 12 < r
    · rw [if_pos h, if_pos (by omega)]
    · rw [if_neg h, if_neg (by omega)])
  rw [f0, f1] at key
  iintro ⟨H, HW⟩ Hk
  ihave H := key $$ H
  icases H with ⟨Hs, Hr⟩
  iapply (waitIn c X (s := sg (n + r)) e1) $$ [Hs HW]
  · isplitl [Hs]; · iexact Hs
    iexact HW
  iintro ⟨⟨%f, -, HS⟩, HX, Hc, HW⟩
  iapply Hk
  isplitr [HW]
  · iapply Hr
    isplitl [HX]; · iexact HX
    isplitl [HS]; · iexists f; iexact HS
    iexact Hc
  iexact HW

theorem fl_end : bigSep Finset.univ (fl c X n 11) = IN c X n 0 := by
  unfold IN
  refine bigSep_congr fun s _ => ?_
  have := s.isLt
  unfold fl inAt
  by_cases h : s.val < 11
  · rw [if_pos h, if_neg (fun e => by have := congrArg Fin.val e; simp only [sg] at this; omega), show idx 0 s = s.val from by simp only [idx]; omega]
  · rw [if_neg h, if_pos (Fin.ext (by simp only [sg]; omega))]
theorem dr_start : bigSep Finset.univ (dr c X n 0) = IN c X n n := by
  unfold IN
  exact bigSep_congr fun s _ => if_neg (Nat.not_lt_zero _)
theorem dr_end : bigSep Finset.univ (dr c X n 11) = bigSep Finset.univ (FreeX c X) := by
  refine bigSep_congr fun s _ => ?_
  have := s.isLt
  unfold dr inAt
  by_cases h : (s.val + 12 - n % 12) % 12 < 11
  · rw [if_pos h]
  · rw [if_neg h, if_pos (Fin.ext (by simp only [sg]; omega))]

/-! ## The second scratch buffer whole, and its two slots -/

theorem ys_split {f : Buf (Elt F) (LyB c)} : (LyB c ↦{fullShare} f : sProp 𝕄) ⊢ iprop((LyB c ↦[YSl 0]{fullShare} f) ∗ (LyB c ↦[YSl 1]{fullShare} f)) := by
  have h : (Finset.univ \ YSl 0) = YSl 1 := by
    ext i
    have : (i 0).val < 2 := (i 0).isLt
    simp only [YSl, Finset.mem_sdiff, Finset.mem_filter, Finset.mem_univ, true_and]
    omega
  have H := (pointsTo_split_subset (ℓ := LyB c) (f := f) (q := fullShare) (U := UU) (Ix := Unit) (Name := ℕ) (Lvl := ℕ) (Val := Elt F) (Finset.subset_univ (YSl 0))).1
  rw [h] at H
  exact H
theorem ys_join : iprop(SY (F := F) c 0 ∗ SY (F := F) c 1) ⊢ iprop(∃ f : Buf (Elt F) (LyB c), LyB c ↦{fullShare} f) := by
  have hd : Disjoint (YSl 0) (YSl 1) := by
    rw [Finset.disjoint_left]
    intro i h0 h1
    have a := (Finset.mem_filter.1 h0).2
    have b := (Finset.mem_filter.1 h1).2
    omega
  have hu : YSl 0 ∪ YSl 1 = Finset.univ := by
    ext i
    have : (i 0).val < 2 := (i 0).isLt
    simp only [YSl, Finset.mem_union, Finset.mem_filter, Finset.mem_univ, true_and, iff_true]
    omega
  iintro ⟨⟨%f, A⟩, ⟨%g, B⟩⟩
  ihave H := (pointsTo_join (ℓ := LyB c) (q := fullShare) (f := f) (g := g) hd) $$ [A B]
  · isplitl [A]; · iexact A
    iexact B
  rw [hu]
  iexists _; iexact H

theorem ldB {f : Buf (Elt F) (LyB c)}
    {off : Fin 3 → Nat} {h : ∀ x, off x + S2x128x2048.size x ≤ S2x128x2048.size x} {hl}
    {k : Vec F S2x128x2048 .f32 → Prog (TpuEff nD τ sig (Elt F) Λ₀ .tc) α} :
    (LyB c ↦{fullShare} f)
      ⊢ iprop((∀ v, (LyB c ↦{fullShare} f) -∗ WP c (k v) Q)
          -∗ WP c (.op (.load yB (Rect.unit (s := S2x128x2048) off S2x128x2048.size h).toLoadRect hl) k) Q) := by
  iintro Hy Hk
  iapply (wp_load_rect (defs := defs₀ (F := F)) (Γ := .empty) (Q := Q) (m := yB) (r := Rect.unit (s := S2x128x2048) off S2x128x2048.size h) (hl := hl)
    (k := k) (S := Finset.univ) (f := f) (q := fullShare) 𝒱₀ (c : Thread nD τ) none Set.univ (Finset.subset_univ _)) $$ Hy
  iintro Hy
  iapply Hk $$ Hy
theorem stB {f : Buf (Elt F) (LyB c)} {v : Vec F S2x128x2048 .f32}
    {off : Fin 3 → Nat} {h : ∀ x, off x + S2x128x2048.size x ≤ S2x128x2048.size x} {w1 w2}
    {k : PUnit → Prog (TpuEff nD τ sig (Elt F) Λ₀ .tc) α} :
    (LyB c ↦{fullShare} f)
      ⊢ iprop(((∃ f' : Buf (Elt F) (LyB c), LyB c ↦{fullShare} f') -∗ WP c (k ⟨⟩) Q)
          -∗ WP c (.op (.store yB (Rect.unit (s := S2x128x2048) off S2x128x2048.size h) v Finset.univ w1 w2) k) Q) := by
  iintro Hy Hk
  iapply (wp_store (defs := defs₀ (F := F)) (Γ := .empty) (Q := Q) (m := yB) (r := Rect.unit (s := S2x128x2048) off S2x128x2048.size h)
    (k := k) (S := Finset.univ) (f := f) (Mk := Finset.univ) 𝒱₀ (c : Thread nD τ) none Set.univ (Finset.subset_univ _)) $$ Hy
  iintro Hy
  iapply Hk
  iexists _; iexact Hy

/-- The tiles of `ys`, held one by one. -/
def Tiles (P : Nat → (S20480x2048.Idx → Elt F .f32) → Prop) : sProp 𝕄 := bigSep Finset.univ fun j : Fin 160 => TY c (P j.val) j.val

theorem tiles_disj : ∀ i ∈ (Finset.univ : Finset (Fin 160)), ∀ j ∈ (Finset.univ : Finset (Fin 160)), i ≠ j → Disjoint (YTi i.val) (YTi j.val) := by
  intro i _ j _ hij
  rw [Finset.disjoint_left]
  intro x h0 h1
  exact hij (Fin.ext ((Finset.mem_filter.1 h0).2.symm.trans (Finset.mem_filter.1 h1).2))
theorem tiles_univ : (Finset.univ : Finset (Fin 160)).biUnion (fun j => YTi j.val) = Finset.univ := by
  ext x
  have h : (x 0).val < 20480 := (x 0).isLt
  simp only [Finset.mem_biUnion, Finset.mem_univ, true_and, iff_true]
  exact ⟨⟨(x 0).val / 128, by omega⟩, Finset.mem_filter.2 ⟨Finset.mem_univ _, rfl⟩⟩

theorem tiles_of (f : Buf (Elt F) (LY c)) : (LY c ↦{fullShare} f) ⊢ Tiles (F := F) c (fun _ _ => True) := by
  have H := pointsTo_biUnion (ℓ := LY c) (q := fullShare) (f := f) (U := UU) (Ix := Unit) (Name := ℕ) (Lvl := ℕ) (Val := Elt F) Finset.univ (fun j : Fin 160 => YTi j.val) tiles_disj
  rw [tiles_univ] at H
  refine (Entails.of_eq H).trans (bigSep_mono fun j _ => ?_)
  show _ ⊢ iprop(∃ f : Buf (Elt F) (LY c), ⌜True⌝ ∗ LY c ↦[YTi j.val]{fullShare} f)
  iintro T
  iexists f; isplitr; · ipureintro; trivial
  iexact T

theorem tiles_join (P : Nat → (S20480x2048.Idx → Elt F .f32) → Prop)
    (hP : ∀ j, j < 160 → ∀ f g, (∀ x ∈ YTi j, f x = g x) → P j f → P j g) :
    Tiles c P ⊢ iprop(∃ f : Buf (Elt F) (LY c), ⌜∀ j, j < 160 → P j f⌝ ∗ LY c ↦{fullShare} f) := by
  have : Nonempty (Buf (Elt F) (LY c)) := ⟨fun _ => FloatOps.ofBits .f32 0⟩
  refine (bigSep_exists_pi Finset.univ (fun (j : Fin 160) (f : Buf (Elt F) (LY c)) => iprop(⌜P j.val f⌝ ∗ LY c ↦[YTi j.val]{fullShare} f))).trans ?_
  iintro ⟨%fs, H⟩
  ihave H := (bigSep_pure_sep Finset.univ (fun j : Fin 160 => P j.val (fs j)) (fun j : Fin 160 => LY c ↦[YTi j.val]{fullShare} fs j)) $$ H
  icases H with ⟨%hfs, H⟩
  ihave H := (pointsTo_biUnion_join (ℓ := LY c) (q := fullShare) Finset.univ (fun j : Fin 160 => YTi j.val) fs (fs 0) tiles_disj) $$ H
  rw [tiles_univ]
  icases H with ⟨%g, %hg, H⟩
  iexists g; isplitr
  · ipureintro
    intro j hj
    exact hP j hj (fs ⟨j, hj⟩) g (fun x hx => (hg ⟨j, hj⟩ (Finset.mem_univ _) x hx).symm) (hfs ⟨j, hj⟩ (Finset.mem_univ _))
  iexact H

theorem start_home : Tiles (F := F) c (fun _ _ => True)
    ⊢ iprop((∃ f : Buf (Elt F) (LY c), LY c ↦[YTi 0]{fullShare} f) ∗ (∃ f : Buf (Elt F) (LY c), LY c ↦[YTi 1]{fullShare} f) ∗ HOME c E 0) := by
  unfold Tiles HOME Hs
  rw [bigSep_erase (Finset.mem_univ (dT 0)), bigSep_erase (i := dT (0 + 1)) (Finset.mem_erase.2 ⟨by decide, Finset.mem_univ _⟩)]
  show iprop(TY c (fun _ => True) 0 ∗ TY c (fun _ => True) 1 ∗ bigSep ((Finset.univ.erase (dT 0)).erase (dT (0 + 1))) fun j : Fin 160 => TY (F := F) c (fun _ => True) j.val) ⊢ _
  have hm : (bigSep ((Finset.univ.erase (dT 0)).erase (dT (0 + 1))) fun j : Fin 160 => TY (F := F) c (fun _ => True) j.val)
      ⊢ bigSep ((Finset.univ.erase (dT 0)).erase (dT (0 + 1))) fun j => TY c (hp E 0 j.val) j.val := by
    refine bigSep_mono fun j hj => ?_
    show iprop(∃ f : Buf (Elt F) (LY c), ⌜True⌝ ∗ LY c ↦[YTi j.val]{fullShare} f) ⊢ iprop(∃ f : Buf (Elt F) (LY c), ⌜hp E 0 j.val f⌝ ∗ LY c ↦[YTi j.val]{fullShare} f)
    iintro ⟨%f, -, T⟩
    iexists f; isplitr; · ipureintro; exact fun h => absurd h (by omega)
    iexact T
  iintro ⟨⟨%f0, -, T0⟩, ⟨%f1, -, T1⟩, H⟩
  isplitl [T0]; · iexists f0; iexact T0
  isplitl [T1]; · iexists f1; iexact T1
  iapply hm $$ H

theorem end_home (hn1 : 128 ≤ n) (hn : n ≤ 160) : iprop(HOME c E n ∗ TY c (PP E n) (dest n) ∗ TY c (PP E (n + 1)) (dest (n + 1)))
    ⊢ Tiles c (fun j f => j < n → TileY (F := F) (E j) j f) := by
  have d0 : dest n = n - 2 := if_neg (by omega)
  have d1 : dest (n + 1) = n - 1 := if_neg (by omega)
  have v0 : (dT n).val = n - 2 := by rw [← d0]; exact Nat.mod_eq_of_lt (by omega)
  have v1 : (dT (n + 1)).val = n - 1 := by rw [← d1]; exact Nat.mod_eq_of_lt (by omega)
  unfold Tiles HOME Hs
  rw [bigSep_erase (s := Finset.univ) (Finset.mem_univ (dT n)), bigSep_erase (s := Finset.univ.erase (dT n)) (i := dT (n + 1)) (Finset.mem_erase.2 ⟨fun h => by have := congrArg Fin.val h; omega, Finset.mem_univ _⟩)]
  rw [v0, v1, d0, d1]
  have hm : (bigSep ((Finset.univ.erase (dT n)).erase (dT (n + 1))) fun j => TY c (hp E n j.val) j.val)
      ⊢ bigSep ((Finset.univ.erase (dT n)).erase (dT (n + 1))) fun j : Fin 160 => TY c (fun f => j.val < n → TileY (F := F) (E j.val) j.val f) j.val := by
    refine bigSep_mono fun j hj => ?_
    show iprop(∃ f : Buf (Elt F) (LY c), ⌜hp E n j.val f⌝ ∗ LY c ↦[YTi j.val]{fullShare} f) ⊢ iprop(∃ f : Buf (Elt F) (LY c), ⌜j.val < n → TileY (F := F) (E j.val) j.val f⌝ ∗ LY c ↦[YTi j.val]{fullShare} f)
    iintro ⟨%f, %hf, T⟩
    iexists f; isplitr
    · ipureintro
      intro h
      refine hf ?_
      have h1 : j.val ≠ n - 1 := fun e => (Finset.mem_erase.1 hj).1 (Fin.ext (e.trans v1.symm))
      have h2 : j.val ≠ n - 2 := fun e => (Finset.mem_erase.1 (Finset.mem_erase.1 hj).2).1 (Fin.ext (e.trans v0.symm))
      omega
    iexact T
  show _ ⊢ iprop(TY c (fun f => n - 2 < n → TileY (F := F) (E (n - 2)) (n - 2) f) (n - 2) ∗ TY c (fun f => n - 1 < n → TileY (F := F) (E (n - 1)) (n - 1) f) (n - 1)
    ∗ bigSep ((Finset.univ.erase (dT n)).erase (dT (n + 1))) fun j : Fin 160 => TY c (fun f => j.val < n → TileY (F := F) (E j.val) j.val f) j.val)
  iintro ⟨H, ⟨%f0, %p0, T0⟩, ⟨%f1, %p1, T1⟩⟩
  isplitl [T0]
  · iexists f0; isplitr
    · ipureintro; intro _; have := p0 (by omega); rw [d0] at this; exact this
    iexact T0
  isplitl [T1]
  · iexists f1; isplitr
    · ipureintro; intro _; have := p1 (by omega); rw [d1] at this; exact this
    iexact T1
  iapply hm $$ H

/-! ## The tiles past the last tile of work -/

/-- Zeros copied to tile `n + t`; the copies share the slot they read. -/
abbrev TD (fs : Buf (Elt F) (LyB c)) (t : Fin (160 - n)) : sProp 𝕄 :=
  iprop(TY c (fun f => TileY (F := F) (k0_pay4 (F := F)) (n + t.val) f) (n + t.val) ∗ (LyB c ↦[YSl 0]{Transfers.shareTok fullShare (160 - n) t} fs))
abbrev TN (fs : Buf (Elt F) (LyB c)) (t : Fin (160 - n)) : sProp 𝕄 :=
  iprop((∃ f : Buf (Elt F) (LY c), LY c ↦[YTi (n + t.val)]{fullShare} f) ∗ (LyB c ↦[YSl 0]{Transfers.shareTok fullShare (160 - n) t} fs))
abbrev TB (fs : Buf (Elt F) (LyB c)) (k u : ℕ) : sProp 𝕄 :=
  Batch countersEmb (c : Thread nD τ) (SemLoc.dma (cY 0)) () NY (TD c n fs) k u

theorem tiles_cut (P : Nat → (S20480x2048.Idx → Elt F .f32) → Prop) :
    Tiles c P = iprop((bigSep (Finset.univ.filter fun j : Fin 160 => j.val < n) fun j => TY c (P j.val) j.val)
      ∗ bigSep Finset.univ fun t : Fin (160 - n) => TY c (P (n + t.val)) (n + t.val)) := by
  unfold Tiles
  have himg : (Finset.univ.filter fun j : Fin 160 => ¬ j.val < n) = (Finset.univ : Finset (Fin (160 - n))).image fun t => (⟨n + t.val, by omega⟩ : Fin 160) := by
    ext j
    simp only [Finset.mem_filter, Finset.mem_univ, true_and, Finset.mem_image]
    refine ⟨fun h => ⟨⟨j.val - n, by omega⟩, Fin.ext (by show n + (j.val - n) = j.val; omega)⟩, ?_⟩
    rintro ⟨t, rfl⟩
    exact Nat.not_lt.2 (Nat.le_add_right _ _)
  rw [bigSep_filter_split Finset.univ (fun j : Fin 160 => j.val < n), himg,
    bigSep_image_of_injOn (fun a _ b _ h => Fin.ext (by have := congrArg Fin.val h; dsimp only at this; omega))]
  rfl

theorem enqTail (fs : Buf (Elt F) (LyB c)) (hf : HoldsY (F := F) (k0_pay4 (F := F)) 0 fs) {k : Nat} (hk : k < 160 - n)
    {o1 : Fin 1 → Nat} {o2 : Fin 3 → Nat} {o3 : Fin 2 → Nat} {h1 h2 h3}
    (e1 : o1 = ![0]) (e2 : o2 = ![0, 0, 0]) (e3 : o3 = ![128 * (n + k), 0]) {w1 w2 w3}
    {kk : PUnit → Prog (TpuEff nD τ sig (Elt F) Λ₀ .tc) α} :
    iprop(TB c n fs k 0 ∗ TN c n fs ⟨k, hk⟩)
      ⊢ iprop((TB c n fs (k + 1) 0 -∗ WP c (kk ⟨⟩) Q)
          -∗ WP c (.op (.enqueueDma (yS o2 h2) (.here (yT o3 h3)) (.dma (yC o1 h1)) w1 w2 w3) kk) Q) := by
  subst e1 e2 e3
  iintro ⟨HB, ⟨%f, Ht⟩, Hs⟩ Hk
  iapply (wp_dmaBatch countersEmb 𝒱₀ (c : Thread nD τ) none (sm := SemLoc.dma (cY 0)) (src := yS ![0, 0, 0] h2) (dst := yT ![128 * (n + k), 0] h3)
    (D := TD c n fs) (q := Transfers.shareTok fullShare (160 - n) ⟨k, hk⟩) (fs := fs) (fd := f) () NY (NY_eq _ _) (Finset.Subset.refl _) hk (Nat.zero_le _) ?_) $$ [HB Ht Hs]
  · rw [yT_set (n + k) h3, yS_set 0 h2]
    show _ ⊢ iprop(TY c (fun f => TileY (F := F) (k0_pay4 (F := F)) (n + k) f) (n + k) ∗ (LyB c ↦[YSl 0]{Transfers.shareTok fullShare (160 - n) ⟨k, hk⟩} fs))
    iintro ⟨A, B⟩
    isplitl [A]
    · iexists _; isplitr; · ipureintro; exact tile_write _ 0 (n + k) (by decide) h2 h3 fs hf f
      iexact A
    iexact B
  · rw [yT_set (n + k) h3, yS_set 0 h2]
    isplitl [Hs]; · iexact Hs
    isplitl [Ht]; · iexact Ht
    iexact HB
  iintro HB
  iapply Hk $$ HB

/-- Copies `0` to `k - 1` waited for: until the last, nothing is back. -/
def TW (fs : Buf (Elt F) (LyB c)) (k : Nat) : sProp 𝕄 :=
  if k < 160 - n then TB c n fs (160 - n) (NY * k) else iprop(bigSep Finset.univ (TD c n fs) ∗ semVal ((c : Thread nD τ), SemLoc.dma (cY 0)) 0)

theorem waitTail (fs : Buf (Elt F) (LyB c)) {k : Nat} (hk : k < 160 - n)
    {o1 : Fin 1 → Nat} {o3 : Fin 2 → Nat} {h1 h3} (e1 : o1 = ![0]) {sp' s' e'} {srcw : Memref sig .tc sp' s' e'} {w1 w2}
    {kk : PUnit → Prog (TpuEff nD τ sig (Elt F) Λ₀ .tc) α} :
    iprop(TW c n fs k ∗ Ow c)
      ⊢ iprop((iprop(TW c n fs (k + 1) ∗ Ow c) -∗ WP c (kk ⟨⟩) Q)
          -∗ WP c (.op (.waitDma2 (yC o1 h1) srcw (yT o3 h3) w1 w2) kk) Q) := by
  subst e1
  have e0 : TW c n fs k = TB c n fs (160 - n) (NY * k) := if_pos hk
  rw [e0]
  by_cases hl : k + 1 < 160 - n
  · have e1 : TW c n fs (k + 1) = TB c n fs (160 - n) (NY * (k + 1)) := if_pos hl
    rw [e1]
    iintro ⟨HB, %W, HW⟩ Hk
    iapply (wp_waitBatch countersEmb 𝒱₀ (c : Thread nD τ) none () (NY_eq o3 h3) (D := TD c n fs) (u := NY * k)
      (by rw [← Nat.mul_succ]; exact Nat.mul_lt_mul_of_pos_left hl NY_pos)) $$ [HB HW]
    · isplitl [HB]; · iexact HB
      iexact HW
    iintro ⟨HB, HW⟩
    iapply Hk
    isplitl [HB]; · rw [Nat.mul_succ]; iexact HB
    iexists _; iexact HW
  · have e1 : TW c n fs (k + 1) = iprop(bigSep Finset.univ (TD c n fs) ∗ semVal ((c : Thread nD τ), SemLoc.dma (cY 0)) 0) := if_neg hl
    rw [e1]
    iintro ⟨HB, %W, HW⟩ Hk
    iapply (wp_waitBatchLast countersEmb 𝒱₀ (c : Thread nD τ) none () (NY_eq o3 h3) NY_pos (D := TD c n fs) (u := NY * k)
      (by rw [← Nat.mul_succ]; exact congrArg (NY * ·) (by omega))) $$ [HB HW]
    · isplitl [HB]; · iexact HB
      iexact HW
    iintro ⟨HD, Hc, HW⟩
    iapply Hk
    isplitl [HD Hc]
    · isplitl [HD]; · iexact HD
      iexact Hc
    iexists _; iexact HW

theorem tailStage (hn1 : 128 ≤ n) (hn : n ≤ 160) (m3 : Memref sig .tc .vmem S1x1x2048x1024 .f32) (m4 : Memref sig .tc .vmem S1x1x512x2048 .f32)
    (i : grid0.Coords) (ha3 ha4) (h3) (hw3) {JP : Prog (TpuEff nD τ sig (Elt F) Λ₀ .tc) α} :
    iprop(Tiles c (fun j f => j < n → TileY (F := F) (E j) j f)
        ∗ (∃ fs : Buf (Elt F) (LyB c), ⌜HoldsY (F := F) (k0_pay4 (F := F)) 0 fs⌝ ∗ LyB c ↦[YSl 0]{fullShare} fs)
        ∗ semVal ((c : Thread nD τ), SemLoc.dma (cY 0)) 0 ∗ Ow c)
      ⊢ iprop((iprop(Tiles c (fun j f => (j < n → TileY (F := F) (E j) j f) ∧ (n ≤ j → TileY (F := F) (k0_pay4 (F := F)) j f)) ∗ SY (F := F) c 0
            ∗ semVal ((c : Thread nD τ), SemLoc.dma (cY 0)) 0 ∗ Ow c) -∗ WP c JP Q)
        -∗ WP c (Scf.Loop.for (k0_t3_loop (w n)) (k0_t3_ok i (w n) hw3 h3) ⟨⟩ (k0_t3_body (F := F) i (Memref.whole main_arg0) (Memref.isWhole_whole _) (Memref.whole main_arg1) (Memref.isWhole_whole _)
              m3 ha3 m4 ha4 (Memref.whole main_v0) (Memref.isWhole_whole _) (Memref.whole cc0_scratch0) (Memref.isWhole_whole _)
              (Memref.whole cc0_scratch1) (Memref.isWhole_whole _) cc0_scratch2 cc0_scratch3 h3 (w n) hw3) >>= fun _ =>
            Scf.Loop.for (k0_t4_loop (w n)) (k0_t4_ok i (w n) hw3 h3) ⟨⟩ (k0_t4_body (F := F) i (Memref.whole main_arg0) (Memref.isWhole_whole _) (Memref.whole main_arg1) (Memref.isWhole_whole _)
              m3 ha3 m4 ha4 (Memref.whole main_v0) (Memref.isWhole_whole _) (Memref.whole cc0_scratch0) (Memref.isWhole_whole _)
              (Memref.whole cc0_scratch1) (Memref.isWhole_whole _) cc0_scratch2 cc0_scratch3 h3 (w n) hw3) >>= fun _ =>
            Scf.Loop.for (k0_t5_loop (w n)) (k0_t5_ok i (w n) hw3 h3) ⟨⟩ (k0_t5_body (F := F) i (Memref.whole main_arg0) (Memref.isWhole_whole _) (Memref.whole main_arg1) (Memref.isWhole_whole _)
              m3 ha3 m4 ha4 (Memref.whole main_v0) (Memref.isWhole_whole _) (Memref.whole cc0_scratch0) (Memref.isWhole_whole _)
              (Memref.whole cc0_scratch1) (Memref.isWhole_whole _) cc0_scratch2 cc0_scratch3 h3 (w n) hw3) >>= fun _ =>
            Scf.Loop.for (k0_t6_loop (w n)) (k0_t6_ok i (w n) hw3 h3) ⟨⟩ (k0_t6_body (F := F) i (Memref.whole main_arg0) (Memref.isWhole_whole _) (Memref.whole main_arg1) (Memref.isWhole_whole _)
              m3 ha3 m4 ha4 (Memref.whole main_v0) (Memref.isWhole_whole _) (Memref.whole cc0_scratch0) (Memref.isWhole_whole _)
              (Memref.whole cc0_scratch1) (Memref.isWhole_whole _) cc0_scratch2 cc0_scratch3 h3 (w n) hw3) >>= fun _ => JP) Q) := by
  have tr3 : Scf.trips (k0_t3_loop (w n)).lb (k0_t3_loop (w n)).ub (k0_t3_loop (w n)).st = 160 - n := t3_trips hn
  have tr5 : Scf.trips (k0_t5_loop (w n)).lb (k0_t5_loop (w n)).ub (k0_t5_loop (w n)).st = 160 - n := t5_trips hn
  have tr4 : Scf.trips (k0_t4_loop (w n)).lb (k0_t4_loop (w n)).ub (k0_t4_loop (w n)).st = 0 :=
    Scf.rem_trips 0#32 (Scalar.subi (fd (Scalar.subi 20480#32 (w n))) 0#32)
  have tr6 : Scf.trips (k0_t6_loop (w n)).lb (k0_t6_loop (w n)).ub (k0_t6_loop (w n)).st = 0 :=
    Scf.rem_trips 0#32 (Scalar.subi (fd (Scalar.subi 20480#32 (w n))) 0#32)
  have hTW : ∀ fs : Buf (Elt F) (LyB c), TB c n fs (160 - n) 0 ⊢ (|={Set.univ}=> TW c n fs 0 : sProp 𝕄) := by
    intro fs
    by_cases h0 : 0 < 160 - n
    · have e : TW c n fs 0 = TB c n fs (160 - n) 0 := if_pos h0
      rw [e]; iintro H; imodintro; iexact H
    · have e : TW c n fs 0 = iprop(bigSep Finset.univ (TD c n fs) ∗ semVal ((c : Thread nD τ), SemLoc.dma (cY 0)) 0) := if_neg h0
      rw [e]
      have H := batch_collect' countersEmb (c : Thread nD τ) (sm := SemLoc.dma (cY 0)) (ι := ()) NY_pos (D := TD c n fs)
      rw [show NY * (160 - n) = 0 from by rw [show 160 - n = 0 from by omega]; rfl] at H
      exact H
  have hD : ∀ fs : Buf (Elt F) (LyB c), bigSep Finset.univ (TD c n fs) ⊢ iprop((bigSep Finset.univ fun t : Fin (160 - n) => TY c (fun f => (n + t.val < n → TileY (F := F) (E (n + t.val)) (n + t.val) f) ∧ (n ≤ n + t.val → TileY (F := F) (k0_pay4 (F := F)) (n + t.val) f)) (n + t.val))
      ∗ bigSep Finset.univ fun t : Fin (160 - n) => LyB c ↦[YSl 0]{Transfers.shareTok fullShare (160 - n) t} fs) := by
    intro fs; rw [← bigSep_sep']
    refine bigSep_mono fun t _ => ?_
    show TD c n fs t ⊢ iprop(TY c (fun f => (n + t.val < n → TileY (F := F) (E (n + t.val)) (n + t.val) f) ∧ (n ≤ n + t.val → TileY (F := F) (k0_pay4 (F := F)) (n + t.val) f)) (n + t.val) ∗ (LyB c ↦[YSl 0]{Transfers.shareTok fullShare (160 - n) t} fs))
    iintro ⟨⟨%f, %hf, T⟩, S⟩
    isplitl [T]
    · iexists f; isplitr; · ipureintro; exact ⟨fun h => absurd h (by omega), fun _ => hf⟩
      iexact T
    iexact S
  have hL : (bigSep (Finset.univ.filter fun j : Fin 160 => j.val < n) fun j => TY c (fun f => j.val < n → TileY (F := F) (E j.val) j.val f) j.val)
      ⊢ bigSep (Finset.univ.filter fun j : Fin 160 => j.val < n) fun j => TY c (fun f => (j.val < n → TileY (F := F) (E j.val) j.val f) ∧ (n ≤ j.val → TileY (F := F) (k0_pay4 (F := F)) j.val f)) j.val := by
    refine bigSep_mono fun j hj => ?_
    have hjn := (Finset.mem_filter.1 hj).2
    show TY c (fun f => j.val < n → TileY (F := F) (E j.val) j.val f) j.val ⊢ TY c (fun f => (j.val < n → TileY (F := F) (E j.val) j.val f) ∧ (n ≤ j.val → TileY (F := F) (k0_pay4 (F := F)) j.val f)) j.val
    iintro ⟨%f, %hf, T⟩
    iexists f; isplitr; · ipureintro; exact ⟨hf, fun h => absurd h (by omega)⟩
    iexact T
  have eT : ∀ fs : Buf (Elt F) (LyB c), TW c n fs (160 - n) ⊢ iprop(bigSep Finset.univ (TD c n fs) ∗ semVal ((c : Thread nD τ), SemLoc.dma (cY 0)) 0) := fun fs => by
    rw [show TW c n fs (160 - n) = _ from if_neg (Nat.lt_irrefl _)]
  rw [tiles_cut c n, tiles_cut c n]
  iintro ⟨⟨Hlo, Hhi⟩, ⟨%fs, %hfs, Hs⟩, Hc, HW⟩ Hk
  ihave Hs := (Transfers.pointsTo_toks_split fullShare (160 - n)) $$ Hs
  icases Hs with ⟨Hs0, Hs⟩
  have hN : iprop((bigSep Finset.univ fun t : Fin (160 - n) => TY c (fun f => n + t.val < n → TileY (F := F) (E (n + t.val)) (n + t.val) f) (n + t.val))
      ∗ bigSep Finset.univ fun t : Fin (160 - n) => LyB c ↦[YSl 0]{Transfers.shareTok fullShare (160 - n) t} fs) ⊢ bigSep (pending 0) (TN c n fs) := by
    rw [pending_zero, ← bigSep_sep']
    refine bigSep_mono fun t _ => ?_
    show iprop(TY c (fun f => n + t.val < n → TileY (F := F) (E (n + t.val)) (n + t.val) f) (n + t.val) ∗ (LyB c ↦[YSl 0]{Transfers.shareTok fullShare (160 - n) t} fs)) ⊢ TN c n fs t
    iintro ⟨⟨%f, -, T⟩, S⟩
    isplitl [T]; · iexists f; iexact T
    iexact S
  ihave HN := hN $$ [Hhi Hs]
  · isplitl [Hhi]; · iexact Hhi
    iexact Hs
  imod (batch_alloc' countersEmb (c : Thread nD τ) () NY (TD c n fs)) $$ Hc with HB
  unfold Scf.Loop.for
  iapply (Scf.wp_for_bind (Fr := frame) (wpE := wpE' (defs₀ (F := F)) 𝒱₀ (c : Thread nD τ) none .empty) (Es := Set.univ) _ _ _ _ _ _
    (I := fun k _ => iprop(TB c n fs k 0 ∗ bigSep (pending k) (TN c n fs))) (hbody := ?_)) $$ [HB HN]
  · intro k acc
    have hk : k.val < 160 - n := lt_of_lt_of_eq k.isLt tr3
    rw [bigSep_pending_step (TN c n fs) k.val hk]
    unfold k0_t3_body
    simp only [Prog.lift, Prog.bind_op, Prog.bind_ret]
    iintro ⟨HB, HT, HN⟩
    iapply (enqTail c n fs hfs hk rfl rfl (off32_eq hn k)) $$ [HB HT]
    · isplitl [HB]; · iexact HB
      iexact HT
    iintro HB
    iapply (wpRet c (Q := fun _ : Unit => iprop(TB c n fs (k.val + 1) 0 ∗ bigSep (pending (k.val + 1)) (TN c n fs))))
    isplitl [HB]; · iexact HB
    iexact HN
  · isplitl [HB]; · iexact HB
    iexact HN
  iintro %x ⟨HB, -⟩
  rw [Scf.for_eq_ret _ _ _ _ _ _ tr4]
  simp only [Prog.bind_ret]
  rw [tr3]
  imod hTW fs $$ HB with HB
  iapply (Scf.wp_for_bind (Fr := frame) (wpE := wpE' (defs₀ (F := F)) 𝒱₀ (c : Thread nD τ) none .empty) (Es := Set.univ) _ _ _ _ _ _
    (I := fun k _ => iprop(TW c n fs k ∗ Ow c)) (hbody := ?_)) $$ [HB HW]
  · intro k acc
    have hk : k.val < 160 - n := lt_of_lt_of_eq k.isLt tr5
    unfold k0_t5_body
    simp only [Prog.lift, Prog.bind_op, Prog.bind_ret]
    iintro H
    iapply (waitTail c n fs hk rfl) $$ H
    iintro H
    iapply (wpRet c (Q := fun _ : Unit => iprop(TW c n fs (k.val + 1) ∗ Ow c)))
    iexact H
  · isplitl [HB]; · iexact HB
    iexact HW
  iintro %y ⟨HT, HW⟩
  rw [Scf.for_eq_ret _ _ _ _ _ _ tr6]
  simp only [Prog.bind_ret]
  rw [tr5]
  ihave HT := eT fs $$ HT
  icases HT with ⟨HD, Hc⟩
  ihave HD := hD fs $$ HD
  icases HD with ⟨HT, HS⟩
  iapply Hk
  isplitl [Hlo HT]
  · isplitl [Hlo]; · iapply hL $$ Hlo
    iexact HT
  isplitl [Hs0 HS]
  · iexists fs
    iapply (Transfers.pointsTo_toks_join fullShare (160 - n))
    isplitl [Hs0]; · iexact Hs0
    iexact HS
  isplitl [Hc]; · iexact Hc
  iexact HW

end Ends

end Cert.ExpertsIdeal.Ring
-- ==== Proof.ExpertsIdealBody.lean ====
/-
  One step of the feed-forward kernel: the first starts the ring of copies, every step runs its expert's tiles, the last
  drains the ring and writes the tiles past the last tile of work as zeros.
-/
module

public import proofs.«01_k».proof.Proof.ExpertsIdealEnds

@[expose] public section

noncomputable section

namespace Cert.ExpertsIdeal.Ring

open Cert.ExpertsIdeal Cert.ExpertsIdeal.Gen Cert.ExpertsIdeal.Words
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

theorem off1_eq (i : grid0.Coords) : k0_off1 i = ![(i 0).val] := by
  have h : (i 0).val < 32 := (i 0).isLt
  show ![(BitVec.ofNat 32 (i 0).val).toNat] = _
  rw [toNat_w (by omega)]
theorem off2_eq (i : grid0.Coords) : k0_off2 i = ![(i 0).val + 1] := by
  have h : (i 0).val < 32 := (i 0).isLt
  have : ∀ e : Fin 32, (Scalar.addi (BitVec.ofNat 32 e.val) 1#32).toNat = e.val + 1 := by decide
  exact congrArg (fun z => (![z] : Fin 1 → Nat)) (this ⟨_, h⟩)
theorem cond1_eq (i : grid0.Coords) : k0_cond1 i = if (i 0).val = 0 then 1#1 else 0#1 := by
  have h : (i 0).val < 32 := (i 0).isLt
  have : ∀ e : Fin 32, Scalar.cmpi .ne (Scalar.extui (Scalar.cmpi .eq (BitVec.ofNat 32 e.val) 0#32) : BitVec 32) 0#32 = if e.val = 0 then 1#1 else 0#1 := by decide
  exact this ⟨_, h⟩
theorem cond3_eq (i : grid0.Coords) : k0_cond3 i = if (i 0).val = 31 then 1#1 else 0#1 := by
  have h : (i 0).val < 32 := (i 0).isLt
  have : ∀ e : Fin 32, Scalar.cmpi .ne (Scalar.extui (Scalar.cmpi .eq (BitVec.ofNat 32 e.val) 31#32) : BitVec 32) 0#32 = if e.val = 31 then 1#1 else 0#1 := by decide
  exact this ⟨_, h⟩

section Body
variable (c : Dev nD) (X : Buf (Elt F) (LX c)) (n : Nat) (E : Nat → S1x128x2048.Idx → Elt F .f32)
variable {α : Type} {Q : α → sProp (MT nD τ sig Unit (Elt F) ℕ UU ℕ)}

abbrev LT : Loc nD τ sig := (c : Thread nD τ).loc main_arg0

/-- A word of the table. -/
theorem ldWord (T : Buf (Elt F) (LT c)) {q : PosShare TreeShare} {e : Fin 33} {x : BitVec 32} (hx : T (ix1 e) = x)
    {off : Fin 1 → Nat} {h : ∀ x, off x + S1.size x ≤ S33.size x} (eo : off = ![e.val]) {hl}
    {k : Vec F S1 .i32 → Prog (TpuEff nD τ sig (Elt F) Λ₀ .tc) α} :
    (LT c ↦{q} T) ⊢ iprop(((LT c ↦{q} T) -∗ WP c (k (fun _ => x)) Q)
      -∗ WP c (.op (.load (Memref.whole main_arg0 : Memref sig .tc .smem S33 .i32) (Rect.unit (s := S33) off S1.size h).toLoadRect hl) k) Q) := by
  subst eo
  have hv : ((Memref.whole main_arg0 : Memref sig .tc .smem S33 .i32).access (Rect.unit (s := S33) ![e.val] S1.size h)).read (Elt F) T = fun _ => x := by
    subst hx
    funext (y : S1.Idx)
    have y0 : (y 0).val < 1 := (y 0).isLt
    show T ((Rect.unit (s := S33) ![e.val] S1.size h).emb y) = T (ix1 e)
    refine congrArg T ?_
    funext a; apply Fin.ext
    fin_cases a
    exact show e.val + 1 * (y 0).val = e.val by omega
  have H := wp_load_rect (defs := defs₀ (F := F)) (Γ := .empty) (Q := Q) (m := (Memref.whole main_arg0 : Memref sig .tc .smem S33 .i32))
    (r := Rect.unit (s := S33) ![e.val] S1.size h) (hl := hl)
    (k := k) (S := Finset.univ) (f := T) (q := q) 𝒱₀ (c : Thread nD τ) none Set.univ (Finset.subset_univ _)
  rw [hv] at H
  exact H

variable (m3 : Memref sig .tc .vmem S1x1x2048x1024 .f32) (m4 : Memref sig .tc .vmem S1x1x512x2048 .f32)
  (f3 : Buf (Elt F) (m3.view.loc (c : Thread nD τ))) (f4 : Buf (Elt F) (m4.view.loc (c : Thread nD τ)))
  (T : Buf (Elt F) (LT c)) (qT : PosShare TreeShare) (av : Nat → Nat)

abbrev tab : Memref sig .tc .smem S33 .i32 := Memref.whole main_arg0

theorem wp_seq {β : Type} {P : sProp 𝕄} {p : Prog (TpuEff nD τ sig (Elt F) Λ₀ .tc) β} {k : β → Prog (TpuEff nD τ sig (Elt F) Λ₀ .tc) α}
    (Q1 : β → sProp 𝕄) (h1 : P ⊢ WP c p Q1) (h2 : ∀ x, Q1 x ⊢ WP c (k x) Q) : P ⊢ WP c (p >>= k) Q := by
  show P ⊢ wp _ _ _ _ _
  rw [wp_bind]
  exact h1.trans (wp_mono _ _ _ h2)

/-- The three words of the table a step reads: its own first row, the next expert's, and the last. -/
theorem part14 (hT : ∀ e : Fin 33, T (ix1 e) = w (av e.val)) (i : grid0.Coords) {a b : Nat} (ha : av (i 0).val = a) (hb : av ((i 0).val + 1) = b)
    (hn32 : av 32 = n) (hab : a ≤ b) (hbn : b ≤ n) (hn1 : 128 ≤ n) (hn : n ≤ 160) (ha3 ha4) :
    (LT c ↦{qT} T) ⊢ WP c (k0_part14 (F := F) i (Memref.whole main_arg0) (Memref.isWhole_whole _) (Memref.whole main_arg1) (Memref.isWhole_whole _)
          m3 ha3 m4 ha4 (Memref.whole main_v0) (Memref.isWhole_whole _) (Memref.whole cc0_scratch0) (Memref.isWhole_whole _)
          (Memref.whole cc0_scratch1) (Memref.isWhole_whole _) cc0_scratch2 cc0_scratch3)
        (fun r => iprop(⌜∃ a0 v18 v39 hw2 hw1, r = ⟨a0, w a, v18, w b, hw2, v39, w n, hw1⟩⌝ ∗ (LT c ↦{qT} T))) := by
  have hi : (i 0).val < 32 := (i 0).isLt
  subst ha; subst hb
  rw [k0_part14_eq_skeleton]; unfold k0_part14_skel
  simp only [smemLoad, smemLoadElt, Prog.lift, Prog.bind_op, Prog.bind_ret]
  iintro HT
  iapply (ldWord c T (e := ⟨(i 0).val, by omega⟩) (hT _) (off1_eq i)) $$ HT
  iintro HT
  iapply (ldWord c T (e := ⟨(i 0).val + 1, by omega⟩) (hT _) (off2_eq i)) $$ HT
  iintro HT
  iapply (wp_assume (defs := defs₀ (F := F)) (Γ := .empty) 𝒱₀ (c : Thread nD τ) none Set.univ (chk2 hab (by omega)))
  iapply (ldWord c T (e := ⟨32, by omega⟩) ((hT _).trans (congrArg w hn32)) rfl) $$ HT
  iintro HT
  iapply (wp_assume (defs := defs₀ (F := F)) (Γ := .empty) 𝒱₀ (c : Thread nD τ) none Set.univ (chk1 i hab (by omega) hn1 hn))
  iapply (wpRet c (Q := fun r : (Σ' (arg0 : BitVec 32) (v1 : Elt F .i32) (v18 : BitVec 32) (v21 : Elt F .i32) (k0_hw2 : k0_chk2 v1 v21) (v39 : BitVec 32) (v40 : Elt F .i32), k0_chk1 i v1 v21 v40) => iprop(⌜∃ a0 v18 v39 hw2 hw1, r = ⟨a0, w _, v18, w _, hw2, v39, w n, hw1⟩⌝ ∗ (LT c ↦{qT} T))))
  isplitr
  · ipureintro
    exact ⟨_, _, _, _, _, rfl⟩
  iexact HT

/-- The step's loop over its expert's tiles. -/
theorem loopStage {a b : Nat} (hab : a ≤ b) (hb : b ≤ n) (hn1 : 128 ≤ n) (hn : n ≤ 160)
    {v3 : Vec F S1x1x2048x1024 .f32} {v4 : Vec F S1x1x512x2048 .f32} (h3 : m3.view.read (Elt F) f3 = v3) (h4 : m4.view.read (Elt F) f4 = v4)
    (hE : ∀ j, a ≤ j → j < b → E j = tileOut X v3 v4 j)
    (i : grid0.Coords) (ha3 ha4) (v18 v57 v71 : BitVec 32) (hw2) (hw1)
    {JP : Prog (TpuEff nD τ sig (Elt F) Λ₀ .tc) α} :
    iprop(R c X n E a ∗ Wts c m3 m4 f3 f4)
      ⊢ iprop((iprop(R c X n E b ∗ Wts c m3 m4 f3 f4) -∗ WP c JP Q)
        -∗ WP c (if h2 : k0_cond2 (w a) (w b) = 1#1 then
            Scf.Loop.for (k0_t1_loop (w a) (w b)) (k0_t1_ok (w a) (w b) hw2 h2) ⟨⟩ (k0_t1_body (F := F) i (Memref.whole main_arg0) (Memref.isWhole_whole _) (Memref.whole main_arg1) (Memref.isWhole_whole _)
              m3 ha3 m4 ha4 (Memref.whole main_v0) (Memref.isWhole_whole _) (Memref.whole cc0_scratch0) (Memref.isWhole_whole _)
              (Memref.whole cc0_scratch1) (Memref.isWhole_whole _) cc0_scratch2 cc0_scratch3 (w a) v18 (w b) hw2 (w n) hw1 v57 h2) >>= fun _ =>
            Scf.Loop.for (k0_t2_loop (w a) (w b)) (k0_t2_ok (w a) (w b) hw2 h2) ⟨⟩ (k0_t2_body (F := F) i (Memref.whole main_arg0) (Memref.isWhole_whole _) (Memref.whole main_arg1) (Memref.isWhole_whole _)
              m3 ha3 m4 ha4 (Memref.whole main_v0) (Memref.isWhole_whole _) (Memref.whole cc0_scratch0) (Memref.isWhole_whole _)
              (Memref.whole cc0_scratch1) (Memref.isWhole_whole _) cc0_scratch2 cc0_scratch3 (w a) v18 (w b) hw2 (w n) hw1 v57 h2 v71) >>= fun _ => JP
          else JP) Q) := by
  iintro HR HK
  have htr : a + Scf.trips (k0_t1_loop (w a) (w b)).lb (k0_t1_loop (w a) (w b)).ub (k0_t1_loop (w a) (w b)).st = b := by
    have ht := t1_trips hab (show b ≤ 160 by omega)
    exact (congrArg (a + ·) ht).trans (by omega)
  by_cases h2 : k0_cond2 (w a) (w b) = 1#1
  · rw [dif_pos h2]
    unfold Scf.Loop.for
    iapply (Scf.wp_for_bind (Fr := frame) (wpE := wpE' (defs₀ (F := F)) 𝒱₀ (c : Thread nD τ) none .empty) (Es := Set.univ) _ _ _ _ _ _
      (I := fun k _ => iprop(R c X n E (a + k) ∗ Wts c m3 m4 f3 f4))
      (hbody := fun k _ => trip c X n E m3 m4 f3 f4 hab hb hn1 hn h3 h4 hE i ha3 ha4 v18 v57 hw2 hw1 h2 k)) $$ HR
    iintro %x HR
    rw [Scf.for_eq_ret _ _ _ _ _ _ (t2_trips (w a) (w b))]
    simp only [Prog.bind_ret]
    iapply HK
    rw [htr]
    iexact HR
  · rw [dif_neg h2]
    have hh : a = b := by
      rw [cond2_eq hab (by omega)] at h2
      by_contra hne
      exact h2 (if_pos (by omega))
    subst hh
    iapply HK $$ HR

theorem body_mid (hT : ∀ e : Fin 33, T (ix1 e) = w (av e.val)) {a b : Nat} (i : grid0.Coords) (ha : av (i 0).val = a) (hb : av ((i 0).val + 1) = b)
    (hn32 : av 32 = n) (hab : a ≤ b) (hbn : b ≤ n) (hn1 : 128 ≤ n) (hn : n ≤ 160)
    (hi0 : (i 0).val ≠ 0) (hi31 : (i 0).val ≠ 31)
    {v3 : Vec F S1x1x2048x1024 .f32} {v4 : Vec F S1x1x512x2048 .f32} (h3 : m3.view.read (Elt F) f3 = v3) (h4 : m4.view.read (Elt F) f4 = v4)
    (hE : ∀ j, a ≤ j → j < b → E j = tileOut X v3 v4 j) (ha3 ha4) :
    iprop(R c X n E a ∗ Wts c m3 m4 f3 f4 ∗ (LT c ↦{qT} T))
      ⊢ WP c (cc0_experts (F := F) i (Memref.whole main_arg0) (Memref.isWhole_whole _) (Memref.whole main_arg1) (Memref.isWhole_whole _)
          m3 ha3 m4 ha4 (Memref.whole main_v0) (Memref.isWhole_whole _) (Memref.whole cc0_scratch0) (Memref.isWhole_whole _)
          (Memref.whole cc0_scratch1) (Memref.isWhole_whole _) cc0_scratch2 cc0_scratch3)
        (fun _ => iprop(R c X n E b ∗ Wts c m3 m4 f3 f4 ∗ (LT c ↦{qT} T))) := by
  rw [cc0_experts_eq_skeleton]; unfold cc0_experts_skel
  refine wp_seq c (fun r => iprop(⌜∃ a0 v18 v39 hw2 hw1, r = ⟨a0, w a, v18, w b, hw2, v39, w n, hw1⟩⌝ ∗ R c X n E a ∗ Wts c m3 m4 f3 f4 ∗ (LT c ↦{qT} T))) ?_ ?_
  · iintro ⟨HR, HWt, HT⟩
    iapply (wp_wand (Fr := frame)) $$ [HT]
    · iapply (part14 c n m3 m4 T qT av hT i ha hb hn32 hab hbn hn1 hn ha3 ha4) $$ HT
    iintro %r ⟨%hr, HT⟩
    isplitr; · ipureintro; exact hr
    isplitl [HR]; · iexact HR
    isplitl [HWt]; · iexact HWt
    iexact HT
  intro r
  iintro ⟨%hr, HR, HWt, HT⟩
  obtain ⟨a0, v18, v39, hw2, hw1, rfl⟩ := hr
  simp only [Prog.lift, Prog.bind_op, Prog.bind_ret]
  rw [dif_neg (show ¬ k0_cond1 i = 1#1 by rw [cond1_eq, if_neg hi0]; decide)]
  rw [dif_neg (show ¬ k0_cond3 i = 1#1 by rw [cond3_eq, if_neg hi31]; decide)]
  iapply (loopStage c X n E m3 m4 f3 f4 hab hbn hn1 hn h3 h4 hE i ha3 ha4) $$ [HR HWt]
  · isplitl [HR]; · iexact HR
    iexact HWt
  iintro ⟨HR, HWt⟩
  iapply (wpRet c (Q := fun _ : PUnit => iprop(R c X n E b ∗ Wts c m3 m4 f3 f4 ∗ (LT c ↦{qT} T))))
  isplitl [HR]; · iexact HR
  isplitl [HWt]; · iexact HWt
  iexact HT

end Body

end Cert.ExpertsIdeal.Ring
-- ==== Proof.ExpertsIdealSteps.lean ====
/-
  The first and the last step of the feed-forward kernel: from buffers at rest to the ring of copies, and back.
-/
module

public import proofs.«01_k».proof.Proof.ExpertsIdealBody

@[expose] public section

noncomputable section

namespace Cert.ExpertsIdeal.Ring

open Cert.ExpertsIdeal Cert.ExpertsIdeal.Gen Cert.ExpertsIdeal.Words
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section Steps
variable (c : Dev nD) (X : Buf (Elt F) (LX c)) (n : Nat) (E : Nat → S1x128x2048.Idx → Elt F .f32)
variable {α : Type} {Q : α → sProp (MT nD τ sig Unit (Elt F) ℕ UU ℕ)}
variable (m3 : Memref sig .tc .vmem S1x1x2048x1024 .f32) (m4 : Memref sig .tc .vmem S1x1x512x2048 .f32)
  (f3 : Buf (Elt F) (m3.view.loc (c : Thread nD τ))) (f4 : Buf (Elt F) (m4.view.loc (c : Thread nD τ)))
  (T : Buf (Elt F) (LT c)) (qT : PosShare TreeShare) (av : Nat → Nat)

/-- What tile `j` holds at the end: its expert's result below tile `n`, zeros past it. -/
def fin_ (j : Nat) (f : S20480x2048.Idx → Elt F .f32) : Prop :=
  (j < n → TileY (F := F) (E j) j f) ∧ (n ≤ j → TileY (F := F) (k0_pay4 (F := F)) j f)

/-- Everything at rest: before the first step, and after the last. -/
def Rest : sProp 𝕄 := iprop(bigSep Finset.univ (FreeX c X) ∗ (∃ f : Buf (Elt F) (LyB c), LyB c ↦{fullShare} f)
  ∗ semVal ((c : Thread nD τ), SemLoc.dma (cY 0)) 0 ∗ semVal ((c : Thread nD τ), SemLoc.dma (cY 1)) 0)

theorem fl_start : bigSep Finset.univ (FreeX c X) = bigSep Finset.univ (fl c X n 0) :=
  (bigSep_congr fun s _ => if_neg (Nat.not_lt_zero _)).symm

/-- The two copies out under way before the last step's waits, by slot. -/
theorem outs : iprop(outF c E n ∗ outF c E (n + 1)) ⊢ iprop(∃ p0 p1 : Nat, ⌜(p0 = n ∧ p1 = n + 1) ∨ (p0 = n + 1 ∧ p1 = n)⌝
    ∗ OutF c (PP E p0) 0 (dest p0) ∗ OutF c (PP E p1) 1 (dest p1)) := by
  rcases Nat.mod_two_eq_zero_or_one n with h | h
  · have e0 : sy n = 0 := Fin.ext h
    have e1 : sy (n + 1) = 1 := Fin.ext (show (n + 1) % 2 = 1 by omega)
    have k0 : outF c E n = OutF c (PP E n) 0 (dest n) := congrArg (fun s => OutF c (PP E n) s (dest n)) e0
    have k1 : outF c E (n + 1) = OutF c (PP E (n + 1)) 1 (dest (n + 1)) := congrArg (fun s => OutF c (PP E (n + 1)) s (dest (n + 1))) e1
    rw [k0, k1]
    iintro ⟨A, B⟩
    iexists n; iexists (n + 1)
    isplitr; · ipureintro; exact Or.inl ⟨rfl, rfl⟩
    isplitl [A]; · iexact A
    iexact B
  · have e0 : sy n = 1 := Fin.ext h
    have e1 : sy (n + 1) = 0 := Fin.ext (show (n + 1) % 2 = 0 by omega)
    have k0 : outF c E n = OutF c (PP E n) 1 (dest n) := congrArg (fun s => OutF c (PP E n) s (dest n)) e0
    have k1 : outF c E (n + 1) = OutF c (PP E (n + 1)) 0 (dest (n + 1)) := congrArg (fun s => OutF c (PP E (n + 1)) s (dest (n + 1))) e1
    rw [k0, k1]
    iintro ⟨A, B⟩
    iexists (n + 1); iexists n
    isplitr; · ipureintro; exact Or.inr ⟨rfl, rfl⟩
    isplitl [B]; · iexact B
    iexact A

theorem home_end (hn1 : 128 ≤ n) (hn : n ≤ 160) {p0 p1 : Nat} (hp01 : (p0 = n ∧ p1 = n + 1) ∨ (p0 = n + 1 ∧ p1 = n)) :
    iprop(HOME c E n ∗ TY c (PP E p0) (dest p0) ∗ TY c (PP E p1) (dest p1)) ⊢ Tiles c (fun j f => j < n → TileY (F := F) (E j) j f) := by
  rcases hp01 with ⟨rfl, rfl⟩ | ⟨rfl, rfl⟩
  · exact end_home c _ E hn1 hn
  · iintro ⟨A, B, C⟩
    iapply (end_home c _ E hn1 hn)
    isplitl [A]; · iexact A
    isplitl [C]; · iexact C
    iexact B

theorem fin_agree (j : Nat) (hj : j < 160) (f g : S20480x2048.Idx → Elt F .f32) (h : ∀ i ∈ YTi j, f i = g i) (hf : fin_ n E j f) : fin_ n E j g := by
  have key : ∀ v, TileY (F := F) v j f → TileY (F := F) v j g := fun v H hj r q =>
    (h _ (by simp only [YTi, Finset.mem_filter, Finset.mem_univ, true_and, ix2]; exact (by have := r.isLt; show (128 * j + r.val) / 128 = j; omega))).symm.trans (H hj r q)
  exact ⟨fun a => key _ (hf.1 a), fun a => key _ (hf.2 a)⟩

theorem body_first (hT : ∀ e : Fin 33, T (ix1 e) = w (av e.val)) {a b : Nat} (i : grid0.Coords) (ha : av (i 0).val = a) (hb : av ((i 0).val + 1) = b)
    (hn32 : av 32 = n) (hab : a ≤ b) (hbn : b ≤ n) (hn1 : 128 ≤ n) (hn : n ≤ 160)
    (hi0 : (i 0).val = 0) (ha0 : a = 0)
    {v3 : Vec F S1x1x2048x1024 .f32} {v4 : Vec F S1x1x512x2048 .f32} (h3 : m3.view.read (Elt F) f3 = v3) (h4 : m4.view.read (Elt F) f4 = v4)
    (hE : ∀ j, a ≤ j → j < b → E j = tileOut X v3 v4 j) (ha3 ha4) :
    iprop((Rest c X ∗ Tiles (F := F) c (fun _ _ => True) ∗ Ow c) ∗ Wts c m3 m4 f3 f4 ∗ (LT c ↦{qT} T))
      ⊢ WP c (cc0_experts (F := F) i (Memref.whole main_arg0) (Memref.isWhole_whole _) (Memref.whole main_arg1) (Memref.isWhole_whole _)
          m3 ha3 m4 ha4 (Memref.whole main_v0) (Memref.isWhole_whole _) (Memref.whole cc0_scratch0) (Memref.isWhole_whole _)
          (Memref.whole cc0_scratch1) (Memref.isWhole_whole _) cc0_scratch2 cc0_scratch3)
        (fun _ => iprop((R c X n E b) ∗ Wts c m3 m4 f3 f4 ∗ (LT c ↦{qT} T))) := by
  rw [cc0_experts_eq_skeleton]; unfold cc0_experts_skel
  refine wp_seq c (fun r => iprop(⌜∃ a0 v18 v39 hw2 hw1, r = ⟨a0, w a, v18, w b, hw2, v39, w n, hw1⟩⌝ ∗ (Rest c X ∗ Tiles (F := F) c (fun _ _ => True) ∗ Ow c) ∗ Wts c m3 m4 f3 f4 ∗ (LT c ↦{qT} T))) ?_ ?_
  · iintro ⟨HR, HWt, HT⟩
    iapply (wp_wand (Fr := frame)) $$ [HT]
    · iapply (part14 c n m3 m4 T qT av hT i ha hb hn32 hab hbn hn1 hn ha3 ha4) $$ HT
    iintro %r ⟨%hr, HT⟩
    isplitr; · ipureintro; exact hr
    isplitl [HR]; · iexact HR
    isplitl [HWt]; · iexact HWt
    iexact HT
  intro r
  subst ha0
  unfold Rest
  rw [fl_start c X n]
  iintro ⟨%hr, ⟨⟨HI, ⟨%fy, HY⟩, Hc0, Hc1⟩, HTi, HW⟩, HWt, HT⟩
  obtain ⟨a0, v18, v39, hw2, hw1, rfl⟩ := hr
  simp only [Prog.lift, Prog.bind_op, Prog.bind_ret]
  rw [dif_pos (show k0_cond1 i = 1#1 by rw [cond1_eq, if_pos hi0])]
  rw [dif_neg (show ¬ k0_cond3 i = 1#1 by rw [cond3_eq, if_neg (by omega)]; decide)]
  rw [k0_part1_eq_skeleton, k0_part2_eq_skeleton, k0_part3_eq_skeleton]
  unfold k0_part1_skel k0_part2_skel k0_part3_skel
  simp only [Prog.lift, Prog.bind_op, Prog.bind_ret]
  iapply (fill c X n 0 (by decide) rfl rfl (off3_eq (by omega) hn (r := 0) (by decide))) $$ HI
  iintro HI
  iapply (fill c X n 1 (by decide) rfl rfl (off3_eq (by omega) hn (r := 1) (by decide))) $$ HI
  iintro HI
  iapply (fill c X n 2 (by decide) rfl rfl (off3_eq (by omega) hn (r := 2) (by decide))) $$ HI
  iintro HI
  iapply (fill c X n 3 (by decide) rfl rfl (off3_eq (by omega) hn (r := 3) (by decide))) $$ HI
  iintro HI
  iapply (fill c X n 4 (by decide) rfl rfl (off3_eq (by omega) hn (r := 4) (by decide))) $$ HI
  iintro HI
  iapply (fill c X n 5 (by decide) rfl rfl (off3_eq (by omega) hn (r := 5) (by decide))) $$ HI
  iintro HI
  iapply (fill c X n 6 (by decide) rfl rfl (off3_eq (by omega) hn (r := 6) (by decide))) $$ HI
  iintro HI
  iapply (fill c X n 7 (by decide) rfl rfl (off3_eq (by omega) hn (r := 7) (by decide))) $$ HI
  iintro HI
  iapply (fill c X n 8 (by decide) rfl rfl (off3_eq (by omega) hn (r := 8) (by decide))) $$ HI
  iintro HI
  iapply (fill c X n 9 (by decide) rfl rfl (off3_eq (by omega) hn (r := 9) (by decide))) $$ HI
  iintro HI
  iapply (fill c X n 10 (by decide) rfl rfl (off3_eq (by omega) hn (r := 10) (by decide))) $$ HI
  iintro HI
  iapply (ldB c) $$ HY
  iintro %v HY
  iapply (stB c) $$ HY
  iintro ⟨%fy', HY⟩
  ihave HY := (ys_split c) $$ HY
  icases HY with ⟨HY0, HY1⟩
  ihave HTi := (start_home c E) $$ HTi
  icases HTi with ⟨HT0, HT1, HH⟩
  iapply (enqOut c (PP E 0) (fun y => fy' (ix3 (0 : Fin 2) (y 1) (y 2))) (s := sy 0) (j := dest 0) (fun f _ h => absurd h (by decide)) rfl rfl rfl) $$ [HY0 HT0 Hc0]
  · isplitl [HY0]
    · iexists fy'; isplitr; · ipureintro; exact fun _ _ _ => rfl
      iexact HY0
    isplitl [HT0]; · iexact HT0
    iexact Hc0
  iintro HO0
  iapply (enqOut c (PP E (0 + 1)) (fun y => fy' (ix3 (1 : Fin 2) (y 1) (y 2))) (s := sy (0 + 1)) (j := dest (0 + 1)) (fun f _ h => absurd h (by decide)) rfl rfl rfl) $$ [HY1 HT1 Hc1]
  · isplitl [HY1]
    · iexists fy'; isplitr; · ipureintro; exact fun _ _ _ => rfl
      iexact HY1
    isplitl [HT1]; · iexact HT1
    iexact Hc1
  iintro HO1
  iapply (loopStage c X n E m3 m4 f3 f4 hab hbn hn1 hn h3 h4 hE i ha3 ha4) $$ [HI HO0 HO1 HH HW HWt]
  · isplitr [HWt]
    · unfold R
      rw [← fl_end]
      isplitl [HI]; · iexact HI
      isplitl [HO0]; · iexact HO0
      isplitl [HO1]; · iexact HO1
      isplitl [HH]; · iexact HH
      iexact HW
    iexact HWt
  iintro ⟨HR, HWt⟩
  iapply (wpRet c (Q := fun _ : PUnit => iprop(R c X n E b ∗ Wts c m3 m4 f3 f4 ∗ (LT c ↦{qT} T))))
  isplitl [HR]; · iexact HR
  isplitl [HWt]; · iexact HWt
  iexact HT

theorem body_last (hT : ∀ e : Fin 33, T (ix1 e) = w (av e.val)) {a b : Nat} (i : grid0.Coords) (ha : av (i 0).val = a) (hb : av ((i 0).val + 1) = b)
    (hn32 : av 32 = n) (hab : a ≤ b) (hbn : b ≤ n) (hn1 : 128 ≤ n) (hn : n ≤ 160)
    (hi31 : (i 0).val = 31)
    {v3 : Vec F S1x1x2048x1024 .f32} {v4 : Vec F S1x1x512x2048 .f32} (h3 : m3.view.read (Elt F) f3 = v3) (h4 : m4.view.read (Elt F) f4 = v4)
    (hE : ∀ j, a ≤ j → j < b → E j = tileOut X v3 v4 j) (ha3 ha4) :
    iprop((R c X n E a) ∗ Wts c m3 m4 f3 f4 ∗ (LT c ↦{qT} T))
      ⊢ WP c (cc0_experts (F := F) i (Memref.whole main_arg0) (Memref.isWhole_whole _) (Memref.whole main_arg1) (Memref.isWhole_whole _)
          m3 ha3 m4 ha4 (Memref.whole main_v0) (Memref.isWhole_whole _) (Memref.whole cc0_scratch0) (Memref.isWhole_whole _)
          (Memref.whole cc0_scratch1) (Memref.isWhole_whole _) cc0_scratch2 cc0_scratch3)
        (fun _ => iprop((Rest c X ∗ Tiles c (fin_ n E) ∗ Ow c) ∗ Wts c m3 m4 f3 f4 ∗ (LT c ↦{qT} T))) := by
  rw [cc0_experts_eq_skeleton]; unfold cc0_experts_skel
  refine wp_seq c (fun r => iprop(⌜∃ a0 v18 v39 hw2 hw1, r = ⟨a0, w a, v18, w b, hw2, v39, w n, hw1⟩⌝ ∗ (R c X n E a) ∗ Wts c m3 m4 f3 f4 ∗ (LT c ↦{qT} T))) ?_ ?_
  · iintro ⟨HR, HWt, HT⟩
    iapply (wp_wand (Fr := frame)) $$ [HT]
    · iapply (part14 c n m3 m4 T qT av hT i ha hb hn32 hab hbn hn1 hn ha3 ha4) $$ HT
    iintro %r ⟨%hr, HT⟩
    isplitr; · ipureintro; exact hr
    isplitl [HR]; · iexact HR
    isplitl [HWt]; · iexact HWt
    iexact HT
  intro r
  have hbn' : b = n := by rw [← hb, hi31, ← hn32]
  subst hbn'
  iintro ⟨%hr, HR, HWt, HT⟩
  obtain ⟨a0, v18, v39, hw2, hw1, rfl⟩ := hr
  simp only [Prog.lift, Prog.bind_op, Prog.bind_ret]
  rw [dif_neg (show ¬ k0_cond1 i = 1#1 by rw [cond1_eq, if_neg (by omega)]; decide)]
  rw [dif_pos (show k0_cond3 i = 1#1 by rw [cond3_eq, if_pos hi31])]
  rw [k0_part8_eq_skeleton, k0_part9_eq_skeleton, k0_part10_eq_skeleton, k0_part11_eq_skeleton, k0_part12_eq_skeleton, k0_part13_eq_skeleton]
  unfold k0_part8_skel k0_part9_skel k0_part10_skel k0_part11_skel k0_part12_skel k0_part13_skel
  simp only [smemLoad, smemLoadElt, Prog.lift, Prog.bind_op, Prog.bind_ret]
  iapply (loopStage c X b E m3 m4 f3 f4 hab hbn hn1 hn h3 h4 hE i ha3 ha4) $$ [HR HWt]
  · isplitl [HR]; · iexact HR
    iexact HWt
  iintro ⟨HR, HWt⟩
  unfold R
  rw [← dr_start]
  icases HR with ⟨HI, HO0, HO1, HH, HW⟩
  iapply (drain c X b 0 (by decide) (off30_eq hn (r := 0) (by decide))) $$ [HI HW]
  · isplitl [HI]; · iexact HI
    iexact HW
  iintro ⟨HI, HW⟩
  iapply (drain c X b 1 (by decide) (off30_eq hn (r := 1) (by decide))) $$ [HI HW]
  · isplitl [HI]; · iexact HI
    iexact HW
  iintro ⟨HI, HW⟩
  iapply (drain c X b 2 (by decide) (off30_eq hn (r := 2) (by decide))) $$ [HI HW]
  · isplitl [HI]; · iexact HI
    iexact HW
  iintro ⟨HI, HW⟩
  iapply (drain c X b 3 (by decide) (off30_eq hn (r := 3) (by decide))) $$ [HI HW]
  · isplitl [HI]; · iexact HI
    iexact HW
  iintro ⟨HI, HW⟩
  iapply (drain c X b 4 (by decide) (off30_eq hn (r := 4) (by decide))) $$ [HI HW]
  · isplitl [HI]; · iexact HI
    iexact HW
  iintro ⟨HI, HW⟩
  iapply (drain c X b 5 (by decide) (off30_eq hn (r := 5) (by decide))) $$ [HI HW]
  · isplitl [HI]; · iexact HI
    iexact HW
  iintro ⟨HI, HW⟩
  iapply (drain c X b 6 (by decide) (off30_eq hn (r := 6) (by decide))) $$ [HI HW]
  · isplitl [HI]; · iexact HI
    iexact HW
  iintro ⟨HI, HW⟩
  iapply (drain c X b 7 (by decide) (off30_eq hn (r := 7) (by decide))) $$ [HI HW]
  · isplitl [HI]; · iexact HI
    iexact HW
  iintro ⟨HI, HW⟩
  iapply (drain c X b 8 (by decide) (off30_eq hn (r := 8) (by decide))) $$ [HI HW]
  · isplitl [HI]; · iexact HI
    iexact HW
  iintro ⟨HI, HW⟩
  iapply (drain c X b 9 (by decide) (off30_eq hn (r := 9) (by decide))) $$ [HI HW]
  · isplitl [HI]; · iexact HI
    iexact HW
  iintro ⟨HI, HW⟩
  iapply (drain c X b 10 (by decide) (off30_eq hn (r := 10) (by decide))) $$ [HI HW]
  · isplitl [HI]; · iexact HI
    iexact HW
  iintro ⟨HI, HW⟩
  ihave HO := (outs c b E) $$ [HO0 HO1]
  · isplitl [HO0]; · iexact HO0
    iexact HO1
  icases HO with ⟨%p0, %p1, %hp, HO0, HO1⟩
  iapply (waitOut c (PP E p0) (s := 0) (j := dest p0) rfl) $$ [HO0 HW]
  · isplitl [HO0]; · iexact HO0
    iexact HW
  iintro ⟨HT0, ⟨%fy, HY0⟩, Hc0, HW⟩
  iapply (waitOut c (PP E p1) (s := 1) (j := dest p1) rfl) $$ [HO1 HW]
  · isplitl [HO1]; · iexact HO1
    iexact HW
  iintro ⟨HT1, HY1, Hc1, HW⟩
  iapply (ldWord c T (e := ⟨32, by omega⟩) ((hT _).trans (congrArg w hn32)) rfl) $$ HT
  iintro HT
  iapply (wp_assume (defs := defs₀ (F := F)) (Γ := .empty) 𝒱₀ (c : Thread nD τ) none Set.univ (chk3 i hn))
  iapply (ldY c rfl) $$ HY0
  iintro %v HY0
  iapply (stY c (by decide) rfl) $$ HY0
  iintro HY0
  iapply (tailStage c b E hn1 hn m3 m4 i ha3 ha4) $$ [HH HT0 HT1 HY0 Hc0 HW]
  · isplitl [HH HT0 HT1]
    · iapply (home_end c b E hn1 hn hp)
      isplitl [HH]; · iexact HH
      isplitl [HT0]; · iexact HT0
      iexact HT1
    isplitl [HY0]; · iexact HY0
    isplitl [Hc0]; · iexact Hc0
    iexact HW
  iintro ⟨HTi, HY0, Hc0, HW⟩
  iapply (wpRet c (Q := fun _ : PUnit => iprop((Rest c X ∗ Tiles c (fin_ b E) ∗ Ow c) ∗ Wts c m3 m4 f3 f4 ∗ (LT c ↦{qT} T))))
  unfold Rest
  rw [← dr_end c X b]
  isplitr [HWt HT]
  · isplitl [HI HY0 HY1 Hc0 Hc1]
    · isplitl [HI]; · iexact HI
      isplitl [HY0 HY1]
      · iapply (ys_join c)
        isplitl [HY0]; · iexact HY0
        iexact HY1
      isplitl [Hc0]; · iexact Hc0
      iexact Hc1
    isplitl [HTi]; · iexact HTi
    iexact HW
  isplitl [HWt]; · iexact HWt
  iexact HT

end Steps

end Cert.ExpertsIdeal.Ring
-- ==== Proof.ExpertsIdealPre.lean ====
/-
  What the precondition on the table of row starts says: the first is 0, they are in order, all are multiples of 128,
  and the last is between 16384 and 20480.
-/
module

public import proofs.«01_k».proof.Pre_sorted_rows
public import proofs.«01_k».proof.Proof.ExpertsIdealWords
public import Idealize.ShloMosaic.Lib.Pointwise
public import Idealize.ShloMosaic.Lib.StableHlo

@[expose] public section

noncomputable section

namespace Cert.ExpertsIdeal.Words

open Idealize.ShloMosaic Cert.ExpertsIdeal

/-- The side conditions of the precondition's program. -/
theorem sortedFacts : Cert.Pre_sorted_rows.Facts := ⟨by decide, by decide, by decide, by decide, by decide, by decide⟩
instance : Cert.Pre_sorted_rows.Facts := sortedFacts

/-- The remainder by 128 the precondition's program takes of a word. -/
def rem128 (x : BitVec 32) : BitVec 32 :=
  if IntOp.andi (IntOp.cmpi .ne (IntOp.cmpi .slt (IntOp.remsi .host x 128#32) 0#32) 0#1) (IntOp.cmpi .ne (IntOp.remsi .host x 128#32) 0#32) = 1#1
  then IntOp.addi (IntOp.remsi .host x 128#32) 128#32 else IntOp.remsi .host x 128#32

theorem sorted_of_pre {F : FTy → Type} [FloatOps F] (T : IVec Pre_sorted_rows.S33 32) (x1 : FVec F Pre_sorted_rows.S20480x2176 .f32) (x2 : FVec F Pre_sorted_rows.S2x32x2048x1024 .f32)
    (x3 : FVec F Pre_sorted_rows.S2x32x512x2048 .f32)
    (h1 : (Pre_sorted_rows.fn (F := F) T x1 x2 x3).1 = fun _ => 1#1) (h2 : (Pre_sorted_rows.fn (F := F) T x1 x2 x3).2.1 = fun _ => 1#1)
    (h3 : (Pre_sorted_rows.fn (F := F) T x1 x2 x3).2.2.1 = fun _ => 1#1) (h4 : (Pre_sorted_rows.fn (F := F) T x1 x2 x3).2.2.2 = fun _ => 1#1) :
    T (ix1 0) = 0#32 ∧ (∀ e : Fin 32, IntOp.cmpi .sle (T (ix1 e.castSucc)) (T (ix1 e.succ)) = 1#1) ∧ (∀ e : Fin 33, rem128 (T (ix1 e)) = 0#32)
      ∧ IntOp.cmpi .sge (T (ix1 32)) 16384#32 = 1#1 ∧ IntOp.cmpi .sle (T (ix1 32)) 20480#32 = 1#1 := by
  have at0 (h) : extractStridedSlice Pre_sorted_rows.S1 ![0] T h (ix1 0) = T (ix1 0) :=
    congrArg T (funext fun a => Fin.ext (match a with | ⟨0, _⟩ => rfl))
  have at32 (h) : extractStridedSlice Pre_sorted_rows.S1 ![32] T h (ix1 0) = T (ix1 32) :=
    congrArg T (funext fun a => Fin.ext (match a with | ⟨0, _⟩ => rfl))
  have atE (h) (e : Fin 32) : extractStridedSlice Pre_sorted_rows.S32 ![0] T h (ix1 e) = T (ix1 e.castSucc) :=
    congrArg T (funext fun a => Fin.ext (match a with | ⟨0, _⟩ => Nat.zero_add _))
  have atS (h) (e : Fin 32) : extractStridedSlice Pre_sorted_rows.S32 ![1] T h (ix1 e) = T (ix1 e.succ) :=
    congrArg T (funext fun a => Fin.ext (match a with | ⟨0, _⟩ => Nat.add_comm _ _))
  have e1 : IntOp.cmpi .eq (extractStridedSlice Pre_sorted_rows.S1 ![0] T Pre_sorted_rows.Facts.slices_S33_S1_0 (ix1 0)) 0#32 = 1#1 := congrFun h1 (ix1 (0 : Fin 1))
  have e2 (e : Fin 32) : IntOp.cmpi .sle (extractStridedSlice Pre_sorted_rows.S32 ![0] T Pre_sorted_rows.Facts.slices_S33_S32_0 (ix1 e))
      (extractStridedSlice Pre_sorted_rows.S32 ![1] T Pre_sorted_rows.Facts.slices_S33_S32_1 (ix1 e)) = 1#1 := congrFun h2 (ix1 e)
  have e3 (e : Fin 33) : IntOp.cmpi .eq (rem128 (T (ix1 e))) 0#32 = 1#1 := congrFun h3 (ix1 e)
  have e4 : IntOp.andi (IntOp.cmpi .sge (extractStridedSlice Pre_sorted_rows.S1 ![32] T Pre_sorted_rows.Facts.slices_S33_S1_32 (ix1 0)) 16384#32)
      (IntOp.cmpi .sle (extractStridedSlice Pre_sorted_rows.S1 ![32] T Pre_sorted_rows.Facts.slices_S33_S1_32 (ix1 0)) 20480#32) = 1#1 := congrFun h4 (ix1 (0 : Fin 1))
  simp only [at0, at32, atE, atS] at e1 e2 e4
  have and1 : ∀ x y : BitVec 1, IntOp.andi x y = 1#1 → x = 1#1 ∧ y = 1#1 := by decide
  exact ⟨IntOp.cmpi_eq.1 e1, e2, fun e => IntOp.cmpi_eq.1 (e3 e), (and1 _ _ e4).1, (and1 _ _ e4).2⟩

theorem rem128_fin : ∀ r : Fin 128,
    (if IntOp.andi (IntOp.cmpi .ne (IntOp.cmpi .slt (BitVec.ofNat 32 r.val) 0#32) 0#1) (IntOp.cmpi .ne (BitVec.ofNat 32 r.val) 0#32) = 1#1
      then IntOp.addi (BitVec.ofNat 32 r.val) 128#32 else BitVec.ofNat 32 r.val) = BitVec.ofNat 32 r.val := by decide +kernel

theorem dvd_of_rem {x : BitVec 32} (hx : x.toNat ≤ 20480) (h : rem128 x = 0#32) : x = w (x.toNat / 128) := by
  have hr : IntOp.remsi .host x 128#32 = BitVec.ofNat 32 (x.toNat % 128) := by
    apply BitVec.eq_of_toNat_eq
    rw [show (128#32 : BitVec 32) = BitVec.ofNat 32 128 from rfl, IntOp.toNat_remsi .host (by omega) 128 (by decide) (by decide), BitVec.toNat_ofNat]
    omega
  unfold rem128 at h
  rw [hr, rem128_fin ⟨x.toNat % 128, Nat.mod_lt _ (by decide)⟩] at h
  have h' := congrArg BitVec.toNat h
  rw [BitVec.toNat_ofNat] at h'
  have h'' : x.toNat % 128 % 2 ^ 32 = 0 := h'
  apply BitVec.eq_of_toNat_eq
  rw [BitVec.toNat_ofNat]
  omega

/-- The table's words are those of tile starts. -/
theorem starts_of_pre {T : IVec Pre_sorted_rows.S33 32} (h0 : T (ix1 0) = 0#32) (h1 : ∀ e : Fin 32, IntOp.cmpi .sle (T (ix1 e.castSucc)) (T (ix1 e.succ)) = 1#1)
    (h2 : ∀ e : Fin 33, rem128 (T (ix1 e)) = 0#32) (h3 : IntOp.cmpi .sge (T (ix1 32)) 16384#32 = 1#1) (h4 : IntOp.cmpi .sle (T (ix1 32)) 20480#32 = 1#1) :
    (∀ e : Fin 33, T (ix1 e) = w ((T (ix1 e)).toNat / 128)) ∧ (∀ e : Fin 32, (T (ix1 e.castSucc)).toNat ≤ (T (ix1 e.succ)).toNat)
      ∧ 16384 ≤ (T (ix1 32)).toNat ∧ (T (ix1 32)).toNat ≤ 20480 := by
  have m1 (e : Fin 32) : (T (ix1 e.castSucc)).toInt ≤ (T (ix1 e.succ)).toInt := IntOp.cmpi_sle.1 (h1 e)
  have mono : ∀ (b : Nat) (hb : b < 33) (a : Nat) (ha : a ≤ b), (T (ix1 (⟨a, by omega⟩ : Fin 33))).toInt ≤ (T (ix1 (⟨b, hb⟩ : Fin 33))).toInt := by
    intro b
    induction b with
    | zero => intro hb a ha; obtain rfl : a = 0 := by omega
              exact le_rfl
    | succ k ih =>
      intro hb a ha
      rcases Nat.lt_or_ge a (k + 1) with hlt | hge
      · exact (ih (by omega) a (by omega)).trans (m1 ⟨k, by omega⟩)
      · obtain rfl : a = k + 1 := by omega
        exact le_rfl
  have hi : (T (ix1 32)).toInt ≤ 20480 := IntOp.cmpi_sle.1 h4
  have lo : 16384 ≤ (T (ix1 32)).toInt := IntOp.cmpi_sge.1 h3
  have b0 (e : Fin 33) : 0 ≤ (T (ix1 e)).toInt := by
    have := mono e.val e.isLt 0 (by omega)
    rw [show (⟨0, by omega⟩ : Fin 33) = 0 from rfl, h0] at this
    exact this
  have b1 (e : Fin 33) : (T (ix1 e)).toInt ≤ 20480 := (mono 32 (by omega) e.val (by omega)).trans hi
  have tn (e : Fin 33) : ((T (ix1 e)).toNat : Int) = (T (ix1 e)).toInt := by
    have h := b0 e; have h' := b1 e
    have hlt := (T (ix1 e)).isLt
    rw [BitVec.toInt_eq_toNat_cond] at h h' ⊢
    split at h <;> rename_i hc
    · rw [if_pos hc]
    · exfalso; omega
  refine ⟨fun e => dvd_of_rem ?_ (h2 e), fun e => ?_, ?_, ?_⟩
  · have := tn e; have := b1 e; omega
  · have := tn e.castSucc; have := tn e.succ; have := m1 e; omega
  · have := tn 32; omega
  · have := tn 32; omega

end Cert.ExpertsIdeal.Words
-- ==== Proof.ExpertsIdealLaunch.lean ====
/-
  The feed-forward kernel's launch: what each step finds and leaves, and what the whole call leaves in its result.
-/
module

public import proofs.«01_k».proof.Proof.ExpertsIdealSteps
public import proofs.«01_k».proof.Proof.ExpertsIdealPre
public import proofs.«01_k».proof.Proof.Gen.ExpertsIdeal.Launch
public import Idealize.ShloMosaic.Lib.Pipeline.FrameValue

@[expose] public section

noncomputable section

namespace Cert.ExpertsIdeal.Ring

open Cert.ExpertsIdeal Cert.ExpertsIdeal.Gen Cert.ExpertsIdeal.Words
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## The buffers at rest -/

section AtRest
variable (c : Dev nD) (X : Buf (Elt F) (LX c))

theorem slots_disj : ∀ i ∈ (Finset.univ : Finset (Fin 12)), ∀ j ∈ (Finset.univ : Finset (Fin 12)), i ≠ j → Disjoint (XSl i.val) (XSl j.val) := by
  intro i _ j _ hij
  rw [Finset.disjoint_left]
  intro x h0 h1
  exact hij (Fin.ext ((Finset.mem_filter.1 h0).2.symm.trans (Finset.mem_filter.1 h1).2))
theorem slots_univ : (Finset.univ : Finset (Fin 12)).biUnion (fun j => XSl j.val) = Finset.univ := by
  ext x
  have h : (x 0).val < 12 := (x 0).isLt
  simp only [Finset.mem_biUnion, Finset.mem_univ, true_and, iff_true]
  exact ⟨⟨(x 0).val, h⟩, Finset.mem_filter.2 ⟨Finset.mem_univ _, rfl⟩⟩

theorem slots_of (f : Buf (Elt F) (LxB c)) : (LxB c ↦{fullShare} f)
    ⊢ (bigSep Finset.univ fun s : Fin 12 => iprop(∃ f : Buf (Elt F) (LxB c), LxB c ↦[XSl s.val]{fullShare} f) : sProp 𝕄) := by
  have H := pointsTo_biUnion (ℓ := LxB c) (q := fullShare) (f := f) (U := UU) (Ix := Unit) (Name := ℕ) (Lvl := ℕ) (Val := Elt F) Finset.univ (fun j : Fin 12 => XSl j.val) slots_disj
  rw [slots_univ] at H
  refine (Entails.of_eq H).trans (bigSep_mono fun j _ => ?_)
  show _ ⊢ iprop(∃ f : Buf (Elt F) (LxB c), LxB c ↦[XSl j.val]{fullShare} f)
  iintro T
  iexists f
  iexact T

theorem slots_join : (bigSep Finset.univ fun s : Fin 12 => iprop(∃ f : Buf (Elt F) (LxB c), LxB c ↦[XSl s.val]{fullShare} f) : sProp 𝕄)
    ⊢ iprop(∃ f : Buf (Elt F) (LxB c), LxB c ↦{fullShare} f) := by
  have : Nonempty (Buf (Elt F) (LxB c)) := ⟨fun _ => FloatOps.ofBits .f32 0⟩
  refine (bigSep_exists_pi Finset.univ (fun (j : Fin 12) (f : Buf (Elt F) (LxB c)) => iprop(LxB c ↦[XSl j.val]{fullShare} f))).trans ?_
  iintro ⟨%fs, H⟩
  ihave H := (pointsTo_biUnion_join (ℓ := LxB c) (q := fullShare) Finset.univ (fun j : Fin 12 => XSl j.val) fs (fs 0) slots_disj) $$ H
  rw [slots_univ]
  icases H with ⟨%g, %hg, H⟩
  iexists g
  iexact H

/-- The semaphores the kernel takes for itself: twelve and two. -/
def osem : Fin 12 ⊕ Fin 2 → SemLoc sig := Sum.elim (fun s => .dma (cX s)) (fun s => .dma (cY s))

theorem sems_eq : (Pipeline.ownSems0 (Ix := Unit) (Val := Elt F) (Name := ℕ) (U := UU) (Lvl := ℕ) osem c : sProp 𝕄)
    = iprop((bigSep Finset.univ fun s : Fin 12 => semVal ((c : Thread nD τ), SemLoc.dma (cX s)) 0)
        ∗ semVal ((c : Thread nD τ), SemLoc.dma (cY 0)) 0 ∗ semVal ((c : Thread nD τ), SemLoc.dma (cY 1)) 0) := by
  unfold Pipeline.ownSems0
  rw [show (Finset.univ : Finset (Fin 12 ⊕ Fin 2)) = Finset.univ.map Function.Embedding.inl ∪ Finset.univ.map Function.Embedding.inr from by decide,
    bigSep_union (by decide), bigSep_map, bigSep_map, bigSep_univ_two]
  rfl

/-- What of `xs` no slot holds. -/
abbrev LXd : sProp 𝕄 := LX c ↦{Transfers.shareDrop fullShare 12} X

theorem rest_of : iprop((∃ f : Buf (Elt F) (LxB c), LxB c ↦{fullShare} f) ∗ (∃ f : Buf (Elt F) (LyB c), LyB c ↦{fullShare} f)
      ∗ Pipeline.ownSems0 (Ix := Unit) (Val := Elt F) (Name := ℕ) (U := UU) (Lvl := ℕ) osem c ∗ (LX c ↦{fullShare} X))
    ⊢ iprop(Rest c X ∗ LXd c X) := by
  rw [sems_eq]
  have e : bigSep Finset.univ (FreeX c X) = iprop((bigSep Finset.univ fun s => LX c ↦{tok s} X) ∗ (bigSep Finset.univ fun s : Fin 12 => iprop(∃ f : Buf (Elt F) (LxB c), LxB c ↦[XSl s.val]{fullShare} f))
      ∗ bigSep Finset.univ fun s : Fin 12 => semVal ((c : Thread nD τ), SemLoc.dma (cX s)) 0) := by
    rw [← bigSep_sep', ← bigSep_sep']
  unfold Rest
  rw [e]
  have t := Transfers.pointsTo_toks_split (ℓ := LX c) (S := Finset.univ) (f := X) (U := UU) (Ix := Unit) (Name := ℕ) (Lvl := ℕ) (Val := Elt F) fullShare 12
  iintro ⟨⟨%f, A⟩, B, ⟨S, S0, S1⟩, L⟩
  ihave A := (slots_of c f) $$ A
  ihave L := t $$ L
  icases L with ⟨L0, L⟩
  isplitr [L0]
  · isplitl [A S L]
    · isplitl [L]; · iexact L
      isplitl [A]; · iexact A
      iexact S
    isplitl [B]; · iexact B
    isplitl [S0]; · iexact S0
    iexact S1
  iexact L0

theorem of_rest : iprop(Rest c X ∗ LXd c X)
    ⊢ iprop((∃ f : Buf (Elt F) (LxB c), LxB c ↦{fullShare} f) ∗ (∃ f : Buf (Elt F) (LyB c), LyB c ↦{fullShare} f)
      ∗ Pipeline.ownSems0 (Ix := Unit) (Val := Elt F) (Name := ℕ) (U := UU) (Lvl := ℕ) osem c ∗ (LX c ↦{fullShare} X)) := by
  rw [sems_eq]
  have e : bigSep Finset.univ (FreeX c X) = iprop((bigSep Finset.univ fun s => LX c ↦{tok s} X) ∗ (bigSep Finset.univ fun s : Fin 12 => iprop(∃ f : Buf (Elt F) (LxB c), LxB c ↦[XSl s.val]{fullShare} f))
      ∗ bigSep Finset.univ fun s : Fin 12 => semVal ((c : Thread nD τ), SemLoc.dma (cX s)) 0) := by
    rw [← bigSep_sep', ← bigSep_sep']
  unfold Rest
  rw [e]
  have t := Transfers.pointsTo_toks_join (ℓ := LX c) (S := Finset.univ) (f := X) (U := UU) (Ix := Unit) (Name := ℕ) (Lvl := ℕ) (Val := Elt F) fullShare 12
  iintro ⟨⟨⟨L, A, S⟩, B, S0, S1⟩, L0⟩
  isplitl [A]
  · iapply (slots_join c); iexact A
  isplitl [B]; · iexact B
  isplitl [S S0 S1]
  · isplitl [S]; · iexact S
    isplitl [S0]; · iexact S0
    iexact S1
  iapply t
  isplitl [L0]; · iexact L0
  iexact L

end AtRest

/-! ## One step, from invariant to invariant -/

/-- The table of where the experts' rows begin, in tiles: the first at none, in order, the last between 128 and 160. -/
structure Sorted (T : S33.Idx → BitVec 32) (av : Nat → Nat) (n : Nat) : Prop where
  hT : ∀ e : Fin 33, T (ix1 e) = w (av e.val)
  first : av 0 = 0
  mono : ∀ e, e < 32 → av e ≤ av (e + 1)
  last : av 32 = n
  lo : 128 ≤ n
  hi : n ≤ 160

theorem Sorted.le {T av n} (h : Sorted T av n) {e e' : Nat} (he : e ≤ e') (h32 : e' ≤ 32) : av e ≤ av e' := by
  induction e' with
  | zero => obtain rfl : e = 0 := by omega
            exact le_rfl
  | succ k ih =>
    rcases Nat.lt_or_ge e (k + 1) with hlt | hge
    · exact (ih (by omega) (by omega)).trans (h.mono k (by omega))
    · obtain rfl : e = k + 1 := by omega
      exact le_rfl

/-- The expert whose rows tile `j` holds. -/
def ex (av : Nat → Nat) (j : Nat) : Fin 32 := ⟨Nat.findGreatest (fun e => av e ≤ j) 31, Nat.lt_succ_of_le (Nat.findGreatest_le 31)⟩

theorem Sorted.ex_eq {T av n} (h : Sorted T av n) {j : Nat} (e : Fin 32) (h0 : av e.val ≤ j) (h1 : j < av (e.val + 1)) : ex av j = e := by
  refine Fin.ext ?_
  show Nat.findGreatest (fun e => av e ≤ j) 31 = e.val
  rw [Nat.findGreatest_eq_iff]
  refine ⟨by omega, fun _ => h0, fun k hk hk31 => ?_⟩
  have := h.le (e := e.val + 1) (e' := k) (by omega) (by omega)
  omega

/-- Expert `e`'s blocks of the two weight arrays. -/
def blk3 (W3 : S2x32x2048x1024.Idx → Elt F .f32) (e : Fin 32) : Vec F S1x1x2048x1024 .f32 := fun i => W3 (ix4 (0 : Fin 2) e (i 2) (i 3))
def blk4 (W4 : S2x32x512x2048.Idx → Elt F .f32) (e : Fin 32) : Vec F S1x1x512x2048 .f32 := fun i => W4 (ix4 (0 : Fin 2) e (i 2) (i 3))

/-- What the kernel leaves in tile `j`. -/
def EE (X : S20480x2176.Idx → Elt F .f32) (W3 : S2x32x2048x1024.Idx → Elt F .f32) (W4 : S2x32x512x2048.Idx → Elt F .f32) (av : Nat → Nat)
    (j : Nat) : S1x128x2048.Idx → Elt F .f32 :=
  tileOut X (blk3 W3 (ex av j)) (blk4 W4 (ex av j)) j

section Step
variable (c : Dev nD) (X : Buf (Elt F) (LX c)) (n : Nat) (E : Nat → S1x128x2048.Idx → Elt F .f32)
  (T : Buf (Elt F) (LT c)) (qT : PosShare TreeShare) (av : Nat → Nat)

/-- What the kernel holds between steps: before step `k`. -/
def Mid (k : Nat) : sProp 𝕄 :=
  if k = 0 then iprop(Rest c X ∗ Tiles (F := F) c (fun _ _ => True))
  else if k = 32 then iprop(Rest c X ∗ Tiles c (fin_ n E))
  else iprop(IN c X n (av k) ∗ outF c E (av k) ∗ outF c E (av k + 1) ∗ HOME c E (av k))

theorem step (hs : Sorted T av n) (m3 : Memref sig .tc .vmem S1x1x2048x1024 .f32) (m4 : Memref sig .tc .vmem S1x1x512x2048 .f32)
    (f3 : Buf (Elt F) (m3.view.loc (c : Thread nD τ))) (f4 : Buf (Elt F) (m4.view.loc (c : Thread nD τ)))
    (i : grid0.Coords) {k : Nat} (hk : (i 0).val = k)
    {v3 : Vec F S1x1x2048x1024 .f32} {v4 : Vec F S1x1x512x2048 .f32} (h3 : m3.view.read (Elt F) f3 = v3) (h4 : m4.view.read (Elt F) f4 = v4)
    (hE : ∀ j, av k ≤ j → j < av (k + 1) → E j = tileOut X v3 v4 j) (ha3 ha4) :
    iprop((Mid c X n E av k ∗ Ow c) ∗ Wts c m3 m4 f3 f4 ∗ (LT c ↦{qT} T))
      ⊢ WP c (cc0_experts (F := F) i (Memref.whole main_arg0) (Memref.isWhole_whole _) (Memref.whole main_arg1) (Memref.isWhole_whole _)
          m3 ha3 m4 ha4 (Memref.whole main_v0) (Memref.isWhole_whole _) (Memref.whole cc0_scratch0) (Memref.isWhole_whole _)
          (Memref.whole cc0_scratch1) (Memref.isWhole_whole _) cc0_scratch2 cc0_scratch3)
        (fun _ => iprop((Mid c X n E av (k + 1) ∗ Ow c) ∗ Wts c m3 m4 f3 f4 ∗ (LT c ↦{qT} T))) := by
  have hk32 : k < 32 := hk ▸ (i 0).isLt
  have hab := hs.mono k hk32
  have hbn : av (k + 1) ≤ n := hs.last ▸ hs.le (by omega) le_rfl
  rcases Nat.eq_zero_or_pos k with h0 | hp
  · have b := body_first c X n E m3 m4 f3 f4 T qT av hs.hT i (congrArg av hk) (congrArg (fun x => av (x + 1)) hk) hs.last hab hbn hs.lo hs.hi
      (hk.trans h0) (h0 ▸ hs.first) h3 h4 hE ha3 ha4
    have e0 : Mid c X n E av k = iprop(Rest c X ∗ Tiles (F := F) c (fun _ _ => True)) := if_pos h0
    have e1 : Mid c X n E av (k + 1) = iprop(IN c X n (av (k + 1)) ∗ outF c E (av (k + 1)) ∗ outF c E (av (k + 1) + 1) ∗ HOME c E (av (k + 1))) :=
      (if_neg (by omega)).trans (if_neg (by omega))
    rw [e0, e1]
    refine BIBase.Entails.trans (Q := iprop((Rest c X ∗ Tiles (F := F) c (fun _ _ => True) ∗ Ow c) ∗ Wts c m3 m4 f3 f4 ∗ (LT c ↦{qT} T))) ?_ (b.trans (wp_mono _ _ _ fun _ => ?_))
    · iintro ⟨⟨⟨A, B⟩, O⟩, W⟩
      isplitr [W]
      · isplitl [A]; · iexact A
        isplitl [B]; · iexact B
        iexact O
      iexact W
    · unfold R
      iintro ⟨⟨A, B, C, D, O⟩, W⟩
      isplitr [W]
      · isplitr [O]
        · isplitl [A]; · iexact A
          isplitl [B]; · iexact B
          isplitl [C]; · iexact C
          iexact D
        iexact O
      iexact W
  have e0 : Mid c X n E av k = iprop(IN c X n (av k) ∗ outF c E (av k) ∗ outF c E (av k + 1) ∗ HOME c E (av k)) :=
    (if_neg (by omega)).trans (if_neg (by omega))
  rcases Nat.lt_or_ge k 31 with h31 | h31
  · have b := body_mid c X n E m3 m4 f3 f4 T qT av hs.hT i (congrArg av hk) (congrArg (fun x => av (x + 1)) hk) hs.last hab hbn hs.lo hs.hi
      (by omega) (by omega) h3 h4 hE ha3 ha4
    have e1 : Mid c X n E av (k + 1) = iprop(IN c X n (av (k + 1)) ∗ outF c E (av (k + 1)) ∗ outF c E (av (k + 1) + 1) ∗ HOME c E (av (k + 1))) :=
      (if_neg (by omega)).trans (if_neg (by omega))
    rw [e0, e1]
    refine BIBase.Entails.trans (Q := iprop(R c X n E (av k) ∗ Wts c m3 m4 f3 f4 ∗ (LT c ↦{qT} T))) ?_ (b.trans (wp_mono _ _ _ fun _ => ?_))
    · unfold R
      iintro ⟨⟨⟨A, B, C, D⟩, O⟩, W⟩
      isplitr [W]
      · isplitl [A]; · iexact A
        isplitl [B]; · iexact B
        isplitl [C]; · iexact C
        isplitl [D]; · iexact D
        iexact O
      iexact W
    · unfold R
      iintro ⟨⟨A, B, C, D, O⟩, W⟩
      isplitr [W]
      · isplitr [O]
        · isplitl [A]; · iexact A
          isplitl [B]; · iexact B
          isplitl [C]; · iexact C
          iexact D
        iexact O
      iexact W
  · have b := body_last c X n E m3 m4 f3 f4 T qT av hs.hT i (congrArg av hk) (congrArg (fun x => av (x + 1)) hk) hs.last hab hbn hs.lo hs.hi
      (by omega) h3 h4 hE ha3 ha4
    have e1 : Mid c X n E av (k + 1) = iprop(Rest c X ∗ Tiles c (fin_ n E)) := (if_neg (by omega)).trans (if_pos (by omega))
    rw [e0, e1]
    refine BIBase.Entails.trans (Q := iprop(R c X n E (av k) ∗ Wts c m3 m4 f3 f4 ∗ (LT c ↦{qT} T))) ?_ (b.trans (wp_mono _ _ _ fun _ => ?_))
    · unfold R
      iintro ⟨⟨⟨A, B, C, D⟩, O⟩, W⟩
      isplitr [W]
      · isplitl [A]; · iexact A
        isplitl [B]; · iexact B
        isplitl [C]; · iexact C
        isplitl [D]; · iexact D
        iexact O
      iexact W
    · iintro ⟨⟨A, B, O⟩, W⟩
      isplitr [W]
      · isplitr [O]
        · isplitl [A]; · iexact A
          iexact B
        iexact O
      iexact W

end Step

/-! ## The pipeline -/

section Launch
variable (m : (ℓ : Loc nD τ sig) → Buf (Elt F) ℓ) (ρ : Dev nD → PrngReg)

abbrev V (c : Dev nD) (b : Ref sig .tc) : Buf (Elt F) ((c.tc : Thread nD τ).loc b) := m ((c : Thread nD τ).loc b)
/-- The prefetched table, as the call finds it. -/
def tbl : pre0.Contents (Elt F) := fun j => V m (0 : Dev nD) (pre0.ref j)
theorem V_pre (c : Dev nD) (j : Fin 1) : V m c (pre0.ref j) = tbl m j := by
  obtain rfl : c = 0 := Subsingleton.elim _ _
  rfl
abbrev adm : (pcfg0 (F := F)).Adm := ⟨tbl m, trivial⟩
abbrev adms : (p : Fin 1) → (pcfgs (F := F) p).Adm := fun _ => adm m
abbrev cf : Cfg sig Λ₀ := Pipeline.pin (pcfgs (F := F)) (adms m) 0

/-- The tiles' starts per expert, and the tiles of work. -/
def avm (c : Dev nD) (e : Nat) : Nat := if h : e < 33 then (m ((c : Thread nD τ).loc main_arg0) (ix1 (⟨e, h⟩ : Fin 33)) : BitVec 32).toNat / 128 else 0
def nm (c : Dev nD) : Nat := avm m c 32
/-- What the call leaves in tile `j`. -/
abbrev Em (c : Dev nD) : Nat → S1x128x2048.Idx → Elt F .f32 :=
  EE (m (LX c)) (m ((c : Thread nD τ).loc main_arg2)) (m ((c : Thread nD τ).loc main_arg3)) (avm m c)
abbrev SortedM : Prop := ∀ c : Dev nD, Sorted (m (LT c)) (avm m c) (nm m c)

def blks (c : Dev nD) (w : Fin (cf m).W) (t : Fin (cf m).N) : (((cf m).win w).xblock ((cf m).grid.coords t)).Idx → Elt F ((cf m).win w).elt :=
  (((cf m).win w).blk t).view.read (Elt F) (V m c (Pipeline.arrRef spec0 w))

/-- What the kernel keeps between steps besides its windows. -/
def Inv (c : Dev nD) (k : Nat) : sProp 𝕄 :=
  iprop(Mid c (m (LX c)) (nm m c) (Em m c) (avm m c) k ∗ LXd c (m (LX c)) ∗ (LT c ↦{fullShare.right} m (LT c)) ∗ ∃ r, prngReg (c : Dev nD) r)

def dats (c : Dev nD) : Dat τ (Elt F) Unit ℕ UU ℕ (cf m) c where
  A w := V m c (Pipeline.arrRef spec0 w)
  after w t := match w with
    | ⟨0, _⟩ => blks m c 0 t
    | ⟨1, _⟩ => blks m c 1 t
  Φ t := Inv m c t.val
  q w := Pipeline.shareOf spec0 w
  owed _ := 0

theorem fetch0 : ∀ t : Fin (cf m).N, ((cf m).win 0).fetch t = true :=
  (by decide +kernel : ∀ t : Fin grid0.N, Window.fetchOf grid0 false cc0_transform_1 t = true)
theorem fetch1 : ∀ t : Fin (cf m).N, ((cf m).win 1).fetch t = true :=
  (by decide +kernel : ∀ t : Fin grid0.N, Window.fetchOf grid0 false cc0_transform_2 t = true)

theorem before_w0 (c : Dev nD) (t : Fin (cf m).N) (d) : (dats m c).before 0 t d = blks m c 0 t := by
  unfold Dat.before; rw [if_pos (fetch0 m t)]; unfold Dat.fetched Dat.blockOf blks; dsimp only [dats]; rfl
theorem before_w1 (c : Dev nD) (t : Fin (cf m).N) (d) : (dats m c).before 1 t d = blks m c 1 t := by
  unfold Dat.before; rw [if_pos (fetch1 m t)]; unfold Dat.fetched Dat.blockOf blks; dsimp only [dats]; rfl
theorem after_w0 (c : Dev nD) (t : Fin (cf m).N) : (dats m c).after 0 t = blks m c 0 t := rfl
theorem after_w1 (c : Dev nD) (t : Fin (cf m).N) : (dats m c).after 1 t = blks m c 1 t := rfl

theorem coords_val : ∀ t : Fin grid0.N, (grid0.coords t 0).val = t.val := by decide +kernel
theorem ix_1 : ∀ i : grid0.Coords, cc0_transform_1 i = ![0, (i 0).val, 0, 0] := by
  intro i
  have h : (i 0).val < 32 := (i 0).isLt
  unfold cc0_transform_1
  simp only [BitVec.toNat_ofNat]
  rw [Nat.mod_eq_of_lt (by omega : (i 0).val < 2 ^ 32)]
theorem ix_2 : ∀ i : grid0.Coords, cc0_transform_2 i = ![0, (i 0).val, 0, 0] := by
  intro i
  have h : (i 0).val < 32 := (i 0).isLt
  unfold cc0_transform_2
  simp only [BitVec.toNat_ofNat]
  rw [Nat.mod_eq_of_lt (by omega : (i 0).val < 2 ^ 32)]

theorem blks0 (c : Dev nD) (t : Fin (cf m).N) : blks m c 0 t = blk3 (m ((c : Thread nD τ).loc main_arg2)) (grid0.coords t 0) := by
  refine funext fun (i : S1x1x2048x1024.Idx) => ?_
  show V m c main_arg2 ((((cf m).win 0).blk t).view.emb i) = _
  unfold blk3
  refine congrArg (m ((c : Thread nD τ).loc main_arg2)) (funext fun a => Fin.ext ?_)
  have e := ix_1 (grid0.coords t)
  have h0 : (i 0).val < 1 := (i 0).isLt
  have h1 : (i 1).val < 1 := (i 1).isLt
  match a with
  | ⟨0, _⟩ => show cc0_transform_1 (grid0.coords t) (0 : Fin 4) * 1 + 1 * (i 0).val = 0
              rw [e]; show 0 * 1 + 1 * (i 0).val = 0; omega
  | ⟨1, _⟩ => show cc0_transform_1 (grid0.coords t) (1 : Fin 4) * 1 + 1 * (i 1).val = (grid0.coords t 0).val
              rw [e]; show (grid0.coords t 0).val * 1 + 1 * (i 1).val = _; omega
  | ⟨2, _⟩ => show cc0_transform_1 (grid0.coords t) (2 : Fin 4) * 2048 + 1 * (i 2).val = (i 2).val
              rw [e]; show 0 * 2048 + 1 * (i 2).val = _; omega
  | ⟨3, _⟩ => show cc0_transform_1 (grid0.coords t) (3 : Fin 4) * 1024 + 1 * (i 3).val = (i 3).val
              rw [e]; show 0 * 1024 + 1 * (i 3).val = _; omega

theorem blks1 (c : Dev nD) (t : Fin (cf m).N) : blks m c 1 t = blk4 (m ((c : Thread nD τ).loc main_arg3)) (grid0.coords t 0) := by
  refine funext fun (i : S1x1x512x2048.Idx) => ?_
  show V m c main_arg3 ((((cf m).win 1).blk t).view.emb i) = _
  unfold blk4
  refine congrArg (m ((c : Thread nD τ).loc main_arg3)) (funext fun a => Fin.ext ?_)
  have e := ix_2 (grid0.coords t)
  have h0 : (i 0).val < 1 := (i 0).isLt
  have h1 : (i 1).val < 1 := (i 1).isLt
  match a with
  | ⟨0, _⟩ => show cc0_transform_2 (grid0.coords t) (0 : Fin 4) * 1 + 1 * (i 0).val = 0
              rw [e]; show 0 * 1 + 1 * (i 0).val = 0; omega
  | ⟨1, _⟩ => show cc0_transform_2 (grid0.coords t) (1 : Fin 4) * 1 + 1 * (i 1).val = (grid0.coords t 0).val
              rw [e]; show (grid0.coords t 0).val * 1 + 1 * (i 1).val = _; omega
  | ⟨2, _⟩ => show cc0_transform_2 (grid0.coords t) (2 : Fin 4) * 512 + 1 * (i 2).val = (i 2).val
              rw [e]; show 0 * 512 + 1 * (i 2).val = _; omega
  | ⟨3, _⟩ => show cc0_transform_2 (grid0.coords t) (3 : Fin 4) * 2048 + 1 * (i 3).val = (i 3).val
              rw [e]; show 0 * 2048 + 1 * (i 3).val = _; omega

abbrev st0 (t : Fin (cf m).N) : Memref sig .tc .vmem S1x1x2048x1024 .f32 := spec0_0.stage ((cf m).slots t 0)
abbrev st1 (t : Fin (cf m).N) : Memref sig .tc .vmem S1x1x512x2048 .f32 := spec0_1.stage ((cf m).slots t 1)
abbrev hst0 (t : Fin (cf m).N) : (st0 m t).IsWhole := hstage0_0 (((cf m).slots t 0).cast nbuf0_0)
abbrev hst1 (t : Fin (cf m).N) : (st1 m t).IsWhole := hstage0_1 (((cf m).slots t 1).cast nbuf0_1)

/-- The kernel at a grid point, on given staging buffers. -/
abbrev bodyG (i : grid0.Coords) (m3 : Memref sig .tc .vmem S1x1x2048x1024 .f32) (h3 : m3.IsWhole) (m4 : Memref sig .tc .vmem S1x1x512x2048 .f32) (h4 : m4.IsWhole) :=
  cc0_experts (F := F) i (Memref.whole main_arg0) (Memref.isWhole_whole _) (Memref.whole main_arg1) (Memref.isWhole_whole _)
    m3 h3 m4 h4 (Memref.whole main_v0) (Memref.isWhole_whole _) (Memref.whole cc0_scratch0) (Memref.isWhole_whole _)
    (Memref.whole cc0_scratch1) (Memref.isWhole_whole _) cc0_scratch2 cc0_scratch3

theorem defs_tc : (defs₀ (F := F)) .tc (cf m).body
    = fun a => bodyG (F := F) (grid0.coords a.1) (spec0_0.stage (a.2 0)) (hstage0_0 ((a.2 0).cast nbuf0_0)) (spec0_1.stage (a.2 1)) (hstage0_1 ((a.2 1).cast nbuf0_1)) := rfl
theorem prog_eq (t : Fin (cf m).N) : (defs₀ (F := F)) .tc (cf m).body ((cf m).bodyArgs t ((cf m).slots t))
    = bodyG (F := F) (grid0.coords t) (st0 m t) (hst0 m t) (st1 m t) (hst1 m t) :=
  (congrFun (defs_tc m) _).trans rfl

theorem hEm (h : SortedM m) (c : Dev nD) (e : Fin 32) (j : Nat) (h0 : avm m c e.val ≤ j) (h1 : j < avm m c (e.val + 1)) :
    Em m c j = tileOut (m (LX c)) (blk3 (m ((c : Thread nD τ).loc main_arg2)) e) (blk4 (m ((c : Thread nD τ).loc main_arg3)) e) j := by
  unfold Em EE
  rw [(h c).ex_eq e h0 h1]

set_option backward.isDefEq.respectTransparency.types false in
theorem body_obligation (h : SortedM m) (c : Dev nD) : BodyObligation (dats (F := F) m c) (defs₀ (F := F)) 𝒱₀ () Set.univ := fun t => by
  rw [bigSep_W0, bigSep_W0]
  dsimp only
  simp only [before_w0, before_w1, after_w0, after_w1]
  rw [show (dats m c).Φ t.castSucc = Inv m c t.val from rfl, show (dats m c).Φ t.succ = Inv m c (t.val + 1) from rfl]
  unfold Dat.owesAt Pipeline.owesWithin
  rw [show (dats m c).owed t.castSucc = 0 from rfl, show (dats m c).owed t.succ = 0 from rfl]
  have hc : (grid0.coords t 0).val = t.val := coords_val t
  have hE : ∀ j, avm m c t.val ≤ j → j < avm m c (t.val + 1) → Em m c j = tileOut (m (LX c)) (blks m c 0 t) (blks m c 1 t) j := fun j h0 h1 => by
    rw [blks0, blks1]
    exact hEm m h c (grid0.coords t 0) j (by rw [hc]; exact h0) (by rw [hc]; exact h1)
  unfold owns Inv
  iintro ⟨⟨HM, HL, HT, HP⟩, ⟨%W, -, HW⟩, ⟨%d0, %g0, %hg0, H0⟩, ⟨%d1, %g1, %hg1, H1⟩⟩
  sl_rw [prog_eq m t]
  iapply (wp_wand (Fr := frame)) $$ [HM HW H0 H1 HT]
  · iapply (step c (m (LX c)) (nm m c) (Em m c) (m (LT c)) fullShare.right (avm m c) (h c) (st0 m t) (st1 m t) g0 g1 (grid0.coords t) hc hg0 hg1 hE (hst0 m t) (hst1 m t))
    isplitl [HM HW]
    · isplitl [HM]; · iexact HM
      iexists W; iexact HW
    isplitl [H0 H1]
    · isplitl [H0]; · iexact H0
      iexact H1
    iexact HT
  iintro %r ⟨⟨HM, %W', HW⟩, ⟨H0, H1⟩, HT⟩
  isplitl [HM HL HT HP]
  · isplitl [HM]; · iexact HM
    isplitl [HL]; · iexact HL
    isplitl [HT]; · iexact HT
    iexact HP
  isplitl [HW]
  · iexists W'; isplitr; · ipureintro; exact fun _ _ => Or.inl trivial
    iexact HW
  isplitl [H0]
  · iexists _; isplitr; · ipureintro; exact hg0
    iexact H0
  iexists _; isplitr; · ipureintro; exact hg1
  iexact H1

/-! ## The run -/

/-- What the call leaves in its result, tile by tile. -/
def Left (c : Dev nD) (f : S20480x2048.Idx → Elt F .f32) : Prop := ∀ j, j < 160 → fin_ (nm m c) (Em m c) j f

theorem own : Pipeline.OwnSemFacts spec0 osem := by decide
theorem sub1 : ({main_arg1} : Finset (Ref sig .tc)) ⊆ Pipeline.restRefsP sig pre0 spec0 := by decide
theorem sub2 : ({main_v0} : Finset (Ref sig .tc)) ⊆ Pipeline.restRefsP sig pre0 spec0 \ {main_arg1} := by decide
theorem inRest : main_arg0 ∈ Pipeline.restRefs sig spec0 \ {main_v0} ∧ main_arg1 ∈ Pipeline.restRefs sig spec0 \ {main_v0} := by decide

theorem rest_in (c : Dev nD) :
    iprop((Pipeline.scopedRest (Ix := Unit) (Name := ℕ) (U := UU) (Lvl := ℕ) (Val := Elt F) spec0 c ∗ (∃ r, prngReg (c : Dev nD) r)
        ∗ Pipeline.ownSems0 (Ix := Unit) (Val := Elt F) (Name := ℕ) (U := UU) (Lvl := ℕ) osem c
        ∗ (bigSep {main_arg1} fun b => ((c : Thread nD τ).loc b) ↦{fullShare} m ((c : Thread nD τ).loc b))
        ∗ (bigSep {main_v0} fun b => ((c : Thread nD τ).loc b) ↦{fullShare} m ((c : Thread nD τ).loc b)))
      ∗ (bigSep Finset.univ fun k : Fin 1 => ((c : Thread nD τ).loc (pre0.ref k)) ↦{fullShare.right} tbl m k))
    ⊢ Inv m c 0 := by
  rw [scopedRest0_eq, bigSep_singleton, bigSep_singleton, show (Finset.univ : Finset (Fin 1)) = {0} from rfl, bigSep_singleton]
  have hT : tbl m 0 = m (LT c) := (V_pre m c 0).symm
  rw [hT]
  unfold Inv
  rw [show Mid c (m (LX c)) (nm m c) (Em m c) (avm m c) 0 = iprop(Rest c (m (LX c)) ∗ Tiles (F := F) c (fun _ _ => True)) from if_pos rfl]
  have t := tiles_of c (m (LY c))
  have e := rest_of c (m (LX c))
  iintro ⟨⟨⟨A, B⟩, P, S, L, Y⟩, T⟩
  ihave Y := t $$ Y
  ihave H := e $$ [A B S L]
  · isplitl [A]; · iexact A
    isplitl [B]; · iexact B
    isplitl [S]; · iexact S
    iexact L
  icases H with ⟨H, D⟩
  isplitl [H Y]
  · isplitl [H]; · iexact H
    iexact Y
  isplitl [D]; · iexact D
  isplitl [T]; · iexact T
  iexact P

theorem rest_out (c : Dev nD) : Inv m c 32 ⊢
    iprop((Pipeline.scopedRest (Ix := Unit) (Name := ℕ) (U := UU) (Lvl := ℕ) (Val := Elt F) spec0 c ∗ (∃ r, prngReg (c : Dev nD) r)
        ∗ Pipeline.ownSems0 (Ix := Unit) (Val := Elt F) (Name := ℕ) (U := UU) (Lvl := ℕ) osem c
        ∗ (bigSep {main_arg1} fun b => ((c : Thread nD τ).loc b) ↦{fullShare} m ((c : Thread nD τ).loc b)))
      ∗ ∃ W : (b : Ref sig .tc) → Buf (Elt F) ((c : Thread nD τ).loc b), ⌜Left m c (W main_v0)⌝
        ∗ (bigSep {main_v0} fun b => ((c : Thread nD τ).loc b) ↦{fullShare} W b)) := by
  rw [scopedRest0_eq, bigSep_singleton]
  unfold Inv
  rw [show Mid c (m (LX c)) (nm m c) (Em m c) (avm m c) 32 = iprop(Rest c (m (LX c)) ∗ Tiles c (fin_ (nm m c) (Em m c))) from (if_neg (by decide)).trans (if_pos rfl)]
  have t := tiles_join c (fin_ (nm m c) (Em m c)) (fun j hj f g hfg hf => fin_agree (nm m c) (Em m c) j hj f g hfg hf)
  have e := of_rest c (m (LX c))
  have w (f : Buf (Elt F) (LY c)) : (LY c ↦{fullShare} f) ⊢ ((bigSep {main_v0} fun b => ((c : Thread nD τ).loc b) ↦{fullShare} (Function.update (fun b => m ((c : Thread nD τ).loc b)) main_v0 f) b) : sProp 𝕄) := by
    rw [bigSep_singleton, Function.update_self]
  have w' (f : Buf (Elt F) (LY c)) (hf : Left m c f) : Left m c ((Function.update (fun b => m ((c : Thread nD τ).loc b)) main_v0 f) main_v0) := by
    rw [Function.update_self]; exact hf
  iintro ⟨⟨R, Y⟩, D, T, P⟩
  ihave H := e $$ [R D]
  · isplitl [R]; · iexact R
    iexact D
  icases H with ⟨A, B, S, L⟩
  ihave Y := t $$ Y
  icases Y with ⟨%f, %hf, Y⟩
  isplitl [A B S L P]
  · isplitl [A B]
    · isplitl [A]; · iexact A
      iexact B
    isplitl [P]; · iexact P
    isplitl [S]; · iexact S
    iexact L
  iexists _
  isplitr
  · ipureintro; exact w' f hf
  iapply (w f) $$ Y

set_option backward.isDefEq.respectTransparency.types false in
theorem run (h : SortedM m) : θ_run (defs (F := F)) (onTc main) (s₀ m ρ) fun r =>
    (∀ c : Dev nD, Left m c (r.2.mem (LY c)) ∧ r.2.mem (LT c) = m (LT c) ∧ r.2.mem (LX c) = m (LX c)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0 := by
  refine Pipeline.RDat.θ_run_frameP_dmaRSat_shared (pcfgs (F := F)) (adms m) 0 launch0.to₀ osem (defs₀ (F := F)) 𝒱₀ (fun c => (dats m c).toR) own
    {main_arg1} {main_v0} sub1 sub2 m ρ main (fun c => (body_obligation m h c).toR) (fun c w _ => rfl) (fun c t => rfl)
    (fun c b => m ((c : Thread nD τ).loc b)) (Pipeline.hmainP_region (pcfgs (F := F)) 0 (defs₀ (F := F)) 𝒱₀ m main (fun c => rfl)) (fun c w => rfl) (fun c k => V_pre m c k)
    (fun c W => Left m c (W main_v0)) (fun c => ?_) (fun c => ?_) _ (fun r hr => ?_)
  · rw [Pipeline.ΦDRG_eq]
    unfold Pipeline.ΦT Pipeline.prefHeld Pipeline.routed
    exact rest_in m c
  · rw [Pipeline.ΦD_eq]
    unfold Pipeline.routedSat Pipeline.routed
    exact rest_out m c
  · obtain ⟨⟨hfr, hl⟩, hs⟩ := hr
    refine ⟨fun c => ?_, hs⟩
    obtain ⟨W, hW, hWr⟩ := hl c
    refine ⟨(hWr main_v0 (Finset.mem_singleton_self _)) ▸ hW, (hfr c).2 main_arg0 inRest.1, (hfr c).2 main_arg1 inRest.2, hfr.arr_in c 0 rfl, hfr.arr_in c 1 rfl⟩

/-- The precondition, read of the table: its rows are those of tile starts, in order. -/
theorem sorted_of (c : Dev nD)
    (h1 : (Pre_sorted_rows.fn (F := F) (m (LT c)) (m (LX c)) (m ((c : Thread nD τ).loc main_arg2)) (m ((c : Thread nD τ).loc main_arg3))).1 = fun _ => 1#1)
    (h2 : (Pre_sorted_rows.fn (F := F) (m (LT c)) (m (LX c)) (m ((c : Thread nD τ).loc main_arg2)) (m ((c : Thread nD τ).loc main_arg3))).2.1 = fun _ => 1#1)
    (h3 : (Pre_sorted_rows.fn (F := F) (m (LT c)) (m (LX c)) (m ((c : Thread nD τ).loc main_arg2)) (m ((c : Thread nD τ).loc main_arg3))).2.2.1 = fun _ => 1#1)
    (h4 : (Pre_sorted_rows.fn (F := F) (m (LT c)) (m (LX c)) (m ((c : Thread nD τ).loc main_arg2)) (m ((c : Thread nD τ).loc main_arg3))).2.2.2 = fun _ => 1#1) :
    Sorted (m (LT c)) (avm m c) (nm m c) := by
  obtain ⟨a0, a1, a2, a3, a4⟩ := sorted_of_pre (F := F) (m (LT c)) _ _ _ h1 h2 h3 h4
  obtain ⟨s1, s2, s3, s4⟩ := starts_of_pre a0 a1 a2 a3 a4
  have av (e : Fin 33) : avm m c e.val = (m (LT c) (ix1 e) : BitVec 32).toNat / 128 := dif_pos e.isLt
  refine ⟨fun e => ?_, ?_, fun e he => ?_, rfl, ?_, ?_⟩
  · rw [av]; exact s1 e
  · refine (av 0).trans ?_
    rw [a0]; rfl
  · have h := s2 ⟨e, he⟩
    have h0 := av (⟨e, he⟩ : Fin 32).castSucc
    have h1 := av (⟨e, he⟩ : Fin 32).succ
    rw [show avm m c e = _ from h0, show avm m c (e + 1) = _ from h1]
    exact Nat.div_le_div_right h
  · have := av 32
    show 128 ≤ avm m c 32
    rw [show avm m c 32 = _ from this]; omega
  · have := av 32
    show avm m c 32 ≤ 160
    rw [show avm m c 32 = _ from this]; omega

end Launch

end Cert.ExpertsIdeal.Ring
-- ==== Proof.FeedForward.lean ====
/-
  One expert's feed-forward of a row, and a row's share of its own expert, as plain mathematics over the extended reals.
-/
module

public import Idealize.ShloMosaic.Lib.Pointwise

@[expose] public section

noncomputable section

namespace Cert.FeedForward

open Idealize.ShloMosaic

/-- The rows: 2048 activations, the gate, the residual's factor, and columns nobody reads. -/
abbrev Acts : Type := (⟨2, ![20480, 2176]⟩ : Shape).Idx → EReal

/-- The experts' weights into the hidden layer (gate and up side by side), two layers of them. -/
abbrev Up : Type := (⟨4, ![2, 32, 2048, 1024]⟩ : Shape).Idx → EReal

/-- Their weights out of it. -/
abbrev Down : Type := (⟨4, ![2, 32, 512, 2048]⟩ : Shape).Idx → EReal

variable (X : Acts) (W3 : Up) (W4 : Down)

/-- A row's product with a column of the first layer's weights of expert `e`. -/
def proj (e : Fin 32) (R : Fin 20480) (f : Fin 1024) : EReal :=
  ∑ d : Fin 2048, X (ix2 R (Fin.castLE (by decide) d)) * W3 (ix4 (0 : Fin 2) e d f)

/-- `t / (1 + e⁻ᵗ)`. -/
def silu (t : EReal) : EReal := t * Ideal.div 1 (1 + Ideal.exp (-t))

/-- The hidden layer: the gate's half through `silu`, times the other half. -/
def hid (e : Fin 32) (R : Fin 20480) (f : Fin 512) : EReal :=
  silu (proj X W3 e R (Fin.castLE (by decide) f)) * proj X W3 e R (Fin.natAdd 512 f)

/-- The expert's output. -/
def ffn (e : Fin 32) (R : Fin 20480) (q : Fin 2048) : EReal :=
  ∑ f : Fin 512, hid X W3 e R f * W4 (ix4 (0 : Fin 2) e f q)

/-- A row's result from its expert: the gated output and the residual. -/
def mixed (e : Fin 32) (R : Fin 20480) (q : Fin 2048) : EReal :=
  X (ix2 R 2048) * ffn X W3 W4 e R q + X (ix2 R 2049) * X (ix2 R (Fin.castLE (by decide) q))

/-- All experts' outputs, each row gated for the expert whose stretch of rows holds it, and the residual of the rows held by
    any; the stretches begin at 128 times `av`. -/
def layer (av : ℕ → ℕ) (R : Fin 20480) (q : Fin 2048) : EReal :=
  (∑ e : Fin 32, (if 128 * av e.val ≤ R.val ∧ R.val < 128 * av (e.val + 1) then X (ix2 R 2048) else 0) * ffn X W3 W4 e R q)
    + (if R.val < 128 * av 32 then X (ix2 R 2049) else 0) * X (ix2 R (Fin.castLE (by decide) q))

/-- A row in expert `e`'s stretch has only that expert's output, -/
theorem layer_of_own (av : ℕ → ℕ) (R : Fin 20480) (q : Fin 2048) (e : Fin 32) (h32 : R.val < 128 * av 32)
    (h : ∀ e' : Fin 32, (128 * av e'.val ≤ R.val ∧ R.val < 128 * av (e'.val + 1)) ↔ e' = e) :
    layer X W3 W4 av R q = mixed X W3 W4 e R q := by
  unfold layer mixed
  rw [if_pos h32, Finset.sum_eq_single e, if_pos ((h e).mpr rfl)]
  · intro e' _ hne
    rw [if_neg fun h' => hne ((h e').mp h'), zero_mul]
  · exact fun h' => absurd (Finset.mem_univ _) h'

/-- and a row past every stretch is zero. -/
theorem layer_of_past (av : ℕ → ℕ) (R : Fin 20480) (q : Fin 2048) (h32 : 128 * av 32 ≤ R.val)
    (h : ∀ e' : Fin 32, ¬(128 * av e'.val ≤ R.val ∧ R.val < 128 * av (e'.val + 1))) : layer X W3 W4 av R q = 0 := by
  unfold layer
  rw [if_neg (by omega), zero_mul, add_zero]
  exact Finset.sum_eq_zero fun e' _ => by rw [if_neg (h e'), zero_mul]

end Cert.FeedForward

end
-- ==== Proof.ExpertsIdealValue.lean ====
/-
  What the feed-forward kernel leaves at an entry of its result.
-/
module

public import proofs.«01_k».proof.Proof.ExpertsIdealLaunch
public import proofs.«01_k».proof.Proof.FeedForward

@[expose] public section

noncomputable section

namespace Cert.ExpertsIdeal.Value

open Cert.ExpertsIdeal Cert.ExpertsIdeal.Gen Cert.ExpertsIdeal.Ring Cert.FeedForward Idealize.ShloMosaic Idealize.ShloMosaic.TcCoe

variable (X : Acts) (W3 : Up) (W4 : Down)

/-- The payload's entry, from the values it is computed of. -/
theorem pay2 (x : FVec Ideal S128x2048 .f32) (g r : FVec Ideal S128x1 .f32) (xb : FVec Ideal S128x2048 .bf16)
    (w3 : FVec Ideal S2048x1024 .bf16) (w4 : Vec Ideal S1x1x512x2048 .f32) (i : Fin 128) (q : Fin 2048) :
    k0_pay2 x g r xb w3 w4 (ix3 0 i q)
      = g (ix2 i 0) * (∑ f : Fin 512, (silu (∑ d : Fin 2048, xb (ix2 i d) * w3 (ix2 d (Fin.castLE (by decide) f)))
          * ∑ d : Fin 2048, xb (ix2 i d) * w3 (ix2 d (Fin.natAdd 512 f))) * w4 (ix4 0 0 f q))
        + r (ix2 i 0) * x (ix2 i q) := by
  pointwise [k0_pay2]
  rfl

theorem pay5 (v : Vec Ideal S1x128x2048 .f32) (i : Fin 128) (q : Fin 2048) : k0_pay5 v (ix2 i q) = v (ix3 0 i q) := by
  pointwise [k0_pay5]
theorem pay6 (v : Vec Ideal S1x128x1 .f32) (i : Fin 128) : k0_pay6 v (ix2 i 0) = v (ix3 0 i 0) := by
  pointwise [k0_pay6]
theorem pay7 (v : Vec Ideal S1x128x1 .f32) (i : Fin 128) : k0_pay7 v (ix2 i 0) = v (ix3 0 i 0) := by
  pointwise [k0_pay7]
theorem pay8 (v : Vec Ideal S1x128x2048 .f32) (i : Fin 128) (q : Fin 2048) : k0_pay8 v (ix2 i q) = v (ix3 0 i q) := by
  pointwise [k0_pay8, k0_pay5]
theorem pay9 (v : Vec Ideal S1x1x2048x1024 .f32) (d : Fin 2048) (f : Fin 1024) : k0_pay9 v (ix2 d f) = v (ix4 0 0 d f) := by
  pointwise [k0_pay9]
theorem pay4 (i : Fin 128) (q : Fin 2048) : (k0_pay4 (F := Ideal)) (ix3 0 i q) = (0 : EReal) := by
  pointwise [k0_pay4]

theorem row_eq {j : ℕ} (hj : j < 160) (i : Fin 128) : row j i.val = (⟨128 * j + i.val, by omega⟩ : Fin 20480) :=
  Fin.ext (Nat.mod_eq_of_lt (by omega))

/-- A tile's entry: the row's gated expert and residual. -/
theorem tile (av : ℕ → ℕ) {j : ℕ} (hj : j < 160) (i : Fin 128) (q : Fin 2048) :
    EE (F := Ideal) X W3 W4 av j (ix3 0 i q) = mixed X W3 W4 (ex av j) ⟨128 * j + i.val, by omega⟩ q := by
  rw [← row_eq hj]
  unfold EE tileOut
  rw [pay2, pay5, pay6, pay7]
  simp only [pay8, pay9]
  rfl

section Sorted

variable {T : S33.Idx → BitVec 32} {av : ℕ → ℕ} {n : ℕ} (h : Sorted T av n)

include h

/-- The tiles before the last start are the experts' own. -/
theorem own_iff {j : ℕ} (hj : j < n) (i : Fin 128) (e : Fin 32) :
    (128 * av e.val ≤ 128 * j + i.val ∧ 128 * j + i.val < 128 * av (e.val + 1)) ↔ e = ex av j := by
  constructor
  · rintro ⟨h0, h1⟩
    exact (h.ex_eq e (by omega) (by omega)).symm
  · rintro rfl
    have hle : av (ex av j).val ≤ j := Nat.findGreatest_spec (P := fun e => av e ≤ j) (m := 0) (Nat.zero_le 31) (h.first.le.trans (Nat.zero_le j))
    have hlt : j < av ((ex av j).val + 1) := by
      by_contra hc
      rcases Nat.lt_or_ge (ex av j).val 31 with hs | hs
      · have : (ex av j).val + 1 ≤ (ex av j).val := Nat.le_findGreatest (P := fun e => av e ≤ j) (by omega) (by omega)
        omega
      · have h31 : (ex av j).val = 31 := by have := (ex av j).isLt; omega
        rw [h31, h.last] at hc
        omega
    omega

/-- The kernel's tiles hold the layer. -/
theorem left_eq {f : S20480x2048.Idx → EReal} (hf : ∀ j, j < 160 → fin_ (F := Ideal) n (EE (F := Ideal) X W3 W4 av) j f) (R : Fin 20480) (q : Fin 2048) :
    f (ix2 R q) = layer X W3 W4 av R q := by
  obtain ⟨j, hj, i, rfl⟩ : ∃ (j : ℕ) (hj : j < 160) (i : Fin 128), R = ⟨128 * j + i.val, by omega⟩ :=
    ⟨R.val / 128, by omega, ⟨R.val % 128, by omega⟩, Fin.ext (by show R.val = 128 * (R.val / 128) + R.val % 128; omega)⟩
  rcases Nat.lt_or_ge j n with hn | hn
  · refine ((hf j hj).1 hn hj i q).trans ((tile X W3 W4 av hj i q).trans (layer_of_own X W3 W4 av _ q _ ?_ fun e => own_iff h hn i e).symm)
    show 128 * j + i.val < 128 * av 32
    rw [h.last]; omega
  · refine ((hf j hj).2 hn hj i q).trans ((pay4 i q).trans (layer_of_past X W3 W4 av _ q ?_ fun e he => ?_).symm)
    · show 128 * av 32 ≤ 128 * j + i.val
      rw [h.last]; omega
    · have h1 : 128 * j + i.val < 128 * av (e.val + 1) := he.2
      have h2 := h.le (e := e.val + 1) (e' := 32) (by omega) le_rfl
      rw [h.last] at h2
      omega

end Sorted

end Cert.ExpertsIdeal.Value

end
-- ==== Proof.ExpertsReference.lean ====
/-
  The feed-forward reference's result, entry by entry, is the layer's.
-/
module

public import proofs.«01_k».proof.Proof.Gen.ExpertsReferenceIdeal.Run
public import proofs.«01_k».proof.Proof.Gen.ExpertsReferenceIdeal.Read
public import proofs.«01_k».proof.Proof.FeedForward
public import Idealize.ShloMosaic.Lib.WordCmp

@[expose] public section

noncomputable section

namespace Cert.ExpertsReferenceIdeal.Layer

open Cert.ExpertsReferenceIdeal Cert.ExpertsReferenceIdeal.Gen Cert.ExpertsReferenceIdeal.Read Cert.FeedForward Idealize.ShloMosaic

variable (T : (⟨1, ![33]⟩ : Shape).Idx → BitVec 32) (X : Acts) (W3 : Up) (W4 : Down)
  (e : Fin 32) (R : Fin 20480)

theorem zero : Ideal.ofBits .f32 0x00000000#32 = 0 := by simp [Ideal.ofBits, Ideal.ieee]

theorem one : Ideal.ofBits .f32 0x3F800000#32 = 1 := by
  simp [Ideal.ofBits, Ideal.ieee]
  rw [← EReal.coe_mul]; norm_num

/-- A row's activations. -/
theorem v0 (d : Fin 2048) : val_main_v0 (F := Ideal) X (ix2 R d) = X (ix2 R (Fin.castLE (by decide) d)) := by
  rw [val_main_v0_apply]
  exact congrArg X (funext fun a => Fin.ext (by match a with | ⟨0, _⟩ => rfl | ⟨1, _⟩ => rfl))

/-- Its gate. -/
theorem v2 : val_main_v2 (F := Ideal) X (ix1 R) = X (ix2 R 2048) := by
  rw [val_main_v2_apply, val_main_v1_apply]
  refine congrArg X (funext fun a => Fin.ext ?_)
  match a with
  | ⟨0, _⟩ => show R.val / 1 = R.val; omega
  | ⟨1, _⟩ => rfl

/-- Its residual's factor. -/
theorem v4 : val_main_v4 (F := Ideal) X (ix1 R) = X (ix2 R 2049) := by
  rw [val_main_v4_apply, val_main_v3_apply]
  refine congrArg X (funext fun a => Fin.ext ?_)
  match a with
  | ⟨0, _⟩ => show R.val / 1 = R.val; omega
  | ⟨1, _⟩ => rfl

/-- An expert's weights into the hidden layer. -/
theorem v21 (d : Fin 2048) (f : Fin 1024) : val_main_v21 (F := Ideal) W3 (ix3 e d f) = W3 (ix4 (0 : Fin 2) e d f) := by
  rw [val_main_v21_apply, val_main_v20_apply]
  refine congrArg W3 (funext fun a => Fin.ext ?_)
  match a with
  | ⟨0, _⟩ => rfl
  | ⟨1, _⟩ => show ((e.val * 2048 + d.val) * 1024 + f.val) / 2097152 % 32 = e.val; omega
  | ⟨2, _⟩ => show ((e.val * 2048 + d.val) * 1024 + f.val) / 1024 % 2048 = d.val; omega
  | ⟨3, _⟩ => show ((e.val * 2048 + d.val) * 1024 + f.val) % 1024 = f.val; omega

/-- Its weights out of it. -/
theorem v29 (f : Fin 512) (q : Fin 2048) : val_main_v29 (F := Ideal) W4 (ix3 e f q) = W4 (ix4 (0 : Fin 2) e f q) := by
  rw [val_main_v29_apply, val_main_v28_apply]
  refine congrArg W4 (funext fun a => Fin.ext ?_)
  match a with
  | ⟨0, _⟩ => rfl
  | ⟨1, _⟩ => show ((e.val * 512 + f.val) * 2048 + q.val) / 1048576 % 32 = e.val; omega
  | ⟨2, _⟩ => show ((e.val * 512 + f.val) * 2048 + q.val) / 2048 % 512 = f.val; omega
  | ⟨3, _⟩ => show ((e.val * 512 + f.val) * 2048 + q.val) % 2048 = q.val; omega

/-- A row's product with a column of an expert's weights. -/
theorem v23 (f : Fin 1024) : val_main_v23 (F := Ideal) X W3 (ix3 e R f) = proj X W3 e R f := by
  rw [val_main_v23_apply, val_main_v22_apply]
  refine Finset.sum_congr rfl fun d _ => ?_
  rw [mul_comm]
  refine congrArg₂ (· * ·) (Eq.trans (congrArg _ (funext fun a => ?_)) (v0 X R d)) (Eq.trans (congrArg _ (funext fun a => ?_)) (v21 W3 e d f))
  · match a with | ⟨0, _⟩ => rfl | ⟨1, _⟩ => rfl
  · match a with | ⟨0, _⟩ => rfl | ⟨1, _⟩ => rfl | ⟨2, _⟩ => rfl

theorem v24 (f : Fin 512) : val_main_v24 (F := Ideal) X W3 (ix3 e R f) = proj X W3 e R (Fin.castLE (by decide) f) := by
  rw [val_main_v24_apply]
  refine Eq.trans (congrArg _ (funext fun a => ?_)) (v23 X W3 e R _)
  match a with | ⟨0, _⟩ => rfl | ⟨1, _⟩ => rfl | ⟨2, _⟩ => rfl

theorem v26 (f : Fin 512) : val_main_v26 (F := Ideal) X W3 (ix3 e R f) = proj X W3 e R (Fin.natAdd 512 f) := by
  rw [val_main_v26_apply]
  refine Eq.trans (congrArg _ (funext fun a => ?_)) (v23 X W3 e R _)
  match a with | ⟨0, _⟩ => rfl | ⟨1, _⟩ => rfl | ⟨2, _⟩ => rfl

/-- The hidden layer. -/
theorem v27 (f : Fin 512) : val_main_v27 (F := Ideal) X W3 (ix3 e R f) = hid X W3 e R f := by
  rw [val_main_v27_apply, val_main_v25_apply, val_main_call1_v5_apply, val_main_call1_v4_apply, val_main_call1_cst_0_apply,
    val_main_call1_v3_apply, val_main_call1_v2_apply, val_main_call1_cst_apply, val_main_call1_v1_apply, val_main_call1_v0_apply, v24, v26]
  show proj X W3 e R _ * Ideal.div (Ideal.ofBits .f32 0x3F800000#32) (Ideal.ofBits .f32 0x3F800000#32 + Ideal.exp (-proj X W3 e R _)) * _ = _
  rw [one]; rfl

/-- The expert's output. -/
theorem v30 (q : Fin 2048) : val_main_v30 (F := Ideal) X W3 W4 (ix3 e R q) = ffn X W3 W4 e R q := by
  rw [val_main_v30_apply]
  refine Finset.sum_congr rfl fun f _ => ?_
  refine congrArg₂ (· * ·) (Eq.trans (congrArg _ (funext fun a => ?_)) (v27 X W3 e R f)) (Eq.trans (congrArg _ (funext fun a => ?_)) (v29 W4 e f q))
  · match a with | ⟨0, _⟩ => rfl | ⟨1, _⟩ => rfl | ⟨2, _⟩ => rfl
  · match a with | ⟨0, _⟩ => rfl | ⟨1, _⟩ => rfl | ⟨2, _⟩ => rfl

section Starts

variable {av : ℕ → ℕ} (hT : ∀ e : Fin 33, T (ix1 e) = BitVec.ofNat 32 (128 * av e.val)) (hav : ∀ e, e ≤ 32 → av e ≤ 160)

include hT hav

/-- Whether an expert's stretch holds the row. -/
theorem v17 : val_main_v17 (F := Ideal) T (ix2 e R)
    = IntOp.andi (BitVec.ofBool (decide (128 * av e.val ≤ R.val))) (BitVec.ofBool (decide (R.val < 128 * av (e.val + 1)))) := by
  rw [val_main_v17_apply, val_main_v11_apply, val_main_v16_apply, val_main_v9_apply, val_main_v8_apply, val_main_v7_apply,
    val_main_v10_apply, val_main_v6_apply, val_main_v5_apply, val_main_v14_apply, val_main_v6_apply, val_main_v5_apply,
    val_main_v15_apply, val_main_v13_apply, val_main_v12_apply]
  have h0 := hav e.val (by omega)
  have h1 := hav (e.val + 1) (by omega)
  have t0 : T (idx_main_v7 (idx_main_v8 (idx_main_v9 (ix2 e R)))) = BitVec.ofNat 32 (128 * av e.val) :=
    (congrArg T (funext fun a => by match a with | ⟨0, _⟩ => rfl)).trans (hT e.castSucc)
  have t1 : T (idx_main_v12 (idx_main_v13 (idx_main_v15 (ix2 e R)))) = BitVec.ofNat 32 (128 * av (e.val + 1)) :=
    (congrArg T (funext fun a => Fin.ext (by match a with | ⟨0, _⟩ => exact Nat.add_comm _ _))).trans (hT e.succ)
  rw [t0, t1]
  exact congrArg₂ IntOp.andi (WordCmp.cmpi_sle_ofNat (a := 128 * av e.val) (b := R.val) (by omega) (by omega))
    (WordCmp.cmpi_slt_ofNat (a := R.val) (b := 128 * av (e.val + 1)) (by omega) (by omega))

/-- The row's gate for an expert: none but for the expert whose stretch holds it. -/
theorem v19 : val_main_v19 (F := Ideal) T X (ix2 e R)
    = if 128 * av e.val ≤ R.val ∧ R.val < 128 * av (e.val + 1) then X (ix2 R 2048) else 0 := by
  rw [val_main_v19_apply, v17 T e R hT hav, val_main_call0_v1_apply, val_main_v18_apply, val_main_call0_v2_apply, val_main_call0_v0_apply,
    val_main_cst_apply]
  have hg : val_main_v2 (F := Ideal) X (idx_main_v18 (idx_main_call0_v1 (ix2 e R))) = X (ix2 R 2048) :=
    (congrArg _ (funext fun a => by match a with | ⟨0, _⟩ => rfl)).trans (v2 X R)
  rw [hg]
  by_cases h0 : 128 * av e.val ≤ R.val
  · by_cases h1 : R.val < 128 * av (e.val + 1)
    · rw [if_pos ⟨h0, h1⟩, decide_eq_true h0, decide_eq_true h1]; rfl
    · rw [if_neg fun h => h1 h.2, decide_eq_true h0, decide_eq_false h1]; exact zero
  · rw [if_neg fun h => h0 h.1, decide_eq_false h0]
    rcases decide (R.val < 128 * av (e.val + 1)) <;> exact zero

/-- The residual's factor, of the rows some stretch holds. -/
theorem v40 : val_main_v40 (F := Ideal) T X (ix1 R) = if R.val < 128 * av 32 then X (ix2 R 2049) else 0 := by
  have h0 := hav 32 le_rfl
  have t : val_main_v38 (F := Ideal) T (ix1 R) = BitVec.ofNat 32 (128 * av 32) := by
    rw [val_main_v38_apply]
    unfold val_main_v37
    refine (shapeCast_apply (val_main_v36 (F := Ideal) T) _ _ (ix1 (0 : Fin 1)) ?_).trans ?_
    · rfl
    · rw [val_main_v36_apply]
      exact (congrArg T (funext fun a => by match a with | ⟨0, _⟩ => rfl)).trans (hT 32)
  rw [val_main_v40_apply, val_main_v39_apply, val_main_v35_apply, t, v4, val_main_call2_v1_apply, val_main_call2_v0_apply, val_main_cst_1_apply]
  have hc : IntOp.cmpi .slt (BitVec.ofNat 32 ((ix1 R : S20480.Idx) 0).val) (BitVec.ofNat 32 (128 * av 32)) = BitVec.ofBool (decide (R.val < 128 * av 32)) :=
    WordCmp.cmpi_slt_ofNat (a := R.val) (b := 128 * av 32) (by omega) (by omega)
  rw [hc]
  by_cases h1 : R.val < 128 * av 32
  · rw [if_pos h1, decide_eq_true h1]; rfl
  · rw [if_neg h1, decide_eq_false h1]; exact zero

/-- The reference's entry. -/
theorem result_eq (q : Fin 2048) : val_main_v44 (F := Ideal) T X W3 W4 (ix2 R q) = layer X W3 W4 av R q := by
  rw [val_main_v44_apply, val_main_v34_apply, val_main_cst_0_apply, val_main_v43_apply, val_main_v42_apply, val_main_v41_apply, v0]
  have hk : val_main_v40 (F := Ideal) T X (idx_main_v41 (idx_main_v42 (ix2 R q))) = if R.val < 128 * av 32 then X (ix2 R 2049) else 0 :=
    (congrArg _ (funext fun a => by match a with | ⟨0, _⟩ => rfl)).trans (v40 T X R hT hav)
  rw [hk]
  refine congrArg₂ (· + ·) ?_ rfl
  refine (congrArg₂ (· + ·) zero (Finset.sum_congr rfl fun e _ => ?_)).trans (zero_add _)
  rw [val_main_v33_apply, val_main_v32_apply, val_main_v31_apply]
  refine congrArg₂ (· * ·) ((congrArg _ (funext fun a => ?_)).trans (v19 T X e R hT hav)) ((congrArg _ (funext fun a => ?_)).trans (v30 X W3 W4 e R q))
  · match a with | ⟨0, _⟩ => rfl | ⟨1, _⟩ => rfl
  · match a with | ⟨0, _⟩ => rfl | ⟨1, _⟩ => rfl | ⟨2, _⟩ => rfl

end Starts

end Cert.ExpertsReferenceIdeal.Layer

end
-- ==== Proof.ExpertsClaims.lean ====
/-
  The feed-forward kernel's claims, from its launch (Proof/ExpertsLaunch.lean; Proof/ExpertsIdealLaunch.lean is the same
  of the idealized program).
-/
module

public import proofs.«01_k».proof.Defs
public import proofs.«01_k».proof.Proof.ExpertsLaunch
public import proofs.«01_k».proof.Proof.ExpertsIdealLaunch
public import proofs.«01_k».proof.Proof.ExpertsIdealValue
public import proofs.«01_k».proof.Proof.ExpertsReference
public import proofs.«01_k».proof.Proof.Gen.ExpertsReferenceIdeal.Run
public import proofs.«01_k».proof.Proof.Gen.ExpertsReferenceIdeal.Read
public import Idealize.ShloMosaic.Adequacy
public import Idealize.ShloMosaic.Init

@[expose] public section

noncomputable section

namespace Cert.Claims

open Idealize.ShloMosaic Idealize.ShloMosaic.TcCoe Idealize.SL.Sem

/-- The feed-forward kernel at its word values, on rows sorted by expert, terminates without a fault and keeps its
    arguments. -/
theorem frame_experts : Cert.quiescent_Experts := fun m ρ hpre =>
  (θ_run Cert.Experts.defs _ _).mono (fun r h => ⟨fun c => (h.1 c).2, h.2⟩)
    (Cert.Experts.Ring.run (F := Bits) m ρ fun c => Cert.Experts.Ring.sorted_of m c (hpre c).1 (hpre c).2.1 (hpre c).2.2.1 (hpre c).2.2.2)

/-- So does the idealized one, -/
theorem frame_experts_ideal : Cert.quiescent_ExpertsIdeal := fun m ρ hpre =>
  (θ_run Cert.ExpertsIdeal.defs _ _).mono (fun r h => ⟨fun c => (h.1 c).2, h.2⟩)
    (Cert.ExpertsIdeal.Ring.run (F := Ideal) m ρ fun c => Cert.ExpertsIdeal.Ring.sorted_of m c (hpre c).1 (hpre c).2.1 (hpre c).2.2.1 (hpre c).2.2.2)

/-- and the reference, on any input, -/
theorem frame_experts_reference : Cert.quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run (F := Ideal) m ρ)

/-- in particular on rows sorted by expert. -/
theorem frame_experts_reference_sorted : Cert.quiescent_ExpertsReferenceIdeal_pre_sorted_rows := fun m ρ _ => frame_experts_reference m ρ trivial

/-- The idealized program is the kernel itself. -/
theorem preserves_experts : Cert.preserves_Experts_ExpertsIdeal := trivial

/-- The layer of the kernel's arguments. -/
def layerOf (m : (ℓ : Loc Cert.ExpertsIdeal.nD Cert.ExpertsIdeal.τ Cert.ExpertsIdeal.sig) → Buf (Elt Ideal) ℓ) (c : Dev Cert.ExpertsIdeal.nD) :
    Buf (Elt Ideal) ((c.tc : Thread Cert.ExpertsIdeal.nD Cert.ExpertsIdeal.τ).loc Cert.ExpertsIdeal.main_v0) :=
  fun (I : (⟨2, ![20480, 2048]⟩ : Shape).Idx) => FeedForward.layer (m ((c.tc : Thread Cert.ExpertsIdeal.nD Cert.ExpertsIdeal.τ).loc Cert.ExpertsIdeal.main_arg1))
    (m ((c.tc : Thread Cert.ExpertsIdeal.nD Cert.ExpertsIdeal.τ).loc Cert.ExpertsIdeal.main_arg2))
    (m ((c.tc : Thread Cert.ExpertsIdeal.nD Cert.ExpertsIdeal.τ).loc Cert.ExpertsIdeal.main_arg3)) (Cert.ExpertsIdeal.Ring.avm m c) (I 0) (I 1)

/-- On rows sorted by expert the idealized kernel and the reference end with the same array: the layer of their arguments. -/
theorem algebraic_experts : Cert.algebraic_ExpertsIdeal_ExpertsReferenceIdeal := by
  intro m ρ m' ρ' hpre hagree
  have hs : ∀ c, Cert.ExpertsIdeal.Ring.Sorted _ _ _ := fun c =>
    Cert.ExpertsIdeal.Ring.sorted_of m c (hpre c).1 (hpre c).2.1 (hpre c).2.2.1 (hpre c).2.2.2
  refine ⟨layerOf m, ?_, ?_⟩
  · refine (θ_run Cert.ExpertsIdeal.defs _ _).mono (fun r h c => ⟨?_, (h.1 c).2⟩) (Cert.ExpertsIdeal.Ring.run (F := Ideal) m ρ hs)
    refine funext fun (I : (⟨2, ![20480, 2048]⟩ : Shape).Idx) => ?_
    have hI : I = ix2 (I 0) (I 1) := funext fun a => by match a with | ⟨0, _⟩ => rfl | ⟨1, _⟩ => rfl
    exact (congrArg (r.2.mem _) hI).trans (Cert.ExpertsIdeal.Value.left_eq _ _ _ (hs c) (h.1 c).1 (I 0) (I 1))
  · refine (θ_run Cert.ExpertsReferenceIdeal.defs _ _).mono (fun _ h c => ⟨(h c).1.trans ?_, (h c).2⟩)
      (Cert.ExpertsReferenceIdeal.Value.run (F := Ideal) m' ρ')
    obtain ⟨e0, e1, e2, e3⟩ := hagree c
    rw [Cert.ExpertsReferenceIdeal.Read.val_main_v44_eq, e0, e1, e2, e3]
    refine funext fun (I : (⟨2, ![20480, 2048]⟩ : Shape).Idx) => ?_
    have hI : I = ix2 (I 0) (I 1) := funext fun a => by match a with | ⟨0, _⟩ => rfl | ⟨1, _⟩ => rfl
    refine (congrArg _ hI).trans (Cert.ExpertsReferenceIdeal.Layer.result_eq _ _ _ _ (I 0) (hs c).hT (fun e he => ?_) (I 1))
    exact ((hs c).le he le_rfl).trans ((hs c).last.trans_le (hs c).hi)

end Cert.Claims

end
-- ==== Proof.Projection.lean ====
/-
  The layer's products of plain matrices: an input projection with its columns scaled, and the mixer's output projection
  with the residual and the layer norm after it.
-/
module

public import Idealize.ShloMosaic.Lib.Pointwise

@[expose] public section

noncomputable section

namespace Cert.Projection

open Idealize.ShloMosaic

/-- A matrix of extended reals. -/
abbrev Mat (r k : ℕ) := (⟨2, ![r, k]⟩ : Shape).Idx → EReal

/-- A row of the activations against a column of the weights, times the column's scale. -/
def scaled {n : ℕ} (x : Mat 8192 2048) (w : Mat 2048 n) (s : Mat 1 n) (i : Fin 8192) (j : Fin n) : EReal :=
  (∑ d : Fin 2048, x (ix2 i d) * w (ix2 d j)) * s (ix2 0 j)

/-- The factor of the residual, the layer norm's offset under the root and a row's length, as the programs spell them. -/
abbrev alpha : EReal := Ideal.ofBits .f32 0x3FB504F3#32
abbrev eps : EReal := Ideal.ofBits .f32 0x3727C5AC#32
abbrev len : EReal := Ideal.ofBits .f32 0x45000000#32

/-- The mixer's two outputs against the output weights, the first output on the weights' first 1024 rows. -/
def mix (a b : Mat 8192 1024) (w : Mat 2048 2048) (i : Fin 8192) (j : Fin 2048) : EReal :=
  (∑ d : Fin 1024, a (ix2 i d) * w (ix2 (Fin.castAdd 1024 d) j)) + ∑ d : Fin 1024, b (ix2 i d) * w (ix2 (Fin.natAdd 1024 d) j)

/-- The residual plus that. -/
def resid (a b : Mat 8192 1024) (w : Mat 2048 2048) (h : Mat 8192 2048) (i : Fin 8192) (j : Fin 2048) : EReal :=
  alpha * h (ix2 i j) + mix a b w i j

/-- A row's mean, -/
def mean (x : Fin 2048 → EReal) : EReal := Ideal.div (∑ j, x j) len

/-- an entry less the mean, -/
def centred (x : Fin 2048 → EReal) (j : Fin 2048) : EReal := x j - mean x

/-- and the row's layer norm. -/
def norm (x : Fin 2048 → EReal) (g b : Mat 1 2048) (j : Fin 2048) : EReal :=
  centred x j * Ideal.rsqrt (mean (fun k => centred x k * centred x k) + eps) * g (ix2 0 j) + b (ix2 0 j)

end Cert.Projection

end
-- ==== Proof.OddProjValue.lean ====
/-
  The odd layer's input projection: what the kernel leaves at an entry of its result, and the reference's entry.
-/
module

public import proofs.«01_k».proof.Proof.Gen.OddProjIdeal.Value
public import proofs.«01_k».proof.Proof.Gen.OddProjReferenceIdeal.Run
public import proofs.«01_k».proof.Proof.Gen.OddProjReferenceIdeal.Read
public import proofs.«01_k».proof.Proof.Projection
public import Idealize.ShloMosaic.Lib.Pipeline.ValueKit

@[expose] public section

noncomputable section

namespace Cert.OddProjIdeal.Scaled

open Cert.OddProjIdeal Cert.OddProjIdeal.Gen Cert.OddProjIdeal.Value Cert.Projection
  Idealize.ShloMosaic Idealize.ShloMosaic.TcCoe Idealize.SL.Sem

/-- The payload's entry, from the blocks it is computed of. -/
theorem pay1 (x : Vec Ideal S1024x2048 .f32) (w : Vec Ideal S2048x2176 .bf16) (s : Vec Ideal S1x2176 .f32) (i : Fin 1024) (j : Fin 2176) :
    k0_pay1 x w s (ix2 i j) = (∑ d : Fin 2048, x (ix2 i d) * w (ix2 d j)) * s (ix2 0 j) := by
  pointwise [k0_pay1]

/-! ## Where the grid points' blocks lie -/

theorem idx0 : ∀ t : Fin cfg0.N, win0_0.index t (0 : Fin 2) = t.val % 8 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val / 8 :=
  (by decide +kernel : ∀ t : Fin grid0.N, _)
theorem idx2 : ∀ t : Fin cfg0.N, win0_2.index t (0 : Fin 2) = 0 ∧ win0_2.index t (1 : Fin 2) = t.val / 8 :=
  (by decide +kernel : ∀ t : Fin grid0.N, _)
theorem idx3 : ∀ t : Fin cfg0.N, win0_3.index t (0 : Fin 2) = t.val % 8 ∧ win0_3.index t (1 : Fin 2) = t.val / 8 :=
  (by decide +kernel : ∀ t : Fin grid0.N, _)
theorem point_lt (t : Fin cfg0.N) : t.val < 16 := lt_of_lt_of_le t.isLt (by decide)

/-- A grid point's rows, -/
def row (t : Fin cfg0.N) (i : Fin 1024) : Fin 8192 := ⟨1024 * (t.val % 8) + i.val, by omega⟩
/-- and its columns. -/
def col (t : Fin cfg0.N) (j : Fin 2176) : Fin 4352 := ⟨2176 * (t.val / 8) + j.val, by have := point_lt t; omega⟩

variable (m : (ℓ : Loc nD τ sig) → Buf (Elt Ideal) ℓ) (ρ : Dev nD → PrngReg) (c : Dev nD)

/-- The activations, the weights and the columns' scales. -/
abbrev Xs : Mat 8192 2048 := m ((c : Thread nD τ).loc main_arg0)
abbrev Ws : Mat 2048 4352 := m ((c : Thread nD τ).loc main_arg1)
abbrev Ss : Mat 1 4352 := m ((c : Thread nD τ).loc main_arg2)

variable (t : Fin cfg0.N) (i : Fin 1024) (d : Fin 2048) (j : Fin 2176)

theorem iblk0 : iblk m c 0 t (ix2 i d) = Xs m c (ix2 (row t i) d) := by
  obtain ⟨e0, e1⟩ := idx0 t
  show V m c main_arg0 (((cfg0.win 0).blk t).view.emb (ix2 i d)) = _
  rw [V_main_arg0]
  refine congrArg (Xs m c) (funext fun a => Fin.ext ?_)
  match a with
  | ⟨0, _⟩ => show win0_0.index t (0 : Fin 2) * 1024 + 1 * i.val = 1024 * (t.val % 8) + i.val; omega
  | ⟨1, _⟩ => show win0_0.index t (1 : Fin 2) * 2048 + 1 * d.val = d.val; omega

theorem iblk1 : iblk m c 1 t (ix2 d j) = Ws m c (ix2 d (col t j)) := by
  obtain ⟨e0, e1⟩ := idx1 t
  show V m c main_arg1 (((cfg0.win 1).blk t).view.emb (ix2 d j)) = _
  rw [V_main_arg1]
  refine congrArg (Ws m c) (funext fun a => Fin.ext ?_)
  match a with
  | ⟨0, _⟩ => show win0_1.index t (0 : Fin 2) * 2048 + 1 * d.val = d.val; omega
  | ⟨1, _⟩ => show win0_1.index t (1 : Fin 2) * 2176 + 1 * j.val = 2176 * (t.val / 8) + j.val; omega

theorem iblk2 : iblk m c 2 t (ix2 0 j) = Ss m c (ix2 0 (col t j)) := by
  obtain ⟨e0, e1⟩ := idx2 t
  show V m c main_arg2 (((cfg0.win 2).blk t).view.emb (ix2 0 j)) = _
  rw [V_main_arg2]
  refine congrArg (Ss m c) (funext fun a => Fin.ext ?_)
  match a with
  | ⟨0, _⟩ => show win0_2.index t (0 : Fin 2) * 1 + 1 * 0 = 0; omega
  | ⟨1, _⟩ => show win0_2.index t (1 : Fin 2) * 2176 + 1 * j.val = 2176 * (t.val / 8) + j.val; omega

/-- The output block's place in the result. -/
theorem emb3 : ((cfg0.win 3).blk t).view.emb (ix2 i j) = ix2 (row t i) (col t j) := by
  obtain ⟨e0, e1⟩ := idx3 t
  funext a; apply Fin.ext
  match a with
  | ⟨0, _⟩ => show win0_3.index t (0 : Fin 2) * 1024 + 1 * i.val = 1024 * (t.val % 8) + i.val; omega
  | ⟨1, _⟩ => show win0_3.index t (1 : Fin 2) * 2176 + 1 * j.val = 2176 * (t.val / 8) + j.val; omega

/-- The projection of the arguments. -/
def G : Mat 8192 4352 := fun I => scaled (Xs m c) (Ws m c) (Ss m c) (I 0) (I 1)

/-- What a grid point writes back is its block of the projection. -/
theorem flushed3_eq : (dats m 0 c).flushed 3 t = ((cfg0.win 3).blk t).view.read (Elt Ideal) (G m c) := by
  rw [flushed3]
  funext J
  obtain ⟨i, j, rfl⟩ : ∃ (i : Fin 1024) (j : Fin 2176), J = ix2 i j :=
    ⟨⟨(J 0).val, (J 0).isLt⟩, ⟨(J 1).val, (J 1).isLt⟩, funext fun a => by match a with | ⟨0, _⟩ => rfl | ⟨1, _⟩ => rfl⟩
  show out0_3 (iblk m c 0 t) (iblk m c 1 t) (iblk m c 2 t) (ix2 i j) = G m c (((cfg0.win 3).blk t).view.emb (ix2 i j))
  rw [emb3]
  frame_out
  refine (pay1 _ _ _ i j).trans ?_
  show _ = (∑ d : Fin 2048, Xs m c (ix2 (row t i) d) * Ws m c (ix2 d (col t j))) * Ss m c (ix2 0 (col t j))
  simp only [iblk0, iblk1, iblk2]

/-- Every index of the result is in some point's block. -/
theorem covered3 (J : S8192x4352.Idx) : ∃ t : Fin cfg0.N, (cfg0.win 3).flush t = true ∧ J ∈ ((cfg0.win 3).blk t).view.set := by
  have h0 : (J 0).val < 8192 := (J 0).isLt
  have h1 : (J 1).val < 4352 := (J 1).isLt
  have hN : (J 1).val / 2176 * 8 + (J 0).val / 1024 < cfg0.N := lt_of_lt_of_le (by omega : _ < 16) (by decide)
  refine ⟨⟨_, hN⟩, flush0_3 _, ?_⟩
  have h := ((cfg0.win 3).blk ⟨_, hN⟩).view.emb_mem_set (ix2 (⟨(J 0).val % 1024, by omega⟩ : Fin 1024) (⟨(J 1).val % 2176, by omega⟩ : Fin 2176))
  rw [emb3] at h
  have e : (ix2 (row ⟨_, hN⟩ ⟨(J 0).val % 1024, by omega⟩) (col ⟨_, hN⟩ ⟨(J 1).val % 2176, by omega⟩) : S8192x4352.Idx) = J := by
    funext a; apply Fin.ext
    match a with
    | ⟨0, _⟩ => show 1024 * (((J 1).val / 2176 * 8 + (J 0).val / 1024) % 8) + (J 0).val % 1024 = (J 0).val; omega
    | ⟨1, _⟩ => show 2176 * (((J 1).val / 2176 * 8 + (J 0).val / 1024) / 8) + (J 1).val % 2176 = (J 1).val; omega
  rwa [e] at h

/-- The result after the run. -/
theorem final3 : (dats m 0 c).arrAt 3 cfg0.N = G m c :=
  (dats m 0 c).arrAt_eq_of_cover 3 (G m c) (fun t _ => flushed3_eq m c t) covered3

/-- The reference's entry. -/
theorem reference_eq (x0 : Mat 8192 2048) (x1 : Mat 2048 4352) (x2 : Mat 1 4352) (i : Fin 8192) (j : Fin 4352) :
    Cert.OddProjReferenceIdeal.Read.val_main_v4 (F := Ideal) x0 x1 x2 (ix2 i j) = scaled x0 x1 x2 i j := by
  rw [Cert.OddProjReferenceIdeal.Read.val_main_v4_apply, Cert.OddProjReferenceIdeal.Read.val_main_v3_apply,
    Cert.OddProjReferenceIdeal.Read.val_main_v1_apply, Cert.OddProjReferenceIdeal.Read.val_main_v2_apply]
  refine congrArg₂ (· * ·) (Finset.sum_congr rfl fun d _ => ?_) (congrArg x2 (funext fun a => ?_))
  · rw [Cert.OddProjReferenceIdeal.Read.val_main_v0_apply]
    refine congrArg₂ (· * ·) (congrArg x0 (funext fun a => ?_)) (congrArg x1 (funext fun a => ?_))
    · match a with | ⟨0, _⟩ => rfl | ⟨1, _⟩ => rfl
    · match a with | ⟨0, _⟩ => rfl | ⟨1, _⟩ => rfl
  · match a with | ⟨0, _⟩ => rfl | ⟨1, _⟩ => rfl

end Cert.OddProjIdeal.Scaled

end
-- ==== Proof.FoxProjValue.lean ====
/-
  The input projection of the even layer's forgetting attention: what the kernel leaves at an entry of its result, and the reference's entry.
-/
module

public import proofs.«01_k».proof.Proof.Gen.FoxProjIdeal.Value
public import proofs.«01_k».proof.Proof.Gen.FoxProjReferenceIdeal.Run
public import proofs.«01_k».proof.Proof.Gen.FoxProjReferenceIdeal.Read
public import proofs.«01_k».proof.Proof.Projection
public import Idealize.ShloMosaic.Lib.Pipeline.ValueKit

@[expose] public section

noncomputable section

namespace Cert.FoxProjIdeal.Scaled

open Cert.FoxProjIdeal Cert.FoxProjIdeal.Gen Cert.FoxProjIdeal.Value Cert.Projection
  Idealize.ShloMosaic Idealize.ShloMosaic.TcCoe Idealize.SL.Sem

/-- The payload's entry, from the blocks it is computed of. -/
theorem pay1 (x : Vec Ideal S1024x2048 .f32) (w : Vec Ideal S2048x1536 .bf16) (s : Vec Ideal S1x1536 .f32) (i : Fin 1024) (j : Fin 1536) :
    k0_pay1 x w s (ix2 i j) = (∑ d : Fin 2048, x (ix2 i d) * w (ix2 d j)) * s (ix2 0 j) := by
  pointwise [k0_pay1]

/-! ## Where the grid points' blocks lie -/

theorem idx0 : ∀ t : Fin cfg0.N, win0_0.index t (0 : Fin 2) = t.val % 8 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val / 8 :=
  (by decide +kernel : ∀ t : Fin grid0.N, _)
theorem idx2 : ∀ t : Fin cfg0.N, win0_2.index t (0 : Fin 2) = 0 ∧ win0_2.index t (1 : Fin 2) = t.val / 8 :=
  (by decide +kernel : ∀ t : Fin grid0.N, _)
theorem idx3 : ∀ t : Fin cfg0.N, win0_3.index t (0 : Fin 2) = t.val % 8 ∧ win0_3.index t (1 : Fin 2) = t.val / 8 :=
  (by decide +kernel : ∀ t : Fin grid0.N, _)
theorem point_lt (t : Fin cfg0.N) : t.val < 16 := lt_of_lt_of_le t.isLt (by decide)

/-- A grid point's rows, -/
def row (t : Fin cfg0.N) (i : Fin 1024) : Fin 8192 := ⟨1024 * (t.val % 8) + i.val, by omega⟩
/-- and its columns. -/
def col (t : Fin cfg0.N) (j : Fin 1536) : Fin 3072 := ⟨1536 * (t.val / 8) + j.val, by have := point_lt t; omega⟩

variable (m : (ℓ : Loc nD τ sig) → Buf (Elt Ideal) ℓ) (ρ : Dev nD → PrngReg) (c : Dev nD)

/-- The activations, the weights and the columns' scales. -/
abbrev Xs : Mat 8192 2048 := m ((c : Thread nD τ).loc main_arg0)
abbrev Ws : Mat 2048 3072 := m ((c : Thread nD τ).loc main_arg1)
abbrev Ss : Mat 1 3072 := m ((c : Thread nD τ).loc main_arg2)

variable (t : Fin cfg0.N) (i : Fin 1024) (d : Fin 2048) (j : Fin 1536)

theorem iblk0 : iblk m c 0 t (ix2 i d) = Xs m c (ix2 (row t i) d) := by
  obtain ⟨e0, e1⟩ := idx0 t
  show V m c main_arg0 (((cfg0.win 0).blk t).view.emb (ix2 i d)) = _
  rw [V_main_arg0]
  refine congrArg (Xs m c) (funext fun a => Fin.ext ?_)
  match a with
  | ⟨0, _⟩ => show win0_0.index t (0 : Fin 2) * 1024 + 1 * i.val = 1024 * (t.val % 8) + i.val; omega
  | ⟨1, _⟩ => show win0_0.index t (1 : Fin 2) * 2048 + 1 * d.val = d.val; omega

theorem iblk1 : iblk m c 1 t (ix2 d j) = Ws m c (ix2 d (col t j)) := by
  obtain ⟨e0, e1⟩ := idx1 t
  show V m c main_arg1 (((cfg0.win 1).blk t).view.emb (ix2 d j)) = _
  rw [V_main_arg1]
  refine congrArg (Ws m c) (funext fun a => Fin.ext ?_)
  match a with
  | ⟨0, _⟩ => show win0_1.index t (0 : Fin 2) * 2048 + 1 * d.val = d.val; omega
  | ⟨1, _⟩ => show win0_1.index t (1 : Fin 2) * 1536 + 1 * j.val = 1536 * (t.val / 8) + j.val; omega

theorem iblk2 : iblk m c 2 t (ix2 0 j) = Ss m c (ix2 0 (col t j)) := by
  obtain ⟨e0, e1⟩ := idx2 t
  show V m c main_arg2 (((cfg0.win 2).blk t).view.emb (ix2 0 j)) = _
  rw [V_main_arg2]
  refine congrArg (Ss m c) (funext fun a => Fin.ext ?_)
  match a with
  | ⟨0, _⟩ => show win0_2.index t (0 : Fin 2) * 1 + 1 * 0 = 0; omega
  | ⟨1, _⟩ => show win0_2.index t (1 : Fin 2) * 1536 + 1 * j.val = 1536 * (t.val / 8) + j.val; omega

/-- The output block's place in the result. -/
theorem emb3 : ((cfg0.win 3).blk t).view.emb (ix2 i j) = ix2 (row t i) (col t j) := by
  obtain ⟨e0, e1⟩ := idx3 t
  funext a; apply Fin.ext
  match a with
  | ⟨0, _⟩ => show win0_3.index t (0 : Fin 2) * 1024 + 1 * i.val = 1024 * (t.val % 8) + i.val; omega
  | ⟨1, _⟩ => show win0_3.index t (1 : Fin 2) * 1536 + 1 * j.val = 1536 * (t.val / 8) + j.val; omega

/-- The projection of the arguments. -/
def G : Mat 8192 3072 := fun I => scaled (Xs m c) (Ws m c) (Ss m c) (I 0) (I 1)

/-- What a grid point writes back is its block of the projection. -/
theorem flushed3_eq : (dats m 0 c).flushed 3 t = ((cfg0.win 3).blk t).view.read (Elt Ideal) (G m c) := by
  rw [flushed3]
  funext J
  obtain ⟨i, j, rfl⟩ : ∃ (i : Fin 1024) (j : Fin 1536), J = ix2 i j :=
    ⟨⟨(J 0).val, (J 0).isLt⟩, ⟨(J 1).val, (J 1).isLt⟩, funext fun a => by match a with | ⟨0, _⟩ => rfl | ⟨1, _⟩ => rfl⟩
  show out0_3 (iblk m c 0 t) (iblk m c 1 t) (iblk m c 2 t) (ix2 i j) = G m c (((cfg0.win 3).blk t).view.emb (ix2 i j))
  rw [emb3]
  frame_out
  refine (pay1 _ _ _ i j).trans ?_
  show _ = (∑ d : Fin 2048, Xs m c (ix2 (row t i) d) * Ws m c (ix2 d (col t j))) * Ss m c (ix2 0 (col t j))
  simp only [iblk0, iblk1, iblk2]

/-- Every index of the result is in some point's block. -/
theorem covered3 (J : S8192x3072.Idx) : ∃ t : Fin cfg0.N, (cfg0.win 3).flush t = true ∧ J ∈ ((cfg0.win 3).blk t).view.set := by
  have h0 : (J 0).val < 8192 := (J 0).isLt
  have h1 : (J 1).val < 3072 := (J 1).isLt
  have hN : (J 1).val / 1536 * 8 + (J 0).val / 1024 < cfg0.N := lt_of_lt_of_le (by omega : _ < 16) (by decide)
  refine ⟨⟨_, hN⟩, flush0_3 _, ?_⟩
  have h := ((cfg0.win 3).blk ⟨_, hN⟩).view.emb_mem_set (ix2 (⟨(J 0).val % 1024, by omega⟩ : Fin 1024) (⟨(J 1).val % 1536, by omega⟩ : Fin 1536))
  rw [emb3] at h
  have e : (ix2 (row ⟨_, hN⟩ ⟨(J 0).val % 1024, by omega⟩) (col ⟨_, hN⟩ ⟨(J 1).val % 1536, by omega⟩) : S8192x3072.Idx) = J := by
    funext a; apply Fin.ext
    match a with
    | ⟨0, _⟩ => show 1024 * (((J 1).val / 1536 * 8 + (J 0).val / 1024) % 8) + (J 0).val % 1024 = (J 0).val; omega
    | ⟨1, _⟩ => show 1536 * (((J 1).val / 1536 * 8 + (J 0).val / 1024) / 8) + (J 1).val % 1536 = (J 1).val; omega
  rwa [e] at h

/-- The result after the run. -/
theorem final3 : (dats m 0 c).arrAt 3 cfg0.N = G m c :=
  (dats m 0 c).arrAt_eq_of_cover 3 (G m c) (fun t _ => flushed3_eq m c t) covered3

/-- The reference's entry. -/
theorem reference_eq (x0 : Mat 8192 2048) (x1 : Mat 2048 3072) (x2 : Mat 1 3072) (i : Fin 8192) (j : Fin 3072) :
    Cert.FoxProjReferenceIdeal.Read.val_main_v4 (F := Ideal) x0 x1 x2 (ix2 i j) = scaled x0 x1 x2 i j := by
  rw [Cert.FoxProjReferenceIdeal.Read.val_main_v4_apply, Cert.FoxProjReferenceIdeal.Read.val_main_v3_apply,
    Cert.FoxProjReferenceIdeal.Read.val_main_v1_apply, Cert.FoxProjReferenceIdeal.Read.val_main_v2_apply]
  refine congrArg₂ (· * ·) (Finset.sum_congr rfl fun d _ => ?_) (congrArg x2 (funext fun a => ?_))
  · rw [Cert.FoxProjReferenceIdeal.Read.val_main_v0_apply]
    refine congrArg₂ (· * ·) (congrArg x0 (funext fun a => ?_)) (congrArg x1 (funext fun a => ?_))
    · match a with | ⟨0, _⟩ => rfl | ⟨1, _⟩ => rfl
    · match a with | ⟨0, _⟩ => rfl | ⟨1, _⟩ => rfl
  · match a with | ⟨0, _⟩ => rfl | ⟨1, _⟩ => rfl

end Cert.FoxProjIdeal.Scaled

end
-- ==== Proof.OutProjValue.lean ====
/-
  The mixer's output projection with the residual and the layer norm: what the kernel leaves at an entry of its result.
-/
module

public import proofs.«01_k».proof.Proof.Gen.OutProjIdeal.Value
public import proofs.«01_k».proof.Proof.Projection
public import Idealize.ShloMosaic.Lib.Pipeline.ValueKit

@[expose] public section

noncomputable section

namespace Cert.OutProjIdeal.Norm

open Cert.OutProjIdeal Cert.OutProjIdeal.Gen Cert.OutProjIdeal.Value Cert.Projection
  Idealize.ShloMosaic Idealize.ShloMosaic.TcCoe Idealize.SL.Sem

/-- The payloads' entries, from the blocks they are computed of: of the block's first rows -/
theorem pay1 (a : Vec Ideal S256x1024 .bf16) (wa : Vec Ideal S1024x2048 .bf16) (b : Vec Ideal S256x1024 .bf16) (wb : Vec Ideal S1024x2048 .bf16)
    (h : Vec Ideal S256x2048 .f32) (g β : Vec Ideal S1x2048 .f32) (i : Fin 256) (j : Fin 2048) :
    k0_pay1 a wa b wb h g β (ix2 i j)
      = norm (fun k => alpha * h (ix2 i k) + ((∑ d : Fin 1024, a (ix2 i d) * wa (ix2 d k)) + ∑ d : Fin 1024, b (ix2 i d) * wb (ix2 d k))) g β j := by
  pointwise [k0_pay1]
  rfl

/-- and of its last. -/
theorem pay2 (a : Vec Ideal S256x1024 .bf16) (wa : Vec Ideal S1024x2048 .bf16) (b : Vec Ideal S256x1024 .bf16) (wb : Vec Ideal S1024x2048 .bf16)
    (h : Vec Ideal S256x2048 .f32) (g β : Vec Ideal S1x2048 .f32) (i : Fin 256) (j : Fin 2048) :
    k0_pay2 a wa b wb h g β (ix2 i j)
      = norm (fun k => alpha * h (ix2 i k) + ((∑ d : Fin 1024, a (ix2 i d) * wa (ix2 d k)) + ∑ d : Fin 1024, b (ix2 i d) * wb (ix2 d k))) g β j := by
  pointwise [k0_pay2]
  rfl

/-- A block's entry, from the input blocks. -/
def block (x0 x1 : Vec Ideal S512x1024 .bf16) (x2 x3 : Vec Ideal S1024x2048 .bf16) (x4 : Vec Ideal S512x2048 .f32) (x5 x6 : Vec Ideal S1x2048 .f32) :
    Vec Ideal S512x2048 .f32 := fun J =>
  norm (fun k => alpha * x4 (ix2 (J 0) k) + ((∑ d : Fin 1024, x0 (ix2 (J 0) d) * x2 (ix2 d k)) + ∑ d : Fin 1024, x1 (ix2 (J 0) d) * x3 (ix2 d k))) x5 x6 (J 1)

/-- The output block's two parts at an index. -/
theorem out_eq (x0 x1 : Vec Ideal S512x1024 .bf16) (x2 x3 : Vec Ideal S1024x2048 .bf16) (x4 : Vec Ideal S512x2048 .f32) (x5 x6 : Vec Ideal S1x2048 .f32)
    (J : S512x2048.Idx) : out0_7 x0 x1 x2 x3 x4 x5 x6 J = block x0 x1 x2 x3 x4 x5 x6 J := by
  have low0 (i : Fin 256) (d : Fin 1024) : r0_0.emb (ix2 i d) = ix2 (Fin.castLE (by decide) i : Fin 512) d := funext fun a => Fin.ext (by
    match a with
    | ⟨0, _⟩ => show 0 + 1 * i.val = i.val; omega
    | ⟨1, _⟩ => show 0 + 1 * d.val = d.val; omega)
  have high0 (i : Fin 256) (d : Fin 1024) : r0_4.emb (ix2 i d) = ix2 (Fin.natAdd 256 i : Fin 512) d := funext fun a => Fin.ext (by
    match a with
    | ⟨0, _⟩ => show 256 + 1 * i.val = 256 + i.val; omega
    | ⟨1, _⟩ => show 0 + 1 * d.val = d.val; omega)
  have low4 (i : Fin 256) (d : Fin 2048) : r0_2.emb (ix2 i d) = ix2 (Fin.castLE (by decide) i : Fin 512) d := funext fun a => Fin.ext (by
    match a with
    | ⟨0, _⟩ => show 0 + 1 * i.val = i.val; omega
    | ⟨1, _⟩ => show 0 + 1 * d.val = d.val; omega)
  have high4 (i : Fin 256) (d : Fin 2048) : r0_5.emb (ix2 i d) = ix2 (Fin.natAdd 256 i : Fin 512) d := funext fun a => Fin.ext (by
    match a with
    | ⟨0, _⟩ => show 256 + 1 * i.val = 256 + i.val; omega
    | ⟨1, _⟩ => show 0 + 1 * d.val = d.val; omega)
  have whole1 (x : Vec Ideal S1024x2048 .bf16) : View.ld x r0_1 = x :=
    View.ld_unit_zero (funext fun a => by match a with | ⟨0, _⟩ => rfl | ⟨1, _⟩ => rfl) _ x
  have whole3 (x : Vec Ideal S1x2048 .f32) : View.ld x r0_3 = x :=
    View.ld_unit_zero (funext fun a => by match a with | ⟨0, _⟩ => rfl | ⟨1, _⟩ => rfl) _ x
  have split (I : S256x2048.Idx) : ∃ (i : Fin 256) (k : Fin 2048), I = ix2 i k :=
    ⟨⟨(I 0).val, (I 0).isLt⟩, ⟨(I 1).val, (I 1).isLt⟩, funext fun a => by match a with | ⟨0, _⟩ => rfl | ⟨1, _⟩ => rfl⟩
  refine View.canon_apply_of_pieces (block x0 x1 x2 x3 x4 x5 x6) _ ?_ J (cover0_7 _ _ J)
  intro p hp
  rw [List.mem_cons, List.mem_singleton] at hp
  rcases hp with rfl | rfl
  · intro (I : S256x2048.Idx)
    obtain ⟨i, q, rfl⟩ := split I
    show k0_pay2 (View.ld x0 r0_4) (View.ld x2 r0_1) (View.ld x1 r0_4) (View.ld x3 r0_1) (View.ld x4 r0_5) (View.ld x5 r0_3) (View.ld x6 r0_3) (ix2 i q)
      = block x0 x1 x2 x3 x4 x5 x6 (r0_5.emb (ix2 i q))
    rw [high4, pay2, whole1, whole1, whole3, whole3]
    show norm (fun k => alpha * x4 (r0_5.emb (ix2 i k)) + ((∑ d : Fin 1024, x0 (r0_4.emb (ix2 i d)) * x2 (ix2 d k))
      + ∑ d : Fin 1024, x1 (r0_4.emb (ix2 i d)) * x3 (ix2 d k))) x5 x6 q = _
    simp only [high0, high4]
    rfl
  · intro (I : S256x2048.Idx)
    obtain ⟨i, q, rfl⟩ := split I
    show k0_pay1 (View.ld x0 r0_0) (View.ld x2 r0_1) (View.ld x1 r0_0) (View.ld x3 r0_1) (View.ld x4 r0_2) (View.ld x5 r0_3) (View.ld x6 r0_3) (ix2 i q)
      = block x0 x1 x2 x3 x4 x5 x6 (r0_2.emb (ix2 i q))
    rw [low4, pay1, whole1, whole1, whole3, whole3]
    show norm (fun k => alpha * x4 (r0_2.emb (ix2 i k)) + ((∑ d : Fin 1024, x0 (r0_0.emb (ix2 i d)) * x2 (ix2 d k))
      + ∑ d : Fin 1024, x1 (r0_0.emb (ix2 i d)) * x3 (ix2 d k))) x5 x6 q = _
    simp only [low0, low4]
    rfl

/-- The block of blocks of arrays is a block of the arrays' normed residual sums. -/
theorem block_apply {x0 x1 : Vec Ideal S512x1024 .bf16} {x2 x3 : Vec Ideal S1024x2048 .bf16} {x4 : Vec Ideal S512x2048 .f32} {x5 x6 : Vec Ideal S1x2048 .f32}
    {a b : Mat 8192 1024} {w : Mat 2048 2048} {h : Mat 8192 2048} {r : Fin 8192} {i : Fin 512} {j : Fin 2048}
    (h0 : ∀ d, x0 (ix2 i d) = a (ix2 r d)) (h1 : ∀ d, x1 (ix2 i d) = b (ix2 r d)) (h2 : ∀ d k, x2 (ix2 d k) = w (ix2 (Fin.castAdd 1024 d) k))
    (h3 : ∀ d k, x3 (ix2 d k) = w (ix2 (Fin.natAdd 1024 d) k)) (h4 : ∀ k, x4 (ix2 i k) = h (ix2 r k)) :
    block x0 x1 x2 x3 x4 x5 x6 (ix2 i j) = norm (resid a b w h r) x5 x6 j := by
  show norm (fun k => alpha * x4 (ix2 i k) + ((∑ d : Fin 1024, x0 (ix2 i d) * x2 (ix2 d k)) + ∑ d : Fin 1024, x1 (ix2 i d) * x3 (ix2 d k))) x5 x6 j = _
  simp only [h0, h1, h2, h3, h4]
  rfl

/-! ## Where the grid points' blocks lie -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 1 ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem point_lt (t : Fin cfg0.N) : t.val < 16 := lt_of_lt_of_le t.isLt (by decide)

/-- A grid point's rows. -/
def row (t : Fin cfg0.N) (i : Fin 512) : Fin 8192 := ⟨512 * t.val + i.val, by have := point_lt t; omega⟩

variable (m : (ℓ : Loc nD τ sig) → Buf (Elt Ideal) ℓ) (ρ : Dev nD → PrngReg) (c : Dev nD)

/-- The mixer's two outputs, the output weights, the layer's input, and the layer norm's scale and offset. -/
abbrev As : Mat 8192 1024 := m ((c : Thread nD τ).loc main_arg0)
abbrev Bs : Mat 8192 1024 := m ((c : Thread nD τ).loc main_arg1)
abbrev Ws : Mat 2048 2048 := m ((c : Thread nD τ).loc main_arg2)
abbrev Hs : Mat 8192 2048 := m ((c : Thread nD τ).loc main_arg3)
abbrev Gs : Mat 1 2048 := m ((c : Thread nD τ).loc main_arg4)
abbrev βs : Mat 1 2048 := m ((c : Thread nD τ).loc main_arg5)

variable (t : Fin cfg0.N) (i : Fin 512) (d : Fin 1024) (j : Fin 2048)

theorem iblk0 : iblk m c 0 t (ix2 i d) = As m c (ix2 (row t i) d) := by
  obtain ⟨e0, e1⟩ := idx0 t
  show V m c main_arg0 (((cfg0.win 0).blk t).view.emb (ix2 i d)) = _
  rw [V_main_arg0]
  refine congrArg (As m c) (funext fun a => Fin.ext ?_)
  match a with
  | ⟨0, _⟩ => show win0_0.index t (0 : Fin 2) * 512 + 1 * i.val = 512 * t.val + i.val; omega
  | ⟨1, _⟩ => show win0_0.index t (1 : Fin 2) * 1024 + 1 * d.val = d.val; omega

theorem iblk1 : iblk m c 1 t (ix2 i d) = Bs m c (ix2 (row t i) d) := by
  obtain ⟨e0, e1⟩ := idx1 t
  show V m c main_arg1 (((cfg0.win 1).blk t).view.emb (ix2 i d)) = _
  rw [V_main_arg1]
  refine congrArg (Bs m c) (funext fun a => Fin.ext ?_)
  match a with
  | ⟨0, _⟩ => show win0_1.index t (0 : Fin 2) * 512 + 1 * i.val = 512 * t.val + i.val; omega
  | ⟨1, _⟩ => show win0_1.index t (1 : Fin 2) * 1024 + 1 * d.val = d.val; omega

theorem iblk2 : iblk m c 2 t (ix2 d j) = Ws m c (ix2 (Fin.castAdd 1024 d) j) := by
  obtain ⟨e0, e1⟩ := idx2 t
  show V m c main_arg2 (((cfg0.win 2).blk t).view.emb (ix2 d j)) = _
  rw [V_main_arg2]
  refine congrArg (Ws m c) (funext fun a => Fin.ext ?_)
  match a with
  | ⟨0, _⟩ => show win0_2.index t (0 : Fin 2) * 1024 + 1 * d.val = d.val; omega
  | ⟨1, _⟩ => show win0_2.index t (1 : Fin 2) * 2048 + 1 * j.val = j.val; omega

theorem iblk3 : iblk m c 3 t (ix2 d j) = Ws m c (ix2 (Fin.natAdd 1024 d) j) := by
  obtain ⟨e0, e1⟩ := idx3 t
  show V m c main_arg2 (((cfg0.win 3).blk t).view.emb (ix2 d j)) = _
  rw [V_main_arg2]
  refine congrArg (Ws m c) (funext fun a => Fin.ext ?_)
  match a with
  | ⟨0, _⟩ => show win0_3.index t (0 : Fin 2) * 1024 + 1 * d.val = 1024 + d.val; omega
  | ⟨1, _⟩ => show win0_3.index t (1 : Fin 2) * 2048 + 1 * j.val = j.val; omega

theorem iblk4 : iblk m c 4 t (ix2 i j) = Hs m c (ix2 (row t i) j) := by
  obtain ⟨e0, e1⟩ := idx4 t
  show V m c main_arg3 (((cfg0.win 4).blk t).view.emb (ix2 i j)) = _
  rw [V_main_arg3]
  refine congrArg (Hs m c) (funext fun a => Fin.ext ?_)
  match a with
  | ⟨0, _⟩ => show win0_4.index t (0 : Fin 2) * 512 + 1 * i.val = 512 * t.val + i.val; omega
  | ⟨1, _⟩ => show win0_4.index t (1 : Fin 2) * 2048 + 1 * j.val = j.val; omega

theorem iblk5 : iblk m c 5 t = Gs m c := by
  obtain ⟨e0, e1⟩ := idx5 t
  refine funext fun (J : S1x2048.Idx) => ?_
  show V m c main_arg4 (((cfg0.win 5).blk t).view.emb J) = _
  rw [V_main_arg4]
  refine congrArg (Gs m c) (funext fun a => Fin.ext ?_)
  match a with
  | ⟨0, _⟩ => show win0_5.index t (0 : Fin 2) * 1 + 1 * (J 0).val = (J 0).val; omega
  | ⟨1, _⟩ => show win0_5.index t (1 : Fin 2) * 2048 + 1 * (J 1).val = (J 1).val; omega

theorem iblk6 : iblk m c 6 t = βs m c := by
  obtain ⟨e0, e1⟩ := idx6 t
  refine funext fun (J : S1x2048.Idx) => ?_
  show V m c main_arg5 (((cfg0.win 6).blk t).view.emb J) = _
  rw [V_main_arg5]
  refine congrArg (βs m c) (funext fun a => Fin.ext ?_)
  match a with
  | ⟨0, _⟩ => show win0_6.index t (0 : Fin 2) * 1 + 1 * (J 0).val = (J 0).val; omega
  | ⟨1, _⟩ => show win0_6.index t (1 : Fin 2) * 2048 + 1 * (J 1).val = (J 1).val; omega

/-- The output block's place in the result. -/
theorem emb7 : ((cfg0.win 7).blk t).view.emb (ix2 i j) = ix2 (row t i) j := by
  obtain ⟨e0, e1⟩ := idx7 t
  funext a; apply Fin.ext
  match a with
  | ⟨0, _⟩ => show win0_7.index t (0 : Fin 2) * 512 + 1 * i.val = 512 * t.val + i.val; omega
  | ⟨1, _⟩ => show win0_7.index t (1 : Fin 2) * 2048 + 1 * j.val = j.val; omega

/-- The normed residual sums of the arguments. -/
def G : Mat 8192 2048 := fun I => norm (resid (As m c) (Bs m c) (Ws m c) (Hs m c) (I 0)) (Gs m c) (βs m c) (I 1)

/-- What a grid point writes back is its block of them. -/
theorem flushed7_eq : (dats m 0 c).flushed 7 t = ((cfg0.win 7).blk t).view.read (Elt Ideal) (G m c) := by
  rw [flushed7]
  funext J
  obtain ⟨i, j, rfl⟩ : ∃ (i : Fin 512) (j : Fin 2048), J = ix2 i j :=
    ⟨⟨(J 0).val, (J 0).isLt⟩, ⟨(J 1).val, (J 1).isLt⟩, funext fun a => by match a with | ⟨0, _⟩ => rfl | ⟨1, _⟩ => rfl⟩
  show out0_7 (iblk m c 0 t) (iblk m c 1 t) (iblk m c 2 t) (iblk m c 3 t) (iblk m c 4 t) (iblk m c 5 t) (iblk m c 6 t) (ix2 i j)
    = G m c (((cfg0.win 7).blk t).view.emb (ix2 i j))
  rw [emb7, out_eq]
  refine (block_apply (r := row t i) (fun d => iblk0 m c t i d) (fun d => iblk1 m c t i d) (fun d k => iblk2 m c t d k) (fun d k => iblk3 m c t d k)
    (fun k => iblk4 m c t i k)).trans ?_
  rw [iblk5, iblk6]
  rfl

/-- Every index of the result is in some point's block. -/
theorem covered7 (J : S8192x2048.Idx) : ∃ t : Fin cfg0.N, (cfg0.win 7).flush t = true ∧ J ∈ ((cfg0.win 7).blk t).view.set := by
  have h0 : (J 0).val < 8192 := (J 0).isLt
  have hN : (J 0).val / 512 < cfg0.N := lt_of_lt_of_le (by omega : _ < 16) (by decide)
  refine ⟨⟨_, hN⟩, flush0_7 _, ?_⟩
  have h := ((cfg0.win 7).blk ⟨_, hN⟩).view.emb_mem_set (ix2 (⟨(J 0).val % 512, by omega⟩ : Fin 512) (⟨(J 1).val, (J 1).isLt⟩ : Fin 2048))
  rw [emb7] at h
  have e : (ix2 (row ⟨_, hN⟩ ⟨(J 0).val % 512, by omega⟩) (⟨(J 1).val, (J 1).isLt⟩ : Fin 2048) : S8192x2048.Idx) = J := by
    funext a; apply Fin.ext
    match a with
    | ⟨0, _⟩ => show 512 * ((J 0).val / 512) + (J 0).val % 512 = (J 0).val; omega
    | ⟨1, _⟩ => rfl
  rwa [e] at h

/-- The result after the run. -/
theorem final7 : (dats m 0 c).arrAt 7 cfg0.N = G m c :=
  (dats m 0 c).arrAt_eq_of_cover 7 (G m c) (fun t _ => flushed7_eq m c t) covered7

end Cert.OutProjIdeal.Norm

end
-- ==== Proof.OutProjReference.lean ====
/-
  The output projection's reference at an entry: the layer norm of the residual plus the mixer's outputs against the
  output weights.
-/
module

public import proofs.«01_k».proof.Proof.Gen.OutProjReferenceIdeal.Run
public import proofs.«01_k».proof.Proof.Gen.OutProjReferenceIdeal.Read
public import proofs.«01_k».proof.Proof.Projection

@[expose] public section

noncomputable section

namespace Cert.OutProjReferenceIdeal.Norm

open Cert.OutProjReferenceIdeal Cert.OutProjReferenceIdeal.Gen Cert.OutProjReferenceIdeal.Read Cert.Projection Idealize.ShloMosaic

variable (x0 x1 : Mat 8192 1024) (x2 : Mat 2048 2048) (x3 : Mat 8192 2048) (x4 x5 : Mat 1 2048) (i : Fin 8192) (j : Fin 2048) (d : Fin 1024)

theorem zero : Ideal.ofBits .f32 0x00000000#32 = 0 := by simp [Ideal.ofBits, Ideal.ieee]

/-- The joined mixer outputs: the first, then the second. -/
theorem v2_left : val_main_v2 (F := Ideal) x0 x1 (ix2 i (Fin.castAdd 1024 d)) = x0 (ix2 i d) := by
  unfold val_main_v2
  refine (concatenate_pair_apply_left (t := S8192x2048) (s₁ := S8192x1024) (s₂ := S8192x1024) 1
    (val_main_v0 (F := Ideal) x0) (val_main_v1 (F := Ideal) x1) _ _ rfl (ix2 i d) (fun a => ?_)).trans rfl
  match a with | ⟨0, _⟩ => rfl | ⟨1, _⟩ => rfl

theorem v2_right : val_main_v2 (F := Ideal) x0 x1 (ix2 i (Fin.natAdd 1024 d)) = x1 (ix2 i d) := by
  unfold val_main_v2
  refine (concatenate_pair_apply_right (t := S8192x2048) (s₁ := S8192x1024) (s₂ := S8192x1024) 1
    (val_main_v0 (F := Ideal) x0) (val_main_v1 (F := Ideal) x1) _ _ rfl rfl (ix2 i d) (fun a ha => ?_) ?_).trans rfl
  · match a, ha with | ⟨0, _⟩, _ => rfl | ⟨1, _⟩, ha => exact absurd rfl ha
  · exact Nat.add_comm _ _

/-- Their product with the output weights. -/
theorem v4 : val_main_v4 (F := Ideal) x0 x1 x2 (ix2 i j) = mix x0 x1 x2 i j := by
  rw [val_main_v4_apply, Fin.sum_univ_add (a := 1024) (b := 1024)]
  refine congrArg₂ (· + ·) (Finset.sum_congr rfl fun d _ => ?_) (Finset.sum_congr rfl fun d _ => ?_)
  · rw [val_main_v3_apply]
    refine congrArg₂ (· * ·) (Eq.trans (congrArg _ (funext fun a => ?_)) (v2_left x0 x1 i d)) (congrArg x2 (funext fun a => ?_))
    · match a with | ⟨0, _⟩ => rfl | ⟨1, _⟩ => rfl
    · match a with | ⟨0, _⟩ => rfl | ⟨1, _⟩ => rfl
  · rw [val_main_v3_apply]
    refine congrArg₂ (· * ·) (Eq.trans (congrArg _ (funext fun a => ?_)) (v2_right x0 x1 i d)) (congrArg x2 (funext fun a => ?_))
    · match a with | ⟨0, _⟩ => rfl | ⟨1, _⟩ => rfl
    · match a with | ⟨0, _⟩ => rfl | ⟨1, _⟩ => rfl

/-- The residual plus that. -/
theorem v7 : val_main_v7 (F := Ideal) x0 x1 x2 x3 (ix2 i j) = resid x0 x1 x2 x3 i j := by
  rw [val_main_v7_apply, val_main_v6_apply, val_main_v5_apply, val_main_cst_apply, v4]
  rfl

/-- A row's mean. -/
theorem v11 : val_main_v11 (F := Ideal) x0 x1 x2 x3 (ix2 i 0) = mean (resid x0 x1 x2 x3 i) := by
  rw [val_main_v11_apply, val_main_v10_apply, val_main_cst_1_apply, val_main_v9_apply, val_main_v8_apply, val_main_cst_0_apply]
  refine congrArg (fun s => Ideal.div s len) ((congrArg (· + _) zero).trans ((zero_add _).trans (Finset.sum_congr rfl fun k _ => ?_)))
  refine Eq.trans (congrArg _ (funext fun a => ?_)) (v7 x0 x1 x2 x3 i k)
  match a with | ⟨0, _⟩ => rfl | ⟨1, _⟩ => rfl

/-- An entry less the mean. -/
theorem v13 : val_main_v13 (F := Ideal) x0 x1 x2 x3 (ix2 i j) = centred (resid x0 x1 x2 x3 i) j := by
  rw [val_main_v13_apply, v7, val_main_v12_apply]
  refine congrArg (fun s => resid x0 x1 x2 x3 i j - s) (Eq.trans (congrArg _ (funext fun a => ?_)) (v11 x0 x1 x2 x3 i))
  match a with | ⟨0, _⟩ => rfl | ⟨1, _⟩ => rfl

theorem v20 : val_main_v20 (F := Ideal) x0 x1 x2 x3 (ix2 i j) = centred (resid x0 x1 x2 x3 i) j := by
  rw [val_main_v20_apply, v7, val_main_v19_apply]
  refine congrArg (fun s => resid x0 x1 x2 x3 i j - s) (Eq.trans (congrArg _ (funext fun a => ?_)) (v11 x0 x1 x2 x3 i))
  match a with | ⟨0, _⟩ => rfl | ⟨1, _⟩ => rfl

/-- The mean of the squares. -/
theorem v18 : val_main_v18 (F := Ideal) x0 x1 x2 x3 (ix2 i 0)
    = mean (fun k => centred (resid x0 x1 x2 x3 i) k * centred (resid x0 x1 x2 x3 i) k) := by
  rw [val_main_v18_apply, val_main_v17_apply, val_main_cst_3_apply, val_main_v16_apply, val_main_v15_apply, val_main_cst_2_apply]
  refine congrArg (fun s => Ideal.div s len) ((congrArg (· + _) zero).trans ((zero_add _).trans (Finset.sum_congr rfl fun k _ => ?_)))
  rw [val_main_v14_apply]
  have h : val_main_v13 (F := Ideal) x0 x1 x2 x3 (idx_main_v15 (idx_main_v16 (ix2 i 0)) k) = centred (resid x0 x1 x2 x3 i) k := by
    refine Eq.trans (congrArg _ (funext fun a => ?_)) (v13 x0 x1 x2 x3 i k)
    match a with | ⟨0, _⟩ => rfl | ⟨1, _⟩ => rfl
  rw [h]
  rfl

/-- The root's inverse. -/
theorem v23 : val_main_v23 (F := Ideal) x0 x1 x2 x3 (ix2 i 0)
    = Ideal.rsqrt (mean (fun k => centred (resid x0 x1 x2 x3 i) k * centred (resid x0 x1 x2 x3 i) k) + eps) := by
  rw [val_main_v23_apply, val_main_v22_apply, v18, val_main_v21_apply, val_main_cst_4_apply]
  rfl

/-- The reference's entry. -/
theorem result_eq : val_main_v29 (F := Ideal) x0 x1 x2 x3 x4 x5 (ix2 i j) = norm (resid x0 x1 x2 x3 i) x4 x5 j := by
  rw [val_main_v29_apply, val_main_v27_apply, val_main_v25_apply, v20, val_main_v24_apply, val_main_v26_apply, val_main_v28_apply]
  have h : val_main_v23 (F := Ideal) x0 x1 x2 x3 (idx_main_v24 (ix2 i j)) = _ :=
    Eq.trans (congrArg _ (funext fun a => by match a with | ⟨0, _⟩ => rfl | ⟨1, _⟩ => rfl)) (v23 x0 x1 x2 x3 i)
  rw [h]
  refine congrArg₂ (· + ·) (congrArg₂ (· * ·) rfl (congrArg x4 (funext fun a => ?_))) (congrArg x5 (funext fun a => ?_))
  · match a with | ⟨0, _⟩ => rfl | ⟨1, _⟩ => rfl
  · match a with | ⟨0, _⟩ => rfl | ⟨1, _⟩ => rfl

end Cert.OutProjReferenceIdeal.Norm

end
-- ==== Proof.ProjectionClaims.lean ====
/-
  The claims of the two input projections and of the output projection.
-/
module

public import proofs.«01_k».proof.Defs
public import proofs.«01_k».proof.Proof.Gen.OddProj.Frame
public import proofs.«01_k».proof.Proof.Gen.FoxProj.Frame
public import proofs.«01_k».proof.Proof.Gen.OutProj.Frame
public import proofs.«01_k».proof.Proof.OddProjValue
public import proofs.«01_k».proof.Proof.FoxProjValue
public import proofs.«01_k».proof.Proof.OutProjValue
public import proofs.«01_k».proof.Proof.OutProjReference
public import Idealize.ShloMosaic.Adequacy
public import Idealize.ShloMosaic.Init

@[expose] public section

noncomputable section

namespace Cert.Claims

open Idealize.ShloMosaic Idealize.ShloMosaic.TcCoe Idealize.SL.Sem

/-! ## The odd layer's input projection -/

/-- The kernel at its word values, the idealized one and the reference terminate without a fault and keep their arguments. -/
theorem frame_oddproj : Cert.quiescent_OddProj := fun m ρ _ => Cert.OddProj.Gen.frame m ρ
theorem frame_oddproj_ideal : Cert.quiescent_OddProjIdeal := fun m ρ _ => Cert.OddProjIdeal.Gen.frame m ρ
theorem frame_oddproj_reference : Cert.quiescent_OddProjReferenceIdeal := fun m ρ _ =>
  (θ_run Cert.OddProjReferenceIdeal.defs _ _).mono (fun r h => ⟨fun c => (h c).2, sem_eq_zero_of_no_sems (by decide) r.2⟩)
    (Cert.OddProjReferenceIdeal.Value.run (F := Ideal) m ρ)

/-- The idealized program is the kernel itself. -/
theorem preserves_oddproj : Cert.preserves_OddProj_OddProjIdeal := trivial

/-- The idealized kernel and the reference end with the same array: the scaled projection of their arguments. -/
theorem algebraic_oddproj : Cert.algebraic_OddProjIdeal_OddProjReferenceIdeal := by
  intro m ρ m' ρ' _ hagree
  refine ⟨fun c => Cert.OddProjIdeal.Scaled.G m c, ?_, ?_⟩
  · exact (θ_run Cert.OddProjIdeal.defs _ _).mono (fun r h c => ⟨(h c).1.trans (Cert.OddProjIdeal.Scaled.final3 m c), (h c).2⟩)
      (Cert.OddProjIdeal.Value.run_blocks (F := Ideal) m ρ)
  · refine (θ_run Cert.OddProjReferenceIdeal.defs _ _).mono (fun _ h c => ⟨(h c).1.trans ?_, (h c).2⟩)
      (Cert.OddProjReferenceIdeal.Value.run (F := Ideal) m' ρ')
    obtain ⟨e0, e1, e2⟩ := hagree c
    rw [Cert.OddProjReferenceIdeal.Read.val_main_v4_eq, e0, e1, e2]
    refine funext fun (I : (⟨2, ![8192, 4352]⟩ : Shape).Idx) => ?_
    have hI : I = ix2 (I 0) (I 1) := funext fun a => by match a with | ⟨0, _⟩ => rfl | ⟨1, _⟩ => rfl
    exact (congrArg _ hI).trans (Cert.OddProjIdeal.Scaled.reference_eq _ _ _ (I 0) (I 1))

/-! ## The forgetting attention's input projection -/

/-- The kernel at its word values, the idealized one and the reference terminate without a fault and keep their arguments. -/
theorem frame_foxproj : Cert.quiescent_FoxProj := fun m ρ _ => Cert.FoxProj.Gen.frame m ρ
theorem frame_foxproj_ideal : Cert.quiescent_FoxProjIdeal := fun m ρ _ => Cert.FoxProjIdeal.Gen.frame m ρ
theorem frame_foxproj_reference : Cert.quiescent_FoxProjReferenceIdeal := fun m ρ _ =>
  (θ_run Cert.FoxProjReferenceIdeal.defs _ _).mono (fun r h => ⟨fun c => (h c).2, sem_eq_zero_of_no_sems (by decide) r.2⟩)
    (Cert.FoxProjReferenceIdeal.Value.run (F := Ideal) m ρ)

/-- The idealized program is the kernel itself. -/
theorem preserves_foxproj : Cert.preserves_FoxProj_FoxProjIdeal := trivial

/-- The idealized kernel and the reference end with the same array: the scaled projection of their arguments. -/
theorem algebraic_foxproj : Cert.algebraic_FoxProjIdeal_FoxProjReferenceIdeal := by
  intro m ρ m' ρ' _ hagree
  refine ⟨fun c => Cert.FoxProjIdeal.Scaled.G m c, ?_, ?_⟩
  · exact (θ_run Cert.FoxProjIdeal.defs _ _).mono (fun r h c => ⟨(h c).1.trans (Cert.FoxProjIdeal.Scaled.final3 m c), (h c).2⟩)
      (Cert.FoxProjIdeal.Value.run_blocks (F := Ideal) m ρ)
  · refine (θ_run Cert.FoxProjReferenceIdeal.defs _ _).mono (fun _ h c => ⟨(h c).1.trans ?_, (h c).2⟩)
      (Cert.FoxProjReferenceIdeal.Value.run (F := Ideal) m' ρ')
    obtain ⟨e0, e1, e2⟩ := hagree c
    rw [Cert.FoxProjReferenceIdeal.Read.val_main_v4_eq, e0, e1, e2]
    refine funext fun (I : (⟨2, ![8192, 3072]⟩ : Shape).Idx) => ?_
    have hI : I = ix2 (I 0) (I 1) := funext fun a => by match a with | ⟨0, _⟩ => rfl | ⟨1, _⟩ => rfl
    exact (congrArg _ hI).trans (Cert.FoxProjIdeal.Scaled.reference_eq _ _ _ (I 0) (I 1))

/-! ## The output projection with the layer norm -/

/-- The kernel at its word values, the idealized one and the reference terminate without a fault and keep their arguments. -/
theorem frame_outproj : Cert.quiescent_OutProj := fun m ρ _ => Cert.OutProj.Gen.frame m ρ
theorem frame_outproj_ideal : Cert.quiescent_OutProjIdeal := fun m ρ _ => Cert.OutProjIdeal.Gen.frame m ρ
theorem frame_outproj_reference : Cert.quiescent_OutProjReferenceIdeal := fun m ρ _ =>
  (θ_run Cert.OutProjReferenceIdeal.defs _ _).mono (fun r h => ⟨fun c => (h c).2, sem_eq_zero_of_no_sems (by decide) r.2⟩)
    (Cert.OutProjReferenceIdeal.Value.run (F := Ideal) m ρ)

/-- The idealized program is the kernel itself. -/
theorem preserves_outproj : Cert.preserves_OutProj_OutProjIdeal := trivial

/-- The idealized kernel and the reference end with the same array: the normed residual sums of their arguments. -/
theorem algebraic_outproj : Cert.algebraic_OutProjIdeal_OutProjReferenceIdeal := by
  intro m ρ m' ρ' _ hagree
  refine ⟨fun c => Cert.OutProjIdeal.Norm.G m c, ?_, ?_⟩
  · exact (θ_run Cert.OutProjIdeal.defs _ _).mono (fun r h c => ⟨(h c).1.trans (Cert.OutProjIdeal.Norm.final7 m c), (h c).2⟩)
      (Cert.OutProjIdeal.Value.run_blocks (F := Ideal) m ρ)
  · refine (θ_run Cert.OutProjReferenceIdeal.defs _ _).mono (fun _ h c => ⟨(h c).1.trans ?_, (h c).2⟩)
      (Cert.OutProjReferenceIdeal.Value.run (F := Ideal) m' ρ')
    obtain ⟨e0, e1, e2, e3, e4, e5⟩ := hagree c
    rw [Cert.OutProjReferenceIdeal.Read.val_main_v29_eq, e0, e1, e2, e3, e4, e5]
    refine funext fun (I : (⟨2, ![8192, 2048]⟩ : Shape).Idx) => ?_
    have hI : I = ix2 (I 0) (I 1) := funext fun a => by match a with | ⟨0, _⟩ => rfl | ⟨1, _⟩ => rfl
    exact (congrArg _ hI).trans (Cert.OutProjReferenceIdeal.Norm.result_eq _ _ _ _ _ _ (I 0) (I 1))

end Cert.Claims

end
-- ==== Proof.KeyMeanValue.lean ====
/-
  The block attention's mean keys: what the kernel leaves at an entry of its result, the reference's entry, and the claims.
-/
module

public import proofs.«01_k».proof.Defs
public import proofs.«01_k».proof.Proof.Gen.KeyMean
public import proofs.«01_k».proof.Proof.Gen.KeyMeanIdeal.Value
public import proofs.«01_k».proof.Proof.Gen.KeyMeanReferenceIdeal.Run
public import proofs.«01_k».proof.Proof.Gen.KeyMeanReferenceIdeal.Read
public import proofs.«01_k».proof.Proof.Gen.KeyMean.Frame
public import proofs.«01_k».proof.Proof.Projection
public import Idealize.ShloMosaic.Lib.Pipeline.ValueKit
public import Idealize.ShloMosaic.Lib.WritesUnit

@[expose] public section

noncomputable section

namespace Cert.KeyMeanIdeal.Mean

open Cert.KeyMeanIdeal Cert.KeyMeanIdeal.Gen Cert.KeyMeanIdeal.Value Cert.Projection
  Idealize.ShloMosaic Idealize.ShloMosaic.TcCoe Idealize.SL.Sem

/-- A block's length, as the programs spell it. -/
abbrev len : EReal := Ideal.ofBits .f32 0x43800000#32

/-- The mean of block `n`'s 256 keys at column `j` of the keys, which begin at column 2048. -/
def kmean (x : Mat 8192 4352) (n : Fin 32) (j : Fin 1024) : EReal :=
  Ideal.div (∑ r : Fin 256, x (ix2 ⟨256 * n.val + r.val, by omega⟩ ⟨2048 + j.val, by omega⟩)) len

/-- The payload's entry: the mean of a column's 256 rows. -/
theorem pay1 (k : Vec Ideal S256x1024 .bf16) (j : Fin 1024) :
    k0_pay1 k (ix2 0 j) = Ideal.div (∑ r : Fin 256, k (ix2 r j)) len := by
  pointwise [k0_pay1]

/-! ## The sixteen stores -/

theorem inbK {n : ℕ} (hn : n < 16) : ∀ a, (![256 * n, 0] : Fin 2 → ℕ) a + S256x1024.size a ≤ S4096x1024.size a :=
  Fin.forall_fin_two.mpr ⟨by show 256 * n + 256 ≤ 4096; omega, by show 0 + 1024 ≤ 1024; omega⟩
theorem inbO {n : ℕ} (hn : n < 16) : ∀ a, (![n, 0] : Fin 2 → ℕ) a + S1x1024.size a ≤ S16x1024.size a :=
  Fin.forall_fin_two.mpr ⟨by show n + 1 ≤ 16; omega, by show 0 + 1024 ≤ 1024; omega⟩

/-- The stores of the first `k` rows, newest first. -/
def stores (w : ∀ n : ℕ, n < 16 → Vec Ideal S1x1024 .f32) : ∀ k : ℕ, k ≤ 16 → List (View.Piece (Elt Ideal) S16x1024 .f32)
  | 0, _ => []
  | k + 1, h => ⟨Rect.unit (s := S16x1024) ![k, 0] S1x1024.size (inbO (n := k) (by omega)), w k (by omega)⟩ :: stores w k (by omega)

/-- A stored row reads its payload. -/
theorem read_stores (v : View sig .tc .vmem S16x1024 .f32) (f : BufTy.Contents (Elt Ideal) v.ty) (w : ∀ n : ℕ, n < 16 → Vec Ideal S1x1024 .f32)
    (n : Fin 16) (j : Fin 1024) : ∀ (k : ℕ) (h : k ≤ 16), n.val < k →
    v.read (Elt Ideal) (v.writes (Elt Ideal) f (stores w k h)) (ix2 n j) = w n.val n.isLt (ix2 0 j)
  | 0, _, hn => absurd hn (Nat.not_lt_zero _)
  | k + 1, h, hn => by
    rcases Nat.lt_succ_iff_lt_or_eq.mp hn with hlt | rfl
    · refine (View.read_writes_cons_unit_of_not_mem v f (inbO (n := k) (by omega)) (w k (by omega)) (stores w k (by omega)) (ix2 n j) rfl 0 ?_).trans
        (read_stores v f w n j k (by omega) hlt)
      exact Or.inl hlt
    · refine View.read_writes_cons_unit_of_mem v f (inbO n.isLt) (w n.val n.isLt) (stores w n.val (by omega)) (ix2 n j) (ix2 0 j) rfl fun d => ?_
      match d with
      | ⟨0, _⟩ => rfl
      | ⟨1, _⟩ => show j.val = 0 + j.val; omega

variable (c : Dev nD) (i : grid0.Coords) (arg1 : Memref sig .tc .vmem S4096x1024 .bf16) (harg1 : arg1.IsWhole)
  (arg2 : Memref sig .tc .vmem S16x1024 .f32) (harg2 : arg2.IsWhole) (x0 : Vec Ideal S4096x1024 .bf16)

/-- Block `n` of the keys, as the body loads it. -/
def keys (n : ℕ) (hn : n < 16) : Vec Ideal S256x1024 .bf16 :=
  arg1.view.readAt (Elt Ideal) (Rect.unit (s := S4096x1024) ![256 * n, 0] S256x1024.size (inbK hn)).toLoadRect (harg1.unread x0)

theorem keys_apply (n : Fin 16) (r : Fin 256) (j : Fin 1024) :
    keys arg1 harg1 x0 n.val n.isLt (ix2 r j) = x0 (ix2 (⟨256 * n.val + r.val, by omega⟩ : Fin 4096) j) := by
  refine (congrArg (arg1.view.read (Elt Ideal) (harg1.unread x0)) (funext fun d => Fin.ext ?_)).trans (congrFun (harg1.read_unread x0) _)
  fin_cases d
  · show 256 * n.val + 1 * r.val = 256 * n.val + r.val; omega
  · show 0 + 1 * j.val = j.val; omega

/-- The body's stores: each row its block's mean. -/
theorem pieces : (kernelRun0_A c i arg1 harg1 arg2 harg2 x0).1 = stores (fun n hn => k0_pay1 (keys arg1 harg1 x0 n hn)) 16 le_rfl := by
  unfold kernelRun0_A
  dsimp only
  rfl

/-- The output block's entry. -/
theorem out_apply (n : Fin 16) (j : Fin 1024) : out0_A_1 c i arg1 harg1 arg2 harg2 x0 (ix2 n j)
    = Ideal.div (∑ r : Fin 256, x0 (ix2 (⟨256 * n.val + r.val, by omega⟩ : Fin 4096) j)) len := by
  unfold out0_A_1
  rw [pieces, read_stores VO0_1 _ _ n j 16 le_rfl n.isLt, pay1]
  simp only [keys_apply]

/-! ## Where the grid points' blocks lie -/

theorem idx0 : ∀ t : Fin cfg0.N, win0_0.index t (0 : Fin 2) = t.val ∧ win0_0.index t (1 : Fin 2) = 2 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem point_lt (t : Fin cfg0.N) : t.val < 2 := lt_of_lt_of_le t.isLt (by decide)

/-- A grid point's blocks of keys. -/
def blk (t : Fin cfg0.N) (n : Fin 16) : Fin 32 := ⟨16 * t.val + n.val, by have := point_lt t; omega⟩

variable (m : (ℓ : Loc nD τ sig) → Buf (Elt Ideal) ℓ) (ρ : Dev nD → PrngReg) (t : Fin cfg0.N)

/-- The odd layer's projections, of which the block attention's keys are 1024 columns. -/
abbrev Xs : Mat 8192 4352 := m ((c : Thread nD τ).loc main_arg0)

theorem input (i : Fin 4096) (j : Fin 1024) : X0_0 m c t (ix2 i j)
    = Xs c m (ix2 ⟨4096 * t.val + i.val, by have := point_lt t; omega⟩ ⟨2048 + j.val, by omega⟩) := by
  obtain ⟨e0, e1⟩ := idx0 t
  unfold X0_0 Pipeline.Window.fill
  rw [dif_pos (moved0_0 t _)]
  show V m c main_arg0 (((cfg0.win 0).blk t).view.emb _) = _
  rw [V_main_arg0]
  refine congrArg (Xs c m) (funext fun a => Fin.ext ?_)
  match a with
  | ⟨0, _⟩ => show win0_0.index t (0 : Fin 2) * 4096 + 1 * i.val = 4096 * t.val + i.val; omega
  | ⟨1, _⟩ => show win0_0.index t (1 : Fin 2) * 1024 + 1 * j.val = 2048 + j.val; omega

/-- The output block's place in the result. -/
theorem emb1 (n : Fin 16) (j : Fin 1024) : ((cfg0.win 1).blk t).view.emb (ix2 n j) = ix2 (blk t n) j := by
  obtain ⟨e0, e1⟩ := idx1 t
  funext a; apply Fin.ext
  match a with
  | ⟨0, _⟩ => show win0_1.index t (0 : Fin 2) * 16 + 1 * n.val = 16 * t.val + n.val; omega
  | ⟨1, _⟩ => show win0_1.index t (1 : Fin 2) * 1024 + 1 * j.val = j.val; omega

/-- The mean keys of the argument. -/
def G : Mat 32 1024 := fun I => kmean (Xs c m) (I 0) (I 1)

/-- What a grid point writes back is its block of them. -/
theorem flushed1_eq : (dats m 0 c).flushed 1 t = ((cfg0.win 1).blk t).view.read (Elt Ideal) (G c m) := by
  rw [flushed1_A]
  funext J
  obtain ⟨n, j, rfl⟩ : ∃ (n : Fin 16) (j : Fin 1024), J = ix2 n j :=
    ⟨⟨(J 0).val, (J 0).isLt⟩, ⟨(J 1).val, (J 1).isLt⟩, funext fun a => by match a with | ⟨0, _⟩ => rfl | ⟨1, _⟩ => rfl⟩
  show out0_A_1 c (grid0.coords t) (ms0_0 t) (hs0_0 t) (ms0_1 t) (hs0_1 t) (X0_0 m c t) (ix2 n j) = G c m (((cfg0.win 1).blk t).view.emb (ix2 n j))
  rw [emb1]
  refine (out_apply c (grid0.coords t) (ms0_0 t) (hs0_0 t) (ms0_1 t) (hs0_1 t) (X0_0 m c t) n j).trans ?_
  refine congrArg (fun s => Ideal.div s len) (Finset.sum_congr rfl fun r _ => (input c m t _ j).trans ?_)
  refine congrArg (Xs c m) (funext fun a => Fin.ext ?_)
  match a with
  | ⟨0, _⟩ => show 4096 * t.val + (256 * n.val + r.val) = 256 * (16 * t.val + n.val) + r.val; omega
  | ⟨1, _⟩ => rfl

/-- Every index of the result is in some point's block. -/
theorem covered1 (J : S32x1024.Idx) : ∃ t : Fin cfg0.N, (cfg0.win 1).flush t = true ∧ J ∈ ((cfg0.win 1).blk t).view.set := by
  have h0 : (J 0).val < 32 := (J 0).isLt
  have hN : (J 0).val / 16 < cfg0.N := lt_of_lt_of_le (by omega : _ < 2) (by decide)
  refine ⟨⟨_, hN⟩, flush0_1 _, ?_⟩
  have h := ((cfg0.win 1).blk ⟨_, hN⟩).view.emb_mem_set (ix2 (⟨(J 0).val % 16, by omega⟩ : Fin 16) (⟨(J 1).val, (J 1).isLt⟩ : Fin 1024))
  rw [emb1] at h
  have e : (ix2 (blk ⟨_, hN⟩ ⟨(J 0).val % 16, by omega⟩) (⟨(J 1).val, (J 1).isLt⟩ : Fin 1024) : S32x1024.Idx) = J := by
    funext a; apply Fin.ext
    match a with
    | ⟨0, _⟩ => show 16 * ((J 0).val / 16) + (J 0).val % 16 = (J 0).val; omega
    | ⟨1, _⟩ => rfl
  rwa [e] at h

/-- The result after the run. -/
theorem final1 : (dats m 0 c).arrAt 1 cfg0.N = G c m :=
  (dats m 0 c).arrAt_eq_of_cover 1 (G c m) (fun t _ => flushed1_eq c m t) covered1

end Cert.KeyMeanIdeal.Mean

namespace Cert.KeyMeanReferenceIdeal.Mean

open Cert.KeyMeanReferenceIdeal Cert.KeyMeanReferenceIdeal.Gen Cert.KeyMeanReferenceIdeal.Read Cert.Projection Idealize.ShloMosaic

theorem zero : Ideal.ofBits .f32 0x00000000#32 = 0 := by simp [Ideal.ofBits, Ideal.ieee]

/-- The reference's entry. -/
theorem result_eq (x : Mat 8192 4352) (n : Fin 32) (j : Fin 1024) :
    val_main_v9 (F := Ideal) x (ix2 n j) = Cert.KeyMeanIdeal.Mean.kmean x n j := by
  rw [val_main_v9_apply, val_main_v8_apply, val_main_v7_apply, val_main_v6_apply, val_main_cst_0_apply, val_main_v5_apply, val_main_cst_apply]
  refine congrArg (fun s => Ideal.div s Cert.KeyMeanIdeal.Mean.len) ((congrArg (· + _) zero).trans ((zero_add _).trans (Finset.sum_congr rfl fun r _ => ?_)))
  rw [val_main_v4_apply, val_main_v3_apply, val_main_v2_apply, val_main_v1_apply, val_main_v0_apply]
  refine congrArg x (funext fun a => Fin.ext ?_)
  have hn := n.isLt
  have hj := j.isLt
  have hr := r.isLt
  have e1 : (n.val * 1024 + j.val) / 16384 = n.val / 16 := by omega
  have e2 : (n.val * 1024 + j.val) / 1024 % 16 = n.val % 16 := by omega
  have e3 : (n.val * 1024 + j.val) / 128 % 8 = j.val / 128 := by omega
  have e4 : (n.val * 1024 + j.val) % 128 = j.val % 128 := by omega
  have e5 : ((((n.val / 16 * 8 + j.val / 128) * 16 + n.val % 16) * 256 + r.val) * 128 + j.val % 128) / 4194304 = n.val / 16 := by omega
  have e6 : ((((n.val / 16 * 8 + j.val / 128) * 16 + n.val % 16) * 256 + r.val) * 128 + j.val % 128) / 128 % 4096 = n.val % 16 * 256 + r.val := by omega
  have e7 : ((((n.val / 16 * 8 + j.val / 128) * 16 + n.val % 16) * 256 + r.val) * 128 + j.val % 128) / 524288 % 8 = j.val / 128 := by omega
  have e8 : ((((n.val / 16 * 8 + j.val / 128) * 16 + n.val % 16) * 256 + r.val) * 128 + j.val % 128) % 128 = j.val % 128 := by omega
  fin_cases a
  · dsimp [idx_main_v9, idx_main_v8, idx_main_v5, idx_main_v4, idx_main_v3, idx_main_v2, idx_main_v0, ix2]
    rw [e1, e2, e3, e4, e5, e6, e7, e8]
    omega
  · dsimp [idx_main_v9, idx_main_v8, idx_main_v5, idx_main_v4, idx_main_v3, idx_main_v2, idx_main_v0, ix2]
    rw [e1, e2, e3, e4, e5, e6, e7, e8]
    omega

end Cert.KeyMeanReferenceIdeal.Mean

namespace Cert.Claims

open Idealize.ShloMosaic Idealize.ShloMosaic.TcCoe Idealize.SL.Sem

/-- The kernel at its word values, the idealized one and the reference terminate without a fault and keep their arguments. -/
theorem frame_keymean : Cert.quiescent_KeyMean := fun m ρ _ => Cert.KeyMean.Gen.frame m ρ
theorem frame_keymean_ideal : Cert.quiescent_KeyMeanIdeal := fun m ρ _ => Cert.KeyMeanIdeal.Gen.frame m ρ
theorem frame_keymean_reference : Cert.quiescent_KeyMeanReferenceIdeal := fun m ρ _ =>
  (θ_run Cert.KeyMeanReferenceIdeal.defs _ _).mono (fun r h => ⟨fun c => (h c).2, sem_eq_zero_of_no_sems (by decide) r.2⟩)
    (Cert.KeyMeanReferenceIdeal.Value.run (F := Ideal) m ρ)

/-- The idealized program is the kernel itself. -/
theorem preserves_keymean : Cert.preserves_KeyMean_KeyMeanIdeal := trivial

/-- The idealized kernel and the reference end with the same array: the mean keys of their argument. -/
theorem algebraic_keymean : Cert.algebraic_KeyMeanIdeal_KeyMeanReferenceIdeal := by
  intro m ρ m' ρ' _ hagree
  refine ⟨fun c => Cert.KeyMeanIdeal.Mean.G c m, ?_, ?_⟩
  · exact (θ_run Cert.KeyMeanIdeal.defs _ _).mono (fun r h c => ⟨(h c).1.trans (Cert.KeyMeanIdeal.Mean.final1 c m), (h c).2⟩)
      (Cert.KeyMeanIdeal.Value.run_blocks (F := Ideal) m ρ)
  · refine (θ_run Cert.KeyMeanReferenceIdeal.defs _ _).mono (fun _ h c => ⟨(h c).1.trans ?_, (h c).2⟩)
      (Cert.KeyMeanReferenceIdeal.Value.run (F := Ideal) m' ρ')
    have e0 := hagree c
    rw [Cert.KeyMeanReferenceIdeal.Read.val_main_v9_eq, e0]
    refine funext fun (I : (⟨2, ![32, 1024]⟩ : Shape).Idx) => ?_
    have hI : I = ix2 (I 0) (I 1) := funext fun a => by match a with | ⟨0, _⟩ => rfl | ⟨1, _⟩ => rfl
    exact (congrArg _ hI).trans (Cert.KeyMeanReferenceIdeal.Mean.result_eq _ (I 0) (I 1))

end Cert.Claims

end

end
-- ==== Proof.PrepValue.lean ====
/-
  The preparation of the latent attention's arguments: what the kernel leaves at the entries of its six results.
-/
module

public import proofs.«01_k».proof.Proof.Gen.PrepIdeal.Value
public import proofs.«01_k».proof.Proof.Projection
public import Idealize.ShloMosaic.Lib.Pipeline.ValueKit

@[expose] public section

noncomputable section

namespace Cert.Prep

open Cert.Projection Idealize.ShloMosaic

/-- The norm's offset under the root, the queries' scale, and the norms' lengths, as the programs spell them. -/
abbrev offset : EReal := Ideal.ofBits .f32 0x358637BD#32
abbrev scale : EReal := Ideal.ofBits .f32 0x3DD53B95#32
abbrev len512 : EReal := Ideal.ofBits .f32 0x44000000#32
abbrev len256 : EReal := Ideal.ofBits .f32 0x43800000#32

/-- An entry of a product. -/
def prod {m n : ℕ} (y : Fin m → EReal) (w : Mat m n) (j : Fin n) : EReal := ∑ d : Fin m, y d * w (ix2 d j)

/-- A row's norm by its root mean square. -/
def rms {n : ℕ} (len : EReal) (y : Fin n → EReal) (g : Mat 1 n) (j : Fin n) : EReal :=
  y j * Ideal.rsqrt (Ideal.div (∑ k, y k * y k) len + offset) * g (ix2 0 j)

/-- The normed compressed queries of a row `y` of the input: the product's first 512 columns, normed, -/
def cq (y : Fin 2048 → EReal) (w : Mat 2048 1024) (g : Mat 1 512) : Fin 512 → EReal :=
  rms len512 (fun k => prod y w (⟨k.val, by omega⟩ : Fin 1024)) g

/-- and the normed compressed keys: its next 256. -/
def ckv (y : Fin 2048 → EReal) (w : Mat 2048 1024) (g : Mat 1 256) : Fin 256 → EReal :=
  rms len256 (fun k => prod y w (⟨512 + k.val, by omega⟩ : Fin 1024)) g

/-- The rotary key's columns of the product: the 128 after those. -/
def kr (y : Fin 2048 → EReal) (w : Mat 2048 1024) (l : Fin 128) : EReal := prod y w (⟨768 + l.val, by omega⟩ : Fin 1024)

/-- The 128 lanes of column `j`'s head, and the column's lane among them. -/
def col (j : Fin 1024) (l : Fin 128) : Fin 1024 := ⟨128 * (j.val / 128) + l.val, by omega⟩
def lane (j : Fin 1024) : Fin 128 := ⟨j.val % 128, by omega⟩

/-- The lane 64 away. -/
def away (l : Fin 128) : Fin 128 := ⟨(l.val + 64) % 128, by omega⟩

/-- 128 lanes times the table's row, each with the lane 64 away added. -/
def pair (u tab : Fin 128 → EReal) (l : Fin 128) : EReal := u l * tab l + u (away l) * tab (away l)

/-- A row's entries of the six results: the queries without and with rotary, -/
def qn (y : Fin 2048 → EReal) (w : Mat 2048 1024) (g : Mat 1 512) (v : Mat 512 1024) (j : Fin 1024) : EReal := prod (cq y w g) v j * scale
def qp (y : Fin 2048 → EReal) (w : Mat 2048 1024) (tab : Fin 128 → EReal) (g : Mat 1 512) (v : Mat 512 1024) (j : Fin 1024) : EReal :=
  pair (fun l => prod (cq y w g) v (col j l)) tab (lane j) * scale

/-- the keys and the values, the rotary key, -/
def kn (y : Fin 2048 → EReal) (w : Mat 2048 1024) (g : Mat 1 256) (v : Mat 256 1024) (j : Fin 1024) : EReal := prod (ckv y w g) v j
def kp (y : Fin 2048 → EReal) (w : Mat 2048 1024) (tab : Fin 128 → EReal) (l : Fin 128) : EReal := if l.val < 64 then pair (kr y w) tab l else 0

/-- and the logits. -/
def fl (y : Fin 2048 → EReal) (w : Mat 2048 1024) (l : Fin 128) : EReal := prod y w (⟨896 + l.val, by omega⟩ : Fin 1024)

end Cert.Prep

namespace Cert.PrepIdeal.Entries

open Cert.PrepIdeal Cert.PrepIdeal.Gen Cert.PrepIdeal.Value Cert.Projection Cert.Prep
  Idealize.ShloMosaic Idealize.ShloMosaic.TcCoe Idealize.SL.Sem

/-! ## The payloads' entries, from the blocks they are computed of -/

theorem pay4 (x : Vec Ideal S512x2048 .f32) (w : Vec Ideal S2048x1024 .bf16) (i : Fin 512) (j : Fin 1024) :
    k0_pay4 x w (ix2 i j) = prod (fun d => x (ix2 i d)) w j := by
  pointwise [k0_pay4]
  rfl

theorem pay5 (x : Vec Ideal S512x2048 .f32) (w : Vec Ideal S2048x1024 .bf16) (i : Fin 512) (l : Fin 128) :
    k0_pay5 x w (ix2 i l) = fl (fun d => x (ix2 i d)) w l := by
  pointwise [k0_pay5, k0_pay4]
  rfl

theorem pay7 (x : Vec Ideal S512x2048 .f32) (w : Vec Ideal S2048x1024 .bf16) (g : Vec Ideal S1x512 .f32) (v : Vec Ideal S512x1024 .bf16)
    (i : Fin 512) (j : Fin 1024) : k0_pay7 x w g v (ix2 i j) = qn (fun d => x (ix2 i d)) w g v j := by
  pointwise [k0_pay7, k0_pay6, k0_pay4]
  rfl

theorem pay8 (x : Vec Ideal S512x2048 .f32) (w : Vec Ideal S2048x1024 .bf16) (g : Vec Ideal S1x512 .f32) (v : Vec Ideal S512x1024 .bf16)
    (i : Fin 512) (j : Fin 1024) : k0_pay8 x w g v (ix2 i j) = prod (cq (fun d => x (ix2 i d)) w g) v j := by
  pointwise [k0_pay8, k0_pay6, k0_pay4]
  rfl

theorem pay19 (s : FVec Ideal S512x1024 .f32) (g : Vec Ideal S1x256 .f32) (i : Fin 512) (k : Fin 256) :
    k0_pay19 s g (ix2 i k) = rms len256 (fun k => s (ix2 i (⟨512 + k.val, by omega⟩ : Fin 1024))) g k := by
  pointwise [k0_pay19]
  rfl

theorem pay1 (y : FVec Ideal S512x256 .bf16) (v : Vec Ideal S256x1024 .bf16) (i : Fin 512) (j : Fin 1024) :
    k0_pay1 y v (ix2 i j) = prod (fun d => y (ix2 i d)) v j := by
  pointwise [k0_pay1]
  rfl

theorem pay2 (y : FVec Ideal S512x256 .bf16) (v : Vec Ideal S256x1024 .bf16) (i : Fin 512) (j : Fin 1024) :
    k0_pay2 y v (ix2 i j) = prod (fun d => y (ix2 i d)) v j := by
  pointwise [k0_pay2]
  rfl

/-- The lane the rotation reads. -/
theorem back (l : Fin 128) : (⟨(l.val + 128 - 64) % 128, by omega⟩ : Fin 128) = away l :=
  Fin.ext (by show (l.val + 128 - 64) % 128 = (l.val + 64) % 128; omega)

/-- Head `h`'s lanes of a row of products, rotated: one lemma per head, as the program has one store per head. -/
def head (t : Vec Ideal S512x128 .f32) (q : FVec Ideal S512x1024 .f32) (h : Fin 8) (i : Fin 512) (l : Fin 128) : EReal :=
  pair (fun l => q (ix2 i (⟨128 * h.val + l.val, by omega⟩ : Fin 1024))) (fun l => t (ix2 i l)) l * scale

theorem pay11 (x : Vec Ideal S512x2048 .f32) (w : Vec Ideal S2048x1024 .bf16) (t : Vec Ideal S512x128 .f32) (g : Vec Ideal S1x512 .f32)
    (v : Vec Ideal S512x1024 .bf16) (i : Fin 512) (l : Fin 128) :
    k0_pay11 (k0_pay9 x w t g v) (k0_pay10 x w t g v) (ix2 i l) = head t (k0_pay8 x w g v) 0 i l := by
  pointwise [k0_pay11, k0_pay10, k0_pay9]
  show _ = (_ * _ + _ * t (ix2 i (away l))) * _
  rw [← back]
  refine congrArg₂ (· * ·) (congrArg₂ (· + ·) (congrArg₂ (· * ·) (congrArg _ (congrArg (ix2 i) (Fin.ext ?_))) rfl)
    (congrArg₂ (· * ·) (congrArg _ (congrArg (ix2 i) (Fin.ext ?_))) rfl)) rfl
  · show l.val = 128 * 0 + l.val; omega
  · show (l.val + 128 - 64) % 128 = 128 * 0 + (l.val + 128 - 64) % 128; omega

theorem pay12 (t : Vec Ideal S512x128 .f32) (q : FVec Ideal S512x1024 .f32) (i : Fin 512) (l : Fin 128) : k0_pay12 t q (ix2 i l) = head t q 1 i l := by
  pointwise [k0_pay12]
  show _ = (_ * _ + q (ix2 i ⟨128 * 1 + (away l).val, _⟩) * t (ix2 i (away l))) * _
  simp only [← back]
  rfl

theorem pay13 (t : Vec Ideal S512x128 .f32) (q : FVec Ideal S512x1024 .f32) (i : Fin 512) (l : Fin 128) : k0_pay13 t q (ix2 i l) = head t q 2 i l := by
  pointwise [k0_pay13]
  show _ = (_ * _ + q (ix2 i ⟨128 * 2 + (away l).val, _⟩) * t (ix2 i (away l))) * _
  simp only [← back]
  rfl

theorem pay14 (t : Vec Ideal S512x128 .f32) (q : FVec Ideal S512x1024 .f32) (i : Fin 512) (l : Fin 128) : k0_pay14 t q (ix2 i l) = head t q 3 i l := by
  pointwise [k0_pay14]
  show _ = (_ * _ + q (ix2 i ⟨128 * 3 + (away l).val, _⟩) * t (ix2 i (away l))) * _
  simp only [← back]
  rfl

theorem pay15 (t : Vec Ideal S512x128 .f32) (q : FVec Ideal S512x1024 .f32) (i : Fin 512) (l : Fin 128) : k0_pay15 t q (ix2 i l) = head t q 4 i l := by
  pointwise [k0_pay15]
  show _ = (_ * _ + q (ix2 i ⟨128 * 4 + (away l).val, _⟩) * t (ix2 i (away l))) * _
  simp only [← back]
  rfl

theorem pay16 (t : Vec Ideal S512x128 .f32) (q : FVec Ideal S512x1024 .f32) (i : Fin 512) (l : Fin 128) : k0_pay16 t q (ix2 i l) = head t q 5 i l := by
  pointwise [k0_pay16]
  show _ = (_ * _ + q (ix2 i ⟨128 * 5 + (away l).val, _⟩) * t (ix2 i (away l))) * _
  simp only [← back]
  rfl

theorem pay17 (t : Vec Ideal S512x128 .f32) (q : FVec Ideal S512x1024 .f32) (i : Fin 512) (l : Fin 128) : k0_pay17 t q (ix2 i l) = head t q 6 i l := by
  pointwise [k0_pay17]
  show _ = (_ * _ + q (ix2 i ⟨128 * 6 + (away l).val, _⟩) * t (ix2 i (away l))) * _
  simp only [← back]
  rfl

theorem pay18 (t : Vec Ideal S512x128 .f32) (q : FVec Ideal S512x1024 .f32) (i : Fin 512) (l : Fin 128) : k0_pay18 t q (ix2 i l) = head t q 7 i l := by
  pointwise [k0_pay18]
  show _ = (_ * _ + q (ix2 i ⟨128 * 7 + (away l).val, _⟩) * t (ix2 i (away l))) * _
  simp only [← back]
  rfl

theorem pay3 (t : Vec Ideal S512x128 .f32) (s : FVec Ideal S512x1024 .f32) (i : Fin 512) (l : Fin 128) :
    k0_pay3 s t (ix2 i l) = if l.val < 64 then pair (fun l => s (ix2 i (⟨768 + l.val, by omega⟩ : Fin 1024))) (fun l => t (ix2 i l)) l else 0 := by
  have mask : ∀ l : Fin 128, IntOp.cmpi CmpIPredicate.slt (BitVec.ofNat 32 l.val) 64#32 = if l.val < 64 then 1#1 else 0#1 := by decide +kernel
  pointwise [k0_pay3]
  rw [mask]
  by_cases hl : l.val < 64
  · rw [if_pos hl, if_pos hl]
    show _ = _ * _ + s (ix2 i ⟨768 + (away l).val, _⟩) * t (ix2 i (away l))
    simp only [← back]
    rfl
  · rw [if_neg hl, if_neg hl]
    rfl

/-! ## The output blocks' entries -/

theorem split {n k : ℕ} (I : (⟨2, ![n, k]⟩ : Shape).Idx) : ∃ (i : Fin n) (j : Fin k), I = ix2 i j :=
  ⟨I 0, I 1, funext fun a => by match a with | ⟨0, _⟩ => rfl | ⟨1, _⟩ => rfl⟩

theorem whole0 (x : Vec Ideal S512x2048 .f32) : View.ld x r0_0 = x :=
  View.ld_unit_zero (funext fun a => by match a with | ⟨0, _⟩ => rfl | ⟨1, _⟩ => rfl) _ x
theorem whole1 (x : Vec Ideal S2048x1024 .bf16) : View.ld x r0_1 = x :=
  View.ld_unit_zero (funext fun a => by match a with | ⟨0, _⟩ => rfl | ⟨1, _⟩ => rfl) _ x
theorem whole2 (x : Vec Ideal S512x128 .f32) : View.ld x r0_2 = x :=
  View.ld_unit_zero (funext fun a => by match a with | ⟨0, _⟩ => rfl | ⟨1, _⟩ => rfl) _ x
theorem whole3 (x : Vec Ideal S1x512 .f32) : View.ld x r0_3 = x :=
  View.ld_unit_zero (funext fun a => by match a with | ⟨0, _⟩ => rfl | ⟨1, _⟩ => rfl) _ x
theorem whole4 (x : Vec Ideal S512x1024 .bf16) : View.ld x r0_4 = x :=
  View.ld_unit_zero (funext fun a => by match a with | ⟨0, _⟩ => rfl | ⟨1, _⟩ => rfl) _ x
theorem whole13 (x : Vec Ideal S1x256 .f32) : View.ld x r0_13 = x :=
  View.ld_unit_zero (funext fun a => by match a with | ⟨0, _⟩ => rfl | ⟨1, _⟩ => rfl) _ x
theorem whole14 (x : Vec Ideal S256x1024 .bf16) : View.ld x r0_14 = x :=
  View.ld_unit_zero (funext fun a => by match a with | ⟨0, _⟩ => rfl | ⟨1, _⟩ => rfl) _ x
theorem emb4 (i : Fin 512) (j : Fin 1024) : r0_4.emb (ix2 i j) = ix2 i j := funext fun a => Fin.ext (by
  match a with
  | ⟨0, _⟩ => show 0 + 1 * i.val = i.val; omega
  | ⟨1, _⟩ => show 0 + 1 * j.val = j.val; omega)
theorem emb2 (i : Fin 512) (l : Fin 128) : r0_2.emb (ix2 i l) = ix2 i l := funext fun a => Fin.ext (by
  match a with
  | ⟨0, _⟩ => show 0 + 1 * i.val = i.val; omega
  | ⟨1, _⟩ => show 0 + 1 * l.val = l.val; omega)

variable (x0 : Vec Ideal S512x2048 .f32) (x1 : Vec Ideal S2048x1024 .bf16) (x2 : Vec Ideal S512x128 .f32) (x3 : Vec Ideal S1x512 .f32)
  (x4 : Vec Ideal S1x256 .f32) (x5 x6 : Vec Ideal S512x1024 .bf16) (x7 x8 : Vec Ideal S256x1024 .bf16) (i : Fin 512)

/-- The queries without rotary, -/
def block9 : Vec Ideal S512x1024 .bf16 := fun J => qn (fun d => x0 (ix2 (J 0) d)) x1 x3 x5 (J 1)

theorem out9_eq (j : Fin 1024) : out0_9 x0 x1 x2 x3 x4 x5 x6 x7 x8 (ix2 i j) = qn (fun d => x0 (ix2 i d)) x1 x3 x5 j := by
  refine View.canon_apply_of_pieces (block9 x0 x1 x3 x5) _ ?_ (ix2 i j) (cover0_9 _ (ix2 i j))
  intro p hp
  rw [List.mem_singleton] at hp
  subst hp
  intro (I : S512x1024.Idx)
  obtain ⟨i, j, rfl⟩ := split I
  show k0_pay7 (View.ld x0 r0_0) (View.ld x1 r0_1) (View.ld x3 r0_3) (View.ld x5 r0_4) (ix2 i j) = block9 x0 x1 x3 x5 (r0_4.emb (ix2 i j))
  rw [emb4, pay7, whole0, whole1, whole3, whole4]
  rfl

/-- A head's entry is the rotary queries' at the head's lane. -/
theorem head_eq (h : Fin 8) (l : Fin 128) :
    head x2 (k0_pay8 x0 x1 x3 x6) h i l = qp (fun d => x0 (ix2 i d)) x1 (fun l => x2 (ix2 i l)) x3 x6 (⟨128 * h.val + l.val, by omega⟩ : Fin 1024) := by
  have e (k : Fin 128) : col (⟨128 * h.val + l.val, by omega⟩ : Fin 1024) k = ⟨128 * h.val + k.val, by omega⟩ := Fin.ext (by
    show 128 * ((128 * h.val + l.val) / 128) + k.val = 128 * h.val + k.val
    omega)
  have e' : lane (⟨128 * h.val + l.val, by omega⟩ : Fin 1024) = l := Fin.ext (by show (128 * h.val + l.val) % 128 = l.val; omega)
  unfold head qp
  simp only [pay8, e, e']

/-- with rotary, -/
def block10 : Vec Ideal S512x1024 .bf16 := fun J => qp (fun d => x0 (ix2 (J 0) d)) x1 (fun l => x2 (ix2 (J 0) l)) x3 x6 (J 1)

theorem out10_eq (j : Fin 1024) : out0_10 x0 x1 x2 x3 x4 x5 x6 x7 x8 (ix2 i j) = qp (fun d => x0 (ix2 i d)) x1 (fun l => x2 (ix2 i l)) x3 x6 j := by
  refine View.canon_apply_of_pieces (block10 x0 x1 x2 x3 x6) _ ?_ (ix2 i j)
    (cover0_10 _ _ _ _ _ _ _ _ (ix2 i j))
  intro p hp
  simp only [List.mem_cons, List.not_mem_nil, or_false] at hp
  rcases hp with rfl | rfl | rfl | rfl | rfl | rfl | rfl | rfl
  · intro (I : S512x128.Idx)
    obtain ⟨i, l, rfl⟩ := split I
    have e : r0_12.emb (ix2 i l) = ix2 i (⟨128 * ((7 : Fin 8)).val + l.val, by show 128 * 7 + l.val < 1024; omega⟩ : Fin 1024) := funext fun a => Fin.ext (by
      match a with
      | ⟨0, _⟩ => show 0 + 1 * i.val = i.val; omega
      | ⟨1, _⟩ => show 896 + 1 * l.val = 128 * 7 + l.val; omega)
    show k0_pay18 (View.ld x2 r0_2) (k0_pay8 (View.ld x0 r0_0) (View.ld x1 r0_1) (View.ld x3 r0_3) (View.ld x6 r0_4)) (ix2 i l)
      = (block10 x0 x1 x2 x3 x6) (r0_12.emb (ix2 i l))
    rw [e, pay18, whole0, whole1, whole2, whole3, whole4]
    exact head_eq x0 x1 x2 x3 x6 i 7 l
  · intro (I : S512x128.Idx)
    obtain ⟨i, l, rfl⟩ := split I
    have e : r0_11.emb (ix2 i l) = ix2 i (⟨128 * ((6 : Fin 8)).val + l.val, by show 128 * 6 + l.val < 1024; omega⟩ : Fin 1024) := funext fun a => Fin.ext (by
      match a with
      | ⟨0, _⟩ => show 0 + 1 * i.val = i.val; omega
      | ⟨1, _⟩ => show 768 + 1 * l.val = 128 * 6 + l.val; omega)
    show k0_pay17 (View.ld x2 r0_2) (k0_pay8 (View.ld x0 r0_0) (View.ld x1 r0_1) (View.ld x3 r0_3) (View.ld x6 r0_4)) (ix2 i l)
      = (block10 x0 x1 x2 x3 x6) (r0_11.emb (ix2 i l))
    rw [e, pay17, whole0, whole1, whole2, whole3, whole4]
    exact head_eq x0 x1 x2 x3 x6 i 6 l
  · intro (I : S512x128.Idx)
    obtain ⟨i, l, rfl⟩ := split I
    have e : r0_10.emb (ix2 i l) = ix2 i (⟨128 * ((5 : Fin 8)).val + l.val, by show 128 * 5 + l.val < 1024; omega⟩ : Fin 1024) := funext fun a => Fin.ext (by
      match a with
      | ⟨0, _⟩ => show 0 + 1 * i.val = i.val; omega
      | ⟨1, _⟩ => show 640 + 1 * l.val = 128 * 5 + l.val; omega)
    show k0_pay16 (View.ld x2 r0_2) (k0_pay8 (View.ld x0 r0_0) (View.ld x1 r0_1) (View.ld x3 r0_3) (View.ld x6 r0_4)) (ix2 i l)
      = (block10 x0 x1 x2 x3 x6) (r0_10.emb (ix2 i l))
    rw [e, pay16, whole0, whole1, whole2, whole3, whole4]
    exact head_eq x0 x1 x2 x3 x6 i 5 l
  · intro (I : S512x128.Idx)
    obtain ⟨i, l, rfl⟩ := split I
    have e : r0_9.emb (ix2 i l) = ix2 i (⟨128 * ((4 : Fin 8)).val + l.val, by show 128 * 4 + l.val < 1024; omega⟩ : Fin 1024) := funext fun a => Fin.ext (by
      match a with
      | ⟨0, _⟩ => show 0 + 1 * i.val = i.val; omega
      | ⟨1, _⟩ => show 512 + 1 * l.val = 128 * 4 + l.val; omega)
    show k0_pay15 (View.ld x2 r0_2) (k0_pay8 (View.ld x0 r0_0) (View.ld x1 r0_1) (View.ld x3 r0_3) (View.ld x6 r0_4)) (ix2 i l)
      = (block10 x0 x1 x2 x3 x6) (r0_9.emb (ix2 i l))
    rw [e, pay15, whole0, whole1, whole2, whole3, whole4]
    exact head_eq x0 x1 x2 x3 x6 i 4 l
  · intro (I : S512x128.Idx)
    obtain ⟨i, l, rfl⟩ := split I
    have e : r0_8.emb (ix2 i l) = ix2 i (⟨128 * ((3 : Fin 8)).val + l.val, by show 128 * 3 + l.val < 1024; omega⟩ : Fin 1024) := funext fun a => Fin.ext (by
      match a with
      | ⟨0, _⟩ => show 0 + 1 * i.val = i.val; omega
      | ⟨1, _⟩ => show 384 + 1 * l.val = 128 * 3 + l.val; omega)
    show k0_pay14 (View.ld x2 r0_2) (k0_pay8 (View.ld x0 r0_0) (View.ld x1 r0_1) (View.ld x3 r0_3) (View.ld x6 r0_4)) (ix2 i l)
      = (block10 x0 x1 x2 x3 x6) (r0_8.emb (ix2 i l))
    rw [e, pay14, whole0, whole1, whole2, whole3, whole4]
    exact head_eq x0 x1 x2 x3 x6 i 3 l
  · intro (I : S512x128.Idx)
    obtain ⟨i, l, rfl⟩ := split I
    have e : r0_7.emb (ix2 i l) = ix2 i (⟨128 * ((2 : Fin 8)).val + l.val, by show 128 * 2 + l.val < 1024; omega⟩ : Fin 1024) := funext fun a => Fin.ext (by
      match a with
      | ⟨0, _⟩ => show 0 + 1 * i.val = i.val; omega
      | ⟨1, _⟩ => show 256 + 1 * l.val = 128 * 2 + l.val; omega)
    show k0_pay13 (View.ld x2 r0_2) (k0_pay8 (View.ld x0 r0_0) (View.ld x1 r0_1) (View.ld x3 r0_3) (View.ld x6 r0_4)) (ix2 i l)
      = (block10 x0 x1 x2 x3 x6) (r0_7.emb (ix2 i l))
    rw [e, pay13, whole0, whole1, whole2, whole3, whole4]
    exact head_eq x0 x1 x2 x3 x6 i 2 l
  · intro (I : S512x128.Idx)
    obtain ⟨i, l, rfl⟩ := split I
    have e : r0_6.emb (ix2 i l) = ix2 i (⟨128 * ((1 : Fin 8)).val + l.val, by show 128 * 1 + l.val < 1024; omega⟩ : Fin 1024) := funext fun a => Fin.ext (by
      match a with
      | ⟨0, _⟩ => show 0 + 1 * i.val = i.val; omega
      | ⟨1, _⟩ => show 128 + 1 * l.val = 128 * 1 + l.val; omega)
    show k0_pay12 (View.ld x2 r0_2) (k0_pay8 (View.ld x0 r0_0) (View.ld x1 r0_1) (View.ld x3 r0_3) (View.ld x6 r0_4)) (ix2 i l)
      = (block10 x0 x1 x2 x3 x6) (r0_6.emb (ix2 i l))
    rw [e, pay12, whole0, whole1, whole2, whole3, whole4]
    exact head_eq x0 x1 x2 x3 x6 i 1 l
  · intro (I : S512x128.Idx)
    obtain ⟨i, l, rfl⟩ := split I
    have e : r0_5.emb (ix2 i l) = ix2 i (⟨128 * ((0 : Fin 8)).val + l.val, by show 128 * 0 + l.val < 1024; omega⟩ : Fin 1024) := funext fun a => Fin.ext (by
      match a with
      | ⟨0, _⟩ => show 0 + 1 * i.val = i.val; omega
      | ⟨1, _⟩ => show 0 + 1 * l.val = 128 * 0 + l.val; omega)
    show k0_pay11 (k0_pay9 (View.ld x0 r0_0) (View.ld x1 r0_1) (View.ld x2 r0_2) (View.ld x3 r0_3) (View.ld x6 r0_4)) (k0_pay10 (View.ld x0 r0_0) (View.ld x1 r0_1) (View.ld x2 r0_2) (View.ld x3 r0_3) (View.ld x6 r0_4)) (ix2 i l)
      = (block10 x0 x1 x2 x3 x6) (r0_5.emb (ix2 i l))
    rw [e, pay11, whole0, whole1, whole2, whole3, whole4]
    exact head_eq x0 x1 x2 x3 x6 i 0 l

/-- The normed compressed keys of a block. -/
theorem ckv_eq : (fun k => k0_pay19 (k0_pay4 x0 x1) x4 (ix2 i k)) = ckv (fun d => x0 (ix2 i d)) x1 x4 := by
  funext k
  rw [pay19]
  simp only [pay4]
  rfl

/-- the keys, -/
def block11 : Vec Ideal S512x1024 .bf16 := fun J => kn (fun d => x0 (ix2 (J 0) d)) x1 x4 x7 (J 1)

theorem out11_eq (j : Fin 1024) : out0_11 x0 x1 x2 x3 x4 x5 x6 x7 x8 (ix2 i j) = kn (fun d => x0 (ix2 i d)) x1 x4 x7 j := by
  refine View.canon_apply_of_pieces (block11 x0 x1 x4 x7) _ ?_ (ix2 i j) (cover0_11 _ (ix2 i j))
  intro p hp
  rw [List.mem_singleton] at hp
  subst hp
  intro (I : S512x1024.Idx)
  obtain ⟨i, j, rfl⟩ := split I
  show k0_pay1 (k0_pay19 (k0_pay4 (View.ld x0 r0_0) (View.ld x1 r0_1)) (View.ld x4 r0_13)) (View.ld x7 r0_14) (ix2 i j) = block11 x0 x1 x4 x7 (r0_4.emb (ix2 i j))
  rw [emb4, pay1, whole0, whole1, whole13, whole14, ckv_eq]
  rfl

/-- the values, -/
def block12 : Vec Ideal S512x1024 .bf16 := fun J => kn (fun d => x0 (ix2 (J 0) d)) x1 x4 x8 (J 1)

theorem out12_eq (j : Fin 1024) : out0_12 x0 x1 x2 x3 x4 x5 x6 x7 x8 (ix2 i j) = kn (fun d => x0 (ix2 i d)) x1 x4 x8 j := by
  refine View.canon_apply_of_pieces (block12 x0 x1 x4 x8) _ ?_ (ix2 i j) (cover0_12 _ (ix2 i j))
  intro p hp
  rw [List.mem_singleton] at hp
  subst hp
  intro (I : S512x1024.Idx)
  obtain ⟨i, j, rfl⟩ := split I
  show k0_pay2 (k0_pay19 (k0_pay4 (View.ld x0 r0_0) (View.ld x1 r0_1)) (View.ld x4 r0_13)) (View.ld x8 r0_14) (ix2 i j) = block12 x0 x1 x4 x8 (r0_4.emb (ix2 i j))
  rw [emb4, pay2, whole0, whole1, whole13, whole14, ckv_eq]
  rfl

/-- the rotary key -/
def block13 : Vec Ideal S512x128 .bf16 := fun J => kp (fun d => x0 (ix2 (J 0) d)) x1 (fun l => x2 (ix2 (J 0) l)) (J 1)

theorem out13_eq (j : Fin 128) : out0_13 x0 x1 x2 x3 x4 x5 x6 x7 x8 (ix2 i j) = kp (fun d => x0 (ix2 i d)) x1 (fun l => x2 (ix2 i l)) j := by
  refine View.canon_apply_of_pieces (block13 x0 x1 x2) _ ?_ (ix2 i j) (cover0_13 _ (ix2 i j))
  intro p hp
  rw [List.mem_singleton] at hp
  subst hp
  intro (I : S512x128.Idx)
  obtain ⟨i, j, rfl⟩ := split I
  show k0_pay3 (k0_pay4 (View.ld x0 r0_0) (View.ld x1 r0_1)) (View.ld x2 r0_2) (ix2 i j) = block13 x0 x1 x2 (r0_2.emb (ix2 i j))
  rw [emb2, pay3, whole0, whole1, whole2]
  simp only [pay4]
  rfl

/-- and the logits. -/
def block14 : Vec Ideal S512x128 .f32 := fun J => fl (fun d => x0 (ix2 (J 0) d)) x1 (J 1)

theorem out14_eq (j : Fin 128) : out0_14 x0 x1 x2 x3 x4 x5 x6 x7 x8 (ix2 i j) = fl (fun d => x0 (ix2 i d)) x1 j := by
  refine View.canon_apply_of_pieces (block14 x0 x1) _ ?_ (ix2 i j) (cover0_14 _ (ix2 i j))
  intro p hp
  rw [List.mem_singleton] at hp
  subst hp
  intro (I : S512x128.Idx)
  obtain ⟨i, j, rfl⟩ := split I
  show k0_pay5 (View.ld x0 r0_0) (View.ld x1 r0_1) (ix2 i j) = block14 x0 x1 (r0_2.emb (ix2 i j))
  rw [emb2, pay5, whole0, whole1]
  rfl

/-! ## Where the grid points' blocks lie -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val % 8 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)
theorem idx14 : ∀ t : Fin cfg0.N, win0_14.index t (0 : Fin 2) = t.val ∧ win0_14.index t (1 : Fin 2) = 0 :=
  (by decide +kernel : ∀ t : Fin grid0.N, _)
theorem point_lt (t : Fin cfg0.N) : t.val < 16 := lt_of_lt_of_le t.isLt (by decide)

/-- A grid point's rows, and a row's place in its sequence. -/
def row (t : Fin cfg0.N) (i : Fin 512) : Fin 8192 := ⟨512 * t.val + i.val, by have := point_lt t; omega⟩
def pos (r : Fin 8192) : Fin 4096 := ⟨r.val % 4096, by omega⟩

variable (m : (ℓ : Loc nD τ sig) → Buf (Elt Ideal) ℓ) (ρ : Dev nD → PrngReg) (c : Dev nD)

/-- The layer's input, the input weights, the rotary table, the two norms' scales, and the queries', keys' and values' weights. -/
abbrev X : Mat 8192 2048 := m ((c : Thread nD τ).loc main_arg0)
abbrev W : Mat 2048 1024 := m ((c : Thread nD τ).loc main_arg1)
abbrev R : Mat 4096 128 := m ((c : Thread nD τ).loc main_arg2)
abbrev Qg : Mat 1 512 := m ((c : Thread nD τ).loc main_arg3)
abbrev Kg : Mat 1 256 := m ((c : Thread nD τ).loc main_arg4)
abbrev Wqn : Mat 512 1024 := m ((c : Thread nD τ).loc main_arg5)
abbrev Wqp : Mat 512 1024 := m ((c : Thread nD τ).loc main_arg6)
abbrev Wk : Mat 256 1024 := m ((c : Thread nD τ).loc main_arg7)
abbrev Wv : Mat 256 1024 := m ((c : Thread nD τ).loc main_arg8)

variable (t : Fin cfg0.N)

theorem iblk0 (d : Fin 2048) : iblk m c 0 t (ix2 i d) = X m c (ix2 (row t i) d) := by
  obtain ⟨e0, e1⟩ := idx0 t
  show V m c main_arg0 (((cfg0.win 0).blk t).view.emb (ix2 i d)) = _
  rw [V_main_arg0]
  refine congrArg (X m c) (funext fun a => Fin.ext ?_)
  match a with
  | ⟨0, _⟩ => show win0_0.index t (0 : Fin 2) * 512 + 1 * i.val = 512 * t.val + i.val; omega
  | ⟨1, _⟩ => show win0_0.index t (1 : Fin 2) * 2048 + 1 * d.val = d.val; omega

theorem iblk2 (l : Fin 128) : iblk m c 2 t (ix2 i l) = R m c (ix2 (pos (row t i)) l) := by
  obtain ⟨e0, e1⟩ := idx2 t
  have := point_lt t
  show V m c main_arg2 (((cfg0.win 2).blk t).view.emb (ix2 i l)) = _
  rw [V_main_arg2]
  refine congrArg (R m c) (funext fun a => Fin.ext ?_)
  match a with
  | ⟨0, _⟩ => show win0_2.index t (0 : Fin 2) * 512 + 1 * i.val = (512 * t.val + i.val) % 4096; omega
  | ⟨1, _⟩ => show win0_2.index t (1 : Fin 2) * 128 + 1 * l.val = l.val; omega

theorem iblk1 : iblk m c 1 t = W m c := by
  obtain ⟨e0, e1⟩ := idx1 t
  refine funext fun (J : S2048x1024.Idx) => ?_
  show V m c main_arg1 (((cfg0.win 1).blk t).view.emb J) = _
  rw [V_main_arg1]
  refine congrArg (W m c) (funext fun a => Fin.ext ?_)
  match a with
  | ⟨0, _⟩ => show win0_1.index t (0 : Fin 2) * 2048 + 1 * (J 0).val = (J 0).val; omega
  | ⟨1, _⟩ => show win0_1.index t (1 : Fin 2) * 1024 + 1 * (J 1).val = (J 1).val; omega

theorem iblk3 : iblk m c 3 t = Qg m c := by
  obtain ⟨e0, e1⟩ := idx3 t
  refine funext fun (J : S1x512.Idx) => ?_
  show V m c main_arg3 (((cfg0.win 3).blk t).view.emb J) = _
  rw [V_main_arg3]
  refine congrArg (Qg m c) (funext fun a => Fin.ext ?_)
  match a with
  | ⟨0, _⟩ => show win0_3.index t (0 : Fin 2) * 1 + 1 * (J 0).val = (J 0).val; omega
  | ⟨1, _⟩ => show win0_3.index t (1 : Fin 2) * 512 + 1 * (J 1).val = (J 1).val; omega

theorem iblk4 : iblk m c 4 t = Kg m c := by
  obtain ⟨e0, e1⟩ := idx4 t
  refine funext fun (J : S1x256.Idx) => ?_
  show V m c main_arg4 (((cfg0.win 4).blk t).view.emb J) = _
  rw [V_main_arg4]
  refine congrArg (Kg m c) (funext fun a => Fin.ext ?_)
  match a with
  | ⟨0, _⟩ => show win0_4.index t (0 : Fin 2) * 1 + 1 * (J 0).val = (J 0).val; omega
  | ⟨1, _⟩ => show win0_4.index t (1 : Fin 2) * 256 + 1 * (J 1).val = (J 1).val; omega

theorem iblk5 : iblk m c 5 t = Wqn m c := by
  obtain ⟨e0, e1⟩ := idx5 t
  refine funext fun (J : S512x1024.Idx) => ?_
  show V m c main_arg5 (((cfg0.win 5).blk t).view.emb J) = _
  rw [V_main_arg5]
  refine congrArg (Wqn m c) (funext fun a => Fin.ext ?_)
  match a with
  | ⟨0, _⟩ => show win0_5.index t (0 : Fin 2) * 512 + 1 * (J 0).val = (J 0).val; omega
  | ⟨1, _⟩ => show win0_5.index t (1 : Fin 2) * 1024 + 1 * (J 1).val = (J 1).val; omega

theorem iblk6 : iblk m c 6 t = Wqp m c := by
  obtain ⟨e0, e1⟩ := idx6 t
  refine funext fun (J : S512x1024.Idx) => ?_
  show V m c main_arg6 (((cfg0.win 6).blk t).view.emb J) = _
  rw [V_main_arg6]
  refine congrArg (Wqp m c) (funext fun a => Fin.ext ?_)
  match a with
  | ⟨0, _⟩ => show win0_6.index t (0 : Fin 2) * 512 + 1 * (J 0).val = (J 0).val; omega
  | ⟨1, _⟩ => show win0_6.index t (1 : Fin 2) * 1024 + 1 * (J 1).val = (J 1).val; omega

theorem iblk7 : iblk m c 7 t = Wk m c := by
  obtain ⟨e0, e1⟩ := idx7 t
  refine funext fun (J : S256x1024.Idx) => ?_
  show V m c main_arg7 (((cfg0.win 7).blk t).view.emb J) = _
  rw [V_main_arg7]
  refine congrArg (Wk m c) (funext fun a => Fin.ext ?_)
  match a with
  | ⟨0, _⟩ => show win0_7.index t (0 : Fin 2) * 256 + 1 * (J 0).val = (J 0).val; omega
  | ⟨1, _⟩ => show win0_7.index t (1 : Fin 2) * 1024 + 1 * (J 1).val = (J 1).val; omega

theorem iblk8 : iblk m c 8 t = Wv m c := by
  obtain ⟨e0, e1⟩ := idx8 t
  refine funext fun (J : S256x1024.Idx) => ?_
  show V m c main_arg8 (((cfg0.win 8).blk t).view.emb J) = _
  rw [V_main_arg8]
  refine congrArg (Wv m c) (funext fun a => Fin.ext ?_)
  match a with
  | ⟨0, _⟩ => show win0_8.index t (0 : Fin 2) * 256 + 1 * (J 0).val = (J 0).val; omega
  | ⟨1, _⟩ => show win0_8.index t (1 : Fin 2) * 1024 + 1 * (J 1).val = (J 1).val; omega

/-- A row of the input, and the table's row for it. -/
abbrev xrow (r : Fin 8192) : Fin 2048 → EReal := fun d => X m c (ix2 r d)
abbrev trow (r : Fin 8192) : Fin 128 → EReal := fun l => R m c (ix2 (pos r) l)

theorem row0 : (fun d => (iblk m c 0 t : Vec Ideal S512x2048 .f32) (ix2 i d)) = xrow m c (row t i) := funext fun d => iblk0 i m c t d
theorem row2 : (fun l => (iblk m c 2 t : Vec Ideal S512x128 .f32) (ix2 i l)) = trow m c (row t i) := funext fun l => iblk2 i m c t l

/-! ### The queries without rotary -/

def Gqn : Mat 8192 1024 := fun I => qn (xrow m c (I 0)) (W m c) (Qg m c) (Wqn m c) (I 1)

theorem emb_9 (j : Fin 1024) : ((cfg0.win 9).blk t).view.emb (ix2 i j) = ix2 (row t i) j := by
  obtain ⟨e0, e1⟩ := idx9 t
  funext a; apply Fin.ext
  match a with
  | ⟨0, _⟩ => show win0_9.index t (0 : Fin 2) * 512 + 1 * i.val = 512 * t.val + i.val; omega
  | ⟨1, _⟩ => show win0_9.index t (1 : Fin 2) * 1024 + 1 * j.val = j.val; omega

theorem flushed9_eq : (dats m 0 c).flushed 9 t = ((cfg0.win 9).blk t).view.read (Elt Ideal) (Gqn m c) := by
  rw [flushed9]
  funext J
  obtain ⟨i, j, rfl⟩ : ∃ (i : Fin 512) (j : Fin 1024), J = ix2 i j := split (n := 512) (k := 1024) J
  show out0_9 (iblk m c 0 t) (iblk m c 1 t) (iblk m c 2 t) (iblk m c 3 t) (iblk m c 4 t) (iblk m c 5 t) (iblk m c 6 t) (iblk m c 7 t) (iblk m c 8 t) (ix2 i j) = Gqn m c (((cfg0.win 9).blk t).view.emb (ix2 i j))
  rw [emb_9, out9_eq]
  show qn (fun d => (iblk m c 0 t : Vec Ideal S512x2048 .f32) (ix2 i d)) (iblk m c 1 t) (iblk m c 3 t) (iblk m c 5 t) j = _
  rw [row0, iblk1, iblk3, iblk5]
  rfl

theorem covered9 (J : S8192x1024.Idx) : ∃ t : Fin cfg0.N, (cfg0.win 9).flush t = true ∧ J ∈ ((cfg0.win 9).blk t).view.set := by
  have h0 : (J 0).val < 8192 := (J 0).isLt
  have hN : (J 0).val / 512 < cfg0.N := lt_of_lt_of_le (by omega : _ < 16) (by decide)
  refine ⟨⟨_, hN⟩, flush0_9 _, ?_⟩
  have h := ((cfg0.win 9).blk ⟨_, hN⟩).view.emb_mem_set (ix2 (⟨(J 0).val % 512, by omega⟩ : Fin 512) (⟨(J 1).val, (J 1).isLt⟩ : Fin 1024))
  rw [emb_9] at h
  have e : (ix2 (row ⟨_, hN⟩ ⟨(J 0).val % 512, by omega⟩) (⟨(J 1).val, (J 1).isLt⟩ : Fin 1024) : S8192x1024.Idx) = J := by
    funext a; apply Fin.ext
    match a with
    | ⟨0, _⟩ => show 512 * ((J 0).val / 512) + (J 0).val % 512 = (J 0).val; omega
    | ⟨1, _⟩ => rfl
  rwa [e] at h

theorem final9 : (dats m 0 c).arrAt 9 cfg0.N = Gqn m c :=
  (dats m 0 c).arrAt_eq_of_cover 9 (Gqn m c) (fun t _ => flushed9_eq m c t) covered9

/-! ### The queries with rotary -/

def Gqp : Mat 8192 1024 := fun I => qp (xrow m c (I 0)) (W m c) (trow m c (I 0)) (Qg m c) (Wqp m c) (I 1)

theorem emb_10 (j : Fin 1024) : ((cfg0.win 10).blk t).view.emb (ix2 i j) = ix2 (row t i) j := by
  obtain ⟨e0, e1⟩ := idx10 t
  funext a; apply Fin.ext
  match a with
  | ⟨0, _⟩ => show win0_10.index t (0 : Fin 2) * 512 + 1 * i.val = 512 * t.val + i.val; omega
  | ⟨1, _⟩ => show win0_10.index t (1 : Fin 2) * 1024 + 1 * j.val = j.val; omega

theorem flushed10_eq : (dats m 0 c).flushed 10 t = ((cfg0.win 10).blk t).view.read (Elt Ideal) (Gqp m c) := by
  rw [flushed10]
  funext J
  obtain ⟨i, j, rfl⟩ : ∃ (i : Fin 512) (j : Fin 1024), J = ix2 i j := split (n := 512) (k := 1024) J
  show out0_10 (iblk m c 0 t) (iblk m c 1 t) (iblk m c 2 t) (iblk m c 3 t) (iblk m c 4 t) (iblk m c 5 t) (iblk m c 6 t) (iblk m c 7 t) (iblk m c 8 t) (ix2 i j) = Gqp m c (((cfg0.win 10).blk t).view.emb (ix2 i j))
  rw [emb_10, out10_eq]
  show qp (fun d => (iblk m c 0 t : Vec Ideal S512x2048 .f32) (ix2 i d)) (iblk m c 1 t) (fun l => (iblk m c 2 t : Vec Ideal S512x128 .f32) (ix2 i l)) (iblk m c 3 t) (iblk m c 6 t) j = _
  rw [row0, row2, iblk1, iblk3, iblk6]
  rfl

theorem covered10 (J : S8192x1024.Idx) : ∃ t : Fin cfg0.N, (cfg0.win 10).flush t = true ∧ J ∈ ((cfg0.win 10).blk t).view.set := by
  have h0 : (J 0).val < 8192 := (J 0).isLt
  have hN : (J 0).val / 512 < cfg0.N := lt_of_lt_of_le (by omega : _ < 16) (by decide)
  refine ⟨⟨_, hN⟩, flush0_10 _, ?_⟩
  have h := ((cfg0.win 10).blk ⟨_, hN⟩).view.emb_mem_set (ix2 (⟨(J 0).val % 512, by omega⟩ : Fin 512) (⟨(J 1).val, (J 1).isLt⟩ : Fin 1024))
  rw [emb_10] at h
  have e : (ix2 (row ⟨_, hN⟩ ⟨(J 0).val % 512, by omega⟩) (⟨(J 1).val, (J 1).isLt⟩ : Fin 1024) : S8192x1024.Idx) = J := by
    funext a; apply Fin.ext
    match a with
    | ⟨0, _⟩ => show 512 * ((J 0).val / 512) + (J 0).val % 512 = (J 0).val; omega
    | ⟨1, _⟩ => rfl
  rwa [e] at h

theorem final10 : (dats m 0 c).arrAt 10 cfg0.N = Gqp m c :=
  (dats m 0 c).arrAt_eq_of_cover 10 (Gqp m c) (fun t _ => flushed10_eq m c t) covered10

/-! ### The keys -/

def Gkn : Mat 8192 1024 := fun I => kn (xrow m c (I 0)) (W m c) (Kg m c) (Wk m c) (I 1)

theorem emb_11 (j : Fin 1024) : ((cfg0.win 11).blk t).view.emb (ix2 i j) = ix2 (row t i) j := by
  obtain ⟨e0, e1⟩ := idx11 t
  funext a; apply Fin.ext
  match a with
  | ⟨0, _⟩ => show win0_11.index t (0 : Fin 2) * 512 + 1 * i.val = 512 * t.val + i.val; omega
  | ⟨1, _⟩ => show win0_11.index t (1 : Fin 2) * 1024 + 1 * j.val = j.val; omega

theorem flushed11_eq : (dats m 0 c).flushed 11 t = ((cfg0.win 11).blk t).view.read (Elt Ideal) (Gkn m c) := by
  rw [flushed11]
  funext J
  obtain ⟨i, j, rfl⟩ : ∃ (i : Fin 512) (j : Fin 1024), J = ix2 i j := split (n := 512) (k := 1024) J
  show out0_11 (iblk m c 0 t) (iblk m c 1 t) (iblk m c 2 t) (iblk m c 3 t) (iblk m c 4 t) (iblk m c 5 t) (iblk m c 6 t) (iblk m c 7 t) (iblk m c 8 t) (ix2 i j) = Gkn m c (((cfg0.win 11).blk t).view.emb (ix2 i j))
  rw [emb_11, out11_eq]
  show kn (fun d => (iblk m c 0 t : Vec Ideal S512x2048 .f32) (ix2 i d)) (iblk m c 1 t) (iblk m c 4 t) (iblk m c 7 t) j = _
  rw [row0, iblk1, iblk4, iblk7]
  rfl

theorem covered11 (J : S8192x1024.Idx) : ∃ t : Fin cfg0.N, (cfg0.win 11).flush t = true ∧ J ∈ ((cfg0.win 11).blk t).view.set := by
  have h0 : (J 0).val < 8192 := (J 0).isLt
  have hN : (J 0).val / 512 < cfg0.N := lt_of_lt_of_le (by omega : _ < 16) (by decide)
  refine ⟨⟨_, hN⟩, flush0_11 _, ?_⟩
  have h := ((cfg0.win 11).blk ⟨_, hN⟩).view.emb_mem_set (ix2 (⟨(J 0).val % 512, by omega⟩ : Fin 512) (⟨(J 1).val, (J 1).isLt⟩ : Fin 1024))
  rw [emb_11] at h
  have e : (ix2 (row ⟨_, hN⟩ ⟨(J 0).val % 512, by omega⟩) (⟨(J 1).val, (J 1).isLt⟩ : Fin 1024) : S8192x1024.Idx) = J := by
    funext a; apply Fin.ext
    match a with
    | ⟨0, _⟩ => show 512 * ((J 0).val / 512) + (J 0).val % 512 = (J 0).val; omega
    | ⟨1, _⟩ => rfl
  rwa [e] at h

theorem final11 : (dats m 0 c).arrAt 11 cfg0.N = Gkn m c :=
  (dats m 0 c).arrAt_eq_of_cover 11 (Gkn m c) (fun t _ => flushed11_eq m c t) covered11

/-! ### The values -/

def Gv : Mat 8192 1024 := fun I => kn (xrow m c (I 0)) (W m c) (Kg m c) (Wv m c) (I 1)

theorem emb_12 (j : Fin 1024) : ((cfg0.win 12).blk t).view.emb (ix2 i j) = ix2 (row t i) j := by
  obtain ⟨e0, e1⟩ := idx12 t
  funext a; apply Fin.ext
  match a with
  | ⟨0, _⟩ => show win0_12.index t (0 : Fin 2) * 512 + 1 * i.val = 512 * t.val + i.val; omega
  | ⟨1, _⟩ => show win0_12.index t (1 : Fin 2) * 1024 + 1 * j.val = j.val; omega

theorem flushed12_eq : (dats m 0 c).flushed 12 t = ((cfg0.win 12).blk t).view.read (Elt Ideal) (Gv m c) := by
  rw [flushed12]
  funext J
  obtain ⟨i, j, rfl⟩ : ∃ (i : Fin 512) (j : Fin 1024), J = ix2 i j := split (n := 512) (k := 1024) J
  show out0_12 (iblk m c 0 t) (iblk m c 1 t) (iblk m c 2 t) (iblk m c 3 t) (iblk m c 4 t) (iblk m c 5 t) (iblk m c 6 t) (iblk m c 7 t) (iblk m c 8 t) (ix2 i j) = Gv m c (((cfg0.win 12).blk t).view.emb (ix2 i j))
  rw [emb_12, out12_eq]
  show kn (fun d => (iblk m c 0 t : Vec Ideal S512x2048 .f32) (ix2 i d)) (iblk m c 1 t) (iblk m c 4 t) (iblk m c 8 t) j = _
  rw [row0, iblk1, iblk4, iblk8]
  rfl

theorem covered12 (J : S8192x1024.Idx) : ∃ t : Fin cfg0.N, (cfg0.win 12).flush t = true ∧ J ∈ ((cfg0.win 12).blk t).view.set := by
  have h0 : (J 0).val < 8192 := (J 0).isLt
  have hN : (J 0).val / 512 < cfg0.N := lt_of_lt_of_le (by omega : _ < 16) (by decide)
  refine ⟨⟨_, hN⟩, flush0_12 _, ?_⟩
  have h := ((cfg0.win 12).blk ⟨_, hN⟩).view.emb_mem_set (ix2 (⟨(J 0).val % 512, by omega⟩ : Fin 512) (⟨(J 1).val, (J 1).isLt⟩ : Fin 1024))
  rw [emb_12] at h
  have e : (ix2 (row ⟨_, hN⟩ ⟨(J 0).val % 512, by omega⟩) (⟨(J 1).val, (J 1).isLt⟩ : Fin 1024) : S8192x1024.Idx) = J := by
    funext a; apply Fin.ext
    match a with
    | ⟨0, _⟩ => show 512 * ((J 0).val / 512) + (J 0).val % 512 = (J 0).val; omega
    | ⟨1, _⟩ => rfl
  rwa [e] at h

theorem final12 : (dats m 0 c).arrAt 12 cfg0.N = Gv m c :=
  (dats m 0 c).arrAt_eq_of_cover 12 (Gv m c) (fun t _ => flushed12_eq m c t) covered12

/-! ### The rotary keys -/

def Gkp : Mat 8192 128 := fun I => kp (xrow m c (I 0)) (W m c) (trow m c (I 0)) (I 1)

theorem emb_13 (j : Fin 128) : ((cfg0.win 13).blk t).view.emb (ix2 i j) = ix2 (row t i) j := by
  obtain ⟨e0, e1⟩ := idx13 t
  funext a; apply Fin.ext
  match a with
  | ⟨0, _⟩ => show win0_13.index t (0 : Fin 2) * 512 + 1 * i.val = 512 * t.val + i.val; omega
  | ⟨1, _⟩ => show win0_13.index t (1 : Fin 2) * 128 + 1 * j.val = j.val; omega

theorem flushed13_eq : (dats m 0 c).flushed 13 t = ((cfg0.win 13).blk t).view.read (Elt Ideal) (Gkp m c) := by
  rw [flushed13]
  funext J
  obtain ⟨i, j, rfl⟩ : ∃ (i : Fin 512) (j : Fin 128), J = ix2 i j := split (n := 512) (k := 128) J
  show out0_13 (iblk m c 0 t) (iblk m c 1 t) (iblk m c 2 t) (iblk m c 3 t) (iblk m c 4 t) (iblk m c 5 t) (iblk m c 6 t) (iblk m c 7 t) (iblk m c 8 t) (ix2 i j) = Gkp m c (((cfg0.win 13).blk t).view.emb (ix2 i j))
  rw [emb_13, out13_eq]
  show kp (fun d => (iblk m c 0 t : Vec Ideal S512x2048 .f32) (ix2 i d)) (iblk m c 1 t) (fun l => (iblk m c 2 t : Vec Ideal S512x128 .f32) (ix2 i l)) j = _
  rw [row0, row2, iblk1]
  rfl

theorem covered13 (J : S8192x128.Idx) : ∃ t : Fin cfg0.N, (cfg0.win 13).flush t = true ∧ J ∈ ((cfg0.win 13).blk t).view.set := by
  have h0 : (J 0).val < 8192 := (J 0).isLt
  have hN : (J 0).val / 512 < cfg0.N := lt_of_lt_of_le (by omega : _ < 16) (by decide)
  refine ⟨⟨_, hN⟩, flush0_13 _, ?_⟩
  have h := ((cfg0.win 13).blk ⟨_, hN⟩).view.emb_mem_set (ix2 (⟨(J 0).val % 512, by omega⟩ : Fin 512) (⟨(J 1).val, (J 1).isLt⟩ : Fin 128))
  rw [emb_13] at h
  have e : (ix2 (row ⟨_, hN⟩ ⟨(J 0).val % 512, by omega⟩) (⟨(J 1).val, (J 1).isLt⟩ : Fin 128) : S8192x128.Idx) = J := by
    funext a; apply Fin.ext
    match a with
    | ⟨0, _⟩ => show 512 * ((J 0).val / 512) + (J 0).val % 512 = (J 0).val; omega
    | ⟨1, _⟩ => rfl
  rwa [e] at h

theorem final13 : (dats m 0 c).arrAt 13 cfg0.N = Gkp m c :=
  (dats m 0 c).arrAt_eq_of_cover 13 (Gkp m c) (fun t _ => flushed13_eq m c t) covered13

/-! ### The logits -/

def Gfl : Mat 8192 128 := fun I => fl (xrow m c (I 0)) (W m c) (I 1)

theorem emb_14 (j : Fin 128) : ((cfg0.win 14).blk t).view.emb (ix2 i j) = ix2 (row t i) j := by
  obtain ⟨e0, e1⟩ := idx14 t
  funext a; apply Fin.ext
  match a with
  | ⟨0, _⟩ => show win0_14.index t (0 : Fin 2) * 512 + 1 * i.val = 512 * t.val + i.val; omega
  | ⟨1, _⟩ => show win0_14.index t (1 : Fin 2) * 128 + 1 * j.val = j.val; omega

theorem flushed14_eq : (dats m 0 c).flushed 14 t = ((cfg0.win 14).blk t).view.read (Elt Ideal) (Gfl m c) := by
  rw [flushed14]
  funext J
  obtain ⟨i, j, rfl⟩ : ∃ (i : Fin 512) (j : Fin 128), J = ix2 i j := split (n := 512) (k := 128) J
  show out0_14 (iblk m c 0 t) (iblk m c 1 t) (iblk m c 2 t) (iblk m c 3 t) (iblk m c 4 t) (iblk m c 5 t) (iblk m c 6 t) (iblk m c 7 t) (iblk m c 8 t) (ix2 i j) = Gfl m c (((cfg0.win 14).blk t).view.emb (ix2 i j))
  rw [emb_14, out14_eq]
  show fl (fun d => (iblk m c 0 t : Vec Ideal S512x2048 .f32) (ix2 i d)) (iblk m c 1 t) j = _
  rw [row0, iblk1]
  rfl

theorem covered14 (J : S8192x128.Idx) : ∃ t : Fin cfg0.N, (cfg0.win 14).flush t = true ∧ J ∈ ((cfg0.win 14).blk t).view.set := by
  have h0 : (J 0).val < 8192 := (J 0).isLt
  have hN : (J 0).val / 512 < cfg0.N := lt_of_lt_of_le (by omega : _ < 16) (by decide)
  refine ⟨⟨_, hN⟩, flush0_14 _, ?_⟩
  have h := ((cfg0.win 14).blk ⟨_, hN⟩).view.emb_mem_set (ix2 (⟨(J 0).val % 512, by omega⟩ : Fin 512) (⟨(J 1).val, (J 1).isLt⟩ : Fin 128))
  rw [emb_14] at h
  have e : (ix2 (row ⟨_, hN⟩ ⟨(J 0).val % 512, by omega⟩) (⟨(J 1).val, (J 1).isLt⟩ : Fin 128) : S8192x128.Idx) = J := by
    funext a; apply Fin.ext
    match a with
    | ⟨0, _⟩ => show 512 * ((J 0).val / 512) + (J 0).val % 512 = (J 0).val; omega
    | ⟨1, _⟩ => rfl
  rwa [e] at h

theorem final14 : (dats m 0 c).arrAt 14 cfg0.N = Gfl m c :=
  (dats m 0 c).arrAt_eq_of_cover 14 (Gfl m c) (fun t _ => flushed14_eq m c t) covered14

end Cert.PrepIdeal.Entries

end
-- ==== Proof.PrepReference.lean ====
/-
  The reference of the latent attention's arguments at the entries of its six results.
-/
module

public import proofs.«01_k».proof.Proof.Gen.PrepReferenceIdeal.Run
public import proofs.«01_k».proof.Proof.Gen.PrepReferenceIdeal.Read
public import proofs.«01_k».proof.Proof.PrepValue

@[expose] public section

noncomputable section

namespace Cert.Prep

open Cert.Projection Idealize.ShloMosaic

/-- What the rotary columns and the table's row satisfy: the lanes 64 and on are the halves swapped, and the table's row
    is the cosines twice, the sines negated and the sines. -/
structure Swapped (u tab : Fin 128 → EReal) : Prop where
  second (k : Fin 32) : u ⟨64 + k.val, by omega⟩ = u ⟨32 + k.val, by omega⟩
  first (k : Fin 32) : u ⟨96 + k.val, by omega⟩ = u ⟨k.val, by omega⟩
  cos (k : Fin 32) : tab ⟨32 + k.val, by omega⟩ = tab ⟨k.val, by omega⟩
  sin (k : Fin 32) : tab ⟨64 + k.val, by omega⟩ = -tab ⟨96 + k.val, by omega⟩

/-- The rotary of 64 lanes: the first half, -/
def rot1 (u tab : Fin 128 → EReal) (k : Fin 32) : EReal :=
  u ⟨k.val, by omega⟩ * tab ⟨k.val, by omega⟩ - u ⟨32 + k.val, by omega⟩ * tab ⟨96 + k.val, by omega⟩

/-- and the second. -/
def rot2 (u tab : Fin 128 → EReal) (k : Fin 32) : EReal :=
  u ⟨k.val, by omega⟩ * tab ⟨96 + k.val, by omega⟩ + u ⟨32 + k.val, by omega⟩ * tab ⟨k.val, by omega⟩

variable {u tab : Fin 128 → EReal}

theorem away0 (k : Fin 32) : away ⟨k.val, by omega⟩ = ⟨64 + k.val, by omega⟩ := Fin.ext (by show (k.val + 64) % 128 = 64 + k.val; omega)
theorem away1 (k : Fin 32) : away ⟨32 + k.val, by omega⟩ = ⟨96 + k.val, by omega⟩ := Fin.ext (by show (32 + k.val + 64) % 128 = 96 + k.val; omega)
theorem away2 (k : Fin 32) : away ⟨64 + k.val, by omega⟩ = ⟨k.val, by omega⟩ := Fin.ext (by show (64 + k.val + 64) % 128 = k.val; omega)
theorem away3 (k : Fin 32) : away ⟨96 + k.val, by omega⟩ = ⟨32 + k.val, by omega⟩ := Fin.ext (by show (96 + k.val + 64) % 128 = 32 + k.val; omega)

/-- The lanes' sums are the rotary, twice. -/
theorem pair0 (h : Swapped u tab) (k : Fin 32) : pair u tab ⟨k.val, by omega⟩ = rot1 u tab k := by
  unfold pair rot1
  rw [away0, h.second, h.sin, mul_neg, ← sub_eq_add_neg]

theorem pair1 (h : Swapped u tab) (k : Fin 32) : pair u tab ⟨32 + k.val, by omega⟩ = rot2 u tab k := by
  unfold pair rot2
  rw [away1, h.first, h.cos, add_comm]

theorem pair2 (h : Swapped u tab) (k : Fin 32) : pair u tab ⟨64 + k.val, by omega⟩ = rot1 u tab k := by
  rw [← pair0 h]
  unfold pair
  rw [away0, away2, add_comm]

theorem pair3 (h : Swapped u tab) (k : Fin 32) : pair u tab ⟨96 + k.val, by omega⟩ = rot2 u tab k := by
  rw [← pair1 h]
  unfold pair
  rw [away1, away3, add_comm]

/-- A lane is in one of the four quarters. -/
theorem quarter (l : Fin 128) : ∃ k : Fin 32, l = ⟨k.val, by omega⟩ ∨ l = ⟨32 + k.val, by omega⟩ ∨ l = ⟨64 + k.val, by omega⟩ ∨ l = ⟨96 + k.val, by omega⟩ := by
  refine ⟨⟨l.val % 32, by omega⟩, ?_⟩
  have : l.val / 32 = 0 ∨ l.val / 32 = 1 ∨ l.val / 32 = 2 ∨ l.val / 32 = 3 := by omega
  rcases this with h | h | h | h
  · exact .inl (Fin.ext (by show l.val = l.val % 32; omega))
  · exact .inr (.inl (Fin.ext (by show l.val = 32 + l.val % 32; omega)))
  · exact .inr (.inr (.inl (Fin.ext (by show l.val = 64 + l.val % 32; omega))))
  · exact .inr (.inr (.inr (Fin.ext (by show l.val = 96 + l.val % 32; omega))))

end Cert.Prep

namespace Cert.PrepReferenceIdeal.Entries

open Cert.PrepReferenceIdeal Cert.PrepReferenceIdeal.Gen Cert.PrepReferenceIdeal.Read Cert.Projection Cert.Prep Idealize.ShloMosaic

variable (x0 : Mat 8192 2048) (x1 : Mat 2048 1024) (x2 : Mat 4096 128) (x3 : Mat 1 512) (x4 : Mat 1 256) (x5 x6 : Mat 512 1024)
  (x7 x8 : Mat 256 1024) (r : Fin 8192) (j : Fin 1024)

theorem zero : Ideal.ofBits .f32 0x00000000#32 = 0 := by simp [Ideal.ofBits, Ideal.ieee]

/-- A row of the input. -/
abbrev xr : Fin 2048 → EReal := fun d => x0 (ix2 r d)

theorem v1 : val_main_v1 (F := Ideal) x0 x1 (ix2 r j) = prod (xr x0 r) x1 j := by
  rw [val_main_v1_apply]
  refine Finset.sum_congr rfl fun d _ => ?_
  rw [val_main_v0_apply]
  refine congrArg₂ (· * ·) (congrArg x0 (funext fun a => ?_)) (congrArg x1 (funext fun a => ?_))
  · match a with | ⟨0, _⟩ => rfl | ⟨1, _⟩ => rfl
  · match a with | ⟨0, _⟩ => rfl | ⟨1, _⟩ => rfl

theorem v2 (k : Fin 512) : val_main_v2 (F := Ideal) x0 x1 (ix2 r k) = prod (xr x0 r) x1 ⟨k.val, by omega⟩ := by
  rw [val_main_v2_apply]
  refine Eq.trans (congrArg _ (funext fun a => ?_)) (v1 x0 x1 r ⟨k.val, by omega⟩)
  match a with | ⟨0, _⟩ => rfl | ⟨1, _⟩ => rfl

theorem v3 (k : Fin 256) : val_main_v3 (F := Ideal) x0 x1 (ix2 r k) = prod (xr x0 r) x1 ⟨512 + k.val, by omega⟩ := by
  rw [val_main_v3_apply]
  refine Eq.trans (congrArg _ (funext fun a => ?_)) (v1 x0 x1 r ⟨512 + k.val, by omega⟩)
  match a with | ⟨0, _⟩ => rfl | ⟨1, _⟩ => rfl

/-- The logits. -/
theorem v4 (l : Fin 128) : val_main_v4 (F := Ideal) x0 x1 (ix2 r l) = fl (xr x0 r) x1 l := by
  rw [val_main_v4_apply]
  refine Eq.trans (congrArg _ (funext fun a => ?_)) (v1 x0 x1 r ⟨896 + l.val, by omega⟩)
  match a with | ⟨0, _⟩ => rfl | ⟨1, _⟩ => rfl

/-- The normed compressed queries, -/
theorem v20 (k : Fin 512) : val_main_v20 (F := Ideal) x0 x1 x3 (ix2 r k) = cq (xr x0 r) x1 x3 k := by
  have hs : val_main_v16 (F := Ideal) x0 x1 (idx_main_v17 (ix2 r k))
      = Ideal.rsqrt (Ideal.div (∑ k : Fin 512, prod (xr x0 r) x1 ⟨k.val, by omega⟩ * prod (xr x0 r) x1 ⟨k.val, by omega⟩) len512 + offset) := by
    rw [val_main_v16_apply, val_main_v15_apply, val_main_v13_apply, val_main_v11_apply, val_main_v10_apply, val_main_cst_apply, val_main_v12_apply,
      val_main_cst_0_apply, val_main_v14_apply, val_main_cst_1_apply]
    refine congrArg (fun s => Ideal.rsqrt (Ideal.div s len512 + offset)) ((congrArg (· + _) zero).trans ((zero_add _).trans
      (Finset.sum_congr rfl fun d _ => ?_)))
    rw [val_main_v9_apply]
    have h : val_main_v2 (F := Ideal) x0 x1 (idx_main_v10 (idx_main_v11 (idx_main_v17 (ix2 r k))) d) = prod (xr x0 r) x1 ⟨d.val, by omega⟩ := by
      refine Eq.trans (congrArg _ (funext fun a => ?_)) (v2 x0 x1 r d)
      match a with | ⟨0, _⟩ => rfl | ⟨1, _⟩ => rfl
    rw [h]
    rfl
  rw [val_main_v20_apply, val_main_v18_apply, val_main_v17_apply, hs, val_main_v19_apply, v2]
  refine congrArg₂ (· * ·) rfl (congrArg x3 (funext fun a => ?_))
  match a with | ⟨0, _⟩ => rfl | ⟨1, _⟩ => rfl

/-- and keys. -/
theorem v32 (k : Fin 256) : val_main_v32 (F := Ideal) x0 x1 x4 (ix2 r k) = ckv (xr x0 r) x1 x4 k := by
  have hs : val_main_v28 (F := Ideal) x0 x1 (idx_main_v29 (ix2 r k))
      = Ideal.rsqrt (Ideal.div (∑ k : Fin 256, prod (xr x0 r) x1 ⟨512 + k.val, by omega⟩ * prod (xr x0 r) x1 ⟨512 + k.val, by omega⟩) len256 + offset) := by
    rw [val_main_v28_apply, val_main_v27_apply, val_main_v25_apply, val_main_v23_apply, val_main_v22_apply, val_main_cst_2_apply, val_main_v24_apply,
      val_main_cst_3_apply, val_main_v26_apply, val_main_cst_4_apply]
    refine congrArg (fun s => Ideal.rsqrt (Ideal.div s len256 + offset)) ((congrArg (· + _) zero).trans ((zero_add _).trans
      (Finset.sum_congr rfl fun d _ => ?_)))
    rw [val_main_v21_apply]
    have h : val_main_v3 (F := Ideal) x0 x1 (idx_main_v22 (idx_main_v23 (idx_main_v29 (ix2 r k))) d) = prod (xr x0 r) x1 ⟨512 + d.val, by omega⟩ := by
      refine Eq.trans (congrArg _ (funext fun a => ?_)) (v3 x0 x1 r d)
      match a with | ⟨0, _⟩ => rfl | ⟨1, _⟩ => rfl
    rw [h]
    rfl
  rw [val_main_v32_apply, val_main_v30_apply, val_main_v29_apply, hs, val_main_v31_apply, v3]
  refine congrArg₂ (· * ·) rfl (congrArg x4 (funext fun a => ?_))
  match a with | ⟨0, _⟩ => rfl | ⟨1, _⟩ => rfl

/-- The queries without rotary, -/
theorem v88 : val_main_v88 (F := Ideal) x0 x1 x3 x5 (ix2 r j) = qn (xr x0 r) x1 x3 x5 j := by
  rw [val_main_v88_apply, val_main_v36_apply, val_main_v34_apply, val_main_v35_apply, val_main_cst_5_apply]
  refine congrArg (fun s => s * scale) (Finset.sum_congr rfl fun d _ => ?_)
  rw [val_main_v33_apply]
  refine congrArg₂ (· * ·) (Eq.trans (congrArg _ (funext fun a => ?_)) (v20 x0 x1 x3 r d)) (congrArg x5 (funext fun a => ?_))
  · match a with | ⟨0, _⟩ => rfl | ⟨1, _⟩ => rfl
  · match a with | ⟨0, _⟩ => rfl | ⟨1, _⟩ => rfl

/-- the keys -/
theorem v90 : val_main_v90 (F := Ideal) x0 x1 x4 x7 (ix2 r j) = kn (xr x0 r) x1 x4 x7 j := by
  rw [val_main_v90_apply]
  refine Eq.trans (b := val_main_v85 (F := Ideal) x0 x1 x4 x7 (ix2 r j)) rfl ?_
  rw [val_main_v85_apply]
  show _ = prod (ckv (xr x0 r) x1 x4) x7 j
  refine Finset.sum_congr rfl fun d _ => ?_
  rw [val_main_v84_apply]
  refine congrArg₂ (· * ·) (Eq.trans (congrArg _ (funext fun a => ?_)) (v32 x0 x1 x4 r d)) (congrArg x7 (funext fun a => ?_))
  · match a with | ⟨0, _⟩ => rfl | ⟨1, _⟩ => rfl
  · match a with | ⟨0, _⟩ => rfl | ⟨1, _⟩ => rfl

/-- and the values. -/
theorem v91 : val_main_v91 (F := Ideal) x0 x1 x4 x8 (ix2 r j) = kn (xr x0 r) x1 x4 x8 j := by
  rw [val_main_v91_apply]
  refine Eq.trans (b := val_main_v87 (F := Ideal) x0 x1 x4 x8 (ix2 r j)) rfl ?_
  rw [val_main_v87_apply]
  show _ = prod (ckv (xr x0 r) x1 x4) x8 j
  refine Finset.sum_congr rfl fun d _ => ?_
  rw [val_main_v86_apply]
  refine congrArg₂ (· * ·) (Eq.trans (congrArg _ (funext fun a => ?_)) (v32 x0 x1 x4 r d)) (congrArg x8 (funext fun a => ?_))
  · match a with | ⟨0, _⟩ => rfl | ⟨1, _⟩ => rfl
  · match a with | ⟨0, _⟩ => rfl | ⟨1, _⟩ => rfl

/-! ## The rotary queries -/

theorem v38 : val_main_v38 (F := Ideal) x0 x1 x3 x6 (ix2 r j) = prod (cq (xr x0 r) x1 x3) x6 j := by
  rw [val_main_v38_apply]
  refine Finset.sum_congr rfl fun d _ => ?_
  rw [val_main_v37_apply]
  refine congrArg₂ (· * ·) (Eq.trans (congrArg _ (funext fun a => ?_)) (v20 x0 x1 x3 r d)) (congrArg x6 (funext fun a => ?_))
  · match a with | ⟨0, _⟩ => rfl | ⟨1, _⟩ => rfl
  · match a with | ⟨0, _⟩ => rfl | ⟨1, _⟩ => rfl

variable (b : Fin 2) (p : Fin 4096) (h : Fin 8) (k : Fin 32)

/-- The row at position `p` of sequence `b`. -/
def at_ : Fin 8192 := ⟨4096 * b.val + p.val, by omega⟩

/-- Head `h`'s 128 lanes of a row of products, and the table's row. -/
abbrev us : Fin 128 → EReal := fun l => prod (cq (xr x0 (at_ b p)) x1 x3) x6 ⟨128 * h.val + l.val, by omega⟩
abbrev ts : Fin 128 → EReal := fun l => x2 (ix2 p l)

theorem v40 (l : Fin 64) : val_main_v40 (F := Ideal) x0 x1 x3 x6 (ix4 b p h l) = us x0 x1 x3 x6 b p h ⟨l.val, by omega⟩ := by
  rw [val_main_v40_apply, val_main_v39_apply]
  refine Eq.trans (congrArg _ (funext fun a => Fin.ext ?_)) (v38 x0 x1 x3 x6 (at_ b p) ⟨128 * h.val + l.val, by omega⟩)
  match a with
  | ⟨0, _⟩ => show (((b.val * 4096 + p.val) * 8 + h.val) * 128 + l.val) / 1024 = 4096 * b.val + p.val; omega
  | ⟨1, _⟩ => show (((b.val * 4096 + p.val) * 8 + h.val) * 128 + l.val) % 1024 = 128 * h.val + l.val; omega

theorem v43 : val_main_v43 (F := Ideal) x0 x1 x3 x6 (ix4 b p h k) = us x0 x1 x3 x6 b p h ⟨k.val, by omega⟩ := by
  rw [val_main_v43_apply]
  refine Eq.trans (congrArg _ (funext fun a => ?_)) (v40 x0 x1 x3 x6 b p h ⟨k.val, by omega⟩)
  match a with | ⟨0, _⟩ => rfl | ⟨1, _⟩ => rfl | ⟨2, _⟩ => rfl | ⟨3, _⟩ => rfl

theorem v44 : val_main_v44 (F := Ideal) x0 x1 x3 x6 (ix4 b p h k) = us x0 x1 x3 x6 b p h ⟨32 + k.val, by omega⟩ := by
  rw [val_main_v44_apply]
  refine Eq.trans (congrArg _ (funext fun a => ?_)) (v40 x0 x1 x3 x6 b p h ⟨32 + k.val, by omega⟩)
  match a with | ⟨0, _⟩ => rfl | ⟨1, _⟩ => rfl | ⟨2, _⟩ => rfl | ⟨3, _⟩ => rfl

/-- The cosines and the sines, spread over the heads. -/
theorem v46 : val_main_v46 (F := Ideal) x2 (ix4 b p h k) = ts x2 p ⟨k.val, by omega⟩ := by
  rw [val_main_v46_apply, val_main_v45_apply, val_main_v41_apply, val_main_v7_apply]
  refine congrArg x2 (funext fun a => ?_)
  match a with | ⟨0, _⟩ => rfl | ⟨1, _⟩ => rfl
theorem v56 : val_main_v56 (F := Ideal) x2 (ix4 b p h k) = ts x2 p ⟨k.val, by omega⟩ := by
  rw [val_main_v56_apply, val_main_v55_apply, val_main_v41_apply, val_main_v7_apply]
  refine congrArg x2 (funext fun a => ?_)
  match a with | ⟨0, _⟩ => rfl | ⟨1, _⟩ => rfl
theorem v49 : val_main_v49 (F := Ideal) x2 (ix4 b p h k) = ts x2 p ⟨96 + k.val, by omega⟩ := by
  rw [val_main_v49_apply, val_main_v48_apply, val_main_v42_apply, val_main_v8_apply]
  refine congrArg x2 (funext fun a => ?_)
  match a with | ⟨0, _⟩ => rfl | ⟨1, _⟩ => rfl
theorem v53 : val_main_v53 (F := Ideal) x2 (ix4 b p h k) = ts x2 p ⟨96 + k.val, by omega⟩ := by
  rw [val_main_v53_apply, val_main_v52_apply, val_main_v42_apply, val_main_v8_apply]
  refine congrArg x2 (funext fun a => ?_)
  match a with | ⟨0, _⟩ => rfl | ⟨1, _⟩ => rfl

theorem v51 : val_main_v51 (F := Ideal) x0 x1 x2 x3 x6 (ix4 b p h k) = rot1 (us x0 x1 x3 x6 b p h) (ts x2 p) k := by
  rw [val_main_v51_apply, val_main_v47_apply, val_main_v50_apply, v43, v44, v46, v49]
  rfl
theorem v58 : val_main_v58 (F := Ideal) x0 x1 x2 x3 x6 (ix4 b p h k) = rot2 (us x0 x1 x3 x6 b p h) (ts x2 p) k := by
  rw [val_main_v58_apply, val_main_v54_apply, val_main_v57_apply, v43, v44, v53, v56]
  rfl

theorem v61_1 : val_main_v61 (F := Ideal) x0 x1 x2 x3 x6 (ix4 b p h (⟨k.val, by omega⟩ : Fin 64)) = rot1 (us x0 x1 x3 x6 b p h) (ts x2 p) k * scale := by
  rw [val_main_v61_apply, val_main_v60_apply, val_main_cst_6_apply]
  refine congrArg (fun s => s * scale) (Eq.trans ?_ (v51 x0 x1 x2 x3 x6 b p h k))
  unfold val_main_v59
  refine concatenate_pair_apply_left (t := S2x4096x8x64) (s₁ := S2x4096x8x32) (s₂ := S2x4096x8x32) 3 _ _ _ _ rfl (ix4 b p h k) (fun a => ?_)
  match a with | ⟨0, _⟩ => rfl | ⟨1, _⟩ => rfl | ⟨2, _⟩ => rfl | ⟨3, _⟩ => rfl

theorem v61_2 : val_main_v61 (F := Ideal) x0 x1 x2 x3 x6 (ix4 b p h (⟨32 + k.val, by omega⟩ : Fin 64)) = rot2 (us x0 x1 x3 x6 b p h) (ts x2 p) k * scale := by
  rw [val_main_v61_apply, val_main_v60_apply, val_main_cst_6_apply]
  refine congrArg (fun s => s * scale) (Eq.trans ?_ (v58 x0 x1 x2 x3 x6 b p h k))
  unfold val_main_v59
  refine concatenate_pair_apply_right (t := S2x4096x8x64) (s₁ := S2x4096x8x32) (s₂ := S2x4096x8x32) 3 _ _ _ _ rfl rfl (ix4 b p h k) (fun a ha => ?_) ?_
  · match a, ha with | ⟨0, _⟩, _ => rfl | ⟨1, _⟩, _ => rfl | ⟨2, _⟩, _ => rfl | ⟨3, _⟩, ha => exact absurd rfl ha
  · exact Nat.add_comm _ _

theorem v62_left (l : Fin 64) : val_main_v62 (F := Ideal) x0 x1 x2 x3 x6 (ix4 b p h (⟨l.val, by omega⟩ : Fin 128))
    = val_main_v61 (F := Ideal) x0 x1 x2 x3 x6 (ix4 b p h l) := by
  unfold val_main_v62
  refine concatenate_pair_apply_left (t := S2x4096x8x128) (s₁ := S2x4096x8x64) (s₂ := S2x4096x8x64) 3 _ _ _ _ rfl (ix4 b p h l) (fun a => ?_)
  match a with | ⟨0, _⟩ => rfl | ⟨1, _⟩ => rfl | ⟨2, _⟩ => rfl | ⟨3, _⟩ => rfl

theorem v62_right (l : Fin 64) : val_main_v62 (F := Ideal) x0 x1 x2 x3 x6 (ix4 b p h (⟨64 + l.val, by omega⟩ : Fin 128))
    = val_main_v61 (F := Ideal) x0 x1 x2 x3 x6 (ix4 b p h l) := by
  unfold val_main_v62
  refine concatenate_pair_apply_right (t := S2x4096x8x128) (s₁ := S2x4096x8x64) (s₂ := S2x4096x8x64) 3 _ _ _ _ rfl rfl (ix4 b p h l) (fun a ha => ?_) ?_
  · match a, ha with | ⟨0, _⟩, _ => rfl | ⟨1, _⟩, _ => rfl | ⟨2, _⟩, _ => rfl | ⟨3, _⟩, ha => exact absurd rfl ha
  · exact Nat.add_comm _ _

/-- A head's lanes are the lanes' sums, scaled. -/
theorem v62 (H : Swapped (us x0 x1 x3 x6 b p h) (ts x2 p)) (l : Fin 128) :
    val_main_v62 (F := Ideal) x0 x1 x2 x3 x6 (ix4 b p h l) = pair (us x0 x1 x3 x6 b p h) (ts x2 p) l * scale := by
  obtain ⟨k, rfl | rfl | rfl | rfl⟩ := quarter l
  · rw [pair0 H, ← v61_1]
    exact v62_left x0 x1 x2 x3 x6 b p h ⟨k.val, by omega⟩
  · rw [pair1 H, ← v61_2]
    exact v62_left x0 x1 x2 x3 x6 b p h ⟨32 + k.val, by omega⟩
  · rw [pair2 H, ← v61_1]
    exact v62_right x0 x1 x2 x3 x6 b p h ⟨k.val, by omega⟩
  · rw [pair3 H, ← v61_2]
    refine Eq.trans (congrArg _ (congrArg (ix4 b p h) (Fin.ext ?_))) (v62_right x0 x1 x2 x3 x6 b p h ⟨32 + k.val, by omega⟩)
    show 96 + k.val = 64 + (32 + k.val); omega

/-- A row is at a position of a sequence. -/
theorem at_split (r : Fin 8192) : r = at_ ⟨r.val / 4096, by omega⟩ (PrepIdeal.Entries.pos r) :=
  Fin.ext (by show r.val = 4096 * (r.val / 4096) + r.val % 4096; omega)

/-- The rotary queries, where the lanes are swapped. -/
theorem v89 (H : Swapped (fun l => prod (cq (xr x0 r) x1 x3) x6 (col j l)) (fun l => x2 (ix2 (PrepIdeal.Entries.pos r) l))) :
    val_main_v89 (F := Ideal) x0 x1 x2 x3 x6 (ix2 r j) = qp (xr x0 r) x1 (fun l => x2 (ix2 (PrepIdeal.Entries.pos r) l)) x3 x6 j := by
  have e := at_split r
  have hu : us x0 x1 x3 x6 ⟨r.val / 4096, by omega⟩ (PrepIdeal.Entries.pos r) ⟨j.val / 128, by omega⟩ = fun l => prod (cq (xr x0 r) x1 x3) x6 (col j l) := by
    funext l
    unfold us
    rw [← e]
    rfl
  rw [← hu] at H
  rw [val_main_v89_apply, val_main_v63_apply]
  refine Eq.trans (congrArg (val_main_v62 (F := Ideal) x0 x1 x2 x3 x6) (funext fun a => Fin.ext ?_)) ((v62 x0 x1 x2 x3 x6 ⟨r.val / 4096, by omega⟩ (PrepIdeal.Entries.pos r) ⟨j.val / 128, by omega⟩ H (lane j)).trans ?_)
  · match a with
    | ⟨0, _⟩ => show (r.val * 1024 + j.val) / 4194304 = r.val / 4096; omega
    | ⟨1, _⟩ => show (r.val * 1024 + j.val) / 1024 % 4096 = r.val % 4096; omega
    | ⟨2, _⟩ => show (r.val * 1024 + j.val) / 128 % 8 = j.val / 128; omega
    | ⟨3, _⟩ => show (r.val * 1024 + j.val) % 128 = j.val % 128; omega
  · rw [hu]
    rfl

/-! ## The rotary key -/

abbrev ks : Fin 128 → EReal := kr (xr x0 (at_ b p)) x1

theorem v6 (l : Fin 64) : val_main_v6 (F := Ideal) x0 x1 (ix3 b p l) = ks x0 x1 b p ⟨l.val, by omega⟩ := by
  rw [val_main_v6_apply, val_main_v5_apply]
  refine Eq.trans (congrArg _ (funext fun a => Fin.ext ?_)) (v1 x0 x1 (at_ b p) ⟨768 + l.val, by omega⟩)
  match a with
  | ⟨0, _⟩ => show ((b.val * 4096 + p.val) * 64 + l.val) / 64 = 4096 * b.val + p.val; omega
  | ⟨1, _⟩ => show 768 + ((b.val * 4096 + p.val) * 64 + l.val) % 64 = 768 + l.val; omega

theorem v64 : val_main_v64 (F := Ideal) x0 x1 (ix3 b p k) = ks x0 x1 b p ⟨k.val, by omega⟩ := by
  rw [val_main_v64_apply]
  refine Eq.trans (congrArg _ (funext fun a => ?_)) (v6 x0 x1 b p ⟨k.val, by omega⟩)
  match a with | ⟨0, _⟩ => rfl | ⟨1, _⟩ => rfl | ⟨2, _⟩ => rfl

theorem v65 : val_main_v65 (F := Ideal) x0 x1 (ix3 b p k) = ks x0 x1 b p ⟨32 + k.val, by omega⟩ := by
  rw [val_main_v65_apply]
  refine Eq.trans (congrArg _ (funext fun a => ?_)) (v6 x0 x1 b p ⟨32 + k.val, by omega⟩)
  match a with | ⟨0, _⟩ => rfl | ⟨1, _⟩ => rfl | ⟨2, _⟩ => rfl

theorem v67 : val_main_v67 (F := Ideal) x2 (ix3 b p k) = ts x2 p ⟨k.val, by omega⟩ := by
  rw [val_main_v67_apply, val_main_v66_apply, val_main_v7_apply]
  refine congrArg x2 (funext fun a => ?_)
  match a with | ⟨0, _⟩ => rfl | ⟨1, _⟩ => rfl
theorem v77 : val_main_v77 (F := Ideal) x2 (ix3 b p k) = ts x2 p ⟨k.val, by omega⟩ := by
  rw [val_main_v77_apply, val_main_v76_apply, val_main_v7_apply]
  refine congrArg x2 (funext fun a => ?_)
  match a with | ⟨0, _⟩ => rfl | ⟨1, _⟩ => rfl
theorem v70 : val_main_v70 (F := Ideal) x2 (ix3 b p k) = ts x2 p ⟨96 + k.val, by omega⟩ := by
  rw [val_main_v70_apply, val_main_v69_apply, val_main_v8_apply]
  refine congrArg x2 (funext fun a => ?_)
  match a with | ⟨0, _⟩ => rfl | ⟨1, _⟩ => rfl
theorem v74 : val_main_v74 (F := Ideal) x2 (ix3 b p k) = ts x2 p ⟨96 + k.val, by omega⟩ := by
  rw [val_main_v74_apply, val_main_v73_apply, val_main_v8_apply]
  refine congrArg x2 (funext fun a => ?_)
  match a with | ⟨0, _⟩ => rfl | ⟨1, _⟩ => rfl

theorem v72 : val_main_v72 (F := Ideal) x0 x1 x2 (ix3 b p k) = rot1 (ks x0 x1 b p) (ts x2 p) k := by
  rw [val_main_v72_apply, val_main_v68_apply, val_main_v71_apply, v64, v65, v67, v70]
  rfl
theorem v79 : val_main_v79 (F := Ideal) x0 x1 x2 (ix3 b p k) = rot2 (ks x0 x1 b p) (ts x2 p) k := by
  rw [val_main_v79_apply, val_main_v75_apply, val_main_v78_apply, v64, v65, v74, v77]
  rfl

theorem v80_1 : val_main_v80 (F := Ideal) x0 x1 x2 (ix3 b p (⟨k.val, by omega⟩ : Fin 64)) = rot1 (ks x0 x1 b p) (ts x2 p) k := by
  rw [← v72]
  unfold val_main_v80
  refine concatenate_pair_apply_left (t := S2x4096x64) (s₁ := S2x4096x32) (s₂ := S2x4096x32) 2 _ _ _ _ rfl (ix3 b p k) (fun a => ?_)
  match a with | ⟨0, _⟩ => rfl | ⟨1, _⟩ => rfl | ⟨2, _⟩ => rfl

theorem v80_2 : val_main_v80 (F := Ideal) x0 x1 x2 (ix3 b p (⟨32 + k.val, by omega⟩ : Fin 64)) = rot2 (ks x0 x1 b p) (ts x2 p) k := by
  rw [← v79]
  unfold val_main_v80
  refine concatenate_pair_apply_right (t := S2x4096x64) (s₁ := S2x4096x32) (s₂ := S2x4096x32) 2 _ _ _ _ rfl rfl (ix3 b p k) (fun a ha => ?_) ?_
  · match a, ha with | ⟨0, _⟩, _ => rfl | ⟨1, _⟩, _ => rfl | ⟨2, _⟩, ha => exact absurd rfl ha
  · exact Nat.add_comm _ _

theorem v82_left (l : Fin 64) : val_main_v82 (F := Ideal) x0 x1 x2 (ix3 b p (⟨l.val, by omega⟩ : Fin 128)) = val_main_v80 (F := Ideal) x0 x1 x2 (ix3 b p l) := by
  unfold val_main_v82
  refine concatenate_pair_apply_left (t := S2x4096x128) (s₁ := S2x4096x64) (s₂ := S2x4096x64) 2 _ _ _ _ rfl (ix3 b p l) (fun a => ?_)
  match a with | ⟨0, _⟩ => rfl | ⟨1, _⟩ => rfl | ⟨2, _⟩ => rfl

theorem v82_right (l : Fin 64) : val_main_v82 (F := Ideal) x0 x1 x2 (ix3 b p (⟨64 + l.val, by omega⟩ : Fin 128)) = 0 := by
  have h0 : val_main_v81 (F := Ideal) (ix3 b p l) = 0 := by
    rw [val_main_v81_apply, val_main_cst_7_apply]
    exact zero
  refine Eq.trans ?_ h0
  unfold val_main_v82
  refine concatenate_pair_apply_right (t := S2x4096x128) (s₁ := S2x4096x64) (s₂ := S2x4096x64) 2 _ _ _ _ rfl rfl (ix3 b p l) (fun a ha => ?_) ?_
  · match a, ha with | ⟨0, _⟩, _ => rfl | ⟨1, _⟩, _ => rfl | ⟨2, _⟩, ha => exact absurd rfl ha
  · exact Nat.add_comm _ _

theorem v82 (H : Swapped (ks x0 x1 b p) (ts x2 p)) (l : Fin 128) :
    val_main_v82 (F := Ideal) x0 x1 x2 (ix3 b p l) = if l.val < 64 then pair (ks x0 x1 b p) (ts x2 p) l else 0 := by
  obtain ⟨k, rfl | rfl | rfl | rfl⟩ := quarter l
  · rw [pair0 H, ← v80_1, if_pos (by show k.val < 64; omega)]
    exact v82_left x0 x1 x2 b p ⟨k.val, by omega⟩
  · rw [pair1 H, ← v80_2, if_pos (by show 32 + k.val < 64; omega)]
    exact v82_left x0 x1 x2 b p ⟨32 + k.val, by omega⟩
  · rw [if_neg (by show ¬(64 + k.val < 64); omega)]
    exact v82_right x0 x1 x2 b p ⟨k.val, by omega⟩
  · rw [if_neg (by show ¬(96 + k.val < 64); omega)]
    refine Eq.trans (congrArg _ (congrArg (ix3 b p) (Fin.ext ?_))) (v82_right x0 x1 x2 b p ⟨32 + k.val, by omega⟩)
    show 96 + k.val = 64 + (32 + k.val); omega

/-- The rotary key, where the lanes are swapped. -/
theorem v92 (l : Fin 128) (H : Swapped (kr (xr x0 r) x1) (fun l => x2 (ix2 (PrepIdeal.Entries.pos r) l))) :
    val_main_v92 (F := Ideal) x0 x1 x2 (ix2 r l) = kp (xr x0 r) x1 (fun l => x2 (ix2 (PrepIdeal.Entries.pos r) l)) l := by
  have e := at_split r
  have hu : ks x0 x1 ⟨r.val / 4096, by omega⟩ (PrepIdeal.Entries.pos r) = kr (xr x0 r) x1 := by
    unfold ks
    rw [← e]
  rw [← hu] at H
  rw [val_main_v92_apply, val_main_v83_apply]
  refine Eq.trans (congrArg (val_main_v82 (F := Ideal) x0 x1 x2) (funext fun a => Fin.ext ?_)) ((v82 x0 x1 x2 ⟨r.val / 4096, by omega⟩ (PrepIdeal.Entries.pos r) H l).trans ?_)
  · match a with
    | ⟨0, _⟩ => show (r.val * 128 + l.val) / 524288 = r.val / 4096; omega
    | ⟨1, _⟩ => show (r.val * 128 + l.val) / 128 % 4096 = r.val % 4096; omega
    | ⟨2, _⟩ => show (r.val * 128 + l.val) % 128 = l.val; omega
  · rw [hu]
    rfl

end Cert.PrepReferenceIdeal.Entries

end
-- ==== Proof.PrepClaims.lean ====
/-
  The claims of the latent attention's arguments, and what their precondition says.
-/
module

public import proofs.«01_k».proof.Defs
public import proofs.«01_k».proof.Proof.Gen.Prep.Frame
public import proofs.«01_k».proof.Proof.Gen.PrepIdeal.Frame
public import proofs.«01_k».proof.Proof.PrepReference
public import Idealize.ShloMosaic.Adequacy
public import Idealize.ShloMosaic.Init

@[expose] public section

noncomputable section

namespace Cert.Prep

open Cert.Projection Idealize.ShloMosaic

/-- The side conditions of the precondition's program. -/
theorem layoutFacts : Cert.Pre_rotary_layout.Facts :=
  ⟨by decide, by decide, by decide, by decide, by decide, by decide, by decide, by decide, by decide, by decide, by decide, by decide, by decide,
    by decide⟩

instance : Cert.Pre_rotary_layout.Facts := layoutFacts

/-- Values that compare equal are equal. -/
theorem eq_of_oeq {x y : EReal} (h : Ideal.cmp .oeq x y = 1#1) : x = y := by
  by_contra hne
  simp [Ideal.cmp, hne] at h

/-- Quarter `n` of head `h`, as the precondition cuts it. -/
theorem cut (w : Mat 512 1024) (n : Fin 4) (hs) (d : Fin 512) (h : Fin 8) (k : Fin 32) :
    shapeCast Pre_rotary_layout.S512x8x32 (extractStridedSlice Pre_rotary_layout.S512x8x1x32 ![0, 0, n.val, 0]
      (shapeCast Pre_rotary_layout.S512x8x4x32 w Pre_rotary_layout.Facts.shapeCasts_S512x1024_S512x8x4x32) hs)
      Pre_rotary_layout.Facts.shapeCasts_S512x8x1x32_S512x8x32 (ix3 d h k)
    = w (ix2 d ⟨128 * h.val + 32 * n.val + k.val, by omega⟩) := by
  rw [shapeCast_apply _ _ (ix3 d h k) (ix4 d h 0 k) (by
    rw [Shape.rowMajor_val_four, Shape.rowMajor_val_three]
    show ((d.val * 8 + h.val) * 1 + 0) * 32 + k.val = (d.val * 8 + h.val) * 32 + k.val
    omega)]
  refine Eq.trans (congrArg (a₂ := ix4 d h n k) _ (funext fun a => Fin.ext ?_)) (shapeCast_apply _ _ (ix4 d h n k) _ ?_)
  · match a with
    | ⟨0, _⟩ => exact Nat.zero_add _
    | ⟨1, _⟩ => exact Nat.zero_add _
    | ⟨2, _⟩ => exact Nat.add_zero _
    | ⟨3, _⟩ => exact Nat.zero_add _
  · rw [Shape.rowMajor_val_four, Shape.rowMajor_val_two]
    show d.val * 1024 + (128 * h.val + 32 * n.val + k.val) = ((d.val * 8 + h.val) * 4 + n.val) * 32 + k.val
    omega

/-- What the precondition says: the rotary columns of each head, and those of the key, come twice with their halves swapped;
    the table's rows are the cosines twice, the sines negated, and the sines. -/
structure Layout (x1 : Mat 2048 1024) (x2 : Mat 4096 128) (x6 : Mat 512 1024) : Prop where
  second (d : Fin 512) (h : Fin 8) (k : Fin 32) : x6 (ix2 d ⟨128 * h.val + 64 + k.val, by omega⟩) = x6 (ix2 d ⟨128 * h.val + 32 + k.val, by omega⟩)
  first (d : Fin 512) (h : Fin 8) (k : Fin 32) : x6 (ix2 d ⟨128 * h.val + 96 + k.val, by omega⟩) = x6 (ix2 d ⟨128 * h.val + k.val, by omega⟩)
  key_second (d : Fin 2048) (k : Fin 32) : x1 (ix2 d ⟨832 + k.val, by omega⟩) = x1 (ix2 d ⟨800 + k.val, by omega⟩)
  key_first (d : Fin 2048) (k : Fin 32) : x1 (ix2 d ⟨864 + k.val, by omega⟩) = x1 (ix2 d ⟨768 + k.val, by omega⟩)
  cos (p : Fin 4096) (k : Fin 32) : x2 (ix2 p ⟨32 + k.val, by omega⟩) = x2 (ix2 p ⟨k.val, by omega⟩)
  sin (p : Fin 4096) (k : Fin 32) : x2 (ix2 p ⟨64 + k.val, by omega⟩) = -x2 (ix2 p ⟨96 + k.val, by omega⟩)

/-- Lanes `o` and on of a matrix. -/
theorem lanes {a b : ℕ} (w : Mat a b) (o : ℕ) (ho : o + 32 ≤ b) (hs) (d : Fin a) (k : Fin 32) :
    extractStridedSlice (⟨2, ![a, 32]⟩ : Shape) ![0, o] w hs (ix2 d k) = w (ix2 d ⟨o + k.val, by omega⟩) :=
  congrArg w (funext fun i => Fin.ext (match i with | ⟨0, _⟩ => Nat.zero_add _ | ⟨1, _⟩ => rfl))

theorem layout_of_pre (x0 : Mat 8192 2048) (x1 : Mat 2048 1024) (x2 : Mat 4096 128) (x3 : Mat 1 512) (x4 : Mat 1 256) (x5 x6 : Mat 512 1024)
    (x7 x8 : Mat 256 1024)
    (h1 : (Pre_rotary_layout.fn (F := Ideal) x0 x1 x2 x3 x4 x5 x6 x7 x8).1 = fun _ => 1#1)
    (h2 : (Pre_rotary_layout.fn (F := Ideal) x0 x1 x2 x3 x4 x5 x6 x7 x8).2.1 = fun _ => 1#1)
    (h3 : (Pre_rotary_layout.fn (F := Ideal) x0 x1 x2 x3 x4 x5 x6 x7 x8).2.2.1 = fun _ => 1#1)
    (h4 : (Pre_rotary_layout.fn (F := Ideal) x0 x1 x2 x3 x4 x5 x6 x7 x8).2.2.2.1 = fun _ => 1#1)
    (h5 : (Pre_rotary_layout.fn (F := Ideal) x0 x1 x2 x3 x4 x5 x6 x7 x8).2.2.2.2.1 = fun _ => 1#1)
    (h6 : (Pre_rotary_layout.fn (F := Ideal) x0 x1 x2 x3 x4 x5 x6 x7 x8).2.2.2.2.2 = fun _ => 1#1) :
    Layout x1 x2 x6 where
  second d h k := by
    have e := eq_of_oeq (congrFun h1 (ix3 d h k))
    exact ((cut x6 2 Pre_rotary_layout.Facts.slices_S512x8x4x32_S512x8x1x32_0_0_2_0 d h k).symm.trans e).trans
      (cut x6 1 Pre_rotary_layout.Facts.slices_S512x8x4x32_S512x8x1x32_0_0_1_0 d h k)
  first d h k := by
    have e := eq_of_oeq (congrFun h2 (ix3 d h k))
    exact ((cut x6 3 Pre_rotary_layout.Facts.slices_S512x8x4x32_S512x8x1x32_0_0_3_0 d h k).symm.trans e).trans
      (cut x6 0 Pre_rotary_layout.Facts.slices_S512x8x4x32_S512x8x1x32_0_0_0_0 d h k)
  key_second d k := by
    have e := eq_of_oeq (congrFun h3 (ix2 d k))
    exact ((lanes x1 832 (by decide) Pre_rotary_layout.Facts.slices_S2048x1024_S2048x32_0_832 d k).symm.trans e).trans
      (lanes x1 800 (by decide) Pre_rotary_layout.Facts.slices_S2048x1024_S2048x32_0_800 d k)
  key_first d k := by
    have e := eq_of_oeq (congrFun h4 (ix2 d k))
    exact ((lanes x1 864 (by decide) Pre_rotary_layout.Facts.slices_S2048x1024_S2048x32_0_864 d k).symm.trans e).trans
      (lanes x1 768 (by decide) Pre_rotary_layout.Facts.slices_S2048x1024_S2048x32_0_768 d k)
  cos p k := by
    have e := eq_of_oeq (congrFun h5 (ix2 p k))
    refine ((lanes x2 32 (by decide) Pre_rotary_layout.Facts.slices_S4096x128_S4096x32_0_32 p k).symm.trans e).trans
      ((lanes x2 0 (by decide) Pre_rotary_layout.Facts.slices_S4096x128_S4096x32_0_0 p k).trans (congrArg x2 (congrArg (ix2 p) (Fin.ext ?_))))
    exact Nat.zero_add _
  sin p k := by
    have e := eq_of_oeq (congrFun h6 (ix2 p k))
    exact ((lanes x2 64 (by decide) Pre_rotary_layout.Facts.slices_S4096x128_S4096x32_0_64 p k).symm.trans e).trans
      (congrArg (fun y : EReal => -y) (lanes x2 96 (by decide) Pre_rotary_layout.Facts.slices_S4096x128_S4096x32_0_96 p k))

variable {x1 : Mat 2048 1024} {x2 : Mat 4096 128} {x6 : Mat 512 1024} (L : Layout x1 x2 x6)

/-- The products with a column are those with a column equal to it. -/
theorem prod_eq {m n : ℕ} (y : Fin m → EReal) (w : Mat m n) (i j : Fin n) (h : ∀ d : Fin m, w (ix2 d i) = w (ix2 d j)) : prod y w i = prod y w j :=
  Finset.sum_congr rfl fun d _ => by rw [h d]

include L in
/-- Of a head's columns, -/
theorem swapped_query (y : Fin 512 → EReal) (j : Fin 1024) (p : Fin 4096) :
    Swapped (fun l => prod y x6 (col j l)) (fun l => x2 (ix2 p l)) where
  second k := prod_eq y x6 _ _ fun d => by
    refine Eq.trans (congrArg x6 (congrArg (ix2 d) (Fin.ext ?_))) ((L.second d ⟨j.val / 128, by omega⟩ k).trans (congrArg x6 (congrArg (ix2 d) (Fin.ext ?_))))
    · show 128 * (j.val / 128) + (64 + k.val) = 128 * (j.val / 128) + 64 + k.val; omega
    · show 128 * (j.val / 128) + 32 + k.val = 128 * (j.val / 128) + (32 + k.val); omega
  first k := prod_eq y x6 _ _ fun d => by
    refine Eq.trans (congrArg x6 (congrArg (ix2 d) (Fin.ext ?_))) (L.first d ⟨j.val / 128, by omega⟩ k)
    show 128 * (j.val / 128) + (96 + k.val) = 128 * (j.val / 128) + 96 + k.val; omega
  cos k := L.cos p k
  sin k := L.sin p k

include L in
/-- and of the key's. -/
theorem swapped_key (y : Fin 2048 → EReal) (p : Fin 4096) : Swapped (kr y x1) (fun l => x2 (ix2 p l)) where
  second k := prod_eq y x1 _ _ fun d => by
    refine Eq.trans (congrArg x1 (congrArg (ix2 d) (Fin.ext ?_))) ((L.key_second d k).trans (congrArg x1 (congrArg (ix2 d) (Fin.ext ?_))))
    · show 768 + (64 + k.val) = 832 + k.val; omega
    · show 800 + k.val = 768 + (32 + k.val); omega
  first k := prod_eq y x1 _ _ fun d => by
    refine Eq.trans (congrArg x1 (congrArg (ix2 d) (Fin.ext ?_))) (L.key_first d k)
    show 768 + (96 + k.val) = 864 + k.val; omega
  cos k := L.cos p k
  sin k := L.sin p k

end Cert.Prep

namespace Cert.Claims

open Idealize.ShloMosaic Idealize.ShloMosaic.TcCoe Idealize.SL.Sem

/-- The kernel at its word values, the idealized one and the reference terminate without a fault and keep their arguments, -/
theorem frame_prep : Cert.quiescent_Prep := fun m ρ _ => Cert.Prep.Gen.frame m ρ
theorem frame_prep_ideal : Cert.quiescent_PrepIdeal := fun m ρ _ => Cert.PrepIdeal.Gen.frame m ρ
theorem frame_prep_reference : Cert.quiescent_PrepReferenceIdeal := fun m ρ _ =>
  (θ_run Cert.PrepReferenceIdeal.defs _ _).mono (fun r h => ⟨fun c => (h c).2.2.2.2.2.2, sem_eq_zero_of_no_sems (by decide) r.2⟩)
    (Cert.PrepReferenceIdeal.Value.run (F := Ideal) m ρ)

/-- in particular of the precondition's layout. -/
theorem frame_prep_ideal_layout : Cert.quiescent_PrepIdeal_pre_rotary_layout := fun m ρ _ => Cert.PrepIdeal.Gen.frame m ρ
theorem frame_prep_reference_layout : Cert.quiescent_PrepReferenceIdeal_pre_rotary_layout := fun m ρ _ => frame_prep_reference m ρ trivial

/-- The idealized program is the kernel itself. -/
theorem preserves_prep : Cert.preserves_Prep_PrepIdeal := trivial

theorem layout_of_rotary (m : (ℓ : Loc Cert.PrepIdeal.nD Cert.PrepIdeal.τ Cert.PrepIdeal.sig) → Buf (Elt Ideal) ℓ)
    (h : Cert.Pre_PrepIdeal_rotary_layout m) (c : Dev Cert.PrepIdeal.nD) :
    Cert.Prep.Layout (Cert.PrepIdeal.Entries.W m c) (Cert.PrepIdeal.Entries.R m c) (Cert.PrepIdeal.Entries.Wqp m c) := by
  obtain ⟨h1, h2, h3, h4, h5, h6⟩ := h c
  exact Cert.Prep.layout_of_pre _ _ _ _ _ _ _ _ _ h1 h2 h3 h4 h5 h6

/-- Of arguments in that layout the idealized kernel and the reference end with the same six arrays. -/
theorem algebraic_prep : Cert.algebraic_PrepIdeal_PrepReferenceIdeal_pre_rotary_layout := by
  intro m ρ m' ρ' hpre hagree
  refine ⟨fun c => Cert.PrepIdeal.Entries.Gqn m c, fun c => Cert.PrepIdeal.Entries.Gqp m c, fun c => Cert.PrepIdeal.Entries.Gkn m c,
    fun c => Cert.PrepIdeal.Entries.Gv m c, fun c => Cert.PrepIdeal.Entries.Gkp m c, fun c => Cert.PrepIdeal.Entries.Gfl m c, ?_, ?_⟩
  · refine (θ_run Cert.PrepIdeal.defs _ _).mono (fun r h c => ?_) (Cert.PrepIdeal.Value.run_blocks (F := Ideal) m ρ)
    obtain ⟨h9, h10, h11, h12, h13, h14, hr⟩ := h c
    exact ⟨h9.trans (Cert.PrepIdeal.Entries.final9 m c), h10.trans (Cert.PrepIdeal.Entries.final10 m c), h11.trans (Cert.PrepIdeal.Entries.final11 m c),
      h12.trans (Cert.PrepIdeal.Entries.final12 m c), h13.trans (Cert.PrepIdeal.Entries.final13 m c), h14.trans (Cert.PrepIdeal.Entries.final14 m c), hr⟩
  · refine (θ_run Cert.PrepReferenceIdeal.defs _ _).mono (fun _ h c => ?_) (Cert.PrepReferenceIdeal.Value.run (F := Ideal) m' ρ')
    obtain ⟨h88, h89, h90, h91, h92, h4, hr⟩ := h c
    obtain ⟨e0, e1, e2, e3, e4, e5, e6, e7, e8⟩ := hagree c
    have L := layout_of_rotary m hpre c
    have hW (I : (⟨2, ![8192, 1024]⟩ : Shape).Idx) : I = ix2 (I 0) (I 1) := funext fun a => by match a with | ⟨0, _⟩ => rfl | ⟨1, _⟩ => rfl
    have hN (I : (⟨2, ![8192, 128]⟩ : Shape).Idx) : I = ix2 (I 0) (I 1) := funext fun a => by match a with | ⟨0, _⟩ => rfl | ⟨1, _⟩ => rfl
    refine ⟨h88.trans ?_, h89.trans ?_, h90.trans ?_, h91.trans ?_, h92.trans ?_, h4.trans ?_, hr⟩
    · rw [Cert.PrepReferenceIdeal.Read.val_main_v88_eq, e0, e1, e3, e5]
      exact funext fun I => (congrArg _ (hW I)).trans (Cert.PrepReferenceIdeal.Entries.v88 _ _ _ _ (I 0) (I 1))
    · rw [Cert.PrepReferenceIdeal.Read.val_main_v89_eq, e0, e1, e2, e3, e6]
      exact funext fun I => (congrArg _ (hW I)).trans (Cert.PrepReferenceIdeal.Entries.v89 _ _ _ _ _ (I 0) (I 1) (Cert.Prep.swapped_query L _ (I 1) _))
    · rw [Cert.PrepReferenceIdeal.Read.val_main_v90_eq, e0, e1, e4, e7]
      exact funext fun I => (congrArg _ (hW I)).trans (Cert.PrepReferenceIdeal.Entries.v90 _ _ _ _ (I 0) (I 1))
    · rw [Cert.PrepReferenceIdeal.Read.val_main_v91_eq, e0, e1, e4, e8]
      exact funext fun I => (congrArg _ (hW I)).trans (Cert.PrepReferenceIdeal.Entries.v91 _ _ _ _ (I 0) (I 1))
    · rw [Cert.PrepReferenceIdeal.Read.val_main_v92_eq, e0, e1, e2]
      exact funext fun I => (congrArg _ (hN I)).trans (Cert.PrepReferenceIdeal.Entries.v92 _ _ _ (I 0) (I 1) (Cert.Prep.swapped_key L _ _))
    · rw [Cert.PrepReferenceIdeal.Read.val_main_v4_eq, e0, e1]
      exact funext fun I => (congrArg _ (hN I)).trans (Cert.PrepReferenceIdeal.Entries.v4 _ _ (I 0) (I 1))

end Cert.Claims

end
-- ==== Proof.lean ====
/-
  The proof of `Cert.Claim`: the witnesses of the programs' side conditions, then the claims of Proof/Claims.lean (the
  attention), Proof/ExpertsClaims.lean (the experts' feed-forward), Proof/ProjectionClaims.lean (two input projections
  and the output projection), Proof/KeyMeanValue.lean (the block attention's mean keys) and Proof/PrepClaims.lean (the
  preparation of the attention's arguments). The frames come from the programs' runs. The
  attention's equality joins Proof/Blocks.lean (the kernel's result array is the attention of its arguments) and
  Proof/Reference.lean (so is the reference's); the feed-forward's joins Proof/ExpertsIdealValue.lean and
  Proof/ExpertsReference.lean (both leave the layer of Proof/FeedForward.lean). Each projection's two sides meet in the
  functions of Proof/Projection.lean.
-/
module

public import proofs.«01_k».proof.Defs
public import proofs.«01_k».proof.Proof.Claims
public import proofs.«01_k».proof.Proof.ExpertsClaims
public import proofs.«01_k».proof.Proof.ProjectionClaims
public import proofs.«01_k».proof.Proof.KeyMeanValue
public import proofs.«01_k».proof.Proof.PrepClaims
public import proofs.«01_k».proof.Proof.Gen.Kernel
public import proofs.«01_k».proof.Proof.Gen.KernelIdeal
public import proofs.«01_k».proof.Proof.Gen.ReferenceIdeal
public import proofs.«01_k».proof.Proof.Gen.Experts
public import proofs.«01_k».proof.Proof.Gen.ExpertsIdeal
public import proofs.«01_k».proof.Proof.Gen.ExpertsReferenceIdeal
public import proofs.«01_k».proof.Proof.Gen.OddProj
public import proofs.«01_k».proof.Proof.Gen.OddProjIdeal
public import proofs.«01_k».proof.Proof.Gen.OddProjReferenceIdeal
public import proofs.«01_k».proof.Proof.Gen.FoxProj
public import proofs.«01_k».proof.Proof.Gen.FoxProjIdeal
public import proofs.«01_k».proof.Proof.Gen.FoxProjReferenceIdeal
public import proofs.«01_k».proof.Proof.Gen.OutProj
public import proofs.«01_k».proof.Proof.Gen.OutProjIdeal
public import proofs.«01_k».proof.Proof.Gen.OutProjReferenceIdeal
public import proofs.«01_k».proof.Proof.Gen.KeyMean
public import proofs.«01_k».proof.Proof.Gen.KeyMeanIdeal
public import proofs.«01_k».proof.Proof.Gen.KeyMeanReferenceIdeal
public import proofs.«01_k».proof.Proof.Gen.Prep
public import proofs.«01_k».proof.Proof.Gen.PrepIdeal
public import proofs.«01_k».proof.Proof.Gen.PrepReferenceIdeal

@[expose] public section

noncomputable section

namespace Cert.Proof

open Idealize.ShloMosaic Idealize.SL.Sem

/-- All the claims. -/
theorem claim : Cert.Claim :=
  ⟨Cert.Kernel.Gen.facts, Cert.KernelIdeal.Gen.facts, Cert.ReferenceIdeal.Gen.facts, Cert.Experts.Gen.facts, Cert.ExpertsIdeal.Gen.facts,
    Cert.ExpertsReferenceIdeal.Gen.facts, Cert.OddProj.Gen.facts, Cert.OddProjIdeal.Gen.facts, Cert.OddProjReferenceIdeal.Gen.facts,
    Cert.FoxProj.Gen.facts, Cert.FoxProjIdeal.Gen.facts, Cert.FoxProjReferenceIdeal.Gen.facts, Cert.OutProj.Gen.facts, Cert.OutProjIdeal.Gen.facts,
    Cert.OutProjReferenceIdeal.Gen.facts, Cert.KeyMean.Gen.facts, Cert.KeyMeanIdeal.Gen.facts, Cert.KeyMeanReferenceIdeal.Gen.facts, Cert.Prep.Gen.facts,
    Cert.PrepIdeal.Gen.facts, Cert.PrepReferenceIdeal.Gen.facts,
    Claims.preFacts, Cert.Experts.Words.sortedFacts, Cert.Prep.layoutFacts,
    Claims.frame_kernel, Claims.frame_ideal, Claims.frame_ideal_finite, Claims.frame_reference, Claims.frame_reference_finite,
    Claims.frame_experts, Claims.frame_experts_ideal, Claims.frame_experts_reference, Claims.frame_experts_reference_sorted,
    Claims.frame_oddproj, Claims.frame_oddproj_ideal, Claims.frame_oddproj_reference,
    Claims.frame_foxproj, Claims.frame_foxproj_ideal, Claims.frame_foxproj_reference,
    Claims.frame_outproj, Claims.frame_outproj_ideal, Claims.frame_outproj_reference,
    Claims.frame_keymean, Claims.frame_keymean_ideal, Claims.frame_keymean_reference,
    Claims.frame_prep, Claims.frame_prep_ideal, Claims.frame_prep_ideal_layout, Claims.frame_prep_reference, Claims.frame_prep_reference_layout,
    Claims.preserves, Claims.algebraic, Claims.preserves_experts, Claims.algebraic_experts,
    Claims.preserves_oddproj, Claims.algebraic_oddproj, Claims.preserves_foxproj, Claims.algebraic_foxproj, Claims.preserves_outproj,
    Claims.algebraic_outproj, Claims.preserves_keymean, Claims.algebraic_keymean, Claims.preserves_prep,
    Claims.algebraic_prep⟩

end Cert.Proof

end
